-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v44_4)) (v1 : (c : Dev Cert.Kernel2Ideal.nD) → Buf (Elt Ideal) ((c.tc : Thread Cert.Kernel2Ideal.nD Cert.Kernel2Ideal.τ).loc Cert.Kernel2Ideal.main_v44_5)) (v2 : (c : Dev Cert.Kernel2Ideal.nD) → Buf (Elt Ideal) ((c.tc : Thread Cert.Kernel2Ideal.nD Cert.Kernel2Ideal.τ).loc Cert.Kernel2Ideal.main_v44_6)) (v3 : (c : Dev Cert.Kernel2Ideal.nD) → Buf (Elt Ideal) ((c.tc : Thread Cert.Kernel2Ideal.nD Cert.Kernel2Ideal.τ).loc Cert.Kernel2Ideal.main_v44_11)) (v4 : (c : Dev Cert.Kernel2Ideal.nD) → Buf (Elt Ideal) ((c.tc : Thread Cert.Kernel2Ideal.nD Cert.Kernel2Ideal.τ).loc Cert.Kernel2Ideal.main_v44_7)) (v5 : (c : Dev Cert.Kernel2Ideal.nD) → Buf (Elt Ideal) ((c.tc : Thread Cert.Kernel2Ideal.nD Cert.Kernel2Ideal.τ).loc Cert.Kernel2Ideal.main_v44_8)) (v6 : (c : Dev Cert.Kernel2Ideal.nD) → Buf (Elt Ideal) ((c.tc : Thread Cert.Kernel2Ideal.nD Cert.Kernel2Ideal.τ).loc Cert.Kernel2Ideal.main_v44_9)) (v7 : (c : Dev Cert.Kernel2Ideal.nD) → Buf (Elt Ideal) ((c.tc : Thread Cert.Kernel2Ideal.nD Cert.Kernel2Ideal.τ).loc Cert.Kernel2Ideal.main_v44_10)) (v8 : (c : Dev Cert.Kernel2Ideal.nD) → Buf (Elt Ideal) ((c.tc : Thread Cert.Kernel2Ideal.nD Cert.Kernel2Ideal.τ).loc Cert.Kernel2Ideal.main_v44_3)) (v9 : (c : Dev Cert.Kernel2Ideal.nD) → Buf (Elt Ideal) ((c.tc : Thread Cert.Kernel2Ideal.nD Cert.Kernel2Ideal.τ).loc Cert.Kernel2Ideal.main_v44_1)) (v10 : (c : Dev Cert.Kernel2Ideal.nD) → Buf (Elt Ideal) ((c.tc : Thread Cert.Kernel2Ideal.nD Cert.Kernel2Ideal.τ).loc Cert.Kernel2Ideal.main_v44_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v44_4) = v0 c
          ∧ r.2.mem ((c.tc : Thread Cert.Kernel2Ideal.nD Cert.Kernel2Ideal.τ).loc Cert.Kernel2Ideal.main_v44_5) = v1 c
          ∧ r.2.mem ((c.tc : Thread Cert.Kernel2Ideal.nD Cert.Kernel2Ideal.τ).loc Cert.Kernel2Ideal.main_v44_6) = v2 c
          ∧ r.2.mem ((c.tc : Thread Cert.Kernel2Ideal.nD Cert.Kernel2Ideal.τ).loc Cert.Kernel2Ideal.main_v44_11) = v3 c
          ∧ r.2.mem ((c.tc : Thread Cert.Kernel2Ideal.nD Cert.Kernel2Ideal.τ).loc Cert.Kernel2Ideal.main_v44_7) = v4 c
          ∧ r.2.mem ((c.tc : Thread Cert.Kernel2Ideal.nD Cert.Kernel2Ideal.τ).loc Cert.Kernel2Ideal.main_v44_8) = v5 c
          ∧ r.2.mem ((c.tc : Thread Cert.Kernel2Ideal.nD Cert.Kernel2Ideal.τ).loc Cert.Kernel2Ideal.main_v44_9) = v6 c
          ∧ r.2.mem ((c.tc : Thread Cert.Kernel2Ideal.nD Cert.Kernel2Ideal.τ).loc Cert.Kernel2Ideal.main_v44_10) = v7 c
          ∧ r.2.mem ((c.tc : Thread Cert.Kernel2Ideal.nD Cert.Kernel2Ideal.τ).loc Cert.Kernel2Ideal.main_v44_3) = v8 c
          ∧ r.2.mem ((c.tc : Thread Cert.Kernel2Ideal.nD Cert.Kernel2Ideal.τ).loc Cert.Kernel2Ideal.main_v44_1) = v9 c
          ∧ r.2.mem ((c.tc : Thread Cert.Kernel2Ideal.nD Cert.Kernel2Ideal.τ).loc Cert.Kernel2Ideal.main_v44_2) = v10 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v72) = v0 c
          ∧ r.2.mem ((c.tc : Thread Cert.Reference2Ideal.nD Cert.Reference2Ideal.τ).loc Cert.Reference2Ideal.main_v74) = v1 c
          ∧ r.2.mem ((c.tc : Thread Cert.Reference2Ideal.nD Cert.Reference2Ideal.τ).loc Cert.Reference2Ideal.main_v76) = v2 c
          ∧ r.2.mem ((c.tc : Thread Cert.Reference2Ideal.nD Cert.Reference2Ideal.τ).loc Cert.Reference2Ideal.main_v78) = v3 c
          ∧ r.2.mem ((c.tc : Thread Cert.Reference2Ideal.nD Cert.Reference2Ideal.τ).loc Cert.Reference2Ideal.main_v143) = v4 c
          ∧ r.2.mem ((c.tc : Thread Cert.Reference2Ideal.nD Cert.Reference2Ideal.τ).loc Cert.Reference2Ideal.main_v145) = v5 c
          ∧ r.2.mem ((c.tc : Thread Cert.Reference2Ideal.nD Cert.Reference2Ideal.τ).loc Cert.Reference2Ideal.main_v147) = v6 c
          ∧ r.2.mem ((c.tc : Thread Cert.Reference2Ideal.nD Cert.Reference2Ideal.τ).loc Cert.Reference2Ideal.main_v149) = v7 c
          ∧ r.2.mem ((c.tc : Thread Cert.Reference2Ideal.nD Cert.Reference2Ideal.τ).loc Cert.Reference2Ideal.main_v88) = v8 c
          ∧ r.2.mem ((c.tc : Thread Cert.Reference2Ideal.nD Cert.Reference2Ideal.τ).loc Cert.Reference2Ideal.main_v95) = v9 c
          ∧ r.2.mem ((c.tc : Thread Cert.Reference2Ideal.nD Cert.Reference2Ideal.τ).loc Cert.Reference2Ideal.main_v141) = v10 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v48_4)) (v1 : (c : Dev Cert.Kernel4Ideal.nD) → Buf (Elt Ideal) ((c.tc : Thread Cert.Kernel4Ideal.nD Cert.Kernel4Ideal.τ).loc Cert.Kernel4Ideal.main_v48_5)) (v2 : (c : Dev Cert.Kernel4Ideal.nD) → Buf (Elt Ideal) ((c.tc : Thread Cert.Kernel4Ideal.nD Cert.Kernel4Ideal.τ).loc Cert.Kernel4Ideal.main_v48_6)) (v3 : (c : Dev Cert.Kernel4Ideal.nD) → Buf (Elt Ideal) ((c.tc : Thread Cert.Kernel4Ideal.nD Cert.Kernel4Ideal.τ).loc Cert.Kernel4Ideal.main_v48_7)) (v4 : (c : Dev Cert.Kernel4Ideal.nD) → Buf (Elt Ideal) ((c.tc : Thread Cert.Kernel4Ideal.nD Cert.Kernel4Ideal.τ).loc Cert.Kernel4Ideal.main_v48_0)) (v5 : (c : Dev Cert.Kernel4Ideal.nD) → Buf (Elt Ideal) ((c.tc : Thread Cert.Kernel4Ideal.nD Cert.Kernel4Ideal.τ).loc Cert.Kernel4Ideal.main_v48_1)) (v6 : (c : Dev Cert.Kernel4Ideal.nD) → Buf (Elt Ideal) ((c.tc : Thread Cert.Kernel4Ideal.nD Cert.Kernel4Ideal.τ).loc Cert.Kernel4Ideal.main_v48_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v48_4) = v0 c
          ∧ r.2.mem ((c.tc : Thread Cert.Kernel4Ideal.nD Cert.Kernel4Ideal.τ).loc Cert.Kernel4Ideal.main_v48_5) = v1 c
          ∧ r.2.mem ((c.tc : Thread Cert.Kernel4Ideal.nD Cert.Kernel4Ideal.τ).loc Cert.Kernel4Ideal.main_v48_6) = v2 c
          ∧ r.2.mem ((c.tc : Thread Cert.Kernel4Ideal.nD Cert.Kernel4Ideal.τ).loc Cert.Kernel4Ideal.main_v48_7) = v3 c
          ∧ r.2.mem ((c.tc : Thread Cert.Kernel4Ideal.nD Cert.Kernel4Ideal.τ).loc Cert.Kernel4Ideal.main_v48_0) = v4 c
          ∧ r.2.mem ((c.tc : Thread Cert.Kernel4Ideal.nD Cert.Kernel4Ideal.τ).loc Cert.Kernel4Ideal.main_v48_1) = v5 c
          ∧ r.2.mem ((c.tc : Thread Cert.Kernel4Ideal.nD Cert.Kernel4Ideal.τ).loc Cert.Kernel4Ideal.main_v48_3) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v73) = v0 c
          ∧ r.2.mem ((c.tc : Thread Cert.Reference4Ideal.nD Cert.Reference4Ideal.τ).loc Cert.Reference4Ideal.main_v75) = v1 c
          ∧ r.2.mem ((c.tc : Thread Cert.Reference4Ideal.nD Cert.Reference4Ideal.τ).loc Cert.Reference4Ideal.main_v77) = v2 c
          ∧ r.2.mem ((c.tc : Thread Cert.Reference4Ideal.nD Cert.Reference4Ideal.τ).loc Cert.Reference4Ideal.main_v127) = v3 c
          ∧ r.2.mem ((c.tc : Thread Cert.Reference4Ideal.nD Cert.Reference4Ideal.τ).loc Cert.Reference4Ideal.main_v128) = v4 c
          ∧ r.2.mem ((c.tc : Thread Cert.Reference4Ideal.nD Cert.Reference4Ideal.τ).loc Cert.Reference4Ideal.main_v129) = v5 c
          ∧ r.2.mem ((c.tc : Thread Cert.Reference4Ideal.nD Cert.Reference4Ideal.τ).loc Cert.Reference4Ideal.main_v130) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite2 : Cert.Pre_finite2.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
-- ==== Pre_finite.lean ====
abbrev S4x8x8192x64 : Shape := ⟨4, ![4, 8, 8192, 64]⟩
abbrev S4x8192x128 : Shape := ⟨3, ![4, 8192, 128]⟩
abbrev S4x8192x512 : Shape := ⟨3, ![4, 8192, 512]⟩
abbrev S4x128x256 : Shape := ⟨3, ![4, 128, 256]⟩
abbrev S4x256x128 : Shape := ⟨3, ![4, 256, 128]⟩
abbrev S4x128x8192 : Shape := ⟨3, ![4, 128, 8192]⟩
abbrev S_ : Shape := ⟨0, ![]⟩

class Facts : Prop where
  bitsLt_bf16_f32 : FTy.bits .bf16 < FTy.bits .f32
  bcast_S_S4x8x8192x64 : S_.BroadcastsInDim S4x8x8192x64 (![] : Fin 0 → Fin S4x8x8192x64.rank)
  reducesTo_S4x8x8192x64_S_d0_1_2_3 : S4x8x8192x64.ReducesTo [0, 1, 2, 3] S_
  h_S_ : 0 < S_.numel
  bcast_S_S4x128x256 : S_.BroadcastsInDim S4x128x256 (![] : Fin 0 → Fin S4x128x256.rank)
  reducesTo_S4x128x256_S_d0_1_2 : S4x128x256.ReducesTo [0, 1, 2] S_
  bcast_S_S4x128x8192 : S_.BroadcastsInDim S4x128x8192 (![] : Fin 0 → Fin S4x128x8192.rank)
  reducesTo_S4x128x8192_S_d0_1_2 : S4x128x8192.ReducesTo [0, 1, 2] S_

variable [Facts]

def fn_part1 {F : FTy → Type} [FloatOps F] (main_v16 : IVec S_ 1) (main_v17 : FVec F S4x128x8192 .f32) : IVec S_ 1 :=
  let main_v18 : FVec F S4x128x8192 .f32 := Host.absf main_v17
  let main_cst_4 : FVec F S_ .f32 := constant S_ .f32 0x7F800000#32
  let main_v19 : FVec F S4x128x8192 .f32 := broadcastInDim S4x128x8192 ![] bcast_S_S4x128x8192 main_cst_4
  let main_v20 : IVec S4x128x8192 1 := cmpf .olt main_v18 main_v19
  let main_c_5 : IVec S_ 1 := constantI S_ 1 1#1
  let main_v21 : IVec S_ 1 := (fun x v => Host.reduce IntOp.andi x v reducesTo_S4x128x8192_S_d0_1_2 h_S_) main_v20 main_c_5
  let main_v22 : IVec S_ 1 := andi main_v16 main_v21
  main_v22

def fn {F : FTy → Type} [FloatOps F] (main_arg0 : FVec F S4x8x8192x64 .bf16) (main_arg1 : FVec F S4x8192x128 .f32) (main_arg2 : FVec F S4x8192x512 .f32) (main_arg3 : FVec F S4x128x256 .bf16) (main_arg4 : FVec F S4x256x128 .bf16) (main_arg5 : FVec F S4x128x8192 .bf16) (main_arg6 : FVec F S4x8192x128 .bf16) (main_arg7 : FVec F S4x128x8192 .bf16) (main_arg8 : FVec F S4x8192x128 .bf16) : IVec S_ 1 :=
  let main_v0 : FVec F S4x8x8192x64 .f32 := (extf .f32 · bitsLt_bf16_f32) main_arg0
  let main_v1 : FVec F S4x8x8192x64 .f32 := Host.absf main_v0
  let main_cst : FVec F S_ .f32 := constant S_ .f32 0x7F800000#32
  let main_v2 : FVec F S4x8x8192x64 .f32 := broadcastInDim S4x8x8192x64 ![] bcast_S_S4x8x8192x64 main_cst
  let main_v3 : IVec S4x8x8192x64 1 := cmpf .olt main_v1 main_v2
  let main_c : IVec S_ 1 := constantI S_ 1 1#1
  let main_v4 : IVec S_ 1 := (fun x v => Host.reduce IntOp.andi x v reducesTo_S4x8x8192x64_S_d0_1_2_3 h_S_) main_v3 main_c
  let main_v5 : FVec F S4x128x256 .f32 := (extf .f32 · bitsLt_bf16_f32) main_arg3
  let main_v6 : FVec F S4x128x256 .f32 := Host.absf main_v5
  let main_cst_0 : FVec F S_ .f32 := constant S_ .f32 0x7F800000#32
  let main_v7 : FVec F S4x128x256 .f32 := broadcastInDim S4x128x256 ![] bcast_S_S4x128x256 main_cst_0
  let main_v8 : IVec S4x128x256 1 := cmpf .olt main_v6 main_v7
  let main_c_1 : IVec S_ 1 := constantI S_ 1 1#1
  let main_v9 : IVec S_ 1 := (fun x v => Host.reduce IntOp.andi x v reducesTo_S4x128x256_S_d0_1_2 h_S_) main_v8 main_c_1
  let main_v10 : IVec S_ 1 := andi main_v4 main_v9
  let main_v11 : FVec F S4x128x8192 .f32 := (extf .f32 · bitsLt_bf16_f32) main_arg5
  let main_v12 : FVec F S4x128x8192 .f32 := Host.absf main_v11
  let main_cst_2 : FVec F S_ .f32 := constant S_ .f32 0x7F800000#32
  let main_v13 : FVec F S4x128x8192 .f32 := broadcastInDim S4x128x8192 ![] bcast_S_S4x128x8192 main_cst_2
  let main_v14 : IVec S4x128x8192 1 := cmpf .olt main_v12 main_v13
  let main_c_3 : IVec S_ 1 := constantI S_ 1 1#1
  let main_v15 : IVec S_ 1 := (fun x v => Host.reduce IntOp.andi x v reducesTo_S4x128x8192_S_d0_1_2 h_S_) main_v14 main_c_3
  let main_v16 : IVec S_ 1 := andi main_v10 main_v15
  let main_v17 : FVec F S4x128x8192 .f32 := (extf .f32 · bitsLt_bf16_f32) main_arg7
  fn_part1 (F := F) main_v16 main_v17
-- ==== Pre_finite2.lean ====
abbrev S4x8192x1024 : Shape := ⟨3, ![4, 8192, 1024]⟩
abbrev S1024 : Shape := ⟨1, ![1024]⟩
abbrev S1024x3864 : Shape := ⟨2, ![1024, 3864]⟩
abbrev S3x512 : Shape := ⟨2, ![3, 512]⟩
abbrev S512 : Shape := ⟨1, ![512]⟩
abbrev S64 : Shape := ⟨1, ![64]⟩
abbrev S3x64 : Shape := ⟨2, ![3, 64]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x3864 : S_.BroadcastsInDim S1024x3864 (![] : Fin 0 → Fin S1024x3864.rank)
  reducesTo_S1024x3864_S_d0_1 : S1024x3864.ReducesTo [0, 1] S_

variable [Facts]

def fn {F : FTy → Type} [FloatOps F] (main_arg0 : FVec F S4x8192x1024 .f32) (main_arg1 : FVec F S1024 .f32) (main_arg2 : FVec F S1024x3864 .f32) (main_arg3 : FVec F S3x512 .f32) (main_arg4 : FVec F S512 .f32) (main_arg5 : FVec F S64 .f32) (main_arg6 : FVec F S3x64 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x3864 .f32 := Host.absf main_arg2
  let main_cst_2 : FVec F S_ .f32 := constant S_ .f32 0x7F800000#32
  let main_v10 : FVec F S1024x3864 .f32 := broadcastInDim S1024x3864 ![] bcast_S_S1024x3864 main_cst_2
  let main_v11 : IVec S1024x3864 1 := cmpf .olt main_v9 main_v10
  let main_c_3 : IVec S_ 1 := constantI S_ 1 1#1
  let main_v12 : IVec S_ 1 := (fun x v => Host.reduce IntOp.andi x v reducesTo_S1024x3864_S_d0_1 h_S_) main_v11 main_c_3
  let main_v13 : IVec S_ 1 := andi main_v8 main_v12
  main_v13
-- ==== Pre_finite4.lean ====
abbrev S32x1x1024 : Shape := ⟨3, ![32, 1, 1024]⟩
abbrev S1024 : Shape := ⟨1, ![1024]⟩
abbrev S1024x3864 : Shape := ⟨2, ![1024, 3864]⟩
abbrev S3x512 : Shape := ⟨2, ![3, 512]⟩
abbrev S512 : Shape := ⟨1, ![512]⟩
abbrev S64 : Shape := ⟨1, ![64]⟩
abbrev S3x64 : Shape := ⟨2, ![3, 64]⟩
abbrev S32x2x512 : Shape := ⟨3, ![32, 2, 512]⟩
abbrev S_ : Shape := ⟨0, ![]⟩

class Facts : Prop where
  bcast_S_S32x1x1024 : S_.BroadcastsInDim S32x1x1024 (![] : Fin 0 → Fin S32x1x1024.rank)
  reducesTo_S32x1x1024_S_d0_1_2 : S32x1x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x3864 : S_.BroadcastsInDim S1024x3864 (![] : Fin 0 → Fin S1024x3864.rank)
  reducesTo_S1024x3864_S_d0_1 : S1024x3864.ReducesTo [0, 1] S_

variable [Facts]

def fn {F : FTy → Type} [FloatOps F] (main_arg0 : FVec F S32x1x1024 .f32) (main_arg1 : FVec F S1024 .f32) (main_arg2 : FVec F S1024x3864 .f32) (main_arg3 : FVec F S3x512 .f32) (main_arg4 : FVec F S512 .f32) (main_arg5 : FVec F S64 .f32) (main_arg6 : FVec F S3x64 .f32) (main_arg7 : FVec F S32x2x512 .f32) : IVec S_ 1 :=
  let main_v0 : FVec F S32x1x1024 .f32 := Host.absf main_arg0
  let main_cst : FVec F S_ .f32 := constant S_ .f32 0x7F800000#32
  let main_v1 : FVec F S32x1x1024 .f32 := broadcastInDim S32x1x1024 ![] bcast_S_S32x1x1024 main_cst
  let main_v2 : IVec S32x1x1024 1 := cmpf .olt main_v0 main_v1
  let main_c : IVec S_ 1 := constantI S_ 1 1#1
  let main_v3 : IVec S_ 1 := (fun x v => Host.reduce IntOp.andi x v reducesTo_S32x1x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x3864 .f32 := Host.absf main_arg2
  let main_cst_2 : FVec F S_ .f32 := constant S_ .f32 0x7F800000#32
  let main_v10 : FVec F S1024x3864 .f32 := broadcastInDim S1024x3864 ![] bcast_S_S1024x3864 main_cst_2
  let main_v11 : IVec S1024x3864 1 := cmpf .olt main_v9 main_v10
  let main_c_3 : IVec S_ 1 := constantI S_ 1 1#1
  let main_v12 : IVec S_ 1 := (fun x v => Host.reduce IntOp.andi x v reducesTo_S1024x3864_S_d0_1 h_S_) main_v11 main_c_3
  let main_v13 : IVec S_ 1 := andi main_v8 main_v12
  main_v13
-- ==== Kernel.lean ====
abbrev S4x8x8192x64 : Shape := ⟨4, ![4, 8, 8192, 64]⟩
abbrev S4x8192x128 : Shape := ⟨3, ![4, 8192, 128]⟩
abbrev S4x8192x512 : Shape := ⟨3, ![4, 8192, 512]⟩
abbrev S4x128x256 : Shape := ⟨3, ![4, 128, 256]⟩
abbrev S4x256x128 : Shape := ⟨3, ![4, 256, 128]⟩
abbrev S4x128x8192 : Shape := ⟨3, ![4, 128, 8192]⟩
abbrev S128x8192 : Shape := ⟨2, ![128, 8192]⟩
abbrev S_ : Shape := ⟨0, ![]⟩
abbrev S1x8x128x64 : Shape := ⟨4, ![1, 8, 128, 64]⟩
abbrev S1x128x128 : Shape := ⟨3, ![1, 128, 128]⟩
abbrev S1x128x512 : Shape := ⟨3, ![1, 128, 512]⟩
abbrev S1x128x256 : Shape := ⟨3, ![1, 128, 256]⟩
abbrev S1x256x128 : Shape := ⟨3, ![1, 256, 128]⟩
abbrev S1x128x8192 : Shape := ⟨3, ![1, 128, 8192]⟩
abbrev S1x8192x128 : Shape := ⟨3, ![1, 8192, 128]⟩
abbrev S2x192x8192 : Shape := ⟨3, ![2, 192, 8192]⟩
abbrev S512x192 : Shape := ⟨2, ![512, 192]⟩
abbrev S1x64x8192 : Shape := ⟨3, ![1, 64, 8192]⟩
abbrev S64x8192 : Shape := ⟨2, ![64, 8192]⟩
abbrev S128x1 : Shape := ⟨2, ![128, 1]⟩
abbrev S512x1 : Shape := ⟨2, ![512, 1]⟩
abbrev S128x128 : Shape := ⟨2, ![128, 128]⟩
abbrev S1x256 : Shape := ⟨2, ![1, 256]⟩
abbrev S512x256 : Shape := ⟨2, ![512, 256]⟩
abbrev S1x128 : Shape := ⟨2, ![1, 128]⟩
abbrev S1x4x128x64 : Shape := ⟨4, ![1, 4, 128, 64]⟩
abbrev S4x128x64 : Shape := ⟨3, ![4, 128, 64]⟩
abbrev S512x64 : Shape := ⟨2, ![512, 64]⟩
abbrev S1x64x256 : Shape := ⟨3, ![1, 64, 256]⟩
abbrev S64x256 : Shape := ⟨2, ![64, 256]⟩
abbrev S512 : Shape := ⟨1, ![512]⟩
abbrev S256x128 : Shape := ⟨2, ![256, 128]⟩
abbrev S512x128 : Shape := ⟨2, ![512, 128]⟩
abbrev S128x256 : Shape := ⟨2, ![128, 256]⟩
abbrev S128 : Shape := ⟨1, ![128]⟩
abbrev S1x192x256 : Shape := ⟨3, ![1, 192, 256]⟩
abbrev S192x256 : Shape := ⟨2, ![192, 256]⟩
abbrev S1x640 : Shape := ⟨2, ![1, 640]⟩
abbrev S512x640 : Shape := ⟨2, ![512, 640]⟩
abbrev S1x64x640 : Shape := ⟨3, ![1, 64, 640]⟩
abbrev S64x640 : Shape := ⟨2, ![64, 640]⟩
abbrev S1x640x128 : Shape := ⟨3, ![1, 640, 128]⟩
abbrev S640x128 : Shape := ⟨2, ![640, 128]⟩
abbrev S128x64 : Shape := ⟨2, ![128, 64]⟩
abbrev S128x512 : Shape := ⟨2, ![128, 512]⟩

abbrev nBuf : Space → Nat
  | .hbm => 32
  | .vmem => 23
  | .smem => 0
  | _ => 0

abbrev bufTy : (tb : Table) → Fin (tcTables nBuf tb) → BufTy
  | .hbm, ⟨0, _⟩ => ⟨S4x8x8192x64, .bf16⟩
  | .hbm, ⟨1, _⟩ => ⟨S4x8192x128, .f32⟩
  | .hbm, ⟨2, _⟩ => ⟨S4x8192x512, .f32⟩
  | .hbm, ⟨3, _⟩ => ⟨S4x128x256, .bf16⟩
  | .hbm, ⟨4, _⟩ => ⟨S4x256x128, .bf16⟩
  | .hbm, ⟨5, _⟩ => ⟨S4x128x8192, .bf16⟩
  | .hbm, ⟨6, _⟩ => ⟨S4x8192x128, .bf16⟩
  | .hbm, ⟨7, _⟩ => ⟨S4x128x8192, .bf16⟩
  | .hbm, ⟨8, _⟩ => ⟨S4x8192x128, .bf16⟩
  | .hbm, ⟨9, _⟩ => ⟨S128x8192, .i32⟩
  | .hbm, ⟨10, _⟩ => ⟨S_, .i32⟩
  | .hbm, ⟨11, _⟩ => ⟨S_, .i32⟩
  | .hbm, ⟨12, _⟩ => ⟨S128x8192, .i32⟩
  | .hbm, ⟨13, _⟩ => ⟨S128x8192, .i32⟩
  | .hbm, ⟨14, _⟩ => ⟨S128x8192, .i32⟩
  | .hbm, ⟨15, _⟩ => ⟨S_, .i32⟩
  | .hbm, ⟨16, _⟩ => ⟨S128x8192, .i32⟩
  | .hbm, ⟨17, _⟩ => ⟨S128x8192, .i1⟩
  | .hbm, ⟨18, _⟩ => ⟨S128x8192, .i32⟩
  | .hbm, ⟨19, _⟩ => ⟨S128x8192, .i32⟩
  | .hbm, ⟨20, _⟩ => ⟨S_, .i32⟩
  | .hbm, ⟨21, _⟩ => ⟨S128x8192, .i32⟩
  | .hbm, ⟨22, _⟩ => ⟨S128x8192, .i1⟩
  | .hbm, ⟨23, _⟩ => ⟨S128x8192, .i1⟩
  | .hbm, ⟨24, _⟩ => ⟨S_, .i32⟩
  | .hbm, ⟨25, _⟩ => ⟨S128x8192, .i32⟩
  | .hbm, ⟨26, _⟩ => ⟨S128x8192, .i32⟩
  | .hbm, ⟨27, _⟩ => ⟨S128x8192, .i32⟩
  | .hbm, ⟨28, _⟩ => ⟨S128x8192, .i32⟩
  | .hbm, ⟨29, _⟩ => ⟨S128x8192, .i1⟩
  | .hbm, ⟨30, _⟩ => ⟨S128x8192, .bf16⟩
  | .hbm, ⟨31, _⟩ => ⟨S4x8192x512, .bf16⟩
  | .local _ .vmem, ⟨0, _⟩ => ⟨S1x8x128x64, .bf16⟩
  | .local _ .vmem, ⟨1, _⟩ => ⟨S1x8x128x64, .bf16⟩
  | .local _ .vmem, ⟨2, _⟩ => ⟨S1x128x128, .f32⟩
  | .local _ .vmem, ⟨3, _⟩ => ⟨S1x128x128, .f32⟩
  | .local _ .vmem, ⟨4, _⟩ => ⟨S1x128x512, .f32⟩
  | .local _ .vmem, ⟨5, _⟩ => ⟨S1x128x512, .f32⟩
  | .local _ .vmem, ⟨6, _⟩ => ⟨S1x128x256, .bf16⟩
  | .local _ .vmem, ⟨7, _⟩ => ⟨S1x128x256, .bf16⟩
  | .local _ .vmem, ⟨8, _⟩ => ⟨S1x256x128, .bf16⟩
  | .local _ .vmem, ⟨9, _⟩ => ⟨S1x256x128, .bf16⟩
  | .local _ .vmem, ⟨10, _⟩ => ⟨S1x128x8192, .bf16⟩
  | .local _ .vmem, ⟨11, _⟩ => ⟨S1x128x8192, .bf16⟩
  | .local _ .vmem, ⟨12, _⟩ => ⟨S1x8192x128, .bf16⟩
  | .local _ .vmem, ⟨13, _⟩ => ⟨S1x8192x128, .bf16⟩
  | .local _ .vmem, ⟨14, _⟩ => ⟨S1x128x8192, .bf16⟩
  | .local _ .vmem, ⟨15, _⟩ => ⟨S1x128x8192, .bf16⟩
  | .local _ .vmem, ⟨16, _⟩ => ⟨S1x8192x128, .bf16⟩
  | .local _ .vmem, ⟨17, _⟩ => ⟨S1x8192x128, .bf16⟩
  | .local _ .vmem, ⟨18, _⟩ => ⟨S128x8192, .bf16⟩
  | .local _ .vmem, ⟨19, _⟩ => ⟨S1x128x512, .bf16⟩
  | .local _ .vmem, ⟨20, _⟩ => ⟨S1x128x512, .bf16⟩
  | .local _ .vmem, ⟨21, _⟩ => ⟨S2x192x8192, .bf16⟩
  | .local _ .vmem, ⟨22, _⟩ => ⟨S512x192, .bf16⟩
  | _, _ => ⟨S4x8x8192x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![4, 64], ![false, false]⟩

@[reducible] def k0_t1_loop (i : grid0.Coords) : Scf.Loop 32 :=
  let c0_i32_132 : BitVec 32 := 0#32
  let arg1 : BitVec 32 := BitVec.ofNat 32 (i 1).val
  let c128_i32_122 : BitVec 32 := 128#32
  let v344 : BitVec 32 := Scalar.muli arg1 c128_i32_122
  let c0_i32_123 : BitVec 32 := 0#32
  let v346 : BitVec 1 := Scalar.cmpi .sgt v344 c0_i32_123
  let v347 : BitVec 32 := Scalar.extui v346
  let c0_i32_124 : BitVec 32 := 0#32
  let v348 : BitVec 1 := Scalar.cmpi .slt v344 c0_i32_124
  let v349 : BitVec 32 := Scalar.extui v348
  let v350 : BitVec 32 := Scalar.subi v347 v349
  let c256_i32 : BitVec 32 := 256#32
  let c0_i32_125 : BitVec 32 := 0#32
  let v351 : BitVec 1 := Scalar.cmpi .sgt c256_i32 c0_i32_125
  let v352 : BitVec 32 := Scalar.extui v351
  let c0_i32_126 : BitVec 32 := 0#32
  let v353 : BitVec 1 := Scalar.cmpi .slt c256_i32 c0_i32_126
  let v354 : BitVec 32 := Scalar.extui v353
  let v355 : BitVec 32 := Scalar.subi v352 v354
  let v356 : BitVec 1 := Scalar.cmpi .ne v350 v355
  let v357 : BitVec 32 := Scalar.remsi v344 c256_i32
  let c0_i32_127 : BitVec 32 := 0#32
  let v358 : BitVec 1 := Scalar.cmpi .ne v357 c0_i32_127
  let v359 : BitVec 1 := Scalar.andi v356 v358
  let v345 : BitVec 32 := Scalar.divsi v344 c256_i32
  let c1_i32_128 : BitVec 32 := 1#32
  let v360 : BitVec 32 := Scalar.subi v345 c1_i32_128
  let v361 : BitVec 32 := Scalar.select v359 v360 v345
  let v365 : BitVec 32 := Scalar.subi v361 c0_i32_132
  let c1_i32_133 : BitVec 32 := 1#32
  let v367 : BitVec 32 := Scalar.divsi v365 c1_i32_133
  let v368 : BitVec 32 := Scalar.muli v367 c1_i32_133
  let v369 : BitVec 32 := Scalar.addi c0_i32_132 v368
  let c1_i32_134 : BitVec 32 := 1#32
  ⟨c0_i32_132, v369, c1_i32_134⟩
def k0_mult1 (i : grid0.Coords) (k0_t1 : Fin (k0_t1_loop i).trips) : BitVec 32 :=
  let c0_i32_132 : BitVec 32 := 0#32
  let c1_i32_134 : BitVec 32 := 1#32
  let arg15 : BitVec 32 := Scf.iv c0_i32_132 c1_i32_134 k0_t1
  let c256_i32_317 : BitVec 32 := 256#32
  let v963 : BitVec 32 := Scalar.muli arg15 c256_i32_317
  v963
def k0_off1 (i : grid0.Coords) (k0_t1 : Fin (k0_t1_loop i).trips) : Fin 3 → Nat :=
  let c0_318 : Index := 0#32
  let c0_319 : Index := 0#32
  let c0_i32_132 : BitVec 32 := 0#32
  let c1_i32_134 : BitVec 32 := 1#32
  let arg15 : BitVec 32 := Scf.iv c0_i32_132 c1_i32_134 k0_t1
  let c256_i32_317 : BitVec 32 := 256#32
  let v963 : BitVec 32 := Scalar.muli arg15 c256_i32_317
  let v964 : BitVec 32 := v963
  let v965 : Index := Scalar.indexCast v964
  ![0, 0, v965.toNat]
def k0_off2 (i : grid0.Coords) (k0_t1 : Fin (k0_t1_loop i).trips) : Fin 3 → Nat :=
  let c0_323 : Index := 0#32
  let c0_i32_132 : BitVec 32 := 0#32
  let c1_i32_134 : BitVec 32 := 1#32
  let arg15 : BitVec 32 := Scf.iv c0_i32_132 c1_i32_134 k0_t1
  let c256_i32_317 : BitVec 32 := 256#32
  let v963 : BitVec 32 := Scalar.muli arg15 c256_i32_317
  let v964 : BitVec 32 := v963
  let v984 : Index := Scalar.indexCast v964
  let c0_324 : Index := 0#32
  ![0, v984.toNat, 0]
@[reducible] def k0_t2_loop (i : grid0.Coords) : Scf.Loop 32 :=
  let c0_i32_132 : BitVec 32 := 0#32
  let arg1 : BitVec 32 := BitVec.ofNat 32 (i 1).val
  let c128_i32_122 : BitVec 32 := 128#32
  let v344 : BitVec 32 := Scalar.muli arg1 c128_i32_122
  let c0_i32_123 : BitVec 32 := 0#32
  let v346 : BitVec 1 := Scalar.cmpi .sgt v344 c0_i32_123
  let v347 : BitVec 32 := Scalar.extui v346
  let c0_i32_124 : BitVec 32 := 0#32
  let v348 : BitVec 1 := Scalar.cmpi .slt v344 c0_i32_124
  let v349 : BitVec 32 := Scalar.extui v348
  let v350 : BitVec 32 := Scalar.subi v347 v349
  let c256_i32 : BitVec 32 := 256#32
  let c0_i32_125 : BitVec 32 := 0#32
  let v351 : BitVec 1 := Scalar.cmpi .sgt c256_i32 c0_i32_125
  let v352 : BitVec 32 := Scalar.extui v351
  let c0_i32_126 : BitVec 32 := 0#32
  let v353 : BitVec 1 := Scalar.cmpi .slt c256_i32 c0_i32_126
  let v354 : BitVec 32 := Scalar.extui v353
  let v355 : BitVec 32 := Scalar.subi v352 v354
  let v356 : BitVec 1 := Scalar.cmpi .ne v350 v355
  let v357 : BitVec 32 := Scalar.remsi v344 c256_i32
  let c0_i32_127 : BitVec 32 := 0#32
  let v358 : BitVec 1 := Scalar.cmpi .ne v357 c0_i32_127
  let v359 : BitVec 1 := Scalar.andi v356 v358
  let v345 : BitVec 32 := Scalar.divsi v344 c256_i32
  let c1_i32_128 : BitVec 32 := 1#32
  let v360 : BitVec 32 := Scalar.subi v345 c1_i32_128
  let v361 : BitVec 32 := Scalar.select v359 v360 v345
  let v365 : BitVec 32 := Scalar.subi v361 c0_i32_132
  let c1_i32_133 : BitVec 32 := 1#32
  let v367 : BitVec 32 := Scalar.divsi v365 c1_i32_133
  let v368 : BitVec 32 := Scalar.muli v367 c1_i32_133
  let v369 : BitVec 32 := Scalar.addi c0_i32_132 v368
  let v366 : BitVec 32 := Scalar.addi c0_i32_132 v365
  let c1_i32_135 : BitVec 32 := 1#32
  ⟨v369, v366, c1_i32_135⟩
def k0_mult2 (i : grid0.Coords) (k0_t2 : Fin (k0_t2_loop i).trips) : BitVec 32 :=
  let c0_i32_132 : BitVec 32 := 0#32
  let arg1 : BitVec 32 := BitVec.ofNat 32 (i 1).val
  let c128_i32_122 : BitVec 32 := 128#32
  let v344 : BitVec 32 := Scalar.muli arg1 c128_i32_122
  let c0_i32_123 : BitVec 32 := 0#32
  let v346 : BitVec 1 := Scalar.cmpi .sgt v344 c0_i32_123
  let v347 : BitVec 32 := Scalar.extui v346
  let c0_i32_124 : BitVec 32 := 0#32
  let v348 : BitVec 1 := Scalar.cmpi .slt v344 c0_i32_124
  let v349 : BitVec 32 := Scalar.extui v348
  let v350 : BitVec 32 := Scalar.subi v347 v349
  let c256_i32 : BitVec 32 := 256#32
  let c0_i32_125 : BitVec 32 := 0#32
  let v351 : BitVec 1 := Scalar.cmpi .sgt c256_i32 c0_i32_125
  let v352 : BitVec 32 := Scalar.extui v351
  let c0_i32_126 : BitVec 32 := 0#32
  let v353 : BitVec 1 := Scalar.cmpi .slt c256_i32 c0_i32_126
  let v354 : BitVec 32 := Scalar.extui v353
  let v355 : BitVec 32 := Scalar.subi v352 v354
  let v356 : BitVec 1 := Scalar.cmpi .ne v350 v355
  let v357 : BitVec 32 := Scalar.remsi v344 c256_i32
  let c0_i32_127 : BitVec 32 := 0#32
  let v358 : BitVec 1 := Scalar.cmpi .ne v357 c0_i32_127
  let v359 : BitVec 1 := Scalar.andi v356 v358
  let v345 : BitVec 32 := Scalar.divsi v344 c256_i32
  let c1_i32_128 : BitVec 32 := 1#32
  let v360 : BitVec 32 := Scalar.subi v345 c1_i32_128
  let v361 : BitVec 32 := Scalar.select v359 v360 v345
  let v365 : BitVec 32 := Scalar.subi v361 c0_i32_132
  let c1_i32_133 : BitVec 32 := 1#32
  let v367 : BitVec 32 := Scalar.divsi v365 c1_i32_133
  let v368 : BitVec 32 := Scalar.muli v367 c1_i32_133
  let v369 : BitVec 32 := Scalar.addi c0_i32_132 v368
  let c1_i32_135 : BitVec 32 := 1#32
  let arg15 : BitVec 32 := Scf.iv v369 c1_i32_135 k0_t2
  let c256_i32_317 : BitVec 32 := 256#32
  let v963 : BitVec 32 := Scalar.muli arg15 c256_i32_317
  v963
def k0_off3 (i : grid0.Coords) (k0_t2 : Fin (k0_t2_loop i).trips) : Fin 3 → Nat :=
  let c0_318 : Index := 0#32
  let c0_319 : Index := 0#32
  let c0_i32_132 : BitVec 32 := 0#32
  let arg1 : BitVec 32 := BitVec.ofNat 32 (i 1).val
  let c128_i32_122 : BitVec 32 := 128#32
  let v344 : BitVec 32 := Scalar.muli arg1 c128_i32_122
  let c0_i32_123 : BitVec 32 := 0#32
  let v346 : BitVec 1 := Scalar.cmpi .sgt v344 c0_i32_123
  let v347 : BitVec 32 := Scalar.extui v346
  let c0_i32_124 : BitVec 32 := 0#32
  let v348 : BitVec 1 := Scalar.cmpi .slt v344 c0_i32_124
  let v349 : BitVec 32 := Scalar.extui v348
  let v350 : BitVec 32 := Scalar.subi v347 v349
  let c256_i32 : BitVec 32 := 256#32
  let c0_i32_125 : BitVec 32 := 0#32
  let v351 : BitVec 1 := Scalar.cmpi .sgt c256_i32 c0_i32_125
  let v352 : BitVec 32 := Scalar.extui v351
  let c0_i32_126 : BitVec 32 := 0#32
  let v353 : BitVec 1 := Scalar.cmpi .slt c256_i32 c0_i32_126
  let v354 : BitVec 32 := Scalar.extui v353
  let v355 : BitVec 32 := Scalar.subi v352 v354
  let v356 : BitVec 1 := Scalar.cmpi .ne v350 v355
  let v357 : BitVec 32 := Scalar.remsi v344 c256_i32
  let c0_i32_127 : BitVec 32 := 0#32
  let v358 : BitVec 1 := Scalar.cmpi .ne v357 c0_i32_127
  let v359 : BitVec 1 := Scalar.andi v356 v358
  let v345 : BitVec 32 := Scalar.divsi v344 c256_i32
  let c1_i32_128 : BitVec 32 := 1#32
  let v360 : BitVec 32 := Scalar.subi v345 c1_i32_128
  let v361 : BitVec 32 := Scalar.select v359 v360 v345
  let v365 : BitVec 32 := Scalar.subi v361 c0_i32_132
  let c1_i32_133 : BitVec 32 := 1#32
  let v367 : BitVec 32 := Scalar.divsi v365 c1_i32_133
  let v368 : BitVec 32 := Scalar.muli v367 c1_i32_133
  let v369 : BitVec 32 := Scalar.addi c0_i32_132 v368
  let c1_i32_135 : BitVec 32 := 1#32
  let arg15 : BitVec 32 := Scf.iv v369 c1_i32_135 k0_t2
  let c256_i32_317 : BitVec 32 := 256#32
  let v963 : BitVec 32 := Scalar.muli arg15 c256_i32_317
  let v964 : BitVec 32 := v963
  let v965 : Index := Scalar.indexCast v964
  ![0, 0, v965.toNat]
def k0_off4 (i : grid0.Coords) (k0_t2 : Fin (k0_t2_loop i).trips) : Fin 3 → Nat :=
  let c0_323 : Index := 0#32
  let c0_i32_132 : BitVec 32 := 0#32
  let arg1 : BitVec 32 := BitVec.ofNat 32 (i 1).val
  let c128_i32_122 : BitVec 32 := 128#32
  let v344 : BitVec 32 := Scalar.muli arg1 c128_i32_122
  let c0_i32_123 : BitVec 32 := 0#32
  let v346 : BitVec 1 := Scalar.cmpi .sgt v344 c0_i32_123
  let v347 : BitVec 32 := Scalar.extui v346
  let c0_i32_124 : BitVec 32 := 0#32
  let v348 : BitVec 1 := Scalar.cmpi .slt v344 c0_i32_124
  let v349 : BitVec 32 := Scalar.extui v348
  let v350 : BitVec 32 := Scalar.subi v347 v349
  let c256_i32 : BitVec 32 := 256#32
  let c0_i32_125 : BitVec 32 := 0#32
  let v351 : BitVec 1 := Scalar.cmpi .sgt c256_i32 c0_i32_125
  let v352 : BitVec 32 := Scalar.extui v351
  let c0_i32_126 : BitVec 32 := 0#32
  let v353 : BitVec 1 := Scalar.cmpi .slt c256_i32 c0_i32_126
  let v354 : BitVec 32 := Scalar.extui v353
  let v355 : BitVec 32 := Scalar.subi v352 v354
  let v356 : BitVec 1 := Scalar.cmpi .ne v350 v355
  let v357 : BitVec 32 := Scalar.remsi v344 c256_i32
  let c0_i32_127 : BitVec 32 := 0#32
  let v358 : BitVec 1 := Scalar.cmpi .ne v357 c0_i32_127
  let v359 : BitVec 1 := Scalar.andi v356 v358
  let v345 : BitVec 32 := Scalar.divsi v344 c256_i32
  let c1_i32_128 : BitVec 32 := 1#32
  let v360 : BitVec 32 := Scalar.subi v345 c1_i32_128
  let v361 : BitVec 32 := Scalar.select v359 v360 v345
  let v365 : BitVec 32 := Scalar.subi v361 c0_i32_132
  let c1_i32_133 : BitVec 32 := 1#32
  let v367 : BitVec 32 := Scalar.divsi v365 c1_i32_133
  let v368 : BitVec 32 := Scalar.muli v367 c1_i32_133
  let v369 : BitVec 32 := Scalar.addi c0_i32_132 v368
  let c1_i32_135 : BitVec 32 := 1#32
  let arg15 : BitVec 32 := Scf.iv v369 c1_i32_135 k0_t2
  let c256_i32_317 : BitVec 32 := 256#32
  let v963 : BitVec 32 := Scalar.muli arg15 c256_i32_317
  let v964 : BitVec 32 := v963
  let v984 : Index := Scalar.indexCast v964
  let c0_324 : Index := 0#32
  ![0, v984.toNat, 0]
def k0_mult3 (i : grid0.Coords) : BitVec 32 :=
  let arg1 : BitVec 32 := BitVec.ofNat 32 (i 1).val
  let c128_i32_122 : BitVec 32 := 128#32
  let v344 : BitVec 32 := Scalar.muli arg1 c128_i32_122
  let c0_i32_123 : BitVec 32 := 0#32
  let v346 : BitVec 1 := Scalar.cmpi .sgt v344 c0_i32_123
  let v347 : BitVec 32 := Scalar.extui v346
  let c0_i32_124 : BitVec 32 := 0#32
  let v348 : BitVec 1 := Scalar.cmpi .slt v344 c0_i32_124
  let v349 : BitVec 32 := Scalar.extui v348
  let v350 : BitVec 32 := Scalar.subi v347 v349
  let c256_i32 : BitVec 32 := 256#32
  let c0_i32_125 : BitVec 32 := 0#32
  let v351 : BitVec 1 := Scalar.cmpi .sgt c256_i32 c0_i32_125
  let v352 : BitVec 32 := Scalar.extui v351
  let c0_i32_126 : BitVec 32 := 0#32
  let v353 : BitVec 1 := Scalar.cmpi .slt c256_i32 c0_i32_126
  let v354 : BitVec 32 := Scalar.extui v353
  let v355 : BitVec 32 := Scalar.subi v352 v354
  let v356 : BitVec 1 := Scalar.cmpi .ne v350 v355
  let v357 : BitVec 32 := Scalar.remsi v344 c256_i32
  let c0_i32_127 : BitVec 32 := 0#32
  let v358 : BitVec 1 := Scalar.cmpi .ne v357 c0_i32_127
  let v359 : BitVec 1 := Scalar.andi v356 v358
  let v345 : BitVec 32 := Scalar.divsi v344 c256_i32
  let c1_i32_128 : BitVec 32 := 1#32
  let v360 : BitVec 32 := Scalar.subi v345 c1_i32_128
  let v361 : BitVec 32 := Scalar.select v359 v360 v345
  let c256_i32_136 : BitVec 32 := 256#32
  let v372 : BitVec 32 := Scalar.muli v361 c256_i32_136
  v372
def k0_off5 (i : grid0.Coords) : Fin 3 → Nat :=
  let c0_137 : Index := 0#32
  let c0_138 : Index := 0#32
  let arg1 : BitVec 32 := BitVec.ofNat 32 (i 1).val
  let c128_i32_122 : BitVec 32 := 128#32
  let v344 : BitVec 32 := Scalar.muli arg1 c128_i32_122
  let c0_i32_123 : BitVec 32 := 0#32
  let v346 : BitVec 1 := Scalar.cmpi .sgt v344 c0_i32_123
  let v347 : BitVec 32 := Scalar.extui v346
  let c0_i32_124 : BitVec 32 := 0#32
  let v348 : BitVec 1 := Scalar.cmpi .slt v344 c0_i32_124
  let v349 : BitVec 32 := Scalar.extui v348
  let v350 : BitVec 32 := Scalar.subi v347 v349
  let c256_i32 : BitVec 32 := 256#32
  let c0_i32_125 : BitVec 32 := 0#32
  let v351 : BitVec 1 := Scalar.cmpi .sgt c256_i32 c0_i32_125
  let v352 : BitVec 32 := Scalar.extui v351
  let c0_i32_126 : BitVec 32 := 0#32
  let v353 : BitVec 1 := Scalar.cmpi .slt c256_i32 c0_i32_126
  let v354 : BitVec 32 := Scalar.extui v353
  let v355 : BitVec 32 := Scalar.subi v352 v354
  let v356 : BitVec 1 := Scalar.cmpi .ne v350 v355
  let v357 : BitVec 32 := Scalar.remsi v344 c256_i32
  let c0_i32_127 : BitVec 32 := 0#32
  let v358 : BitVec 1 := Scalar.cmpi .ne v357 c0_i32_127
  let v359 : BitVec 1 := Scalar.andi v356 v358
  let v345 : BitVec 32 := Scalar.divsi v344 c256_i32
  let c1_i32_128 : BitVec 32 := 1#32
  let v360 : BitVec 32 := Scalar.subi v345 c1_i32_128
  let v361 : BitVec 32 := Scalar.select v359 v360 v345
  let c256_i32_136 : BitVec 32 := 256#32
  let v372 : BitVec 32 := Scalar.muli v361 c256_i32_136
  let v373 : BitVec 32 := v372
  let v374 : Index := Scalar.indexCast v373
  ![0, 0, v374.toNat]
def k0_off6 (i : grid0.Coords) : Fin 3 → Nat :=
  let c0_143 : Index := 0#32
  let arg1 : BitVec 32 := BitVec.ofNat 32 (i 1).val
  let c128_i32_122 : BitVec 32 := 128#32
  let v344 : BitVec 32 := Scalar.muli arg1 c128_i32_122
  let c0_i32_123 : BitVec 32 := 0#32
  let v346 : BitVec 1 := Scalar.cmpi .sgt v344 c0_i32_123
  let v347 : BitVec 32 := Scalar.extui v346
  let c0_i32_124 : BitVec 32 := 0#32
  let v348 : BitVec 1 := Scalar.cmpi .slt v344 c0_i32_124
  let v349 : BitVec 32 := Scalar.extui v348
  let v350 : BitVec 32 := Scalar.subi v347 v349
  let c256_i32 : BitVec 32 := 256#32
  let c0_i32_125 : BitVec 32 := 0#32
  let v351 : BitVec 1 := Scalar.cmpi .sgt c256_i32 c0_i32_125
  let v352 : BitVec 32 := Scalar.extui v351
  let c0_i32_126 : BitVec 32 := 0#32
  let v353 : BitVec 1 := Scalar.cmpi .slt c256_i32 c0_i32_126
  let v354 : BitVec 32 := Scalar.extui v353
  let v355 : BitVec 32 := Scalar.subi v352 v354
  let v356 : BitVec 1 := Scalar.cmpi .ne v350 v355
  let v357 : BitVec 32 := Scalar.remsi v344 c256_i32
  let c0_i32_127 : BitVec 32 := 0#32
  let v358 : BitVec 1 := Scalar.cmpi .ne v357 c0_i32_127
  let v359 : BitVec 1 := Scalar.andi v356 v358
  let v345 : BitVec 32 := Scalar.divsi v344 c256_i32
  let c1_i32_128 : BitVec 32 := 1#32
  let v360 : BitVec 32 := Scalar.subi v345 c1_i32_128
  let v361 : BitVec 32 := Scalar.select v359 v360 v345
  let c256_i32_136 : BitVec 32 := 256#32
  let v372 : BitVec 32 := Scalar.muli v361 c256_i32_136
  let v373 : BitVec 32 := v372
  let v401 : Index := Scalar.indexCast v373
  let c0_144 : Index := 0#32
  ![0, v401.toNat, 0]
def k0_mult4 (i : grid0.Coords) : BitVec 32 :=
  let arg1 : BitVec 32 := BitVec.ofNat 32 (i 1).val
  let c128_i32 : BitVec 32 := 128#32
  let v3 : BitVec 32 := Scalar.muli arg1 c128_i32
  let c512_i32 : BitVec 32 := 512#32
  let v408 : BitVec 32 := Scalar.subi v3 c512_i32
  let c0_i32_146 : BitVec 32 := 0#32
  let v409 : BitVec 32 := Scalar.maxsi v408 c0_i32_146
  v409
def k0_off7 (i : grid0.Coords) : Fin 3 → Nat :=
  let c0_148 : Index := 0#32
  let c0_149 : Index := 0#32
  let arg1 : BitVec 32 := BitVec.ofNat 32 (i 1).val
  let c128_i32 : BitVec 32 := 128#32
  let v3 : BitVec 32 := Scalar.muli arg1 c128_i32
  let c512_i32 : BitVec 32 := 512#32
  let v408 : BitVec 32 := Scalar.subi v3 c512_i32
  let c0_i32_146 : BitVec 32 := 0#32
  let v409 : BitVec 32 := Scalar.maxsi v408 c0_i32_146
  let v410 : BitVec 32 := v409
  let v423 : Index := Scalar.indexCast v410
  ![0, 0, v423.toNat]
def k0_off8 (i : grid0.Coords) : Fin 3 → Nat :=
  let c0_157 : Index := 0#32
  let arg1 : BitVec 32 := BitVec.ofNat 32 (i 1).val
  let c128_i32 : BitVec 32 := 128#32
  let v3 : BitVec 32 := Scalar.muli arg1 c128_i32
  let c512_i32 : BitVec 32 := 512#32
  let v408 : BitVec 32 := Scalar.subi v3 c512_i32
  let c0_i32_146 : BitVec 32 := 0#32
  let v409 : BitVec 32 := Scalar.maxsi v408 c0_i32_146
  let v410 : BitVec 32 := v409
  let v445 : Index := Scalar.indexCast v410
  let c0_158 : Index := 0#32
  ![0, v445.toNat, 0]
@[reducible] def k0_t3_loop (i : grid0.Coords) : Scf.Loop 32 :=
  let c0_i32_283 : BitVec 32 := 0#32
  let arg1 : BitVec 32 := BitVec.ofNat 32 (i 1).val
  let c128_i32_272 : BitVec 32 := 128#32
  let v794 : BitVec 32 := Scalar.muli arg1 c128_i32_272
  let c0_i32_274 : BitVec 32 := 0#32
  let v796 : BitVec 1 := Scalar.cmpi .sgt v794 c0_i32_274
  let v797 : BitVec 32 := Scalar.extui v796
  let c0_i32_275 : BitVec 32 := 0#32
  let v798 : BitVec 1 := Scalar.cmpi .slt v794 c0_i32_275
  let v799 : BitVec 32 := Scalar.extui v798
  let v800 : BitVec 32 := Scalar.subi v797 v799
  let c256_i32_273 : BitVec 32 := 256#32
  let c0_i32_276 : BitVec 32 := 0#32
  let v801 : BitVec 1 := Scalar.cmpi .sgt c256_i32_273 c0_i32_276
  let v802 : BitVec 32 := Scalar.extui v801
  let c0_i32_277 : BitVec 32 := 0#32
  let v803 : BitVec 1 := Scalar.cmpi .slt c256_i32_273 c0_i32_277
  let v804 : BitVec 32 := Scalar.extui v803
  let v805 : BitVec 32 := Scalar.subi v802 v804
  let v806 : BitVec 1 := Scalar.cmpi .ne v800 v805
  let v807 : BitVec 32 := Scalar.remsi v794 c256_i32_273
  let c0_i32_278 : BitVec 32 := 0#32
  let v808 : BitVec 1 := Scalar.cmpi .ne v807 c0_i32_278
  let v809 : BitVec 1 := Scalar.andi v806 v808
  let v795 : BitVec 32 := Scalar.divsi v794 c256_i32_273
  let c1_i32_279 : BitVec 32 := 1#32
  let v810 : BitVec 32 := Scalar.subi v795 c1_i32_279
  let v811 : BitVec 32 := Scalar.select v809 v810 v795
  let v815 : BitVec 32 := Scalar.subi v811 c0_i32_283
  let c1_i32_284 : BitVec 32 := 1#32
  let v817 : BitVec 32 := Scalar.divsi v815 c1_i32_284
  let v818 : BitVec 32 := Scalar.muli v817 c1_i32_284
  let v819 : BitVec 32 := Scalar.addi c0_i32_283 v818
  let c1_i32_285 : BitVec 32 := 1#32
  ⟨c0_i32_283, v819, c1_i32_285⟩
def k0_mult5 (i : grid0.Coords) (k0_t3 : Fin (k0_t3_loop i).trips) : BitVec 32 :=
  let c0_i32_283 : BitVec 32 := 0#32
  let c1_i32_285 : BitVec 32 := 1#32
  let arg15 : BitVec 32 := Scf.iv c0_i32_283 c1_i32_285 k0_t3
  let c256_i32_317 : BitVec 32 := 256#32
  let v963 : BitVec 32 := Scalar.muli arg15 c256_i32_317
  v963
def k0_off9 (i : grid0.Coords) (k0_t3 : Fin (k0_t3_loop i).trips) : Fin 3 → Nat :=
  let c1_318 : Index := 1#32
  let c0_319 : Index := 0#32
  let c0_i32_283 : BitVec 32 := 0#32
  let c1_i32_285 : BitVec 32 := 1#32
  let arg15 : BitVec 32 := Scf.iv c0_i32_283 c1_i32_285 k0_t3
  let c256_i32_317 : BitVec 32 := 256#32
  let v963 : BitVec 32 := Scalar.muli arg15 c256_i32_317
  let v964 : BitVec 32 := v963
  let v965 : Index := Scalar.indexCast v964
  ![1, 0, v965.toNat]
def k0_off10 (i : grid0.Coords) (k0_t3 : Fin (k0_t3_loop i).trips) : Fin 3 → Nat :=
  let c0_323 : Index := 0#32
  let c0_i32_283 : BitVec 32 := 0#32
  let c1_i32_285 : BitVec 32 := 1#32
  let arg15 : BitVec 32 := Scf.iv c0_i32_283 c1_i32_285 k0_t3
  let c256_i32_317 : BitVec 32 := 256#32
  let v963 : BitVec 32 := Scalar.muli arg15 c256_i32_317
  let v964 : BitVec 32 := v963
  let v984 : Index := Scalar.indexCast v964
  let c0_324 : Index := 0#32
  ![0, v984.toNat, 0]
@[reducible] def k0_t4_loop (i : grid0.Coords) : Scf.Loop 32 :=
  let c0_i32_283 : BitVec 32 := 0#32
  let arg1 : BitVec 32 := BitVec.ofNat 32 (i 1).val
  let c128_i32_272 : BitVec 32 := 128#32
  let v794 : BitVec 32 := Scalar.muli arg1 c128_i32_272
  let c0_i32_274 : BitVec 32 := 0#32
  let v796 : BitVec 1 := Scalar.cmpi .sgt v794 c0_i32_274
  let v797 : BitVec 32 := Scalar.extui v796
  let c0_i32_275 : BitVec 32 := 0#32
  let v798 : BitVec 1 := Scalar.cmpi .slt v794 c0_i32_275
  let v799 : BitVec 32 := Scalar.extui v798
  let v800 : BitVec 32 := Scalar.subi v797 v799
  let c256_i32_273 : BitVec 32 := 256#32
  let c0_i32_276 : BitVec 32 := 0#32
  let v801 : BitVec 1 := Scalar.cmpi .sgt c256_i32_273 c0_i32_276
  let v802 : BitVec 32 := Scalar.extui v801
  let c0_i32_277 : BitVec 32 := 0#32
  let v803 : BitVec 1 := Scalar.cmpi .slt c256_i32_273 c0_i32_277
  let v804 : BitVec 32 := Scalar.extui v803
  let v805 : BitVec 32 := Scalar.subi v802 v804
  let v806 : BitVec 1 := Scalar.cmpi .ne v800 v805
  let v807 : BitVec 32 := Scalar.remsi v794 c256_i32_273
  let c0_i32_278 : BitVec 32 := 0#32
  let v808 : BitVec 1 := Scalar.cmpi .ne v807 c0_i32_278
  let v809 : BitVec 1 := Scalar.andi v806 v808
  let v795 : BitVec 32 := Scalar.divsi v794 c256_i32_273
  let c1_i32_279 : BitVec 32 := 1#32
  let v810 : BitVec 32 := Scalar.subi v795 c1_i32_279
  let v811 : BitVec 32 := Scalar.select v809 v810 v795
  let v815 : BitVec 32 := Scalar.subi v811 c0_i32_283
  let c1_i32_284 : BitVec 32 := 1#32
  let v817 : BitVec 32 := Scalar.divsi v815 c1_i32_284
  let v818 : BitVec 32 := Scalar.muli v817 c1_i32_284
  let v819 : BitVec 32 := Scalar.addi c0_i32_283 v818
  let v816 : BitVec 32 := Scalar.addi c0_i32_283 v815
  let c1_i32_286 : BitVec 32 := 1#32
  ⟨v819, v816, c1_i32_286⟩
def k0_mult6 (i : grid0.Coords) (k0_t4 : Fin (k0_t4_loop i).trips) : BitVec 32 :=
  let c0_i32_283 : BitVec 32 := 0#32
  let arg1 : BitVec 32 := BitVec.ofNat 32 (i 1).val
  let c128_i32_272 : BitVec 32 := 128#32
  let v794 : BitVec 32 := Scalar.muli arg1 c128_i32_272
  let c0_i32_274 : BitVec 32 := 0#32
  let v796 : BitVec 1 := Scalar.cmpi .sgt v794 c0_i32_274
  let v797 : BitVec 32 := Scalar.extui v796
  let c0_i32_275 : BitVec 32 := 0#32
  let v798 : BitVec 1 := Scalar.cmpi .slt v794 c0_i32_275
  let v799 : BitVec 32 := Scalar.extui v798
  let v800 : BitVec 32 := Scalar.subi v797 v799
  let c256_i32_273 : BitVec 32 := 256#32
  let c0_i32_276 : BitVec 32 := 0#32
  let v801 : BitVec 1 := Scalar.cmpi .sgt c256_i32_273 c0_i32_276
  let v802 : BitVec 32 := Scalar.extui v801
  let c0_i32_277 : BitVec 32 := 0#32
  let v803 : BitVec 1 := Scalar.cmpi .slt c256_i32_273 c0_i32_277
  let v804 : BitVec 32 := Scalar.extui v803
  let v805 : BitVec 32 := Scalar.subi v802 v804
  let v806 : BitVec 1 := Scalar.cmpi .ne v800 v805
  let v807 : BitVec 32 := Scalar.remsi v794 c256_i32_273
  let c0_i32_278 : BitVec 32 := 0#32
  let v808 : BitVec 1 := Scalar.cmpi .ne v807 c0_i32_278
  let v809 : BitVec 1 := Scalar.andi v806 v808
  let v795 : BitVec 32 := Scalar.divsi v794 c256_i32_273
  let c1_i32_279 : BitVec 32 := 1#32
  let v810 : BitVec 32 := Scalar.subi v795 c1_i32_279
  let v811 : BitVec 32 := Scalar.select v809 v810 v795
  let v815 : BitVec 32 := Scalar.subi v811 c0_i32_283
  let c1_i32_284 : BitVec 32 := 1#32
  let v817 : BitVec 32 := Scalar.divsi v815 c1_i32_284
  let v818 : BitVec 32 := Scalar.muli v817 c1_i32_284
  let v819 : BitVec 32 := Scalar.addi c0_i32_283 v818
  let c1_i32_286 : BitVec 32 := 1#32
  let arg15 : BitVec 32 := Scf.iv v819 c1_i32_286 k0_t4
  let c256_i32_317 : BitVec 32 := 256#32
  let v963 : BitVec 32 := Scalar.muli arg15 c256_i32_317
  v963
def k0_off11 (i : grid0.Coords) (k0_t4 : Fin (k0_t4_loop i).trips) : Fin 3 → Nat :=
  let c1_318 : Index := 1#32
  let c0_319 : Index := 0#32
  let c0_i32_283 : BitVec 32 := 0#32
  let arg1 : BitVec 32 := BitVec.ofNat 32 (i 1).val
  let c128_i32_272 : BitVec 32 := 128#32
  let v794 : BitVec 32 := Scalar.muli arg1 c128_i32_272
  let c0_i32_274 : BitVec 32 := 0#32
  let v796 : BitVec 1 := Scalar.cmpi .sgt v794 c0_i32_274
  let v797 : BitVec 32 := Scalar.extui v796
  let c0_i32_275 : BitVec 32 := 0#32
  let v798 : BitVec 1 := Scalar.cmpi .slt v794 c0_i32_275
  let v799 : BitVec 32 := Scalar.extui v798
  let v800 : BitVec 32 := Scalar.subi v797 v799
  let c256_i32_273 : BitVec 32 := 256#32
  let c0_i32_276 : BitVec 32 := 0#32
  let v801 : BitVec 1 := Scalar.cmpi .sgt c256_i32_273 c0_i32_276
  let v802 : BitVec 32 := Scalar.extui v801
  let c0_i32_277 : BitVec 32 := 0#32
  let v803 : BitVec 1 := Scalar.cmpi .slt c256_i32_273 c0_i32_277
  let v804 : BitVec 32 := Scalar.extui v803
  let v805 : BitVec 32 := Scalar.subi v802 v804
  let v806 : BitVec 1 := Scalar.cmpi .ne v800 v805
  let v807 : BitVec 32 := Scalar.remsi v794 c256_i32_273
  let c0_i32_278 : BitVec 32 := 0#32
  let v808 : BitVec 1 := Scalar.cmpi .ne v807 c0_i32_278
  let v809 : BitVec 1 := Scalar.andi v806 v808
  let v795 : BitVec 32 := Scalar.divsi v794 c256_i32_273
  let c1_i32_279 : BitVec 32 := 1#32
  let v810 : BitVec 32 := Scalar.subi v795 c1_i32_279
  let v811 : BitVec 32 := Scalar.select v809 v810 v795
  let v815 : BitVec 32 := Scalar.subi v811 c0_i32_283
  let c1_i32_284 : BitVec 32 := 1#32
  let v817 : BitVec 32 := Scalar.divsi v815 c1_i32_284
  let v818 : BitVec 32 := Scalar.muli v817 c1_i32_284
  let v819 : BitVec 32 := Scalar.addi c0_i32_283 v818
  let c1_i32_286 : BitVec 32 := 1#32
  let arg15 : BitVec 32 := Scf.iv v819 c1_i32_286 k0_t4
  let c256_i32_317 : BitVec 32 := 256#32
  let v963 : BitVec 32 := Scalar.muli arg15 c256_i32_317
  let v964 : BitVec 32 := v963
  let v965 : Index := Scalar.indexCast v964
  ![1, 0, v965.toNat]
def k0_off12 (i : grid0.Coords) (k0_t4 : Fin (k0_t4_loop i).trips) : Fin 3 → Nat :=
  let c0_323 : Index := 0#32
  let c0_i32_283 : BitVec 32 := 0#32
  let arg1 : BitVec 32 := BitVec.ofNat 32 (i 1).val
  let c128_i32_272 : BitVec 32 := 128#32
  let v794 : BitVec 32 := Scalar.muli arg1 c128_i32_272
  let c0_i32_274 : BitVec 32 := 0#32
  let v796 : BitVec 1 := Scalar.cmpi .sgt v794 c0_i32_274
  let v797 : BitVec 32 := Scalar.extui v796
  let c0_i32_275 : BitVec 32 := 0#32
  let v798 : BitVec 1 := Scalar.cmpi .slt v794 c0_i32_275
  let v799 : BitVec 32 := Scalar.extui v798
  let v800 : BitVec 32 := Scalar.subi v797 v799
  let c256_i32_273 : BitVec 32 := 256#32
  let c0_i32_276 : BitVec 32 := 0#32
  let v801 : BitVec 1 := Scalar.cmpi .sgt c256_i32_273 c0_i32_276
  let v802 : BitVec 32 := Scalar.extui v801
  let c0_i32_277 : BitVec 32 := 0#32
  let v803 : BitVec 1 := Scalar.cmpi .slt c256_i32_273 c0_i32_277
  let v804 : BitVec 32 := Scalar.extui v803
  let v805 : BitVec 32 := Scalar.subi v802 v804
  let v806 : BitVec 1 := Scalar.cmpi .ne v800 v805
  let v807 : BitVec 32 := Scalar.remsi v794 c256_i32_273
  let c0_i32_278 : BitVec 32 := 0#32
  let v808 : BitVec 1 := Scalar.cmpi .ne v807 c0_i32_278
  let v809 : BitVec 1 := Scalar.andi v806 v808
  let v795 : BitVec 32 := Scalar.divsi v794 c256_i32_273
  let c1_i32_279 : BitVec 32 := 1#32
  let v810 : BitVec 32 := Scalar.subi v795 c1_i32_279
  let v811 : BitVec 32 := Scalar.select v809 v810 v795
  let v815 : BitVec 32 := Scalar.subi v811 c0_i32_283
  let c1_i32_284 : BitVec 32 := 1#32
  let v817 : BitVec 32 := Scalar.divsi v815 c1_i32_284
  let v818 : BitVec 32 := Scalar.muli v817 c1_i32_284
  let v819 : BitVec 32 := Scalar.addi c0_i32_283 v818
  let c1_i32_286 : BitVec 32 := 1#32
  let arg15 : BitVec 32 := Scf.iv v819 c1_i32_286 k0_t4
  let c256_i32_317 : BitVec 32 := 256#32
  let v963 : BitVec 32 := Scalar.muli arg15 c256_i32_317
  let v964 : BitVec 32 := v963
  let v984 : Index := Scalar.indexCast v964
  let c0_324 : Index := 0#32
  ![0, v984.toNat, 0]
def k0_mult7 (i : grid0.Coords) : BitVec 32 :=
  let arg1 : BitVec 32 := BitVec.ofNat 32 (i 1).val
  let c128_i32_272 : BitVec 32 := 128#32
  let v794 : BitVec 32 := Scalar.muli arg1 c128_i32_272
  let c0_i32_274 : BitVec 32 := 0#32
  let v796 : BitVec 1 := Scalar.cmpi .sgt v794 c0_i32_274
  let v797 : BitVec 32 := Scalar.extui v796
  let c0_i32_275 : BitVec 32 := 0#32
  let v798 : BitVec 1 := Scalar.cmpi .slt v794 c0_i32_275
  let v799 : BitVec 32 := Scalar.extui v798
  let v800 : BitVec 32 := Scalar.subi v797 v799
  let c256_i32_273 : BitVec 32 := 256#32
  let c0_i32_276 : BitVec 32 := 0#32
  let v801 : BitVec 1 := Scalar.cmpi .sgt c256_i32_273 c0_i32_276
  let v802 : BitVec 32 := Scalar.extui v801
  let c0_i32_277 : BitVec 32 := 0#32
  let v803 : BitVec 1 := Scalar.cmpi .slt c256_i32_273 c0_i32_277
  let v804 : BitVec 32 := Scalar.extui v803
  let v805 : BitVec 32 := Scalar.subi v802 v804
  let v806 : BitVec 1 := Scalar.cmpi .ne v800 v805
  let v807 : BitVec 32 := Scalar.remsi v794 c256_i32_273
  let c0_i32_278 : BitVec 32 := 0#32
  let v808 : BitVec 1 := Scalar.cmpi .ne v807 c0_i32_278
  let v809 : BitVec 1 := Scalar.andi v806 v808
  let v795 : BitVec 32 := Scalar.divsi v794 c256_i32_273
  let c1_i32_279 : BitVec 32 := 1#32
  let v810 : BitVec 32 := Scalar.subi v795 c1_i32_279
  let v811 : BitVec 32 := Scalar.select v809 v810 v795
  let c256_i32_287 : BitVec 32 := 256#32
  let v822 : BitVec 32 := Scalar.muli v811 c256_i32_287
  v822
def k0_off13 (i : grid0.Coords) : Fin 3 → Nat :=
  let c1 : Index := 1#32
  let c0_288 : Index := 0#32
  let arg1 : BitVec 32 := BitVec.ofNat 32 (i 1).val
  let c128_i32_272 : BitVec 32 := 128#32
  let v794 : BitVec 32 := Scalar.muli arg1 c128_i32_272
  let c0_i32_274 : BitVec 32 := 0#32
  let v796 : BitVec 1 := Scalar.cmpi .sgt v794 c0_i32_274
  let v797 : BitVec 32 := Scalar.extui v796
  let c0_i32_275 : BitVec 32 := 0#32
  let v798 : BitVec 1 := Scalar.cmpi .slt v794 c0_i32_275
  let v799 : BitVec 32 := Scalar.extui v798
  let v800 : BitVec 32 := Scalar.subi v797 v799
  let c256_i32_273 : BitVec 32 := 256#32
  let c0_i32_276 : BitVec 32 := 0#32
  let v801 : BitVec 1 := Scalar.cmpi .sgt c256_i32_273 c0_i32_276
  let v802 : BitVec 32 := Scalar.extui v801
  let c0_i32_277 : BitVec 32 := 0#32
  let v803 : BitVec 1 := Scalar.cmpi .slt c256_i32_273 c0_i32_277
  let v804 : BitVec 32 := Scalar.extui v803
  let v805 : BitVec 32 := Scalar.subi v802 v804
  let v806 : BitVec 1 := Scalar.cmpi .ne v800 v805
  let v807 : BitVec 32 := Scalar.remsi v794 c256_i32_273
  let c0_i32_278 : BitVec 32 := 0#32
  let v808 : BitVec 1 := Scalar.cmpi .ne v807 c0_i32_278
  let v809 : BitVec 1 := Scalar.andi v806 v808
  let v795 : BitVec 32 := Scalar.divsi v794 c256_i32_273
  let c1_i32_279 : BitVec 32 := 1#32
  let v810 : BitVec 32 := Scalar.subi v795 c1_i32_279
  let v811 : BitVec 32 := Scalar.select v809 v810 v795
  let c256_i32_287 : BitVec 32 := 256#32
  let v822 : BitVec 32 := Scalar.muli v811 c256_i32_287
  let v823 : BitVec 32 := v822
  let v824 : Index := Scalar.indexCast v823
  ![1, 0, v824.toNat]
def k0_mult8 (i : grid0.Coords) : BitVec 32 :=
  let arg1 : BitVec 32 := BitVec.ofNat 32 (i 1).val
  let c128_i32 : BitVec 32 := 128#32
  let v3 : BitVec 32 := Scalar.muli arg1 c128_i32
  let c512_i32_296 : BitVec 32 := 512#32
  let v858 : BitVec 32 := Scalar.subi v3 c512_i32_296
  let c0_i32_297 : BitVec 32 := 0#32
  let v859 : BitVec 32 := Scalar.maxsi v858 c0_i32_297
  v859
def k0_off14 (i : grid0.Coords) : Fin 3 → Nat :=
  let c0_299 : Index := 0#32
  let c64_300 : Index := 64#32
  let arg1 : BitVec 32 := BitVec.ofNat 32 (i 1).val
  let c128_i32 : BitVec 32 := 128#32
  let v3 : BitVec 32 := Scalar.muli arg1 c128_i32
  let c512_i32_296 : BitVec 32 := 512#32
  let v858 : BitVec 32 := Scalar.subi v3 c512_i32_296
  let c0_i32_297 : BitVec 32 := 0#32
  let v859 : BitVec 32 := Scalar.maxsi v858 c0_i32_297
  let v860 : BitVec 32 := v859
  let v873 : Index := Scalar.indexCast v860
  ![0, 64, v873.toNat]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x128x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x8192 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8192x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128x8192 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x8192x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S128x8192 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4x8x8192x64 : Shape := ⟨4, ![4, 8, 8192, 64]⟩
abbrev S4x8192x128 : Shape := ⟨3, ![4, 8192, 128]⟩
abbrev S4x8192x512 : Shape := ⟨3, ![4, 8192, 512]⟩
abbrev S4x128x256 : Shape := ⟨3, ![4, 128, 256]⟩
abbrev S4x256x128 : Shape := ⟨3, ![4, 256, 128]⟩
abbrev S4x128x8192 : Shape := ⟨3, ![4, 128, 8192]⟩
abbrev S4x2x4x8192x64 : Shape := ⟨5, ![4, 2, 4, 8192, 64]⟩
abbrev S4x2x8192x4x64 : Shape := ⟨5, ![4, 2, 8192, 4, 64]⟩
abbrev S4x8192x24 : Shape := ⟨3, ![4, 8192, 24]⟩
abbrev S4x8192x2x4x3 : Shape := ⟨5, ![4, 8192, 2, 4, 3]⟩
abbrev S4x2x8192x4x3 : Shape := ⟨5, ![4, 2, 8192, 4, 3]⟩
abbrev S4x2x64x2x128 : Shape := ⟨5, ![4, 2, 64, 2, 128]⟩
abbrev S4x2x64x128x2 : Shape := ⟨5, ![4, 2, 64, 128, 2]⟩
abbrev S4x2x64x256 : Shape := ⟨4, ![4, 2, 64, 256]⟩
abbrev S4x2x128x2x64 : Shape := ⟨5, ![4, 2, 128, 2, 64]⟩
abbrev S4x2x256x64 : Shape := ⟨4, ![4, 2, 256, 64]⟩
abbrev S4x2x64x128x64 : Shape := ⟨5, ![4, 2, 64, 128, 64]⟩
abbrev S4x2x128x64x64 : Shape := ⟨5, ![4, 2, 128, 64, 64]⟩
abbrev S4x128x64x2x64 : Shape := ⟨5, ![4, 128, 64, 2, 64]⟩
abbrev S4x2x64x8192 : Shape := ⟨4, ![4, 2, 64, 8192]⟩
abbrev S4x8192x2x64 : Shape := ⟨4, ![4, 8192, 2, 64]⟩
abbrev S4x2x8192x64 : Shape := ⟨4, ![4, 2, 8192, 64]⟩
abbrev S8192 : Shape := ⟨1, ![8192]⟩
abbrev S8192x1 : Shape := ⟨2, ![8192, 1]⟩
abbrev S4x2x8192x4x256 : Shape := ⟨5, ![4, 2, 8192, 4, 256]⟩
abbrev S256 : Shape := ⟨1, ![256]⟩
abbrev S_ : Shape := ⟨0, ![]⟩
abbrev S1x256 : Shape := ⟨2, ![1, 256]⟩
abbrev S8192x256 : Shape := ⟨2, ![8192, 256]⟩
abbrev S1x1x8192x1x256 : Shape := ⟨5, ![1, 1, 8192, 1, 256]⟩
abbrev S4x2x8192x4 : Shape := ⟨4, ![4, 2, 8192, 4]⟩
abbrev S4x2x8192x4x1 : Shape := ⟨5, ![4, 2, 8192, 4, 1]⟩
abbrev S4x2x8192x256 : Shape := ⟨4, ![4, 2, 8192, 256]⟩
abbrev S4x2x8192x128x2 : Shape := ⟨5, ![4, 2, 8192, 128, 2]⟩
abbrev S4x2x8192x128 : Shape := ⟨4, ![4, 2, 8192, 128]⟩
abbrev S128 : Shape := ⟨1, ![128]⟩
abbrev S1x128 : Shape := ⟨2, ![1, 128]⟩
abbrev S8192x128 : Shape := ⟨2, ![8192, 128]⟩
abbrev S1x1x8192x128 : Shape := ⟨4, ![1, 1, 8192, 128]⟩
abbrev S4x2x8192x16 : Shape := ⟨4, ![4, 2, 8192, 16]⟩
abbrev S4x2x8192x16x1 : Shape := ⟨5, ![4, 2, 8192, 16, 1]⟩
abbrev S4x2x8192x16x64x64 : Shape := ⟨6, ![4, 2, 8192, 16, 64, 64]⟩
abbrev S4x2x8192x1024x64 : Shape := ⟨5, ![4, 2, 8192, 1024, 64]⟩
abbrev S64 : Shape := ⟨1, ![64]⟩
abbrev S1x1x1x1x64 : Shape := ⟨5, ![1, 1, 1, 1, 64]⟩
abbrev S4x2x8192x16x64 : Shape := ⟨5, ![4, 2, 8192, 16, 64]⟩
abbrev S4x2x8192x1024 : Shape := ⟨4, ![4, 2, 8192, 1024]⟩
abbrev S4x2x8192x4x1024 : Shape := ⟨5, ![4, 2, 8192, 4, 1024]⟩
abbrev S1x1x8192x1 : Shape := ⟨4, ![1, 1, 8192, 1]⟩
abbrev S4x2x8192x1x1024 : Shape := ⟨5, ![4, 2, 8192, 1, 1024]⟩
abbrev S4x2x8192x4x8192 : Shape := ⟨5, ![4, 2, 8192, 4, 8192]⟩
abbrev S1x8192 : Shape := ⟨2, ![1, 8192]⟩
abbrev S8192x8192 : Shape := ⟨2, ![8192, 8192]⟩
abbrev S1x1x8192x1x8192 : Shape := ⟨5, ![1, 1, 8192, 1, 8192]⟩
abbrev S4x8192x2x4x64 : Shape := ⟨5, ![4, 8192, 2, 4, 64]⟩

abbrev nBuf : Space → Nat
  | .hbm => 250
  | .vmem => 0
  | .smem => 0
  | _ => 0

abbrev hbmTy0_0 (i : Nat) : BufTy := match i % 128 with
  | 0 => ⟨S4x8x8192x64, .bf16⟩
  | 1 => ⟨S4x8192x128, .f32⟩
  | 2 => ⟨S4x8192x512, .f32⟩
  | 3 => ⟨S4x128x256, .bf16⟩
  | 4 => ⟨S4x256x128, .bf16⟩
  | 5 => ⟨S4x128x8192, .bf16⟩
  | 6 => ⟨S4x8192x128, .bf16⟩
  | 7 => ⟨S4x128x8192, .bf16⟩
  | 8 => ⟨S4x8192x128, .bf16⟩
  | 9 => ⟨S4x8x8192x64, .f32⟩
  | 10 => ⟨S4x2x4x8192x64, .f32⟩
  | 11 => ⟨S4x2x8192x4x64, .f32⟩
  | 12 => ⟨S4x8192x24, .f32⟩
  | 13 => ⟨S4x8192x2x4x3, .f32⟩
  | 14 => ⟨S4x2x8192x4x3, .f32⟩
  | 15 => ⟨S4x128x256, .f32⟩
  | 16 => ⟨S4x2x64x2x128, .f32⟩
  | 17 => ⟨S4x2x64x128x2, .f32⟩
  | 18 => ⟨S4x2x64x256, .f32⟩
  | 19 => ⟨S4x256x128, .f32⟩
  | 20 => ⟨S4x2x128x2x64, .f32⟩
  | 21 => ⟨S4x2x128x2x64, .f32⟩
  | 22 => ⟨S4x2x256x64, .f32⟩
  | 23 => ⟨S4x128x8192, .f32⟩
  | 24 => ⟨S4x2x64x128x64, .f32⟩
  | 25 => ⟨S4x2x128x64x64, .f32⟩
  | 26 => ⟨S4x8192x128, .f32⟩
  | 27 => ⟨S4x128x64x2x64, .f32⟩
  | 28 => ⟨S4x2x128x64x64, .f32⟩
  | 29 => ⟨S4x128x8192, .f32⟩
  | 30 => ⟨S4x2x64x8192, .f32⟩
  | 31 => ⟨S4x8192x128, .f32⟩
  | 32 => ⟨S4x8192x2x64, .f32⟩
  | 33 => ⟨S4x2x8192x64, .f32⟩
  | 34 => ⟨S8192, .i32⟩
  | 35 => ⟨S8192x1, .i32⟩
  | 36 => ⟨S4x2x8192x4x256, .f32⟩
  | 37 => ⟨S256, .i32⟩
  | 38 => ⟨S_, .i32⟩
  | 39 => ⟨S256, .i32⟩
  | 40 => ⟨S256, .i32⟩
  | 41 => ⟨S_, .i32⟩
  | 42 => ⟨S256, .i32⟩
  | 43 => ⟨S256, .i32⟩
  | 44 => ⟨S_, .i32⟩
  | 45 => ⟨S256, .i32⟩
  | 46 => ⟨S256, .i32⟩
  | 47 => ⟨S1x256, .i32⟩
  | 48 => ⟨S8192x256, .i32⟩
  | 49 => ⟨S8192x256, .i32⟩
  | 50 => ⟨S8192x256, .i1⟩
  | 51 => ⟨S1x1x8192x1x256, .i1⟩
  | 52 => ⟨S_, .f32⟩
  | 53 => ⟨S_, .f32⟩
  | 54 => ⟨S4x2x8192x4x256, .i1⟩
  | 55 => ⟨S4x2x8192x4x256, .f32⟩
  | 56 => ⟨S4x2x8192x4x256, .f32⟩
  | 57 => ⟨S_, .f32⟩
  | 58 => ⟨S4x2x8192x4, .f32⟩
  | 59 => ⟨S4x2x8192x4x1, .f32⟩
  | 60 => ⟨S4x2x8192x4x1, .f32⟩
  | 61 => ⟨S_, .f32⟩
  | 62 => ⟨S4x2x8192x4x1, .f32⟩
  | 63 => ⟨S4x2x8192x4x1, .i1⟩
  | 64 => ⟨S_, .f32⟩
  | 65 => ⟨S_, .f32⟩
  | 66 => ⟨S4x2x8192x4x1, .f32⟩
  | 67 => ⟨S4x2x8192x4x1, .f32⟩
  | 68 => ⟨S4x2x8192x4x256, .f32⟩
  | 69 => ⟨S4x2x8192x4x256, .f32⟩
  | 70 => ⟨S4x2x8192x4x256, .f32⟩
  | 71 => ⟨S_, .f32⟩
  | 72 => ⟨S4x2x8192x4, .f32⟩
  | 73 => ⟨S4x2x8192x4x1, .f32⟩
  | 74 => ⟨S_, .f32⟩
  | 75 => ⟨S4x2x8192x4x1, .f32⟩
  | 76 => ⟨S4x2x8192x4x1, .f32⟩
  | 77 => ⟨S4x2x8192x4x256, .f32⟩
  | 78 => ⟨S4x2x8192x4x256, .f32⟩
  | 79 => ⟨S4x2x8192x4x64, .f32⟩
  | 80 => ⟨S_, .f32⟩
  | 81 => ⟨S4x2x8192x256, .f32⟩
  | 82 => ⟨S4x2x8192x128x2, .f32⟩
  | 83 => ⟨S_, .f32⟩
  | 84 => ⟨S4x2x8192x128, .f32⟩
  | 85 => ⟨S128, .i32⟩
  | 86 => ⟨S1x128, .i32⟩
  | 87 => ⟨S_, .i32⟩
  | 88 => ⟨S_, .i32⟩
  | 89 => ⟨S8192, .i32⟩
  | 90 => ⟨S8192, .i32⟩
  | 91 => ⟨S8192, .i32⟩
  | 92 => ⟨S_, .i32⟩
  | 93 => ⟨S8192, .i32⟩
  | 94 => ⟨S8192, .i1⟩
  | 95 => ⟨S8192, .i32⟩
  | 96 => ⟨S8192, .i32⟩
  | 97 => ⟨S_, .i32⟩
  | 98 => ⟨S8192, .i32⟩
  | 99 => ⟨S8192, .i1⟩
  | 100 => ⟨S8192, .i1⟩
  | 101 => ⟨S_, .i32⟩
  | 102 => ⟨S8192, .i32⟩
  | 103 => ⟨S8192, .i32⟩
  | 104 => ⟨S8192, .i32⟩
  | 105 => ⟨S8192x1, .i32⟩
  | 106 => ⟨S_, .i32⟩
  | 107 => ⟨S1x128, .i32⟩
  | 108 => ⟨S1x128, .i32⟩
  | 109 => ⟨S8192x128, .i32⟩
  | 110 => ⟨S8192x128, .i32⟩
  | 111 => ⟨S8192x128, .i1⟩
  | 112 => ⟨S_, .i32⟩
  | 113 => ⟨S1x128, .i32⟩
  | 114 => ⟨S1x128, .i1⟩
  | 115 => ⟨S8192x128, .i32⟩
  | 116 => ⟨S8192x128, .i32⟩
  | 117 => ⟨S8192x128, .i1⟩
  | 118 => ⟨S8192x128, .i1⟩
  | 119 => ⟨S8192x128, .i1⟩
  | 120 => ⟨S_, .i32⟩
  | 121 => ⟨S8192x1, .i32⟩
  | 122 => ⟨S8192x1, .i32⟩
  | 123 => ⟨S8192x128, .i32⟩
  | 124 => ⟨S8192x128, .i32⟩
  | 125 => ⟨S8192x128, .i1⟩
  | 126 => ⟨S8192x128, .i1⟩
  | 127 => ⟨S_, .f32⟩
  | _ => ⟨S4x8x8192x64, .bf16⟩

abbrev hbmTy0_1 (i : Nat) : BufTy := match i % 128 with
  | 0 => ⟨S_, .f32⟩
  | 1 => ⟨S8192x128, .f32⟩
  | 2 => ⟨S8192x128, .f32⟩
  | 3 => ⟨S8192x128, .f32⟩
  | 4 => ⟨S8192x128, .f32⟩
  | 5 => ⟨S1x1x8192x128, .i1⟩
  | 6 => ⟨S1x1x8192x128, .f32⟩
  | 7 => ⟨S4x2x8192x128, .f32⟩
  | 8 => ⟨S4x2x8192x128, .f32⟩
  | 9 => ⟨S_, .f32⟩
  | 10 => ⟨S_, .f32⟩
  | 11 => ⟨S4x2x8192x128, .i1⟩
  | 12 => ⟨S4x2x8192x128, .f32⟩
  | 13 => ⟨S4x2x8192x128, .f32⟩
  | 14 => ⟨S4x2x8192x16, .f32⟩
  | 15 => ⟨S4x2x8192x16, .i32⟩
  | 16 => ⟨S4x2x8192x16x1, .i32⟩
  | 17 => ⟨S4x2x8192x16x64x64, .f32⟩
  | 18 => ⟨S4x2x8192x1024x64, .f32⟩
  | 19 => ⟨S4x2x8192x16x1, .i32⟩
  | 20 => ⟨S4x2x8192x16x64x64, .f32⟩
  | 21 => ⟨S4x2x8192x1024x64, .f32⟩
  | 22 => ⟨S4x2x8192x16x1, .i32⟩
  | 23 => ⟨S_, .i32⟩
  | 24 => ⟨S4x2x8192x16x1, .i32⟩
  | 25 => ⟨S4x2x8192x16x1, .i32⟩
  | 26 => ⟨S64, .i32⟩
  | 27 => ⟨S1x1x1x1x64, .i32⟩
  | 28 => ⟨S4x2x8192x16x64, .i32⟩
  | 29 => ⟨S4x2x8192x16x64, .i32⟩
  | 30 => ⟨S4x2x8192x16x64, .i32⟩
  | 31 => ⟨S4x2x8192x1024, .i32⟩
  | 32 => ⟨S4x2x8192x4x1024, .f32⟩
  | 33 => ⟨S1x1x8192x1, .i32⟩
  | 34 => ⟨S4x2x8192x1024, .i32⟩
  | 35 => ⟨S4x2x8192x1024, .i1⟩
  | 36 => ⟨S4x2x8192x1x1024, .i1⟩
  | 37 => ⟨S_, .f32⟩
  | 38 => ⟨S_, .f32⟩
  | 39 => ⟨S4x2x8192x4x1024, .i1⟩
  | 40 => ⟨S4x2x8192x4x1024, .f32⟩
  | 41 => ⟨S4x2x8192x4x1024, .f32⟩
  | 42 => ⟨S_, .f32⟩
  | 43 => ⟨S4x2x8192x4, .f32⟩
  | 44 => ⟨S4x2x8192x4x1, .f32⟩
  | 45 => ⟨S4x2x8192x4x1, .f32⟩
  | 46 => ⟨S_, .f32⟩
  | 47 => ⟨S4x2x8192x4x1, .f32⟩
  | 48 => ⟨S4x2x8192x4x1, .i1⟩
  | 49 => ⟨S_, .f32⟩
  | 50 => ⟨S_, .f32⟩
  | 51 => ⟨S4x2x8192x4x1, .f32⟩
  | 52 => ⟨S4x2x8192x4x1, .f32⟩
  | 53 => ⟨S4x2x8192x4x1024, .f32⟩
  | 54 => ⟨S4x2x8192x4x1024, .f32⟩
  | 55 => ⟨S4x2x8192x4x1024, .f32⟩
  | 56 => ⟨S_, .f32⟩
  | 57 => ⟨S4x2x8192x4, .f32⟩
  | 58 => ⟨S4x2x8192x4x1, .f32⟩
  | 59 => ⟨S_, .f32⟩
  | 60 => ⟨S4x2x8192x4x1, .f32⟩
  | 61 => ⟨S4x2x8192x4x1, .f32⟩
  | 62 => ⟨S4x2x8192x4x1024, .f32⟩
  | 63 => ⟨S4x2x8192x4x1024, .f32⟩
  | 64 => ⟨S4x2x8192x4x64, .f32⟩
  | 65 => ⟨S4x2x8192x4x8192, .f32⟩
  | 66 => ⟨S8192, .i32⟩
  | 67 => ⟨S1x8192, .i32⟩
  | 68 => ⟨S8192x8192, .i32⟩
  | 69 => ⟨S8192x8192, .i32⟩
  | 70 => ⟨S8192x8192, .i1⟩
  | 71 => ⟨S_, .i32⟩
  | 72 => ⟨S8192x1, .i32⟩
  | 73 => ⟨S8192x1, .i32⟩
  | 74 => ⟨S8192x8192, .i32⟩
  | 75 => ⟨S8192x8192, .i32⟩
  | 76 => ⟨S8192x8192, .i1⟩
  | 77 => ⟨S8192x8192, .i1⟩
  | 78 => ⟨S1x1x8192x1x8192, .i1⟩
  | 79 => ⟨S_, .f32⟩
  | 80 => ⟨S_, .f32⟩
  | 81 => ⟨S4x2x8192x4x8192, .i1⟩
  | 82 => ⟨S4x2x8192x4x8192, .f32⟩
  | 83 => ⟨S4x2x8192x4x8192, .f32⟩
  | 84 => ⟨S_, .f32⟩
  | 85 => ⟨S4x2x8192x4, .f32⟩
  | 86 => ⟨S4x2x8192x4x1, .f32⟩
  | 87 => ⟨S4x2x8192x4x1, .f32⟩
  | 88 => ⟨S_, .f32⟩
  | 89 => ⟨S4x2x8192x4x1, .f32⟩
  | 90 => ⟨S4x2x8192x4x1, .i1⟩
  | 91 => ⟨S_, .f32⟩
  | 92 => ⟨S_, .f32⟩
  | 93 => ⟨S4x2x8192x4x1, .f32⟩
  | 94 => ⟨S4x2x8192x4x1, .f32⟩
  | 95 => ⟨S4x2x8192x4x8192, .f32⟩
  | 96 => ⟨S4x2x8192x4x8192, .f32⟩
  | 97 => ⟨S4x2x8192x4x8192, .f32⟩
  | 98 => ⟨S_, .f32⟩
  | 99 => ⟨S4x2x8192x4, .f32⟩
  | 100 => ⟨S4x2x8192x4x1, .f32⟩
  | 101 => ⟨S_, .f32⟩
  | 102 => ⟨S4x2x8192x4x1, .f32⟩
  | 103 => ⟨S4x2x8192x4x1, .f32⟩
  | 104 => ⟨S4x2x8192x4x8192, .f32⟩
  | 105 => ⟨S4x2x8192x4x8192, .f32⟩
  | 106 => ⟨S4x2x8192x4x64, .f32⟩
  | 107 => ⟨S4x2x8192x4x1, .f32⟩
  | 108 => ⟨S4x2x8192x4x64, .f32⟩
  | 109 => ⟨S4x2x8192x4x64, .f32⟩
  | 110 => ⟨S4x2x8192x4x1, .f32⟩
  | 111 => ⟨S4x2x8192x4x64, .f32⟩
  | 112 => ⟨S4x2x8192x4x64, .f32⟩
  | 113 => ⟨S4x2x8192x4x64, .f32⟩
  | 114 => ⟨S4x2x8192x4x1, .f32⟩
  | 115 => ⟨S4x2x8192x4x64, .f32⟩
  | 116 => ⟨S4x2x8192x4x64, .f32⟩
  | 117 => ⟨S4x2x8192x4x64, .f32⟩
  | 118 => ⟨S4x8192x2x4x64, .f32⟩
  | 119 => ⟨S4x8192x512, .f32⟩
  | 120 => ⟨S4x8192x512, .f32⟩
  | 121 => ⟨S4x8192x512, .bf16⟩
  | _ => ⟨S4x8x8192x64, .bf16⟩

abbrev hbmTy (i : Nat) : BufTy := match i / 128 with
  | 0 => hbmTy0_0 i
  | 1 => hbmTy0_1 i
  | _ => ⟨S4x8x8192x64, .bf16⟩

abbrev bufTy : (tb : Table) → Fin (tcTables nBuf tb) → BufTy
  | .hbm, ⟨i, _⟩ => hbmTy i
  | _, _ => ⟨S4x8x8192x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c : Ref sig .tc := ⟨.hbm, 38, rfl⟩
abbrev main_v29 : Ref sig .tc := ⟨.hbm, 39, rfl⟩
abbrev main_v30 : Ref sig .tc := ⟨.hbm, 40, rfl⟩
abbrev main_c_0 : Ref sig .tc := ⟨.hbm, 41, rfl⟩
abbrev main_v31 : Ref sig .tc := ⟨.hbm, 42, rfl⟩
abbrev main_v32 : Ref sig .tc := ⟨.hbm, 43, rfl⟩
abbrev main_c_1 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_v40 : Ref sig .tc := ⟨.hbm, 56, rfl⟩
abbrev main_cst_2 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_3 : Ref sig .tc := ⟨.hbm, 61, rfl⟩
abbrev main_v44 : Ref sig .tc := ⟨.hbm, 62, rfl⟩
abbrev main_v45 : Ref sig .tc := ⟨.hbm, 63, rfl⟩
abbrev main_cst_4 : Ref sig .tc := ⟨.hbm, 64, rfl⟩
abbrev main_call1_v0 : Ref sig .tc := ⟨.hbm, 65, rfl⟩
abbrev main_call1_v1 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_5 : Ref sig .tc := ⟨.hbm, 71, rfl⟩
abbrev main_v50 : Ref sig .tc := ⟨.hbm, 72, rfl⟩
abbrev main_v51 : Ref sig .tc := ⟨.hbm, 73, rfl⟩
abbrev main_cst_6 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_7 : Ref sig .tc := ⟨.hbm, 80, rfl⟩
abbrev main_v57 : Ref sig .tc := ⟨.hbm, 81, rfl⟩
abbrev main_v58 : Ref sig .tc := ⟨.hbm, 82, rfl⟩
abbrev main_cst_8 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_9 : Ref sig .tc := ⟨.hbm, 87, rfl⟩
abbrev main_call2_v0 : Ref sig .tc := ⟨.hbm, 88, rfl⟩
abbrev main_call2_v1 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_call2_v5 : Ref sig .tc := ⟨.hbm, 93, rfl⟩
abbrev main_call2_v6 : Ref sig .tc := ⟨.hbm, 94, rfl⟩
abbrev main_call2_v7 : Ref sig .tc := ⟨.hbm, 95, rfl⟩
abbrev main_call2_v8 : Ref sig .tc := ⟨.hbm, 96, rfl⟩
abbrev main_call2_c : Ref sig .tc := ⟨.hbm, 97, rfl⟩
abbrev main_call2_v9 : Ref sig .tc := ⟨.hbm, 98, rfl⟩
abbrev main_call2_v10 : Ref sig .tc := ⟨.hbm, 99, rfl⟩
abbrev main_call2_v11 : Ref sig .tc := ⟨.hbm, 100, rfl⟩
abbrev main_call2_c_0 : Ref sig .tc := ⟨.hbm, 101, rfl⟩
abbrev main_call2_v12 : Ref sig .tc := ⟨.hbm, 102, rfl⟩
abbrev main_call2_v13 : Ref sig .tc := ⟨.hbm, 103, rfl⟩
abbrev main_v62 : Ref sig .tc := ⟨.hbm, 104, rfl⟩
abbrev main_v63 : Ref sig .tc := ⟨.hbm, 105, rfl⟩
abbrev main_c_10 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_c_11 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_c_12 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_cst_13 : Ref sig .tc := ⟨.hbm, 127, rfl⟩
abbrev main_cst_14 : Ref sig .tc := ⟨.hbm, 128, rfl⟩
abbrev main_call3_v0 : Ref sig .tc := ⟨.hbm, 129, rfl⟩
abbrev main_call3_v1 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_15 : Ref sig .tc := ⟨.hbm, 137, rfl⟩
abbrev main_call4_v0 : Ref sig .tc := ⟨.hbm, 138, rfl⟩
abbrev main_call4_v1 : Ref sig .tc := ⟨.hbm, 139, rfl⟩
abbrev main_call4_v2 : Ref sig .tc := ⟨.hbm, 140, rfl⟩
abbrev main_v88 : Ref sig .tc := ⟨.hbm, 141, rfl⟩
abbrev main_values : Ref sig .tc := ⟨.hbm, 142, rfl⟩
abbrev main_indices : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_c_16 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_cst_17 : Ref sig .tc := ⟨.hbm, 165, rfl⟩
abbrev main_call5_v0 : Ref sig .tc := ⟨.hbm, 166, rfl⟩
abbrev main_call5_v1 : Ref sig .tc := ⟨.hbm, 167, rfl⟩
abbrev main_call5_v2 : Ref sig .tc := ⟨.hbm, 168, rfl⟩
abbrev main_v109 : Ref sig .tc := ⟨.hbm, 169, rfl⟩
abbrev main_cst_18 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_cst_19 : Ref sig .tc := ⟨.hbm, 174, rfl⟩
abbrev main_v113 : Ref sig .tc := ⟨.hbm, 175, rfl⟩
abbrev main_v114 : Ref sig .tc := ⟨.hbm, 176, rfl⟩
abbrev main_cst_20 : Ref sig .tc := ⟨.hbm, 177, rfl⟩
abbrev main_call6_v0 : Ref sig .tc := ⟨.hbm, 178, rfl⟩
abbrev main_call6_v1 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_cst_21 : Ref sig .tc := ⟨.hbm, 184, rfl⟩
abbrev main_v119 : Ref sig .tc := ⟨.hbm, 185, rfl⟩
abbrev main_v120 : Ref sig .tc := ⟨.hbm, 186, rfl⟩
abbrev main_cst_22 : Ref sig .tc := ⟨.hbm, 187, rfl⟩
abbrev main_v121 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩
abbrev main_v130 : Ref sig .tc := ⟨.hbm, 197, rfl⟩
abbrev main_v131 : Ref sig .tc := ⟨.hbm, 198, rfl⟩
abbrev main_c_23 : Ref sig .tc := ⟨.hbm, 199, rfl⟩
abbrev main_v132 : Ref sig .tc := ⟨.hbm, 200, rfl⟩
abbrev main_v133 : Ref sig .tc := ⟨.hbm, 201, rfl⟩
abbrev main_v134 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩
abbrev main_cst_24 : Ref sig .tc := ⟨.hbm, 207, rfl⟩
abbrev main_call7_v0 : Ref sig .tc := ⟨.hbm, 208, rfl⟩
abbrev main_call7_v1 : Ref sig .tc := ⟨.hbm, 209, rfl⟩
abbrev main_call7_v2 : Ref sig .tc := ⟨.hbm, 210, rfl⟩
abbrev main_v139 : Ref sig .tc := ⟨.hbm, 211, rfl⟩
abbrev main_cst_25 : Ref sig .tc := ⟨.hbm, 212, rfl⟩
abbrev main_v140 : Ref sig .tc := ⟨.hbm, 213, rfl⟩
abbrev main_v141 : Ref sig .tc := ⟨.hbm, 214, rfl⟩
abbrev main_v142 : Ref sig .tc := ⟨.hbm, 215, rfl⟩
abbrev main_cst_26 : Ref sig .tc := ⟨.hbm, 216, rfl⟩
abbrev main_v143 : Ref sig .tc := ⟨.hbm, 217, rfl⟩
abbrev main_v144 : Ref sig .tc := ⟨.hbm, 218, rfl⟩
abbrev main_cst_27 : Ref sig .tc := ⟨.hbm, 219, rfl⟩
abbrev main_call8_v0 : Ref sig .tc := ⟨.hbm, 220, rfl⟩
abbrev main_call8_v1 : Ref sig .tc := ⟨.hbm, 221, rfl⟩
abbrev main_v145 : Ref sig .tc := ⟨.hbm, 222, rfl⟩
abbrev main_v146 : Ref sig .tc := ⟨.hbm, 223, rfl⟩
abbrev main_v147 : Ref sig .tc := ⟨.hbm, 224, rfl⟩
abbrev main_v148 : Ref sig .tc := ⟨.hbm, 225, rfl⟩
abbrev main_cst_28 : Ref sig .tc := ⟨.hbm, 226, rfl⟩
abbrev main_v149 : Ref sig .tc := ⟨.hbm, 227, rfl⟩
abbrev main_v150 : Ref sig .tc := ⟨.hbm, 228, rfl⟩
abbrev main_cst_29 : Ref sig .tc := ⟨.hbm, 229, rfl⟩
abbrev main_v151 : Ref sig .tc := ⟨.hbm, 230, rfl⟩
abbrev main_v152 : Ref sig .tc := ⟨.hbm, 231, rfl⟩
abbrev main_v153 : Ref sig .tc := ⟨.hbm, 232, rfl⟩
abbrev main_v154 : Ref sig .tc := ⟨.hbm, 233, rfl⟩
abbrev main_v155 : Ref sig .tc := ⟨.hbm, 234, rfl⟩
abbrev main_v156 : Ref sig .tc := ⟨.hbm, 235, rfl⟩
abbrev main_v157 : Ref sig .tc := ⟨.hbm, 236, rfl⟩
abbrev main_v158 : Ref sig .tc := ⟨.hbm, 237, rfl⟩
abbrev main_v159 : Ref sig .tc := ⟨.hbm, 238, rfl⟩
abbrev main_v160 : Ref sig .tc := ⟨.hbm, 239, rfl⟩
abbrev main_v161 : Ref sig .tc := ⟨.hbm, 240, rfl⟩
abbrev main_v162 : Ref sig .tc := ⟨.hbm, 241, rfl⟩
abbrev main_v163 : Ref sig .tc := ⟨.hbm, 242, rfl⟩
abbrev main_v164 : Ref sig .tc := ⟨.hbm, 243, rfl⟩
abbrev main_v165 : Ref sig .tc := ⟨.hbm, 244, rfl⟩
abbrev main_v166 : Ref sig .tc := ⟨.hbm, 245, rfl⟩
abbrev main_v167 : Ref sig .tc := ⟨.hbm, 246, rfl⟩
abbrev main_v168 : Ref sig .tc := ⟨.hbm, 247, rfl⟩
abbrev main_v169 : Ref sig .tc := ⟨.hbm, 248, rfl⟩
abbrev main_v170 : Ref sig .tc := ⟨.hbm, 249, rfl⟩

abbrev nD : Nat := 1
abbrev τ : Topo := Topo.v7x

variable {F : FTy → Type} [FloatOps F]
-- ==== Kernel2.lean ====
abbrev S4x8192x1024 : Shape := ⟨3, ![4, 8192, 1024]⟩
abbrev S1024 : Shape := ⟨1, ![1024]⟩
abbrev S1024x3864 : Shape := ⟨2, ![1024, 3864]⟩
abbrev S3x512 : Shape := ⟨2, ![3, 512]⟩
abbrev S512 : Shape := ⟨1, ![512]⟩
abbrev S64 : Shape := ⟨1, ![64]⟩
abbrev S3x64 : Shape := ⟨2, ![3, 64]⟩
abbrev S_ : Shape := ⟨0, ![]⟩
abbrev S1024x104 : Shape := ⟨2, ![1024, 104]⟩
abbrev S1024x3352 : Shape := ⟨2, ![1024, 3352]⟩
abbrev S1024x512 : Shape := ⟨2, ![1024, 512]⟩
abbrev S1024x3968 : Shape := ⟨2, ![1024, 3968]⟩
abbrev S512x512 : Shape := ⟨2, ![512, 512]⟩
abbrev S1x1024 : Shape := ⟨2, ![1, 1024]⟩
abbrev S1x512 : Shape := ⟨2, ![1, 512]⟩
abbrev S1x64 : Shape := ⟨2, ![1, 64]⟩
abbrev S8x64 : Shape := ⟨2, ![8, 64]⟩
abbrev S1x3x1x64 : Shape := ⟨4, ![1, 3, 1, 64]⟩
abbrev S1x3x2x64 : Shape := ⟨4, ![1, 3, 2, 64]⟩
abbrev S3x128 : Shape := ⟨2, ![3, 128]⟩
abbrev S8192 : Shape := ⟨1, ![8192]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S1x8192x4x32 : Shape := ⟨4, ![1, 8192, 4, 32]⟩
abbrev S8192x128 : Shape := ⟨2, ![8192, 128]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S4x8192x512 : Shape := ⟨3, ![4, 8192, 512]⟩
abbrev S4x8x8192x64 : Shape := ⟨4, ![4, 8, 8192, 64]⟩
abbrev S4x8192x128 : Shape := ⟨3, ![4, 8192, 128]⟩
abbrev S4x8192x256 : Shape := ⟨3, ![4, 8192, 256]⟩
abbrev S4x128x8192 : Shape := ⟨3, ![4, 128, 8192]⟩
abbrev S4x8x512 : Shape := ⟨3, ![4, 8, 512]⟩
abbrev S1x512x1024 : Shape := ⟨3, ![1, 512, 1024]⟩
abbrev S512x128 : Shape := ⟨2, ![512, 128]⟩
abbrev S1x512x512 : Shape := ⟨3, ![1, 512, 512]⟩
abbrev S1x8x512x64 : Shape := ⟨4, ![1, 8, 512, 64]⟩
abbrev S1x512x128 : Shape := ⟨3, ![1, 512, 128]⟩
abbrev S1x512x256 : Shape := ⟨3, ![1, 512, 256]⟩
abbrev S1x128x512 : Shape := ⟨3, ![1, 128, 512]⟩
abbrev S1x8x512 : Shape := ⟨3, ![1, 8, 512]⟩
abbrev S520x512 : Shape := ⟨2, ![520, 512]⟩
abbrev S512x1024 : Shape := ⟨2, ![512, 1024]⟩
abbrev S512x1 : Shape := ⟨2, ![512, 1]⟩
abbrev S1024x2048 : Shape := ⟨2, ![1024, 2048]⟩
abbrev S512x2048 : Shape := ⟨2, ![512, 2048]⟩
abbrev S1024x768 : Shape := ⟨2, ![1024, 768]⟩
abbrev S512x768 : Shape := ⟨2, ![512, 768]⟩
abbrev S128x128 : Shape := ⟨2, ![128, 128]⟩
abbrev S1x128 : Shape := ⟨2, ![1, 128]⟩
abbrev S1024x640 : Shape := ⟨2, ![1024, 640]⟩
abbrev S512x640 : Shape := ⟨2, ![512, 640]⟩
abbrev S8x512 : Shape := ⟨2, ![8, 512]⟩
abbrev S512x64 : Shape := ⟨2, ![512, 64]⟩
abbrev S1x1x512x64 : Shape := ⟨4, ![1, 1, 512, 64]⟩
abbrev S128x512 : Shape := ⟨2, ![128, 512]⟩

abbrev nBuf : Space → Nat
  | .hbm => 84
  | .vmem => 38
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x3864, .f32⟩
  | .hbm, ⟨3, _⟩ => ⟨S3x512, .f32⟩
  | .hbm, ⟨4, _⟩ => ⟨S512, .f32⟩
  | .hbm, ⟨5, _⟩ => ⟨S64, .f32⟩
  | .hbm, ⟨6, _⟩ => ⟨S3x64, .f32⟩
  | .hbm, ⟨7, _⟩ => ⟨S_, .f32⟩
  | .hbm, ⟨8, _⟩ => ⟨S1024x104, .f32⟩
  | .hbm, ⟨9, _⟩ => ⟨S1024x3352, .f32⟩
  | .hbm, ⟨10, _⟩ => ⟨S1024x512, .f32⟩
  | .hbm, ⟨11, _⟩ => ⟨S1024x3968, .f32⟩
  | .hbm, ⟨12, _⟩ => ⟨S512x512, .i32⟩
  | .hbm, ⟨13, _⟩ => ⟨S_, .i32⟩
  | .hbm, ⟨14, _⟩ => ⟨S_, .i32⟩
  | .hbm, ⟨15, _⟩ => ⟨S512x512, .i32⟩
  | .hbm, ⟨16, _⟩ => ⟨S512x512, .i32⟩
  | .hbm, ⟨17, _⟩ => ⟨S512x512, .i32⟩
  | .hbm, ⟨18, _⟩ => ⟨S_, .i32⟩
  | .hbm, ⟨19, _⟩ => ⟨S512x512, .i32⟩
  | .hbm, ⟨20, _⟩ => ⟨S512x512, .i1⟩
  | .hbm, ⟨21, _⟩ => ⟨S512x512, .i32⟩
  | .hbm, ⟨22, _⟩ => ⟨S512x512, .i32⟩
  | .hbm, ⟨23, _⟩ => ⟨S_, .i32⟩
  | .hbm, ⟨24, _⟩ => ⟨S512x512, .i32⟩
  | .hbm, ⟨25, _⟩ => ⟨S512x512, .i1⟩
  | .hbm, ⟨26, _⟩ => ⟨S512x512, .i1⟩
  | .hbm, ⟨27, _⟩ => ⟨S_, .i32⟩
  | .hbm, ⟨28, _⟩ => ⟨S512x512, .i32⟩
  | .hbm, ⟨29, _⟩ => ⟨S512x512, .i32⟩
  | .hbm, ⟨30, _⟩ => ⟨S512x512, .i32⟩
  | .hbm, ⟨31, _⟩ => ⟨S512x512, .i32⟩
  | .hbm, ⟨32, _⟩ => ⟨S512x512, .i1⟩
  | .hbm, ⟨33, _⟩ => ⟨S512x512, .bf16⟩
  | .hbm, ⟨34, _⟩ => ⟨S1x1024, .f32⟩
  | .hbm, ⟨35, _⟩ => ⟨S1024x3968, .bf16⟩
  | .hbm, ⟨36, _⟩ => ⟨S1x512, .f32⟩
  | .hbm, ⟨37, _⟩ => ⟨S_, .f32⟩
  | .hbm, ⟨38, _⟩ => ⟨S64, .f32⟩
  | .hbm, ⟨39, _⟩ => ⟨S64, .f32⟩
  | .hbm, ⟨40, _⟩ => ⟨S1x64, .f32⟩
  | .hbm, ⟨41, _⟩ => ⟨S8x64, .f32⟩
  | .hbm, ⟨42, _⟩ => ⟨S512, .f32⟩
  | .hbm, ⟨43, _⟩ => ⟨S1x512, .f32⟩
  | .hbm, ⟨44, _⟩ => ⟨S1x3x1x64, .f32⟩
  | .hbm, ⟨45, _⟩ => ⟨S1x3x2x64, .f32⟩
  | .hbm, ⟨46, _⟩ => ⟨S3x128, .f32⟩
  | .hbm, ⟨47, _⟩ => ⟨S8192, .i32⟩
  | .hbm, ⟨48, _⟩ => ⟨S32, .f32⟩
  | .hbm, ⟨49, _⟩ => ⟨S32, .f32⟩
  | .hbm, ⟨50, _⟩ => ⟨S_, .f32⟩
  | .hbm, ⟨51, _⟩ => ⟨S32, .f32⟩
  | .hbm, ⟨52, _⟩ => ⟨S32, .f32⟩
  | .hbm, ⟨53, _⟩ => ⟨S_, .f32⟩
  | .hbm, ⟨54, _⟩ => ⟨S32, .f32⟩
  | .hbm, ⟨55, _⟩ => ⟨S32, .f32⟩
  | .hbm, ⟨56, _⟩ => ⟨S8192, .f32⟩
  | .hbm, ⟨57, _⟩ => ⟨S8192x1, .f32⟩
  | .hbm, ⟨58, _⟩ => ⟨S1x32, .f32⟩
  | .hbm, ⟨59, _⟩ => ⟨S8192x32, .f32⟩
  | .hbm, ⟨60, _⟩ => ⟨S8192x32, .f32⟩
  | .hbm, ⟨61, _⟩ => ⟨S8192x32, .f32⟩
  | .hbm, ⟨62, _⟩ => ⟨S8192x32, .f32⟩
  | .hbm, ⟨63, _⟩ => ⟨S8192x32, .f32⟩
  | .hbm, ⟨64, _⟩ => ⟨S1x8192x1x32, .f32⟩
  | .hbm, ⟨65, _⟩ => ⟨S1x8192x4x32, .f32⟩
  | .hbm, ⟨66, _⟩ => ⟨S8192x128, .f32⟩
  | .hbm, ⟨67, _⟩ => ⟨S8192x32, .f32⟩
  | .hbm, ⟨68, _⟩ => ⟨S8192x64, .f32⟩
  | .hbm, ⟨69, _⟩ => ⟨S1x8192x1x64, .f32⟩
  | .hbm, ⟨70, _⟩ => ⟨S1x8192x2x64, .f32⟩
  | .hbm, ⟨71, _⟩ => ⟨S8192x128, .f32⟩
  | .hbm, ⟨72, _⟩ => ⟨S4x8192x512, .bf16⟩
  | .hbm, ⟨73, _⟩ => ⟨S4x8192x512, .f32⟩
  | .hbm, ⟨74, _⟩ => ⟨S4x8x8192x64, .bf16⟩
  | .hbm, ⟨75, _⟩ => ⟨S4x8192x128, .f32⟩
  | .hbm, ⟨76, _⟩ => ⟨S4x8192x256, .f32⟩
  | .hbm, ⟨77, _⟩ => ⟨S4x8192x256, .f32⟩
  | .hbm, ⟨78, _⟩ => ⟨S4x8192x256, .f32⟩
  | .hbm, ⟨79, _⟩ => ⟨S4x128x8192, .bf16⟩
  | .hbm, ⟨80, _⟩ => ⟨S4x128x8192, .bf16⟩
  | .hbm, ⟨81, _⟩ => ⟨S4x8192x128, .bf16⟩
  | .hbm, ⟨82, _⟩ => ⟨S4x8192x128, .bf16⟩
  | .hbm, ⟨83, _⟩ => ⟨S4x8x512, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x3968, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x512, .f32⟩
  | .local _ .vmem, ⟨9, _⟩ => ⟨S3x128, .f32⟩
  | .local _ .vmem, ⟨10, _⟩ => ⟨S512x512, .bf16⟩
  | .local _ .vmem, ⟨11, _⟩ => ⟨S3x512, .f32⟩
  | .local _ .vmem, ⟨12, _⟩ => ⟨S1x512, .f32⟩
  | .local _ .vmem, ⟨13, _⟩ => ⟨S1x512x512, .bf16⟩
  | .local _ .vmem, ⟨14, _⟩ => ⟨S1x512x512, .bf16⟩
  | .local _ .vmem, ⟨15, _⟩ => ⟨S1x512x512, .f32⟩
  | .local _ .vmem, ⟨16, _⟩ => ⟨S1x512x512, .f32⟩
  | .local _ .vmem, ⟨17, _⟩ => ⟨S1x8x512x64, .bf16⟩
  | .local _ .vmem, ⟨18, _⟩ => ⟨S1x8x512x64, .bf16⟩
  | .local _ .vmem, ⟨19, _⟩ => ⟨S1x512x128, .f32⟩
  | .local _ .vmem, ⟨20, _⟩ => ⟨S1x512x128, .f32⟩
  | .local _ .vmem, ⟨21, _⟩ => ⟨S1x512x256, .f32⟩
  | .local _ .vmem, ⟨22, _⟩ => ⟨S1x512x256, .f32⟩
  | .local _ .vmem, ⟨23, _⟩ => ⟨S1x512x256, .f32⟩
  | .local _ .vmem, ⟨24, _⟩ => ⟨S1x512x256, .f32⟩
  | .local _ .vmem, ⟨25, _⟩ => ⟨S1x512x256, .f32⟩
  | .local _ .vmem, ⟨26, _⟩ => ⟨S1x512x256, .f32⟩
  | .local _ .vmem, ⟨27, _⟩ => ⟨S1x128x512, .bf16⟩
  | .local _ .vmem, ⟨28, _⟩ => ⟨S1x128x512, .bf16⟩
  | .local _ .vmem, ⟨29, _⟩ => ⟨S1x128x512, .bf16⟩
  | .local _ .vmem, ⟨30, _⟩ => ⟨S1x128x512, .bf16⟩
  | .local _ .vmem, ⟨31, _⟩ => ⟨S1x512x128, .bf16⟩
  | .local _ .vmem, ⟨32, _⟩ => ⟨S1x512x128, .bf16⟩
  | .local _ .vmem, ⟨33, _⟩ => ⟨S1x512x128, .bf16⟩
  | .local _ .vmem, ⟨34, _⟩ => ⟨S1x512x128, .bf16⟩
  | .local _ .vmem, ⟨35, _⟩ => ⟨S1x8x512, .f32⟩
  | .local _ .vmem, ⟨36, _⟩ => ⟨S1x8x512, .f32⟩
  | .local _ .vmem, ⟨37, _⟩ => ⟨S520x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_cst_0 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst_1 : Ref sig .tc := ⟨.hbm, 50, rfl⟩
abbrev main_v24 : Ref sig .tc := ⟨.hbm, 51, rfl⟩
abbrev main_v25 : Ref sig .tc := ⟨.hbm, 52, rfl⟩
abbrev main_cst_2 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44_0 : Ref sig .tc := ⟨.hbm, 72, rfl⟩
abbrev main_v44_1 : Ref sig .tc := ⟨.hbm, 73, rfl⟩
abbrev main_v44_2 : Ref sig .tc := ⟨.hbm, 74, rfl⟩
abbrev main_v44_3 : Ref sig .tc := ⟨.hbm, 75, rfl⟩
abbrev main_v44_4 : Ref sig .tc := ⟨.hbm, 76, rfl⟩
abbrev main_v44_5 : Ref sig .tc := ⟨.hbm, 77, rfl⟩
abbrev main_v44_6 : Ref sig .tc := ⟨.hbm, 78, rfl⟩
abbrev main_v44_7 : Ref sig .tc := ⟨.hbm, 79, rfl⟩
abbrev main_v44_8 : Ref sig .tc := ⟨.hbm, 80, rfl⟩
abbrev main_v44_9 : Ref sig .tc := ⟨.hbm, 81, rfl⟩
abbrev main_v44_10 : Ref sig .tc := ⟨.hbm, 82, rfl⟩
abbrev main_v44_11 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg21_1 : Ref sig .tc := ⟨.vmem, 36, rfl⟩
abbrev cc0_scratch0 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35
abbrev cc0_sem21_1 : DmaSem sig := 36

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3968 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S3x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x512x64 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x128x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x128x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x128 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x8x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, false]
-- ==== Reference2Ideal.lean ====
abbrev S4x8192x1024 : Shape := ⟨3, ![4, 8192, 1024]⟩
abbrev S1024 : Shape := ⟨1, ![1024]⟩
abbrev S1024x3864 : Shape := ⟨2, ![1024, 3864]⟩
abbrev S3x512 : Shape := ⟨2, ![3, 512]⟩
abbrev S512 : Shape := ⟨1, ![512]⟩
abbrev S64 : Shape := ⟨1, ![64]⟩
abbrev S3x64 : Shape := ⟨2, ![3, 64]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x3864 : Shape := ⟨3, ![4, 8192, 3864]⟩
abbrev S4x8192x512 : Shape := ⟨3, ![4, 8192, 512]⟩
abbrev S4x8192x8x64 : Shape := ⟨4, ![4, 8192, 8, 64]⟩
abbrev S4x8192x768 : Shape := ⟨3, ![4, 8192, 768]⟩
abbrev S4x8192x3x4x64 : Shape := ⟨5, ![4, 8192, 3, 4, 64]⟩
abbrev S4x8192x24 : Shape := ⟨3, ![4, 8192, 24]⟩
abbrev S8192 : Shape := ⟨1, ![8192]⟩
abbrev S4x8192x3x2x64 : Shape := ⟨5, ![4, 8192, 3, 2, 64]⟩
abbrev S3x1x64 : Shape := ⟨3, ![3, 1, 64]⟩
abbrev S4x8192x3x2 : Shape := ⟨4, ![4, 8192, 3, 2]⟩
abbrev S4x8192x3x2x1 : Shape := ⟨5, ![4, 8192, 3, 2, 1]⟩
abbrev S1x1x3x1x64 : Shape := ⟨5, ![1, 1, 3, 1, 64]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S1x8192x1x1x32 : Shape := ⟨5, ![1, 8192, 1, 1, 32]⟩
abbrev S4x8192x3x2x32 : Shape := ⟨5, ![4, 8192, 3, 2, 32]⟩
abbrev S4x8192x3x128 : Shape := ⟨4, ![4, 8192, 3, 128]⟩
abbrev S4x8192x3x256 : Shape := ⟨4, ![4, 8192, 3, 256]⟩
abbrev S4x8192x1x256 : Shape := ⟨4, ![4, 8192, 1, 256]⟩
abbrev S4x8192x256 : Shape := ⟨3, ![4, 8192, 256]⟩
abbrev S4x8x512 : Shape := ⟨3, ![4, 8, 512]⟩
abbrev S4x3x128x8192 : Shape := ⟨4, ![4, 3, 128, 8192]⟩
abbrev S4x8192x128 : Shape := ⟨3, ![4, 8192, 128]⟩
abbrev S4x8192x8 : Shape := ⟨3, ![4, 8192, 8]⟩
abbrev S4x8192x8x1 : Shape := ⟨4, ![4, 8192, 8, 1]⟩
abbrev S1x1x1x64 : Shape := ⟨4, ![1, 1, 1, 64]⟩
abbrev S1x8192x1x32 : Shape := ⟨4, ![1, 8192, 1, 32]⟩
abbrev S4x8192x8x32 : Shape := ⟨4, ![4, 8192, 8, 32]⟩
abbrev S4x8x8192x64 : Shape := ⟨4, ![4, 8, 8192, 64]⟩
abbrev S4x1x128x8192 : Shape := ⟨4, ![4, 1, 128, 8192]⟩
abbrev S4x128x8192 : Shape := ⟨3, ![4, 128, 8192]⟩
abbrev S4x8192x1x128 : Shape := ⟨4, ![4, 8192, 1, 128]⟩

abbrev nBuf : Space → Nat
  | .hbm => 177
  | .vmem => 0
  | .smem => 0
  | _ => 0

abbrev hbmTy0_0 (i : Nat) : BufTy := match i % 128 with
  | 0 => ⟨S4x8192x1024, .f32⟩
  | 1 => ⟨S1024, .f32⟩
  | 2 => ⟨S1024x3864, .f32⟩
  | 3 => ⟨S3x512, .f32⟩
  | 4 => ⟨S512, .f32⟩
  | 5 => ⟨S64, .f32⟩
  | 6 => ⟨S3x64, .f32⟩
  | 7 => ⟨S4x8192x1024, .f32⟩
  | 8 => ⟨S_, .f32⟩
  | 9 => ⟨S4x8192, .f32⟩
  | 10 => ⟨S4x8192x1, .f32⟩
  | 11 => ⟨S_, .f32⟩
  | 12 => ⟨S4x8192x1, .f32⟩
  | 13 => ⟨S4x8192x1, .f32⟩
  | 14 => ⟨S_, .f32⟩
  | 15 => ⟨S4x8192x1, .f32⟩
  | 16 => ⟨S4x8192x1, .f32⟩
  | 17 => ⟨S4x8192x1, .f32⟩
  | 18 => ⟨S4x8192x1024, .f32⟩
  | 19 => ⟨S4x8192x1024, .f32⟩
  | 20 => ⟨S1x1x1024, .f32⟩
  | 21 => ⟨S4x8192x1024, .f32⟩
  | 22 => ⟨S4x8192x1024, .f32⟩
  | 23 => ⟨S4x8192x3864, .f32⟩
  | 24 => ⟨S4x8192x512, .f32⟩
  | 25 => ⟨S4x8192x512, .f32⟩
  | 26 => ⟨S4x8192x512, .f32⟩
  | 27 => ⟨S4x8192x8x64, .f32⟩
  | 28 => ⟨S4x8192x768, .f32⟩
  | 29 => ⟨S4x8192x3x4x64, .f32⟩
  | 30 => ⟨S4x8192x24, .f32⟩
  | 31 => ⟨S4x8192x512, .f32⟩
  | 32 => ⟨S8192, .i32⟩
  | 33 => ⟨S4x8192x3x2x64, .f32⟩
  | 34 => ⟨S3x1x64, .f32⟩
  | 35 => ⟨S4x8192x3x2x64, .f32⟩
  | 36 => ⟨S_, .f32⟩
  | 37 => ⟨S4x8192x3x2, .f32⟩
  | 38 => ⟨S4x8192x3x2x1, .f32⟩
  | 39 => ⟨S_, .f32⟩
  | 40 => ⟨S4x8192x3x2x1, .f32⟩
  | 41 => ⟨S4x8192x3x2x1, .f32⟩
  | 42 => ⟨S_, .f32⟩
  | 43 => ⟨S4x8192x3x2x1, .f32⟩
  | 44 => ⟨S4x8192x3x2x1, .f32⟩
  | 45 => ⟨S4x8192x3x2x1, .f32⟩
  | 46 => ⟨S4x8192x3x2x64, .f32⟩
  | 47 => ⟨S4x8192x3x2x64, .f32⟩
  | 48 => ⟨S1x1x3x1x64, .f32⟩
  | 49 => ⟨S4x8192x3x2x64, .f32⟩
  | 50 => ⟨S4x8192x3x2x64, .f32⟩
  | 51 => ⟨S32, .f32⟩
  | 52 => ⟨S32, .f32⟩
  | 53 => ⟨S_, .f32⟩
  | 54 => ⟨S32, .f32⟩
  | 55 => ⟨S32, .f32⟩
  | 56 => ⟨S_, .f32⟩
  | 57 => ⟨S32, .f32⟩
  | 58 => ⟨S32, .f32⟩
  | 59 => ⟨S8192, .f32⟩
  | 60 => ⟨S8192x1, .f32⟩
  | 61 => ⟨S1x32, .f32⟩
  | 62 => ⟨S8192x32, .f32⟩
  | 63 => ⟨S8192x32, .f32⟩
  | 64 => ⟨S8192x32, .f32⟩
  | 65 => ⟨S8192x32, .f32⟩
  | 66 => ⟨S1x8192x1x1x32, .f32⟩
  | 67 => ⟨S8192x32, .f32⟩
  | 68 => ⟨S1x8192x1x1x32, .f32⟩
  | 69 => ⟨S4x8192x3x2x32, .f32⟩
  | 70 => ⟨S4x8192x3x2x32, .f32⟩
  | 71 => ⟨S4x8192x3x2x32, .f32⟩
  | 72 => ⟨S4x8192x3x2x32, .f32⟩
  | 73 => ⟨S4x8192x3x2x32, .f32⟩
  | 74 => ⟨S4x8192x3x2x32, .f32⟩
  | 75 => ⟨S4x8192x3x2x32, .f32⟩
  | 76 => ⟨S4x8192x3x2x32, .f32⟩
  | 77 => ⟨S4x8192x3x2x32, .f32⟩
  | 78 => ⟨S4x8192x3x2x32, .f32⟩
  | 79 => ⟨S4x8192x3x2x32, .f32⟩
  | 80 => ⟨S4x8192x3x2x32, .f32⟩
  | 81 => ⟨S4x8192x3x2x64, .f32⟩
  | 82 => ⟨S4x8192x3x128, .f32⟩
  | 83 => ⟨S4x8192x3x2x64, .f32⟩
  | 84 => ⟨S4x8192x3x128, .f32⟩
  | 85 => ⟨S4x8192x3x256, .f32⟩
  | 86 => ⟨S4x8192x1x256, .f32⟩
  | 87 => ⟨S4x8192x256, .f32⟩
  | 88 => ⟨S4x8192x1x256, .f32⟩
  | 89 => ⟨S4x8192x256, .f32⟩
  | 90 => ⟨S4x8192x1x256, .f32⟩
  | 91 => ⟨S4x8192x256, .f32⟩
  | 92 => ⟨S4x8192x512, .f32⟩
  | 93 => ⟨S4x8x512, .f32⟩
  | 94 => ⟨S4x3x128x8192, .f32⟩
  | 95 => ⟨S4x3x128x8192, .bf16⟩
  | 96 => ⟨S4x8192x3x128, .bf16⟩
  | 97 => ⟨S_, .i32⟩
  | 98 => ⟨S_, .f32⟩
  | 99 => ⟨S4x8192x128, .f32⟩
  | 100 => ⟨S4x8192x128, .f32⟩
  | 101 => ⟨S4x8192x128, .f32⟩
  | 102 => ⟨S_, .f32⟩
  | 103 => ⟨S4x8192x128, .f32⟩
  | 104 => ⟨S4x8192x128, .f32⟩
  | 105 => ⟨S_, .f32⟩
  | 106 => ⟨S4x8192x128, .f32⟩
  | 107 => ⟨S4x8192x128, .f32⟩
  | 108 => ⟨S4x8192x512, .f32⟩
  | 109 => ⟨S4x8192x512, .f32⟩
  | 110 => ⟨S_, .f32⟩
  | 111 => ⟨S4x8192x512, .f32⟩
  | 112 => ⟨S4x8192x512, .f32⟩
  | 113 => ⟨S_, .f32⟩
  | 114 => ⟨S4x8192x512, .f32⟩
  | 115 => ⟨S4x8192x512, .f32⟩
  | 116 => ⟨S4x8192x512, .f32⟩
  | 117 => ⟨S4x8192x8x64, .f32⟩
  | 118 => ⟨S_, .f32⟩
  | 119 => ⟨S4x8192x8, .f32⟩
  | 120 => ⟨S4x8192x8x1, .f32⟩
  | 121 => ⟨S_, .f32⟩
  | 122 => ⟨S4x8192x8x1, .f32⟩
  | 123 => ⟨S4x8192x8x1, .f32⟩
  | 124 => ⟨S_, .f32⟩
  | 125 => ⟨S4x8192x8x1, .f32⟩
  | 126 => ⟨S4x8192x8x1, .f32⟩
  | 127 => ⟨S4x8192x8x1, .f32⟩
  | _ => ⟨S4x8192x1024, .f32⟩

abbrev hbmTy0_1 (i : Nat) : BufTy := match i % 128 with
  | 0 => ⟨S4x8192x8x64, .f32⟩
  | 1 => ⟨S4x8192x8x64, .f32⟩
  | 2 => ⟨S1x1x1x64, .f32⟩
  | 3 => ⟨S4x8192x8x64, .f32⟩
  | 4 => ⟨S4x8192x8x64, .f32⟩
  | 5 => ⟨S32, .f32⟩
  | 6 => ⟨S32, .f32⟩
  | 7 => ⟨S_, .f32⟩
  | 8 => ⟨S32, .f32⟩
  | 9 => ⟨S32, .f32⟩
  | 10 => ⟨S_, .f32⟩
  | 11 => ⟨S32, .f32⟩
  | 12 => ⟨S32, .f32⟩
  | 13 => ⟨S8192, .f32⟩
  | 14 => ⟨S8192x1, .f32⟩
  | 15 => ⟨S1x32, .f32⟩
  | 16 => ⟨S8192x32, .f32⟩
  | 17 => ⟨S8192x32, .f32⟩
  | 18 => ⟨S8192x32, .f32⟩
  | 19 => ⟨S8192x32, .f32⟩
  | 20 => ⟨S1x8192x1x32, .f32⟩
  | 21 => ⟨S8192x32, .f32⟩
  | 22 => ⟨S1x8192x1x32, .f32⟩
  | 23 => ⟨S4x8192x8x32, .f32⟩
  | 24 => ⟨S4x8192x8x32, .f32⟩
  | 25 => ⟨S4x8192x8x32, .f32⟩
  | 26 => ⟨S4x8192x8x32, .f32⟩
  | 27 => ⟨S4x8192x8x32, .f32⟩
  | 28 => ⟨S4x8192x8x32, .f32⟩
  | 29 => ⟨S4x8192x8x32, .f32⟩
  | 30 => ⟨S4x8192x8x32, .f32⟩
  | 31 => ⟨S4x8192x8x32, .f32⟩
  | 32 => ⟨S4x8192x8x32, .f32⟩
  | 33 => ⟨S4x8192x8x32, .f32⟩
  | 34 => ⟨S4x8192x8x32, .f32⟩
  | 35 => ⟨S4x8192x8x64, .f32⟩
  | 36 => ⟨S_, .f32⟩
  | 37 => ⟨S4x8192x8x64, .f32⟩
  | 38 => ⟨S4x8192x8x64, .f32⟩
  | 39 => ⟨S4x8x8192x64, .f32⟩
  | 40 => ⟨S4x8x8192x64, .bf16⟩
  | 41 => ⟨S4x1x128x8192, .bf16⟩
  | 42 => ⟨S4x128x8192, .bf16⟩
  | 43 => ⟨S4x1x128x8192, .bf16⟩
  | 44 => ⟨S4x128x8192, .bf16⟩
  | 45 => ⟨S4x8192x1x128, .bf16⟩
  | 46 => ⟨S4x8192x128, .bf16⟩
  | 47 => ⟨S4x8192x1x128, .bf16⟩
  | 48 => ⟨S4x8192x128, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_c : Ref sig .tc := ⟨.hbm, 97, rfl⟩
abbrev main_call0_v0 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_cst_7 : Ref sig .tc := ⟨.hbm, 102, rfl⟩
abbrev main_v85 : Ref sig .tc := ⟨.hbm, 103, rfl⟩
abbrev main_v86 : Ref sig .tc := ⟨.hbm, 104, rfl⟩
abbrev main_cst_8 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_cst_9 : Ref sig .tc := ⟨.hbm, 110, rfl⟩
abbrev main_v91 : Ref sig .tc := ⟨.hbm, 111, rfl⟩
abbrev main_v92 : Ref sig .tc := ⟨.hbm, 112, rfl⟩
abbrev main_cst_10 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_cst_11 : Ref sig .tc := ⟨.hbm, 118, rfl⟩
abbrev main_v97 : Ref sig .tc := ⟨.hbm, 119, rfl⟩
abbrev main_v98 : Ref sig .tc := ⟨.hbm, 120, rfl⟩
abbrev main_cst_12 : Ref sig .tc := ⟨.hbm, 121, rfl⟩
abbrev main_v99 : Ref sig .tc := ⟨.hbm, 122, rfl⟩
abbrev main_v100 : Ref sig .tc := ⟨.hbm, 123, rfl⟩
abbrev main_cst_13 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_cst_14 : Ref sig .tc := ⟨.hbm, 135, rfl⟩
abbrev main_v111 : Ref sig .tc := ⟨.hbm, 136, rfl⟩
abbrev main_v112 : Ref sig .tc := ⟨.hbm, 137, rfl⟩
abbrev main_cst_15 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_cst_16 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩

abbrev nD : Nat := 1
abbrev τ : Topo := Topo.v7x

variable {F : FTy → Type} [FloatOps F]
-- ==== Kernel3.lean ====
abbrev S32768x1024 : Shape := ⟨2, ![32768, 1024]⟩
abbrev S32768x512 : Shape := ⟨2, ![32768, 512]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 6
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S1024x1024, .bf16⟩
  | .hbm, ⟨5, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S32768x1024 : Shape := ⟨2, ![32768, 1024]⟩
abbrev S32768x512 : Shape := ⟨2, ![32768, 512]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S32768x512, .f32⟩
  | .hbm, ⟨5, _⟩ => ⟨S32768x512, .f32⟩
  | .hbm, ⟨6, _⟩ => ⟨S32768x1024, .f32⟩
  | .hbm, ⟨7, _⟩ => ⟨S32768x1024, .f32⟩
  | .hbm, ⟨8, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel4.lean ====
abbrev S32x1x1024 : Shape := ⟨3, ![32, 1, 1024]⟩
abbrev S1024 : Shape := ⟨1, ![1024]⟩
abbrev S1024x3864 : Shape := ⟨2, ![1024, 3864]⟩
abbrev S3x512 : Shape := ⟨2, ![3, 512]⟩
abbrev S512 : Shape := ⟨1, ![512]⟩
abbrev S64 : Shape := ⟨1, ![64]⟩
abbrev S3x64 : Shape := ⟨2, ![3, 64]⟩
abbrev S32x2x512 : Shape := ⟨3, ![32, 2, 512]⟩
abbrev S_ : Shape := ⟨0, ![]⟩
abbrev S1024x104 : Shape := ⟨2, ![1024, 104]⟩
abbrev S1024x3352 : Shape := ⟨2, ![1024, 3352]⟩
abbrev S1024x512 : Shape := ⟨2, ![1024, 512]⟩
abbrev S1024x3968 : Shape := ⟨2, ![1024, 3968]⟩
abbrev S512x512 : Shape := ⟨2, ![512, 512]⟩
abbrev S1x1024 : Shape := ⟨2, ![1, 1024]⟩
abbrev S1x512 : Shape := ⟨2, ![1, 512]⟩
abbrev S1x64 : Shape := ⟨2, ![1, 64]⟩
abbrev S8x64 : Shape := ⟨2, ![8, 64]⟩
abbrev S1x3x1x64 : Shape := ⟨4, ![1, 3, 1, 64]⟩
abbrev S1x3x2x64 : Shape := ⟨4, ![1, 3, 2, 64]⟩
abbrev S3x128 : Shape := ⟨2, ![3, 128]⟩
abbrev S1 : Shape := ⟨1, ![1]⟩
abbrev S32 : Shape := ⟨1, ![32]⟩
abbrev S1x1 : Shape := ⟨2, ![1, 1]⟩
abbrev S1x32 : Shape := ⟨2, ![1, 32]⟩
abbrev S1x1x1x32 : Shape := ⟨4, ![1, 1, 1, 32]⟩
abbrev S1x1x4x32 : Shape := ⟨4, ![1, 1, 4, 32]⟩
abbrev S1x128 : Shape := ⟨2, ![1, 128]⟩
abbrev S1x1x1x64 : Shape := ⟨4, ![1, 1, 1, 64]⟩
abbrev S1x1x2x64 : Shape := ⟨4, ![1, 1, 2, 64]⟩
abbrev S32x1024 : Shape := ⟨2, ![32, 1024]⟩
abbrev S32x1x512 : Shape := ⟨3, ![32, 1, 512]⟩
abbrev S32x512 : Shape := ⟨2, ![32, 512]⟩
abbrev S32x128 : Shape := ⟨2, ![32, 128]⟩
abbrev S32x256 : Shape := ⟨2, ![32, 256]⟩
abbrev S32x1 : Shape := ⟨2, ![32, 1]⟩
abbrev S1024x2048 : Shape := ⟨2, ![1024, 2048]⟩
abbrev S32x2048 : Shape := ⟨2, ![32, 2048]⟩
abbrev S1024x768 : Shape := ⟨2, ![1024, 768]⟩
abbrev S32x768 : Shape := ⟨2, ![32, 768]⟩
abbrev S128x128 : Shape := ⟨2, ![128, 128]⟩
abbrev S1024x640 : Shape := ⟨2, ![1024, 640]⟩
abbrev S32x640 : Shape := ⟨2, ![32, 640]⟩

abbrev nBuf : Space → Nat
  | .hbm => 86
  | .vmem => 20
  | .smem => 0
  | _ => 0

abbrev bufTy : (tb : Table) → Fin (tcTables nBuf tb) → BufTy
  | .hbm, ⟨0, _⟩ => ⟨S32x1x1024, .f32⟩
  | .hbm, ⟨1, _⟩ => ⟨S1024, .f32⟩
  | .hbm, ⟨2, _⟩ => ⟨S1024x3864, .f32⟩
  | .hbm, ⟨3, _⟩ => ⟨S3x512, .f32⟩
  | .hbm, ⟨4, _⟩ => ⟨S512, .f32⟩
  | .hbm, ⟨5, _⟩ => ⟨S64, .f32⟩
  | .hbm, ⟨6, _⟩ => ⟨S3x64, .f32⟩
  | .hbm, ⟨7, _⟩ => ⟨S32x2x512, .f32⟩
  | .hbm, ⟨8, _⟩ => ⟨S_, .f32⟩
  | .hbm, ⟨9, _⟩ => ⟨S1024x104, .f32⟩
  | .hbm, ⟨10, _⟩ => ⟨S1024x3352, .f32⟩
  | .hbm, ⟨11, _⟩ => ⟨S1024x512, .f32⟩
  | .hbm, ⟨12, _⟩ => ⟨S1024x3968, .f32⟩
  | .hbm, ⟨13, _⟩ => ⟨S512x512, .i32⟩
  | .hbm, ⟨14, _⟩ => ⟨S_, .i32⟩
  | .hbm, ⟨15, _⟩ => ⟨S_, .i32⟩
  | .hbm, ⟨16, _⟩ => ⟨S512x512, .i32⟩
  | .hbm, ⟨17, _⟩ => ⟨S512x512, .i32⟩
  | .hbm, ⟨18, _⟩ => ⟨S512x512, .i32⟩
  | .hbm, ⟨19, _⟩ => ⟨S_, .i32⟩
  | .hbm, ⟨20, _⟩ => ⟨S512x512, .i32⟩
  | .hbm, ⟨21, _⟩ => ⟨S512x512, .i1⟩
  | .hbm, ⟨22, _⟩ => ⟨S512x512, .i32⟩
  | .hbm, ⟨23, _⟩ => ⟨S512x512, .i32⟩
  | .hbm, ⟨24, _⟩ => ⟨S_, .i32⟩
  | .hbm, ⟨25, _⟩ => ⟨S512x512, .i32⟩
  | .hbm, ⟨26, _⟩ => ⟨S512x512, .i1⟩
  | .hbm, ⟨27, _⟩ => ⟨S512x512, .i1⟩
  | .hbm, ⟨28, _⟩ => ⟨S_, .i32⟩
  | .hbm, ⟨29, _⟩ => ⟨S512x512, .i32⟩
  | .hbm, ⟨30, _⟩ => ⟨S512x512, .i32⟩
  | .hbm, ⟨31, _⟩ => ⟨S512x512, .i32⟩
  | .hbm, ⟨32, _⟩ => ⟨S512x512, .i32⟩
  | .hbm, ⟨33, _⟩ => ⟨S512x512, .i1⟩
  | .hbm, ⟨34, _⟩ => ⟨S512x512, .bf16⟩
  | .hbm, ⟨35, _⟩ => ⟨S1x1024, .f32⟩
  | .hbm, ⟨36, _⟩ => ⟨S1024x3968, .bf16⟩
  | .hbm, ⟨37, _⟩ => ⟨S1x512, .f32⟩
  | .hbm, ⟨38, _⟩ => ⟨S_, .f32⟩
  | .hbm, ⟨39, _⟩ => ⟨S64, .f32⟩
  | .hbm, ⟨40, _⟩ => ⟨S64, .f32⟩
  | .hbm, ⟨41, _⟩ => ⟨S1x64, .f32⟩
  | .hbm, ⟨42, _⟩ => ⟨S8x64, .f32⟩
  | .hbm, ⟨43, _⟩ => ⟨S512, .f32⟩
  | .hbm, ⟨44, _⟩ => ⟨S1x512, .f32⟩
  | .hbm, ⟨45, _⟩ => ⟨S1x3x1x64, .f32⟩
  | .hbm, ⟨46, _⟩ => ⟨S1x3x2x64, .f32⟩
  | .hbm, ⟨47, _⟩ => ⟨S3x128, .f32⟩
  | .hbm, ⟨48, _⟩ => ⟨S_, .i32⟩
  | .hbm, ⟨49, _⟩ => ⟨S1, .i32⟩
  | .hbm, ⟨50, _⟩ => ⟨S32, .f32⟩
  | .hbm, ⟨51, _⟩ => ⟨S32, .f32⟩
  | .hbm, ⟨52, _⟩ => ⟨S_, .f32⟩
  | .hbm, ⟨53, _⟩ => ⟨S32, .f32⟩
  | .hbm, ⟨54, _⟩ => ⟨S32, .f32⟩
  | .hbm, ⟨55, _⟩ => ⟨S_, .f32⟩
  | .hbm, ⟨56, _⟩ => ⟨S32, .f32⟩
  | .hbm, ⟨57, _⟩ => ⟨S32, .f32⟩
  | .hbm, ⟨58, _⟩ => ⟨S1, .f32⟩
  | .hbm, ⟨59, _⟩ => ⟨S1x1, .f32⟩
  | .hbm, ⟨60, _⟩ => ⟨S1x32, .f32⟩
  | .hbm, ⟨61, _⟩ => ⟨S1x32, .f32⟩
  | .hbm, ⟨62, _⟩ => ⟨S1x32, .f32⟩
  | .hbm, ⟨63, _⟩ => ⟨S1x32, .f32⟩
  | .hbm, ⟨64, _⟩ => ⟨S1x32, .f32⟩
  | .hbm, ⟨65, _⟩ => ⟨S1x1x1x32, .f32⟩
  | .hbm, ⟨66, _⟩ => ⟨S1x1x4x32, .f32⟩
  | .hbm, ⟨67, _⟩ => ⟨S1x128, .f32⟩
  | .hbm, ⟨68, _⟩ => ⟨S1x32, .f32⟩
  | .hbm, ⟨69, _⟩ => ⟨S1x64, .f32⟩
  | .hbm, ⟨70, _⟩ => ⟨S1x1x1x64, .f32⟩
  | .hbm, ⟨71, _⟩ => ⟨S1x1x2x64, .f32⟩
  | .hbm, ⟨72, _⟩ => ⟨S1x128, .f32⟩
  | .hbm, ⟨73, _⟩ => ⟨S32x1024, .f32⟩
  | .hbm, ⟨74, _⟩ => ⟨S32x1x512, .f32⟩
  | .hbm, ⟨75, _⟩ => ⟨S32x512, .f32⟩
  | .hbm, ⟨76, _⟩ => ⟨S32x1x512, .f32⟩
  | .hbm, ⟨77, _⟩ => ⟨S32x512, .f32⟩
  | .hbm, ⟨78, _⟩ => ⟨S32x512, .bf16⟩
  | .hbm, ⟨79, _⟩ => ⟨S32x512, .f32⟩
  | .hbm, ⟨80, _⟩ => ⟨S32x512, .bf16⟩
  | .hbm, ⟨81, _⟩ => ⟨S32x128, .f32⟩
  | .hbm, ⟨82, _⟩ => ⟨S32x256, .f32⟩
  | .hbm, ⟨83, _⟩ => ⟨S32x256, .f32⟩
  | .hbm, ⟨84, _⟩ => ⟨S32x256, .f32⟩
  | .hbm, ⟨85, _⟩ => ⟨S32x512, .f32⟩
  | .local _ .vmem, ⟨0, _⟩ => ⟨S32x1024, .f32⟩
  | .local _ .vmem, ⟨1, _⟩ => ⟨S1x1024, .f32⟩
  | .local _ .vmem, ⟨2, _⟩ => ⟨S1024x3968, .bf16⟩
  | .local _ .vmem, ⟨3, _⟩ => ⟨S1x128, .f32⟩
  | .local _ .vmem, ⟨4, _⟩ => ⟨S1x128, .f32⟩
  | .local _ .vmem, ⟨5, _⟩ => ⟨S1x512, .f32⟩
  | .local _ .vmem, ⟨6, _⟩ => ⟨S3x128, .f32⟩
  | .local _ .vmem, ⟨7, _⟩ => ⟨S512x512, .bf16⟩
  | .local _ .vmem, ⟨8, _⟩ => ⟨S3x512, .f32⟩
  | .local _ .vmem, ⟨9, _⟩ => ⟨S1x512, .f32⟩
  | .local _ .vmem, ⟨10, _⟩ => ⟨S32x512, .f32⟩
  | .local _ .vmem, ⟨11, _⟩ => ⟨S32x512, .f32⟩
  | .local _ .vmem, ⟨12, _⟩ => ⟨S32x512, .bf16⟩
  | .local _ .vmem, ⟨13, _⟩ => ⟨S32x512, .f32⟩
  | .local _ .vmem, ⟨14, _⟩ => ⟨S32x512, .bf16⟩
  | .local _ .vmem, ⟨15, _⟩ => ⟨S32x128, .f32⟩
  | .local _ .vmem, ⟨16, _⟩ => ⟨S32x256, .f32⟩
  | .local _ .vmem, ⟨17, _⟩ => ⟨S32x256, .f32⟩
  | .local _ .vmem, ⟨18, _⟩ => ⟨S32x256, .f32⟩
  | .local _ .vmem, ⟨19, _⟩ => ⟨S32x512, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_cst_0 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_c_1 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_cst_2 : Ref sig .tc := ⟨.hbm, 52, rfl⟩
abbrev main_v24 : Ref sig .tc := ⟨.hbm, 53, rfl⟩
abbrev main_v25 : Ref sig .tc := ⟨.hbm, 54, rfl⟩
abbrev main_cst_3 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48_0 : Ref sig .tc := ⟨.hbm, 78, rfl⟩
abbrev main_v48_1 : Ref sig .tc := ⟨.hbm, 79, rfl⟩
abbrev main_v48_2 : Ref sig .tc := ⟨.hbm, 80, rfl⟩
abbrev main_v48_3 : Ref sig .tc := ⟨.hbm, 81, rfl⟩
abbrev main_v48_4 : Ref sig .tc := ⟨.hbm, 82, rfl⟩
abbrev main_v48_5 : Ref sig .tc := ⟨.hbm, 83, rfl⟩
abbrev main_v48_6 : Ref sig .tc := ⟨.hbm, 84, rfl⟩
abbrev main_v48_7 : Ref sig .tc := ⟨.hbm, 85, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19

abbrev nD : Nat := 1
abbrev τ : Topo := Topo.v7x

variable {F : FTy → Type} [FloatOps F]

abbrev grid0 : Pipeline.Grid := .none

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x3968 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S32x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S32x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S32x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S32x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S32x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S32x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S32x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S32x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
-- ==== Reference4Ideal.lean ====
abbrev S32x1x1024 : Shape := ⟨3, ![32, 1, 1024]⟩
abbrev S1024 : Shape := ⟨1, ![1024]⟩
abbrev S1024x3864 : Shape := ⟨2, ![1024, 3864]⟩
abbrev S3x512 : Shape := ⟨2, ![3, 512]⟩
abbrev S512 : Shape := ⟨1, ![512]⟩
abbrev S64 : Shape := ⟨1, ![64]⟩
abbrev S3x64 : Shape := ⟨2, ![3, 64]⟩
abbrev S32x2x512 : Shape := ⟨3, ![32, 2, 512]⟩
abbrev S_ : Shape := ⟨0, ![]⟩
abbrev S32x1 : Shape := ⟨2, ![32, 1]⟩
abbrev S32x1x1 : Shape := ⟨3, ![32, 1, 1]⟩
abbrev S1x1x1024 : Shape := ⟨3, ![1, 1, 1024]⟩
abbrev S32x1x3864 : Shape := ⟨3, ![32, 1, 3864]⟩
abbrev S32x1x512 : Shape := ⟨3, ![32, 1, 512]⟩
abbrev S32x1x768 : Shape := ⟨3, ![32, 1, 768]⟩
abbrev S32x1x3x4x64 : Shape := ⟨5, ![32, 1, 3, 4, 64]⟩
abbrev S32x1x24 : Shape := ⟨3, ![32, 1, 24]⟩
abbrev S1 : Shape := ⟨1, ![1]⟩
abbrev S32x1x3x2x64 : Shape := ⟨5, ![32, 1, 3, 2, 64]⟩
abbrev S3x1x64 : Shape := ⟨3, ![3, 1, 64]⟩
abbrev S32x1x3x2 : Shape := ⟨4, ![32, 1, 3, 2]⟩
abbrev S32x1x3x2x1 : Shape := ⟨5, ![32, 1, 3, 2, 1]⟩
abbrev S1x1x3x1x64 : Shape := ⟨5, ![1, 1, 3, 1, 64]⟩
abbrev S32 : Shape := ⟨1, ![32]⟩
abbrev S1x1 : Shape := ⟨2, ![1, 1]⟩
abbrev S1x32 : Shape := ⟨2, ![1, 32]⟩
abbrev S1x1x1x1x32 : Shape := ⟨5, ![1, 1, 1, 1, 32]⟩
abbrev S32x1x3x2x32 : Shape := ⟨5, ![32, 1, 3, 2, 32]⟩
abbrev S32x1x3x128 : Shape := ⟨4, ![32, 1, 3, 128]⟩
abbrev S32x1x3x256 : Shape := ⟨4, ![32, 1, 3, 256]⟩
abbrev S32x1x1x256 : Shape := ⟨4, ![32, 1, 1, 256]⟩
abbrev S32x256 : Shape := ⟨2, ![32, 256]⟩
abbrev S32x3x512 : Shape := ⟨3, ![32, 3, 512]⟩
abbrev S1x512 : Shape := ⟨2, ![1, 512]⟩
abbrev S1x1x512 : Shape := ⟨3, ![1, 1, 512]⟩
abbrev S32x1x128 : Shape := ⟨3, ![32, 1, 128]⟩
abbrev S32x512 : Shape := ⟨2, ![32, 512]⟩
abbrev S32x128 : Shape := ⟨2, ![32, 128]⟩

abbrev nBuf : Space → Nat
  | .hbm => 156
  | .vmem => 0
  | .smem => 0
  | _ => 0

abbrev hbmTy0_0 (i : Nat) : BufTy := match i % 128 with
  | 0 => ⟨S32x1x1024, .f32⟩
  | 1 => ⟨S1024, .f32⟩
  | 2 => ⟨S1024x3864, .f32⟩
  | 3 => ⟨S3x512, .f32⟩
  | 4 => ⟨S512, .f32⟩
  | 5 => ⟨S64, .f32⟩
  | 6 => ⟨S3x64, .f32⟩
  | 7 => ⟨S32x2x512, .f32⟩
  | 8 => ⟨S32x1x1024, .f32⟩
  | 9 => ⟨S_, .f32⟩
  | 10 => ⟨S32x1, .f32⟩
  | 11 => ⟨S32x1x1, .f32⟩
  | 12 => ⟨S_, .f32⟩
  | 13 => ⟨S32x1x1, .f32⟩
  | 14 => ⟨S32x1x1, .f32⟩
  | 15 => ⟨S_, .f32⟩
  | 16 => ⟨S32x1x1, .f32⟩
  | 17 => ⟨S32x1x1, .f32⟩
  | 18 => ⟨S32x1x1, .f32⟩
  | 19 => ⟨S32x1x1024, .f32⟩
  | 20 => ⟨S32x1x1024, .f32⟩
  | 21 => ⟨S1x1x1024, .f32⟩
  | 22 => ⟨S32x1x1024, .f32⟩
  | 23 => ⟨S32x1x1024, .f32⟩
  | 24 => ⟨S32x1x3864, .f32⟩
  | 25 => ⟨S32x1x512, .f32⟩
  | 26 => ⟨S32x1x512, .f32⟩
  | 27 => ⟨S32x1x512, .f32⟩
  | 28 => ⟨S32x1x512, .f32⟩
  | 29 => ⟨S32x1x768, .f32⟩
  | 30 => ⟨S32x1x3x4x64, .f32⟩
  | 31 => ⟨S32x1x24, .f32⟩
  | 32 => ⟨S32x1x512, .f32⟩
  | 33 => ⟨S1, .i32⟩
  | 34 => ⟨S_, .i32⟩
  | 35 => ⟨S1, .i32⟩
  | 36 => ⟨S1, .i32⟩
  | 37 => ⟨S32x1x3x2x64, .f32⟩
  | 38 => ⟨S3x1x64, .f32⟩
  | 39 => ⟨S32x1x3x2x64, .f32⟩
  | 40 => ⟨S_, .f32⟩
  | 41 => ⟨S32x1x3x2, .f32⟩
  | 42 => ⟨S32x1x3x2x1, .f32⟩
  | 43 => ⟨S_, .f32⟩
  | 44 => ⟨S32x1x3x2x1, .f32⟩
  | 45 => ⟨S32x1x3x2x1, .f32⟩
  | 46 => ⟨S_, .f32⟩
  | 47 => ⟨S32x1x3x2x1, .f32⟩
  | 48 => ⟨S32x1x3x2x1, .f32⟩
  | 49 => ⟨S32x1x3x2x1, .f32⟩
  | 50 => ⟨S32x1x3x2x64, .f32⟩
  | 51 => ⟨S32x1x3x2x64, .f32⟩
  | 52 => ⟨S1x1x3x1x64, .f32⟩
  | 53 => ⟨S32x1x3x2x64, .f32⟩
  | 54 => ⟨S32x1x3x2x64, .f32⟩
  | 55 => ⟨S32, .f32⟩
  | 56 => ⟨S32, .f32⟩
  | 57 => ⟨S_, .f32⟩
  | 58 => ⟨S32, .f32⟩
  | 59 => ⟨S32, .f32⟩
  | 60 => ⟨S_, .f32⟩
  | 61 => ⟨S32, .f32⟩
  | 62 => ⟨S32, .f32⟩
  | 63 => ⟨S1, .f32⟩
  | 64 => ⟨S1x1, .f32⟩
  | 65 => ⟨S1x32, .f32⟩
  | 66 => ⟨S1x32, .f32⟩
  | 67 => ⟨S1x32, .f32⟩
  | 68 => ⟨S1x32, .f32⟩
  | 69 => ⟨S1x1x1x1x32, .f32⟩
  | 70 => ⟨S1x32, .f32⟩
  | 71 => ⟨S1x1x1x1x32, .f32⟩
  | 72 => ⟨S32x1x3x2x32, .f32⟩
  | 73 => ⟨S32x1x3x2x32, .f32⟩
  | 74 => ⟨S32x1x3x2x32, .f32⟩
  | 75 => ⟨S32x1x3x2x32, .f32⟩
  | 76 => ⟨S32x1x3x2x32, .f32⟩
  | 77 => ⟨S32x1x3x2x32, .f32⟩
  | 78 => ⟨S32x1x3x2x32, .f32⟩
  | 79 => ⟨S32x1x3x2x32, .f32⟩
  | 80 => ⟨S32x1x3x2x32, .f32⟩
  | 81 => ⟨S32x1x3x2x32, .f32⟩
  | 82 => ⟨S32x1x3x2x32, .f32⟩
  | 83 => ⟨S32x1x3x2x32, .f32⟩
  | 84 => ⟨S32x1x3x2x64, .f32⟩
  | 85 => ⟨S32x1x3x128, .f32⟩
  | 86 => ⟨S32x1x3x2x64, .f32⟩
  | 87 => ⟨S32x1x3x128, .f32⟩
  | 88 => ⟨S32x1x3x256, .f32⟩
  | 89 => ⟨S32x1x1x256, .f32⟩
  | 90 => ⟨S32x256, .f32⟩
  | 91 => ⟨S32x1x1x256, .f32⟩
  | 92 => ⟨S32x256, .f32⟩
  | 93 => ⟨S32x1x1x256, .f32⟩
  | 94 => ⟨S32x256, .f32⟩
  | 95 => ⟨S32x1x512, .f32⟩
  | 96 => ⟨S32x3x512, .f32⟩
  | 97 => ⟨S1x512, .f32⟩
  | 98 => ⟨S512, .f32⟩
  | 99 => ⟨S32x1x512, .f32⟩
  | 100 => ⟨S1x1x512, .f32⟩
  | 101 => ⟨S32x1x512, .f32⟩
  | 102 => ⟨S32x1x512, .f32⟩
  | 103 => ⟨S1x512, .f32⟩
  | 104 => ⟨S512, .f32⟩
  | 105 => ⟨S32x1x512, .f32⟩
  | 106 => ⟨S1x1x512, .f32⟩
  | 107 => ⟨S32x1x512, .f32⟩
  | 108 => ⟨S32x1x512, .f32⟩
  | 109 => ⟨S32x1x512, .f32⟩
  | 110 => ⟨S1x512, .f32⟩
  | 111 => ⟨S512, .f32⟩
  | 112 => ⟨S32x1x512, .f32⟩
  | 113 => ⟨S1x1x512, .f32⟩
  | 114 => ⟨S32x1x512, .f32⟩
  | 115 => ⟨S32x1x512, .f32⟩
  | 116 => ⟨S32x1x512, .f32⟩
  | 117 => ⟨S1x1x512, .f32⟩
  | 118 => ⟨S32x1x512, .f32⟩
  | 119 => ⟨S32x1x512, .f32⟩
  | 120 => ⟨S32x1x512, .f32⟩
  | 121 => ⟨S32x1x512, .f32⟩
  | 122 => ⟨S32x1x512, .f32⟩
  | 123 => ⟨S_, .f32⟩
  | 124 => ⟨S32x1x512, .f32⟩
  | 125 => ⟨S32x1x512, .f32⟩
  | 126 => ⟨S_, .f32⟩
  | 127 => ⟨S32x1x512, .f32⟩
  | _ => ⟨S32x1x1024, .f32⟩

abbrev hbmTy0_1 (i : Nat) : BufTy := match i % 128 with
  | 0 => ⟨S32x1x512, .f32⟩
  | 1 => ⟨S32x1x512, .f32⟩
  | 2 => ⟨S32x1x512, .f32⟩
  | 3 => ⟨S32x1x512, .bf16⟩
  | 4 => ⟨S_, .i32⟩
  | 5 => ⟨S_, .f32⟩
  | 6 => ⟨S32x1x128, .f32⟩
  | 7 => ⟨S32x1x128, .f32⟩
  | 8 => ⟨S32x1x128, .f32⟩
  | 9 => ⟨S_, .f32⟩
  | 10 => ⟨S32x1x128, .f32⟩
  | 11 => ⟨S32x1x128, .f32⟩
  | 12 => ⟨S_, .f32⟩
  | 13 => ⟨S32x1x128, .f32⟩
  | 14 => ⟨S32x1x128, .f32⟩
  | 15 => ⟨S32x1x512, .f32⟩
  | 16 => ⟨S32x1x512, .f32⟩
  | 17 => ⟨S_, .f32⟩
  | 18 => ⟨S32x1x512, .f32⟩
  | 19 => ⟨S32x1x512, .f32⟩
  | 20 => ⟨S_, .f32⟩
  | 21 => ⟨S32x1x512, .f32⟩
  | 22 => ⟨S32x1x512, .f32⟩
  | 23 => ⟨S32x1x512, .f32⟩
  | 24 => ⟨S32x512, .f32⟩
  | 25 => ⟨S32x512, .bf16⟩
  | 26 => ⟨S32x512, .f32⟩
  | 27 => ⟨S32x128, .f32⟩
  | _ => ⟨S32x1x1024, .f32⟩

abbrev hbmTy (i : Nat) : BufTy := match i / 128 with
  | 0 => hbmTy0_0 i
  | 1 => hbmTy0_1 i
  | _ => ⟨S32x1x1024, .f32⟩

abbrev bufTy : (tb : Table) → Fin (tcTables nBuf tb) → BufTy
  | .hbm, ⟨i, _⟩ => hbmTy i
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_5 : Ref sig .tc := ⟨.hbm, 57, rfl⟩
abbrev main_v42 : Ref sig .tc := ⟨.hbm, 58, rfl⟩
abbrev main_v43 : Ref sig .tc := ⟨.hbm, 59, rfl⟩
abbrev main_cst_6 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_cst_7 : Ref sig .tc := ⟨.hbm, 123, rfl⟩
abbrev main_v106 : Ref sig .tc := ⟨.hbm, 124, rfl⟩
abbrev main_v107 : Ref sig .tc := ⟨.hbm, 125, rfl⟩
abbrev main_cst_8 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_c_9 : Ref sig .tc := ⟨.hbm, 132, rfl⟩
abbrev main_call0_v0 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_cst_10 : Ref sig .tc := ⟨.hbm, 137, rfl⟩
abbrev main_v116 : Ref sig .tc := ⟨.hbm, 138, rfl⟩
abbrev main_v117 : Ref sig .tc := ⟨.hbm, 139, rfl⟩
abbrev main_cst_11 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_cst_12 : Ref sig .tc := ⟨.hbm, 145, rfl⟩
abbrev main_v122 : Ref sig .tc := ⟨.hbm, 146, rfl⟩
abbrev main_v123 : Ref sig .tc := ⟨.hbm, 147, rfl⟩
abbrev main_cst_13 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩

abbrev nD : Nat := 1
abbrev τ : Topo := Topo.v7x

variable {F : FTy → Type} [FloatOps F]
-- ==== Proof.Run.lean ====
/-
  The kernel's body, run once for both of its cases.  The first part of the body fills the key scratch when the
  batch's first query block is met and leaves it alone otherwise; either way the scratch then holds the same array
  (`kta`): the block one-hot rows on top of the batch's selection keys, once per key/value head.  The rest of the
  body reads that array and stores the output block whole.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Exec
public import Idealize.ShloMosaic.Lib.WholeRead
public import Idealize.ShloMosaic.Lib.Pointwise
public import Idealize.ShloMosaic.Lib.WritesUnit

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The logic's resources, as the generated frame kit takes them. -/
local notation "𝕄" => MT nD τ sig Unit (Elt F) ℕ (UR sig nD τ) ℕ

/-- The body's branch condition: this is the batch's first query block. -/
abbrev first (i : grid0.Coords) : Prop := (Scalar.cmpi .ne (Scalar.extui (Scalar.cmpi .eq (BitVec.ofNat 32 (i 1).val) 0#32)) 0#32) = 1#1

/-- What the key scratch holds after the body's first part, from the one-hot rows `e` and the batch's selection keys `k`:
    per head the 128 one-hot rows, then the head's 64 key rows. -/
def kta (e : Vec F S128x8192 .bf16) (k : Vec F S1x128x8192 .bf16) : Vec F S2x192x8192 .bf16 := fun y =>
  if h : (y 1).val < 128 then e (fun a => match a with | ⟨0, _⟩ => ⟨(y 1).val, h⟩ | ⟨1, _⟩ => y 2)
  else k (fun a => match a with
    | ⟨0, _⟩ => ⟨0, Nat.one_pos⟩
    | ⟨1, _⟩ => ⟨(y 0).val * 64 + ((y 1).val - 128), by
        have h0 : (y 0).val < 2 := (y 0).isLt
        have h1 : (y 1).val < 192 := (y 1).isLt
        show _ < 128; omega⟩
    | ⟨2, _⟩ => y 2)

theorem pay_head (v : Vec F S128x8192 .bf16) (a : Fin 1) (b : Fin 128) (k : Fin 8192) : k0_pay2 v (ix3 a b k) = v (ix2 b k) := by
  pointwise [k0_pay2]
theorem pay_head' (v : Vec F S128x8192 .bf16) (a : Fin 1) (b : Fin 128) (k : Fin 8192) : k0_pay4 v (ix3 a b k) = v (ix2 b k) := by
  pointwise [k0_pay4]
theorem pay_key (v : Vec F S1x64x8192 .bf16) (a : Fin 1) (b : Fin 64) (k : Fin 8192) : k0_pay3 v (ix3 a b k) = v (ix3 a b k) := by
  pointwise [k0_pay3]
theorem pay_key' (v : Vec F S1x64x8192 .bf16) (a : Fin 1) (b : Fin 64) (k : Fin 8192) : k0_pay5 v (ix3 a b k) = v (ix3 a b k) := by
  pointwise [k0_pay5]

/-- The four stores of the body's first part leave `kta` in the scratch, whatever it held: two store the one-hot rows, two
    a head's key rows. -/
theorem read_stores (v : View sig .tc .vmem S2x192x8192 .bf16) (fs : v.ty.Contents (Elt F))
    (x5 : Vec F S1x128x8192 .bf16) (x9 : Vec F S128x8192 .bf16) (w1 w3 : FVec F S1x64x8192 .bf16) (w2 w4 : FVec F S1x128x8192 .bf16)
    (h1 : ∀ (a : Fin 1) (b : Fin 64) (k : Fin 8192), w1 (ix3 a b k) = x5 (ix3 0 ⟨64 + b.val, by omega⟩ k))
    (h2 : ∀ (a : Fin 1) (b : Fin 128) (k : Fin 8192), w2 (ix3 a b k) = x9 (ix2 b k))
    (h3 : ∀ (a : Fin 1) (b : Fin 64) (k : Fin 8192), w3 (ix3 a b k) = x5 (ix3 0 ⟨b.val, by omega⟩ k))
    (h4 : ∀ (a : Fin 1) (b : Fin 128) (k : Fin 8192), w4 (ix3 a b k) = x9 (ix2 b k)) :
    View.read (Elt F) v (v.writes (Elt F) fs
      [⟨Rect.unit (s := S2x192x8192) ![1, 128, 0] S1x64x8192.size inb_S2x192x8192_S1x64x8192_1_128_0, w1⟩,
        ⟨Rect.unit (s := S2x192x8192) ![1, 0, 0] S1x128x8192.size inb_S2x192x8192_S1x128x8192_1_0_0, w2⟩,
        ⟨Rect.unit (s := S2x192x8192) ![0, 128, 0] S1x64x8192.size inb_S2x192x8192_S1x64x8192_0_128_0, w3⟩,
        ⟨Rect.unit (s := S2x192x8192) ![0, 0, 0] S1x128x8192.size inb_S2x192x8192_S1x128x8192_0_0_0, w4⟩])
      = kta x9 x5 := by
  funext y
  idx_vars y
  have hk : ∀ (a : Fin 2) (b : Fin 192) (k : Fin 8192), kta x9 x5 (ix3 a b k)
      = if h : b.val < 128 then x9 (ix2 ⟨b.val, h⟩ k) else x5 (ix3 0 ⟨a.val * 64 + (b.val - 128), by omega⟩ k) := by
    intro a b k
    show (if h : b.val < 128 then _ else _) = _
    split
    · refine congrArg x9 (funext fun a => ?_); match a with | ⟨0, _⟩ => rfl | ⟨1, _⟩ => rfl
    · refine congrArg x5 (funext fun a => ?_); match a with | ⟨0, _⟩ => rfl | ⟨1, _⟩ => rfl | ⟨2, _⟩ => rfl
  rw [hk]
  by_cases hy0 : y0.val = 0
  · refine (View.read_writes_cons_unit_of_not_mem v fs _ _ _ _ rfl 0 (Or.inl (by show y0.val < 1; omega))).trans ((View.read_writes_cons_unit_of_not_mem v fs _ _ _ _ rfl 0 (Or.inl (by show y0.val < 1; omega))).trans ?_)
    by_cases hy1 : y1.val < 128
    · refine (View.read_writes_cons_unit_of_not_mem v fs _ _ _ _ rfl 1 (Or.inl (by show y1.val < 128; omega))).trans ((View.read_writes_cons_unit_of_mem v fs _ _ _ _ (ix3 (0 : Fin 1) (⟨y1.val, by omega⟩ : Fin 128) y2) rfl (by
        intro a
        match a with
        | ⟨0, _⟩ => show y0.val = 0 + 0; omega
        | ⟨1, _⟩ => show y1.val = 0 + (y1.val); omega
        | ⟨2, _⟩ => show y2.val = 0 + y2.val; omega)).trans ?_)
      rw [dif_pos hy1]; exact h4 _ _ _
    · refine (View.read_writes_cons_unit_of_mem v fs _ _ _ _ (ix3 (0 : Fin 1) (⟨y1.val - 128, by omega⟩ : Fin 64) y2) rfl (by
        intro a
        match a with
        | ⟨0, _⟩ => show y0.val = 0 + 0; omega
        | ⟨1, _⟩ => show y1.val = 128 + (y1.val - 128); omega
        | ⟨2, _⟩ => show y2.val = 0 + y2.val; omega)).trans ?_
      rw [dif_neg hy1]
      refine (h3 _ _ _).trans (congrArg x5 ?_)
      congr 1; apply Fin.ext; show y1.val - 128 = y0.val * 64 + (y1.val - 128); omega
  · by_cases hy1 : y1.val < 128
    · refine (View.read_writes_cons_unit_of_not_mem v fs _ _ _ _ rfl 1 (Or.inl (by show y1.val < 128; omega))).trans ((View.read_writes_cons_unit_of_mem v fs _ _ _ _ (ix3 (0 : Fin 1) (⟨y1.val, by omega⟩ : Fin 128) y2) rfl (by
        intro a
        match a with
        | ⟨0, _⟩ => show y0.val = 1 + 0; omega
        | ⟨1, _⟩ => show y1.val = 0 + (y1.val); omega
        | ⟨2, _⟩ => show y2.val = 0 + y2.val; omega)).trans ?_)
      rw [dif_pos hy1]; exact h2 _ _ _
    · refine (View.read_writes_cons_unit_of_mem v fs _ _ _ _ (ix3 (0 : Fin 1) (⟨y1.val - 128, by omega⟩ : Fin 64) y2) rfl (by
        intro a
        match a with
        | ⟨0, _⟩ => show y0.val = 1 + 0; omega
        | ⟨1, _⟩ => show y1.val = 128 + (y1.val - 128); omega
        | ⟨2, _⟩ => show y2.val = 0 + y2.val; omega)).trans ?_
      rw [dif_neg hy1]
      refine (h1 _ _ _).trans (congrArg x5 ?_)
      congr 1; apply Fin.ext; show 64 + (y1.val - 128) = y0.val * 64 + (y1.val - 128); omega

set_option maxHeartbeats 2000000 in
/-- THE FIRST PART: from the scratch at anything when this is the batch's first block, at `kta` otherwise, to the scratch at
    `kta`; the values it returns are the run's own find. -/
def part1 (c : Dev nD) (i : grid0.Coords) (arg2 : Memref sig .tc .vmem S1x8x128x64 .bf16) (harg2 : arg2.IsWhole) (arg3 : Memref sig .tc .vmem S1x128x128 .f32) (harg3 : arg3.IsWhole) (arg4 : Memref sig .tc .vmem S1x128x512 .f32) (harg4 : arg4.IsWhole) (arg5 : Memref sig .tc .vmem S1x128x256 .bf16) (harg5 : arg5.IsWhole) (arg6 : Memref sig .tc .vmem S1x256x128 .bf16) (harg6 : arg6.IsWhole) (arg7 : Memref sig .tc .vmem S1x128x8192 .bf16) (harg7 : arg7.IsWhole) (arg8 : Memref sig .tc .vmem S1x8192x128 .bf16) (harg8 : arg8.IsWhole) (arg9 : Memref sig .tc .vmem S1x128x8192 .bf16) (harg9 : arg9.IsWhole) (arg10 : Memref sig .tc .vmem S1x8192x128 .bf16) (harg10 : arg10.IsWhole) (arg11 : Memref sig .tc .vmem S128x8192 .bf16) (harg11 : arg11.IsWhole) (arg12 : Memref sig .tc .vmem S1x128x512 .bf16) (harg12 : arg12.IsWhole) (arg13 : Memref sig .tc .vmem S2x192x8192 .bf16) (harg13 : arg13.IsWhole) (arg14 : Memref sig .tc .vmem S512x192 .bf16) (harg14 : arg14.IsWhole) (x1 : Vec F S1x128x128 .f32) (x5 : Vec F S1x128x8192 .bf16) (x9 : Vec F S128x8192 .bf16) :
    { R : (Σ' (arg1 : BitVec 32) (v3 : BitVec 32) (v7 : IVec S512x1 32) (v9 : FVec F S128x128 .f32) (v30 : IVec S512x256 1) (v31 : IVec S1x128 32) (v33 : IVec S128x1 32) (v38 : IVec S128x128 1), IVec S1x128 32) //
      ∀ (E : Set ℕ) (fs : arg13.view.ty.Contents (Elt F)) (hfs : ¬ first i → fs = harg13.unread (kta x9 x5)),
        (iprop((View.loc (c : Thread nD τ) arg3.view ↦[arg3.view.set]{fullShare} harg3.unread x1) ∗ (View.loc (c : Thread nD τ) arg7.view ↦[arg7.view.set]{fullShare} harg7.unread x5) ∗ (View.loc (c : Thread nD τ) arg11.view ↦[arg11.view.set]{fullShare} harg11.unread x9) ∗ (View.loc (c : Thread nD τ) arg13.view ↦[arg13.view.set]{fullShare} fs)) : sProp 𝕄)
          ⊢ wp frame (wpE (defs₀ (F := F)) Variants.none c none) E (k0_part1 i arg2 harg2 arg3 harg3 arg4 harg4 arg5 harg5 arg6 harg6 arg7 harg7 arg8 harg8 arg9 harg9 arg10 harg10 arg11 harg11 arg12 harg12 arg13 harg13 arg14 harg14)
            (fun r => (iprop(⌜r = R⌝ ∗ (iprop((View.loc (c : Thread nD τ) arg3.view ↦[arg3.view.set]{fullShare} harg3.unread x1) ∗ (View.loc (c : Thread nD τ) arg7.view ↦[arg7.view.set]{fullShare} harg7.unread x5) ∗ (View.loc (c : Thread nD τ) arg11.view ↦[arg11.view.set]{fullShare} harg11.unread x9) ∗ (View.loc (c : Thread nD τ) arg13.view ↦[arg13.view.set]{fullShare} harg13.unread (kta x9 x5))) : sProp 𝕄)) : sProp 𝕄)) } := by
  refine ⟨?_, fun E fs hfs => ?run⟩
  case run =>
    have hf1 := harg3.read_unread (Val := Elt F) x1
    have hf5 := harg7.read_unread (Val := Elt F) x5
    have hf9 := harg11.read_unread (Val := Elt F) x9
    simp only [k0_part1_eq_skeleton]; unfold k0_part1_skel
    by_cases hc : first i
    · iintro ⟨H1, H5, H9, HS⟩
      sl_exec (disch := first | sl_exact hc)
      sl_step
      isplitr; · ipureintro; rfl
      isplitl [H1]; · iexact H1
      isplitl [H5]; · iexact H5
      isplitl [H9]; · iexact H9
      rw [← harg13.eq_unread (read_stores arg13.view fs x5 x9 _ _ _ _ (fun a b k => ?_) (fun a b k => ?_) (fun a b k => ?_) (fun a b k => ?_))]
      · iexact HS
      · refine (pay_key' _ _ _ _).trans ((harg7.readAt_unread x5 _ _).trans (congrArg x5 (funext fun d => Fin.ext ?_)))
        match d with
        | ⟨0, _⟩ => show 0 + 1 * a.val = 0; omega
        | ⟨1, _⟩ => show 64 + 1 * b.val = 64 + b.val; omega
        | ⟨2, _⟩ => show 0 + 1 * k.val = k.val; omega
      · refine (pay_head' _ _ _ _).trans ((harg11.readAt_unread x9 _ _).trans (congrArg x9 (funext fun d => Fin.ext ?_)))
        match d with
        | ⟨0, _⟩ => show 0 + 1 * b.val = b.val; omega
        | ⟨1, _⟩ => show 0 + 1 * k.val = k.val; omega
      · refine (pay_key _ _ _ _).trans ((harg7.readAt_unread x5 _ _).trans (congrArg x5 (funext fun d => Fin.ext ?_)))
        match d with
        | ⟨0, _⟩ => show 0 + 1 * a.val = 0; omega
        | ⟨1, _⟩ => show 0 + 1 * b.val = b.val; omega
        | ⟨2, _⟩ => show 0 + 1 * k.val = k.val; omega
      · refine (pay_head _ _ _ _).trans ((harg11.readAt_unread x9 _ _).trans (congrArg x9 (funext fun d => Fin.ext ?_)))
        match d with
        | ⟨0, _⟩ => show 0 + 1 * b.val = b.val; omega
        | ⟨1, _⟩ => show 0 + 1 * k.val = k.val; omega
    · iintro ⟨H1, H5, H9, HS⟩
      obtain rfl := hfs hc
      sl_exec (disch := first | sl_exact hc)
      sl_step
      isplitr; · ipureintro; rfl
      isplitl [H1]; · iexact H1
      isplitl [H5]; · iexact H5
      isplitl [H9]; · iexact H9
      iexact HS

/-- The output block, stored whole, holds what was stored. -/
theorem out_done (c : Dev nD) (arg12 : Memref sig .tc .vmem S1x128x512 .bf16) (harg12 : arg12.IsWhole) (f : arg12.view.ty.Contents (Elt F))
    (w : FVec F S1x128x512 .bf16) :
    (View.loc (c : Thread nD τ) arg12.view ↦[arg12.view.set]{fullShare} arg12.view.writes (Elt F) f
        [⟨Rect.unit (s := S1x128x512) ![0, 0, 0] S1x128x512.size inb_S1x128x512_S1x128x512_0_0_0, w⟩] : sProp 𝕄)
      ⊢ (View.loc (c : Thread nD τ) arg12.view ↦[arg12.view.set]{fullShare} harg12.unread w : sProp 𝕄) := by
  refine BIBase.Entails.of_eq (congrArg (fun f => (View.loc (c : Thread nD τ) arg12.view ↦[arg12.view.set]{fullShare} f : sProp 𝕄)) (harg12.eq_unread ?_))
  funext y
  refine View.read_writes_cons_unit_of_mem arg12.view f inb_S1x128x512_S1x128x512_0_0_0 w [] y y rfl fun a => ?_
  match a with
  | ⟨0, _⟩ => show _ = 0 + _; omega
  | ⟨1, _⟩ => show _ = 0 + _; omega
  | ⟨2, _⟩ => show _ = 0 + _; omega

set_option maxHeartbeats 8000000 in
/-- THE BODY, at every point: the staged blocks come back as they were, the key scratch holds `kta`, the output block holds
    the value found by the run. -/
def body (c : Dev nD) (i : grid0.Coords) (arg2 : Memref sig .tc .vmem S1x8x128x64 .bf16) (harg2 : arg2.IsWhole) (arg3 : Memref sig .tc .vmem S1x128x128 .f32) (harg3 : arg3.IsWhole) (arg4 : Memref sig .tc .vmem S1x128x512 .f32) (harg4 : arg4.IsWhole) (arg5 : Memref sig .tc .vmem S1x128x256 .bf16) (harg5 : arg5.IsWhole) (arg6 : Memref sig .tc .vmem S1x256x128 .bf16) (harg6 : arg6.IsWhole) (arg7 : Memref sig .tc .vmem S1x128x8192 .bf16) (harg7 : arg7.IsWhole) (arg8 : Memref sig .tc .vmem S1x8192x128 .bf16) (harg8 : arg8.IsWhole) (arg9 : Memref sig .tc .vmem S1x128x8192 .bf16) (harg9 : arg9.IsWhole) (arg10 : Memref sig .tc .vmem S1x8192x128 .bf16) (harg10 : arg10.IsWhole) (arg11 : Memref sig .tc .vmem S128x8192 .bf16) (harg11 : arg11.IsWhole) (arg12 : Memref sig .tc .vmem S1x128x512 .bf16) (harg12 : arg12.IsWhole) (arg13 : Memref sig .tc .vmem S2x192x8192 .bf16) (harg13 : arg13.IsWhole) (arg14 : Memref sig .tc .vmem S512x192 .bf16) (harg14 : arg14.IsWhole) (x0 : Vec F S1x8x128x64 .bf16) (x1 : Vec F S1x128x128 .f32) (x2 : Vec F S1x128x512 .f32) (x3 : Vec F S1x128x256 .bf16) (x4 : Vec F S1x256x128 .bf16) (x5 : Vec F S1x128x8192 .bf16) (x6 : Vec F S1x8192x128 .bf16) (x7 : Vec F S1x128x8192 .bf16) (x8 : Vec F S1x8192x128 .bf16) (x9 : Vec F S128x8192 .bf16) :
    { R : arg14.view.ty.Contents (Elt F) → FVec F S1x128x512 .bf16 //
      ∀ (E : Set ℕ) (f12 : arg12.view.ty.Contents (Elt F)) (fs : arg13.view.ty.Contents (Elt F)) (f14 : arg14.view.ty.Contents (Elt F)) (hfs : ¬ first i → fs = harg13.unread (kta x9 x5)),
        (iprop((View.loc (c : Thread nD τ) arg2.view ↦[arg2.view.set]{fullShare} harg2.unread x0) ∗ (View.loc (c : Thread nD τ) arg3.view ↦[arg3.view.set]{fullShare} harg3.unread x1) ∗ (View.loc (c : Thread nD τ) arg4.view ↦[arg4.view.set]{fullShare} harg4.unread x2) ∗ (View.loc (c : Thread nD τ) arg5.view ↦[arg5.view.set]{fullShare} harg5.unread x3) ∗ (View.loc (c : Thread nD τ) arg6.view ↦[arg6.view.set]{fullShare} harg6.unread x4) ∗ (View.loc (c : Thread nD τ) arg7.view ↦[arg7.view.set]{fullShare} harg7.unread x5) ∗ (View.loc (c : Thread nD τ) arg8.view ↦[arg8.view.set]{fullShare} harg8.unread x6) ∗ (View.loc (c : Thread nD τ) arg9.view ↦[arg9.view.set]{fullShare} harg9.unread x7) ∗ (View.loc (c : Thread nD τ) arg10.view ↦[arg10.view.set]{fullShare} harg10.unread x8) ∗ (View.loc (c : Thread nD τ) arg11.view ↦[arg11.view.set]{fullShare} harg11.unread x9) ∗ (View.loc (c : Thread nD τ) arg12.view ↦[arg12.view.set]{fullShare} f12) ∗ (View.loc (c : Thread nD τ) arg13.view ↦[arg13.view.set]{fullShare} fs) ∗ (View.loc (c : Thread nD τ) arg14.view ↦[arg14.view.set]{fullShare} f14)) : sProp 𝕄)
          ⊢ wp frame (wpE (defs₀ (F := F)) Variants.none c none) E (cc0_prompt_attn i arg2 harg2 arg3 harg3 arg4 harg4 arg5 harg5 arg6 harg6 arg7 harg7 arg8 harg8 arg9 harg9 arg10 harg10 arg11 harg11 arg12 harg12 arg13 harg13 arg14 harg14)
            (fun _ => (iprop((View.loc (c : Thread nD τ) arg2.view ↦[arg2.view.set]{fullShare} harg2.unread x0) ∗ (View.loc (c : Thread nD τ) arg3.view ↦[arg3.view.set]{fullShare} harg3.unread x1) ∗ (View.loc (c : Thread nD τ) arg4.view ↦[arg4.view.set]{fullShare} harg4.unread x2) ∗ (View.loc (c : Thread nD τ) arg5.view ↦[arg5.view.set]{fullShare} harg5.unread x3) ∗ (View.loc (c : Thread nD τ) arg6.view ↦[arg6.view.set]{fullShare} harg6.unread x4) ∗ (View.loc (c : Thread nD τ) arg7.view ↦[arg7.view.set]{fullShare} harg7.unread x5) ∗ (View.loc (c : Thread nD τ) arg8.view ↦[arg8.view.set]{fullShare} harg8.unread x6) ∗ (View.loc (c : Thread nD τ) arg9.view ↦[arg9.view.set]{fullShare} harg9.unread x7) ∗ (View.loc (c : Thread nD τ) arg10.view ↦[arg10.view.set]{fullShare} harg10.unread x8) ∗ (View.loc (c : Thread nD τ) arg11.view ↦[arg11.view.set]{fullShare} harg11.unread x9) ∗ (View.loc (c : Thread nD τ) arg12.view ↦[arg12.view.set]{fullShare} harg12.unread (R f14)) ∗ (View.loc (c : Thread nD τ) arg13.view ↦[arg13.view.set]{fullShare} harg13.unread (kta x9 x5)) ∗ ∃ f14, (View.loc (c : Thread nD τ) arg14.view ↦[arg14.view.set]{fullShare} f14)) : sProp 𝕄)) } := by
  refine ⟨?_, fun E f12 fs f14 hfs => ?run⟩
  case run =>
    have hcut := (part1 c i arg2 harg2 arg3 harg3 arg4 harg4 arg5 harg5 arg6 harg6 arg7 harg7 arg8 harg8 arg9 harg9 arg10 harg10 arg11 harg11 arg12 harg12 arg13 harg13 arg14 harg14 x1 x5 x9).2 E fs hfs
    simp only [cc0_prompt_attn_eq_skeleton]; unfold cc0_prompt_attn_skel
    simp only [k0_part22_eq_skeleton]; unfold k0_part22_skel
    iintro ⟨H2, H3, H4, H5, H6, H7, H8, H9, H10, H11, H12, H13, H14⟩
    sl_exec_parts
    have e1 := congrArg (fun r => r.1) hk0_part1_0
    have e2 := congrArg (fun r => r.2.1) hk0_part1_0
    have e3 := congrArg (fun r => r.2.2.1) hk0_part1_0
    have e4 := congrArg (fun r => r.2.2.2.1) hk0_part1_0
    have e5 := congrArg (fun r => r.2.2.2.2.1) hk0_part1_0
    have e6 := congrArg (fun r => r.2.2.2.2.2.1) hk0_part1_0
    have e7 := congrArg (fun r => r.2.2.2.2.2.2.1) hk0_part1_0
    have e8 := congrArg (fun r => r.2.2.2.2.2.2.2.1) hk0_part1_0
    have e9 := congrArg (fun r => r.2.2.2.2.2.2.2.2) hk0_part1_0
    dsimp only at e1 e2 e3 e4 e5 e6 e7 e8 e9
    subst e1 e2 e3 e4 e5 e6 e7 e8 e9
    sl_step
    isplitl [H2]; · iexact H2
    isplitl [Hk0_part1_1]; · iexact Hk0_part1_1
    isplitl [H4]; · iexact H4
    isplitl [H5]; · iexact H5
    isplitl [H6]; · iexact H6
    isplitl [Hk0_part1_2]; · iexact Hk0_part1_2
    isplitl [H8]; · iexact H8
    isplitl [H9]; · iexact H9
    isplitl [H10]; · iexact H10
    isplitl [Hk0_part1_3]; · iexact Hk0_part1_3
    isplitl [H12]
    · iapply out_done c arg12 harg12 f12
      iexact H12
    isplitl [Hk0_part1_4]; · iexact Hk0_part1_4
    iexists _; iexact H14

end Cert.KernelIdeal.Body

end
-- ==== Proof.Block.lean ====
/-
  What one query block's output is, from the blocks it reads, as one closed expression over the kernel's own vector
  operations: for each of the two key/value heads the compressed-branch weights, the sixteen rounds that pick the
  selection blocks, the additive mask they give, the blocked running softmax over the selected keys, and the window
  branch; then the gated sum of the three branches, head by head.
-/
module

public import proofs.«01_k».proof.Proof.Run

@[expose] public section

set_option maxRecDepth 16384

noncomputable section

namespace Cert.KernelIdeal.Body

open Cert.KernelIdeal Cert.KernelIdeal.Gen
open Idealize.ShloMosaic Idealize.ShloMosaic.TcCoe Idealize.ShloMosaic.Tactic

variable {F : FTy → Type} [FloatOps F] [Named F]

/-- What a load through the rectangle `B` takes of an array. -/
def sub {s : Shape} {e : EltTy} (B : LoadRect s) (x : Vec F s e) : B.shape.Idx → Elt F e := fun y => x (B.idx y)

/-- A running softmax's state over a block of query rows: the maximum, the weight sum, the weighted values. -/
abbrev Acc (F : FTy → Type) := FVec F S512x1 .f32 × FVec F S512x1 .f32 × FVec F S512x128 .f32

/-- The query rows of a head group, one below the other. -/
def rowsv (w : Vec F S1x4x128x64 .bf16) : FVec F S512x64 .bf16 := k0_pay14 w

/-- The block a round picks for each query: among the blocks attaining the maximal score, the first. -/
def pickv (s : FVec F S128x128 .f32) : IVec S128x128 1 :=
  cmpf .oeq (k0_pay19 (F := F)) (broadcastTo S128x128 (shapeCast S1x128 (multiReduction .minimumf [0] S128
    (select (cmpf .oeq s (broadcastTo S128x128 (shapeCast S1x128 (multiReduction .maximumf [0] S128 s 0xFF800000#32 reduces_S128x128_S128 (.inl rfl) rfl)
      shapeCasts_S128_S1x128) broadcasts_S1x128_S128x128)) (k0_pay19 (F := F)) (broadcast S128x128 (Scalar.ofBits .f32 0x43000000#32)))
    0x7F800000#32 reduces_S128x128_S128 (.inl rfl) rfl) shapeCasts_S128_S1x128) broadcasts_S1x128_S128x128)

/-- The scores after a round: the picked block's is out of the way. -/
def nextS (s : FVec F S128x128 .f32) : FVec F S128x128 .f32 := select (pickv s) (broadcast S128x128 (Scalar.ofBits .f32 0xFF800000#32)) s

/-- The marks after a round: the picked block is marked. -/
def nextM (s m : FVec F S128x128 .f32) : FVec F S128x128 .f32 := select (pickv s) (broadcast S128x128 (Scalar.ofBits .f32 0x3F800000#32)) m

/-- The scores and the marks after `n` rounds. -/
def rounds (s : FVec F S128x128 .f32) : ℕ → FVec F S128x128 .f32 × FVec F S128x128 .f32
  | 0 => (s, broadcast S128x128 (Scalar.ofBits .f32 0x00000000#32))
  | n + 1 => (nextS (rounds s n).1, nextM (rounds s n).1 (rounds s n).2)

/-- The additive mask of the marks, query by block. -/
def biasv (m : FVec F S128x128 .f32) : FVec F S128x128 .bf16 :=
  truncf .bf16 (select (cmpf .ogt (transpose S128x128 [1, 0] m transposes_S128x128_p1_0_S128x128) (broadcast S128x128 (Scalar.ofBits .f32 0x3F000000#32)))
    (broadcast S128x128 (Scalar.ofBits .f32 0x00000000#32)) (broadcast S128x128 (Named.named κ "mask" 0xF149F2CA#32))) bitsLt_bf16_f32

/-- The additive mask next to the query rows: what multiplies the key scratch. -/
def qaug (b : FVec F S128x128 .bf16) (q : FVec F S512x64 .bf16) : FVec F S512x192 .bf16 := fun y =>
  if h : (y 1).val < 128 then b (fun a => match a with | ⟨0, _⟩ => ⟨(y 0).val % 128, Nat.mod_lt _ (by decide)⟩ | ⟨1, _⟩ => ⟨(y 1).val, h⟩)
  else q (fun a => match a with
    | ⟨0, _⟩ => y 0
    | ⟨1, _⟩ => ⟨(y 1).val - 128, by
        have h1 : (y 1).val < 192 := (y 1).isLt
        show _ < 64; omega⟩)

/-- One key chunk of the running softmax. -/
def stp (q : FVec F S512x192 .bf16) (kb : Vec F S1x192x256 .bf16) (vb : Vec F S1x256x128 .bf16) (a : Acc F) : Acc F :=
  (k0_pay67 q a.1 kb, k0_pay70 q a.1 a.2.1 kb, k0_pay71 q a.1 a.2.2 kb vb)

/-- The running softmax before chunk `n`. -/
def accv (q : FVec F S512x192 .bf16) {N : ℕ} (kb : Fin N → Vec F S1x192x256 .bf16) (vb : Fin N → Vec F S1x256x128 .bf16) : ℕ → Acc F
  | 0 => (k0_pay63 (F := F), k0_pay64 (F := F), k0_pay65 (F := F))
  | n + 1 => if h : n < N then stp q (kb ⟨n, h⟩) (vb ⟨n, h⟩) (accv q kb vb n) else accv q kb vb n

/-- The selection branch: the running softmax, its last chunk masked to the keys not after the query. -/
def slcv (v7 : IVec S512x1 32) (k0 : BitVec 32) (q : FVec F S512x192 .bf16) (kb : Vec F S1x192x256 .bf16) (vb : Vec F S1x256x128 .bf16) (a : Acc F) :
    FVec F S512x128 .f32 :=
  k0_pay79 v7 a.1 a.2.1 a.2.2 k0 (k0_pay78 q kb) (iota .tc S1x256 32 [1] iota_S1x256_d1_w32) vb

/-- The compressed branch's weights. -/
def cmpw (i : grid0.Coords) (q : Vec F S1x4x128x64 .bf16) (kc : Vec F S1x64x256 .bf16) : FVec F S512x256 .f32 := k0_pay15 (k0_pay9 i) q kc

/-- The scores of the selection blocks, block by query. -/
def scorev (i : grid0.Coords) (p : FVec F S512x256 .f32) : FVec F S128x128 .f32 :=
  k0_pay18 (k0_pay11 i) (k0_pay13 (iota .tc S1x128 32 [1] iota_S1x128_d1_w32) (k0_pay10 i) k0_pay12) p

/-- The compressed branch's output. -/
def ocmp (p : FVec F S512x256 .f32) (vc : Vec F S1x256x128 .bf16) : FVec F S512x128 .f32 := k0_pay17 (truncf .bf16 p bitsLt_bf16_f32) vc

/-- The window branch's output. -/
def owin (i : grid0.Coords) (q : FVec F S512x64 .bf16) (kw : Vec F S1x64x640 .bf16) (vw : Vec F S1x640x128 .bf16) : FVec F S512x128 .f32 :=
  k0_pay82 (k0_pay80 (Scalar.muli (BitVec.ofNat 32 (i 1).val) 128#32) (k0_pay7 i)) (k0_pay81 q kw) vw

/-- The number of whole key chunks before the query block, in the kernel's arithmetic. -/
def lastc (i : grid0.Coords) : BitVec 32 :=
  Scalar.select (Scalar.andi (Scalar.cmpi .ne (Scalar.subi (Scalar.extui (Scalar.cmpi .sgt (Scalar.muli (BitVec.ofNat 32 (i 1).val) 128#32) 0#32))
      (Scalar.extui (Scalar.cmpi .slt (Scalar.muli (BitVec.ofNat 32 (i 1).val) 128#32) 0#32))) 1#32)
    (Scalar.cmpi .ne (Scalar.remsi (Scalar.muli (BitVec.ofNat 32 (i 1).val) 128#32) 256#32) 0#32))
    (Scalar.subi (Scalar.divsi (Scalar.muli (BitVec.ofNat 32 (i 1).val) 128#32) 256#32) 1#32) (Scalar.divsi (Scalar.muli (BitVec.ofNat 32 (i 1).val) 128#32) 256#32)

/-- One head's gated sum of the three branches: three gate columns against one head's rows and lanes of each branch. -/
def gpc (v9 : FVec F S128x128 .f32) (a : Fin 2 → ℕ) (ha : S128x128.Slices a S128x1) (b : Fin 2 → ℕ) (hb : S128x128.Slices b S128x1)
    (c : Fin 2 → ℕ) (hc : S128x128.Slices c S128x1) (r : Fin 2 → ℕ) (hr : S512x128.Slices r S128x64) (o1 o2 o3 : FVec F S512x128 .f32) : FVec F S128x64 .f32 :=
  addf (addf (mulf (broadcastTo S128x64 (extractStridedSlice S128x1 a v9 ha) broadcasts_S128x1_S128x64) (extractStridedSlice S128x64 r o1 hr))
    (mulf (broadcastTo S128x64 (extractStridedSlice S128x1 b v9 hb) broadcasts_S128x1_S128x64) (extractStridedSlice S128x64 r o2 hr)))
    (mulf (broadcastTo S128x64 (extractStridedSlice S128x1 c v9 hc) broadcasts_S128x1_S128x64) (extractStridedSlice S128x64 r o3 hr))

section Heads
variable (i : grid0.Coords) (x0 : Vec F S1x8x128x64 .bf16) (x1 : Vec F S1x128x128 .f32) (x2 : Vec F S1x128x512 .f32) (x3 : Vec F S1x128x256 .bf16)
  (x4 : Vec F S1x256x128 .bf16) (x5 : Vec F S1x128x8192 .bf16) (x6 : Vec F S1x8192x128 .bf16) (x7 : Vec F S1x128x8192 .bf16) (x8 : Vec F S1x8192x128 .bf16)
  (x9 : Vec F S128x8192 .bf16)

/-- Head 0: the query rows it reads. -/
def qh0 : Vec F S1x4x128x64 .bf16 := sub (Rect.unit (s := S1x8x128x64) ![0, 0, 0, 0] S1x4x128x64.size inb_S1x8x128x64_S1x4x128x64_0_0_0_0).toLoadRect x0
/-- Head 0: the compressed branch's weights. -/
def pc0 : FVec F S512x256 .f32 := cmpw i (qh0 x0) (sub (Rect.unit (s := S1x128x256) ![0, 0, 0] S1x64x256.size inb_S1x128x256_S1x64x256_0_0_0).toLoadRect x3)
/-- Head 0: the additive mask next to the queries. -/
def qa0 : FVec F S512x192 .bf16 := qaug (biasv (rounds (scorev i (pc0 i x0 x3)) 16).2) (rowsv (qh0 x0))
/-- Head 0: the running softmax before its last chunk. -/
def ac0 : Acc F := accv (qa0 i x0 x3) (fun t : Fin (k0_t1_loop i).trips => sub (Rect.unit (s := S2x192x8192) (k0_off1 i t) S1x192x256.size (k0_off1_inb i t)).toLoadRect (kta x9 x5)) (fun t => sub (Rect.unit (s := S1x8192x128) (k0_off2 i t) S1x256x128.size (k0_off2_inb i t)).toLoadRect x6) (k0_t1_loop i).trips
/-- Head 0: the compressed branch. -/
def oc0 : FVec F S512x128 .f32 := ocmp (pc0 i x0 x3) (sub (Rect.unit (s := S1x256x128) ![0, 0, 0] S1x256x128.size inb_S1x256x128_S1x256x128_0_0_0).toLoadRect x4)
/-- Head 0: the selection branch. -/
def os0 : FVec F S512x128 .f32 := slcv (k0_pay7 i) (Scalar.muli (lastc i) 256#32) (qa0 i x0 x3) (sub (Rect.unit (s := S2x192x8192) (k0_off5 i) S1x192x256.size (k0_off5_inb i)).toLoadRect (kta x9 x5)) (sub (Rect.unit (s := S1x8192x128) (k0_off6 i) S1x256x128.size (k0_off6_inb i)).toLoadRect x6) (ac0 i x0 x3 x5 x6 x9)
/-- Head 0: the window branch. -/
def ow0 : FVec F S512x128 .f32 := owin i (rowsv (qh0 x0)) (sub (Rect.unit (s := S1x128x8192) (k0_off7 i) S1x64x640.size (k0_off7_inb i)).toLoadRect x7) (sub (Rect.unit (s := S1x8192x128) (k0_off8 i) S1x640x128.size (k0_off8_inb i)).toLoadRect x8)

/-- Head 1: the query rows it reads. -/
def qh1 : Vec F S1x4x128x64 .bf16 := sub (Rect.unit (s := S1x8x128x64) ![0, 4, 0, 0] S1x4x128x64.size inb_S1x8x128x64_S1x4x128x64_0_4_0_0).toLoadRect x0
/-- Head 1: the compressed branch's weights. -/
def pc1 : FVec F S512x256 .f32 := cmpw i (qh1 x0) (sub (Rect.unit (s := S1x128x256) ![0, 64, 0] S1x64x256.size inb_S1x128x256_S1x64x256_0_64_0).toLoadRect x3)
/-- Head 1: the additive mask next to the queries. -/
def qa1 : FVec F S512x192 .bf16 := qaug (biasv (rounds (scorev i (pc1 i x0 x3)) 16).2) (rowsv (qh1 x0))
/-- Head 1: the running softmax before its last chunk. -/
def ac1 : Acc F := accv (qa1 i x0 x3) (fun t : Fin (k0_t3_loop i).trips => sub (Rect.unit (s := S2x192x8192) (k0_off9 i t) S1x192x256.size (k0_off9_inb i t)).toLoadRect (kta x9 x5)) (fun t => sub (Rect.unit (s := S1x8192x128) (k0_off10 i t) S1x256x128.size (k0_off10_inb i t)).toLoadRect x6) (k0_t3_loop i).trips
/-- Head 1: the compressed branch. -/
def oc1 : FVec F S512x128 .f32 := ocmp (pc1 i x0 x3) (sub (Rect.unit (s := S1x256x128) ![0, 0, 0] S1x256x128.size inb_S1x256x128_S1x256x128_0_0_0).toLoadRect x4)
/-- Head 1: the selection branch. -/
def os1 : FVec F S512x128 .f32 := slcv (k0_pay7 i) (Scalar.muli (lastc i) 256#32) (qa1 i x0 x3) (sub (Rect.unit (s := S2x192x8192) (k0_off13 i) S1x192x256.size (k0_off13_inb i)).toLoadRect (kta x9 x5)) (sub (Rect.unit (s := S1x8192x128) (k0_off6 i) S1x256x128.size (k0_off6_inb i)).toLoadRect x6) (ac1 i x0 x3 x5 x6 x9)
/-- Head 1: the window branch. -/
def ow1 : FVec F S512x128 .f32 := owin i (rowsv (qh1 x0)) (sub (Rect.unit (s := S1x128x8192) (k0_off14 i) S1x64x640.size (k0_off14_inb i)).toLoadRect x7) (sub (Rect.unit (s := S1x8192x128) (k0_off8 i) S1x640x128.size (k0_off8_inb i)).toLoadRect x8)

/-- The gated heads, side by side. -/
def headsv (v9 : FVec F S128x128 .f32) (c0 s0 w0 c1 s1 w1 : FVec F S512x128 .f32) : FVec F S128x512 .f32 :=
  k0_pay161 v9
    (gpc v9 ![0, 0] slices_S128x128_o0_0_S128x1 ![0, 1] slices_S128x128_o0_1_S128x1 ![0, 2] slices_S128x128_o0_2_S128x1 ![0, 0] slices_S512x128_o0_0_S128x64 c0 s0 w0)
    (gpc v9 ![0, 3] slices_S128x128_o0_3_S128x1 ![0, 4] slices_S128x128_o0_4_S128x1 ![0, 5] slices_S128x128_o0_5_S128x1 ![128, 0] slices_S512x128_o128_0_S128x64 c0 s0 w0)
    (k0_pay86 v9 c0 s0 w0 (k0_pay85 v9)) (k0_pay87 v9 c0 s0 w0) c1 s1 w1
    (gpc v9 ![0, 12] slices_S128x128_o0_12_S128x1 ![0, 13] slices_S128x128_o0_13_S128x1 ![0, 14] slices_S128x128_o0_14_S128x1 ![0, 64] slices_S512x128_o0_64_S128x64 c1 s1 w1)
    (k0_pay158 v9 c1) (k0_pay159 v9) (k0_pay160 s1)

/-- THE OUTPUT BLOCK. -/
def outv : FVec F S1x128x512 .bf16 :=
  k0_pay1 (headsv (k0_pay8 (sub (Rect.unit (s := S1x128x128) ![0, 0, 0] S1x128x128.size inb_S1x128x128_S1x128x128_0_0_0).toLoadRect x1)) (oc0 i x0 x3 x4) (os0 i x0 x3 x5 x6 x9) (ow0 i x0 x7 x8) (oc1 i x0 x3 x4) (os1 i x0 x3 x5 x6 x9) (ow1 i x0 x7 x8))
    (sub (Rect.unit (s := S1x128x512) ![0, 0, 0] S1x128x512.size inb_S1x128x512_S1x128x512_0_0_0).toLoadRect x2)
end Heads

end Cert.KernelIdeal.Body

end
-- ==== Proof.Out.lean ====
/-
  The output block the body stores is the closed expression `outv` of the blocks it reads: each stage of the body is
  read off as the corresponding stage of the expression, the loops by induction over their trips.
-/
module

public import proofs.«01_k».proof.Proof.Block

@[expose] public section

set_option maxRecDepth 16384

noncomputable section

namespace Cert.KernelIdeal.Body

open Cert.KernelIdeal Cert.KernelIdeal.Gen
open Idealize.ShloMosaic Idealize.ShloMosaic.TcCoe Idealize.ShloMosaic.Tactic

variable {F : FTy → Type} [FloatOps F] [Named F]

theorem readAt_sub {s : Shape} {e : EltTy} {m : Memref sig .tc .vmem s e} (hm : m.IsWhole) (X : Vec F s e) (B : LoadRect s) :
    View.readAt (Elt F) m.view B (hm.unread X) = sub B X := by
  funext y; exact hm.readAt_unread X B y

/-- The grid point of batch 0 and query block `b`. -/
abbrev at1 (b : Fin 64) : grid0.Coords := fun a => match a with
  | ⟨0, _⟩ => (0 : Fin 4)
  | ⟨1, _⟩ => b

theorem cast_64 (x : FVec F S512x64 .bf16) : shapeCast S512x64 x shapeCasts_S512x64_S512x64 = x := by
  funext y; idx_vars y; pointwise []

theorem cast_128 (x : FVec F S128x128 .bf16) : shapeCast S128x128 x shapeCasts_S128x128_S128x128 = x := by
  funext y; idx_vars y; pointwise []

theorem qaug_at (b : FVec F S128x128 .bf16) (q : FVec F S512x64 .bf16) (r : Fin 512) (l : Fin 192) :
    qaug b q (ix2 r l) = if h : l.val < 128 then b (ix2 ⟨r.val % 128, Nat.mod_lt _ (by decide)⟩ ⟨l.val, h⟩) else q (ix2 r ⟨l.val - 128, by omega⟩) := by
  show (if h : l.val < 128 then _ else _) = _
  split
  · refine congrArg b (funext fun a => ?_); match a with | ⟨0, _⟩ => rfl | ⟨1, _⟩ => rfl
  · refine congrArg q (funext fun a => ?_); match a with | ⟨0, _⟩ => rfl | ⟨1, _⟩ => rfl

/-- The five pieces the body writes over the query scratch leave the mask copied for each head, next to the query rows. -/
theorem read_qaug (m : Memref sig .tc .vmem S512x192 .bf16) (b b3 b2 b1 b0 : FVec F S128x128 .bf16) (q q' : FVec F S512x64 .bf16)
    (L : List (View.Piece (Elt F) S512x192 .bf16))
    (hq : q' = q) (h3 : b3 = b) (h2 : b2 = b) (h1 : b1 = b) (h0 : b0 = b) :
    (m.view.readCov (Val := Elt F) (⟨Rect.unit ![0, 128] S512x64.size inb_S512x192_S512x64_0_128, q'⟩ ::
      ⟨Rect.unit ![384, 0] S128x128.size inb_S512x192_S128x128_384_0, b3⟩ :: ⟨Rect.unit ![256, 0] S128x128.size inb_S512x192_S128x128_256_0, b2⟩ ::
      ⟨Rect.unit ![128, 0] S128x128.size inb_S512x192_S128x128_128_0, b1⟩ :: ⟨Rect.unit ![0, 0] S128x128.size inb_S512x192_S128x128_0_0, b0⟩ :: L)
      (Rect.unit ![0, 0] S512x192.size inb_S512x192_S512x192_0_0).toLoadRect : FVec F S512x192 .bf16) = qaug b q := by
  subst hq h3 h2 h1 h0
  funext y
  idx_vars y
  rw [qaug_at]
  have hb : (Rect.unit (s := S512x192) ![0, 0] S512x192.size inb_S512x192_S512x192_0_0).toLoadRect.idx (ix2 y0 y1) = (ix2 y0 y1 : S512x192.Idx) := by
    funext a; apply Fin.ext
    match a with
    | ⟨0, _⟩ => show 0 + 1 * y0.val = y0.val; omega
    | ⟨1, _⟩ => show 0 + 1 * y1.val = y1.val; omega
  refine (congrArg (View.read (Elt F) m.view (m.view.writes (Elt F) m.view.junk _)) hb).trans ?_
  by_cases hl : y1.val < 128
  · rw [dif_pos hl]
    refine (View.read_writes_cons_unit_of_not_mem m.view _ _ _ _ _ rfl 1 (Or.inl (by show y1.val < 128; omega))).trans ?_
    by_cases h3 : 384 ≤ y0.val
    · refine (View.read_writes_cons_unit_of_mem m.view _ _ _ _ _ (ix2 (⟨y0.val % 128, Nat.mod_lt _ (by decide)⟩ : Fin 128) (⟨y1.val, hl⟩ : Fin 128)) rfl (by
        intro a
        match a with
        | ⟨0, _⟩ => show y0.val = 384 + y0.val % 128; omega
        | ⟨1, _⟩ => show y1.val = 0 + y1.val; omega))
    refine (View.read_writes_cons_unit_of_not_mem m.view _ _ _ _ _ rfl 0 (Or.inl (by show y0.val < 384; omega))).trans ?_
    by_cases h2 : 256 ≤ y0.val
    · refine (View.read_writes_cons_unit_of_mem m.view _ _ _ _ _ (ix2 (⟨y0.val % 128, Nat.mod_lt _ (by decide)⟩ : Fin 128) (⟨y1.val, hl⟩ : Fin 128)) rfl (by
        intro a
        match a with
        | ⟨0, _⟩ => show y0.val = 256 + y0.val % 128; omega
        | ⟨1, _⟩ => show y1.val = 0 + y1.val; omega))
    refine (View.read_writes_cons_unit_of_not_mem m.view _ _ _ _ _ rfl 0 (Or.inl (by show y0.val < 256; omega))).trans ?_
    by_cases h1 : 128 ≤ y0.val
    · refine (View.read_writes_cons_unit_of_mem m.view _ _ _ _ _ (ix2 (⟨y0.val % 128, Nat.mod_lt _ (by decide)⟩ : Fin 128) (⟨y1.val, hl⟩ : Fin 128)) rfl (by
        intro a
        match a with
        | ⟨0, _⟩ => show y0.val = 128 + y0.val % 128; omega
        | ⟨1, _⟩ => show y1.val = 0 + y1.val; omega))
    refine (View.read_writes_cons_unit_of_not_mem m.view _ _ _ _ _ rfl 0 (Or.inl (by show y0.val < 128; omega))).trans ?_
    refine (View.read_writes_cons_unit_of_mem m.view _ _ _ _ _ (ix2 (⟨y0.val % 128, Nat.mod_lt _ (by decide)⟩ : Fin 128) (⟨y1.val, hl⟩ : Fin 128)) rfl (by
        intro a
        match a with
        | ⟨0, _⟩ => show y0.val = 0 + y0.val % 128; omega
        | ⟨1, _⟩ => show y1.val = 0 + y1.val; omega))
  · rw [dif_neg hl]
    refine (View.read_writes_cons_unit_of_mem m.view _ _ _ _ _ (ix2 y0 (⟨y1.val - 128, by omega⟩ : Fin 64)) rfl (by
        intro a
        match a with
        | ⟨0, _⟩ => show y0.val = 0 + y0.val; omega
        | ⟨1, _⟩ => show y1.val = 128 + (y1.val - 128); omega))
section Stages
variable (c : Dev nD) (i : grid0.Coords) (arg2 : Memref sig .tc .vmem S1x8x128x64 .bf16) (harg2 : arg2.IsWhole) (arg3 : Memref sig .tc .vmem S1x128x128 .f32) (harg3 : arg3.IsWhole) (arg4 : Memref sig .tc .vmem S1x128x512 .f32) (harg4 : arg4.IsWhole) (arg5 : Memref sig .tc .vmem S1x128x256 .bf16) (harg5 : arg5.IsWhole) (arg6 : Memref sig .tc .vmem S1x256x128 .bf16) (harg6 : arg6.IsWhole) (arg7 : Memref sig .tc .vmem S1x128x8192 .bf16) (harg7 : arg7.IsWhole) (arg8 : Memref sig .tc .vmem S1x8192x128 .bf16) (harg8 : arg8.IsWhole) (arg9 : Memref sig .tc .vmem S1x128x8192 .bf16) (harg9 : arg9.IsWhole) (arg10 : Memref sig .tc .vmem S1x8192x128 .bf16) (harg10 : arg10.IsWhole) (arg11 : Memref sig .tc .vmem S128x8192 .bf16) (harg11 : arg11.IsWhole) (arg12 : Memref sig .tc .vmem S1x128x512 .bf16) (harg12 : arg12.IsWhole) (arg13 : Memref sig .tc .vmem S2x192x8192 .bf16) (harg13 : arg13.IsWhole) (arg14 : Memref sig .tc .vmem S512x192 .bf16) (harg14 : arg14.IsWhole) (x0 : Vec F S1x8x128x64 .bf16) (x1 : Vec F S1x128x128 .f32) (x2 : Vec F S1x128x512 .f32) (x3 : Vec F S1x128x256 .bf16) (x4 : Vec F S1x256x128 .bf16) (x5 : Vec F S1x128x8192 .bf16) (x6 : Vec F S1x8192x128 .bf16) (x7 : Vec F S1x128x8192 .bf16) (x8 : Vec F S1x8192x128 .bf16) (x9 : Vec F S128x8192 .bf16)
  (f14 : arg14.view.ty.Contents (Elt F)) (arg1 v3 : BitVec 32) (v7 : IVec S512x1 32) (v9 : FVec F S128x128 .f32) (v30 : IVec S512x256 1)
  (v31 : IVec S1x128 32) (v33 : IVec S128x1 32) (v38 : IVec S128x128 1) (v39 : IVec S1x128 32)

theorem q_eq0 : body.sl.v57 (F := F) arg2 harg2 x0 = k0_pay14 (View.readAt (Elt F) arg2.view (Rect.unit (s := S1x8x128x64) ![0, 0, 0, 0] S1x4x128x64.size inb_S1x8x128x64_S1x4x128x64_0_0_0_0).toLoadRect (harg2.unread x0)) := rfl

theorem p_eq0 : body.sl.v77 (F := F) arg2 harg2 arg5 harg5 x0 x3 v30 = k0_pay15 v30 (View.readAt (Elt F) arg2.view (Rect.unit (s := S1x8x128x64) ![0, 0, 0, 0] S1x4x128x64.size inb_S1x8x128x64_S1x4x128x64_0_0_0_0).toLoadRect (harg2.unread x0)) (View.readAt (Elt F) arg5.view (Rect.unit (s := S1x128x256) ![0, 0, 0] S1x64x256.size inb_S1x128x256_S1x64x256_0_0_0).toLoadRect (harg5.unread x3)) := rfl

theorem o_eq0 : body.sl.v81 (F := F) arg2 harg2 arg5 harg5 arg6 harg6 x0 x3 x4 v30 = ocmp (body.sl.v77 (F := F) arg2 harg2 arg5 harg5 x0 x3 v30) (View.readAt (Elt F) arg6.view (Rect.unit (s := S1x256x128) ![0, 0, 0] S1x256x128.size inb_S1x256x128_S1x256x128_0_0_0).toLoadRect (harg6.unread x4)) := rfl

theorem s_eq0 : body.sl.v95 (F := F) arg2 harg2 arg5 harg5 x0 x3 v30 v31 v33 v38 v39 = k0_pay18 v38 (k0_pay13 v31 v33 v39) (body.sl.v77 (F := F) arg2 harg2 arg5 harg5 x0 x3 v30) := rfl

theorem rs_eq0 : body.sl.v294 (F := F) arg2 harg2 arg5 harg5 x0 x3 v30 v31 v33 v38 v39 = (rounds (body.sl.v95 (F := F) arg2 harg2 arg5 harg5 x0 x3 v30 v31 v33 v38 v39) 14).1 := rfl

theorem rm_eq0 : body.sl.v292 (F := F) arg2 harg2 arg5 harg5 x0 x3 v30 v31 v33 v38 v39 = (rounds (body.sl.v95 (F := F) arg2 harg2 arg5 harg5 x0 x3 v30 v31 v33 v38 v39) 14).2 := rfl

theorem q_eq1 : body.sl.v507 (F := F) arg2 harg2 x0 = k0_pay14 (View.readAt (Elt F) arg2.view (Rect.unit (s := S1x8x128x64) ![0, 4, 0, 0] S1x4x128x64.size inb_S1x8x128x64_S1x4x128x64_0_4_0_0).toLoadRect (harg2.unread x0)) := rfl

theorem p_eq1 : body.sl.v527 (F := F) arg2 harg2 arg5 harg5 x0 x3 v30 = k0_pay15 v30 (View.readAt (Elt F) arg2.view (Rect.unit (s := S1x8x128x64) ![0, 4, 0, 0] S1x4x128x64.size inb_S1x8x128x64_S1x4x128x64_0_4_0_0).toLoadRect (harg2.unread x0)) (View.readAt (Elt F) arg5.view (Rect.unit (s := S1x128x256) ![0, 64, 0] S1x64x256.size inb_S1x128x256_S1x64x256_0_64_0).toLoadRect (harg5.unread x3)) := rfl

theorem o_eq1 : body.sl.v531 (F := F) arg2 harg2 arg5 harg5 arg6 harg6 x0 x3 x4 v30 = ocmp (body.sl.v527 (F := F) arg2 harg2 arg5 harg5 x0 x3 v30) (View.readAt (Elt F) arg6.view (Rect.unit (s := S1x256x128) ![0, 0, 0] S1x256x128.size inb_S1x256x128_S1x256x128_0_0_0).toLoadRect (harg6.unread x4)) := rfl

theorem s_eq1 : body.sl.v545 (F := F) arg2 harg2 arg5 harg5 x0 x3 v30 v31 v33 v38 v39 = k0_pay18 v38 (k0_pay13 v31 v33 v39) (body.sl.v527 (F := F) arg2 harg2 arg5 harg5 x0 x3 v30) := rfl

theorem rs_eq1 : body.sl.v744 (F := F) arg2 harg2 arg5 harg5 x0 x3 v30 v31 v33 v38 v39 = (rounds (body.sl.v545 (F := F) arg2 harg2 arg5 harg5 x0 x3 v30 v31 v33 v38 v39) 14).1 := rfl

theorem rm_eq1 : body.sl.v742 (F := F) arg2 harg2 arg5 harg5 x0 x3 v30 v31 v33 v38 v39 = (rounds (body.sl.v545 (F := F) arg2 harg2 arg5 harg5 x0 x3 v30 v31 v33 v38 v39) 14).2 := rfl

theorem b_eq0 : k0_pay57 (body.sl.v97 (F := F)) (body.sl.v292 (F := F) arg2 harg2 arg5 harg5 x0 x3 v30 v31 v33 v38 v39) (body.sl.v294 (F := F) arg2 harg2 arg5 harg5 x0 x3 v30 v31 v33 v38 v39) (body.sl.v303 (F := F) arg2 harg2 arg5 harg5 x0 x3 v30 v31 v33 v38 v39) = biasv (rounds (body.sl.v95 (F := F) arg2 harg2 arg5 harg5 x0 x3 v30 v31 v33 v38 v39) 16).2 := rfl

theorem b_eq1 : k0_pay130 (body.sl.v547 (F := F)) (body.sl.v742 (F := F) arg2 harg2 arg5 harg5 x0 x3 v30 v31 v33 v38 v39) (body.sl.v744 (F := F) arg2 harg2 arg5 harg5 x0 x3 v30 v31 v33 v38 v39) (body.sl.v746 (F := F) arg2 harg2 arg5 harg5 x0 x3 v30 v31 v33 v38 v39) = biasv (rounds (body.sl.v545 (F := F) arg2 harg2 arg5 harg5 x0 x3 v30 v31 v33 v38 v39) 16).2 := rfl

theorem v343_eq : body.sl.v343 (F := F) arg2 harg2 arg5 harg5 arg14 x0 x3 v30 v31 v33 v38 v39 = qaug (k0_pay57 (body.sl.v97 (F := F)) (body.sl.v292 (F := F) arg2 harg2 arg5 harg5 x0 x3 v30 v31 v33 v38 v39) (body.sl.v294 (F := F) arg2 harg2 arg5 harg5 x0 x3 v30 v31 v33 v38 v39) (body.sl.v303 (F := F) arg2 harg2 arg5 harg5 x0 x3 v30 v31 v33 v38 v39)) (body.sl.v57 (F := F) arg2 harg2 x0) := by
  unfold body.sl.v343 body.sl.H14_5 body.sl.H14_4
  exact read_qaug arg14 (k0_pay57 (body.sl.v97 (F := F)) (body.sl.v292 (F := F) arg2 harg2 arg5 harg5 x0 x3 v30 v31 v33 v38 v39) (body.sl.v294 (F := F) arg2 harg2 arg5 harg5 x0 x3 v30 v31 v33 v38 v39) (body.sl.v303 (F := F) arg2 harg2 arg5 harg5 x0 x3 v30 v31 v33 v38 v39)) (k0_pay61 (body.sl.v97 (F := F)) (body.sl.v292 (F := F) arg2 harg2 arg5 harg5 x0 x3 v30 v31 v33 v38 v39) (body.sl.v294 (F := F) arg2 harg2 arg5 harg5 x0 x3 v30 v31 v33 v38 v39) (body.sl.v303 (F := F) arg2 harg2 arg5 harg5 x0 x3 v30 v31 v33 v38 v39)) (k0_pay60 (body.sl.v97 (F := F)) (body.sl.v292 (F := F) arg2 harg2 arg5 harg5 x0 x3 v30 v31 v33 v38 v39) (body.sl.v294 (F := F) arg2 harg2 arg5 harg5 x0 x3 v30 v31 v33 v38 v39) (body.sl.v303 (F := F) arg2 harg2 arg5 harg5 x0 x3 v30 v31 v33 v38 v39)) (k0_pay59 (body.sl.v97 (F := F)) (body.sl.v292 (F := F) arg2 harg2 arg5 harg5 x0 x3 v30 v31 v33 v38 v39) (body.sl.v294 (F := F) arg2 harg2 arg5 harg5 x0 x3 v30 v31 v33 v38 v39) (body.sl.v303 (F := F) arg2 harg2 arg5 harg5 x0 x3 v30 v31 v33 v38 v39)) (k0_pay58 (body.sl.v97 (F := F)) (body.sl.v292 (F := F) arg2 harg2 arg5 harg5 x0 x3 v30 v31 v33 v38 v39) (body.sl.v294 (F := F) arg2 harg2 arg5 harg5 x0 x3 v30 v31 v33 v38 v39) (body.sl.v303 (F := F) arg2 harg2 arg5 harg5 x0 x3 v30 v31 v33 v38 v39)) (body.sl.v57 (F := F) arg2 harg2 x0) (k0_pay62 (body.sl.v57 (F := F) arg2 harg2 x0)) ([]) (cast_64 _) (cast_128 _) (cast_128 _) (cast_128 _) (cast_128 _)

theorem v793_eq : body.sl.v793 (F := F) arg2 harg2 arg5 harg5 arg14 x0 x3 v30 v31 v33 v38 v39 = qaug (k0_pay130 (body.sl.v547 (F := F)) (body.sl.v742 (F := F) arg2 harg2 arg5 harg5 x0 x3 v30 v31 v33 v38 v39) (body.sl.v744 (F := F) arg2 harg2 arg5 harg5 x0 x3 v30 v31 v33 v38 v39) (body.sl.v746 (F := F) arg2 harg2 arg5 harg5 x0 x3 v30 v31 v33 v38 v39)) (body.sl.v507 (F := F) arg2 harg2 x0) := by
  unfold body.sl.v793 body.sl.H14_10 body.sl.H14_8
  exact read_qaug arg14 (k0_pay130 (body.sl.v547 (F := F)) (body.sl.v742 (F := F) arg2 harg2 arg5 harg5 x0 x3 v30 v31 v33 v38 v39) (body.sl.v744 (F := F) arg2 harg2 arg5 harg5 x0 x3 v30 v31 v33 v38 v39) (body.sl.v746 (F := F) arg2 harg2 arg5 harg5 x0 x3 v30 v31 v33 v38 v39)) (k0_pay134 (body.sl.r_7 (F := F) arg2 harg2 arg5 harg5 x0 x3 v30 v31 v33 v38 v39)) (k0_pay133 (body.sl.v547 (F := F)) (body.sl.v742 (F := F) arg2 harg2 arg5 harg5 x0 x3 v30 v31 v33 v38 v39) (body.sl.v744 (F := F) arg2 harg2 arg5 harg5 x0 x3 v30 v31 v33 v38 v39) (body.sl.v746 (F := F) arg2 harg2 arg5 harg5 x0 x3 v30 v31 v33 v38 v39)) (k0_pay132 (body.sl.v547 (F := F)) (body.sl.v742 (F := F) arg2 harg2 arg5 harg5 x0 x3 v30 v31 v33 v38 v39) (body.sl.v744 (F := F) arg2 harg2 arg5 harg5 x0 x3 v30 v31 v33 v38 v39) (body.sl.v746 (F := F) arg2 harg2 arg5 harg5 x0 x3 v30 v31 v33 v38 v39)) (k0_pay131 (body.sl.v547 (F := F)) (body.sl.v742 (F := F) arg2 harg2 arg5 harg5 x0 x3 v30 v31 v33 v38 v39) (body.sl.v744 (F := F) arg2 harg2 arg5 harg5 x0 x3 v30 v31 v33 v38 v39) (body.sl.v746 (F := F) arg2 harg2 arg5 harg5 x0 x3 v30 v31 v33 v38 v39)) (body.sl.v507 (F := F) arg2 harg2 x0) (k0_pay135 (body.sl.v507 (F := F) arg2 harg2 x0)) (body.sl.H14_5 (F := F) arg2 harg2 arg5 harg5 x0 x3 v30 v31 v33 v38 v39) (cast_64 _) (cast_128 _) (cast_128 _) (cast_128 _) (cast_128 _)

/-- The loop over whole key chunks, as the running softmax over the chunks it loads. -/
theorem loop_eq0 (w : FVec F S512x64 .bf16) (vv : Vec F S512x64 .bf16) (q : FVec F S512x192 .bf16) (V : Vec F S1x8192x128 .bf16) (K : Vec F S2x192x8192 .bf16) (n : ℕ) :
    st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg1 w vv q (harg8.unread V) (harg13.unread K) (k0_pay63 (F := F), k0_pay64 (F := F), k0_pay65 (F := F)) n
      = accv q (fun t : Fin (k0_t1_loop i).trips => sub (Rect.unit (s := S2x192x8192) (k0_off1 i t) S1x192x256.size (k0_off1_inb i t)).toLoadRect K) (fun t => sub (Rect.unit (s := S1x8192x128) (k0_off2 i t) S1x256x128.size (k0_off2_inb i t)).toLoadRect V) n := by
  induction n with
  | zero => rfl
  | succ k ih =>
    show st_k0_t1Step (F := F) Variants.none c none i arg2 harg2 arg3 harg3 arg4 harg4 arg5 harg5 arg6 harg6 arg7 harg7 arg8 harg8 arg9 harg9 arg10 harg10 arg11 harg11 arg12 harg12 arg13 harg13 arg14 harg14 arg1 w vv q (harg8.unread V) (harg13.unread K) _ k (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg1 w vv q (harg8.unread V) (harg13.unread K) _ k) = _
    unfold st_k0_t1Step accv
    rw [ih]
    split
    · unfold tripR_k0_t1 trip_k0_t1
      rw [← readAt_sub harg13, ← readAt_sub harg8]; rfl
    · rfl

theorem rest_eq0 (w : FVec F S512x64 .bf16) (vv : Vec F S512x64 .bf16) (q : FVec F S512x192 .bf16) (V : arg8.view.ty.Contents (Elt F)) (K : arg13.view.ty.Contents (Elt F)) (a : Acc F) :
    st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg1 w vv q V K a (Scf.trips (k0_t2_loop i).lb (k0_t2_loop i).ub (k0_t2_loop i).st) = a := by
  have h0 : (Scf.trips (k0_t2_loop i).lb (k0_t2_loop i).ub (k0_t2_loop i).st) = 0 := by
    have h : ∀ b : Fin 64, Scf.trips (k0_t2_loop (at1 b)).lb (k0_t2_loop (at1 b)).ub (k0_t2_loop (at1 b)).st = 0 := by decide +kernel
    exact h (i 1)
  rw [h0]; rfl

/-- The loop over whole key chunks, as the running softmax over the chunks it loads. -/
theorem loop_eq1 (w : FVec F S512x64 .bf16) (vv : FVec F S128x128 .bf16) (q : FVec F S512x192 .bf16) (V : Vec F S1x8192x128 .bf16) (K : Vec F S2x192x8192 .bf16) (n : ℕ) :
    st_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg1 w vv q (harg8.unread V) (harg13.unread K) (k0_pay63 (F := F), k0_pay64 (F := F), k0_pay65 (F := F)) n
      = accv q (fun t : Fin (k0_t3_loop i).trips => sub (Rect.unit (s := S2x192x8192) (k0_off9 i t) S1x192x256.size (k0_off9_inb i t)).toLoadRect K) (fun t => sub (Rect.unit (s := S1x8192x128) (k0_off10 i t) S1x256x128.size (k0_off10_inb i t)).toLoadRect V) n := by
  induction n with
  | zero => rfl
  | succ k ih =>
    show st_k0_t3Step (F := F) Variants.none c none i arg2 harg2 arg3 harg3 arg4 harg4 arg5 harg5 arg6 harg6 arg7 harg7 arg8 harg8 arg9 harg9 arg10 harg10 arg11 harg11 arg12 harg12 arg13 harg13 arg14 harg14 arg1 w vv q (harg8.unread V) (harg13.unread K) _ k (st_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg1 w vv q (harg8.unread V) (harg13.unread K) _ k) = _
    unfold st_k0_t3Step accv
    rw [ih]
    split
    · unfold tripR_k0_t3 trip_k0_t3
      rw [← readAt_sub harg13, ← readAt_sub harg8]; rfl
    · rfl

theorem rest_eq1 (w : FVec F S512x64 .bf16) (vv : FVec F S128x128 .bf16) (q : FVec F S512x192 .bf16) (V : arg8.view.ty.Contents (Elt F)) (K : arg13.view.ty.Contents (Elt F)) (a : Acc F) :
    st_k0_t4 (F := F) Variants.none c none i arg2 harg2 arg3 harg3 arg4 harg4 arg5 harg5 arg6 harg6 arg7 harg7 arg8 harg8 arg9 harg9 arg10 harg10 arg11 harg11 arg12 harg12 arg13 harg13 arg14 harg14 arg1 w vv q V K a (Scf.trips (k0_t4_loop i).lb (k0_t4_loop i).ub (k0_t4_loop i).st) = a := by
  have h0 : (Scf.trips (k0_t4_loop i).lb (k0_t4_loop i).ub (k0_t4_loop i).st) = 0 := by
    have h : ∀ b : Fin 64, Scf.trips (k0_t4_loop (at1 b)).lb (k0_t4_loop (at1 b)).ub (k0_t4_loop (at1 b)).st = 0 := by decide +kernel
    exact h (i 1)
  rw [h0]; rfl

theorem qa_eq0 : body.sl.v343 (F := F) arg2 harg2 arg5 harg5 arg14 x0 x3 (k0_pay9 i) part1.sl.v31 (k0_pay10 i) (k0_pay11 i) k0_pay12 = qa0 i x0 x3 := by
  rw [v343_eq, b_eq0, s_eq0, p_eq0, q_eq0, readAt_sub harg2, readAt_sub harg5]; rfl

theorem sc_eq0 : body.sl.r_5 (F := F) c i arg2 harg2 arg3 harg3 arg4 harg4 arg5 harg5 arg6 harg6 arg7 harg7 arg8 harg8 arg9 harg9 arg10 harg10 arg11 harg11 arg12 harg12 arg13 harg13 arg14 harg14 x0 x3 x5 x6 x9 f14 (BitVec.ofNat 32 (i 1).val) (k0_pay7 i) (k0_pay9 i) part1.sl.v31 (k0_pay10 i) (k0_pay11 i) k0_pay12
    = slcv (k0_pay7 i) (Scalar.muli (lastc i) 256#32) (body.sl.v343 (F := F) arg2 harg2 arg5 harg5 arg14 x0 x3 (k0_pay9 i) part1.sl.v31 (k0_pay10 i) (k0_pay11 i) k0_pay12)
        (View.readAt (Elt F) arg13.view (Rect.unit (s := S2x192x8192) (k0_off5 i) S1x192x256.size (k0_off5_inb i)).toLoadRect (harg13.unread (kta x9 x5))) (View.readAt (Elt F) arg8.view (Rect.unit (s := S1x8192x128) (k0_off6 i) S1x256x128.size (k0_off6_inb i)).toLoadRect (harg8.unread x6)) (body.sl.r_1 (F := F) c i arg2 harg2 arg3 harg3 arg4 harg4 arg5 harg5 arg6 harg6 arg7 harg7 arg8 harg8 arg9 harg9 arg10 harg10 arg11 harg11 arg12 harg12 arg13 harg13 arg14 harg14 x0 x3 x5 x6 x9 f14 (BitVec.ofNat 32 (i 1).val) (k0_pay9 i) part1.sl.v31 (k0_pay10 i) (k0_pay11 i) k0_pay12, body.sl.r_2 (F := F) c i arg2 harg2 arg3 harg3 arg4 harg4 arg5 harg5 arg6 harg6 arg7 harg7 arg8 harg8 arg9 harg9 arg10 harg10 arg11 harg11 arg12 harg12 arg13 harg13 arg14 harg14 x0 x3 x5 x6 x9 f14 (BitVec.ofNat 32 (i 1).val) (k0_pay9 i) part1.sl.v31 (k0_pay10 i) (k0_pay11 i) k0_pay12, body.sl.r_3 (F := F) c i arg2 harg2 arg3 harg3 arg4 harg4 arg5 harg5 arg6 harg6 arg7 harg7 arg8 harg8 arg9 harg9 arg10 harg10 arg11 harg11 arg12 harg12 arg13 harg13 arg14 harg14 x0 x3 x5 x6 x9 f14 (BitVec.ofNat 32 (i 1).val) (k0_pay9 i) part1.sl.v31 (k0_pay10 i) (k0_pay11 i) k0_pay12) := rfl

theorem acc_eq0 : ((body.sl.r_1 (F := F) c i arg2 harg2 arg3 harg3 arg4 harg4 arg5 harg5 arg6 harg6 arg7 harg7 arg8 harg8 arg9 harg9 arg10 harg10 arg11 harg11 arg12 harg12 arg13 harg13 arg14 harg14 x0 x3 x5 x6 x9 f14 (BitVec.ofNat 32 (i 1).val) (k0_pay9 i) part1.sl.v31 (k0_pay10 i) (k0_pay11 i) k0_pay12, body.sl.r_2 (F := F) c i arg2 harg2 arg3 harg3 arg4 harg4 arg5 harg5 arg6 harg6 arg7 harg7 arg8 harg8 arg9 harg9 arg10 harg10 arg11 harg11 arg12 harg12 arg13 harg13 arg14 harg14 x0 x3 x5 x6 x9 f14 (BitVec.ofNat 32 (i 1).val) (k0_pay9 i) part1.sl.v31 (k0_pay10 i) (k0_pay11 i) k0_pay12, body.sl.r_3 (F := F) c i arg2 harg2 arg3 harg3 arg4 harg4 arg5 harg5 arg6 harg6 arg7 harg7 arg8 harg8 arg9 harg9 arg10 harg10 arg11 harg11 arg12 harg12 arg13 harg13 arg14 harg14 x0 x3 x5 x6 x9 f14 (BitVec.ofNat 32 (i 1).val) (k0_pay9 i) part1.sl.v31 (k0_pay10 i) (k0_pay11 i) k0_pay12) : Acc F) = ac0 i x0 x3 x5 x6 x9 := by
  unfold body.sl.r_1 body.sl.r_2 body.sl.r_3
  rw [rest_eq0]
  rw [loop_eq0, qa_eq0]
  rfl

theorem os_eq0 : body.sl.r_5 (F := F) c i arg2 harg2 arg3 harg3 arg4 harg4 arg5 harg5 arg6 harg6 arg7 harg7 arg8 harg8 arg9 harg9 arg10 harg10 arg11 harg11 arg12 harg12 arg13 harg13 arg14 harg14 x0 x3 x5 x6 x9 f14 (BitVec.ofNat 32 (i 1).val) (k0_pay7 i) (k0_pay9 i) part1.sl.v31 (k0_pay10 i) (k0_pay11 i) k0_pay12 = os0 i x0 x3 x5 x6 x9 := by
  rw [sc_eq0, acc_eq0, qa_eq0, readAt_sub harg13, readAt_sub harg8]; rfl

theorem oc_eq0 : body.sl.v81 (F := F) arg2 harg2 arg5 harg5 arg6 harg6 x0 x3 x4 (k0_pay9 i) = oc0 i x0 x3 x4 := by
  rw [o_eq0, p_eq0, readAt_sub harg2, readAt_sub harg5, readAt_sub harg6]; rfl

theorem ow_eq0 : body.sl.v448 (F := F) i arg2 harg2 arg9 harg9 arg10 harg10 x0 x7 x8 (part1.sl.v3 i) (k0_pay7 i) = ow0 i x0 x7 x8 := by
  have h : body.sl.v448 (F := F) i arg2 harg2 arg9 harg9 arg10 harg10 x0 x7 x8 (part1.sl.v3 i) (k0_pay7 i) = owin i (body.sl.v57 (F := F) arg2 harg2 x0) (View.readAt (Elt F) arg9.view (Rect.unit (s := S1x128x8192) (k0_off7 i) S1x64x640.size (k0_off7_inb i)).toLoadRect (harg9.unread x7)) (View.readAt (Elt F) arg10.view (Rect.unit (s := S1x8192x128) (k0_off8 i) S1x640x128.size (k0_off8_inb i)).toLoadRect (harg10.unread x8)) := rfl
  rw [h, q_eq0, readAt_sub harg2, readAt_sub harg9, readAt_sub harg10]; rfl

theorem qa_eq1 : body.sl.v793 (F := F) arg2 harg2 arg5 harg5 arg14 x0 x3 (k0_pay9 i) part1.sl.v31 (k0_pay10 i) (k0_pay11 i) k0_pay12 = qa1 i x0 x3 := by
  rw [v793_eq, b_eq1, s_eq1, p_eq1, q_eq1, readAt_sub harg2, readAt_sub harg5]; rfl

theorem sc_eq1 : body.sl.r_11 (F := F) c i arg2 harg2 arg3 harg3 arg4 harg4 arg5 harg5 arg6 harg6 arg7 harg7 arg8 harg8 arg9 harg9 arg10 harg10 arg11 harg11 arg12 harg12 arg13 harg13 arg14 harg14 x0 x3 x5 x6 x9 (BitVec.ofNat 32 (i 1).val) (k0_pay7 i) (k0_pay9 i) part1.sl.v31 (k0_pay10 i) (k0_pay11 i) k0_pay12
    = slcv (k0_pay7 i) (Scalar.muli (lastc i) 256#32) (body.sl.v793 (F := F) arg2 harg2 arg5 harg5 arg14 x0 x3 (k0_pay9 i) part1.sl.v31 (k0_pay10 i) (k0_pay11 i) k0_pay12)
        (View.readAt (Elt F) arg13.view (Rect.unit (s := S2x192x8192) (k0_off13 i) S1x192x256.size (k0_off13_inb i)).toLoadRect (harg13.unread (kta x9 x5))) (View.readAt (Elt F) arg8.view (Rect.unit (s := S1x8192x128) (k0_off6 i) S1x256x128.size (k0_off6_inb i)).toLoadRect (harg8.unread x6)) (body.sl.r_8 (F := F) c i arg2 harg2 arg3 harg3 arg4 harg4 arg5 harg5 arg6 harg6 arg7 harg7 arg8 harg8 arg9 harg9 arg10 harg10 arg11 harg11 arg12 harg12 arg13 harg13 arg14 harg14 x0 x3 x5 x6 x9 (BitVec.ofNat 32 (i 1).val) (k0_pay9 i) part1.sl.v31 (k0_pay10 i) (k0_pay11 i) k0_pay12, body.sl.r_9 (F := F) c i arg2 harg2 arg3 harg3 arg4 harg4 arg5 harg5 arg6 harg6 arg7 harg7 arg8 harg8 arg9 harg9 arg10 harg10 arg11 harg11 arg12 harg12 arg13 harg13 arg14 harg14 x0 x3 x5 x6 x9 (BitVec.ofNat 32 (i 1).val) (k0_pay9 i) part1.sl.v31 (k0_pay10 i) (k0_pay11 i) k0_pay12, body.sl.r_10 (F := F) c i arg2 harg2 arg3 harg3 arg4 harg4 arg5 harg5 arg6 harg6 arg7 harg7 arg8 harg8 arg9 harg9 arg10 harg10 arg11 harg11 arg12 harg12 arg13 harg13 arg14 harg14 x0 x3 x5 x6 x9 (BitVec.ofNat 32 (i 1).val) (k0_pay9 i) part1.sl.v31 (k0_pay10 i) (k0_pay11 i) k0_pay12) := rfl

theorem acc_eq1 : ((body.sl.r_8 (F := F) c i arg2 harg2 arg3 harg3 arg4 harg4 arg5 harg5 arg6 harg6 arg7 harg7 arg8 harg8 arg9 harg9 arg10 harg10 arg11 harg11 arg12 harg12 arg13 harg13 arg14 harg14 x0 x3 x5 x6 x9 (BitVec.ofNat 32 (i 1).val) (k0_pay9 i) part1.sl.v31 (k0_pay10 i) (k0_pay11 i) k0_pay12, body.sl.r_9 (F := F) c i arg2 harg2 arg3 harg3 arg4 harg4 arg5 harg5 arg6 harg6 arg7 harg7 arg8 harg8 arg9 harg9 arg10 harg10 arg11 harg11 arg12 harg12 arg13 harg13 arg14 harg14 x0 x3 x5 x6 x9 (BitVec.ofNat 32 (i 1).val) (k0_pay9 i) part1.sl.v31 (k0_pay10 i) (k0_pay11 i) k0_pay12, body.sl.r_10 (F := F) c i arg2 harg2 arg3 harg3 arg4 harg4 arg5 harg5 arg6 harg6 arg7 harg7 arg8 harg8 arg9 harg9 arg10 harg10 arg11 harg11 arg12 harg12 arg13 harg13 arg14 harg14 x0 x3 x5 x6 x9 (BitVec.ofNat 32 (i 1).val) (k0_pay9 i) part1.sl.v31 (k0_pay10 i) (k0_pay11 i) k0_pay12) : Acc F) = ac1 i x0 x3 x5 x6 x9 := by
  unfold body.sl.r_8 body.sl.r_9 body.sl.r_10
  rw [rest_eq1]
  erw [loop_eq1, qa_eq1]
  rfl

theorem os_eq1 : body.sl.r_11 (F := F) c i arg2 harg2 arg3 harg3 arg4 harg4 arg5 harg5 arg6 harg6 arg7 harg7 arg8 harg8 arg9 harg9 arg10 harg10 arg11 harg11 arg12 harg12 arg13 harg13 arg14 harg14 x0 x3 x5 x6 x9 (BitVec.ofNat 32 (i 1).val) (k0_pay7 i) (k0_pay9 i) part1.sl.v31 (k0_pay10 i) (k0_pay11 i) k0_pay12 = os1 i x0 x3 x5 x6 x9 := by
  rw [sc_eq1, acc_eq1, qa_eq1, readAt_sub harg13, readAt_sub harg8]; rfl

theorem oc_eq1 : body.sl.v531 (F := F) arg2 harg2 arg5 harg5 arg6 harg6 x0 x3 x4 (k0_pay9 i) = oc1 i x0 x3 x4 := by
  rw [o_eq1, p_eq1, readAt_sub harg2, readAt_sub harg5, readAt_sub harg6]; rfl

theorem ow_eq1 : body.sl.v898 (F := F) i arg2 harg2 arg9 harg9 arg10 harg10 x0 x7 x8 (part1.sl.v3 i) (k0_pay7 i) = ow1 i x0 x7 x8 := by
  have h : body.sl.v898 (F := F) i arg2 harg2 arg9 harg9 arg10 harg10 x0 x7 x8 (part1.sl.v3 i) (k0_pay7 i) = owin i (body.sl.v507 (F := F) arg2 harg2 x0) (View.readAt (Elt F) arg9.view (Rect.unit (s := S1x128x8192) (k0_off14 i) S1x64x640.size (k0_off14_inb i)).toLoadRect (harg9.unread x7)) (View.readAt (Elt F) arg10.view (Rect.unit (s := S1x8192x128) (k0_off8 i) S1x640x128.size (k0_off8_inb i)).toLoadRect (harg10.unread x8)) := rfl
  rw [h, q_eq1, readAt_sub harg2, readAt_sub harg9, readAt_sub harg10]; rfl

theorem out_eq : body.sl.r_12 (F := F) c i arg2 harg2 arg3 harg3 arg4 harg4 arg5 harg5 arg6 harg6 arg7 harg7 arg8 harg8 arg9 harg9 arg10 harg10 arg11 harg11 arg12 harg12 arg13 harg13 arg14 harg14 x0 x3 x4 x5 x6 x7 x8 x9 f14 (BitVec.ofNat 32 (i 1).val) (part1.sl.v3 i) (k0_pay7 i) (k0_pay8 (View.readAt (Elt F) arg3.view (Rect.unit (s := S1x128x128) ![0, 0, 0] S1x128x128.size inb_S1x128x128_S1x128x128_0_0_0).toLoadRect (harg3.unread x1))) (k0_pay9 i) part1.sl.v31 (k0_pay10 i) (k0_pay11 i) k0_pay12
    = headsv (k0_pay8 (View.readAt (Elt F) arg3.view (Rect.unit (s := S1x128x128) ![0, 0, 0] S1x128x128.size inb_S1x128x128_S1x128x128_0_0_0).toLoadRect (harg3.unread x1))) (body.sl.v81 (F := F) arg2 harg2 arg5 harg5 arg6 harg6 x0 x3 x4 (k0_pay9 i)) (body.sl.r_5 (F := F) c i arg2 harg2 arg3 harg3 arg4 harg4 arg5 harg5 arg6 harg6 arg7 harg7 arg8 harg8 arg9 harg9 arg10 harg10 arg11 harg11 arg12 harg12 arg13 harg13 arg14 harg14 x0 x3 x5 x6 x9 f14 (BitVec.ofNat 32 (i 1).val) (k0_pay7 i) (k0_pay9 i) part1.sl.v31 (k0_pay10 i) (k0_pay11 i) k0_pay12) (body.sl.v448 (F := F) i arg2 harg2 arg9 harg9 arg10 harg10 x0 x7 x8 (part1.sl.v3 i) (k0_pay7 i)) (body.sl.v531 (F := F) arg2 harg2 arg5 harg5 arg6 harg6 x0 x3 x4 (k0_pay9 i)) (body.sl.r_11 (F := F) c i arg2 harg2 arg3 harg3 arg4 harg4 arg5 harg5 arg6 harg6 arg7 harg7 arg8 harg8 arg9 harg9 arg10 harg10 arg11 harg11 arg12 harg12 arg13 harg13 arg14 harg14 x0 x3 x5 x6 x9 (BitVec.ofNat 32 (i 1).val) (k0_pay7 i) (k0_pay9 i) part1.sl.v31 (k0_pay10 i) (k0_pay11 i) k0_pay12) (body.sl.v898 (F := F) i arg2 harg2 arg9 harg9 arg10 harg10 x0 x7 x8 (part1.sl.v3 i) (k0_pay7 i)) := rfl

/-- The body's output block, whatever the query scratch held before. -/
theorem body_val : (body c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9).1 f14 = outv i x0 x1 x2 x3 x4 x5 x6 x7 x8 x9 := by
  have h : (body c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9).1 f14 = k0_pay1 (body.sl.r_12 (F := F) c i arg2 harg2 arg3 harg3 arg4 harg4 arg5 harg5 arg6 harg6 arg7 harg7 arg8 harg8 arg9 harg9 arg10 harg10 arg11 harg11 arg12 harg12 arg13 harg13 arg14 harg14 x0 x3 x4 x5 x6 x7 x8 x9 f14 (BitVec.ofNat 32 (i 1).val) (part1.sl.v3 i) (k0_pay7 i) (k0_pay8 (View.readAt (Elt F) arg3.view (Rect.unit (s := S1x128x128) ![0, 0, 0] S1x128x128.size inb_S1x128x128_S1x128x128_0_0_0).toLoadRect (harg3.unread x1))) (k0_pay9 i) part1.sl.v31 (k0_pay10 i) (k0_pay11 i) k0_pay12) (View.readAt (Elt F) arg4.view (Rect.unit (s := S1x128x512) ![0, 0, 0] S1x128x512.size inb_S1x128x512_S1x128x512_0_0_0).toLoadRect (harg4.unread x2)) := rfl
  rw [h, out_eq, oc_eq0, os_eq0, ow_eq0, oc_eq1, os_eq1, ow_eq1, readAt_sub harg3, readAt_sub harg4]; rfl

end Stages

end Cert.KernelIdeal.Body

end
-- ==== Proof.Wins.lean ====
/-
  The blocks of the windows at coordinates: which part of its array each block is at grid point `t`, that is, at batch
  `t / 64` and query block `t % 64`.
-/
module

public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.KernelIdeal.Body

open Cert.KernelIdeal Cert.KernelIdeal.Gen
open Idealize.ShloMosaic Idealize.ShloMosaic.TcCoe Idealize.ShloMosaic.Tactic

variable {F : FTy → Type} [FloatOps F] [Named F]
variable (m : (ℓ : Loc nD τ sig) → Buf (Elt F) ℓ)

/-- The batch of a grid point, -/
abbrev bt (t : Fin cfg0.N) : Fin 4 := ⟨t.val / 64, by have : t.val < 256 := lt_of_lt_of_eq t.isLt (show cfg0.N = 256 from N_0); omega⟩
/-- and the row of the sequence its query block's row `b` is. -/
abbrev rw0 (t : Fin cfg0.N) (b : Fin 128) : Fin 8192 := ⟨t.val % 64 * 128 + b.val, by omega⟩

theorem idx0 : ∀ t : Fin cfg0.N, win0_0.index t = ![t.val / 64, 0, t.val % 64, 0] :=
  (by decide +kernel : ∀ t : Fin grid0.N, _)
theorem idx1 : ∀ t : Fin cfg0.N, win0_1.index t = ![t.val / 64, t.val % 64, 0] :=
  (by decide +kernel : ∀ t : Fin grid0.N, _)
theorem idx2 : ∀ t : Fin cfg0.N, win0_2.index t = ![t.val / 64, t.val % 64, 0] :=
  (by decide +kernel : ∀ t : Fin grid0.N, _)
theorem idx3 : ∀ t : Fin cfg0.N, win0_3.index t = ![t.val / 64, 0, 0] :=
  (by decide +kernel : ∀ t : Fin grid0.N, _)
theorem idx4 : ∀ t : Fin cfg0.N, win0_4.index t = ![t.val / 64, 0, 0] :=
  (by decide +kernel : ∀ t : Fin grid0.N, _)
theorem idx5 : ∀ t : Fin cfg0.N, win0_5.index t = ![t.val / 64, 0, 0] :=
  (by decide +kernel : ∀ t : Fin grid0.N, _)
theorem idx6 : ∀ t : Fin cfg0.N, win0_6.index t = ![t.val / 64, 0, 0] :=
  (by decide +kernel : ∀ t : Fin grid0.N, _)
theorem idx7 : ∀ t : Fin cfg0.N, win0_7.index t = ![t.val / 64, 0, 0] :=
  (by decide +kernel : ∀ t : Fin grid0.N, _)
theorem idx8 : ∀ t : Fin cfg0.N, win0_8.index t = ![t.val / 64, 0, 0] :=
  (by decide +kernel : ∀ t : Fin grid0.N, _)
theorem idx9 : ∀ t : Fin cfg0.N, win0_9.index t = ![0, 0] :=
  (by decide +kernel : ∀ t : Fin grid0.N, _)
theorem idx10 : ∀ t : Fin cfg0.N, win0_10.index t = ![t.val / 64, t.val % 64, 0] :=
  (by decide +kernel : ∀ t : Fin grid0.N, _)

theorem iblk0 (c : Dev nD) (t : Fin cfg0.N) (a : Fin 1) (b : Fin 8) (r : Fin 128) (d : Fin 64) :
    (iblk m c 0 t : Vec F S1x8x128x64 .bf16) (ix4 a b r d) = V m c main_arg0 (ix4 (bt t) b (rw0 t r) d) := by
  blk_ext! [iblk, idx0 t]

theorem iblk1 (c : Dev nD) (t : Fin cfg0.N) (a : Fin 1) (r : Fin 128) (d : Fin 128) :
    (iblk m c 1 t : Vec F S1x128x128 .f32) (ix3 a r d) = V m c main_arg1 (ix3 (bt t) (rw0 t r) d) := by
  blk_ext! [iblk, idx1 t]

theorem iblk2 (c : Dev nD) (t : Fin cfg0.N) (a : Fin 1) (r : Fin 128) (d : Fin 512) :
    (iblk m c 2 t : Vec F S1x128x512 .f32) (ix3 a r d) = V m c main_arg2 (ix3 (bt t) (rw0 t r) d) := by
  blk_ext! [iblk, idx2 t]

theorem iblk3 (c : Dev nD) (t : Fin cfg0.N) (a : Fin 1) (b : Fin 128) (d : Fin 256) :
    (iblk m c 3 t : Vec F S1x128x256 .bf16) (ix3 a b d) = V m c main_arg3 (ix3 (bt t) b d) := by
  blk_ext! [iblk, idx3 t]

theorem iblk4 (c : Dev nD) (t : Fin cfg0.N) (a : Fin 1) (b : Fin 256) (d : Fin 128) :
    (iblk m c 4 t : Vec F S1x256x128 .bf16) (ix3 a b d) = V m c main_arg4 (ix3 (bt t) b d) := by
  blk_ext! [iblk, idx4 t]

theorem iblk5 (c : Dev nD) (t : Fin cfg0.N) (a : Fin 1) (b : Fin 128) (d : Fin 8192) :
    (iblk m c 5 t : Vec F S1x128x8192 .bf16) (ix3 a b d) = V m c main_arg5 (ix3 (bt t) b d) := by
  blk_ext! [iblk, idx5 t]

theorem iblk6 (c : Dev nD) (t : Fin cfg0.N) (a : Fin 1) (b : Fin 8192) (d : Fin 128) :
    (iblk m c 6 t : Vec F S1x8192x128 .bf16) (ix3 a b d) = V m c main_arg6 (ix3 (bt t) b d) := by
  blk_ext! [iblk, idx6 t]

theorem iblk7 (c : Dev nD) (t : Fin cfg0.N) (a : Fin 1) (b : Fin 128) (d : Fin 8192) :
    (iblk m c 7 t : Vec F S1x128x8192 .bf16) (ix3 a b d) = V m c main_arg7 (ix3 (bt t) b d) := by
  blk_ext! [iblk, idx7 t]

theorem iblk8 (c : Dev nD) (t : Fin cfg0.N) (a : Fin 1) (b : Fin 8192) (d : Fin 128) :
    (iblk m c 8 t : Vec F S1x8192x128 .bf16) (ix3 a b d) = V m c main_arg8 (ix3 (bt t) b d) := by
  blk_ext! [iblk, idx8 t]

theorem iblk9 (c : Dev nD) (t t' : Fin cfg0.N) : (iblk m c 9 t : Vec F S128x8192 .bf16) = iblk m c 9 t' := by
  funext y
  idx_vars y
  have h : ∀ s : Fin cfg0.N, (iblk m c 9 s : Vec F S128x8192 .bf16) (ix2 y0 y1) = V m c (Pipeline.arrRef spec0 9) (ix2 y0 y1) := by
    intro s
    blk_ext! [iblk, idx9 s]
  rw [h, h]

/-- Within a batch the selection keys are one block. -/
theorem iblk5_same (c : Dev nD) (t t' : Fin cfg0.N) (h : t.val / 64 = t'.val / 64) : (iblk m c 5 t : Vec F S1x128x8192 .bf16) = iblk m c 5 t' := by
  funext y
  idx_vars y
  rw [iblk5, iblk5]
  congr 2
  exact Fin.ext h

end Cert.KernelIdeal.Body

end
-- ==== Proof.Launch.lean ====
/-
  The launch: at every grid point the body's run applies, the key scratch carried from the batch's first point on holding
  `kta` of the batch's blocks, and each point leaves its block of the result at `outv` of the blocks it read.
-/
module

public import proofs.«01_k».proof.Proof.Out
public import proofs.«01_k».proof.Proof.Wins
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The logic's resources, as the generated frame kit takes them. -/
local notation "𝕄" => MT nD τ sig Unit (Elt F) ℕ (UR sig nD τ) ℕ

theorem owns_of (c : Dev nD) {s : Shape} {e : EltTy} {a : Memref sig .tc .vmem s e} (h : a.IsWhole) (x : Vec F s e) :
    (View.loc (c : Thread nD τ) a.view ↦[a.view.set]{fullShare} h.unread x : sProp 𝕄) ⊢ (owns (c : Thread nD τ) a fullShare x : sProp 𝕄) := by
  unfold owns
  iintro H
  iexists _
  isplitr
  swap; · iexact H
  ipureintro; exact h.read_unread x

theorem of_owns (c : Dev nD) {s : Shape} {e : EltTy} {a : Memref sig .tc .vmem s e} (h : a.IsWhole) (x : Vec F s e) :
    (owns (c : Thread nD τ) a fullShare x : sProp 𝕄) ⊢ (View.loc (c : Thread nD τ) a.view ↦[a.view.set]{fullShare} h.unread x : sProp 𝕄) := by
  unfold owns
  iintro ⟨%f, %hf, H⟩
  obtain rfl := h.eq_unread hf
  iexact H

/-- The body's run with each buffer owned at its contents. -/
theorem body_run (c : Dev nD) (i : grid0.Coords) (arg2 : Memref sig .tc .vmem S1x8x128x64 .bf16) (harg2 : arg2.IsWhole) (arg3 : Memref sig .tc .vmem S1x128x128 .f32) (harg3 : arg3.IsWhole) (arg4 : Memref sig .tc .vmem S1x128x512 .f32) (harg4 : arg4.IsWhole) (arg5 : Memref sig .tc .vmem S1x128x256 .bf16) (harg5 : arg5.IsWhole) (arg6 : Memref sig .tc .vmem S1x256x128 .bf16) (harg6 : arg6.IsWhole) (arg7 : Memref sig .tc .vmem S1x128x8192 .bf16) (harg7 : arg7.IsWhole) (arg8 : Memref sig .tc .vmem S1x8192x128 .bf16) (harg8 : arg8.IsWhole) (arg9 : Memref sig .tc .vmem S1x128x8192 .bf16) (harg9 : arg9.IsWhole) (arg10 : Memref sig .tc .vmem S1x8192x128 .bf16) (harg10 : arg10.IsWhole) (arg11 : Memref sig .tc .vmem S128x8192 .bf16) (harg11 : arg11.IsWhole) (arg12 : Memref sig .tc .vmem S1x128x512 .bf16) (harg12 : arg12.IsWhole) (arg13 : Memref sig .tc .vmem S2x192x8192 .bf16) (harg13 : arg13.IsWhole) (arg14 : Memref sig .tc .vmem S512x192 .bf16) (harg14 : arg14.IsWhole) (x0 : Vec F S1x8x128x64 .bf16) (x1 : Vec F S1x128x128 .f32) (x2 : Vec F S1x128x512 .f32) (x3 : Vec F S1x128x256 .bf16) (x4 : Vec F S1x256x128 .bf16) (x5 : Vec F S1x128x8192 .bf16) (x6 : Vec F S1x8192x128 .bf16) (x7 : Vec F S1x128x8192 .bf16) (x8 : Vec F S1x8192x128 .bf16) (x9 : Vec F S128x8192 .bf16)
    (d : Vec F S1x128x512 .bf16) (s : Vec F S2x192x8192 .bf16) (z : Vec F S512x192 .bf16) (hs : ¬ first i → s = kta x9 x5) (E : Set ℕ) (K : sProp 𝕄) :
    (iprop((owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare d ∗ owns (c : Thread nD τ) arg13 fullShare s ∗ owns (c : Thread nD τ) arg14 fullShare z)
        ∗ ((owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (outv i x0 x1 x2 x3 x4 x5 x6 x7 x8 x9) ∗ owns (c : Thread nD τ) arg13 fullShare (kta x9 x5) ∗ ∃ z, owns (c : Thread nD τ) arg14 fullShare z) -∗ K)) : sProp 𝕄)
      ⊢ wp frame (wpE (defs₀ (F := F)) Variants.none c none) E (cc0_prompt_attn i arg2 harg2 arg3 harg3 arg4 harg4 arg5 harg5 arg6 harg6 arg7 harg7 arg8 harg8 arg9 harg9 arg10 harg10 arg11 harg11 arg12 harg12 arg13 harg13 arg14 harg14) (fun _ => K) := by
  have hb := (body c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9).2 E (harg12.unread d) (harg13.unread s) (harg14.unread z) (fun h => by rw [hs h])
  rw [body_val] at hb
  refine BIBase.Entails.trans ?_ ((Idealize.SL.BI.Laws.sep_mono_left hb).trans (wp_wand_r frame _ E))
  iintro ⟨⟨H0, H1, H2, H3, H4, H5, H6, H7, H8, H9, H10, H11, H12⟩, HK⟩
  isplitl [H0 H1 H2 H3 H4 H5 H6 H7 H8 H9 H10 H11 H12]
  · isplitl [H0]
    · iapply of_owns c harg2
      iexact H0
    isplitl [H1]
    · iapply of_owns c harg3
      iexact H1
    isplitl [H2]
    · iapply of_owns c harg4
      iexact H2
    isplitl [H3]
    · iapply of_owns c harg5
      iexact H3
    isplitl [H4]
    · iapply of_owns c harg6
      iexact H4
    isplitl [H5]
    · iapply of_owns c harg7
      iexact H5
    isplitl [H6]
    · iapply of_owns c harg8
      iexact H6
    isplitl [H7]
    · iapply of_owns c harg9
      iexact H7
    isplitl [H8]
    · iapply of_owns c harg10
      iexact H8
    isplitl [H9]
    · iapply of_owns c harg11
      iexact H9
    isplitl [H10]
    · iapply of_owns c harg12
      iexact H10
    isplitl [H11]
    · iapply of_owns c harg13
      iexact H11
    iapply of_owns c harg14
    iexact H12
  · iintro %u ⟨H0, H1, H2, H3, H4, H5, H6, H7, H8, H9, H10, H11, ⟨%f, H12⟩⟩
    iapply HK
    isplitl [H0]
    · iapply owns_of c harg2
      iexact H0
    isplitl [H1]
    · iapply owns_of c harg3
      iexact H1
    isplitl [H2]
    · iapply owns_of c harg4
      iexact H2
    isplitl [H3]
    · iapply owns_of c harg5
      iexact H3
    isplitl [H4]
    · iapply owns_of c harg6
      iexact H4
    isplitl [H5]
    · iapply owns_of c harg7
      iexact H5
    isplitl [H6]
    · iapply owns_of c harg8
      iexact H6
    isplitl [H7]
    · iapply owns_of c harg9
      iexact H7
    isplitl [H8]
    · iapply owns_of c harg10
      iexact H8
    isplitl [H9]
    · iapply owns_of c harg11
      iexact H9
    isplitl [H10]
    · iapply owns_of c harg12
      iexact H10
    isplitl [H11]
    · iapply owns_of c harg13
      iexact H11
    iexists _
    unfold owns
    iexists _
    isplitr
    swap; · iexact H12
    ipureintro; rfl

variable (m : (ℓ : Loc nD τ sig) → Buf (Elt F) ℓ) (ρ : Dev nD → PrngReg)

/-- The body takes its first branch at each batch's first point. -/
theorem first_iff (t : Fin cfg0.N) : first (grid0.coords t) ↔ t.val % 64 = 0 := by
  have h : ∀ t : Fin grid0.N, first (grid0.coords t) ↔ t.val % 64 = 0 := by decide +kernel
  exact h t

/-- The two scratch buffers. -/
abbrev sk : Memref sig .tc .vmem S2x192x8192 .bf16 := Memref.whole cc0_scratch0
abbrev sq : Memref sig .tc .vmem S512x192 .bf16 := Memref.whole cc0_scratch1

/-- What the key scratch holds after point `t`. -/
def keys (c : Dev nD) (t : Fin cfg0.N) : Vec F S2x192x8192 .bf16 := kta (iblk m c 9 t) (iblk m c 5 t)

theorem keys_same (c : Dev nD) (t t' : Fin cfg0.N) (h : t.val / 64 = t'.val / 64) : keys m c t = keys m c t' := by
  unfold keys
  rw [iblk9 m c t t', iblk5_same m c t t' h]

/-- The region's scoped resources before the first point. -/
theorem PhiA_eq (c : Dev nD) : (Pipeline.ΦA spec0 c : sProp 𝕄)
    = iprop(iprop((∃ d, owns (c : Thread nD τ) sk fullShare d) ∗ (∃ d, owns (c : Thread nD τ) sq fullShare d)) ∗ (∃ r, prngReg c r)) := by
  unfold Pipeline.ΦA; rw [scopedRest0_eq]; simp only [sk, sq, owns_whole]; try rfl

/-- The invariant: before the first point the scoped resources as the launch hands them, after point `n` the key scratch at
    that point's keys. -/
def inv (c : Dev nD) : (n : ℕ) → n ≤ cfg0.N → sProp 𝕄
  | 0, _ => Pipeline.ΦA spec0 c
  | n + 1, hn => iprop(iprop(owns (c : Thread nD τ) sk fullShare (keys m c ⟨n, hn⟩) ∗ (∃ d, owns (c : Thread nD τ) sq fullShare d)) ∗ (∃ r, prngReg c r))

theorem inv_pos (c : Dev nD) (n : ℕ) (h : n ≤ cfg0.N) (hz : n ≠ 0) :
    inv m c n h = iprop(iprop(owns (c : Thread nD τ) sk fullShare (keys m c ⟨n - 1, by omega⟩) ∗ (∃ d, owns (c : Thread nD τ) sq fullShare d)) ∗ (∃ r, prngReg c r)) := by
  cases n with
  | zero => exact absurd rfl hz
  | succ n => rfl

/-- What a point leaves of the result: `outv` of its blocks. -/
def outAt (c : Dev nD) (t : Fin cfg0.N) : Vec F S1x128x512 .bf16 :=
  outv (grid0.coords t) (iblk m c 0 t) (iblk m c 1 t) (iblk m c 2 t) (iblk m c 3 t) (iblk m c 4 t) (iblk m c 5 t) (iblk m c 6 t) (iblk m c 7 t) (iblk m c 8 t) (iblk m c 9 t)

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outAt m c t
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = outAt m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- The invariant before a point, as what the body asks of the key scratch: some contents, the batch's keys off the batch's
    first point. -/
theorem inv_open (c : Dev nD) (t : Fin cfg0.N) : (dats m 0 c).Φ t.castSucc
    ⊢ (iprop((∃ s, ⌜¬ first (grid0.coords t) → s = keys m c t⌝ ∗ owns (c : Thread nD τ) sk fullShare s) ∗ (∃ d, owns (c : Thread nD τ) sq fullShare d) ∗ (∃ r, prngReg c r)) : sProp 𝕄) := by
  rw [show (dats m 0 c).Φ t.castSucc = inv m c t.val (Nat.le_of_lt t.isLt) from by dsimp only [dats]; exact Pipeline.Dat.Φ_castSucc (inv m c) t]
  by_cases hz : t.val = 0
  · rw [show inv m c t.val (Nat.le_of_lt t.isLt) = Pipeline.ΦA spec0 c from by
      obtain ⟨n, hn⟩ := t; cases hz; rfl, PhiA_eq]
    iintro ⟨⟨⟨%s, HS⟩, HQ⟩, Hg⟩
    isplitl [HS]
    · iexists s
      isplitr
      · ipureintro; exact fun h => absurd ((first_iff t).mpr (by omega)) h
      iexact HS
    isplitl [HQ]; · iexact HQ
    iexact Hg
  · rw [inv_pos m c _ _ hz]
    iintro ⟨⟨HS, HQ⟩, Hg⟩
    isplitl [HS]
    · iexists _
      isplitr
      swap; · iexact HS
      ipureintro
      intro h
      rw [first_iff] at h
      exact keys_same m c _ _ (by show (t.val - 1) / 64 = t.val / 64; omega)
    isplitl [HQ]; · iexact HQ
    iexact Hg

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre
  refine BIBase.Entails.trans (Idealize.SL.BI.Laws.sep_mono_left (inv_open m c t)) ?_
  unfold bodyPost bodyAt0
  simp only [before0, before1, before2, before3, before4, before5, before6, before7, before8, before9]
  rw [show (dats m 0 c).owesAt () t.succ = (dats m 0 c).owesAt () t.castSucc from rfl,
    after0, after1, after2, after3, after4, after5, after6, after7, after8, after9, after10,
    show (dats m 0 c).Φ t.succ = iprop(iprop(owns (c : Thread nD τ) sk fullShare (keys m c t) ∗ (∃ d, owns (c : Thread nD τ) sq fullShare d)) ∗ (∃ r, prngReg c r)) from rfl]
  iintro ⟨⟨⟨%s, %hs, HS⟩, ⟨%z, HQ⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply body_run c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) sk (Memref.isWhole_whole _) sq (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) _ s z hs
  isplitl [H0 H1 H2 H3 H4 H5 H6 H7 H8 H9 H10 HS HQ]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS]; · iexact HS
    iexact HQ
  iintro ⟨H0, H1, H2, H3, H4, H5, H6, H7, H8, H9, H10, HS, HQ⟩
  isplitl [HS HQ Hg]
  · isplitl [HS HQ]
    · isplitl [HS]; · iexact HS
      iexact HQ
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  have hN : cfg0.N = 256 := N_0
  rw [show (dats m 0 c).Φ (Fin.last cfg0.N) = inv m c cfg0.N (Nat.le_refl _) from rfl, inv_pos m c _ _ (by omega), PhiA_eq]
  iintro ⟨⟨HS, HQ⟩, Hg⟩
  isplitl [HS HQ]
  · isplitl [HS]
    · iexists _; iexact HS
    iexact HQ
  iexact Hg

-- the launch theorem's implicit arguments are found by unfolding plain definitions in a metavariable's type
set_option backward.isDefEq.respectTransparency.types false in
/-- THE RUN: every array of the pipeline ends at what the proof data say, every counter at zero. -/
theorem run_counters : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_post : θ_run defs (onTc (τ := τ) (main (F := F))) (s₀ m ρ) (Pipeline.FramePost cfgs (dats m) 0 (V m)) :=
  (θ_run defs _ _).mono (fun _ h => h.1) (run_counters m ρ)

/-- THE FRAME: the argument arrays end unchanged, every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_post m ρ)) ((θ_run defs _ _).mono (fun _ h => h.2) (run_counters m ρ))

end Cert.KernelIdeal.Body

end
-- ==== Proof.Claims.lean ====
/-
  The frames of the two printed programs and of the reference, and what the named constant's rule asks.
-/
module

public import proofs.«01_k».proof.Defs
public import proofs.«01_k».proof.Proof.Launch
public import proofs.«01_k».proof.Proof.PLaunch
public import proofs.«01_k».proof.Proof.Gen.ReferenceIdeal.Run

@[expose] public section

noncomputable section

namespace Cert.Layer

open Idealize.ShloMosaic Idealize.SL.Sem

/-- The kernel as printed runs and changes none of its arguments. -/
theorem printed_frame : Cert.quiescent_Kernel (hKernel := Cert.Kernel.Gen.facts) :=
  fun m g _ => Cert.Kernel.Body.frame_all m g

/-- So does the idealized kernel, -/
theorem ideal_frame : Cert.quiescent_KernelIdeal (hKernelIdeal := Cert.KernelIdeal.Gen.facts) :=
  fun m g _ => Cert.KernelIdeal.Body.frame_all m g

/-- and the reference, which declares no counter. -/
theorem reference_frame : Cert.quiescent_ReferenceIdeal (hReferenceIdeal := Cert.ReferenceIdeal.Gen.facts) :=
  fun m g _ => (θ_run Cert.ReferenceIdeal.defs _ _).mono
    (fun r h => ⟨fun c => (h c).2, sem_eq_zero_of_no_sems (by decide) r.2⟩) (Cert.ReferenceIdeal.Value.run m g)

/-- The large negative constant the scores are masked with reads −∞ in the idealized kernel. -/
theorem mask_named : Cert.preserves_Kernel_KernelIdeal :=
  IdealRules.named_const.statement Cert.KernelIdeal.κ "mask" .f32 0xF149F2CA#32 ⊥ rfl

end Cert.Layer

end
-- ==== Proof.Soft.lean ====
/-
  The softmax-weighted sum over extended reals: a score of −∞ is a masked key.  What is here is about the sum alone:
  it may be taken over any set that holds every key whose score is not −∞, along any injective renaming of the keys, and
  chunk by chunk with a running maximum.
-/
module

public import Idealize.ShloMosaic.PureOps.Ideal
public import Idealize.ShloMosaic.PureOps.Ideal.Laws
public import Idealize.ShloMosaic.Lib.IdealHost

@[expose] public section

noncomputable section

namespace Cert.Layer.Soft

open Idealize.ShloMosaic Finset

variable {κ ι : Type} [DecidableEq κ] [DecidableEq ι]

/-- The smallest weight sum divided by. -/
abbrev tiny : EReal := Ideal.ofBits .f32 0x0DA24260#32

/-- What the scores are compared with: their maximum, zero where every key is masked. -/
def shift (m : EReal) : EReal := if m = ⊥ then 0 else m

/-- The weight sum of the keys `S`. -/
def mass (S : Finset κ) (s : κ → EReal) : EReal := ∑ j ∈ S, Ideal.exp (s j - shift (S.sup s))

/-- A key's weight. -/
def wt (S : Finset κ) (s : κ → EReal) (i : κ) : EReal := Ideal.div (Ideal.exp (s i - shift (S.sup s))) (max (mass S s) tiny)

/-- The weighted sum of the values. -/
def avg (S : Finset κ) (s v : κ → EReal) : EReal := ∑ i ∈ S, wt S s i * v i

theorem neg_inf : Ideal.ofBits .f32 0xFF800000#32 = ⊥ := by simp [Ideal.ofBits, Ideal.ieee]

theorem pos_inf : Ideal.ofBits .f32 0x7F800000#32 = ⊤ := by simp [Ideal.ofBits, Ideal.ieee]

theorem tiny_val : tiny = ((10633824 * (2:ℝ) ^ (-123 : Int) : ℝ) : EReal) := by
  simp [tiny, Ideal.ofBits, Ideal.ieee, -EReal.coe_mul]
  try norm_num

theorem tiny_pos : 0 < tiny := by
  rw [tiny_val, ← EReal.coe_zero, EReal.coe_lt_coe_iff]
  positivity

theorem tiny_le : tiny ≤ 1 := by
  rw [tiny_val, ← EReal.coe_one, EReal.coe_le_coe_iff, zpow_neg]
  norm_num

theorem bot_sub (x : EReal) : ⊥ - x = ⊥ := EReal.bot_sub x

theorem exp_nonneg (x : EReal) : 0 ≤ Ideal.exp x := by
  induction x using EReal.rec with
  | bot => exact le_refl _
  | top => exact le_top
  | coe r => exact EReal.coe_nonneg.mpr (Real.exp_pos r).le

theorem exp_zero : Ideal.exp 0 = 1 := by
  rw [← EReal.coe_zero, Ideal.exp_coe, Real.exp_zero, EReal.coe_one]

/-- Rescaling a weight from one reference point to a greater one. -/
theorem exp_mul (a b c : EReal) (hab : a ≤ b) (hbc : b ≤ c) (hc : c ≠ ⊤) :
    Ideal.exp (b - c) * Ideal.exp (a - b) = Ideal.exp (a - c) := by
  induction a using EReal.rec with
  | bot => simp only [EReal.bot_sub, Ideal.exp_bot, mul_zero]
  | top => exact absurd (top_le_iff.mp (hab.trans hbc)) hc
  | coe a =>
    induction b using EReal.rec with
    | bot => exact absurd (le_bot_iff.mp hab) (EReal.coe_ne_bot a)
    | top => exact absurd (top_le_iff.mp hbc) hc
    | coe b =>
      induction c using EReal.rec with
      | bot => exact absurd (le_bot_iff.mp hbc) (EReal.coe_ne_bot b)
      | top => exact absurd rfl hc
      | coe c =>
        rw [← EReal.coe_sub, ← EReal.coe_sub, ← EReal.coe_sub, Ideal.exp_coe, Ideal.exp_coe, Ideal.exp_coe, ← EReal.coe_mul, ← Real.exp_add]
        congr 2
        ring

/-- A weight below the reference point is a real number. -/
theorem exp_ne_top (a c : EReal) (hac : a ≤ c) (hc : c ≠ ⊤) : Ideal.exp (a - c) ≠ ⊤ := by
  induction a using EReal.rec with
  | bot => simp only [EReal.bot_sub, Ideal.exp_bot]; exact EReal.zero_ne_top
  | top => exact absurd (top_le_iff.mp hac) hc
  | coe a =>
    induction c using EReal.rec with
    | bot => exact absurd (le_bot_iff.mp hac) (EReal.coe_ne_bot a)
    | top => exact absurd rfl hc
    | coe c => rw [← EReal.coe_sub, Ideal.exp_coe]; exact EReal.coe_ne_top _

/-- A nonnegative real factor goes into a finite sum. -/
theorem mul_sum_of (x : EReal) (h0 : 0 ≤ x) (h1 : x ≠ ⊤) (S : Finset κ) (f : κ → EReal) : x * ∑ i ∈ S, f i = ∑ i ∈ S, x * f i := by
  classical
  induction S using Finset.induction_on with
  | empty => simp
  | insert a S ha ih => rw [Finset.sum_insert ha, Finset.sum_insert ha, EReal.left_distrib_of_nonneg_of_ne_top h0 h1, ih]

/-! ## A running sum over the first keys -/

/-- The state after the keys `S`: the maximum, the weight sum and the weighted values, all against that maximum. -/
def State (S : Finset κ) (s v : κ → EReal) (m l a : EReal) : Prop :=
  m = S.sup s ∧ l = ∑ i ∈ S, Ideal.exp (s i - m) ∧ a = ∑ i ∈ S, Ideal.exp (s i - m) * v i

theorem State.empty (s v : κ → EReal) : State ∅ s v ⊥ 0 0 := ⟨rfl, by simp, by simp⟩

theorem State.step {S T : Finset κ} (hd : Disjoint S T) {s v : κ → EReal} (hs : ∀ i, s i ≠ ⊤) {m l a : EReal} (h : State S s v m l a) :
    State (S ∪ T) s v (max m (T.sup s))
      (Ideal.exp (m - max m (T.sup s)) * l + ∑ i ∈ T, Ideal.exp (s i - max m (T.sup s)))
      (Ideal.exp (m - max m (T.sup s)) * a + ∑ i ∈ T, Ideal.exp (s i - max m (T.sup s)) * v i) := by
  obtain ⟨hm, hl, ha⟩ := h
  have hsup : ∀ U : Finset κ, U.sup s ≠ ⊤ := by
    intro U
    have : U.sup s < ⊤ := (Finset.sup_lt_iff (by exact bot_lt_top)).mpr fun i _ => lt_top_iff_ne_top.mpr (hs i)
    exact this.ne
  set c := max m (T.sup s) with hc
  have hct : c ≠ ⊤ := by
    rw [hc, hm]
    rcases max_choice (S.sup s) (T.sup s) with h | h <;> rw [h] <;> exact hsup _
  have hmc : m ≤ c := le_max_left _ _
  have hle : ∀ i ∈ S, s i ≤ m := fun i hi => hm ▸ Finset.le_sup (f := s) hi
  have h0 := exp_nonneg (m - c)
  have h1 := exp_ne_top m c hmc hct
  refine ⟨?_, ?_, ?_⟩
  · rw [Finset.sup_union, hc, hm]
  · rw [Finset.sum_union hd, hl, mul_sum_of _ h0 h1]
    congr 1
    exact Finset.sum_congr rfl fun i hi => exp_mul _ _ _ (hle i hi) hmc hct
  · rw [Finset.sum_union hd, ha, mul_sum_of _ h0 h1]
    congr 1
    refine Finset.sum_congr rfl fun i hi => ?_
    rw [← mul_assoc, exp_mul _ _ _ (hle i hi) hmc hct]

/-- The quotient at the end is the weighted sum, when some key is not masked. -/
theorem State.avg {S : Finset κ} {s v : κ → EReal} (hs : ∀ i, s i ≠ ⊤) {m l a : EReal} (h : State S s v m l a) (hne : ∃ i ∈ S, s i ≠ ⊥) :
    Ideal.div a l = avg S s v := by
  obtain ⟨hm, hl, ha⟩ := h
  obtain ⟨i₀, hi₀, hb⟩ := hne
  have hmt : m ≠ ⊤ := by
    rw [hm]
    exact ((Finset.sup_lt_iff (by exact bot_lt_top)).mpr fun i _ => lt_top_iff_ne_top.mpr (hs i)).ne
  have hmb : m ≠ ⊥ := by
    intro hb'
    apply hb
    have : s i₀ ≤ m := hm ▸ Finset.le_sup (f := s) hi₀
    exact le_bot_iff.mp (hb' ▸ this)
  have hle : ∀ i ∈ S, s i ≤ m := fun i hi => hm ▸ Finset.le_sup (f := s) hi
  have hsh : shift (S.sup s) = m := by unfold shift; rw [← hm, if_neg hmb]
  -- the weight sum is a real number, at least one
  obtain ⟨j, hj, hjm⟩ := Finset.exists_mem_eq_sup S ⟨i₀, hi₀⟩ s
  have hone : Ideal.exp (s j - m) = 1 := by
    rw [← hjm, ← hm]
    induction m using EReal.rec with
    | bot => exact absurd rfl hmb
    | top => exact absurd rfl hmt
    | coe r => rw [← EReal.coe_sub, sub_self, EReal.coe_zero, exp_zero]
  have hl1 : 1 ≤ l := by
    rw [hl, ← hone]
    exact Finset.single_le_sum (f := fun i => Ideal.exp (s i - m)) (fun i _ => exp_nonneg _) hj
  have hlt : l ≠ ⊤ := by
    rw [hl]
    have : ∀ U ⊆ S, ∑ i ∈ U, Ideal.exp (s i - m) ≠ ⊤ := by
      intro U
      induction U using Finset.induction_on with
      | empty => intro _; simp
      | insert a U ha ih =>
        intro hU
        rw [Finset.sum_insert ha]
        exact EReal.add_ne_top (exp_ne_top _ _ (hle _ (hU (Finset.mem_insert_self _ _))) hmt) (ih fun x hx => hU (Finset.mem_insert_of_mem hx))
    exact this S (Finset.Subset.refl _)
  have hmass : max (mass S s) tiny = l := by
    unfold mass
    rw [hsh, ← hl]
    exact max_eq_left (tiny_le.trans hl1)
  have hl0 : l ≠ 0 := fun h => absurd (h ▸ hl1) (by simp)
  have hdiv : ∀ x, Ideal.div x l = l⁻¹ * x := fun x => by unfold Ideal.div; rw [if_neg hl0, mul_comm]
  have hinv0 : 0 ≤ l⁻¹ := EReal.inv_nonneg_of_nonneg (zero_le_one.trans hl1)
  have hinvt : l⁻¹ ≠ ⊤ := by
    induction l using EReal.rec with
    | bot => simp
    | top => simp
    | coe r => rw [← EReal.coe_inv]; exact EReal.coe_ne_top _
  unfold Soft.avg wt
  rw [hdiv, ha, mul_sum_of _ hinv0 hinvt, hsh, hmass]
  refine Finset.sum_congr rfl fun i _ => ?_
  rw [hdiv, mul_assoc]

/-! ## Other sets of keys -/

/-- Masked keys may be left out. -/
theorem sup_ext {S T : Finset κ} (hST : S ⊆ T) {s : κ → EReal} (hb : ∀ i ∈ T, i ∉ S → s i = ⊥) : S.sup s = T.sup s := by
  apply le_antisymm (Finset.sup_mono hST)
  refine Finset.sup_le fun i hi => ?_
  by_cases h : i ∈ S
  · exact Finset.le_sup (f := s) h
  · rw [hb i hi h]; exact bot_le

theorem wt_ext {S T : Finset κ} (hST : S ⊆ T) {s : κ → EReal} (hb : ∀ i ∈ T, i ∉ S → s i = ⊥) (i : κ) : wt S s i = wt T s i := by
  unfold wt mass
  rw [sup_ext hST hb]
  congr 2
  exact Finset.sum_subset hST fun i hi hn => by rw [hb i hi hn, EReal.bot_sub, Ideal.exp_bot]

theorem wt_bot (S : Finset κ) {s : κ → EReal} {i : κ} (h : s i = ⊥) : wt S s i = 0 := by
  have hp : (0 : EReal) < max (mass S s) tiny := lt_max_of_lt_right tiny_pos
  unfold wt Ideal.div
  rw [h, EReal.bot_sub, Ideal.exp_bot, if_neg hp.ne', zero_mul]

theorem avg_ext {S T : Finset κ} (hST : S ⊆ T) {s : κ → EReal} (v : κ → EReal) (hb : ∀ i ∈ T, i ∉ S → s i = ⊥) : avg S s v = avg T s v := by
  unfold avg
  rw [← Finset.sum_subset hST fun i hi hn => by rw [wt_bot T (hb i hi hn), zero_mul]]
  exact Finset.sum_congr rfl fun i _ => by rw [wt_ext hST hb]

/-- Renaming the keys. -/
theorem wt_map [Fintype ι] (e : ι → κ) (he : Function.Injective e) (s : κ → EReal) (i : ι) :
    wt Finset.univ (fun i => s (e i)) i = wt (Finset.univ.image e) s (e i) := by
  unfold wt mass
  rw [Finset.sum_image fun a _ b _ h => he h, Finset.sup_image]
  rfl

theorem avg_map [Fintype ι] (e : ι → κ) (he : Function.Injective e) (s v : κ → EReal) :
    avg Finset.univ (fun i => s (e i)) (fun i => v (e i)) = avg (Finset.univ.image e) s v := by
  unfold avg
  rw [Finset.sum_image fun a _ b _ h => he h]
  exact Finset.sum_congr rfl fun i _ => by rw [wt_map e he]

/-- Renaming the keys, the others masked. -/
theorem avg_of [Fintype ι] [Fintype κ] (e : ι → κ) (he : Function.Injective e) (s v : κ → EReal) (hb : ∀ k, (∀ i, e i ≠ k) → s k = ⊥) :
    avg Finset.univ (fun i => s (e i)) (fun i => v (e i)) = avg Finset.univ s v := by
  rw [avg_map e he, avg_ext (Finset.subset_univ _) v fun k _ hk => hb k fun i hi => hk (hi ▸ Finset.mem_image_of_mem e (Finset.mem_univ i))]

end Cert.Layer.Soft

end
-- ==== Proof.Rank.lean ====
/-
  Which of finitely many scores are the first few: the rank of an index is the number of indices before it, an index of
  greater score standing before one of smaller score and, among equal scores, the smaller index first.  Two ways to the
  first `n`: taking `n` times the first index that attains the maximum, the taken ones' scores put to −∞ (here), and the
  first `n` places of a stable sort by descending score (here too).
-/
module

public import Idealize.ShloMosaic.PureOps.Ideal
public import Idealize.ShloMosaic.Lib.PlanTiles.StableSort

@[expose] public section

noncomputable section

namespace Cert.Layer.Rank

open Idealize.ShloMosaic Finset

variable {N : ℕ} (s : Fin N → EReal)

/-- `y` stands before `b`. -/
def Before (y b : Fin N) : Prop := s b < s y ∨ (s y = s b ∧ y < b)

/-- The number of indices before `b`. -/
def rank (b : Fin N) : ℕ := by classical exact (univ.filter fun y => Before s y b).card

variable {s}

theorem before_trans {a b c : Fin N} (h : Before s a b) (h' : Before s b c) : Before s a c := by
  rcases h with h | ⟨h, hl⟩ <;> rcases h' with h' | ⟨h', hl'⟩
  · exact .inl (h'.trans h)
  · exact .inl (h' ▸ h)
  · exact .inl (h ▸ h')
  · exact .inr ⟨h.trans h', hl.trans hl'⟩

theorem before_irrefl (a : Fin N) : ¬ Before s a a := by
  rintro (h | ⟨-, h⟩)
  · exact lt_irrefl _ h
  · exact lt_irrefl _ h

theorem before_total {a b : Fin N} (h : a ≠ b) : Before s a b ∨ Before s b a := by
  rcases lt_trichotomy (s a) (s b) with h1 | h1 | h1
  · exact .inr (.inl h1)
  · rcases lt_or_gt_of_ne h with h2 | h2
    · exact .inl (.inr ⟨h1, h2⟩)
    · exact .inr (.inr ⟨h1.symm, h2⟩)
  · exact .inl (.inl h1)

theorem rank_lt {a b : Fin N} (h : Before s a b) : rank s a < rank s b := by
  classical
  unfold rank
  refine Finset.card_lt_card ⟨fun y hy => ?_, fun hsub => ?_⟩
  · simp only [mem_filter, mem_univ, true_and] at hy ⊢
    exact before_trans hy h
  · have := hsub (by simp only [mem_filter, mem_univ, true_and]; exact h : a ∈ _)
    simp only [mem_filter, mem_univ, true_and] at this
    exact before_irrefl _ this

theorem rank_inj {a b : Fin N} (h : rank s a = rank s b) : a = b := by
  by_contra hne
  rcases before_total (s := s) hne with h' | h'
  · exact absurd (rank_lt h') (by omega)
  · exact absurd (rank_lt h') (by omega)

theorem before_of_rank_lt {a b : Fin N} (h : rank s a < rank s b) : Before s a b := by
  have hne : a ≠ b := fun h' => by rw [h'] at h; exact lt_irrefl _ h
  rcases before_total (s := s) hne with h' | h'
  · exact h'
  · exact absurd (rank_lt h') (by omega)

/-! ## Taking the maximum, again and again -/

/-- The first index attaining the maximum. -/
def Pick (S : Fin N → EReal) (b : Fin N) : Prop := S b = univ.sup S ∧ ∀ y < b, S y ≠ univ.sup S

/-- The scores once the first `n` are out of the way. -/
def left (s : Fin N → EReal) (n : ℕ) (b : Fin N) : EReal := if rank s b < n then ⊥ else s b

theorem left_le (n : ℕ) (y : Fin N) : left s n y ≤ s y := by unfold left; split <;> simp

theorem pick_left {n : ℕ} {b : Fin N} (hb : s b ≠ ⊥) (hn : n ≤ rank s b) : Pick (left s n) b ↔ rank s b = n := by
  classical
  have hL : left s n b = s b := by unfold left; rw [if_neg (by omega)]
  constructor
  · rintro ⟨hsup, hfirst⟩
    refine le_antisymm ?_ hn
    have hall : ∀ y, Before s y b → rank s y < n := by
      intro y hy
      by_contra hr
      have hy' : left s n y = s y := by unfold left; rw [if_neg hr]
      have hle : s y ≤ s b := by rw [← hy', ← hL, hsup]; exact Finset.le_sup (f := left s n) (mem_univ y)
      rcases hy with hlt | ⟨heq, hlt⟩
      · exact absurd hle (not_le.mpr hlt)
      · exact hfirst y hlt (by rw [hy', heq, ← hL, hsup])
    have : rank s b = (univ.filter fun y => Before s y b).card := by unfold rank; congr
    rw [this]
    calc (univ.filter fun y => Before s y b).card ≤ (Finset.range n).card := by
          refine Finset.card_le_card_of_injOn (rank s) (fun y hy => ?_) (fun x _ y _ h => rank_inj h)
          simp only [coe_filter, mem_univ, true_and, Set.mem_setOf_eq] at hy
          simpa using hall y hy
      _ = n := Finset.card_range n
  · intro hr
    have hle : ∀ y, left s n y ≤ s b := by
      intro y
      by_cases hy : Before s y b
      · unfold left; rw [if_pos (by have := rank_lt hy; omega)]; exact bot_le
      · by_cases hyb : y = b
        · rw [hyb, hL]
        · rcases before_total (s := s) hyb with h | h
          · exact absurd h hy
          · refine (left_le n y).trans ?_
            rcases h with h | ⟨h, -⟩
            · exact h.le
            · exact h ▸ le_refl _
    have hsup : univ.sup (left s n) = s b := le_antisymm (Finset.sup_le fun y _ => hle y) (hL ▸ Finset.le_sup (f := left s n) (mem_univ b))
    refine ⟨hL.trans hsup.symm, fun y hy h => ?_⟩
    rw [hsup] at h
    have hbef : Before s y b := by
      refine .inr ⟨le_antisymm ?_ (h ▸ left_le n y), hy⟩
      by_contra hlt
      have : Before s y b := .inl (not_le.mp hlt)
      have h0 : left s n y = ⊥ := by unfold left; rw [if_pos (by have := rank_lt this; omega)]
      exact hb (h.symm.trans h0)
    have h0 : left s n y = ⊥ := by unfold left; rw [if_pos (by have := rank_lt hbef; omega)]
    exact hb (h.symm.trans h0)

theorem left_zero : left s 0 = s := by funext b; unfold left; simp

open Classical in
/-- One round takes the next index in rank. -/
theorem left_succ (n : ℕ) (b : Fin N) : (if Pick (left s n) b then ⊥ else left s n b) = left s (n + 1) b := by
  by_cases hb : s b = ⊥
  · have : ∀ m, left s m b = ⊥ := fun m => le_bot_iff.mp (hb ▸ left_le m b)
    rw [this, this, ite_self]
  · by_cases hr : rank s b < n
    · have h1 : left s n b = ⊥ := by unfold left; rw [if_pos hr]
      have h2 : left s (n + 1) b = ⊥ := by unfold left; rw [if_pos (by omega)]
      rw [h1, h2, ite_self]
    · have hp := pick_left (n := n) hb (by omega)
      by_cases hrn : rank s b = n
      · rw [if_pos (hp.mpr hrn)]; unfold left; rw [if_pos (by omega)]
      · rw [if_neg (fun h => hrn (hp.mp h))]; unfold left; rw [if_neg hr, if_neg (by omega)]

open Classical in
/-- The marks of the rounds, for an index whose score is not −∞. -/
theorem mark_succ (n : ℕ) {b : Fin N} (hb : s b ≠ ⊥) :
    (if Pick (left s n) b then (1 : EReal) else if rank s b < n then 1 else 0) = if rank s b < n + 1 then 1 else 0 := by
  by_cases hr : rank s b < n
  · rw [if_pos hr, ite_self, if_pos (by omega)]
  · have hp := pick_left (n := n) hb (by omega)
    by_cases hrn : rank s b = n
    · rw [if_pos (hp.mpr hrn), if_pos (by omega)]
    · rw [if_neg (fun h => hrn (hp.mp h)), if_neg hr, if_neg (by omega)]

/-! ## The stable sort -/

/-- In a listing in which every index stands before the later ones, the rank of an index is its place. -/
theorem rank_of_listing (f : Fin N → Fin N) (hf : Function.Bijective f) (hs : ∀ i j, i < j → Before s (f i) (f j)) (k : Fin N) : rank s (f k) = k.val := by
  classical
  have hset : (univ.filter fun y => Before s y (f k)) = (univ.filter fun i : Fin N => i < k).image f := by
    ext y
    simp only [mem_filter, mem_univ, true_and, mem_image]
    constructor
    · intro h
      obtain ⟨i, rfl⟩ := hf.2 y
      refine ⟨i, ?_, rfl⟩
      by_contra hik
      rcases lt_or_eq_of_le (not_lt.mp hik) with hlt | heq
      · exact before_irrefl _ (before_trans h (hs _ _ hlt))
      · rw [heq] at h; exact before_irrefl _ h
    · rintro ⟨i, hi, rfl⟩
      exact hs _ _ hi
  have : rank s (f k) = (univ.filter fun y => Before s y (f k)).card := by unfold rank; congr
  rw [this, hset, Finset.card_image_of_injective _ hf.1]
  have hI : (univ.filter fun i : Fin N => i < k) = Finset.Iio k := by ext i; simp
  rw [hI, Fin.card_Iio]

open Classical in
/-- How many scores are smaller: a natural number that orders the indices as the scores do. -/
def below (s : Fin N → EReal) (x : Fin N) : ℕ := (univ.filter fun y => s y < s x).card

theorem below_lt {x y : Fin N} : below s y < below s x ↔ s y < s x := by
  classical
  have mono : ∀ {x y : Fin N}, s y ≤ s x → below s y ≤ below s x := fun {x y} h => by
    unfold below
    refine Finset.card_le_card fun z hz => ?_
    simp only [mem_filter, mem_univ, true_and] at hz ⊢
    exact lt_of_lt_of_le hz h
  constructor
  · intro h
    by_contra hn
    exact absurd (mono (not_lt.mp hn)) (by omega)
  · intro h
    unfold below
    refine Finset.card_lt_card ⟨fun z hz => ?_, fun hsub => ?_⟩
    · simp only [mem_filter, mem_univ, true_and] at hz ⊢
      exact hz.trans h
    · have := hsub (by simp only [mem_filter, mem_univ, true_and]; exact h : y ∈ _)
      simp at this

/-- The index a stable sort by descending score puts at place `k`. -/
def place (s : Fin N → EReal) (k : Fin N) : Fin N := by classical exact sortedFrom (fun x y => decide (s y < s x)) k

theorem place_spec : Function.Bijective (place s) ∧ ∀ i j, i < j → Before s (place s i) (place s j) := by
  classical
  have hfun : (fun x y : Fin N => decide (s y < s x)) = fun x y => decide (below s y < below s x) := by
    funext x y; exact decide_eq_decide.mpr below_lt.symm
  have hp := PlanTiles.pairwise_stableSort_lex (below s) (· < ·) (List.finRange N) (List.pairwise_lt_finRange N)
  have hperm := perm_stableSort (fun x y => decide (below s y < below s x)) (List.finRange N)
  have hnd : (sortPositions N fun x y : Fin N => decide (s y < s x)).Nodup := by
    rw [hfun]; exact hperm.nodup_iff.mpr (List.nodup_finRange N)
  have hpl : ∀ k : Fin N, place s k = (sortPositions N fun x y : Fin N => decide (s y < s x)).get (k.cast (length_sortPositions N _).symm) := by
    intro k; unfold place sortedFrom; congr!
  have hinj : Function.Injective (place s) := by
    intro a b h
    rw [hpl, hpl] at h
    have := (List.nodup_iff_injective_get.mp hnd) h
    exact Fin.ext (by simpa using congrArg Fin.val this)
  refine ⟨⟨hinj, Finite.injective_iff_surjective.mp hinj⟩, fun i j hij => ?_⟩
  rw [hpl, hpl]
  have hp' : (sortPositions N fun x y : Fin N => decide (s y < s x)).Pairwise (PlanTiles.Lex (below s) (· < ·)) := by
    rw [hfun]; exact hp
  have := List.pairwise_iff_get.mp hp' (i.cast (length_sortPositions N _).symm) (j.cast (length_sortPositions N _).symm) (by simpa using hij)
  rcases this with h | ⟨h, hl⟩
  · exact .inl (below_lt.mp h)
  · refine .inr ⟨le_antisymm ?_ ?_, hl⟩
    · by_contra hn
      exact absurd (below_lt.mpr (not_le.mp hn)) (by omega)
    · by_contra hn
      exact absurd (below_lt.mpr (not_le.mp hn)) (by omega)

theorem rank_place (k : Fin N) : rank s (place s k) = k.val := rank_of_listing _ place_spec.1 place_spec.2 k

/-- An index is among the first `n` places exactly when its rank is below `n`. -/
theorem place_iff (n : ℕ) (b : Fin N) : (∃ k : Fin N, k.val < n ∧ place s k = b) ↔ rank s b < n := by
  constructor
  · rintro ⟨k, hk, rfl⟩; rwa [rank_place]
  · intro h
    obtain ⟨k, rfl⟩ := (place_spec (s := s)).1.2 b
    exact ⟨k, by rwa [rank_place] at h, rfl⟩

end Cert.Layer.Rank

end
-- ==== Proof.Spec.lean ====
/-
  What the layer computes at one query position of one key/value head, as plain sums and maxima over extended reals: the
  compressed branch, the scores of the selection blocks and which of them are chosen, the selected branch, the window
  branch, and their gated sum.  Both programs are read against this.
-/
module

public import proofs.«01_k».proof.Proof.Soft
public import proofs.«01_k».proof.Proof.Rank

@[expose] public section

noncomputable section

namespace Cert.Layer

open Idealize.ShloMosaic Finset

/-- The score bonus of the first block and of the query's own and previous block. -/
abbrev extra : EReal := Ideal.ofBits .f32 0x461C4000#32

/-- Which compressed block a column holds: the even blocks stand before the odd ones. -/
def blockOf (j : ℕ) : ℕ := if j < 128 then 2 * j else 2 * (j - 128) + 1

/-- The compressed branch's scores: a block is seen once its last row is not after the query. -/
def cmpS (p : ℕ) (Q : Fin 64 → EReal) (K : Fin 64 → Fin 256 → EReal) (j : Fin 256) : EReal :=
  if (blockOf j.val + 1) * 32 ≤ p + 1 then ∑ d, Q d * K d j else ⊥

/-- The compressed branch's weights. -/
def cmpW (p : ℕ) (Q : Fin 64 → EReal) (K : Fin 64 → Fin 256 → EReal) (j : Fin 256) : EReal := Soft.wt univ (cmpS p Q K) j

/-- A selection block's importance: the weights of its two compressed blocks, over the heads that share the choice. -/
def importance (p : ℕ) (Q : Fin 4 → Fin 64 → EReal) (K : Fin 64 → Fin 256 → EReal) (b : Fin 128) : EReal :=
  (∑ n, cmpW p (Q n) K ⟨b.val, by omega⟩) + ∑ n, cmpW p (Q n) K ⟨128 + b.val, by omega⟩

/-- The bonus of a block. -/
def bonus (p b : ℕ) : EReal := if b = 0 ∨ b = p / 64 ∨ b + 1 = p / 64 then extra else 0

/-- A selection block's score: −∞ where the block starts after the query. -/
def score (p : ℕ) (Q : Fin 4 → Fin 64 → EReal) (K : Fin 64 → Fin 256 → EReal) (b : Fin 128) : EReal :=
  if 64 * b.val ≤ p then importance p Q K b + bonus p b.val else ⊥

/-- The chosen blocks: the sixteen of highest score. -/
def Chosen (p : ℕ) (Q : Fin 4 → Fin 64 → EReal) (K : Fin 64 → Fin 256 → EReal) (b : Fin 128) : Prop := Rank.rank (score p Q K) b < 16

/-- The block of a key. -/
def blk (t : Fin 8192) : Fin 128 := ⟨t.val / 64, by omega⟩

open Classical in
/-- The selected branch's scores: the keys of the chosen blocks that are not after the query. -/
def slcS (p : ℕ) (C : Fin 128 → Prop) (Q : Fin 64 → EReal) (K : Fin 64 → Fin 8192 → EReal) (t : Fin 8192) : EReal :=
  if C (blk t) ∧ t.val ≤ p then ∑ d, Q d * K d t else ⊥

/-- The window branch's scores: the 512 keys up to the query. -/
def winS (p : ℕ) (Q : Fin 64 → EReal) (K : Fin 64 → Fin 8192 → EReal) (t : Fin 8192) : EReal :=
  if t.val ≤ p ∧ p < t.val + 512 then ∑ d, Q d * K d t else ⊥

/-- One head's three branches. -/
def oCmp (p : ℕ) (Q : Fin 64 → EReal) (K : Fin 64 → Fin 256 → EReal) (v : Fin 256 → EReal) : EReal := Soft.avg univ (cmpS p Q K) v
def oSlc (p : ℕ) (C : Fin 128 → Prop) (Q : Fin 64 → EReal) (K : Fin 64 → Fin 8192 → EReal) (v : Fin 8192 → EReal) : EReal := Soft.avg univ (slcS p C Q K) v
def oWin (p : ℕ) (Q : Fin 64 → EReal) (K : Fin 64 → Fin 8192 → EReal) (v : Fin 8192 → EReal) : EReal := Soft.avg univ (winS p Q K) v

/-- A choice only matters at blocks that start not after the query. -/
theorem slcS_congr {p : ℕ} {C D : Fin 128 → Prop} (h : ∀ b : Fin 128, 64 * b.val ≤ p → (C b ↔ D b)) (Q : Fin 64 → EReal) (K : Fin 64 → Fin 8192 → EReal) :
    slcS p C Q K = slcS p D Q K := by
  funext t
  have hiff : (C (blk t) ∧ t.val ≤ p) ↔ (D (blk t) ∧ t.val ≤ p) := by
    by_cases ht : t.val ≤ p
    · have : 64 * (blk t).val ≤ p := by show 64 * (t.val / 64) ≤ p; omega
      rw [h _ this]
    · simp [ht]
  unfold slcS
  by_cases hc : C (blk t) ∧ t.val ≤ p
  · rw [if_pos hc, if_pos (hiff.mp hc)]
  · rw [if_neg hc, if_neg fun h => hc (hiff.mpr h)]

/-! ## Signs and finiteness -/

theorem extra_val : extra = ((10000 : ℝ) : EReal) := by
  simp [extra, Ideal.ofBits, Ideal.ieee, -EReal.coe_mul]
  try norm_num

theorem wt_nonneg {κ : Type} [DecidableEq κ] (S : Finset κ) (s : κ → EReal) (i : κ) : 0 ≤ Soft.wt S s i := by
  have hp : (0 : EReal) < max (Soft.mass S s) Soft.tiny := lt_max_of_lt_right Soft.tiny_pos
  unfold Soft.wt Ideal.div
  rw [if_neg hp.ne']
  exact EReal.mul_nonneg (Soft.exp_nonneg _) (EReal.inv_nonneg_of_nonneg hp.le)

theorem importance_nonneg (p : ℕ) (Q : Fin 4 → Fin 64 → EReal) (K : Fin 64 → Fin 256 → EReal) (b : Fin 128) : 0 ≤ importance p Q K b :=
  add_nonneg (Finset.sum_nonneg fun _ _ => wt_nonneg _ _ _) (Finset.sum_nonneg fun _ _ => wt_nonneg _ _ _)

theorem bonus_nonneg (p b : ℕ) : 0 ≤ bonus p b := by
  unfold bonus
  split
  · rw [extra_val]; exact_mod_cast (by norm_num : (0:ℝ) ≤ 10000)
  · exact le_refl _

/-- A block that starts not after the query has a score. -/
theorem score_ne_bot {p : ℕ} (Q : Fin 4 → Fin 64 → EReal) (K : Fin 64 → Fin 256 → EReal) {b : Fin 128} (h : 64 * b.val ≤ p) : score p Q K b ≠ ⊥ := by
  unfold score
  rw [if_pos h]
  have : (0 : EReal) ≤ importance p Q K b + bonus p b.val := add_nonneg (importance_nonneg ..) (bonus_nonneg ..)
  intro h'
  rw [h'] at this
  exact absurd this (by simp)

/-- A finite sum of products of reals is real. -/
theorem dot_real {n : ℕ} {Q K : Fin n → EReal} (hQ : ∀ d, Q d ≠ ⊤ ∧ Q d ≠ ⊥) (hK : ∀ d, K d ≠ ⊤ ∧ K d ≠ ⊥) : (∑ d, Q d * K d) ≠ ⊤ ∧ (∑ d, Q d * K d) ≠ ⊥ := by
  have : ∀ S : Finset (Fin n), ∃ r : ℝ, ∑ d ∈ S, Q d * K d = (r : EReal) := by
    intro S
    induction S using Finset.induction_on with
    | empty => exact ⟨0, by simp⟩
    | insert a S ha ih =>
      obtain ⟨r, hr⟩ := ih
      refine ⟨(Q a).toReal * (K a).toReal + r, ?_⟩
      rw [Finset.sum_insert ha, hr, EReal.coe_add, EReal.coe_mul, EReal.coe_toReal (hQ a).1 (hQ a).2, EReal.coe_toReal (hK a).1 (hK a).2]
  obtain ⟨r, hr⟩ := this univ
  rw [hr]
  exact ⟨EReal.coe_ne_top r, EReal.coe_ne_bot r⟩

end Cert.Layer

end
-- ==== Proof.Bits.lean ====
/-
  Small 32-bit arithmetic of both programs: positions and block numbers read as natural numbers.
-/
module

public import proofs.«01_k».proof.Proof.Spec
public import Idealize.ShloMosaic.Lib.Affine

@[expose] public section

noncomputable section

namespace Cert.Layer

open Idealize.ShloMosaic

/-- A selection by a bit that says `P`. -/
theorem select_dec {α : Type} (P : Prop) [Decidable P] (c : BitVec 1) (h : c = 1#1 ↔ P) (a b : α) : Scalar.select c a b = if P then a else b := by
  unfold Scalar.select
  by_cases hp : P
  · rw [if_pos hp]; simp [h.mpr hp]
  · rw [if_neg hp]
    have : c ≠ 1#1 := fun h' => hp (h.mp h')
    simp [this]

theorem toInt_word {a : ℕ} (ha : a < 2 ^ 31) : (BitVec.ofNat 32 a).toInt = a := by
  have hn : (BitVec.ofNat 32 a).toNat = a := by rw [BitVec.toNat_ofNat]; omega
  rw [BitVec.toInt_eq_toNat_of_lt (by omega), hn]

theorem addi_word (a b : ℕ) : IntOp.addi (BitVec.ofNat 32 a) (BitVec.ofNat 32 b) = BitVec.ofNat 32 (a + b) := (BitVec.ofNat_add a b).symm
theorem muli_word (a b : ℕ) : IntOp.muli (BitVec.ofNat 32 a) (BitVec.ofNat 32 b) = BitVec.ofNat 32 (a * b) := (BitVec.ofNat_mul a b).symm
theorem smuli_word (a b : ℕ) : Scalar.muli (BitVec.ofNat 32 a) (BitVec.ofNat 32 b) = BitVec.ofNat 32 (a * b) := (BitVec.ofNat_mul a b).symm
theorem subi_word {a b : ℕ} (h : b ≤ a) : IntOp.subi (BitVec.ofNat 32 a) (BitVec.ofNat 32 b) = BitVec.ofNat 32 (a - b) := by
  have : BitVec.ofNat 32 a = BitVec.ofNat 32 (a - b) + BitVec.ofNat 32 b := by rw [← BitVec.ofNat_add]; congr 1; omega
  unfold IntOp.subi
  rw [this, BitVec.add_sub_cancel]

theorem sle_word {a b : ℕ} (ha : a < 2 ^ 31) (hb : b < 2 ^ 31) : IntOp.cmpi .sle (BitVec.ofNat 32 a) (BitVec.ofNat 32 b) = 1#1 ↔ a ≤ b := by
  rw [IntOp.cmpi_sle, toInt_word ha, toInt_word hb]; exact Int.ofNat_le
theorem slt_word {a b : ℕ} (ha : a < 2 ^ 31) (hb : b < 2 ^ 31) : IntOp.cmpi .slt (BitVec.ofNat 32 a) (BitVec.ofNat 32 b) = 1#1 ↔ a < b := by
  rw [IntOp.cmpi_slt, toInt_word ha, toInt_word hb]; exact Int.ofNat_lt
theorem eq_word {a b : ℕ} (ha : a < 2 ^ 31) (hb : b < 2 ^ 31) : IntOp.cmpi .eq (BitVec.ofNat 32 a) (BitVec.ofNat 32 b) = 1#1 ↔ a = b := by
  rw [IntOp.cmpi_eq]
  constructor
  · intro h
    have := congrArg BitVec.toInt h
    rw [toInt_word ha, toInt_word hb] at this
    exact_mod_cast this
  · rintro rfl; rfl

/-- Not before the last 512 positions, in words. -/
theorem sgt_back {a b : ℕ} (ha : a < 2 ^ 30) (hb : b < 2 ^ 30) : IntOp.cmpi .sgt (BitVec.ofNat 32 a) (IntOp.subi (BitVec.ofNat 32 b) 512#32) = 1#1 ↔ b < a + 512 := by
  have h : (IntOp.subi (BitVec.ofNat 32 b) 512#32).toInt = (b : ℤ) - 512 := by
    unfold IntOp.subi
    rw [BitVec.toInt_sub, toInt_word (by omega), show (512#32 : BitVec 32).toInt = 512 by decide]
    rw [Int.bmod_eq_of_le] <;> omega
  rw [IntOp.cmpi_sgt, toInt_word (by omega), h]
  omega

/-- The block number before, in words. -/
theorem eq_prev {a b : ℕ} (ha : a < 2 ^ 30) (hb : b < 2 ^ 30) : IntOp.cmpi .eq (BitVec.ofNat 32 a) (IntOp.subi (BitVec.ofNat 32 b) 1#32) = 1#1 ↔ a + 1 = b := by
  have h : (IntOp.subi (BitVec.ofNat 32 b) 1#32).toInt = (b : ℤ) - 1 := by
    unfold IntOp.subi
    rw [BitVec.toInt_sub, toInt_word (by omega), show (1#32 : BitVec 32).toInt = 1 by decide]
    rw [Int.bmod_eq_of_le] <;> omega
  rw [IntOp.cmpi_eq]
  constructor
  · intro e
    have := congrArg BitVec.toInt e
    rw [h, toInt_word (by omega)] at this
    omega
  · intro e
    apply BitVec.eq_of_toInt_eq
    rw [h, toInt_word (by omega)]
    omega

theorem shr_word (u : ArithUnit) {a : ℕ} (ha : a < 2 ^ 31) : IntOp.shrsi u (BitVec.ofNat 32 a) 6#32 = BitVec.ofNat 32 (a / 64) := by
  unfold IntOp.shrsi
  rw [if_pos (by decide)]
  apply BitVec.eq_of_toInt_eq
  show ((BitVec.ofNat 32 a).sshiftRight 6).toInt = _
  rw [BitVec.toInt_sshiftRight, toInt_word ha, toInt_word (by omega), Int.shiftRight_eq_div_pow]
  norm_cast

/-- The weight as the kernel writes it. -/
theorem wt_form {n : ℕ} (s : Fin n → EReal) (x : Fin n) :
    Ideal.div (Ideal.exp (s x - if Finset.fold max ⊥ s Finset.univ = ⊥ then 0 else Finset.fold max ⊥ s Finset.univ))
      (max (∑ y, Ideal.exp (s y - if Finset.fold max ⊥ s Finset.univ = ⊥ then 0 else Finset.fold max ⊥ s Finset.univ)) Soft.tiny)
      = Soft.wt Finset.univ s x := rfl

end Cert.Layer
end
-- ==== Proof.KCmp.lean ====
/-
  The kernel's compressed branch, its scores of the selection blocks and its window branch, read at an index: what the
  layer's plain formulas say at that query.
-/
module

public import proofs.«01_k».proof.Proof.Block
public import proofs.«01_k».proof.Proof.Bits
public import Idealize.ShloMosaic.Lib.Pipeline.ValueKit
public import Idealize.ShloMosaic.Lib.IdealHost

@[expose] public section

set_option maxRecDepth 16384

noncomputable section

namespace Cert.KernelIdeal.Body

open Cert.KernelIdeal Cert.KernelIdeal.Gen Cert.Layer
open Idealize.ShloMosaic Idealize.ShloMosaic.TcCoe Idealize.ShloMosaic.Tactic

/-- The position of a query of the block. -/
def pos (i : grid0.Coords) (r : ℕ) : ℕ := 128 * (i 1).val + r

theorem tile_lt (i : grid0.Coords) : (i 1).val < 64 := (i 1).isLt

theorem pos_lt (i : grid0.Coords) {r : ℕ} (h : r < 128) : pos i r < 8192 := by
  have := tile_lt i; unfold pos; omega

theorem pos_word (i : grid0.Coords) (r : ℕ) : IntOp.addi (Scalar.muli (BitVec.ofNat 32 (i 1).val) 128#32) (BitVec.ofNat 32 r) = BitVec.ofNat 32 (pos i r) := by
  rw [smuli_word, addi_word, pos, Nat.mul_comm]

/-- The query position of a row. -/
theorem qpos_at (i : grid0.Coords) (r : Fin 512) : k0_pay7 i (ix2 r 0) = BitVec.ofNat 32 (pos i (r.val % 128)) := by
  pointwise [k0_pay7, k0_pay6]
  simp only [pos_word]
  have hr := r.isLt
  split
  · congr 2; omega
  · split
    · congr 2; omega
    · split
      · congr 2; omega
      · congr 2; omega

theorem qpos1_at (i : grid0.Coords) (r : Fin 128) : k0_pay6 i (ix2 r 0) = BitVec.ofNat 32 (pos i r.val) := by
  pointwise [k0_pay6]
  exact pos_word i r.val

/-- Which compressed blocks a query sees. -/
theorem seen_at (i : grid0.Coords) (r : Fin 512) (l : Fin 256) : k0_pay9 i (ix2 r l) = 1#1 ↔ (blockOf l.val + 1) * 32 ≤ pos i (r.val % 128) + 1 := by
  have hp := pos_lt i (Nat.mod_lt r.val (by decide : 0 < 128))
  have hl := l.isLt
  have h7 := qpos_at i r
  have : k0_pay9 i (ix2 r l) = IntOp.cmpi .sle (IntOp.subi (IntOp.muli (IntOp.addi (Scalar.select (IntOp.cmpi .slt (BitVec.ofNat 32 l.val) 128#32)
      (IntOp.muli 2#32 (BitVec.ofNat 32 l.val)) (IntOp.addi (IntOp.muli 2#32 (IntOp.subi (BitVec.ofNat 32 l.val) 128#32)) 1#32)) 1#32) 32#32) 1#32) (k0_pay7 i (ix2 r 0)) := by
    pointwise [k0_pay9]
  rw [this, h7, select_dec (l.val < 128) _ (slt_word (by omega) (by omega))]
  have hb : (if l.val < 128 then IntOp.muli 2#32 (BitVec.ofNat 32 l.val) else IntOp.addi (IntOp.muli 2#32 (IntOp.subi (BitVec.ofNat 32 l.val) 128#32)) 1#32)
      = BitVec.ofNat 32 (blockOf l.val) := by
    unfold blockOf
    split
    · exact muli_word _ _
    · rw [subi_word (by omega), muli_word, addi_word]
  have hlt : blockOf l.val < 256 := by unfold blockOf; split <;> omega
  rw [hb, addi_word, muli_word, subi_word (by omega), sle_word (by omega) (by omega)]
  omega

/-- THE COMPRESSED BRANCH'S WEIGHTS. -/
theorem cmpw_at (i : grid0.Coords) (q : Vec Ideal S1x4x128x64 .bf16) (kc : Vec Ideal S1x64x256 .bf16) (r : Fin 512) (l : Fin 256) :
    cmpw (F := Ideal) i q kc (ix2 r l) = cmpW (pos i (r.val % 128)) (fun d => rowsv q (ix2 r d)) (fun d j => kc (ix3 0 d j)) l := by
  have hs : ∀ x : Fin 256, Scalar.select (k0_pay9 i (ix2 r x)) (∑ d, k0_pay14 q (ix2 r d) * kc (ix3 0 d x)) ⊥
      = cmpS (pos i (r.val % 128)) (fun d => rowsv q (ix2 r d)) (fun d j => kc (ix3 0 d j)) x := fun x =>
    select_dec _ _ (seen_at i r x) _ _
  unfold cmpw
  pointwise [k0_pay15]
  simp only [Soft.neg_inf, hs]
  exact wt_form _ _

/-- THE COMPRESSED BRANCH. -/
theorem ocmp_at (i : grid0.Coords) (q : Vec Ideal S1x4x128x64 .bf16) (kc : Vec Ideal S1x64x256 .bf16) (vc : Vec Ideal S1x256x128 .bf16) (r : Fin 512) (l : Fin 128) :
    ocmp (F := Ideal) (cmpw i q kc) vc (ix2 r l)
      = oCmp (pos i (r.val % 128)) (fun d => rowsv q (ix2 r d)) (fun d j => kc (ix3 0 d j)) (fun j => vc (ix3 0 j l)) := by
  unfold ocmp
  pointwise [k0_pay17]
  unfold oCmp Soft.avg
  exact Finset.sum_congr rfl fun x _ => by rw [cmpw_at]; rfl

/-- The bonus of a block. -/
theorem bonus_at (i : grid0.Coords) (r l : Fin 128) :
    k0_pay13 (F := Ideal) (iota .tc S1x128 32 [1] iota_S1x128_d1_w32) (k0_pay10 i) k0_pay12 (ix2 r l) = bonus (pos i r.val) l.val := by
  have hp := pos_lt i r.isLt
  have hl := l.isLt
  pointwise [k0_pay13, k0_pay10, k0_pay12, k0_pay6]
  rw [pos_word, shr_word _ (by omega)]
  refine select_dec _ _ ?_ _ _
  rw [IntOp.ori_eq_one, IntOp.ori_eq_one, eq_word (by omega) (by omega), eq_word (by omega) (by omega), eq_prev (by omega) (by omega)]
  tauto

/-- THE SCORES OF THE SELECTION BLOCKS. -/
theorem scorev_at (i : grid0.Coords) (q : Vec Ideal S1x4x128x64 .bf16) (kc : Vec Ideal S1x64x256 .bf16) (b qy : Fin 128) :
    scorev (F := Ideal) i (cmpw i q kc) (ix2 b qy)
      = score (pos i qy.val) (fun n d => q (ix4 0 n qy d)) (fun d j => kc (ix3 0 d j)) b := by
  have hp := pos_lt i qy.isLt
  have hb := b.isLt
  have hq := qy.isLt
  have hv : k0_pay11 i (ix2 qy b) = 1#1 ↔ 64 * b.val ≤ pos i qy.val := by
    have : k0_pay11 i (ix2 qy b) = IntOp.cmpi .sle (IntOp.muli (BitVec.ofNat 32 b.val) 64#32) (k0_pay6 i (ix2 qy 0)) := by pointwise [k0_pay11]
    rw [this, qpos1_at, muli_word, sle_word (by omega) (by omega)]
    omega
  have hrow : ∀ (n : Fin 4) (h : 128 * n.val + qy.val < 512) (d : Fin 64), rowsv q (ix2 ⟨128 * n.val + qy.val, h⟩ d) = q (ix4 0 n qy d) := by
    intro n h d
    unfold rowsv
    pointwise [k0_pay14]
  have hw : ∀ (n : Fin 4) (h : 128 * n.val + qy.val < 512) (x : Fin 256), cmpw (F := Ideal) i q kc (ix2 ⟨128 * n.val + qy.val, h⟩ x)
      = cmpW (pos i qy.val) (fun d => q (ix4 0 n qy d)) (fun d j => kc (ix3 0 d j)) x := by
    intro n h x
    rw [cmpw_at]
    have hm : (128 * n.val + qy.val) % 128 = qy.val := by omega
    simp only [hrow, hm]
  unfold scorev
  have e := bonus_at i qy b
  pointwise [k0_pay18]
  rw [e, Soft.neg_inf, select_dec _ _ hv]
  have hw' : ∀ (n : Fin 4) (m : ℕ) (hm : m = 128 * n.val + qy.val) (h : m < 512) (x : Fin 256), cmpw (F := Ideal) i q kc (ix2 ⟨m, h⟩ x)
      = cmpW (pos i qy.val) (fun d => q (ix4 0 n qy d)) (fun d j => kc (ix3 0 d j)) x := by
    intro n m hm h x; subst hm; exact hw n h x
  rw [hw' 0 qy.val (by simp), hw' 1 (128 + qy.val) rfl, hw' 2 (256 + qy.val) rfl, hw' 3 (384 + qy.val) rfl,
    hw' 0 qy.val (by simp), hw' 1 (128 + qy.val) rfl, hw' 2 (256 + qy.val) rfl, hw' 3 (384 + qy.val) rfl]
  unfold score importance
  rw [Fin.sum_univ_four, Fin.sum_univ_four]

/-- THE WINDOW BRANCH, over the 640 keys it reads from key `k0` on. -/
theorem owin_at (i : grid0.Coords) (k0 : ℕ) (hk : k0 = 128 * (i 1).val - 512) (q : FVec Ideal S512x64 .bf16) (kw : Vec Ideal S1x64x640 .bf16) (vw : Vec Ideal S1x640x128 .bf16)
    (K : Fin 64 → Fin 8192 → EReal) (V : Fin 8192 → EReal) (l : Fin 128) (r : Fin 512)
    (hK : ∀ (d : Fin 64) (x : Fin 640) (h : k0 + x.val < 8192), kw (ix3 0 d x) = K d ⟨k0 + x.val, h⟩)
    (hV : ∀ (x : Fin 640) (h : k0 + x.val < 8192), vw (ix3 0 x l) = V ⟨k0 + x.val, h⟩) :
    owin (F := Ideal) i q kw vw (ix2 r l) = oWin (pos i (r.val % 128)) (fun d => q (ix2 r d)) K V := by
  have hi := tile_lt i
  have hp := pos_lt i (Nat.mod_lt r.val (by decide : 0 < 128))
  have hpd : pos i (r.val % 128) = 128 * (i 1).val + r.val % 128 := rfl
  have hrm := Nat.mod_lt r.val (by decide : 0 < 128)
  have hstart : Scalar.maxsi (Scalar.subi (Scalar.muli (BitVec.ofNat 32 (i 1).val) 128#32) 512#32) 0#32 = BitVec.ofNat 32 k0 := by
    rw [hk]
    exact (by decide +kernel : ∀ x : Fin 64, Scalar.maxsi (Scalar.subi (Scalar.muli (BitVec.ofNat 32 x.val) 128#32) 512#32) 0#32 = BitVec.ofNat 32 (128 * x.val - 512)) ⟨(i 1).val, hi⟩
  have hlt : ∀ x : Fin 640, k0 + x.val < 8192 := fun x => by have := x.isLt; omega
  let e : Fin 640 → Fin 8192 := fun x => ⟨k0 + x.val, hlt x⟩
  have he : Function.Injective e := fun a b h => Fin.ext (by have := congrArg Fin.val h; simp only [e] at this; omega)
  have hs : ∀ x : Fin 640, Scalar.select (IntOp.andi (IntOp.cmpi .sle (IntOp.addi (BitVec.ofNat 32 k0) (BitVec.ofNat 32 x.val)) (BitVec.ofNat 32 (pos i (r.val % 128))))
      (IntOp.cmpi .sgt (IntOp.addi (BitVec.ofNat 32 k0) (BitVec.ofNat 32 x.val)) (IntOp.subi (BitVec.ofNat 32 (pos i (r.val % 128))) 512#32)))
      (∑ d, q (ix2 r d) * kw (ix3 0 d x)) ⊥ = winS (pos i (r.val % 128)) (fun d => q (ix2 r d)) K (e x) := by
    intro x
    have := hlt x
    simp only [hK _ x (hlt x)]
    refine select_dec _ _ ?_ _ _
    rw [IntOp.andi_eq_one, addi_word, sle_word (by omega) (by omega), sgt_back (by omega) (by omega)]
  unfold owin
  pointwise [k0_pay82, k0_pay80, k0_pay81]
  rw [hstart, qpos_at]
  simp only [Soft.neg_inf, hs]
  unfold oWin
  refine Eq.trans ?_ (Soft.avg_of e he (winS (pos i (r.val % 128)) (fun d => q (ix2 r d)) K) V fun t ht => ?_)
  · unfold Soft.avg
    refine Finset.sum_congr rfl fun x _ => ?_
    rw [hV x (hlt x)]
    rfl
  · unfold winS
    rw [if_neg]
    intro h
    have ht' : k0 ≤ t.val ∧ t.val < k0 + 640 := by omega
    exact ht ⟨t.val - k0, by omega⟩ (Fin.ext (by simp only [e]; omega))

end Cert.KernelIdeal.Body

end
-- ==== Proof.Head.lean ====
/-
  One head of the layer and the whole result as plain formulas over the nine arrays, and the two facts about a selection
  that need finite queries and keys: no score is +∞, and some selected key is seen.
-/
module

public import proofs.«01_k».proof.Proof.Spec
public import Idealize.ShloMosaic.Lib.Pointwise

@[expose] public section

set_option maxRecDepth 16384

noncomputable section

namespace Cert.Layer

open Idealize.ShloMosaic Idealize.ShloMosaic.Tactic Finset

/-- One head's output before its gate path: the three gated branches. -/
def headOut (p : ℕ) (G : Fin 3 → EReal) (Q : Fin 4 → Fin 64 → EReal) (n : Fin 4) (Kc : Fin 64 → Fin 256 → EReal) (Vc : Fin 256 → EReal)
    (Ks : Fin 64 → Fin 8192 → EReal) (Vs : Fin 8192 → EReal) (Kw : Fin 64 → Fin 8192 → EReal) (Vw : Fin 8192 → EReal) : EReal :=
  G 0 * oCmp p (Q n) Kc Vc + G 1 * oSlc p (Chosen p Q Kc) (Q n) Ks Vs + G 2 * oWin p (Q n) Kw Vw

/-- The arrays the layer reads. -/
structure Arrays where
  q : (⟨4, ![4, 8, 8192, 64]⟩ : Shape).Idx → EReal
  gate : (⟨3, ![4, 8192, 128]⟩ : Shape).Idx → EReal
  zs : (⟨3, ![4, 8192, 512]⟩ : Shape).Idx → EReal
  kc : (⟨3, ![4, 128, 256]⟩ : Shape).Idx → EReal
  vc : (⟨3, ![4, 256, 128]⟩ : Shape).Idx → EReal
  ks : (⟨3, ![4, 128, 8192]⟩ : Shape).Idx → EReal
  vs : (⟨3, ![4, 8192, 128]⟩ : Shape).Idx → EReal
  kw : (⟨3, ![4, 128, 8192]⟩ : Shape).Idx → EReal
  vw : (⟨3, ![4, 8192, 128]⟩ : Shape).Idx → EReal

namespace Arrays
variable (A : Arrays) (b : Fin 4) (g : Fin 2) (p : Fin 8192)

/-- A head group's queries at a position, its keys, its values and a head's gates. -/
def Q (n : Fin 4) (d : Fin 64) : EReal := A.q (ix4 b ⟨4 * g.val + n.val, by omega⟩ p d)
def Kc (d : Fin 64) (j : Fin 256) : EReal := A.kc (ix3 b ⟨64 * g.val + d.val, by omega⟩ j)
def Vc (d : Fin 64) (j : Fin 256) : EReal := A.vc (ix3 b j ⟨64 * g.val + d.val, by omega⟩)
def Ks (d : Fin 64) (t : Fin 8192) : EReal := A.ks (ix3 b ⟨64 * g.val + d.val, by omega⟩ t)
def Vs (d : Fin 64) (t : Fin 8192) : EReal := A.vs (ix3 b t ⟨64 * g.val + d.val, by omega⟩)
def Kw (d : Fin 64) (t : Fin 8192) : EReal := A.kw (ix3 b ⟨64 * g.val + d.val, by omega⟩ t)
def Vw (d : Fin 64) (t : Fin 8192) : EReal := A.vw (ix3 b t ⟨64 * g.val + d.val, by omega⟩)
def G (n : Fin 4) (j : Fin 3) : EReal := A.gate (ix3 b p ⟨3 * (4 * g.val + n.val) + j.val, by omega⟩)

/-- THE LAYER'S RESULT at batch `b`, position `p`, head `n` of group `g`, lane `d`. -/
def out (n : Fin 4) (d : Fin 64) : EReal :=
  headOut p.val (A.G b g p n) (A.Q b g p) n (A.Kc b g) (A.Vc b g d) (A.Ks b g) (A.Vs b g d) (A.Kw b g) (A.Vw b g d)
    * A.zs (ix3 b p ⟨64 * (4 * g.val + n.val) + d.val, by omega⟩)

/-- The queries and the keys are real numbers. -/
structure Real : Prop where
  q : ∀ i, A.q i ≠ ⊤ ∧ A.q i ≠ ⊥
  kc : ∀ i, A.kc i ≠ ⊤ ∧ A.kc i ≠ ⊥
  ks : ∀ i, A.ks i ≠ ⊤ ∧ A.ks i ≠ ⊥
  kw : ∀ i, A.kw i ≠ ⊤ ∧ A.kw i ≠ ⊥
end Arrays

variable {p : ℕ} {C : Fin 128 → Prop} {Q : Fin 64 → EReal}

theorem slcS_ne_top {K : Fin 64 → Fin 8192 → EReal} (hQ : ∀ d, Q d ≠ ⊤ ∧ Q d ≠ ⊥) (hK : ∀ d t, K d t ≠ ⊤ ∧ K d t ≠ ⊥) (t : Fin 8192) : slcS p C Q K t ≠ ⊤ := by
  unfold slcS
  split
  · exact (dot_real hQ fun d => hK d t).1
  · exact bot_ne_top

theorem winS_ne_top {K : Fin 64 → Fin 8192 → EReal} (hQ : ∀ d, Q d ≠ ⊤ ∧ Q d ≠ ⊥) (hK : ∀ d t, K d t ≠ ⊤ ∧ K d t ≠ ⊥) (t : Fin 8192) : winS p Q K t ≠ ⊤ := by
  unfold winS
  split
  · exact (dot_real hQ fun d => hK d t).1
  · exact bot_ne_top

theorem cmpS_ne_top {K : Fin 64 → Fin 256 → EReal} (hQ : ∀ d, Q d ≠ ⊤ ∧ Q d ≠ ⊥) (hK : ∀ d t, K d t ≠ ⊤ ∧ K d t ≠ ⊥) (t : Fin 256) : cmpS p Q K t ≠ ⊤ := by
  unfold cmpS
  split
  · exact (dot_real hQ fun d => hK d t).1
  · exact bot_ne_top

/-- Some block is chosen, and it is not after the query. -/
theorem chosen_exists (p : ℕ) (Q : Fin 4 → Fin 64 → EReal) (K : Fin 64 → Fin 256 → EReal) : ∃ b : Fin 128, 64 * b.val ≤ p ∧ Chosen p Q K b := by
  have hr : Rank.rank (score p Q K) (Rank.place (score p Q K) 0) = 0 := Rank.rank_place 0
  refine ⟨Rank.place (score p Q K) 0, ?_, by unfold Chosen; rw [hr]; decide⟩
  by_contra h
  have hb : score p Q K (Rank.place (score p Q K) 0) = ⊥ := if_neg h
  have h0 : score p Q K 0 ≠ ⊥ := score_ne_bot Q K (by simp)
  have := Rank.rank_lt (s := score p Q K) (.inl (by rw [hb]; exact bot_lt_iff_ne_bot.mpr h0) : Rank.Before (score p Q K) 0 (Rank.place (score p Q K) 0))
  omega

theorem slcS_some {b : Fin 128} (hb : 64 * b.val ≤ p) (hc : C b) {K : Fin 64 → Fin 8192 → EReal} (hQ : ∀ d, Q d ≠ ⊤ ∧ Q d ≠ ⊥) (hK : ∀ d t, K d t ≠ ⊤ ∧ K d t ≠ ⊥) :
    ∃ t, slcS p C Q K t ≠ ⊥ := by
  refine ⟨⟨64 * b.val, by omega⟩, ?_⟩
  have hblk : blk ⟨64 * b.val, by omega⟩ = b := Fin.ext (by show 64 * b.val / 64 = b.val; omega)
  unfold slcS
  rw [if_pos ⟨by rw [hblk]; exact hc, hb⟩]
  exact (dot_real hQ fun d => hK d _).2

/-- The result array: column `c` is head `c / 64`, that is member `c / 64 % 4` of group `c / 256`, and coordinate
`c % 64` of it. -/
def Arrays.res (A : Arrays) (b : Fin 4) (p : Fin 8192) (c : Fin 512) : EReal :=
  A.out b ⟨c.val / 256, by omega⟩ p ⟨c.val / 64 % 4, by omega⟩ ⟨c.val % 64, by omega⟩

end Cert.Layer

end
-- ==== Proof.KSlc.lean ====
/-
  The kernel's choice of selection blocks and its running softmax over the selected keys, read at an index.
-/
module

public import proofs.«01_k».proof.Proof.KCmp
public import proofs.«01_k».proof.Proof.Head

@[expose] public section

set_option maxRecDepth 16384

noncomputable section

namespace Cert.KernelIdeal.Body

open Cert.KernelIdeal Cert.KernelIdeal.Gen Cert.Layer
open Idealize.ShloMosaic Idealize.ShloMosaic.TcCoe Idealize.ShloMosaic.Tactic

/-! ## The rounds -/

theorem bits128 : Ideal.ofBits .f32 0x43000000#32 = ((128 : ℝ) : EReal) := by
  simp [Ideal.ofBits, Ideal.ieee, -EReal.coe_mul]
  try norm_num

theorem bitsHalf : Ideal.ofBits .f32 0x3F000000#32 = ((1 / 2 : ℝ) : EReal) := by
  simp [Ideal.ofBits, Ideal.ieee, -EReal.coe_mul]
  try norm_num

theorem word_real (n : ℕ) (h : n < 2 ^ 31) : (FloatOps.sitofp (F := Ideal) .f32 (BitVec.ofNat 32 n) : EReal) = ((n : ℝ) : EReal) := by
  show (((BitVec.ofNat 32 n).toInt : ℝ) : EReal) = _
  rw [toInt_word h]; norm_cast

/-- The first index attaining the maximum, found as a minimum of indices. -/
theorem first_iff_pick (S : Fin 128 → EReal) (b : Fin 128) :
    (((b.val : ℝ) : EReal) = Finset.fold min ⊤ (fun x : Fin 128 => if S x = Finset.univ.sup S then ((x.val : ℝ) : EReal) else ((128 : ℝ) : EReal)) Finset.univ) ↔ Rank.Pick S b := by
  have hb : (b.val : ℝ) < 128 := by exact_mod_cast b.isLt
  rw [le_antisymm_iff, Finset.le_fold_min, Finset.fold_min_le]
  constructor
  · rintro ⟨⟨-, hall⟩, hex⟩
    rcases hex with h | ⟨x, -, hx⟩
    · exact absurd h (not_le.mpr (EReal.coe_lt_top _))
    · have hxs : S x = Finset.univ.sup S := by
        by_contra hn
        rw [if_neg hn, EReal.coe_le_coe_iff] at hx
        linarith
      have hbx := hall x (Finset.mem_univ _)
      rw [if_pos hxs, EReal.coe_le_coe_iff] at hx hbx
      have : x = b := Fin.ext (by have := le_antisymm hx hbx; exact_mod_cast this)
      refine ⟨this ▸ hxs, fun y hy hs => ?_⟩
      have := hall y (Finset.mem_univ _)
      rw [if_pos hs, EReal.coe_le_coe_iff] at this
      have h1 : b.val ≤ y.val := by exact_mod_cast this
      exact absurd hy (not_lt.mpr h1)
  · rintro ⟨hs, hfirst⟩
    refine ⟨⟨le_top, fun x _ => ?_⟩, .inr ⟨b, Finset.mem_univ _, by rw [if_pos hs]⟩⟩
    split
    · rename_i hx
      rw [EReal.coe_le_coe_iff]
      have : b.val ≤ x.val := by
        by_contra hlt
        exact hfirst x (not_le.mp hlt) hx
      exact_mod_cast this
    · rw [EReal.coe_le_coe_iff]; exact hb.le

theorem ofBool_iff (b : Bool) : BitVec.ofBool b = 1#1 ↔ b = true := by cases b <;> decide

theorem pickv_at (s : FVec Ideal S128x128 .f32) (b q : Fin 128) : pickv (F := Ideal) s (ix2 b q) = 1#1 ↔ Rank.Pick (fun x => s (ix2 x q)) b := by
  rw [← first_iff_pick]
  unfold pickv
  pointwise [k0_pay19]
  rw [Soft.neg_inf, Soft.pos_inf, bits128]
  simp only [word_real _ (lt_trans (Fin.isLt _) (by norm_num : 128 < 2 ^ 31))]
  rw [ofBool_iff, decide_eq_true_iff]
  rfl

open Classical in
theorem nextS_at (s : FVec Ideal S128x128 .f32) (b q : Fin 128) : nextS (F := Ideal) s (ix2 b q) = if Rank.Pick (fun x => s (ix2 x q)) b then ⊥ else s (ix2 b q) := by
  show Scalar.select (pickv (F := Ideal) s (ix2 b q)) (Ideal.ofBits .f32 0xFF800000#32) (s (ix2 b q)) = _
  rw [select_dec _ _ (pickv_at s b q), Soft.neg_inf]

open Classical in
theorem nextM_at (s m : FVec Ideal S128x128 .f32) (b q : Fin 128) : nextM (F := Ideal) s m (ix2 b q) = if Rank.Pick (fun x => s (ix2 x q)) b then 1 else m (ix2 b q) := by
  show Scalar.select (pickv (F := Ideal) s (ix2 b q)) (Ideal.ofBits .f32 0x3F800000#32) (m (ix2 b q)) = _
  rw [select_dec _ _ (pickv_at s b q)]
  simp

theorem rounds_succ (s : FVec Ideal S128x128 .f32) (n : ℕ) : rounds (F := Ideal) s (n + 1) = (nextS (rounds s n).1, nextM (rounds s n).1 (rounds s n).2) := rfl

theorem rounds_at (s : FVec Ideal S128x128 .f32) (q : Fin 128) (n : ℕ) :
    (∀ b, (rounds (F := Ideal) s n).1 (ix2 b q) = Rank.left (fun x => s (ix2 x q)) n b)
      ∧ (∀ b, s (ix2 b q) ≠ ⊥ → (rounds (F := Ideal) s n).2 (ix2 b q) = if Rank.rank (fun x => s (ix2 x q)) b < n then 1 else 0) := by
  classical
  induction n with
  | zero =>
    refine ⟨fun b => by rw [Rank.left_zero]; rfl, fun b hb => ?_⟩
    show Ideal.ofBits .f32 0x00000000#32 = _
    simp
  | succ n ih =>
    obtain ⟨h1, h2⟩ := ih
    have hf : (fun x => (rounds (F := Ideal) s n).1 (ix2 x q)) = Rank.left (fun x => s (ix2 x q)) n := funext h1
    rw [rounds_succ]
    dsimp only
    refine ⟨fun b => ?_, fun b hb => ?_⟩
    · rw [nextS_at, hf, h1, Rank.left_succ]
    · rw [nextM_at, hf, h2 b hb, Rank.mark_succ n hb]

/-- The block is marked after the rounds. -/
def Marked (s : FVec Ideal S128x128 .f32) (q b : Fin 128) : Prop := ((1 / 2 : ℝ) : EReal) < (rounds (F := Ideal) s 16).2 (ix2 b q)

theorem marked_iff (s : FVec Ideal S128x128 .f32) (q b : Fin 128) (hb : s (ix2 b q) ≠ ⊥) : Marked s q b ↔ Rank.rank (fun x => s (ix2 x q)) b < 16 := by
  unfold Marked
  rw [(rounds_at s q 16).2 b hb]
  split
  · rename_i h
    refine ⟨fun _ => h, fun _ => ?_⟩
    rw [← EReal.coe_one, EReal.coe_lt_coe_iff]; norm_num
  · rename_i h
    refine ⟨fun h' => ?_, fun h' => absurd h' h⟩
    rw [← EReal.coe_zero, EReal.coe_lt_coe_iff] at h'
    norm_num at h'

open Classical in
/-- The additive mask: zero at a marked block, −∞ at another. -/
theorem bias_at (s : FVec Ideal S128x128 .f32) (q b : Fin 128) :
    biasv (F := Ideal) (rounds s 16).2 (ix2 q b) = if Marked s q b then 0 else ⊥ := by
  have hm : (Named.named κ "mask" 0xF149F2CA#32 : Ideal .f32) = (⊥ : EReal) := IdealRules.named_const.ideal_named_scalar _ _ _ _ rfl
  unfold biasv Marked
  pointwise []
  rw [hm, bitsHalf]
  congr

/-! ## The selected scores -/

open Classical in
/-- A query row next to its additive mask, against a key below its one-hot block column: the score, or −∞. -/
theorem raw_at (C : Fin 128 → Prop) (b : FVec Ideal S128x128 .bf16) (q : FVec Ideal S512x64 .bf16) (r : Fin 512)
    (hb : ∀ a, b (ix2 ⟨r.val % 128, Nat.mod_lt _ (by decide)⟩ a) = if C a then 0 else ⊥)
    (kb : Vec Ideal S1x192x256 .bf16) (x : Fin 256) (t : Fin 8192) (K : Fin 64 → Fin 8192 → EReal)
    (he : ∀ a : Fin 128, kb (ix3 0 ⟨a.val, by omega⟩ x) = if t.val / 64 = a.val then 1 else 0)
    (hk : ∀ d : Fin 64, kb (ix3 0 ⟨128 + d.val, by omega⟩ x) = K d t) :
    (∑ y : Fin 192, qaug (F := Ideal) b q (ix2 r y) * kb (ix3 0 y x) : EReal) = if C (blk t) then ∑ d, q (ix2 r d) * K d t else ⊥ := by
  have h1 : ∀ a : Fin 128, qaug (F := Ideal) b q (ix2 r ⟨a.val, by omega⟩) = if C a then 0 else ⊥ := by
    intro a
    rw [← hb a]
    refine (dif_pos (show a.val < 128 from a.isLt)).trans (congrArg b (funext fun c => ?_))
    match c with
    | ⟨0, _⟩ => rfl
    | ⟨1, _⟩ => rfl
  have h2 : ∀ d : Fin 64, qaug (F := Ideal) b q (ix2 r ⟨128 + d.val, by omega⟩) = q (ix2 r d) := by
    intro d
    refine (dif_neg (show ¬ 128 + d.val < 128 by omega)).trans (congrArg q (funext fun c => Fin.ext ?_))
    match c with
    | ⟨0, _⟩ => rfl
    | ⟨1, _⟩ => show 128 + d.val - 128 = d.val; omega
  have hsum : (∑ y : Fin 192, qaug (F := Ideal) b q (ix2 r y) * kb (ix3 0 y x) : EReal)
      = (∑ a : Fin 128, qaug (F := Ideal) b q (ix2 r ⟨a.val, by omega⟩) * kb (ix3 0 ⟨a.val, by omega⟩ x))
        + ∑ d : Fin 64, qaug (F := Ideal) b q (ix2 r ⟨128 + d.val, by omega⟩) * kb (ix3 0 ⟨128 + d.val, by omega⟩ x) :=
    Fin.sum_univ_add (a := 128) (b := 64) fun y : Fin 192 => (qaug (F := Ideal) b q (ix2 r y) * kb (ix3 0 y x) : EReal)
  rw [hsum]
  simp only [h1, h2, he, hk]
  rw [Finset.sum_eq_single (blk t)]
  · rw [if_pos (show t.val / 64 = (blk t).val from rfl), mul_one]
    split
    · rw [zero_add]
    · exact EReal.bot_add _
  · intro a _ ha
    have hne : ¬ t.val / 64 = a.val := fun h => ha (Fin.ext (show a.val = t.val / 64 from h.symm))
    rw [if_neg hne, mul_zero]
  · intro h; exact absurd (Finset.mem_univ _) h

/-! ## One chunk -/

/-- The running sum takes in a chunk of keys. -/
theorem state_chunk {S : Finset (Fin 8192)} {s v : Fin 8192 → EReal} (hs : ∀ i, s i ≠ ⊤) {m l a : EReal} (h : Soft.State S s v m l a)
    (e : Fin 256 → Fin 8192) (he : Function.Injective e) (hd : ∀ x, e x ∉ S) (raw vv : Fin 256 → EReal) (hr : ∀ x, raw x = s (e x)) (hv : ∀ x, vv x = v (e x)) :
    Soft.State (S ∪ Finset.univ.image e) s v (max m (Finset.fold max ⊥ raw Finset.univ))
      (Ideal.exp (m - max m (Finset.fold max ⊥ raw Finset.univ)) * l + ∑ x, Ideal.exp (raw x - max m (Finset.fold max ⊥ raw Finset.univ)))
      (Ideal.exp (m - max m (Finset.fold max ⊥ raw Finset.univ)) * a + ∑ x, Ideal.exp (raw x - max m (Finset.fold max ⊥ raw Finset.univ)) * vv x) := by
  obtain rfl : raw = fun x => s (e x) := funext hr
  obtain rfl : vv = fun x => v (e x) := funext hv
  have hdis : Disjoint S (Finset.univ.image e) := by
    rw [Finset.disjoint_right]
    intro y hy
    obtain ⟨x, -, rfl⟩ := Finset.mem_image.mp hy
    exact hd x
  have hsup : (Finset.univ.image e).sup s = Finset.fold max ⊥ (fun x => s (e x)) Finset.univ := by rw [Finset.sup_image]; rfl
  have := h.step hdis hs
  rw [hsup, Finset.sum_image fun a _ b _ h => he h, Finset.sum_image fun a _ b _ h => he h] at this
  exact this

/-- The keys before `n`. -/
def keysBelow (n : ℕ) : Finset (Fin 8192) := Finset.univ.filter fun t => t.val < n

theorem mem_keysBelow {n : ℕ} {t : Fin 8192} : t ∈ keysBelow n ↔ t.val < n := by simp [keysBelow]

theorem keysBelow_chunk (n : ℕ) (e : Fin 256 → Fin 8192) (he : ∀ x, (e x).val = n + x.val) : keysBelow n ∪ Finset.univ.image e = keysBelow (n + 256) := by
  ext t
  rw [Finset.mem_union, mem_keysBelow, mem_keysBelow, Finset.mem_image]
  constructor
  · rintro (h | ⟨x, -, rfl⟩)
    · omega
    · have := he x; have := x.isLt; omega
  · intro h
    by_cases h' : t.val < n
    · exact .inl h'
    · exact .inr ⟨⟨t.val - n, by omega⟩, Finset.mem_univ _, Fin.ext (by rw [he]; simp only []; omega)⟩

/-! ## The running softmax -/

section Chunks
variable (v : FVec Ideal S512x192 .bf16) (kb : Vec Ideal S1x192x256 .bf16) (r : Fin 512)

/-- A row's raw scores of a chunk. -/
def rawRow (x : Fin 256) : EReal := ∑ y : Fin 192, v (ix2 r y) * kb (ix3 0 y x)

theorem stp_at (vb : Vec Ideal S1x256x128 .bf16) (a : Acc Ideal) (l : Fin 128) :
    (stp v kb vb a).1 (ix2 r 0) = max (a.1 (ix2 r 0)) (Finset.fold max ⊥ (rawRow v kb r) Finset.univ)
      ∧ (stp v kb vb a).2.1 (ix2 r 0) = Ideal.exp (a.1 (ix2 r 0) - max (a.1 (ix2 r 0)) (Finset.fold max ⊥ (rawRow v kb r) Finset.univ)) * a.2.1 (ix2 r 0)
          + ∑ x, Ideal.exp (rawRow v kb r x - max (a.1 (ix2 r 0)) (Finset.fold max ⊥ (rawRow v kb r) Finset.univ))
      ∧ (stp v kb vb a).2.2 (ix2 r l) = Ideal.exp (a.1 (ix2 r 0) - max (a.1 (ix2 r 0)) (Finset.fold max ⊥ (rawRow v kb r) Finset.univ)) * a.2.2 (ix2 r l)
          + ∑ x, Ideal.exp (rawRow v kb r x - max (a.1 (ix2 r 0)) (Finset.fold max ⊥ (rawRow v kb r) Finset.univ)) * vb (ix3 0 x l) := by
  unfold stp rawRow
  obtain ⟨m, s, o⟩ := a
  dsimp only
  refine ⟨?_, ?_, ?_⟩
  · pointwise [k0_pay67, k0_pay66]
    rw [Soft.neg_inf]
  · pointwise [k0_pay70, k0_pay67, k0_pay66, k0_pay68, k0_pay69]
    rw [Soft.neg_inf]
  · pointwise [k0_pay71, k0_pay67, k0_pay66, k0_pay68, k0_pay69]
    rw [Soft.neg_inf]

open Classical in
/-- A row's scores of the last chunk: only the keys not after the query. -/
def cutRow (p k : ℕ) (x : Fin 256) : EReal := if k + x.val ≤ p then rawRow v kb r x else ⊥

theorem slcv_at (v7 : IVec S512x1 32) (p k : ℕ) (hp : p < 8192) (hk : k < 8192) (h7 : v7 (ix2 r 0) = BitVec.ofNat 32 p) (vb : Vec Ideal S1x256x128 .bf16) (a : Acc Ideal) (l : Fin 128) :
    slcv (F := Ideal) v7 (BitVec.ofNat 32 k) v kb vb a (ix2 r l) = Ideal.div
      (Ideal.exp (a.1 (ix2 r 0) - max (a.1 (ix2 r 0)) (Finset.fold max ⊥ (cutRow v kb r p k) Finset.univ)) * a.2.2 (ix2 r l)
          + ∑ x, Ideal.exp (cutRow v kb r p k x - max (a.1 (ix2 r 0)) (Finset.fold max ⊥ (cutRow v kb r p k) Finset.univ)) * vb (ix3 0 x l))
      (Ideal.exp (a.1 (ix2 r 0) - max (a.1 (ix2 r 0)) (Finset.fold max ⊥ (cutRow v kb r p k) Finset.univ)) * a.2.1 (ix2 r 0)
          + ∑ x, Ideal.exp (cutRow v kb r p k x - max (a.1 (ix2 r 0)) (Finset.fold max ⊥ (cutRow v kb r p k) Finset.univ))) := by
  have hm : (Named.named κ "mask" 0xF149F2CA#32 : Ideal .f32) = (⊥ : EReal) := IdealRules.named_const.ideal_named_scalar _ _ _ _ rfl
  have hc : ∀ x : Fin 256, Scalar.select (IntOp.cmpi .sle (IntOp.addi (BitVec.ofNat 32 k) (BitVec.ofNat 32 x.val)) (v7 (ix2 r 0))) (∑ y : Fin 192, v (ix2 r y) * kb (ix3 0 y x)) (⊥ : EReal)
      = cutRow v kb r p k x := by
    intro x
    have := x.isLt
    rw [h7, addi_word, select_dec (k + x.val ≤ p) _ (sle_word (by omega) (by omega))]
    unfold cutRow rawRow
    congr
  unfold slcv
  obtain ⟨m, s, o⟩ := a
  dsimp only
  pointwise [k0_pay79, k0_pay78]
  simp only [hm, hc, Soft.neg_inf]
end Chunks

section Branch
variable {N p : ℕ} (hN : 256 * N ≤ p) (hpN : p < 256 * (N + 1)) (hp : p < 8192) (C : Fin 128 → Prop)
  (b : FVec Ideal S128x128 .bf16) (q : FVec Ideal S512x64 .bf16) (r : Fin 512) (l : Fin 128)
  (K : Fin 64 → Fin 8192 → EReal) (V : Fin 8192 → EReal)

include hN hp in
theorem chunk_lt {n : ℕ} (h : n ≤ N) (x : Fin 256) : 256 * n + x.val < 8192 := by have := x.isLt; omega

include hN hp in
open Classical in
theorem accv_state (hb : ∀ a, b (ix2 ⟨r.val % 128, Nat.mod_lt _ (by decide)⟩ a) = if C a then 0 else ⊥)
    (kb : Fin N → Vec Ideal S1x192x256 .bf16) (vb : Fin N → Vec Ideal S1x256x128 .bf16)
    (he : ∀ (n : Fin N) (x : Fin 256) (a : Fin 128), kb n (ix3 0 ⟨a.val, by omega⟩ x) = if (256 * n.val + x.val) / 64 = a.val then 1 else 0)
    (hk : ∀ (n : Fin N) (x : Fin 256) (d : Fin 64), kb n (ix3 0 ⟨128 + d.val, by omega⟩ x) = K d ⟨256 * n.val + x.val, chunk_lt hN hp n.isLt.le x⟩)
    (hv : ∀ (n : Fin N) (x : Fin 256), vb n (ix3 0 x l) = V ⟨256 * n.val + x.val, chunk_lt hN hp n.isLt.le x⟩)
    (hs : ∀ t, slcS p C (fun d => q (ix2 r d)) K t ≠ ⊤) (n : ℕ) (hn : n ≤ N) :
    Soft.State (keysBelow (256 * n)) (slcS p C (fun d => q (ix2 r d)) K) V
      ((accv (F := Ideal) (qaug b q) kb vb n).1 (ix2 r 0)) ((accv (F := Ideal) (qaug b q) kb vb n).2.1 (ix2 r 0)) ((accv (F := Ideal) (qaug b q) kb vb n).2.2 (ix2 r l)) := by
  induction n with
  | zero =>
    have h0 : keysBelow (256 * 0) = ∅ := by ext t; simp [mem_keysBelow]
    have hm : (accv (F := Ideal) (qaug b q) kb vb 0).1 (ix2 r 0) = (⊥ : EReal) := IdealRules.named_const.ideal_named_scalar _ _ _ _ rfl
    have hl : (accv (F := Ideal) (qaug b q) kb vb 0).2.1 (ix2 r 0) = (0 : EReal) := by
      show Ideal.ofBits .f32 0x00000000#32 = _
      simp
    have ha : (accv (F := Ideal) (qaug b q) kb vb 0).2.2 (ix2 r l) = (0 : EReal) := by
      show Ideal.ofBits .f32 0x00000000#32 = _
      simp
    rw [h0, hm, hl, ha]
    exact Soft.State.empty _ _
  | succ n ih =>
    have hlt : n < N := hn
    have ih := ih hlt.le
    have hacc : accv (F := Ideal) (qaug b q) kb vb (n + 1) = stp (qaug b q) (kb ⟨n, hlt⟩) (vb ⟨n, hlt⟩) (accv (qaug b q) kb vb n) := dif_pos hlt
    rw [hacc]
    obtain ⟨h1, h2, h3⟩ := stp_at (qaug b q) (kb ⟨n, hlt⟩) r (vb ⟨n, hlt⟩) (accv (qaug b q) kb vb n) l
    rw [h1, h2, h3]
    have := state_chunk hs ih (fun x => ⟨256 * n + x.val, chunk_lt hN hp hlt.le x⟩)
      (fun x y h => Fin.ext (by have := congrArg Fin.val h; simp only [] at this; omega))
      (fun x h => by have := mem_keysBelow.mp h; simp only [] at this; omega)
      (rawRow (qaug b q) (kb ⟨n, hlt⟩) r) (fun x => vb ⟨n, hlt⟩ (ix3 0 x l))
      (fun x => by
        have := raw_at C b q r hb (kb ⟨n, hlt⟩) x ⟨256 * n + x.val, chunk_lt hN hp hlt.le x⟩ K (he ⟨n, hlt⟩ x) (hk ⟨n, hlt⟩ x)
        refine this.trans ?_
        have hle : 256 * n + x.val ≤ p := by have := x.isLt; omega
        unfold slcS
        by_cases hc : C (blk ⟨256 * n + x.val, chunk_lt hN hp hlt.le x⟩)
        · rw [if_pos hc, if_pos ⟨hc, hle⟩]
        · rw [if_neg hc, if_neg fun h => hc h.1])
      (hv ⟨n, hlt⟩)
    rw [keysBelow_chunk (256 * n) _ fun x => rfl] at this
    exact this

include hN hpN hp in
open Classical in
/-- THE SELECTION BRANCH over the chunks: the softmax average over the selected keys. -/
theorem slc_at (v7 : IVec S512x1 32) (h7 : v7 (ix2 r 0) = BitVec.ofNat 32 p)
    (hb : ∀ a, b (ix2 ⟨r.val % 128, Nat.mod_lt _ (by decide)⟩ a) = if C a then 0 else ⊥)
    (kb : Fin N → Vec Ideal S1x192x256 .bf16) (vb : Fin N → Vec Ideal S1x256x128 .bf16)
    (he : ∀ (n : Fin N) (x : Fin 256) (a : Fin 128), kb n (ix3 0 ⟨a.val, by omega⟩ x) = if (256 * n.val + x.val) / 64 = a.val then 1 else 0)
    (hk : ∀ (n : Fin N) (x : Fin 256) (d : Fin 64), kb n (ix3 0 ⟨128 + d.val, by omega⟩ x) = K d ⟨256 * n.val + x.val, chunk_lt hN hp n.isLt.le x⟩)
    (hv : ∀ (n : Fin N) (x : Fin 256), vb n (ix3 0 x l) = V ⟨256 * n.val + x.val, chunk_lt hN hp n.isLt.le x⟩)
    (kl : Vec Ideal S1x192x256 .bf16) (vl : Vec Ideal S1x256x128 .bf16)
    (hel : ∀ (x : Fin 256) (a : Fin 128), kl (ix3 0 ⟨a.val, by omega⟩ x) = if (256 * N + x.val) / 64 = a.val then 1 else 0)
    (hkl : ∀ (x : Fin 256) (d : Fin 64), kl (ix3 0 ⟨128 + d.val, by omega⟩ x) = K d ⟨256 * N + x.val, chunk_lt hN hp le_rfl x⟩)
    (hvl : ∀ (x : Fin 256), vl (ix3 0 x l) = V ⟨256 * N + x.val, chunk_lt hN hp le_rfl x⟩)
    (hs : ∀ t, slcS p C (fun d => q (ix2 r d)) K t ≠ ⊤) (hne : ∃ t, slcS p C (fun d => q (ix2 r d)) K t ≠ ⊥) :
    slcv (F := Ideal) v7 (BitVec.ofNat 32 (256 * N)) (qaug b q) kl vl (accv (qaug b q) kb vb N) (ix2 r l) = oSlc p C (fun d => q (ix2 r d)) K V := by
  rw [slcv_at (qaug b q) kl r v7 p (256 * N) hp (by omega) h7 vl _ l]
  have hst := accv_state hN hp C b q r l K V hb kb vb he hk hv hs N le_rfl
  have := state_chunk hs hst (fun x => ⟨256 * N + x.val, chunk_lt hN hp le_rfl x⟩)
      (fun x y h => Fin.ext (by have := congrArg Fin.val h; simp only [] at this; omega))
      (fun x h => by have := mem_keysBelow.mp h; simp only [] at this; omega)
      (cutRow (qaug b q) kl r p (256 * N)) (fun x => vl (ix3 0 x l))
      (fun x => by
        have h0 : rawRow (qaug b q) kl r x = _ := raw_at C b q r hb kl x ⟨256 * N + x.val, chunk_lt hN hp le_rfl x⟩ K (hel x) (hkl x)
        unfold cutRow slcS
        by_cases hle : 256 * N + x.val ≤ p
        · rw [if_pos hle, h0]
          by_cases hc : C (blk ⟨256 * N + x.val, chunk_lt hN hp le_rfl x⟩)
          · rw [if_pos hc, if_pos ⟨hc, hle⟩]
          · rw [if_neg hc, if_neg fun h => hc h.1]
        · rw [if_neg hle, if_neg fun h => hle h.2])
      hvl
  rw [keysBelow_chunk (256 * N) _ fun x => rfl] at this
  have hout : ∀ t : Fin 8192, t ∉ keysBelow (256 * N + 256) → slcS p C (fun d => q (ix2 r d)) K t = ⊥ := by
    intro t ht
    rw [mem_keysBelow] at ht
    exact if_neg fun h => by have := h.2; omega
  obtain ⟨t, ht⟩ := hne
  rw [Soft.State.avg hs this ⟨t, by by_contra hc; exact ht (hout t hc), ht⟩]
  exact Soft.avg_ext (Finset.subset_univ _) V fun t _ ht => hout t ht
end Branch

end Cert.KernelIdeal.Body

end
-- ==== Proof.KOut.lean ====
/-
  The output block read at an index: head by head, the gated sum of the three branches at that query.
-/
module

public import proofs.«01_k».proof.Proof.KSlc
public import proofs.«01_k».proof.Proof.Wins

@[expose] public section

set_option maxRecDepth 16384

noncomputable section

namespace Cert.KernelIdeal.Body

open Cert.KernelIdeal Cert.KernelIdeal.Gen Cert.Layer
open Idealize.ShloMosaic Idealize.ShloMosaic.TcCoe Idealize.ShloMosaic.Tactic

/-! ## Where the kernel reads -/

theorem trips1 : ∀ t : Fin cfg0.N, (k0_t1_loop (grid0.coords t)).trips = t.val % 64 / 2 := (by decide +kernel : ∀ t : Fin grid0.N, _)
theorem trips3 : ∀ t : Fin cfg0.N, (k0_t3_loop (grid0.coords t)).trips = t.val % 64 / 2 := (by decide +kernel : ∀ t : Fin grid0.N, _)
theorem tile_of : ∀ t : Fin cfg0.N, (grid0.coords t 1).val = t.val % 64 := (by decide +kernel : ∀ t : Fin grid0.N, _)
theorem last_of : ∀ t : Fin cfg0.N, Scalar.muli (lastc (grid0.coords t)) 256#32 = BitVec.ofNat 32 (256 * (t.val % 64 / 2)) := (by decide +kernel : ∀ t : Fin grid0.N, _)
theorem off5 : ∀ t : Fin cfg0.N, k0_off5 (grid0.coords t) = ![0, 0, 256 * (t.val % 64 / 2)] := (by decide +kernel : ∀ t : Fin grid0.N, _)
theorem off13 : ∀ t : Fin cfg0.N, k0_off13 (grid0.coords t) = ![1, 0, 256 * (t.val % 64 / 2)] := (by decide +kernel : ∀ t : Fin grid0.N, _)
theorem off6 : ∀ t : Fin cfg0.N, k0_off6 (grid0.coords t) = ![0, 256 * (t.val % 64 / 2), 0] := (by decide +kernel : ∀ t : Fin grid0.N, _)
theorem off7 : ∀ t : Fin cfg0.N, k0_off7 (grid0.coords t) = ![0, 0, 128 * (t.val % 64) - 512] := (by decide +kernel : ∀ t : Fin grid0.N, _)
theorem off14 : ∀ t : Fin cfg0.N, k0_off14 (grid0.coords t) = ![0, 64, 128 * (t.val % 64) - 512] := (by decide +kernel : ∀ t : Fin grid0.N, _)
theorem off8 : ∀ t : Fin cfg0.N, k0_off8 (grid0.coords t) = ![0, 128 * (t.val % 64) - 512, 0] := (by decide +kernel : ∀ t : Fin grid0.N, _)
theorem chunk_word : ∀ n : Fin 31, (Scalar.indexCast (Scalar.muli (Scf.iv 0#32 1#32 n.val) 256#32) : BitVec 32).toNat = 256 * n.val := by decide +kernel

theorem off1 (i : grid0.Coords) (n : Fin (k0_t1_loop i).trips) : k0_off1 i n = ![0, 0, 256 * n.val] := by
  have := chunk_word ⟨n.val, Nat.lt_of_lt_of_le n.isLt (k0_t1_abs i).2.1⟩
  unfold k0_off1
  exact congrArg (fun x => ![0, 0, x]) this
theorem off2 (i : grid0.Coords) (n : Fin (k0_t1_loop i).trips) : k0_off2 i n = ![0, 256 * n.val, 0] := by
  have := chunk_word ⟨n.val, Nat.lt_of_lt_of_le n.isLt (k0_t1_abs i).2.1⟩
  unfold k0_off2
  exact congrArg (fun x => ![0, x, 0]) this
theorem off9 (i : grid0.Coords) (n : Fin (k0_t3_loop i).trips) : k0_off9 i n = ![1, 0, 256 * n.val] := by
  have := chunk_word ⟨n.val, Nat.lt_of_lt_of_le n.isLt (k0_t3_abs i).2.1⟩
  unfold k0_off9
  exact congrArg (fun x => ![1, 0, x]) this
theorem off10 (i : grid0.Coords) (n : Fin (k0_t3_loop i).trips) : k0_off10 i n = ![0, 256 * n.val, 0] := by
  have := chunk_word ⟨n.val, Nat.lt_of_lt_of_le n.isLt (k0_t3_abs i).2.1⟩
  unfold k0_off10
  exact congrArg (fun x => ![0, x, 0]) this

/-- A read of the key scratch at its one-hot rows and at its key rows. -/
theorem kta_hot (e : Vec Ideal S128x8192 .bf16) (k : Vec Ideal S1x128x8192 .bf16) (g : Fin 2) (a : Fin 128) (t : Fin 8192) :
    kta (F := Ideal) e k (ix3 g ⟨a.val, by omega⟩ t) = e (ix2 a t) :=
  (dif_pos (show a.val < 128 from a.isLt)).trans (congrArg e (funext fun c => by match c with | ⟨0, _⟩ => rfl | ⟨1, _⟩ => rfl))

theorem kta_key (e : Vec Ideal S128x8192 .bf16) (k : Vec Ideal S1x128x8192 .bf16) (g : Fin 2) (d : Fin 64) (t : Fin 8192) :
    kta (F := Ideal) e k (ix3 g ⟨128 + d.val, by omega⟩ t) = k (ix3 0 ⟨64 * g.val + d.val, by omega⟩ t) :=
  (dif_neg (show ¬ 128 + d.val < 128 by omega)).trans (congrArg k (funext fun c => Fin.ext (by
    match c with
    | ⟨0, _⟩ => rfl
    | ⟨1, _⟩ => show g.val * 64 + (128 + d.val - 128) = 64 * g.val + d.val; omega
    | ⟨2, _⟩ => rfl)))

/-- A read through a unit rectangle. -/
theorem sub_at3 {A B C a b c : ℕ} {e : EltTy} (o : Fin 3 → ℕ) (h) (x : Vec Ideal ⟨3, ![A, B, C]⟩ e) (u : Fin a) (v : Fin b) (w : Fin c)
    (o0 o1 o2 : ℕ) (ho : o = ![o0, o1, o2]) (h0 : o0 + u.val < A) (h1 : o1 + v.val < B) (h2 : o2 + w.val < C) :
    sub (F := Ideal) (Rect.unit (s := ⟨3, ![A, B, C]⟩) o ![a, b, c] h).toLoadRect x (ix3 u v w) = x (ix3 ⟨o0 + u.val, h0⟩ ⟨o1 + v.val, h1⟩ ⟨o2 + w.val, h2⟩) := by
  subst ho
  unfold sub
  congr 1
  funext q
  apply Fin.ext
  match q with
  | ⟨0, _⟩ => simp [Rect.toLoadRect, LoadRect.idx, Rect.unit]
  | ⟨1, _⟩ => simp [Rect.toLoadRect, LoadRect.idx, Rect.unit]
  | ⟨2, _⟩ => simp [Rect.toLoadRect, LoadRect.idx, Rect.unit]

/-! ## The heads side by side -/

theorem gated_congr (v9 : FVec Ideal S128x128 .f32) (o1 o2 o3 : FVec Ideal S512x128 .f32) (r : Fin 128) {a b c a' b' c' : Fin 128} {x x' : Fin 512} {l l' : Fin 128}
    (ha : a.val = a'.val) (hb : b.val = b'.val) (hc : c.val = c'.val) (hx : x.val = x'.val) (hl : l.val = l'.val) :
    (v9 (ix2 r a) * o1 (ix2 x l) + v9 (ix2 r b) * o2 (ix2 x l) + v9 (ix2 r c) * o3 (ix2 x l) : EReal)
      = v9 (ix2 r a') * o1 (ix2 x' l') + v9 (ix2 r b') * o2 (ix2 x' l') + v9 (ix2 r c') * o3 (ix2 x' l') := by
  obtain rfl := Fin.ext ha
  obtain rfl := Fin.ext hb
  obtain rfl := Fin.ext hc
  obtain rfl := Fin.ext hx
  obtain rfl := Fin.ext hl
  rfl

theorem heads_at (v9 : FVec Ideal S128x128 .f32) (c0 s0 w0 c1 s1 w1 : FVec Ideal S512x128 .f32) (r : Fin 128) (g : Fin 2) (n : Fin 4) (d : Fin 64) :
    headsv (F := Ideal) v9 c0 s0 w0 c1 s1 w1 (ix2 r ⟨64 * (4 * g.val + n.val) + d.val, by omega⟩)
      = v9 (ix2 r ⟨3 * (4 * g.val + n.val), by omega⟩) * (if g = 0 then c0 else c1) (ix2 ⟨128 * n.val + r.val, by omega⟩ ⟨64 * g.val + d.val, by omega⟩)
        + v9 (ix2 r ⟨3 * (4 * g.val + n.val) + 1, by omega⟩) * (if g = 0 then s0 else s1) (ix2 ⟨128 * n.val + r.val, by omega⟩ ⟨64 * g.val + d.val, by omega⟩)
        + v9 (ix2 r ⟨3 * (4 * g.val + n.val) + 2, by omega⟩) * (if g = 0 then w0 else w1) (ix2 ⟨128 * n.val + r.val, by omega⟩ ⟨64 * g.val + d.val, by omega⟩) := by
  unfold headsv gpc
  pointwise [k0_pay161, k0_pay86, k0_pay85, k0_pay87, k0_pay158, k0_pay159, k0_pay160]
  have hd := d.isLt
  have hn := n.isLt
  have hg : g = 0 ∨ g = 1 := by
    rcases g with ⟨g, h⟩
    rcases g with _ | _ | g
    · exact .inl rfl
    · exact .inr rfl
    · omega
  rcases hg with rfl | rfl
  · have h0 : (0 : Fin 2).val = 0 := rfl
    simp only [h0, if_true]
    repeat' split
    all_goals first
      | (exfalso; omega)
      | exact gated_congr _ _ _ _ _ (by simp; omega) (by simp; omega) (by simp; omega) (by simp only []; omega) (by simp only []; omega)
  · have h1 : (1 : Fin 2).val = 1 := rfl
    simp only [h1, if_neg (show ¬ (1 : Fin 2) = 0 by decide)]
    repeat' split
    all_goals first
      | (exfalso; omega)
      | exact gated_congr _ _ _ _ _ (by simp; omega) (by simp; omega) (by simp; omega) (by simp only []; omega) (by simp only []; omega)

/-! ## A head group -/

section Group
variable (t : Fin cfg0.N) (x0 : Vec Ideal S1x8x128x64 .bf16) (x1 : Vec Ideal S1x128x128 .f32) (x2 : Vec Ideal S1x128x512 .f32) (x3 : Vec Ideal S1x128x256 .bf16)
  (x4 : Vec Ideal S1x256x128 .bf16) (x5 : Vec Ideal S1x128x8192 .bf16) (x6 : Vec Ideal S1x8192x128 .bf16) (x7 : Vec Ideal S1x128x8192 .bf16) (x8 : Vec Ideal S1x8192x128 .bf16)
  (x9 : Vec Ideal S128x8192 .bf16)

/-- The marks the rounds leave are the chosen blocks, as far as they matter. -/
theorem marked_chosen (i : grid0.Coords) (q : Vec Ideal S1x4x128x64 .bf16) (kc : Vec Ideal S1x64x256 .bf16) (qy b : Fin 128) (hb : 64 * b.val ≤ pos i qy.val) :
    Marked (scorev (F := Ideal) i (cmpw i q kc)) qy b ↔ Chosen (pos i qy.val) (fun n d => q (ix4 0 n qy d)) (fun d j => kc (ix3 0 d j)) b := by
  rw [marked_iff _ _ _ (by rw [scorev_at]; exact score_ne_bot _ _ hb)]
  unfold Chosen
  rw [show (fun x => scorev (F := Ideal) i (cmpw i q kc) (ix2 x qy)) = score (pos i qy.val) (fun n d => q (ix4 0 n qy d)) (fun d j => kc (ix3 0 d j)) from
    funext fun x => scorev_at i q kc x qy]

theorem rowsv_at (q : Vec Ideal S1x4x128x64 .bf16) (n : Fin 4) (qy : Fin 128) (d : Fin 64) : rowsv (F := Ideal) q (ix2 ⟨128 * n.val + qy.val, by omega⟩ d) = q (ix4 0 n qy d) := by
  unfold rowsv
  pointwise [k0_pay14]

/-- The selection branch of a head group, whichever chunks it reads. -/
theorem slc_group {N : ℕ} (hN : N = t.val % 64 / 2) (q : Vec Ideal S1x4x128x64 .bf16) (kc : Vec Ideal S1x64x256 .bf16) (n : Fin 4) (qy : Fin 128) (l : Fin 128)
    (K : Fin 64 → Fin 8192 → EReal) (V : Fin 8192 → EReal) (hot : Fin 128 → Fin 8192 → EReal) (hhot : ∀ a t, hot a t = if t.val / 64 = a.val then 1 else 0)
    (kb : Fin N → Vec Ideal S1x192x256 .bf16) (vb : Fin N → Vec Ideal S1x256x128 .bf16)
    (he : ∀ (n : Fin N) (x : Fin 256) (h : 256 * n.val + x.val < 8192) (a : Fin 128), kb n (ix3 0 ⟨a.val, by omega⟩ x) = hot a ⟨256 * n.val + x.val, h⟩)
    (hk : ∀ (n : Fin N) (x : Fin 256) (h : 256 * n.val + x.val < 8192) (d : Fin 64), kb n (ix3 0 ⟨128 + d.val, by omega⟩ x) = K d ⟨256 * n.val + x.val, h⟩)
    (hv : ∀ (n : Fin N) (x : Fin 256) (h : 256 * n.val + x.val < 8192), vb n (ix3 0 x l) = V ⟨256 * n.val + x.val, h⟩)
    (kl : Vec Ideal S1x192x256 .bf16) (vl : Vec Ideal S1x256x128 .bf16)
    (hel : ∀ (x : Fin 256) (h : 256 * N + x.val < 8192) (a : Fin 128), kl (ix3 0 ⟨a.val, by omega⟩ x) = hot a ⟨256 * N + x.val, h⟩)
    (hkl : ∀ (x : Fin 256) (h : 256 * N + x.val < 8192) (d : Fin 64), kl (ix3 0 ⟨128 + d.val, by omega⟩ x) = K d ⟨256 * N + x.val, h⟩)
    (hvl : ∀ (x : Fin 256) (h : 256 * N + x.val < 8192), vl (ix3 0 x l) = V ⟨256 * N + x.val, h⟩)
    (hQ : ∀ n r d, q (ix4 0 n r d) ≠ ⊤ ∧ q (ix4 0 n r d) ≠ ⊥) (hK : ∀ d t, K d t ≠ ⊤ ∧ K d t ≠ ⊥) :
    slcv (F := Ideal) (k0_pay7 (grid0.coords t)) (Scalar.muli (lastc (grid0.coords t)) 256#32)
        (qaug (biasv (rounds (scorev (grid0.coords t) (cmpw (grid0.coords t) q kc)) 16).2) (rowsv q)) kl vl
        (accv (qaug (biasv (rounds (scorev (grid0.coords t) (cmpw (grid0.coords t) q kc)) 16).2) (rowsv q)) kb vb N)
        (ix2 ⟨128 * n.val + qy.val, by omega⟩ l)
      = oSlc (pos (grid0.coords t) qy.val) (Chosen (pos (grid0.coords t) qy.val) (fun n d => q (ix4 0 n qy d)) (fun d j => kc (ix3 0 d j))) (fun d => q (ix4 0 n qy d)) K V := by
  subst hN
  have hti := tile_of t
  have hqy := qy.isLt
  have hmod : (128 * n.val + qy.val) % 128 = qy.val := by omega
  have hpos : pos (grid0.coords t) qy.val = 128 * (t.val % 64) + qy.val := by unfold pos; rw [hti]
  have hp := pos_lt (grid0.coords t) hqy
  have hfin : (⟨(128 * n.val + qy.val) % 128, Nat.mod_lt _ (by decide)⟩ : Fin 128) = qy := Fin.ext hmod
  have hrow : (fun d => rowsv (F := Ideal) q (ix2 ⟨128 * n.val + qy.val, by omega⟩ d)) = fun d => q (ix4 0 n qy d) := funext fun d => rowsv_at q n qy d
  obtain ⟨b, hb, hc⟩ := chosen_exists (pos (grid0.coords t) qy.val) (fun n d => q (ix4 0 n qy d)) (fun d j => kc (ix3 0 d j))
  rw [last_of t]
  have := slc_at (N := t.val % 64 / 2) (p := pos (grid0.coords t) qy.val) (by omega) (by omega) hp
    (Marked (scorev (grid0.coords t) (cmpw (grid0.coords t) q kc)) qy)
    (biasv (rounds (scorev (grid0.coords t) (cmpw (grid0.coords t) q kc)) 16).2) (rowsv q) ⟨128 * n.val + qy.val, by omega⟩ l K V
    (k0_pay7 (grid0.coords t)) (by rw [qpos_at, hmod])
    (fun a => by rw [hfin]; exact bias_at _ qy a)
    kb vb (fun n x a => by rw [he n x (by have := n.isLt; have := x.isLt; omega) a, hhot]) (fun n x d => hk n x _ d) (fun n x => hv n x _)
    kl vl (fun x a => by rw [hel x (by have := x.isLt; omega) a, hhot]) (fun x d => hkl x _ d) (fun x => hvl x _)
    (by rw [hrow]; exact slcS_ne_top (fun d => hQ n qy d) hK)
    (by rw [hrow]; exact slcS_some hb ((marked_chosen _ _ _ _ _ hb).mpr hc) (fun d => hQ n qy d) hK)
  rw [this, hrow]
  unfold oSlc
  rw [slcS_congr fun b hb => marked_chosen (grid0.coords t) q kc qy b hb]

variable (hot : ∀ (a : Fin 128) (t : Fin 8192), x9 (ix2 a t) = if t.val / 64 = a.val then 1 else 0)
  (hQ : ∀ h r d, x0 (ix4 0 h r d) ≠ ⊤ ∧ x0 (ix4 0 h r d) ≠ ⊥) (hK : ∀ d t, x5 (ix3 0 d t) ≠ ⊤ ∧ x5 (ix3 0 d t) ≠ ⊥)
  (n : Fin 4) (qy : Fin 128) (l : Fin 128)

theorem qh0_at (n : Fin 4) (r : Fin 128) (d : Fin 64) : qh0 (F := Ideal) x0 (ix4 0 n r d) = x0 (ix4 0 ⟨4 * (0 : Fin 2).val + n.val, by have : (0 : Fin 2).val = 0 := rfl; omega⟩ r d) := by
  unfold qh0 sub
  congr 1
  funext q
  apply Fin.ext
  match q with
  | ⟨0, _⟩ => simp [Rect.toLoadRect, LoadRect.idx, Rect.unit]
  | ⟨1, _⟩ => simp [Rect.toLoadRect, LoadRect.idx, Rect.unit]
  | ⟨2, _⟩ => simp [Rect.toLoadRect, LoadRect.idx, Rect.unit]
  | ⟨3, _⟩ => simp [Rect.toLoadRect, LoadRect.idx, Rect.unit]

theorem qh1_at (n : Fin 4) (r : Fin 128) (d : Fin 64) : qh1 (F := Ideal) x0 (ix4 0 n r d) = x0 (ix4 0 ⟨4 * (1 : Fin 2).val + n.val, by have : (1 : Fin 2).val = 1 := rfl; omega⟩ r d) := by
  unfold qh1 sub
  congr 1
  funext q
  apply Fin.ext
  match q with
  | ⟨0, _⟩ => simp [Rect.toLoadRect, LoadRect.idx, Rect.unit]
  | ⟨1, _⟩ => simp [Rect.toLoadRect, LoadRect.idx, Rect.unit]
  | ⟨2, _⟩ => simp [Rect.toLoadRect, LoadRect.idx, Rect.unit]
  | ⟨3, _⟩ => simp [Rect.toLoadRect, LoadRect.idx, Rect.unit]

/-- The compressed keys of a head group. -/
abbrev kc0 : Vec Ideal S1x64x256 .bf16 := sub (Rect.unit (s := S1x128x256) ![0, 0, 0] S1x64x256.size inb_S1x128x256_S1x64x256_0_0_0).toLoadRect x3
abbrev kc1 : Vec Ideal S1x64x256 .bf16 := sub (Rect.unit (s := S1x128x256) ![0, 64, 0] S1x64x256.size inb_S1x128x256_S1x64x256_0_64_0).toLoadRect x3

theorem kc0_at (d : Fin 64) (j : Fin 256) : kc0 x3 (ix3 0 d j) = x3 (ix3 0 ⟨64 * (0 : Fin 2).val + d.val, by have : (0 : Fin 2).val = 0 := rfl; omega⟩ j) := by
  refine (sub_at3 _ _ x3 0 d j 0 0 0 rfl (by decide) (by omega) (by omega)).trans (congrArg x3 ?_)
  congr 1 <;> apply Fin.ext <;> simp

theorem kc1_at (d : Fin 64) (j : Fin 256) : kc1 x3 (ix3 0 d j) = x3 (ix3 0 ⟨64 * (1 : Fin 2).val + d.val, by have : (1 : Fin 2).val = 1 := rfl; omega⟩ j) := by
  refine (sub_at3 _ _ x3 0 d j 0 64 0 rfl (by decide) (by omega) (by omega)).trans (congrArg x3 ?_)
  congr 1 <;> apply Fin.ext <;> simp

/-- A group's chunk of the key scratch, and of the values. -/
theorem chunk_hot (g : Fin 2) (o : Fin 3 → ℕ) (h) (k : ℕ) (ho : o = ![g.val, 0, k]) (x : Fin 256) (hx : k + x.val < 8192) (a : Fin 128) :
    sub (F := Ideal) (Rect.unit (s := S2x192x8192) o S1x192x256.size h).toLoadRect (kta x9 x5) (ix3 0 ⟨a.val, by omega⟩ x) = x9 (ix2 a ⟨k + x.val, hx⟩) := by
  refine (sub_at3 o h (kta x9 x5) 0 ⟨a.val, by omega⟩ x g.val 0 k ho (by show g.val + 0 < 2; omega) (by show 0 + a.val < 192; omega) hx).trans ?_
  refine Eq.trans (congrArg (kta x9 x5) ?_) (kta_hot x9 x5 g a ⟨k + x.val, hx⟩)
  congr 1; apply Fin.ext; simp

theorem chunk_key (g : Fin 2) (o : Fin 3 → ℕ) (h) (k : ℕ) (ho : o = ![g.val, 0, k]) (x : Fin 256) (hx : k + x.val < 8192) (d : Fin 64) :
    sub (F := Ideal) (Rect.unit (s := S2x192x8192) o S1x192x256.size h).toLoadRect (kta x9 x5) (ix3 0 ⟨128 + d.val, by omega⟩ x) = x5 (ix3 0 ⟨64 * g.val + d.val, by omega⟩ ⟨k + x.val, hx⟩) := by
  refine (sub_at3 o h (kta x9 x5) 0 ⟨128 + d.val, by omega⟩ x g.val 0 k ho (by show g.val + 0 < 2; omega) (by show 0 + (128 + d.val) < 192; omega) hx).trans ?_
  refine Eq.trans (congrArg (kta x9 x5) ?_) (kta_key x9 x5 g d ⟨k + x.val, hx⟩)
  congr 1; apply Fin.ext; simp

theorem chunk_val (o : Fin 3 → ℕ) (h) (k : ℕ) (ho : o = ![0, k, 0]) (x : Fin 256) (hx : k + x.val < 8192) :
    sub (F := Ideal) (Rect.unit (s := S1x8192x128) o S1x256x128.size h).toLoadRect x6 (ix3 0 x l) = x6 (ix3 0 ⟨k + x.val, hx⟩ l) := by
  refine (sub_at3 o h x6 0 x l 0 k 0 ho (by decide) hx (by omega)).trans (congrArg x6 ?_)
  congr 1; apply Fin.ext; simp

include hot hQ hK in
theorem os0_at : os0 (F := Ideal) (grid0.coords t) x0 x3 x5 x6 x9 (ix2 ⟨128 * n.val + qy.val, by omega⟩ l)
    = oSlc (pos (grid0.coords t) qy.val) (Chosen (pos (grid0.coords t) qy.val) (fun n d => qh0 x0 (ix4 0 n qy d)) (fun d j => kc0 x3 (ix3 0 d j)))
        (fun d => qh0 x0 (ix4 0 n qy d)) (fun d t => x5 (ix3 0 ⟨64 * (0 : Fin 2).val + d.val, by have : (0 : Fin 2).val = 0 := rfl; omega⟩ t)) (fun t => x6 (ix3 0 t l)) := by
  have hN := trips1 t
  exact slc_group t hN (qh0 x0) (kc0 x3) n qy l _ _ (fun a t => x9 (ix2 a t)) hot _ _
    (fun n x h a => chunk_hot x5 x9 0 _ _ _ (off1 _ n) x h a) (fun n x h d => chunk_key x5 x9 0 _ _ _ (off1 _ n) x h d) (fun n x h => chunk_val x6 l _ _ _ (off2 _ n) x h)
    _ _ (fun x h a => chunk_hot x5 x9 0 _ _ _ (by rw [hN]; exact off5 t) x h a) (fun x h d => chunk_key x5 x9 0 _ _ _ (by rw [hN]; exact off5 t) x h d)
    (fun x h => chunk_val x6 l _ _ _ (by rw [hN]; exact off6 t) x h) (fun n r d => by rw [qh0_at]; exact hQ _ _ _) (fun d t => hK _ _)

include hot hQ hK in
theorem os1_at : os1 (F := Ideal) (grid0.coords t) x0 x3 x5 x6 x9 (ix2 ⟨128 * n.val + qy.val, by omega⟩ l)
    = oSlc (pos (grid0.coords t) qy.val) (Chosen (pos (grid0.coords t) qy.val) (fun n d => qh1 x0 (ix4 0 n qy d)) (fun d j => kc1 x3 (ix3 0 d j)))
        (fun d => qh1 x0 (ix4 0 n qy d)) (fun d t => x5 (ix3 0 ⟨64 * (1 : Fin 2).val + d.val, by have : (1 : Fin 2).val = 1 := rfl; omega⟩ t)) (fun t => x6 (ix3 0 t l)) := by
  have hN := trips3 t
  exact slc_group t hN (qh1 x0) (kc1 x3) n qy l _ _ (fun a t => x9 (ix2 a t)) hot _ _
    (fun n x h a => chunk_hot x5 x9 1 _ _ _ (off9 _ n) x h a) (fun n x h d => chunk_key x5 x9 1 _ _ _ (off9 _ n) x h d) (fun n x h => chunk_val x6 l _ _ _ (off10 _ n) x h)
    _ _ (fun x h a => chunk_hot x5 x9 1 _ _ _ (by rw [hN]; exact off13 t) x h a) (fun x h d => chunk_key x5 x9 1 _ _ _ (by rw [hN]; exact off13 t) x h d)
    (fun x h => chunk_val x6 l _ _ _ (by rw [hN]; exact off6 t) x h) (fun n r d => by rw [qh1_at]; exact hQ _ _ _) (fun d t => hK _ _)

theorem row_mod (n : Fin 4) (qy : Fin 128) : (128 * n.val + qy.val) % 128 = qy.val := by omega

theorem oc0_at : oc0 (F := Ideal) (grid0.coords t) x0 x3 x4 (ix2 ⟨128 * n.val + qy.val, by omega⟩ l)
    = oCmp (pos (grid0.coords t) qy.val) (fun d => qh0 x0 (ix4 0 n qy d)) (fun d j => kc0 x3 (ix3 0 d j)) (fun j => x4 (ix3 0 j l)) := by
  unfold oc0 pc0
  rw [ocmp_at]
  simp only [row_mod, rowsv_at]
  congr 1
  funext j
  refine (sub_at3 _ _ x4 0 j l 0 0 0 rfl (by decide) (by omega) (by omega)).trans (congrArg x4 ?_)
  congr 1 <;> apply Fin.ext <;> simp

theorem oc1_at : oc1 (F := Ideal) (grid0.coords t) x0 x3 x4 (ix2 ⟨128 * n.val + qy.val, by omega⟩ l)
    = oCmp (pos (grid0.coords t) qy.val) (fun d => qh1 x0 (ix4 0 n qy d)) (fun d j => kc1 x3 (ix3 0 d j)) (fun j => x4 (ix3 0 j l)) := by
  unfold oc1 pc1
  rw [ocmp_at]
  simp only [row_mod, rowsv_at]
  congr 1
  funext j
  refine (sub_at3 _ _ x4 0 j l 0 0 0 rfl (by decide) (by omega) (by omega)).trans (congrArg x4 ?_)
  congr 1 <;> apply Fin.ext <;> simp

theorem win_val (o : Fin 3 → ℕ) (h) (x : Fin 640) (k : ℕ) (ho : o = ![0, k, 0]) (hx : k + x.val < 8192) :
    sub (F := Ideal) (Rect.unit (s := S1x8192x128) o S1x640x128.size h).toLoadRect x8 (ix3 0 x l) = x8 (ix3 0 ⟨k + x.val, hx⟩ l) := by
  refine (sub_at3 o h x8 0 x l 0 k 0 ho (by decide) hx (by omega)).trans (congrArg x8 ?_)
  congr 1; apply Fin.ext; simp

theorem win_key (o : Fin 3 → ℕ) (h) (g : Fin 2) (d : Fin 64) (x : Fin 640) (k : ℕ) (ho : o = ![0, 64 * g.val, k]) (hx : k + x.val < 8192) :
    sub (F := Ideal) (Rect.unit (s := S1x128x8192) o S1x64x640.size h).toLoadRect x7 (ix3 0 d x) = x7 (ix3 0 ⟨64 * g.val + d.val, by omega⟩ ⟨k + x.val, hx⟩) :=
  sub_at3 o h x7 0 d x 0 (64 * g.val) k ho (by decide) (by omega) hx

theorem ow0_at : ow0 (F := Ideal) (grid0.coords t) x0 x7 x8 (ix2 ⟨128 * n.val + qy.val, by omega⟩ l)
    = oWin (pos (grid0.coords t) qy.val) (fun d => qh0 x0 (ix4 0 n qy d)) (fun d t => x7 (ix3 0 ⟨64 * (0 : Fin 2).val + d.val, by have : (0 : Fin 2).val = 0 := rfl; omega⟩ t)) (fun t => x8 (ix3 0 t l)) := by
  unfold ow0
  rw [owin_at (grid0.coords t) (128 * (t.val % 64) - 512) (by rw [tile_of t]) _ _ _ (fun d t => x7 (ix3 0 ⟨64 * (0 : Fin 2).val + d.val, by have : (0 : Fin 2).val = 0 := rfl; omega⟩ t)) (fun t => x8 (ix3 0 t l)) l _
    (fun d x h => win_key x7 _ _ 0 d x _ (off7 t) h) (fun x h => win_val x8 l _ _ x _ (off8 t) h)]
  simp only [row_mod, rowsv_at]

theorem ow1_at : ow1 (F := Ideal) (grid0.coords t) x0 x7 x8 (ix2 ⟨128 * n.val + qy.val, by omega⟩ l)
    = oWin (pos (grid0.coords t) qy.val) (fun d => qh1 x0 (ix4 0 n qy d)) (fun d t => x7 (ix3 0 ⟨64 * (1 : Fin 2).val + d.val, by have : (1 : Fin 2).val = 1 := rfl; omega⟩ t)) (fun t => x8 (ix3 0 t l)) := by
  unfold ow1
  rw [owin_at (grid0.coords t) (128 * (t.val % 64) - 512) (by rw [tile_of t]) _ _ _ (fun d t => x7 (ix3 0 ⟨64 * (1 : Fin 2).val + d.val, by have : (1 : Fin 2).val = 1 := rfl; omega⟩ t)) (fun t => x8 (ix3 0 t l)) l _
    (fun d x h => win_key x7 _ _ 1 d x _ (off14 t) h) (fun x h => win_val x8 l _ _ x _ (off8 t) h)]
  simp only [row_mod, rowsv_at]

theorem pay1_at (H : FVec Ideal S128x512 .f32) (z : Vec Ideal S1x128x512 .f32) (r : Fin 128) (c : Fin 512) : k0_pay1 (F := Ideal) H z (ix3 0 r c) = (H (ix2 r c) * z (ix3 0 r c) : EReal) := by
  pointwise [k0_pay1]

theorem pay8_at (z : Vec Ideal S1x128x128 .f32) (r c : Fin 128) : k0_pay8 (F := Ideal) z (ix2 r c) = z (ix3 0 r c) := by
  pointwise [k0_pay8]

theorem all1_at (r c : Fin 128) : sub (F := Ideal) (Rect.unit (s := S1x128x128) ![0, 0, 0] S1x128x128.size inb_S1x128x128_S1x128x128_0_0_0).toLoadRect x1 (ix3 0 r c) = x1 (ix3 0 r c) := by
  refine (sub_at3 _ _ x1 0 r c 0 0 0 rfl (by decide) (by omega) (by omega)).trans (congrArg x1 ?_)
  congr 1 <;> apply Fin.ext <;> simp

theorem gate_at (r c : Fin 128) : k0_pay8 (F := Ideal) (sub (Rect.unit (s := S1x128x128) ![0, 0, 0] S1x128x128.size inb_S1x128x128_S1x128x128_0_0_0).toLoadRect x1) (ix2 r c) = x1 (ix3 0 r c) :=
  (pay8_at _ r c).trans (all1_at x1 r c)

theorem all2_at (r : Fin 128) (c : Fin 512) : sub (F := Ideal) (Rect.unit (s := S1x128x512) ![0, 0, 0] S1x128x512.size inb_S1x128x512_S1x128x512_0_0_0).toLoadRect x2 (ix3 0 r c) = x2 (ix3 0 r c) := by
  refine (sub_at3 _ _ x2 0 r c 0 0 0 rfl (by decide) (by omega) (by omega)).trans (congrArg x2 ?_)
  congr 1 <;> apply Fin.ext <;> simp

include hot in
/-- THE OUTPUT BLOCK, from blocks that are the layer's arrays at batch `b` and the point's query rows. -/
theorem outv_at (A : Arrays) (hA : A.Real) (b : Fin 4)
    (h0 : ∀ h r d, x0 (ix4 0 h r d) = A.q (ix4 b h (rw0 t r) d)) (h1 : ∀ r d, x1 (ix3 0 r d) = A.gate (ix3 b (rw0 t r) d))
    (h2 : ∀ r d, x2 (ix3 0 r d) = A.zs (ix3 b (rw0 t r) d)) (h3 : ∀ d j, x3 (ix3 0 d j) = A.kc (ix3 b d j)) (h4 : ∀ j d, x4 (ix3 0 j d) = A.vc (ix3 b j d))
    (h5 : ∀ d j, x5 (ix3 0 d j) = A.ks (ix3 b d j)) (h6 : ∀ j d, x6 (ix3 0 j d) = A.vs (ix3 b j d))
    (h7 : ∀ d j, x7 (ix3 0 d j) = A.kw (ix3 b d j)) (h8 : ∀ j d, x8 (ix3 0 j d) = A.vw (ix3 b j d)) (g : Fin 2) (d : Fin 64) :
    outv (F := Ideal) (grid0.coords t) x0 x1 x2 x3 x4 x5 x6 x7 x8 x9 (ix3 0 qy ⟨64 * (4 * g.val + n.val) + d.val, by omega⟩) = A.out b g (rw0 t qy) n d := by
  have hpos : pos (grid0.coords t) qy.val = (rw0 t qy).val := by
    show 128 * _ + _ = t.val % 64 * 128 + qy.val
    rw [tile_of t]; omega
  unfold outv
  rw [pay1_at, all2_at, heads_at, gate_at, gate_at, gate_at]
  have hg : g = 0 ∨ g = 1 := by
    rcases g with ⟨g, h⟩
    rcases g with _ | _ | g
    · exact .inl rfl
    · exact .inr rfl
    · omega
  rcases hg with rfl | rfl
  · simp only [if_true]
    rw [oc0_at, os0_at t x0 x3 x5 x6 x9 hot (fun h r d => by rw [h0]; exact hA.q _) (fun d t => by rw [h5]; exact hA.ks _), ow0_at]
    simp only [qh0_at, kc0_at, h0, h1, h2, h3, h4, h5, h6, h7, h8, hpos]
    rfl
  · simp only [if_neg (show ¬ (1 : Fin 2) = 0 by decide)]
    rw [oc1_at, os1_at t x0 x3 x5 x6 x9 hot (fun h r d => by rw [h0]; exact hA.q _) (fun d t => by rw [h5]; exact hA.ks _), ow1_at]
    simp only [qh1_at, kc1_at, h0, h1, h2, h3, h4, h5, h6, h7, h8, hpos]
    rfl

end Group

end Cert.KernelIdeal.Body

end
-- ==== Proof.Floor.lean ====
/-
  The floor division by 64 both host programs perform on an index word: the quotient truncated toward zero, one less
  where the signs differ and the remainder is nonzero. On the words of the positions it is the block number.
-/
module

public import proofs.«01_k».proof.Proof.Bits

@[expose] public section

noncomputable section

namespace Cert.Layer

open Idealize.ShloMosaic

/-- The sign of a word, as a word. -/
def signWord (w : BitVec 32) : BitVec 32 := if w = 0 then 0 else if w.msb then -1 else 1

/-- The word of `w` divided by 64, rounded down. -/
def floorWord (w : BitVec 32) : BitVec 32 :=
  Scalar.select (IntOp.andi (IntOp.cmpi .ne (signWord w) (signWord 64#32)) (IntOp.cmpi .ne (IntOp.remsi .host w 64#32) 0#32))
    (IntOp.subi (IntOp.divsi .host w 64#32) 1#32) (IntOp.divsi .host w 64#32)

theorem floorWord_all : ∀ n : Fin 8192, floorWord (BitVec.ofNat 32 n.val) = BitVec.ofNat 32 (n.val / 64) := by
  decide +kernel

theorem and_bits (x y : BitVec 1) : IntOp.andi x y = 1#1 ↔ (x = 1#1 ∧ y = 1#1) := (by decide : ∀ x y : BitVec 1, IntOp.andi x y = 1#1 ↔ (x = 1#1 ∧ y = 1#1)) x y
theorem or_bits (x y : BitVec 1) : IntOp.ori x y = 1#1 ↔ (x = 1#1 ∨ y = 1#1) := (by decide : ∀ x y : BitVec 1, IntOp.ori x y = 1#1 ↔ (x = 1#1 ∨ y = 1#1)) x y

end Cert.Layer

end
-- ==== Proof.Final.lean ====
/-
  What the launch leaves in the result array: at every position the layer's formula over the arrays it was given.
-/
module

public import proofs.«01_k».proof.Proof.KOut
public import proofs.«01_k».proof.Proof.Launch
public import proofs.«01_k».proof.Proof.Floor

@[expose] public section

set_option maxRecDepth 16384

noncomputable section

namespace Cert.KernelIdeal.Body

open Cert.KernelIdeal Cert.KernelIdeal.Gen Cert.Layer
open Idealize.ShloMosaic Idealize.ShloMosaic.TcCoe Idealize.ShloMosaic.Tactic

variable (m : (ℓ : Loc nD τ sig) → Buf (Elt Ideal) ℓ) (c : Dev nD)

/-- The block number of key position `x`, as the host computes it, compared with block `a`. -/
theorem hot_word (a : Fin 128) (x : Fin 8192) :
    (FloatOps.uitofp (F := Ideal) .bf16 (IntOp.cmpi .eq (floorWord (BitVec.ofNat 32 x.val)) (BitVec.ofNat 32 a.val)) : EReal)
      = if x.val / 64 = a.val then 1 else 0 := by
  have hx := x.isLt
  have ha := a.isLt
  rw [floorWord_all x]
  have key : IntOp.cmpi .eq (BitVec.ofNat 32 (x.val / 64)) (BitVec.ofNat 32 a.val) = 1#1 ↔ x.val / 64 = a.val := eq_word (by omega) (by omega)
  generalize IntOp.cmpi .eq (BitVec.ofNat 32 (x.val / 64)) (BitVec.ofNat 32 a.val) = w at key ⊢
  have two : w = 0#1 ∨ w = 1#1 := (by decide : ∀ w : BitVec 1, w = 0#1 ∨ w = 1#1) w
  by_cases h : x.val / 64 = a.val
  · rw [if_pos h, key.2 h]
    show ((((1#1 : BitVec 1).toNat : ℝ)) : EReal) = 1
    simp
  · rw [if_neg h, two.resolve_right (fun e => h (key.1 e))]
    show ((((0#1 : BitVec 1).toNat : ℝ)) : EReal) = 0
    simp

/-- The array the host builds for the block lookup: row `a` is one on block `a`'s keys. -/
theorem entry_hot (a : Fin 128) (x : Fin 8192) :
    (V m c main_v4 : Vec Ideal S128x8192 .bf16) (ix2 a x) = (if x.val / 64 = a.val then 1 else 0 : EReal) := by
  unfold V
  simp only [hostOps0, hostOps0_1, hostOps0_2, List.flatten_cons, List.flatten_nil, List.cons_append, List.nil_append]
  after_results_simp
  simp only [StableHlo.TRef.ofBuf_toBuf, StableHlo.TRef.toBuf, StableHlo.TRef.ofBuf, cast_cast, cast_eq, id]
  exact hot_word a x

/-- The layer's arrays, as the launch finds them. -/
def arrays : Arrays where
  q := m ((c : Thread nD τ).loc main_arg0)
  gate := m ((c : Thread nD τ).loc main_arg1)
  zs := m ((c : Thread nD τ).loc main_arg2)
  kc := m ((c : Thread nD τ).loc main_arg3)
  vc := m ((c : Thread nD τ).loc main_arg4)
  ks := m ((c : Thread nD τ).loc main_arg5)
  vs := m ((c : Thread nD τ).loc main_arg6)
  kw := m ((c : Thread nD τ).loc main_arg7)
  vw := m ((c : Thread nD τ).loc main_arg8)

theorem hot9 (t : Fin cfg0.N) (a : Fin 128) (x : Fin 8192) :
    (iblk m c 9 t : Vec Ideal S128x8192 .bf16) (ix2 a x) = (if x.val / 64 = a.val then 1 else 0 : EReal) := by
  have h : (iblk m c 9 t : Vec Ideal S128x8192 .bf16) (ix2 a x) = V m c main_v4 (ix2 a x) := by
    blk_ext! [iblk, idx9 t]
  rw [h, entry_hot]

/-- One step's block, at one position. -/
theorem outAt_at (hA : (arrays m c).Real) (t : Fin cfg0.N) (qy : Fin 128) (x : Fin 512) :
    outAt m c t (ix3 0 qy x) = (arrays m c).res (bt t) (rw0 t qy) x := by
  have h := outv_at t (iblk m c 0 t) (iblk m c 1 t) (iblk m c 2 t) (iblk m c 3 t) (iblk m c 4 t) (iblk m c 5 t)
    (iblk m c 6 t) (iblk m c 7 t) (iblk m c 8 t) (iblk m c 9 t) (hot9 m c t) ⟨x.val / 64 % 4, by omega⟩ qy (arrays m c) hA (bt t)
    (fun h r d => (iblk0 m c t 0 h r d).trans (congrFun (V_main_arg0 m c) _))
    (fun r d => (iblk1 m c t 0 r d).trans (congrFun (V_main_arg1 m c) _))
    (fun r d => (iblk2 m c t 0 r d).trans (congrFun (V_main_arg2 m c) _))
    (fun r d => (iblk3 m c t 0 r d).trans (congrFun (V_main_arg3 m c) _))
    (fun r d => (iblk4 m c t 0 r d).trans (congrFun (V_main_arg4 m c) _))
    (fun r d => (iblk5 m c t 0 r d).trans (congrFun (V_main_arg5 m c) _))
    (fun r d => (iblk6 m c t 0 r d).trans (congrFun (V_main_arg6 m c) _))
    (fun r d => (iblk7 m c t 0 r d).trans (congrFun (V_main_arg7 m c) _))
    (fun r d => (iblk8 m c t 0 r d).trans (congrFun (V_main_arg8 m c) _))
    ⟨x.val / 256, by omega⟩ ⟨x.val % 64, by omega⟩
  have e : (⟨64 * (4 * (x.val / 256) + x.val / 64 % 4) + x.val % 64, by omega⟩ : Fin 512) = x := Fin.ext (by
    show 64 * (4 * (x.val / 256) + x.val / 64 % 4) + x.val % 64 = x.val
    omega)
  exact (congrArg (fun z => outAt m c t (ix3 0 qy z)) e).symm.trans h

/-- The launch's result array. -/
theorem final (hA : (arrays m c).Real) :
    ((dats m 0 c).arrAt 10 cfg0.N : Vec Ideal S4x8192x512 .bf16) = fun y => (arrays m c).res (y 0) (y 1) (y 2) := by
  refine (dats m 0 c).arrAt_eq_of_covers 10 _ (by decide +kernel) fun t hf y => ?_
  blk_simp
  rw [after10]
  idx_vars y
  have h0 : y0 = 0 := Subsingleton.elim _ _
  subst h0
  refine (outAt_at m c hA t y1 y2).trans ?_
  have e : ((win0_10.blk t).view.emb (ix3 0 y1 y2) : S4x8192x512.Idx) = ix3 (bt t) (rw0 t y1) y2 := by
    blk_ext [idx10 t]
  exact (congrArg (fun z : S4x8192x512.Idx => (arrays m c).res (z 0) (z 1) (z 2)) e).symm
end Cert.KernelIdeal.Body
end
-- ==== Proof.RHead.lean ====
/-
  The reference's arrays at coordinates: what its reshapes and transposes of the arguments read.
-/
module

public import proofs.«01_k».proof.Proof.Head
public import proofs.«01_k».proof.Proof.Floor
public import proofs.«01_k».proof.Proof.Gen.ReferenceIdeal.Read
public import Idealize.ShloMosaic.Lib.Pipeline.ValueKit

@[expose] public section

set_option maxRecDepth 16384

noncomputable section

namespace Cert.ReferenceIdeal.Read

open Cert.ReferenceIdeal Cert.Layer
open Idealize.ShloMosaic Idealize.ShloMosaic.Tactic

variable (A : Arrays) (b : Fin 4) (g : Fin 2) (p : Fin 8192) (n : Fin 4) (d : Fin 64)

theorem q_at : val_main_v2 (F := Ideal) A.q (ix5 b g p n d) = A.Q b g p n d := by
  rw [val_main_v2_apply, val_main_v1_apply, val_main_v0_apply]
  show A.q _ = A.q _
  refine congrArg A.q ?_
  blk_ext

/-- Compressed block `j` is column `j / 2` of the even or the odd half. -/
def col (j : Fin 256) : Fin 256 := ⟨j.val % 2 * 128 + j.val / 2, by omega⟩

theorem kc_at (j : Fin 256) : val_main_v9 (F := Ideal) A.kc (ix4 b g d j) = A.Kc b g d (col j) := by
  have e : idx_main_v9 (ix4 b g d j) = ix5 b g d ⟨j.val / 2, by omega⟩ ⟨j.val % 2, by omega⟩ := by blk_ext
  have e8 : idx_main_v8 (ix5 b g d ⟨j.val / 2, by omega⟩ ⟨j.val % 2, by omega⟩) = ix5 b g d ⟨j.val % 2, by omega⟩ ⟨j.val / 2, by omega⟩ := by blk_ext
  have e7 : ∀ (y : Fin 2) (z : Fin 128), idx_main_v7 (ix5 b g d y z) = ix3 b ⟨64 * g.val + d.val, by omega⟩ ⟨y.val * 128 + z.val, by omega⟩ := by
    intro y z
    blk_ext
  rw [val_main_v9_apply, e, val_main_v8_apply, e8, val_main_v7_apply, e7, val_main_v6_apply]
  rfl

theorem vc_at (j : Fin 256) : val_main_v13 (F := Ideal) A.vc (ix4 b g j d) = A.Vc b g d (col j) := by
  have e : idx_main_v13 (ix4 b g j d) = ix5 b g ⟨j.val / 2, by omega⟩ ⟨j.val % 2, by omega⟩ d := by blk_ext
  have e8 : idx_main_v12 (ix5 b g ⟨j.val / 2, by omega⟩ ⟨j.val % 2, by omega⟩ d) = ix5 b ⟨j.val % 2, by omega⟩ ⟨j.val / 2, by omega⟩ g d := by blk_ext
  have e7 : ∀ (y : Fin 2) (z : Fin 128), idx_main_v11 (ix5 b y z g d) = ix3 b ⟨y.val * 128 + z.val, by omega⟩ ⟨64 * g.val + d.val, by omega⟩ := by
    intro y z
    blk_ext
  rw [val_main_v13_apply, e, val_main_v12_apply, e8, val_main_v11_apply, e7, val_main_v10_apply]
  rfl

/-- The selection keys by block. -/
theorem ks_at (k : Fin 128) (l : Fin 64) : val_main_v16 (F := Ideal) A.ks (ix5 b g k l d) = A.Ks b g d ⟨64 * k.val + l.val, by omega⟩ := by
  have e : idx_main_v16 (ix5 b g k l d) = ix5 b g d k l := by blk_ext
  have e7 : idx_main_v15 (ix5 b g d k l) = ix3 b ⟨64 * g.val + d.val, by omega⟩ ⟨64 * k.val + l.val, by omega⟩ := by blk_ext
  rw [val_main_v16_apply, e, val_main_v15_apply, e7, val_main_v14_apply]
  rfl

theorem vs_at (k : Fin 128) (l : Fin 64) : val_main_v19 (F := Ideal) A.vs (ix5 b g k l d) = A.Vs b g d ⟨64 * k.val + l.val, by omega⟩ := by
  have e : idx_main_v19 (ix5 b g k l d) = ix5 b k l g d := by blk_ext
  have e7 : idx_main_v18 (ix5 b k l g d) = ix3 b ⟨64 * k.val + l.val, by omega⟩ ⟨64 * g.val + d.val, by omega⟩ := by blk_ext
  rw [val_main_v19_apply, e, val_main_v18_apply, e7, val_main_v17_apply]
  rfl

theorem kw_at (t : Fin 8192) : val_main_v21 (F := Ideal) A.kw (ix4 b g d t) = A.Kw b g d t := by
  have e7 : idx_main_v21 (ix4 b g d t) = ix3 b ⟨64 * g.val + d.val, by omega⟩ t := by blk_ext
  rw [val_main_v21_apply, e7, val_main_v20_apply]
  rfl

theorem vw_at (t : Fin 8192) : val_main_v24 (F := Ideal) A.vw (ix4 b g t d) = A.Vw b g d t := by
  have e : idx_main_v24 (ix4 b g t d) = ix4 b t g d := by blk_ext
  have e7 : idx_main_v23 (ix4 b t g d) = ix3 b t ⟨64 * g.val + d.val, by omega⟩ := by blk_ext
  rw [val_main_v24_apply, e, val_main_v23_apply, e7, val_main_v22_apply]
  rfl

theorem g_at (j : Fin 3) : val_main_v5 (F := Ideal) A.gate (ix5 b g p n j) = A.G b g p n j := by
  have e : idx_main_v5 (ix5 b g p n j) = ix5 b p g n j := by blk_ext
  have e7 : idx_main_v4 (ix5 b p g n j) = ix3 b p ⟨3 * (4 * g.val + n.val) + j.val, by omega⟩ := by blk_ext
  have e3 : idx_main_v3 (ix3 b p ⟨3 * (4 * g.val + n.val) + j.val, by omega⟩) = ix3 b p ⟨3 * (4 * g.val + n.val) + j.val, by omega⟩ := by blk_ext
  rw [val_main_v5_apply, e, val_main_v4_apply, e7, val_main_v3_apply, e3]
  rfl

end Cert.ReferenceIdeal.Read

end
-- ==== Proof.RSoft.lean ====
/-
  The reference's masked softmax of one row, in the words of the layer's weights.
-/
module

public import proofs.«01_k».proof.Proof.Soft
public import Idealize.ShloMosaic.Lib.Pointwise

@[expose] public section

noncomputable section

namespace Cert.Layer.Soft

open Idealize.ShloMosaic Finset

/-- The row maximum, replaced by zero where it is no number. -/
theorem shift_of (m : EReal) (h : m ≠ ⊤) :
    Scalar.select (FloatOps.cmpf (F := Ideal) (φ := .f32) .olt (FloatOps.hostAbsf (F := Ideal) (φ := .f32) m) (Ideal.ofBits .f32 0x7F800000#32)) m
      (Ideal.ofBits .f32 0x00000000#32) = shift m := by
  have z : Ideal.ofBits .f32 0x00000000#32 = 0 := by simp [Ideal.ofBits, Ideal.ieee]
  rw [pos_inf, z]
  show Scalar.select (Ideal.cmp .olt (max m (-m)) ⊤) m 0 = shift m
  unfold shift Scalar.select Ideal.cmp
  induction m using EReal.rec with
  | bot => simp
  | top => exact absurd rfl h
  | coe r =>
    have : max (r : EReal) (-(r : EReal)) < ⊤ := max_lt (EReal.coe_lt_top r) (by rw [← EReal.coe_neg]; exact EReal.coe_lt_top _)
    simp [this]

/-- A row's maximum, as the reference folds it. -/
theorem fold_sup {n : ℕ} (s : Fin n → EReal) : (univ : Finset (Fin n)).fold max (Ideal.ofBits .f32 0xFF800000#32) s = univ.sup s := by
  rw [neg_inf]
  rfl

theorem sup_ne_top {n : ℕ} (s : Fin n → EReal) (h : ∀ k, s k ≠ ⊤) : univ.sup s ≠ ⊤ := by
  refine ((Finset.sup_lt_iff (bot_lt_top)).mpr fun k _ => lt_top_iff_ne_top.mpr (h k)).ne

/-- The maximum along the last axis, at a row. -/
theorem max_row {N : ℕ} {u : Shape} (h' : (⟨5, ![4, 2, 8192, 4, N]⟩ : Shape).ReducesTo [4] ⟨4, ![4, 2, 8192, 4]⟩)
    (h : (⟨5, ![4, 2, 8192, 4, N]⟩ : Shape).Reduces [4] ⟨4, ![4, 2, 8192, 4]⟩) (x : FVec Ideal ⟨5, ![4, 2, 8192, 4, N]⟩ .f32) (i : u.Idx → EReal)
    (hi : ∀ y, i y = Ideal.ofBits .f32 0xFF800000#32) (hu : 0 < u.numel) (b : Fin 4) (g : Fin 2) (p : Fin 8192) (n : Fin 4) :
    Host.reduce (FloatOps.maximumf (F := Ideal) (φ := .f32)) x i h' hu (ix4 b g p n) = univ.sup fun j : Fin N => x (ix5 b g p n j) := by
  rw [Host.reduce_eq_fold_single _ _ _ _ h, hi, neg_inf]
  show univ.sup _ = _
  congr 1
  funext j
  refine congrArg x (funext fun a => Fin.ext ?_)
  match a with
  | ⟨0, _⟩ => rfl
  | ⟨1, _⟩ => rfl
  | ⟨2, _⟩ => rfl
  | ⟨3, _⟩ => rfl
  | ⟨4, _⟩ => rfl

/-- A row's weights, as the reference divides. -/
theorem wt_row {n : ℕ} (s : Fin n → EReal) (k : Fin n) :
    Ideal.div (Ideal.exp (s k - shift (univ.sup s))) (max (Ideal.ofBits .f32 0x00000000#32 + ∑ j, Ideal.exp (s j - shift (univ.sup s))) tiny) = wt univ s k := by
  have z : Ideal.ofBits .f32 0x00000000#32 = 0 := by simp [Ideal.ofBits, Ideal.ieee]
  rw [z, zero_add]
  rfl

end Cert.Layer.Soft

end
-- ==== Proof.RCmp.lean ====
/-
  The reference's compressed branch at coordinates: its scores, its weights, its output.
-/
module

public import proofs.«01_k».proof.Proof.RHead
public import proofs.«01_k».proof.Proof.RSoft

@[expose] public section

set_option maxRecDepth 16384

noncomputable section

namespace Cert.ReferenceIdeal.Read

open Cert.ReferenceIdeal Cert.ReferenceIdeal.Gen Cert.Layer
open Idealize.ShloMosaic Idealize.ShloMosaic.Tactic Finset

variable (A : Arrays) (b : Fin 4) (g : Fin 2) (p : Fin 8192) (n : Fin 4) (d : Fin 64)

theorem cdot_at (j : Fin 256) : val_main_v27 (F := Ideal) A.q A.kc (ix5 b g p n j) = ∑ d, A.Q b g p n d * A.Kc b g d (col j) := by
  rw [val_main_v27_apply]
  refine Finset.sum_congr rfl fun d _ => ?_
  have e1 : lidx_main_v27 (ix5 b g p n j) d = ix5 b g p n d := by blk_ext
  have e2 : ridx_main_v27 (ix5 b g p n j) d = ix4 b g d j := by blk_ext
  rw [e1, e2, q_at, kc_at]

theorem cend_at (j : Fin 256) : val_main_v34 (F := Ideal) (ix1 j) = BitVec.ofNat 32 ((j.val + 1) * 32 - 1) := by
  rw [val_main_v34_apply, val_main_v32_apply, val_main_v30_apply, val_main_v28_apply, val_main_v29_apply, val_main_v31_apply, val_main_v33_apply,
    val_main_c_apply, val_main_c_0_apply, val_main_c_1_apply]
  show IntOp.subi (IntOp.muli (IntOp.addi (BitVec.ofNat 32 j.val) (BitVec.ofNat 32 1)) (BitVec.ofNat 32 32)) (BitVec.ofNat 32 1) = _
  rw [addi_word, muli_word, subi_word (by omega)]

theorem qpos2_at (z : Fin 1) : val_main_v26 (F := Ideal) (ix2 p z) = BitVec.ofNat 32 p.val := by
  rw [val_main_v26_apply, val_main_v25_apply]
  rfl

theorem cseen_at (j : Fin 256) : val_main_v38 (F := Ideal) (ix2 p j) = 1#1 ↔ (j.val + 1) * 32 ≤ p.val + 1 := by
  have e : idx_main_v35 (idx_main_v36 (ix2 p j)) = ix1 j := by blk_ext
  have e' : idx_main_v37 (ix2 p j) = ix2 p 0 := by blk_ext
  rw [val_main_v38_apply, val_main_v36_apply, val_main_v35_apply, e, cend_at, val_main_v37_apply, e', qpos2_at, sle_word (by omega) (by omega)]
  omega

theorem cscore_at (j : Fin 256) : val_main_v40 (F := Ideal) A.q A.kc (ix5 b g p n j) = cmpS p.val (A.Q b g p n) (A.Kc b g) (col j) := by
  have e : idx_main_v39 (idx_main_call0_v1 (ix5 b g p n j)) = ix2 p j := by blk_ext
  rw [val_main_v40_apply, val_main_call0_v1_apply, val_main_v39_apply, e, val_main_call0_v2_apply, val_main_call0_v0_apply, val_main_cst_apply,
    select_dec _ _ (cseen_at p j), cdot_at]
  unfold cmpS
  have hc : blockOf (col j).val = j.val := by
    unfold blockOf col
    simp only []
    split <;> omega
  rw [hc, ← Soft.neg_inf]
  rfl

/-- One head's compressed scores, in the reference's order of the blocks. -/
abbrev cs : Fin 256 → EReal := fun j => cmpS p.val (A.Q b g p n) (A.Kc b g) (col j)

theorem cs_ne_top (hA : A.Real) (j : Fin 256) : cs A b g p n j ≠ ⊤ :=
  cmpS_ne_top (fun d => hA.q _) (fun d t => hA.kc _) _

theorem cmax_at : val_main_v41 (F := Ideal) A.q A.kc (ix4 b g p n) = univ.sup (cs A b g p n) := by
  unfold val_main_v41
  rw [Soft.max_row _ (by decide) _ _ (fun y => val_main_cst_2_apply y)]
  congr 1
  funext j
  exact cscore_at A b g p n j

theorem cshift_at (hA : A.Real) (z : Fin 1) : val_main_v46 (F := Ideal) A.q A.kc (ix5 b g p n z) = Soft.shift (univ.sup (cs A b g p n)) := by
  have e : idx_main_v42 (ix5 b g p n z) = ix4 b g p n := by blk_ext
  have h42 : val_main_v42 (F := Ideal) A.q A.kc (ix5 b g p n z) = univ.sup (cs A b g p n) := by
    rw [val_main_v42_apply, e, cmax_at]
  rw [val_main_v46_apply, val_main_v45_apply, val_main_v43_apply, h42, val_main_v44_apply, val_main_cst_3_apply, val_main_call1_v1_apply,
    val_main_call1_v0_apply, val_main_cst_4_apply]
  exact Soft.shift_of _ (Soft.sup_ne_top _ (cs_ne_top A b g p n hA))

theorem cexp_at (hA : A.Real) (j : Fin 256) :
    val_main_v49 (F := Ideal) A.q A.kc (ix5 b g p n j) = Ideal.exp (cs A b g p n j - Soft.shift (univ.sup (cs A b g p n))) := by
  have e : idx_main_v47 (ix5 b g p n j) = ix5 b g p n 0 := by blk_ext
  rw [val_main_v49_apply, val_main_v48_apply, cscore_at, val_main_v47_apply, e, cshift_at _ _ _ _ _ hA]
  rfl

theorem cwt_at (hA : A.Real) (j : Fin 256) : val_main_v55 (F := Ideal) A.q A.kc (ix5 b g p n j) = Soft.wt univ (cs A b g p n) j := by
  have e : idx_main_v51 (idx_main_v54 (ix5 b g p n j)) = ix4 b g p n := by blk_ext
  have e' : ∀ k : Fin 256, idx_main_v50 (ix4 b g p n) k = ix5 b g p n k := fun k => by blk_ext
  rw [val_main_v55_apply, cexp_at _ _ _ _ _ hA, val_main_v54_apply, val_main_v53_apply, val_main_v51_apply, e, val_main_v50_apply, val_main_v52_apply,
    val_main_cst_6_apply, val_main_cst_5_apply]
  simp only [e', cexp_at _ _ _ _ _ hA]
  exact Soft.wt_row _ _

theorem col_inj : Function.Injective col := by
  intro i j h
  have := congrArg Fin.val h
  simp only [col] at this
  exact Fin.ext (by omega)

theorem col_univ : (univ : Finset (Fin 256)).image col = univ := by
  rw [Finset.eq_univ_iff_forall]
  intro x
  exact Finset.mem_image.mpr ⟨⟨blockOf x.val, by unfold blockOf; split <;> omega⟩, mem_univ _, Fin.ext (by
    simp only [col, blockOf]
    split <;> omega)⟩

theorem cw_at (hA : A.Real) (j : Fin 256) : val_main_v55 (F := Ideal) A.q A.kc (ix5 b g p n j) = cmpW p.val (A.Q b g p n) (A.Kc b g) (col j) := by
  rw [cwt_at _ _ _ _ _ hA, Soft.wt_map col col_inj, col_univ]
  rfl

theorem ocmp_ref (hA : A.Real) : val_main_v56 (F := Ideal) A.q A.kc A.vc (ix5 b g p n d) = oCmp p.val (A.Q b g p n) (A.Kc b g) (A.Vc b g d) := by
  rw [val_main_v56_apply]
  have e1 : ∀ j : Fin 256, lidx_main_v56 (ix5 b g p n d) j = ix5 b g p n j := fun j => by blk_ext
  have e2 : ∀ j : Fin 256, ridx_main_v56 (ix5 b g p n d) j = ix4 b g j d := fun j => by blk_ext
  simp only [e1, e2, cwt_at _ _ _ _ _ hA, vc_at]
  have h := Soft.avg_map col col_inj (cmpS p.val (A.Q b g p n) (A.Kc b g)) (A.Vc b g d)
  rw [col_univ] at h
  exact h

end Cert.ReferenceIdeal.Read

end
-- ==== Proof.RScore.lean ====
/-
  The reference's scores of the selection blocks at coordinates, and the sixteen it takes.
-/
module

public import proofs.«01_k».proof.Proof.RCmp

@[expose] public section

set_option maxRecDepth 16384

noncomputable section

namespace Cert.ReferenceIdeal.Read

open Cert.ReferenceIdeal Cert.ReferenceIdeal.Gen Cert.Layer
open Idealize.ShloMosaic Idealize.ShloMosaic.Tactic Finset

variable (A : Arrays) (b : Fin 4) (g : Fin 2) (p : Fin 8192) (n : Fin 4) (k : Fin 128)

theorem zero_bits : Ideal.ofBits .f32 0x00000000#32 = 0 := by simp [Ideal.ofBits, Ideal.ieee]

theorem group_at (hA : A.Real) (j : Fin 256) :
    val_main_v57 (F := Ideal) A.q A.kc (ix4 b g p j) = ∑ n, cmpW p.val (A.Q b g p n) (A.Kc b g) (col j) := by
  rw [val_main_v57_apply, val_main_cst_7_apply]
  have e : ∀ n : Fin 4, idx_main_v57 (ix4 b g p j) n = ix5 b g p n j := fun n => by blk_ext
  simp only [e, cw_at _ _ _ _ _ hA]
  exact (congrArg (· + _) zero_bits).trans (zero_add _)

theorem imp_at (hA : A.Real) : val_main_v59 (F := Ideal) A.q A.kc (ix4 b g p k) = importance p.val (A.Q b g p) (A.Kc b g) k := by
  rw [val_main_v59_apply, val_main_cst_8_apply]
  have e : ∀ y : Fin 2, idx_main_v59 (ix4 b g p k) y = ix5 b g p k y := fun y => by blk_ext
  have e' : ∀ y : Fin 2, idx_main_v58 (ix5 b g p k y) = ix4 b g p ⟨2 * k.val + y.val, by omega⟩ := fun y => by blk_ext
  simp only [e, val_main_v58_apply, e', group_at _ _ _ _ hA]
  refine (congrArg (· + _) zero_bits).trans ((zero_add _).trans ?_)
  rw [Fin.sum_univ_two]
  have c0 : col ⟨2 * k.val + (0 : Fin 2).val, by simp; omega⟩ = ⟨k.val, by omega⟩ := Fin.ext (by simp [col])
  have c1 : col ⟨2 * k.val + (1 : Fin 2).val, by simp; omega⟩ = ⟨128 + k.val, by omega⟩ := Fin.ext (by simp [col]; omega)
  rw [c0, c1]
  rfl

theorem qblk_at (z : Fin 1) : val_main_v63 (F := Ideal) (ix2 p z) = BitVec.ofNat 32 (p.val / 64) := by
  rw [val_main_v63_apply]
  exact floorWord_all p

theorem blk2_at (z : Fin 1) : val_main_v61 (F := Ideal) (ix2 z k) = BitVec.ofNat 32 k.val := by
  rw [val_main_v61_apply, val_main_v60_apply]
  rfl

theorem starts_at : val_main_v68 (F := Ideal) (ix2 p k) = 1#1 ↔ 64 * k.val ≤ p.val := by
  have e1 : idx_main_v66 (ix2 p k) = ix2 0 k := by blk_ext
  have e2 : idx_main_v67 (ix2 p k) = ix2 p 0 := by blk_ext
  rw [val_main_v68_apply, val_main_v66_apply, e1, val_main_v65_apply, blk2_at, val_main_v64_apply, val_main_c_10_apply, val_main_v67_apply, e2, qpos2_at]
  rw [show (64#32 : BitVec 32) = BitVec.ofNat 32 64 from rfl, muli_word, sle_word (by omega) (by omega)]
  omega

theorem forced_at : val_main_v81 (F := Ideal) (ix2 p k) = 1#1 ↔ (k.val = 0 ∨ k.val = p.val / 64 ∨ k.val + 1 = p.val / 64) := by
  have e1 : idx_main_v74 (ix2 p k) = ix2 0 k := by blk_ext
  have e2 : idx_main_v71 (ix2 p k) = ix2 0 k := by blk_ext
  have e3 : idx_main_v72 (ix2 p k) = ix2 p 0 := by blk_ext
  have e4 : idx_main_v78 (ix2 p k) = ix2 0 k := by blk_ext
  have e5 : idx_main_v79 (ix2 p k) = ix2 p 0 := by blk_ext
  rw [val_main_v81_apply, val_main_v75_apply, val_main_v74_apply, e1, val_main_v70_apply, blk2_at, val_main_v69_apply, val_main_c_11_apply,
    val_main_v73_apply, val_main_v71_apply, e2, blk2_at, val_main_v72_apply, e3, qblk_at, val_main_v80_apply, val_main_v78_apply, e4, blk2_at,
    val_main_v79_apply, e5, val_main_v77_apply, qblk_at, val_main_v76_apply, val_main_c_12_apply, or_bits, or_bits]
  rw [show (0#32 : BitVec 32) = BitVec.ofNat 32 0 from rfl, eq_word (by omega) (by omega), eq_word (by omega) (by omega), eq_prev (by omega) (by omega)]
  omega

theorem bonus_ref : val_main_v83 (F := Ideal) (ix2 p k) = bonus p.val k.val := by
  have e : val_main_v83 (F := Ideal) (ix2 p k) = val_main_v82 (F := Ideal) (ix2 p k) := rfl
  rw [e, val_main_v82_apply, val_main_call3_v0_apply, val_main_call3_v1_apply, val_main_cst_13_apply, val_main_cst_14_apply, select_dec _ _ (forced_at p k)]
  unfold bonus
  rw [← zero_bits]
  rfl

theorem score_ref (hA : A.Real) : val_main_v88 (F := Ideal) A.q A.kc (ix4 b g p k) = score p.val (A.Q b g p) (A.Kc b g) k := by
  have e : idx_main_v84 (idx_main_call4_v1 (ix4 b g p k)) = ix2 p k := by blk_ext
  have e' : idx_main_v85 (idx_main_v86 (ix4 b g p k)) = ix2 p k := by blk_ext
  rw [val_main_v88_apply, val_main_call4_v1_apply, val_main_v84_apply, e, select_dec _ _ (starts_at p k), val_main_v87_apply, imp_at _ _ _ _ _ hA,
    val_main_v86_apply, val_main_v85_apply, e', bonus_ref, val_main_call4_v2_apply, val_main_call4_v0_apply, val_main_cst_15_apply]
  unfold score
  rw [← Soft.neg_inf]
  rfl

theorem bool_word (c : Bool) : (BitVec.ofBool c == 1#1) = c := by cases c <;> rfl

/-- Writing a sorted position into an index and reading it back. -/
theorem along_word (J : S4x2x8192x128.Idx) (s : Fin 128 → EReal) (B : Fin 128 → Fin 128 → Bool) (hB : ∀ k k', B k k' = decide (s k' < s k)) (r : Fin 128) :
    BitVec.ofNat 32 ((J.along (3 : Fin 4) (sortedFrom B r)) (3 : Fin 4)).val = BitVec.ofNat 32 (Rank.place s r).val := by
  have h1 : ∀ q : Fin 128, (J.along (3 : Fin 4) q) (3 : Fin 4) = q := fun q => rfl
  have h2 : B = fun k k' => @decide (s k' < s k) (Classical.propDecidable _) := by
    funext k k'
    rw [hB]
    exact decide_eq_decide.mpr Iff.rfl
  have h3 := h1 (sortedFrom B r)
  refine (congrArg (fun q : Fin 128 => BitVec.ofNat 32 q.val) h3).trans ?_
  rw [h2]
  unfold Rank.place
  refine congrArg (fun B => BitVec.ofNat 32 (sortedFrom (n := 128) B r).val) ?_
  funext k k'
  exact decide_eq_decide.mpr Iff.rfl

/-- The positions a top-k takes along the last axis of a row: those of a stable sort by descending score. -/
theorem topk_row (x : FVec Ideal S4x2x8192x128 .f32) (s : Fin 128 → EReal) (hs : ∀ k, x (ix4 b g p k) = s k) (h : S4x2x8192x128.Slices (fun _ => 0) S4x2x8192x16)
    (r : Fin 16) : (Host.topK S4x2x8192x16 3 (FloatOps.cmpfTotal (F := Ideal) (φ := .f32) .gt) x h).2 (ix4 b g p r)
      = BitVec.ofNat 32 (Rank.place s ⟨r.val, by omega⟩).val := by
  have e : ∀ (f : S4x2x8192x128.Idx → BitVec 32), extractStridedSlice S4x2x8192x16 (fun _ => 0) f h (ix4 b g p r) = f (ix4 b g p ⟨r.val, by omega⟩) := by
    intro f
    unfold extractStridedSlice
    refine congrArg f (funext fun a => Fin.ext ?_)
    match a with
    | ⟨0, _⟩ => exact Nat.zero_add _
    | ⟨1, _⟩ => exact Nat.zero_add _
    | ⟨2, _⟩ => exact Nat.zero_add _
    | ⟨3, _⟩ => exact Nat.zero_add _
  have hx : ∀ (q k : Fin 128), x ((ix4 b g p q : S4x2x8192x128.Idx).along 3 k) = s k := by
    intro q k
    rw [← hs]
    refine congrArg x (funext fun a => ?_)
    match a with
    | ⟨0, _⟩ => rfl
    | ⟨1, _⟩ => rfl
    | ⟨2, _⟩ => rfl
    | ⟨3, _⟩ => rfl
  unfold Host.topK
  simp only []
  rw [e]
  unfold Host.sort2
  rw [dif_pos (show (3 : ℕ) < S4x2x8192x128.rank by decide)]
  show (if hd : (3 : ℕ) < 4 then BitVec.ofNat 32 (((ix4 b g p ⟨r.val, _⟩ : S4x2x8192x128.Idx).along 3 (sortedFrom (fun k k' =>
    Ideal.cmpTotal .gt (x ((ix4 b g p ⟨r.val, _⟩ : S4x2x8192x128.Idx).along 3 k)) (x ((ix4 b g p ⟨r.val, _⟩ : S4x2x8192x128.Idx).along 3 k')) == 1#1) ⟨r.val, _⟩)) 3).val else 0#32) = _
  rw [dif_pos (by decide)]
  exact along_word _ s _ (fun k k' => by
    rw [hx, hx]
    show (BitVec.ofBool (decide (s k' < s k)) == 1#1) = decide (s k' < s k)
    exact bool_word _) _

/-- The block taken at place `r`. -/
def taken (r : Fin 16) : Fin 128 := Rank.place (score p.val (A.Q b g p) (A.Kc b g)) ⟨r.val, by omega⟩

theorem indices_at (hA : A.Real) (r : Fin 16) : val_main_indices (F := Ideal) A.q A.kc (ix4 b g p r) = BitVec.ofNat 32 (taken A b g p r).val := by
  unfold val_main_indices
  exact topk_row b g p _ _ (fun k => score_ref A b g p k hA) _ r

end Cert.ReferenceIdeal.Read

end
-- ==== Proof.RGat.lean ====
/-
  The reference's gathered keys and values: the rows of the taken blocks, read off the blocked arrays.
-/
module

public import proofs.«01_k».proof.Proof.RScore
public import Idealize.ShloMosaic.Lib.ValueIdxRank6

@[expose] public section

set_option maxRecDepth 16384

noncomputable section

namespace Cert.ReferenceIdeal.Read

open Cert.ReferenceIdeal Cert.ReferenceIdeal.Gen Cert.Layer
open Idealize.ShloMosaic Idealize.ShloMosaic.Tactic Finset

variable (A : Arrays) (b : Fin 4) (g : Fin 2) (p : Fin 8192) (n : Fin 4) (d : Fin 64)

/-- The six coordinates of a gathered element. -/
abbrev six (r : Fin 16) (l : Fin 64) : S4x2x8192x16x64x64.Idx := fun a => match a with
  | ⟨0, _⟩ => b
  | ⟨1, _⟩ => g
  | ⟨2, _⟩ => p
  | ⟨3, _⟩ => r
  | ⟨4, _⟩ => l
  | ⟨5, _⟩ => d

/-- The block gather, shortened. -/
abbrev gat := gather_S4x2x128x64x64_S4x2x8192x16x1_S4x2x8192x16x64x64_45_2_01_01_2_4_1116464

theorem gat_start (idx : IVec S4x2x8192x16x1 32) (r : Fin 16) (l : Fin 64) (k : Fin 128) (h : idx (ix5 b g p r 0) = BitVec.ofNat 32 k.val) :
    gat.start (six b g p d r l) idx 2 = k.val := by
  unfold GatherDims.start
  rw [dif_pos (by decide)]
  have e : gat.siIdx (six b g p d r l) ⟨gat.startIndexMap.idxOf 2, by decide⟩ = ix5 b g p r 0 := by
    funext a
    match a with
    | ⟨0, _⟩ => rfl
    | ⟨1, _⟩ => rfl
    | ⟨2, _⟩ => rfl
    | ⟨3, _⟩ => rfl
    | ⟨4, _⟩ => rfl
  rw [e, h]
  have hk : (BitVec.ofNat 32 k.val).toInt.toNat = k.val := by
    have hn : (BitVec.ofNat 32 k.val).toNat = k.val := by rw [BitVec.toNat_ofNat]; omega
    rw [BitVec.toInt_eq_toNat_of_lt (by rw [hn]; omega), hn]
    rfl
  rw [hk]
  show min k.val 127 = k.val
  omega

theorem gather_at (x : FVec Ideal S4x2x128x64x64 .f32) (idx : IVec S4x2x8192x16x1 32) (r : Fin 16) (l : Fin 64) (k : Fin 128)
    (h : idx (ix5 b g p r 0) = BitVec.ofNat 32 k.val) : Host.gather gat x idx (six b g p d r l) = x (ix5 b g k l d) := by
  unfold Host.gather
  refine congrArg x (funext fun a => Fin.ext ?_)
  show gat.start (six b g p d r l) idx a + gat.batchCoord (six b g p d r l) a + gat.offCoord (six b g p d r l) a = _
  match a with
  | ⟨0, _⟩ =>
    have h1 : gat.start (six b g p d r l) idx 0 = 0 := dif_neg (by decide)
    have h2 : gat.batchCoord (six b g p d r l) 0 = b.val := rfl
    have h3 : gat.offCoord (six b g p d r l) 0 = 0 := rfl
    show gat.start (six b g p d r l) idx 0 + gat.batchCoord (six b g p d r l) 0 + gat.offCoord (six b g p d r l) 0 = b.val
    rw [h1, h2, h3]; omega
  | ⟨1, _⟩ =>
    have h1 : gat.start (six b g p d r l) idx 1 = 0 := dif_neg (by decide)
    have h2 : gat.batchCoord (six b g p d r l) 1 = g.val := rfl
    have h3 : gat.offCoord (six b g p d r l) 1 = 0 := rfl
    show gat.start (six b g p d r l) idx 1 + gat.batchCoord (six b g p d r l) 1 + gat.offCoord (six b g p d r l) 1 = g.val
    rw [h1, h2, h3]; omega
  | ⟨2, _⟩ =>
    have h2 : gat.batchCoord (six b g p d r l) 2 = 0 := rfl
    have h3 : gat.offCoord (six b g p d r l) 2 = 0 := rfl
    show gat.start (six b g p d r l) idx 2 + gat.batchCoord (six b g p d r l) 2 + gat.offCoord (six b g p d r l) 2 = k.val
    rw [gat_start b g p d idx r l k h, h2, h3]; rfl
  | ⟨3, _⟩ =>
    have h1 : gat.start (six b g p d r l) idx 3 = 0 := dif_neg (by decide)
    have h2 : gat.batchCoord (six b g p d r l) 3 = 0 := rfl
    have h3 : gat.offCoord (six b g p d r l) 3 = l.val := rfl
    show gat.start (six b g p d r l) idx 3 + gat.batchCoord (six b g p d r l) 3 + gat.offCoord (six b g p d r l) 3 = l.val
    rw [h1, h2, h3]; omega
  | ⟨4, _⟩ =>
    have h1 : gat.start (six b g p d r l) idx 4 = 0 := dif_neg (by decide)
    have h2 : gat.batchCoord (six b g p d r l) 4 = 0 := rfl
    have h3 : gat.offCoord (six b g p d r l) 4 = d.val := rfl
    show gat.start (six b g p d r l) idx 4 + gat.batchCoord (six b g p d r l) 4 + gat.offCoord (six b g p d r l) 4 = d.val
    rw [h1, h2, h3]; omega

/-- The key at a place of the gathered row: row `j % 64` of the block taken at place `j / 64`. -/
def key (j : Fin 1024) : Fin 8192 := ⟨64 * (taken A b g p ⟨j.val / 64, by omega⟩).val + j.val % 64, by omega⟩

theorem reshape_at (x : FVec Ideal S4x2x8192x16x64x64 .f32) (j : Fin 1024) :
    shapeCast S4x2x8192x1024x64 x shapeCasts_S4x2x8192x16x64x64_S4x2x8192x1024x64 (ix5 b g p j d)
      = x (six b g p d ⟨j.val / 64, by omega⟩ ⟨j.val % 64, by omega⟩) := by
  refine shapeCast_apply x _ _ _ ?_
  rw [Shape.rowMajor_val_six, Shape.rowMajor_val_five]
  show ((((b.val * 2 + g.val) * 8192 + p.val) * 16 + j.val / 64) * 64 + j.val % 64) * 64 + d.val = (((b.val * 2 + g.val) * 8192 + p.val) * 1024 + j.val) * 64 + d.val
  omega

theorem skey_at (hA : A.Real) (j : Fin 1024) : val_main_v91 (F := Ideal) A.q A.kc A.ks (ix5 b g p j d) = A.Ks b g d (key A b g p j) := by
  have e : idx_main_v89 (ix5 b g p (⟨j.val / 64, by omega⟩ : Fin 16) 0) = ix4 b g p ⟨j.val / 64, by omega⟩ := by blk_ext
  unfold val_main_v91
  rw [reshape_at]
  unfold val_main_v90
  rw [gather_at b g p d _ _ _ _ (taken A b g p ⟨j.val / 64, by omega⟩) (by rw [val_main_v89_apply, e, indices_at A b g p hA]), ks_at]
  rfl

theorem sval_at (hA : A.Real) (j : Fin 1024) : val_main_v94 (F := Ideal) A.q A.kc A.vs (ix5 b g p j d) = A.Vs b g d (key A b g p j) := by
  have e : idx_main_v92 (ix5 b g p (⟨j.val / 64, by omega⟩ : Fin 16) 0) = ix4 b g p ⟨j.val / 64, by omega⟩ := by blk_ext
  unfold val_main_v94
  rw [reshape_at]
  unfold val_main_v93
  rw [gather_at b g p d _ _ _ _ (taken A b g p ⟨j.val / 64, by omega⟩) (by rw [val_main_v92_apply, e, indices_at A b g p hA]), vs_at]
  rfl

theorem spos_at (hA : A.Real) (j : Fin 1024) : val_main_v103 (F := Ideal) A.q A.kc (ix4 b g p j) = BitVec.ofNat 32 (key A b g p j).val := by
  have e : idx_main_v103 (ix4 b g p j) = ix5 b g p ⟨j.val / 64, by omega⟩ ⟨j.val % 64, by omega⟩ := by blk_ext
  have e0 : ∀ (r : Fin 16) (l : Fin 64), idx_main_v100 (ix5 b g p r l) = ix5 b g p r 0 := fun r l => by blk_ext
  have e1 : ∀ r : Fin 16, idx_main_v95 (ix5 b g p r 0) = ix4 b g p r := fun r => by blk_ext
  have e2 : ∀ (r : Fin 16) (l : Fin 64), idx_main_v99 (idx_main_v101 (ix5 b g p r l)) = ix1 l := fun r l => by blk_ext
  rw [val_main_v103_apply, e, val_main_v102_apply, val_main_v100_apply, e0, val_main_v97_apply, val_main_v95_apply, e1, indices_at A b g p hA,
    val_main_v96_apply, val_main_c_16_apply, val_main_v101_apply, val_main_v99_apply, e2, val_main_v98_apply]
  show IntOp.addi (IntOp.muli (BitVec.ofNat 32 _) (BitVec.ofNat 32 64)) (BitVec.ofNat 32 (j.val % 64)) = _
  rw [muli_word, addi_word]
  unfold key
  rw [Nat.mul_comm]

theorem key_blk (j : Fin 1024) : blk (key A b g p j) = taken A b g p ⟨j.val / 64, by omega⟩ := by
  refine Fin.ext ?_
  show (64 * (taken A b g p ⟨j.val / 64, by omega⟩).val + j.val % 64) / 64 = _
  omega

theorem key_inj : Function.Injective (key A b g p) := by
  intro i j h
  have hb : taken A b g p ⟨i.val / 64, by omega⟩ = taken A b g p ⟨j.val / 64, by omega⟩ := by rw [← key_blk, ← key_blk, h]
  have hr := congrArg Fin.val (Rank.place_spec.1.injective hb)
  have hv := congrArg Fin.val h
  simp only [key, hb] at hv
  simp only [] at hr
  exact Fin.ext (by omega)

theorem key_chosen (j : Fin 1024) : Chosen p.val (A.Q b g p) (A.Kc b g) (blk (key A b g p j)) := by
  rw [key_blk]
  exact (Rank.place_iff 16 _).mp ⟨⟨j.val / 64, by omega⟩, by show j.val / 64 < 16; omega, rfl⟩

/-- A key of no place is in no chosen block. -/
theorem key_other (k : Fin 8192) (h : ∀ j, key A b g p j ≠ k) : ¬ Chosen p.val (A.Q b g p) (A.Kc b g) (blk k) := by
  intro hc
  obtain ⟨r, hr, he⟩ := (Rank.place_iff 16 _).mpr hc
  refine h ⟨64 * r.val + k.val % 64, by omega⟩ (Fin.ext ?_)
  have ht : taken A b g p ⟨(64 * r.val + k.val % 64) / 64, by omega⟩ = blk k := by
    rw [← he]
    unfold taken
    exact congrArg _ (Fin.ext (by show (64 * r.val + k.val % 64) / 64 = r.val; omega))
  show 64 * (taken A b g p ⟨(64 * r.val + k.val % 64) / 64, by omega⟩).val + (64 * r.val + k.val % 64) % 64 = k.val
  rw [ht]
  show 64 * (k.val / 64) + (64 * r.val + k.val % 64) % 64 = k.val
  omega

end Cert.ReferenceIdeal.Read

end
-- ==== Proof.RSlc.lean ====
/-
  The reference's selected branch at coordinates: its scores, its weights, its output.
-/
module

public import proofs.«01_k».proof.Proof.RGat

@[expose] public section

set_option maxRecDepth 16384

noncomputable section

namespace Cert.ReferenceIdeal.Read

open Cert.ReferenceIdeal Cert.ReferenceIdeal.Gen Cert.Layer
open Idealize.ShloMosaic Idealize.ShloMosaic.Tactic Finset

variable (A : Arrays) (b : Fin 4) (g : Fin 2) (p : Fin 8192) (n : Fin 4) (d : Fin 64)

theorem sdot_at (hA : A.Real) (j : Fin 1024) :
    val_main_v104 (F := Ideal) A.q A.kc A.ks (ix5 b g p n j) = ∑ d, A.Q b g p n d * A.Ks b g d (key A b g p j) := by
  rw [val_main_v104_apply]
  refine Finset.sum_congr rfl fun d _ => ?_
  have e1 : lidx_main_v104 (ix5 b g p n j) d = ix5 b g p n d := by blk_ext
  have e2 : ridx_main_v104 (ix5 b g p n j) d = ix5 b g p j d := by blk_ext
  rw [e1, e2, q_at, skey_at _ _ _ _ _ hA]

theorem sseen_at (hA : A.Real) (j : Fin 1024) : val_main_v107 (F := Ideal) A.q A.kc (ix4 b g p j) = 1#1 ↔ (key A b g p j).val ≤ p.val := by
  have e : idx_main_v105 (idx_main_v106 (ix4 b g p j)) = ix1 p := by blk_ext
  rw [val_main_v107_apply, spos_at _ _ _ _ hA, val_main_v106_apply, val_main_v105_apply, e, val_main_v25_apply]
  show IntOp.cmpi .sle _ (BitVec.ofNat 32 p.val) = 1#1 ↔ _
  exact sle_word (by omega) (by omega)

theorem sscore_at (hA : A.Real) (j : Fin 1024) : val_main_v109 (F := Ideal) A.q A.kc A.ks (ix5 b g p n j)
    = slcS p.val (Chosen p.val (A.Q b g p) (A.Kc b g)) (A.Q b g p n) (A.Ks b g) (key A b g p j) := by
  have e : idx_main_v108 (idx_main_call5_v1 (ix5 b g p n j)) = ix4 b g p j := by blk_ext
  rw [val_main_v109_apply, val_main_call5_v1_apply, val_main_v108_apply, e, val_main_call5_v2_apply, val_main_call5_v0_apply, val_main_cst_17_apply,
    select_dec _ _ (sseen_at A b g p hA j), sdot_at _ _ _ _ _ hA]
  unfold slcS
  have hc := key_chosen A b g p j
  by_cases ht : (key A b g p j).val ≤ p.val
  · rw [if_pos ht, if_pos ⟨hc, ht⟩]
  · rw [if_neg ht, if_neg fun h => ht h.2, ← Soft.neg_inf]
    rfl

/-- One head's selected scores, in the order of the gathered keys. -/
abbrev ss : Fin 1024 → EReal := fun j => slcS p.val (Chosen p.val (A.Q b g p) (A.Kc b g)) (A.Q b g p n) (A.Ks b g) (key A b g p j)

theorem ss_ne_top (hA : A.Real) (j : Fin 1024) : ss A b g p n j ≠ ⊤ :=
  slcS_ne_top (fun d => hA.q _) (fun d t => hA.ks _) _

theorem smax_at (hA : A.Real) : val_main_v110 (F := Ideal) A.q A.kc A.ks (ix4 b g p n) = univ.sup (ss A b g p n) := by
  unfold val_main_v110
  rw [Soft.max_row _ (by decide) _ _ (fun y => val_main_cst_18_apply y)]
  congr 1
  funext j
  exact sscore_at A b g p n hA j

theorem sshift_at (hA : A.Real) (z : Fin 1) : val_main_v115 (F := Ideal) A.q A.kc A.ks (ix5 b g p n z) = Soft.shift (univ.sup (ss A b g p n)) := by
  have e : idx_main_v111 (ix5 b g p n z) = ix4 b g p n := by blk_ext
  have hm : val_main_v111 (F := Ideal) A.q A.kc A.ks (ix5 b g p n z) = univ.sup (ss A b g p n) := by
    rw [val_main_v111_apply, e, smax_at _ _ _ _ _ hA]
  rw [val_main_v115_apply, val_main_v114_apply, val_main_v112_apply, hm, val_main_v113_apply, val_main_cst_19_apply, val_main_call6_v1_apply,
    val_main_call6_v0_apply, val_main_cst_20_apply]
  exact Soft.shift_of _ (Soft.sup_ne_top _ (ss_ne_top A b g p n hA))

theorem sexp_at (hA : A.Real) (j : Fin 1024) :
    val_main_v118 (F := Ideal) A.q A.kc A.ks (ix5 b g p n j) = Ideal.exp (ss A b g p n j - Soft.shift (univ.sup (ss A b g p n))) := by
  have e : idx_main_v116 (ix5 b g p n j) = ix5 b g p n 0 := by blk_ext
  rw [val_main_v118_apply, val_main_v117_apply, sscore_at _ _ _ _ _ hA, val_main_v116_apply, e, sshift_at _ _ _ _ _ hA]
  rfl

theorem swt_at (hA : A.Real) (j : Fin 1024) : val_main_v124 (F := Ideal) A.q A.kc A.ks (ix5 b g p n j) = Soft.wt univ (ss A b g p n) j := by
  have e : idx_main_v120 (idx_main_v123 (ix5 b g p n j)) = ix4 b g p n := by blk_ext
  have e' : ∀ k : Fin 1024, idx_main_v119 (ix4 b g p n) k = ix5 b g p n k := fun k => by blk_ext
  rw [val_main_v124_apply, sexp_at _ _ _ _ _ hA, val_main_v123_apply, val_main_v122_apply, val_main_v120_apply, e, val_main_v119_apply, val_main_v121_apply,
    val_main_cst_22_apply, val_main_cst_21_apply]
  simp only [e', sexp_at _ _ _ _ _ hA]
  exact Soft.wt_row _ _

theorem oslc_ref (hA : A.Real) : val_main_v125 (F := Ideal) A.q A.kc A.ks A.vs (ix5 b g p n d)
    = oSlc p.val (Chosen p.val (A.Q b g p) (A.Kc b g)) (A.Q b g p n) (A.Ks b g) (A.Vs b g d) := by
  rw [val_main_v125_apply]
  have e1 : ∀ j : Fin 1024, lidx_main_v125 (ix5 b g p n d) j = ix5 b g p n j := fun j => by blk_ext
  have e2 : ∀ j : Fin 1024, ridx_main_v125 (ix5 b g p n d) j = ix5 b g p j d := fun j => by blk_ext
  simp only [e1, e2, swt_at _ _ _ _ _ hA, sval_at _ _ _ _ _ hA]
  exact Soft.avg_of (key A b g p) (key_inj A b g p) (slcS p.val (Chosen p.val (A.Q b g p) (A.Kc b g)) (A.Q b g p n) (A.Ks b g)) (A.Vs b g d)
    fun k hk => if_neg fun h => key_other A b g p k hk h.1

end Cert.ReferenceIdeal.Read

end
-- ==== Proof.RWin.lean ====
/-
  The reference's window branch at coordinates: its scores, its weights, its output.
-/
module

public import proofs.«01_k».proof.Proof.RHead
public import proofs.«01_k».proof.Proof.RCmp

@[expose] public section

set_option maxRecDepth 16384

noncomputable section

namespace Cert.ReferenceIdeal.Read

open Cert.ReferenceIdeal Cert.ReferenceIdeal.Gen Cert.Layer
open Idealize.ShloMosaic Idealize.ShloMosaic.Tactic Finset

variable (A : Arrays) (b : Fin 4) (g : Fin 2) (p : Fin 8192) (n : Fin 4) (d : Fin 64)

theorem wdot_at (j : Fin 8192) : val_main_v126 (F := Ideal) A.q A.kw (ix5 b g p n j) = ∑ d, A.Q b g p n d * A.Kw b g d j := by
  rw [val_main_v126_apply]
  refine Finset.sum_congr rfl fun d _ => ?_
  have e1 : lidx_main_v126 (ix5 b g p n j) d = ix5 b g p n d := by blk_ext
  have e2 : ridx_main_v126 (ix5 b g p n j) d = ix4 b g d j := by blk_ext
  rw [e1, e2, q_at, kw_at]

theorem wkey_at (z : Fin 1) (j : Fin 8192) : val_main_v128 (F := Ideal) (ix2 z j) = BitVec.ofNat 32 j.val := by
  rw [val_main_v128_apply, val_main_v127_apply]
  rfl

theorem wseen_at (j : Fin 8192) : val_main_v137 (F := Ideal) (ix2 p j) = 1#1 ↔ (j.val ≤ p.val ∧ p.val < j.val + 512) := by
  have e1 : idx_main_v129 (ix2 p j) = ix2 0 j := by blk_ext
  have e2 : idx_main_v130 (ix2 p j) = ix2 p 0 := by blk_ext
  have e3 : idx_main_v134 (ix2 p j) = ix2 0 j := by blk_ext
  have e4 : idx_main_v135 (ix2 p j) = ix2 p 0 := by blk_ext
  rw [val_main_v137_apply, val_main_v131_apply, val_main_v136_apply, val_main_v129_apply, e1, wkey_at, val_main_v130_apply, e2, qpos2_at,
    val_main_v134_apply, e3, wkey_at, val_main_v135_apply, e4, val_main_v133_apply, qpos2_at, val_main_v132_apply, val_main_c_23_apply,
    and_bits, sle_word (by omega) (by omega), sgt_back (by omega) (by omega)]

theorem wscore_at (j : Fin 8192) : val_main_v139 (F := Ideal) A.q A.kw (ix5 b g p n j) = winS p.val (A.Q b g p n) (A.Kw b g) j := by
  have e : idx_main_v138 (idx_main_call7_v1 (ix5 b g p n j)) = ix2 p j := by blk_ext
  rw [val_main_v139_apply, val_main_call7_v1_apply, val_main_v138_apply, e, val_main_call7_v2_apply, val_main_call7_v0_apply, val_main_cst_24_apply,
    select_dec _ _ (wseen_at p j), wdot_at]
  unfold winS
  rw [← Soft.neg_inf]
  rfl

/-- One head's window scores. -/
abbrev ws : Fin 8192 → EReal := winS p.val (A.Q b g p n) (A.Kw b g)

theorem ws_ne_top (hA : A.Real) (j : Fin 8192) : ws A b g p n j ≠ ⊤ :=
  winS_ne_top (fun d => hA.q _) (fun d t => hA.kw _) _

theorem wmax_at : val_main_v140 (F := Ideal) A.q A.kw (ix4 b g p n) = univ.sup (ws A b g p n) := by
  unfold val_main_v140
  rw [Soft.max_row _ (by decide) _ _ (fun y => val_main_cst_25_apply y)]
  congr 1
  funext j
  exact wscore_at A b g p n j

theorem wshift_at (hA : A.Real) (z : Fin 1) : val_main_v145 (F := Ideal) A.q A.kw (ix5 b g p n z) = Soft.shift (univ.sup (ws A b g p n)) := by
  have e : idx_main_v141 (ix5 b g p n z) = ix4 b g p n := by blk_ext
  have hm : val_main_v141 (F := Ideal) A.q A.kw (ix5 b g p n z) = univ.sup (ws A b g p n) := by
    rw [val_main_v141_apply, e, wmax_at]
  rw [val_main_v145_apply, val_main_v144_apply, val_main_v142_apply, hm, val_main_v143_apply, val_main_cst_26_apply, val_main_call8_v1_apply,
    val_main_call8_v0_apply, val_main_cst_27_apply]
  exact Soft.shift_of _ (Soft.sup_ne_top _ (ws_ne_top A b g p n hA))

theorem wexp_at (hA : A.Real) (j : Fin 8192) :
    val_main_v148 (F := Ideal) A.q A.kw (ix5 b g p n j) = Ideal.exp (ws A b g p n j - Soft.shift (univ.sup (ws A b g p n))) := by
  have e : idx_main_v146 (ix5 b g p n j) = ix5 b g p n 0 := by blk_ext
  rw [val_main_v148_apply, val_main_v147_apply, wscore_at, val_main_v146_apply, e, wshift_at _ _ _ _ _ hA]
  rfl

theorem wwt_at (hA : A.Real) (j : Fin 8192) : val_main_v154 (F := Ideal) A.q A.kw (ix5 b g p n j) = Soft.wt univ (ws A b g p n) j := by
  have e : idx_main_v150 (idx_main_v153 (ix5 b g p n j)) = ix4 b g p n := by blk_ext
  have e' : ∀ k : Fin 8192, idx_main_v149 (ix4 b g p n) k = ix5 b g p n k := fun k => by blk_ext
  rw [val_main_v154_apply, wexp_at _ _ _ _ _ hA, val_main_v153_apply, val_main_v152_apply, val_main_v150_apply, e, val_main_v149_apply, val_main_v151_apply,
    val_main_cst_29_apply, val_main_cst_28_apply]
  simp only [e', wexp_at _ _ _ _ _ hA]
  exact Soft.wt_row _ _

theorem owin_ref (hA : A.Real) : val_main_v155 (F := Ideal) A.q A.kw A.vw (ix5 b g p n d) = oWin p.val (A.Q b g p n) (A.Kw b g) (A.Vw b g d) := by
  rw [val_main_v155_apply]
  have e1 : ∀ j : Fin 8192, lidx_main_v155 (ix5 b g p n d) j = ix5 b g p n j := fun j => by blk_ext
  have e2 : ∀ j : Fin 8192, ridx_main_v155 (ix5 b g p n d) j = ix4 b g j d := fun j => by blk_ext
  simp only [e1, e2, wwt_at _ _ _ _ _ hA, vw_at]
  rfl

end Cert.ReferenceIdeal.Read

end
-- ==== Proof.RFinal.lean ====
/-
  The reference's result as one formula of its arguments: the three gated branches of each head, laid out by heads and
  multiplied by the gate path.
-/
module

public import proofs.«01_k».proof.Proof.RSlc
public import proofs.«01_k».proof.Proof.RWin

@[expose] public section

set_option maxRecDepth 16384

noncomputable section

namespace Cert.ReferenceIdeal.Read

open Cert.ReferenceIdeal Cert.ReferenceIdeal.Gen Cert.Layer
open Idealize.ShloMosaic Idealize.ShloMosaic.Tactic Finset

variable (A : Arrays) (b : Fin 4) (g : Fin 2) (p : Fin 8192) (n : Fin 4) (d : Fin 64)

theorem sum3_at (hA : A.Real) : val_main_v166 (F := Ideal) A.q A.gate A.kc A.vc A.ks A.vs A.kw A.vw (ix5 b g p n d)
    = headOut p.val (A.G b g p n) (A.Q b g p) n (A.Kc b g) (A.Vc b g d) (A.Ks b g) (A.Vs b g d) (A.Kw b g) (A.Vw b g d) := by
  have e0 : idx_main_v156 (idx_main_v157 (ix5 b g p n d)) = ix5 b g p n 0 := by blk_ext
  have e1 : idx_main_v159 (idx_main_v160 (ix5 b g p n d)) = ix5 b g p n 1 := by blk_ext
  have e2 : idx_main_v163 (idx_main_v164 (ix5 b g p n d)) = ix5 b g p n 2 := by blk_ext
  rw [val_main_v166_apply, val_main_v162_apply, val_main_v158_apply, val_main_v161_apply, val_main_v165_apply,
    val_main_v157_apply, val_main_v156_apply, e0, val_main_v160_apply, val_main_v159_apply, e1, val_main_v164_apply, val_main_v163_apply, e2,
    g_at, g_at, g_at, ocmp_ref _ _ _ _ _ _ hA, oslc_ref _ _ _ _ _ _ hA, owin_ref _ _ _ _ _ _ hA]
  rfl

theorem res_ref (hA : A.Real) (c : Fin 512) :
    val_main_v170 (F := Ideal) A.q A.gate A.zs A.kc A.vc A.ks A.vs A.kw A.vw (ix3 b p c) = A.res b p c := by
  have e : idx_main_v168 (ix3 b p c) = ix5 b p ⟨c.val / 256, by omega⟩ ⟨c.val / 64 % 4, by omega⟩ ⟨c.val % 64, by omega⟩ := by blk_ext
  have ez : (ix3 b p c : S4x8192x512.Idx) = ix3 b p ⟨64 * (4 * (c.val / 256) + c.val / 64 % 4) + c.val % 64, by omega⟩ := by
    refine congrArg (fun c => ix3 b p c) (Fin.ext ?_)
    show c.val = 64 * (4 * (c.val / 256) + c.val / 64 % 4) + c.val % 64
    omega
  rw [val_main_v170_apply, val_main_v169_apply, val_main_v168_apply, e, val_main_v167_apply]
  have e2 : idx_main_v167 (ix5 b p (⟨c.val / 256, by omega⟩ : Fin 2) (⟨c.val / 64 % 4, by omega⟩ : Fin 4) (⟨c.val % 64, by omega⟩ : Fin 64))
    = ix5 b ⟨c.val / 256, by omega⟩ p ⟨c.val / 64 % 4, by omega⟩ ⟨c.val % 64, by omega⟩ := by blk_ext
  rw [e2, sum3_at _ _ _ _ _ _ hA]
  unfold Arrays.res Arrays.out
  exact congrArg (fun z => headOut _ _ _ _ _ _ _ _ _ _ * A.zs z) ez

end Cert.ReferenceIdeal.Read

end
-- ==== Proof.Finite.lean ====
/-
  What the precondition says of the arrays: every query and every key is a real number.
-/
module

public import proofs.«01_k».proof.Defs
public import proofs.«01_k».proof.Proof.Soft
public import Idealize.ShloMosaic.Lib.ReduceAll

@[expose] public section

noncomputable section

namespace Cert.Layer

open Idealize.ShloMosaic

/-- An extended real whose absolute value is below +∞ is a real number. -/
theorem real_of_abs (x : EReal) (h : Ideal.cmp .olt (max x (-x)) (Ideal.ofBits .f32 0x7F800000#32) = 1#1) : x ≠ ⊤ ∧ x ≠ ⊥ := by
  rw [Soft.pos_inf] at h
  induction x using EReal.rec with
  | bot => exact absurd h (by simp [Ideal.cmp])
  | top => exact absurd h (by simp [Ideal.cmp])
  | coe r => exact ⟨EReal.coe_ne_top r, EReal.coe_ne_bot r⟩

theorem and_one {a b : BitVec 1} (h : a &&& b = 1#1) : a = 1#1 ∧ b = 1#1 :=
  (by decide : ∀ a b : BitVec 1, a &&& b = 1#1 → a = 1#1 ∧ b = 1#1) a b h

section
variable [Cert.Pre_finite.Facts]
open Cert.Pre_finite Cert.Pre_finite.Facts

theorem finite_args (q : FVec Ideal S4x8x8192x64 .bf16) (ga : FVec Ideal S4x8192x128 .f32) (zs : FVec Ideal S4x8192x512 .f32) (kc : FVec Ideal S4x128x256 .bf16)
    (vc : FVec Ideal S4x256x128 .bf16) (ks : FVec Ideal S4x128x8192 .bf16) (vs : FVec Ideal S4x8192x128 .bf16) (kw : FVec Ideal S4x128x8192 .bf16)
    (vw : FVec Ideal S4x8192x128 .bf16) (h : fn (F := Ideal) q ga zs kc vc ks vs kw vw = fun _ => 1#1) :
    (∀ i, q i ≠ ⊤ ∧ q i ≠ ⊥) ∧ (∀ i, kc i ≠ ⊤ ∧ kc i ≠ ⊥) ∧ (∀ i, ks i ≠ ⊤ ∧ ks i ≠ ⊥) ∧ (∀ i, kw i ≠ ⊤ ∧ kw i ≠ ⊥) := by
  have h0 := congrFun h (fun a => a.elim0)
  dsimp only [fn, fn_part1] at h0
  obtain ⟨h1, hw⟩ := and_one h0
  obtain ⟨h2, hs⟩ := and_one h1
  obtain ⟨hq, hc⟩ := and_one h2
  haveI : Subsingleton S_.Idx := ⟨fun a b => funext fun x => x.elim0⟩
  exact ⟨fun i => real_of_abs _ (Host.reduce_andi_all _ _ _ _ _ hq i), fun i => real_of_abs _ (Host.reduce_andi_all _ _ _ _ _ hc i),
    fun i => real_of_abs _ (Host.reduce_andi_all _ _ _ _ _ hs i), fun i => real_of_abs _ (Host.reduce_andi_all _ _ _ _ _ hw i)⟩
end

end Cert.Layer

end
-- ==== Proof.Agree.lean ====
/-
  The two idealized programs end with equal results: each ends with the layer's formula of the arrays.
-/
module

public import proofs.«01_k».proof.Defs
public import proofs.«01_k».proof.Proof.Claims
public import proofs.«01_k».proof.Proof.Final
public import proofs.«01_k».proof.Proof.RFinal
public import proofs.«01_k».proof.Proof.Finite

@[expose] public section

set_option maxRecDepth 16384

noncomputable section

namespace Cert.KernelIdeal.Body

open Cert.KernelIdeal Cert.KernelIdeal.Gen Cert.Layer
open Idealize.ShloMosaic Idealize.SL.Sem

variable (m : (ℓ : Loc nD τ sig) → Buf (Elt Ideal) ℓ) (ρ : Dev nD → PrngReg)

/-- The kernel's run: its result array is the layer's result, its arguments are unchanged. -/
theorem run_value (hA : ∀ c, (arrays m c).Real) : θ_run defs (onTc (τ := τ) (main (F := Ideal))) ⟨m, fun _ => 0, ρ⟩ (fun r => ∀ c : Dev nD,
      r.2.mem ((c.tc : Thread nD τ).loc main_v5) = (fun y => (arrays m c).res (y 0) (y 1) (y 2) : Vec Ideal S4x8192x512 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  have h := θ_run_and (run_post m ρ) (frame_of m ρ (dats m) (A_eq m) (run_post m ρ))
  exact (θ_run defs _ _).mono (fun r h c => ⟨((h.1 c).1 10).trans (final m c (hA c)), h.2 c⟩) h

end Cert.KernelIdeal.Body

namespace Cert.Layer

open Idealize.ShloMosaic Idealize.ShloMosaic.Tactic

section
variable [Cert.Pre_finite.Facts]

theorem real_of_pre (m : (ℓ : Loc Cert.KernelIdeal.nD Cert.KernelIdeal.τ Cert.KernelIdeal.sig) → Buf (Elt Ideal) ℓ)
    (h : Cert.Pre_KernelIdeal_finite m) (c : Dev Cert.KernelIdeal.nD) : (Cert.KernelIdeal.Body.arrays m c).Real := by
  obtain ⟨hq, hc, hs, hw⟩ := finite_args _ _ _ _ _ _ _ _ _ (h c)
  exact ⟨hq, hc, hs, hw⟩

/-- The reference's result term at arguments equal to the kernel's. -/
theorem args_eq {x0 x1 x2 x3 x4 x5 x6 x7 x8} {A : Arrays}
    (h : x0 = A.q ∧ x1 = A.gate ∧ x2 = A.zs ∧ x3 = A.kc ∧ x4 = A.vc ∧ x5 = A.ks ∧ x6 = A.vs ∧ x7 = A.kw ∧ x8 = A.vw) :
    Cert.ReferenceIdeal.Read.val_main_v170 (F := Ideal) x0 x1 x2 x3 x4 x5 x6 x7 x8
      = Cert.ReferenceIdeal.Read.val_main_v170 (F := Ideal) A.q A.gate A.zs A.kc A.vc A.ks A.vs A.kw A.vw := by
  obtain ⟨rfl, rfl, rfl, rfl, rfl, rfl, rfl, rfl, rfl⟩ := h
  rfl

/-- The kernel and the reference agree where the queries and the keys are finite. -/
theorem agree : Cert.algebraic_KernelIdeal_ReferenceIdeal_pre_finite (hKernelIdeal := Cert.KernelIdeal.Gen.facts)
    (hReferenceIdeal := Cert.ReferenceIdeal.Gen.facts) := by
  intro m g m' g' hpre hagree
  refine ⟨fun c => (fun y => (Cert.KernelIdeal.Body.arrays m c).res (y 0) (y 1) (y 2) : Vec Ideal Cert.KernelIdeal.S4x8192x512 .bf16),
    Cert.KernelIdeal.Body.run_value m g (real_of_pre m hpre), θ_run_mono (Cert.ReferenceIdeal.Value.run m' g') ?_⟩
  intro r hr c
  refine ⟨(hr c).1.trans ((Cert.ReferenceIdeal.Read.val_main_v170_eq _).trans ?_), (hr c).2⟩
  have e := args_eq (A := Cert.KernelIdeal.Body.arrays m c) (hagree c)
  refine e.trans (funext fun y => ?_)
  idx_vars y
  exact Cert.ReferenceIdeal.Read.res_ref (Cert.KernelIdeal.Body.arrays m c) y0 y1 (real_of_pre m hpre c) y2
end

end Cert.Layer

end
-- ==== Proof.PQRun.lean ====
/-
  The body's runs at a grid point, on the staging buffers the pipeline passes there: at a batch's first tile and at a later one.
-/
module

public import proofs.«01_k».proof.Proof.Gen.Kernel2.Frame.RunB

@[expose] public section

set_option maxRecDepth 16384

noncomputable section

namespace Cert.Kernel2.Body

open Cert.Kernel2 Cert.Kernel2.Gen
open Idealize.ShloMosaic Idealize.ShloMosaic.TcCoe Idealize.ShloMosaic.Tactic

variable {F : FTy → Type} [FloatOps F]

/-- The run at a batch's first tile, -/
abbrev runA (c : Dev nD) (t : Fin cfg0.N) (h : cond0_0 (grid0.coords t))
    (x0 : Vec F S1x512x1024 .f32) (x1 : Vec F S1x1024 .f32) (x2 : Vec F S1024x3968 .bf16) (x3 : Vec F S512x128 .f32) (x4 : Vec F S512x128 .f32) (x5 : Vec F S1x512 .f32) (x6 : Vec F S3x128 .f32) (x7 : Vec F S512x512 .bf16) (x8 : Vec F S3x512 .f32) (x9 : Vec F S1x512 .f32) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole cc0_scratch0) h x0 x1 x2 x3 x4 x5 x6 x7 x8 x9

/-- and at a later one, the carry buffer holding `s`. -/
abbrev runB (c : Dev nD) (t : Fin cfg0.N) (h : ¬ cond0_0 (grid0.coords t))
    (x0 : Vec F S1x512x1024 .f32) (x1 : Vec F S1x1024 .f32) (x2 : Vec F S1024x3968 .bf16) (x3 : Vec F S512x128 .f32) (x4 : Vec F S512x128 .f32) (x5 : Vec F S1x512 .f32) (x6 : Vec F S3x128 .f32) (x7 : Vec F S512x512 .bf16) (x8 : Vec F S3x512 .f32) (x9 : Vec F S1x512 .f32) (s : Vec F S520x512 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole cc0_scratch0) h x0 x1 x2 x3 x4 x5 x6 x7 x8 x9 s

end Cert.Kernel2.Body

end
-- ==== Proof.PQLaunch.lean ====
/-
  The launch of the projection kernel as printed: what each grid point leaves in its blocks of the results is not
  named here, nor what the carry buffer holds.
-/
module

public import proofs.«01_k».proof.Proof.PQRun
public import Idealize.ShloMosaic.Lib.Claim

@[expose] public section

set_option maxRecDepth 16384

noncomputable section

namespace Cert.Kernel2.Body

open Cert.Kernel2 Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The logic's resources, as the generated frame kit takes them. -/
local notation "𝕄" => MT nD τ sig Unit (Elt F) ℕ (UR sig nD τ) ℕ

/-- A buffer stored into is owned at what reading it back gives, -/
theorem owns_writes (c : Dev nD) {s : Shape} {e : EltTy} (a : Memref sig .tc .vmem s e) (L : List (View.Piece (Elt F) s e)) (x : Vec F s e)
    (h : ∀ f, a.view.read (Elt F) (a.view.writes (Elt F) f L) = x) :
    (iprop(∃ f, a.view.loc (c : Thread nD τ) ↦[a.view.set]{fullShare} a.view.writes (Elt F) f L) : sProp 𝕄)
      ⊢ (owns (c : Thread nD τ) a fullShare x : sProp 𝕄) := by
  unfold owns
  iintro ⟨%f, H⟩
  iexists _
  isplitr
  swap; · iexact H
  ipureintro; exact h f

/-- at some contents in any case. -/
theorem owns_some (c : Dev nD) {s : Shape} {e : EltTy} (a : Memref sig .tc .vmem s e) (L : List (View.Piece (Elt F) s e)) :
    (iprop(∃ f, a.view.loc (c : Thread nD τ) ↦[a.view.set]{fullShare} a.view.writes (Elt F) f L) : sProp 𝕄)
      ⊢ (iprop(∃ d, owns (c : Thread nD τ) a fullShare d) : sProp 𝕄) := by
  unfold owns
  iintro ⟨%f, H⟩
  iexists _
  iexists _
  isplitr
  swap; · iexact H
  ipureintro; rfl

variable (m : (ℓ : Loc nD τ sig) → Buf (Elt F) ℓ) (ρ : Dev nD → PrngReg)

/-- The windows whose contents are not named. -/
def unnamed (w : Fin 22) : Bool := w.val == 10 || w.val == 11 || w.val == 12 || w.val == 13 || w.val == 14 || w.val == 15 || w.val == 16 || w.val == 17 || w.val == 18 || w.val == 19 || w.val == 20 || w.val == 21

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨19, h⟩ => Pipeline.Dat.unnamed (cfg := cfg0) ⟨19, h⟩ t
    | ⟨20, h⟩ => Pipeline.Dat.unnamed (cfg := cfg0) ⟨20, h⟩ t
    | ⟨21, h⟩ => Pipeline.Dat.unnamed (cfg := cfg0) ⟨21, h⟩ t
    | ⟨_ + 22, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare d)
    ∗ (∃ d, owns (c : Thread nD τ) (st0_11 t) fullShare d)
    ∗ (∃ d, owns (c : Thread nD τ) (st0_12 t) fullShare d)
    ∗ (∃ d, owns (c : Thread nD τ) (st0_13 t) fullShare d)
    ∗ (∃ d, owns (c : Thread nD τ) (st0_14 t) fullShare d)
    ∗ (∃ d, owns (c : Thread nD τ) (st0_15 t) fullShare d)
    ∗ (∃ d, owns (c : Thread nD τ) (st0_16 t) fullShare d)
    ∗ (∃ d, owns (c : Thread nD τ) (st0_17 t) fullShare d)
    ∗ (∃ d, owns (c : Thread nD τ) (st0_18 t) fullShare d)
    ∗ (∃ d, owns (c : Thread nD τ) (st0_19 t) fullShare d)
    ∗ (∃ d, owns (c : Thread nD τ) (st0_20 t) fullShare d)
    ∗ (∃ d, owns (c : Thread nD τ) (st0_21 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ (∃ d, owns (c : Thread nD τ) (st0_10 t) fullShare d)
    ∗ (∃ d, owns (c : Thread nD τ) (st0_11 t) fullShare d)
    ∗ (∃ d, owns (c : Thread nD τ) (st0_12 t) fullShare d)
    ∗ (∃ d, owns (c : Thread nD τ) (st0_13 t) fullShare d)
    ∗ (∃ d, owns (c : Thread nD τ) (st0_14 t) fullShare d)
    ∗ (∃ d, owns (c : Thread nD τ) (st0_15 t) fullShare d)
    ∗ (∃ d, owns (c : Thread nD τ) (st0_16 t) fullShare d)
    ∗ (∃ d, owns (c : Thread nD τ) (st0_17 t) fullShare d)
    ∗ (∃ d, owns (c : Thread nD τ) (st0_18 t) fullShare d)
    ∗ (∃ d, owns (c : Thread nD τ) (st0_19 t) fullShare d)
    ∗ (∃ d, owns (c : Thread nD τ) (st0_20 t) fullShare d)
    ∗ (∃ d, owns (c : Thread nD τ) (st0_21 t) fullShare d))

set_option maxHeartbeats 1600000 in
/-- The body at a batch's first tile. -/
theorem sound_A (c : Dev nD) (t : Fin cfg0.N) (h : cond0_0 (grid0.coords t)) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).owesAt () t.succ = (dats m 0 c).owesAt () t.castSucc from rfl,
    after0, after1, after2, after3, after4, after5, after6, after7, after8, after9,
    show (dats m 0 c).Φ t.castSucc = Pipeline.ΦA spec0 c from rfl, show (dats m 0 c).Φ t.succ = Pipeline.ΦA spec0 c from rfl, PhiA0_eq]
  iintro ⟨⟨⟨%s, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply (runA c t h (iblk m c 0 t) (iblk m c 1 t) (iblk m c 2 t) (iblk m c 3 t) (iblk m c 4 t) (iblk m c 5 t) (iblk m c 6 t) (iblk m c 7 t) (iblk m c 8 t) (iblk m c 9 t)).2.2.2.2.2.2.2.2.2.2.2.2.2 Set.univ
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [HS]; · iexists _; iexact HS
  iintro ⟨H0, H1, H2, H3, H4, H5, H6, H7, H8, H9, H10, H11, H12, H13, H14, H15, H16, H17, H18, H19, H20, H21, HS⟩
  isplitl [HS Hg]
  · isplitl [HS]
    · iapply owns_some c _ _
      iexact HS
    iexact Hg
  isplitl [Ho]; · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iapply owns_some c _ _
    iexact H10
  isplitl [H11]
  · iapply owns_some c _ _
    iexact H11
  isplitl [H12]
  · iapply owns_some c _ _
    iexact H12
  isplitl [H13]
  · iapply owns_some c _ _
    iexact H13
  isplitl [H14]
  · iapply owns_some c _ _
    iexact H14
  isplitl [H15]
  · iapply owns_some c _ _
    iexact H15
  isplitl [H16]
  · iapply owns_some c _ _
    iexact H16
  isplitl [H17]
  · iapply owns_some c _ _
    iexact H17
  isplitl [H18]
  · iapply owns_some c _ _
    iexact H18
  isplitl [H19]
  · iapply owns_some c _ _
    iexact H19
  isplitl [H20]
  · iapply owns_some c _ _
    iexact H20
  iapply owns_some c _ _
  iexact H21

set_option maxHeartbeats 1600000 in
/-- The body at a later tile. -/
theorem sound_B (c : Dev nD) (t : Fin cfg0.N) (h : ¬ cond0_0 (grid0.coords t)) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).owesAt () t.succ = (dats m 0 c).owesAt () t.castSucc from rfl,
    after0, after1, after2, after3, after4, after5, after6, after7, after8, after9,
    show (dats m 0 c).Φ t.castSucc = Pipeline.ΦA spec0 c from rfl, show (dats m 0 c).Φ t.succ = Pipeline.ΦA spec0 c from rfl, PhiA0_eq]
  iintro ⟨⟨⟨%s, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply (runB c t h (iblk m c 0 t) (iblk m c 1 t) (iblk m c 2 t) (iblk m c 3 t) (iblk m c 4 t) (iblk m c 5 t) (iblk m c 6 t) (iblk m c 7 t) (iblk m c 8 t) (iblk m c 9 t) s).2.2.2.2.2.2.2.2.2.2.2.2.2 Set.univ
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [HS]; · iexact HS
  iintro ⟨H0, H1, H2, H3, H4, H5, H6, H7, H8, H9, H10, H11, H12, H13, H14, H15, H16, H17, H18, H19, H20, H21, HS⟩
  isplitl [HS Hg]
  · isplitl [HS]
    · iapply owns_some c _ _
      iexact HS
    iexact Hg
  isplitl [Ho]; · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iapply owns_some c _ _
    iexact H10
  isplitl [H11]
  · iapply owns_some c _ _
    iexact H11
  isplitl [H12]
  · iapply owns_some c _ _
    iexact H12
  isplitl [H13]
  · iapply owns_some c _ _
    iexact H13
  isplitl [H14]
  · iapply owns_some c _ _
    iexact H14
  isplitl [H15]
  · iapply owns_some c _ _
    iexact H15
  isplitl [H16]
  · iapply owns_some c _ _
    iexact H16
  isplitl [H17]
  · iapply owns_some c _ _
    iexact H17
  isplitl [H18]
  · iapply owns_some c _ _
    iexact H18
  isplitl [H19]
  · iapply owns_some c _ _
    iexact H19
  isplitl [H20]
  · iapply owns_some c _ _
    iexact H20
  iapply owns_some c _ _
  iexact H21

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h : cond0_0 (grid0.coords t)
  · exact sound_A m c t h
  · exact sound_B m c t h

theorem defs₀_row (t : Fin cfg0.N) :
    defs₀ (F := F) .tc cfg0.body (cfg0.bodyArgs t (cfg0.slots t)) = bodyAt0 t := by
  unfold defs₀; rw [Defs.onTc_tc]

set_option maxHeartbeats 2000000 in
theorem body_obligation (c : Dev nD) : BodyObligation (dats (F := F) m 0 c) (defs₀ (F := F)) Variants.none () Set.univ unnamed := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = Pipeline.ΦA spec0 c from rfl]

-- the launch theorem's implicit arguments are found by unfolding plain definitions in a metavariable's type
set_option backward.isDefEq.respectTransparency.types false in
/-- THE RUN: every array of the pipeline ends at what the proof data say, every counter at zero. -/
theorem run_counters : θ_run defs (onTc (τ := τ) (main (F := F))) (s₀ m ρ) (fun r => (Pipeline.RDat.FramePost (cfgs 0) (fun c => (dats m 0 c).toRForget unnamed) (V m)) r ∧ r.2.sem = fun _ => 0) :=
  Pipeline.θ_run_frame_track_forget (Q' := _) cfgs (dats m) (0 : Fin 1) launch0 defs₀ Variants.none unnamed m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_post : θ_run defs (onTc (τ := τ) (main (F := F))) (s₀ m ρ) (Pipeline.RDat.FramePost (cfgs 0) (fun c => (dats m 0 c).toRForget unnamed) (V m)) :=
  (θ_run defs _ _).mono (fun _ h => h.1) (run_counters m ρ)

/-- An argument's array ends as the region found it. -/
theorem kept (c : Dev nD) (w : Fin cfg0.W) (hi : (cfg0.win w).isOut = false) {r : PUnit × MemSt nD τ sig (Elt F)}
    (h : Pipeline.RDat.FramePost (cfgs 0) (fun c => (dats m 0 c).toRForget unnamed) (V m) r) :
    r.2.mem ((cfg0.spec w).arr.view.loc (c.tc : Thread nD τ)) = V m c (Pipeline.arrRef spec0 w) :=
  (Pipeline.RDat.FramePost.arr_in h c w hi).trans (A_eq m c w)

/-- THE FRAME: the argument arrays end unchanged, every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and ((θ_run defs _ _).mono (fun _ h c => ⟨(kept m c 0 rfl h).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      (kept m c 8 rfl h).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) (run_post m ρ))
      ((θ_run defs _ _).mono (fun _ h => h.2) (run_counters m ρ))

end Cert.Kernel2.Body

end
-- ==== Proof.QRun.lean ====
/-
  The body's runs at a grid point, on the staging buffers the pipeline passes there: at a batch's first tile and at a later one.
-/
module

public import proofs.«01_k».proof.Proof.Gen.Kernel2Ideal.Frame.RunB

@[expose] public section

set_option maxRecDepth 16384

noncomputable section

namespace Cert.Kernel2Ideal.Body

open Cert.Kernel2Ideal Cert.Kernel2Ideal.Gen
open Idealize.ShloMosaic Idealize.ShloMosaic.TcCoe Idealize.ShloMosaic.Tactic

variable {F : FTy → Type} [FloatOps F]

/-- The run at a batch's first tile, -/
abbrev runA (c : Dev nD) (t : Fin cfg0.N) (h : cond0_0 (grid0.coords t))
    (x0 : Vec F S1x512x1024 .f32) (x1 : Vec F S1x1024 .f32) (x2 : Vec F S1024x3968 .bf16) (x3 : Vec F S512x128 .f32) (x4 : Vec F S512x128 .f32) (x5 : Vec F S1x512 .f32) (x6 : Vec F S3x128 .f32) (x7 : Vec F S512x512 .bf16) (x8 : Vec F S3x512 .f32) (x9 : Vec F S1x512 .f32) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole cc0_scratch0) h x0 x1 x2 x3 x4 x5 x6 x7 x8 x9

/-- and at a later one, the carry buffer holding `s`. -/
abbrev runB (c : Dev nD) (t : Fin cfg0.N) (h : ¬ cond0_0 (grid0.coords t))
    (x0 : Vec F S1x512x1024 .f32) (x1 : Vec F S1x1024 .f32) (x2 : Vec F S1024x3968 .bf16) (x3 : Vec F S512x128 .f32) (x4 : Vec F S512x128 .f32) (x5 : Vec F S1x512 .f32) (x6 : Vec F S3x128 .f32) (x7 : Vec F S512x512 .bf16) (x8 : Vec F S3x512 .f32) (x9 : Vec F S1x512 .f32) (s : Vec F S520x512 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole cc0_scratch0) h x0 x1 x2 x3 x4 x5 x6 x7 x8 x9 s

end Cert.Kernel2Ideal.Body

end
-- ==== Proof.QOut.lean ====
/-
  What the body leaves in each output's block, as a function of the blocks it reads: the same at a batch's first tile and at
  a later one for every output but the convolution's.
-/
module

public import proofs.«01_k».proof.Proof.QRun
public import Idealize.ShloMosaic.Lib.Pipeline.ValueKit
public import Idealize.ShloMosaic.Lib.WholeRead

@[expose] public section

set_option maxRecDepth 16384

noncomputable section

namespace Cert.Kernel2Ideal.Body

open Cert.Kernel2Ideal Cert.Kernel2Ideal.Gen
open Idealize.ShloMosaic Idealize.ShloMosaic.TcCoe Idealize.ShloMosaic.Tactic

variable {F : FTy → Type} [FloatOps F]

/-- The normed rows, -/
abbrev hRow (x0 : Vec F S1x512x1024 .f32) (x1 : Vec F S1x1024 .f32) := k0_pay6 (View.ld x0 (Rect.unit ![0, 0, 0] ![1, 512, 1024] inb_S1x512x1024_S1x512x1024_0_0_0)) (View.ld x1 (Rect.unit ![0, 0] ![1, 1024] inb_S1x1024_S1x1024_0_0))
/-- the columns of the weights: the convolution's, -/
abbrev wCv (x2 : Vec F S1024x3968 .bf16) := View.ld x2 (Rect.unit ![0, 0] ![1024, 2048] inb_S1024x3968_S1024x2048_0_0)
/-- the queries', -/
abbrev wQ (x2 : Vec F S1024x3968 .bf16) := View.ld x2 (Rect.unit ![0, 2048] ![1024, 512] inb_S1024x3968_S1024x512_0_2048)
/-- the keys' and values', -/
abbrev wKv (x2 : Vec F S1024x3968 .bf16) := View.ld x2 (Rect.unit ![0, 2560] ![1024, 768] inb_S1024x3968_S1024x768_0_2560)
/-- the gates' and z_attn's. -/
abbrev wGz (x2 : Vec F S1024x3968 .bf16) := View.ld x2 (Rect.unit ![0, 3328] ![1024, 640] inb_S1024x3968_S1024x640_0_3328)
/-- The cosines, -/
abbrev cosB (x3 : Vec F S512x128 .f32) := k0_pay4 (View.ld x3 (Rect.unit ![0, 0] ![512, 128] inb_S512x128_S512x128_0_0))
/-- the signed sines, -/
abbrev sinB (x4 : Vec F S512x128 .f32) := k0_pay5 (View.ld x4 (Rect.unit ![0, 0] ![512, 128] inb_S512x128_S512x128_0_0))
/-- the block of ones a pair of heads sums its squares with. -/
abbrev onB (x7 : Vec F S512x512 .bf16) := View.ld x7 (Rect.unit ![0, 0] ![128, 128] inb_S512x512_S128x128_0_0)
/-- The keys' and values' products, -/
abbrev kvR (x0 : Vec F S1x512x1024 .f32) (x1 : Vec F S1x1024 .f32) (x2 : Vec F S1024x3968 .bf16) := k0_pay23 (hRow x0 x1) (wKv x2)
/-- the selected keys, -/
abbrev kB1 (x0 : Vec F S1x512x1024 .f32) (x1 : Vec F S1x1024 .f32) (x2 : Vec F S1024x3968 .bf16) (x3 : Vec F S512x128 .f32) (x4 : Vec F S512x128 .f32) (x6 : Vec F S3x128 .f32) (x7 : Vec F S512x512 .bf16) :=
  k0_pay28 (cosB x3) (sinB x4) (kvR x0 x1 x2) (onB x7) (View.ld x6 (Rect.unit ![1, 0] ![1, 128] inb_S3x128_S1x128_1_0))
/-- the window keys. -/
abbrev kB2 (x0 : Vec F S1x512x1024 .f32) (x1 : Vec F S1x1024 .f32) (x2 : Vec F S1024x3968 .bf16) (x3 : Vec F S512x128 .f32) (x4 : Vec F S512x128 .f32) (x6 : Vec F S3x128 .f32) (x7 : Vec F S512x512 .bf16) :=
  k0_pay31 (cosB x3) (sinB x4) (k0_pay29 (kvR x0 x1 x2)) (onB x7) (View.ld x6 (Rect.unit ![2, 0] ![1, 128] inb_S3x128_S1x128_2_0))
/-- The queries' products, -/
abbrev qP (x0 : Vec F S1x512x1024 .f32) (x1 : Vec F S1x1024 .f32) (x2 : Vec F S1024x3968 .bf16) := k0_pay11 (View.ld x0 (Rect.unit ![0, 0, 0] ![1, 512, 1024] inb_S1x512x1024_S1x512x1024_0_0_0)) (View.ld x1 (Rect.unit ![0, 0] ![1, 1024] inb_S1x1024_S1x1024_0_0)) (wQ x2)
/-- the ones they are summed with, -/
abbrev qO (x7 : Vec F S512x512 .bf16) := k0_pay12 (View.ld x7 (Rect.unit ![0, 0] ![512, 512] inb_S512x512_S512x512_0_0))
/-- their squares rounded, -/
abbrev qS (x0 : Vec F S1x512x1024 .f32) (x1 : Vec F S1x1024 .f32) (x2 : Vec F S1024x3968 .bf16) := k0_pay14 (View.ld x0 (Rect.unit ![0, 0, 0] ![1, 512, 1024] inb_S1x512x1024_S1x512x1024_0_0_0)) (View.ld x1 (Rect.unit ![0, 0] ![1, 1024] inb_S1x1024_S1x1024_0_0)) (wQ x2)
/-- what the rounding left out, -/
abbrev qD (x0 : Vec F S1x512x1024 .f32) (x1 : Vec F S1x1024 .f32) (x2 : Vec F S1024x3968 .bf16) := k0_pay15 (View.ld x0 (Rect.unit ![0, 0, 0] ![1, 512, 1024] inb_S1x512x1024_S1x512x1024_0_0_0)) (View.ld x1 (Rect.unit ![0, 0] ![1, 1024] inb_S1x1024_S1x1024_0_0)) (wQ x2)
/-- and the queries' gain. -/
abbrev qG (x5 : Vec F S1x512 .f32) := View.ld x5 (Rect.unit ![0, 0] ![1, 512] inb_S1x512_S1x512_0_0)
/-- The queries normed, -/
abbrev qN (x0 : Vec F S1x512x1024 .f32) (x1 : Vec F S1x1024 .f32) (x2 : Vec F S1024x3968 .bf16) (x5 : Vec F S1x512 .f32) (x7 : Vec F S512x512 .bf16) := k0_pay16 (qP x0 x1 x2) (qO x7) (qS x0 x1 x2) (qD x0 x1 x2) (qG x5)
/-- and their third slab. -/
abbrev qN2 (x0 : Vec F S1x512x1024 .f32) (x1 : Vec F S1x1024 .f32) (x2 : Vec F S1024x3968 .bf16) (x5 : Vec F S1x512 .f32) (x7 : Vec F S512x512 .bf16) := k0_pay19 (qP x0 x1 x2) (qO x7) (qS x0 x1 x2) (qD x0 x1 x2) (qG x5)

/-- The stores of z_attn through its gate, last first, -/
def pcs11 (x0 : Vec F S1x512x1024 .f32) (x1 : Vec F S1x1024 .f32) (x2 : Vec F S1024x3968 .bf16) (x3 : Vec F S512x128 .f32) (x4 : Vec F S512x128 .f32) (x5 : Vec F S1x512 .f32) (x6 : Vec F S3x128 .f32) (x7 : Vec F S512x512 .bf16) (x8 : Vec F S3x512 .f32) (x9 : Vec F S1x512 .f32) : List (View.Piece (Elt F) S1x512x512 .f32) :=
   [⟨Rect.unit ![0, 0, 0] ![1, 512, 512] inb_S1x512x512_S1x512x512_0_0_0, k0_pay43 (k0_pay35 (k0_pay34 (hRow x0 x1) (wGz x2)))⟩]
/-- and what they leave. -/
def out11 (x0 : Vec F S1x512x1024 .f32) (x1 : Vec F S1x1024 .f32) (x2 : Vec F S1024x3968 .bf16) (x3 : Vec F S512x128 .f32) (x4 : Vec F S512x128 .f32) (x5 : Vec F S1x512 .f32) (x6 : Vec F S3x128 .f32) (x7 : Vec F S512x512 .bf16) (x8 : Vec F S3x512 .f32) (x9 : Vec F S1x512 .f32) : Vec F S1x512x512 .f32 := View.canon (pcs11 x0 x1 x2 x3 x4 x5 x6 x7 x8 x9)

/-- The stores of the queries, head by head, last first, -/
def pcs12 (x0 : Vec F S1x512x1024 .f32) (x1 : Vec F S1x1024 .f32) (x2 : Vec F S1024x3968 .bf16) (x3 : Vec F S512x128 .f32) (x4 : Vec F S512x128 .f32) (x5 : Vec F S1x512 .f32) (x6 : Vec F S3x128 .f32) (x7 : Vec F S512x512 .bf16) (x8 : Vec F S3x512 .f32) (x9 : Vec F S1x512 .f32) : List (View.Piece (Elt F) S1x8x512x64 .bf16) :=
   [⟨Rect.unit ![0, 7, 0, 0] ![1, 1, 512, 64] inb_S1x8x512x64_S1x1x512x64_0_7_0_0, k0_pay54 (k0_pay53 (k0_pay22 (cosB x3) (sinB x4) (qN x0 x1 x2 x5 x7)))⟩,
    ⟨Rect.unit ![0, 6, 0, 0] ![1, 1, 512, 64] inb_S1x8x512x64_S1x1x512x64_0_6_0_0, k0_pay52 (k0_pay22 (cosB x3) (sinB x4) (qN x0 x1 x2 x5 x7))⟩,
    ⟨Rect.unit ![0, 5, 0, 0] ![1, 1, 512, 64] inb_S1x8x512x64_S1x1x512x64_0_5_0_0, k0_pay51 (k0_pay21 (cosB x3) (sinB x4) (qN2 x0 x1 x2 x5 x7) k0_pay20)⟩,
    ⟨Rect.unit ![0, 4, 0, 0] ![1, 1, 512, 64] inb_S1x8x512x64_S1x1x512x64_0_4_0_0, k0_pay50 (k0_pay21 (cosB x3) (sinB x4) (qN2 x0 x1 x2 x5 x7) k0_pay20)⟩,
    ⟨Rect.unit ![0, 3, 0, 0] ![1, 1, 512, 64] inb_S1x8x512x64_S1x1x512x64_0_3_0_0, k0_pay49 (k0_pay18 (cosB x3) (sinB x4) (qP x0 x1 x2) (qO x7) (qS x0 x1 x2) (qD x0 x1 x2) (qG x5))⟩,
    ⟨Rect.unit ![0, 2, 0, 0] ![1, 1, 512, 64] inb_S1x8x512x64_S1x1x512x64_0_2_0_0, k0_pay48 (k0_pay18 (cosB x3) (sinB x4) (qP x0 x1 x2) (qO x7) (qS x0 x1 x2) (qD x0 x1 x2) (qG x5))⟩,
    ⟨Rect.unit ![0, 1, 0, 0] ![1, 1, 512, 64] inb_S1x8x512x64_S1x1x512x64_0_1_0_0, k0_pay47 (k0_pay46 (k0_pay17 (cosB x3) (sinB x4) (qP x0 x1 x2) (qO x7) (qS x0 x1 x2) (qD x0 x1 x2) (qG x5)))⟩,
    ⟨Rect.unit ![0, 0, 0, 0] ![1, 1, 512, 64] inb_S1x8x512x64_S1x1x512x64_0_0_0_0, k0_pay45 (k0_pay17 (cosB x3) (sinB x4) (qP x0 x1 x2) (qO x7) (qS x0 x1 x2) (qD x0 x1 x2) (qG x5))⟩]
/-- and what they leave. -/
def out12 (x0 : Vec F S1x512x1024 .f32) (x1 : Vec F S1x1024 .f32) (x2 : Vec F S1024x3968 .bf16) (x3 : Vec F S512x128 .f32) (x4 : Vec F S512x128 .f32) (x5 : Vec F S1x512 .f32) (x6 : Vec F S3x128 .f32) (x7 : Vec F S512x512 .bf16) (x8 : Vec F S3x512 .f32) (x9 : Vec F S1x512 .f32) : Vec F S1x8x512x64 .bf16 := View.canon (pcs12 x0 x1 x2 x3 x4 x5 x6 x7 x8 x9)

/-- The stores of the branch gates, last first, -/
def pcs13 (x0 : Vec F S1x512x1024 .f32) (x1 : Vec F S1x1024 .f32) (x2 : Vec F S1024x3968 .bf16) (x3 : Vec F S512x128 .f32) (x4 : Vec F S512x128 .f32) (x5 : Vec F S1x512 .f32) (x6 : Vec F S3x128 .f32) (x7 : Vec F S512x512 .bf16) (x8 : Vec F S3x512 .f32) (x9 : Vec F S1x512 .f32) : List (View.Piece (Elt F) S1x512x128 .f32) :=
   [⟨Rect.unit ![0, 0, 0] ![1, 512, 128] inb_S1x512x128_S1x512x128_0_0_0, k0_pay44 (k0_pay33 (hRow x0 x1) (wGz x2))⟩]
/-- and what they leave. -/
def out13 (x0 : Vec F S1x512x1024 .f32) (x1 : Vec F S1x1024 .f32) (x2 : Vec F S1024x3968 .bf16) (x3 : Vec F S512x128 .f32) (x4 : Vec F S512x128 .f32) (x5 : Vec F S1x512 .f32) (x6 : Vec F S3x128 .f32) (x7 : Vec F S512x512 .bf16) (x8 : Vec F S3x512 .f32) (x9 : Vec F S1x512 .f32) : Vec F S1x512x128 .f32 := View.canon (pcs13 x0 x1 x2 x3 x4 x5 x6 x7 x8 x9)

/-- The stores of the compressed branch's rows, last first, -/
def pcs14 (x0 : Vec F S1x512x1024 .f32) (x1 : Vec F S1x1024 .f32) (x2 : Vec F S1024x3968 .bf16) (x3 : Vec F S512x128 .f32) (x4 : Vec F S512x128 .f32) (x5 : Vec F S1x512 .f32) (x6 : Vec F S3x128 .f32) (x7 : Vec F S512x512 .bf16) (x8 : Vec F S3x512 .f32) (x9 : Vec F S1x512 .f32) : List (View.Piece (Elt F) S1x512x256 .f32) :=
   [⟨Rect.unit ![0, 0, 128] ![1, 512, 128] inb_S1x512x256_S1x512x128_0_0_128, k0_pay56 (k0_pay24 (hRow x0 x1) (wKv x2))⟩,
    ⟨Rect.unit ![0, 0, 0] ![1, 512, 128] inb_S1x512x256_S1x512x128_0_0_0, k0_pay55 (k0_pay26 (cosB x3) (sinB x4) (k0_pay25 (hRow x0 x1) (wKv x2) (onB x7) (View.ld x6 (Rect.unit ![0, 0] ![1, 128] inb_S3x128_S1x128_0_0))) (iota Kind.tc S512x128 32 [1] iota_S512x128_d1_w32))⟩]
/-- and what they leave. -/
def out14 (x0 : Vec F S1x512x1024 .f32) (x1 : Vec F S1x1024 .f32) (x2 : Vec F S1024x3968 .bf16) (x3 : Vec F S512x128 .f32) (x4 : Vec F S512x128 .f32) (x5 : Vec F S1x512 .f32) (x6 : Vec F S3x128 .f32) (x7 : Vec F S512x512 .bf16) (x8 : Vec F S3x512 .f32) (x9 : Vec F S1x512 .f32) : Vec F S1x512x256 .f32 := View.canon (pcs14 x0 x1 x2 x3 x4 x5 x6 x7 x8 x9)

/-- The stores of the selected branch's rows, last first, -/
def pcs15 (x0 : Vec F S1x512x1024 .f32) (x1 : Vec F S1x1024 .f32) (x2 : Vec F S1024x3968 .bf16) (x3 : Vec F S512x128 .f32) (x4 : Vec F S512x128 .f32) (x5 : Vec F S1x512 .f32) (x6 : Vec F S3x128 .f32) (x7 : Vec F S512x512 .bf16) (x8 : Vec F S3x512 .f32) (x9 : Vec F S1x512 .f32) : List (View.Piece (Elt F) S1x512x256 .f32) :=
   [⟨Rect.unit ![0, 0, 128] ![1, 512, 128] inb_S1x512x256_S1x512x128_0_0_128, k0_pay58 (k0_pay27 (kvR x0 x1 x2))⟩,
    ⟨Rect.unit ![0, 0, 0] ![1, 512, 128] inb_S1x512x256_S1x512x128_0_0_0, k0_pay57 (kB1 x0 x1 x2 x3 x4 x6 x7)⟩]
/-- and what they leave. -/
def out15 (x0 : Vec F S1x512x1024 .f32) (x1 : Vec F S1x1024 .f32) (x2 : Vec F S1024x3968 .bf16) (x3 : Vec F S512x128 .f32) (x4 : Vec F S512x128 .f32) (x5 : Vec F S1x512 .f32) (x6 : Vec F S3x128 .f32) (x7 : Vec F S512x512 .bf16) (x8 : Vec F S3x512 .f32) (x9 : Vec F S1x512 .f32) : Vec F S1x512x256 .f32 := View.canon (pcs15 x0 x1 x2 x3 x4 x5 x6 x7 x8 x9)

/-- The stores of the window branch's rows, last first, -/
def pcs16 (x0 : Vec F S1x512x1024 .f32) (x1 : Vec F S1x1024 .f32) (x2 : Vec F S1024x3968 .bf16) (x3 : Vec F S512x128 .f32) (x4 : Vec F S512x128 .f32) (x5 : Vec F S1x512 .f32) (x6 : Vec F S3x128 .f32) (x7 : Vec F S512x512 .bf16) (x8 : Vec F S3x512 .f32) (x9 : Vec F S1x512 .f32) : List (View.Piece (Elt F) S1x512x256 .f32) :=
   [⟨Rect.unit ![0, 0, 128] ![1, 512, 128] inb_S1x512x256_S1x512x128_0_0_128, k0_pay60 (k0_pay30 (kvR x0 x1 x2))⟩,
    ⟨Rect.unit ![0, 0, 0] ![1, 512, 128] inb_S1x512x256_S1x512x128_0_0_0, k0_pay59 (kB2 x0 x1 x2 x3 x4 x6 x7)⟩]
/-- and what they leave. -/
def out16 (x0 : Vec F S1x512x1024 .f32) (x1 : Vec F S1x1024 .f32) (x2 : Vec F S1024x3968 .bf16) (x3 : Vec F S512x128 .f32) (x4 : Vec F S512x128 .f32) (x5 : Vec F S1x512 .f32) (x6 : Vec F S3x128 .f32) (x7 : Vec F S512x512 .bf16) (x8 : Vec F S3x512 .f32) (x9 : Vec F S1x512 .f32) : Vec F S1x512x256 .f32 := View.canon (pcs16 x0 x1 x2 x3 x4 x5 x6 x7 x8 x9)

/-- The stores of the selected keys, transposed, last first, -/
def pcs17 (x0 : Vec F S1x512x1024 .f32) (x1 : Vec F S1x1024 .f32) (x2 : Vec F S1024x3968 .bf16) (x3 : Vec F S512x128 .f32) (x4 : Vec F S512x128 .f32) (x5 : Vec F S1x512 .f32) (x6 : Vec F S3x128 .f32) (x7 : Vec F S512x512 .bf16) (x8 : Vec F S3x512 .f32) (x9 : Vec F S1x512 .f32) : List (View.Piece (Elt F) S1x128x512 .bf16) :=
   [⟨Rect.unit ![0, 0, 0] ![1, 128, 512] inb_S1x128x512_S1x128x512_0_0_0, k0_pay61 (kB1 x0 x1 x2 x3 x4 x6 x7)⟩]
/-- and what they leave. -/
def out17 (x0 : Vec F S1x512x1024 .f32) (x1 : Vec F S1x1024 .f32) (x2 : Vec F S1024x3968 .bf16) (x3 : Vec F S512x128 .f32) (x4 : Vec F S512x128 .f32) (x5 : Vec F S1x512 .f32) (x6 : Vec F S3x128 .f32) (x7 : Vec F S512x512 .bf16) (x8 : Vec F S3x512 .f32) (x9 : Vec F S1x512 .f32) : Vec F S1x128x512 .bf16 := View.canon (pcs17 x0 x1 x2 x3 x4 x5 x6 x7 x8 x9)

/-- The stores of the window keys, transposed, last first, -/
def pcs18 (x0 : Vec F S1x512x1024 .f32) (x1 : Vec F S1x1024 .f32) (x2 : Vec F S1024x3968 .bf16) (x3 : Vec F S512x128 .f32) (x4 : Vec F S512x128 .f32) (x5 : Vec F S1x512 .f32) (x6 : Vec F S3x128 .f32) (x7 : Vec F S512x512 .bf16) (x8 : Vec F S3x512 .f32) (x9 : Vec F S1x512 .f32) : List (View.Piece (Elt F) S1x128x512 .bf16) :=
   [⟨Rect.unit ![0, 0, 0] ![1, 128, 512] inb_S1x128x512_S1x128x512_0_0_0, k0_pay2 (kB2 x0 x1 x2 x3 x4 x6 x7)⟩]
/-- and what they leave. -/
def out18 (x0 : Vec F S1x512x1024 .f32) (x1 : Vec F S1x1024 .f32) (x2 : Vec F S1024x3968 .bf16) (x3 : Vec F S512x128 .f32) (x4 : Vec F S512x128 .f32) (x5 : Vec F S1x512 .f32) (x6 : Vec F S3x128 .f32) (x7 : Vec F S512x512 .bf16) (x8 : Vec F S3x512 .f32) (x9 : Vec F S1x512 .f32) : Vec F S1x128x512 .bf16 := View.canon (pcs18 x0 x1 x2 x3 x4 x5 x6 x7 x8 x9)

/-- The stores of the selected values, last first, -/
def pcs19 (x0 : Vec F S1x512x1024 .f32) (x1 : Vec F S1x1024 .f32) (x2 : Vec F S1024x3968 .bf16) (x3 : Vec F S512x128 .f32) (x4 : Vec F S512x128 .f32) (x5 : Vec F S1x512 .f32) (x6 : Vec F S3x128 .f32) (x7 : Vec F S512x512 .bf16) (x8 : Vec F S3x512 .f32) (x9 : Vec F S1x512 .f32) : List (View.Piece (Elt F) S1x512x128 .bf16) :=
   [⟨Rect.unit ![0, 0, 0] ![1, 512, 128] inb_S1x512x128_S1x512x128_0_0_0, k0_pay1 (k0_pay62 (k0_pay27 (kvR x0 x1 x2)))⟩]
/-- and what they leave. -/
def out19 (x0 : Vec F S1x512x1024 .f32) (x1 : Vec F S1x1024 .f32) (x2 : Vec F S1024x3968 .bf16) (x3 : Vec F S512x128 .f32) (x4 : Vec F S512x128 .f32) (x5 : Vec F S1x512 .f32) (x6 : Vec F S3x128 .f32) (x7 : Vec F S512x512 .bf16) (x8 : Vec F S3x512 .f32) (x9 : Vec F S1x512 .f32) : Vec F S1x512x128 .bf16 := View.canon (pcs19 x0 x1 x2 x3 x4 x5 x6 x7 x8 x9)

/-- The stores of the window values, last first, -/
def pcs20 (x0 : Vec F S1x512x1024 .f32) (x1 : Vec F S1x1024 .f32) (x2 : Vec F S1024x3968 .bf16) (x3 : Vec F S512x128 .f32) (x4 : Vec F S512x128 .f32) (x5 : Vec F S1x512 .f32) (x6 : Vec F S3x128 .f32) (x7 : Vec F S512x512 .bf16) (x8 : Vec F S3x512 .f32) (x9 : Vec F S1x512 .f32) : List (View.Piece (Elt F) S1x512x128 .bf16) :=
   [⟨Rect.unit ![0, 0, 0] ![1, 512, 128] inb_S1x512x128_S1x512x128_0_0_0, k0_pay3 (k0_pay30 (kvR x0 x1 x2))⟩]
/-- and what they leave. -/
def out20 (x0 : Vec F S1x512x1024 .f32) (x1 : Vec F S1x1024 .f32) (x2 : Vec F S1024x3968 .bf16) (x3 : Vec F S512x128 .f32) (x4 : Vec F S512x128 .f32) (x5 : Vec F S1x512 .f32) (x6 : Vec F S3x128 .f32) (x7 : Vec F S512x512 .bf16) (x8 : Vec F S3x512 .f32) (x9 : Vec F S1x512 .f32) : Vec F S1x512x128 .bf16 := View.canon (pcs20 x0 x1 x2 x3 x4 x5 x6 x7 x8 x9)

/-- The stores of the last rows of u, last first, -/
def pcs21 (x0 : Vec F S1x512x1024 .f32) (x1 : Vec F S1x1024 .f32) (x2 : Vec F S1024x3968 .bf16) (x3 : Vec F S512x128 .f32) (x4 : Vec F S512x128 .f32) (x5 : Vec F S1x512 .f32) (x6 : Vec F S3x128 .f32) (x7 : Vec F S512x512 .bf16) (x8 : Vec F S3x512 .f32) (x9 : Vec F S1x512 .f32) : List (View.Piece (Elt F) S1x8x512 .f32) :=
   [⟨Rect.unit ![0, 0, 0] ![1, 8, 512] inb_S1x8x512_S1x8x512_0_0_0, k0_pay42 (k0_pay9 (View.ld x0 (Rect.unit ![0, 0, 0] ![1, 512, 1024] inb_S1x512x1024_S1x512x1024_0_0_0)) (View.ld x1 (Rect.unit ![0, 0] ![1, 1024] inb_S1x1024_S1x1024_0_0)) (wCv x2))⟩]
/-- and what they leave. -/
def out21 (x0 : Vec F S1x512x1024 .f32) (x1 : Vec F S1x1024 .f32) (x2 : Vec F S1024x3968 .bf16) (x3 : Vec F S512x128 .f32) (x4 : Vec F S512x128 .f32) (x5 : Vec F S1x512 .f32) (x6 : Vec F S3x128 .f32) (x7 : Vec F S512x512 .bf16) (x8 : Vec F S3x512 .f32) (x9 : Vec F S1x512 .f32) : Vec F S1x8x512 .f32 := View.canon (pcs21 x0 x1 x2 x3 x4 x5 x6 x7 x8 x9)

variable (x0 : Vec F S1x512x1024 .f32) (x1 : Vec F S1x1024 .f32) (x2 : Vec F S1024x3968 .bf16) (x3 : Vec F S512x128 .f32) (x4 : Vec F S512x128 .f32) (x5 : Vec F S1x512 .f32) (x6 : Vec F S3x128 .f32) (x7 : Vec F S512x512 .bf16) (x8 : Vec F S3x512 .f32) (x9 : Vec F S1x512 .f32)

theorem runA_11 (c : Dev nD) (t : Fin cfg0.N) (h : cond0_0 (grid0.coords t)) :
    (runA c t h x0 x1 x2 x3 x4 x5 x6 x7 x8 x9).2.1 = pcs11 x0 x1 x2 x3 x4 x5 x6 x7 x8 x9 := by
  unfold runA kernelRun0_A pcs11
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]

theorem runA_12 (c : Dev nD) (t : Fin cfg0.N) (h : cond0_0 (grid0.coords t)) :
    (runA c t h x0 x1 x2 x3 x4 x5 x6 x7 x8 x9).2.2.1 = pcs12 x0 x1 x2 x3 x4 x5 x6 x7 x8 x9 := by
  unfold runA kernelRun0_A pcs12
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]

theorem runA_13 (c : Dev nD) (t : Fin cfg0.N) (h : cond0_0 (grid0.coords t)) :
    (runA c t h x0 x1 x2 x3 x4 x5 x6 x7 x8 x9).2.2.2.1 = pcs13 x0 x1 x2 x3 x4 x5 x6 x7 x8 x9 := by
  unfold runA kernelRun0_A pcs13
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]

theorem runA_14 (c : Dev nD) (t : Fin cfg0.N) (h : cond0_0 (grid0.coords t)) :
    (runA c t h x0 x1 x2 x3 x4 x5 x6 x7 x8 x9).2.2.2.2.1 = pcs14 x0 x1 x2 x3 x4 x5 x6 x7 x8 x9 := by
  unfold runA kernelRun0_A pcs14
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]

theorem runA_15 (c : Dev nD) (t : Fin cfg0.N) (h : cond0_0 (grid0.coords t)) :
    (runA c t h x0 x1 x2 x3 x4 x5 x6 x7 x8 x9).2.2.2.2.2.1 = pcs15 x0 x1 x2 x3 x4 x5 x6 x7 x8 x9 := by
  unfold runA kernelRun0_A pcs15
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]

theorem runA_16 (c : Dev nD) (t : Fin cfg0.N) (h : cond0_0 (grid0.coords t)) :
    (runA c t h x0 x1 x2 x3 x4 x5 x6 x7 x8 x9).2.2.2.2.2.2.1 = pcs16 x0 x1 x2 x3 x4 x5 x6 x7 x8 x9 := by
  unfold runA kernelRun0_A pcs16
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]

theorem runA_17 (c : Dev nD) (t : Fin cfg0.N) (h : cond0_0 (grid0.coords t)) :
    (runA c t h x0 x1 x2 x3 x4 x5 x6 x7 x8 x9).2.2.2.2.2.2.2.1 = pcs17 x0 x1 x2 x3 x4 x5 x6 x7 x8 x9 := by
  unfold runA kernelRun0_A pcs17
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]

theorem runA_18 (c : Dev nD) (t : Fin cfg0.N) (h : cond0_0 (grid0.coords t)) :
    (runA c t h x0 x1 x2 x3 x4 x5 x6 x7 x8 x9).2.2.2.2.2.2.2.2.1 = pcs18 x0 x1 x2 x3 x4 x5 x6 x7 x8 x9 := by
  unfold runA kernelRun0_A pcs18
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]

theorem runA_19 (c : Dev nD) (t : Fin cfg0.N) (h : cond0_0 (grid0.coords t)) :
    (runA c t h x0 x1 x2 x3 x4 x5 x6 x7 x8 x9).2.2.2.2.2.2.2.2.2.1 = pcs19 x0 x1 x2 x3 x4 x5 x6 x7 x8 x9 := by
  unfold runA kernelRun0_A pcs19
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]

theorem runA_20 (c : Dev nD) (t : Fin cfg0.N) (h : cond0_0 (grid0.coords t)) :
    (runA c t h x0 x1 x2 x3 x4 x5 x6 x7 x8 x9).2.2.2.2.2.2.2.2.2.2.1 = pcs20 x0 x1 x2 x3 x4 x5 x6 x7 x8 x9 := by
  unfold runA kernelRun0_A pcs20
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]

theorem runA_21 (c : Dev nD) (t : Fin cfg0.N) (h : cond0_0 (grid0.coords t)) :
    (runA c t h x0 x1 x2 x3 x4 x5 x6 x7 x8 x9).2.2.2.2.2.2.2.2.2.2.2.1 = pcs21 x0 x1 x2 x3 x4 x5 x6 x7 x8 x9 := by
  unfold runA kernelRun0_A pcs21
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]

theorem runB_11 (c : Dev nD) (t : Fin cfg0.N) (h : ¬ cond0_0 (grid0.coords t)) (s : Vec F S520x512 .f32) :
    (runB c t h x0 x1 x2 x3 x4 x5 x6 x7 x8 x9 s).2.1 = pcs11 x0 x1 x2 x3 x4 x5 x6 x7 x8 x9 := by
  unfold runB kernelRun0_B pcs11
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]

theorem runB_12 (c : Dev nD) (t : Fin cfg0.N) (h : ¬ cond0_0 (grid0.coords t)) (s : Vec F S520x512 .f32) :
    (runB c t h x0 x1 x2 x3 x4 x5 x6 x7 x8 x9 s).2.2.1 = pcs12 x0 x1 x2 x3 x4 x5 x6 x7 x8 x9 := by
  unfold runB kernelRun0_B pcs12
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]

theorem runB_13 (c : Dev nD) (t : Fin cfg0.N) (h : ¬ cond0_0 (grid0.coords t)) (s : Vec F S520x512 .f32) :
    (runB c t h x0 x1 x2 x3 x4 x5 x6 x7 x8 x9 s).2.2.2.1 = pcs13 x0 x1 x2 x3 x4 x5 x6 x7 x8 x9 := by
  unfold runB kernelRun0_B pcs13
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]

theorem runB_14 (c : Dev nD) (t : Fin cfg0.N) (h : ¬ cond0_0 (grid0.coords t)) (s : Vec F S520x512 .f32) :
    (runB c t h x0 x1 x2 x3 x4 x5 x6 x7 x8 x9 s).2.2.2.2.1 = pcs14 x0 x1 x2 x3 x4 x5 x6 x7 x8 x9 := by
  unfold runB kernelRun0_B pcs14
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]

theorem runB_15 (c : Dev nD) (t : Fin cfg0.N) (h : ¬ cond0_0 (grid0.coords t)) (s : Vec F S520x512 .f32) :
    (runB c t h x0 x1 x2 x3 x4 x5 x6 x7 x8 x9 s).2.2.2.2.2.1 = pcs15 x0 x1 x2 x3 x4 x5 x6 x7 x8 x9 := by
  unfold runB kernelRun0_B pcs15
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]

theorem runB_16 (c : Dev nD) (t : Fin cfg0.N) (h : ¬ cond0_0 (grid0.coords t)) (s : Vec F S520x512 .f32) :
    (runB c t h x0 x1 x2 x3 x4 x5 x6 x7 x8 x9 s).2.2.2.2.2.2.1 = pcs16 x0 x1 x2 x3 x4 x5 x6 x7 x8 x9 := by
  unfold runB kernelRun0_B pcs16
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]

theorem runB_17 (c : Dev nD) (t : Fin cfg0.N) (h : ¬ cond0_0 (grid0.coords t)) (s : Vec F S520x512 .f32) :
    (runB c t h x0 x1 x2 x3 x4 x5 x6 x7 x8 x9 s).2.2.2.2.2.2.2.1 = pcs17 x0 x1 x2 x3 x4 x5 x6 x7 x8 x9 := by
  unfold runB kernelRun0_B pcs17
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]

theorem runB_18 (c : Dev nD) (t : Fin cfg0.N) (h : ¬ cond0_0 (grid0.coords t)) (s : Vec F S520x512 .f32) :
    (runB c t h x0 x1 x2 x3 x4 x5 x6 x7 x8 x9 s).2.2.2.2.2.2.2.2.1 = pcs18 x0 x1 x2 x3 x4 x5 x6 x7 x8 x9 := by
  unfold runB kernelRun0_B pcs18
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]

theorem runB_19 (c : Dev nD) (t : Fin cfg0.N) (h : ¬ cond0_0 (grid0.coords t)) (s : Vec F S520x512 .f32) :
    (runB c t h x0 x1 x2 x3 x4 x5 x6 x7 x8 x9 s).2.2.2.2.2.2.2.2.2.1 = pcs19 x0 x1 x2 x3 x4 x5 x6 x7 x8 x9 := by
  unfold runB kernelRun0_B pcs19
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]

theorem runB_20 (c : Dev nD) (t : Fin cfg0.N) (h : ¬ cond0_0 (grid0.coords t)) (s : Vec F S520x512 .f32) :
    (runB c t h x0 x1 x2 x3 x4 x5 x6 x7 x8 x9 s).2.2.2.2.2.2.2.2.2.2.1 = pcs20 x0 x1 x2 x3 x4 x5 x6 x7 x8 x9 := by
  unfold runB kernelRun0_B pcs20
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]

theorem runB_21 (c : Dev nD) (t : Fin cfg0.N) (h : ¬ cond0_0 (grid0.coords t)) (s : Vec F S520x512 .f32) :
    (runB c t h x0 x1 x2 x3 x4 x5 x6 x7 x8 x9 s).2.2.2.2.2.2.2.2.2.2.2.1 = pcs21 x0 x1 x2 x3 x4 x5 x6 x7 x8 x9 := by
  unfold runB kernelRun0_B pcs21
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]

theorem read11 (v : View sig .tc .vmem S1x512x512 .f32) (f : v.ty.Contents (Elt F)) :
    v.read (Elt F) (v.writes (Elt F) f (pcs11 x0 x1 x2 x3 x4 x5 x6 x7 x8 x9)) = out11 x0 x1 x2 x3 x4 x5 x6 x7 x8 x9 :=
  View.read_writes_eq_canon v f _ fun y => View.cover_of_tiledL (pcs11 x0 x1 x2 x3 x4 x5 x6 x7 x8 x9) S1x512x512.size (by sl_kernel_rfl) y

theorem read12 (v : View sig .tc .vmem S1x8x512x64 .bf16) (f : v.ty.Contents (Elt F)) :
    v.read (Elt F) (v.writes (Elt F) f (pcs12 x0 x1 x2 x3 x4 x5 x6 x7 x8 x9)) = out12 x0 x1 x2 x3 x4 x5 x6 x7 x8 x9 :=
  View.read_writes_eq_canon v f _ fun y => View.cover_of_tiledL (pcs12 x0 x1 x2 x3 x4 x5 x6 x7 x8 x9) S1x1x512x64.size (by sl_kernel_rfl) y

theorem read13 (v : View sig .tc .vmem S1x512x128 .f32) (f : v.ty.Contents (Elt F)) :
    v.read (Elt F) (v.writes (Elt F) f (pcs13 x0 x1 x2 x3 x4 x5 x6 x7 x8 x9)) = out13 x0 x1 x2 x3 x4 x5 x6 x7 x8 x9 :=
  View.read_writes_eq_canon v f _ fun y => View.cover_of_tiledL (pcs13 x0 x1 x2 x3 x4 x5 x6 x7 x8 x9) S1x512x128.size (by sl_kernel_rfl) y

theorem read14 (v : View sig .tc .vmem S1x512x256 .f32) (f : v.ty.Contents (Elt F)) :
    v.read (Elt F) (v.writes (Elt F) f (pcs14 x0 x1 x2 x3 x4 x5 x6 x7 x8 x9)) = out14 x0 x1 x2 x3 x4 x5 x6 x7 x8 x9 :=
  View.read_writes_eq_canon v f _ fun y => View.cover_of_tiledL (pcs14 x0 x1 x2 x3 x4 x5 x6 x7 x8 x9) S1x512x128.size (by sl_kernel_rfl) y

theorem read15 (v : View sig .tc .vmem S1x512x256 .f32) (f : v.ty.Contents (Elt F)) :
    v.read (Elt F) (v.writes (Elt F) f (pcs15 x0 x1 x2 x3 x4 x5 x6 x7 x8 x9)) = out15 x0 x1 x2 x3 x4 x5 x6 x7 x8 x9 :=
  View.read_writes_eq_canon v f _ fun y => View.cover_of_tiledL (pcs15 x0 x1 x2 x3 x4 x5 x6 x7 x8 x9) S1x512x128.size (by sl_kernel_rfl) y

theorem read16 (v : View sig .tc .vmem S1x512x256 .f32) (f : v.ty.Contents (Elt F)) :
    v.read (Elt F) (v.writes (Elt F) f (pcs16 x0 x1 x2 x3 x4 x5 x6 x7 x8 x9)) = out16 x0 x1 x2 x3 x4 x5 x6 x7 x8 x9 :=
  View.read_writes_eq_canon v f _ fun y => View.cover_of_tiledL (pcs16 x0 x1 x2 x3 x4 x5 x6 x7 x8 x9) S1x512x128.size (by sl_kernel_rfl) y

theorem read17 (v : View sig .tc .vmem S1x128x512 .bf16) (f : v.ty.Contents (Elt F)) :
    v.read (Elt F) (v.writes (Elt F) f (pcs17 x0 x1 x2 x3 x4 x5 x6 x7 x8 x9)) = out17 x0 x1 x2 x3 x4 x5 x6 x7 x8 x9 :=
  View.read_writes_eq_canon v f _ fun y => View.cover_of_tiledL (pcs17 x0 x1 x2 x3 x4 x5 x6 x7 x8 x9) S1x128x512.size (by sl_kernel_rfl) y

theorem read18 (v : View sig .tc .vmem S1x128x512 .bf16) (f : v.ty.Contents (Elt F)) :
    v.read (Elt F) (v.writes (Elt F) f (pcs18 x0 x1 x2 x3 x4 x5 x6 x7 x8 x9)) = out18 x0 x1 x2 x3 x4 x5 x6 x7 x8 x9 :=
  View.read_writes_eq_canon v f _ fun y => View.cover_of_tiledL (pcs18 x0 x1 x2 x3 x4 x5 x6 x7 x8 x9) S1x128x512.size (by sl_kernel_rfl) y

theorem read19 (v : View sig .tc .vmem S1x512x128 .bf16) (f : v.ty.Contents (Elt F)) :
    v.read (Elt F) (v.writes (Elt F) f (pcs19 x0 x1 x2 x3 x4 x5 x6 x7 x8 x9)) = out19 x0 x1 x2 x3 x4 x5 x6 x7 x8 x9 :=
  View.read_writes_eq_canon v f _ fun y => View.cover_of_tiledL (pcs19 x0 x1 x2 x3 x4 x5 x6 x7 x8 x9) S1x512x128.size (by sl_kernel_rfl) y

theorem read20 (v : View sig .tc .vmem S1x512x128 .bf16) (f : v.ty.Contents (Elt F)) :
    v.read (Elt F) (v.writes (Elt F) f (pcs20 x0 x1 x2 x3 x4 x5 x6 x7 x8 x9)) = out20 x0 x1 x2 x3 x4 x5 x6 x7 x8 x9 :=
  View.read_writes_eq_canon v f _ fun y => View.cover_of_tiledL (pcs20 x0 x1 x2 x3 x4 x5 x6 x7 x8 x9) S1x512x128.size (by sl_kernel_rfl) y

theorem read21 (v : View sig .tc .vmem S1x8x512 .f32) (f : v.ty.Contents (Elt F)) :
    v.read (Elt F) (v.writes (Elt F) f (pcs21 x0 x1 x2 x3 x4 x5 x6 x7 x8 x9)) = out21 x0 x1 x2 x3 x4 x5 x6 x7 x8 x9 :=
  View.read_writes_eq_canon v f _ fun y => View.cover_of_tiledL (pcs21 x0 x1 x2 x3 x4 x5 x6 x7 x8 x9) S1x8x512.size (by sl_kernel_rfl) y

end Cert.Kernel2Ideal.Body

end
-- ==== Proof.QSpec.lean ====
/-
  The input projection of the layer in plain formulas: the normed row, its product with a column of the weights, the norm
  of a head, the rotation by the position, the logistic gate.  Then the facts that tie them to the way the kernel reckons
  them: a head's sum of squares as a product with a matrix of zeros and ones, the rotation by lanes, the query's scale.
-/
module

public import proofs.«01_k».proof.Proof.Bits
public import Idealize.ShloMosaic.Lib.IdealHost

@[expose] public section

noncomputable section

namespace Cert.Proj

open Idealize.ShloMosaic

/-- The norm's epsilon. -/
def eps : EReal := Ideal.ofBits .f32 897988541#32

/-- A row of the input, normed by its mean square. -/
def row (x g : Fin 1024 → EReal) (k : Fin 1024) : EReal :=
  x k * Ideal.rsqrt (Ideal.div (∑ j, x j * x j) (Ideal.ofBits .f32 1149239296#32) + eps) * g k

/-- A normed row times a column of the weights. -/
def proj (x g w : Fin 1024 → EReal) : EReal := ∑ k, row x g k * w k

/-- A head, normed by its mean square. -/
def nrm (p g : Fin 64 → EReal) (d : Fin 64) : EReal :=
  p d * Ideal.rsqrt (Ideal.div (∑ e, p e * p e) (Ideal.ofBits .f32 1115684864#32) + eps) * g d

/-- The angle of a position at a frequency. -/
def ang (t f : ℕ) : EReal :=
  ((BitVec.ofNat 32 t).toInt : ℝ) * Ideal.pow (Ideal.ofBits .f32 1176256512#32) (Ideal.div (-(((BitVec.ofNat 32 f).toInt : ℝ) : EReal)) (Ideal.ofBits .f32 1107296256#32))

/-- The rotation of a head by its position, first half against second half. -/
def rope (t : ℕ) (z : Fin 64 → EReal) (d : Fin 64) : EReal :=
  if h : d.val < 32 then z d * Ideal.cos (ang t d.val) - z ⟨d.val + 32, by omega⟩ * Ideal.sin (ang t d.val)
  else z d * Ideal.cos (ang t (d.val - 32)) + z ⟨d.val - 32, by omega⟩ * Ideal.sin (ang t (d.val - 32))

/-- The logistic function. -/
def sig (x : EReal) : EReal := Ideal.div 1 (1 + Ideal.exp (-x))

/-- A real number among the extended reals. -/
def Real' (x : EReal) : Prop := ∃ r : ℝ, x = (r : EReal)

theorem real_of {x : EReal} (h : x ≠ ⊤ ∧ x ≠ ⊥) : Real' x := ⟨x.toReal, (EReal.coe_toReal h.1 h.2).symm⟩

theorem Real'.mul {x y : EReal} (hx : Real' x) (hy : Real' y) : Real' (x * y) := by
  obtain ⟨a, rfl⟩ := hx; obtain ⟨b, rfl⟩ := hy; exact ⟨a * b, (EReal.coe_mul a b).symm⟩

theorem coe_sum {ι : Type} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

theorem Real'.sum {ι : Type} (s : Finset ι) {f : ι → EReal} (h : ∀ i, Real' (f i)) : Real' (∑ i ∈ s, f i) := by
  choose g hg using h
  refine ⟨∑ i ∈ s, g i, ?_⟩
  rw [coe_sum]
  exact Finset.sum_congr rfl fun i _ => hg i

theorem Real'.sub_self {x : EReal} (hx : Real' x) : x - x = 0 := by
  obtain ⟨a, rfl⟩ := hx; rw [← EReal.coe_sub, _root_.sub_self, EReal.coe_zero]

theorem eps_val : eps = ((8796093 * (2:ℝ) ^ (-43 : Int) : ℝ) : EReal) := by
  unfold eps
  simp [Ideal.ofBits, Ideal.ieee]

theorem width_val : Ideal.ofBits .f32 1149239296#32 = ((1024 : ℝ) : EReal) := by
  simp [Ideal.ofBits, Ideal.ieee]; rw [← EReal.coe_mul]; norm_num
theorem head_val : Ideal.ofBits .f32 1115684864#32 = ((64 : ℝ) : EReal) := by
  simp [Ideal.ofBits, Ideal.ieee]; rw [← EReal.coe_mul]; norm_num
theorem inv_val : Ideal.ofBits .f32 1015021568#32 = ((1 / 64 : ℝ) : EReal) := by
  simp [Ideal.ofBits, Ideal.ieee]; rw [← EReal.coe_mul]; norm_num

/-- Dividing by the head's width is multiplying by its inverse. -/
theorem div_head (x : EReal) : Ideal.div x (Ideal.ofBits .f32 1115684864#32) = x * Ideal.ofBits .f32 1015021568#32 := by
  rw [head_val, inv_val, Ideal.div_coe (by norm_num)]

theorem rsqrt_real {s : ℝ} (hs : 0 ≤ s) : Real' (Ideal.rsqrt ((s : EReal) + eps)) := by
  rw [eps_val, ← EReal.coe_add]
  have : 0 < s + 8796093 * (2:ℝ) ^ (-43 : Int) := by positivity
  show Real' (if _ then _ else if _ then _ else _)
  rw [if_neg (not_lt.mpr this.le), if_neg this.ne']
  exact ⟨_, rfl⟩

/-- A normed row of real numbers is real. -/
theorem row_real {x g : Fin 1024 → EReal} (hx : ∀ k, Real' (x k)) (hg : ∀ k, Real' (g k)) (k : Fin 1024) : Real' (row x g k) := by
  unfold row
  refine Real'.mul (Real'.mul (hx k) ?_) (hg k)
  choose a ha using hx
  have : ∑ j, x j * x j = ((∑ j, a j * a j : ℝ) : EReal) := by
    rw [coe_sum]; exact Finset.sum_congr rfl fun j _ => by rw [ha j, EReal.coe_mul]
  rw [this, width_val, Ideal.div_coe (by norm_num), ← EReal.coe_mul]
  exact rsqrt_real (mul_nonneg (Finset.sum_nonneg fun j _ => mul_self_nonneg _) (by norm_num))

theorem proj_real {x g w : Fin 1024 → EReal} (hx : ∀ k, Real' (x k)) (hg : ∀ k, Real' (g k)) (hw : ∀ k, Real' (w k)) : Real' (proj x g w) :=
  Real'.sum _ fun k => (row_real hx hg k).mul (hw k)

/-- A sum over the lanes of a head's block, as a sum over all lanes weighed by zeros and ones. -/
theorem block_sum {n : ℕ} (f o : Fin n → EReal) (b : ℕ) (hb : 64 * b + 64 ≤ n) (ho : ∀ x, o x = if x.val / 64 = b then 1 else 0) :
    ∑ x, f x * o x = ∑ e : Fin 64, f ⟨64 * b + e.val, by omega⟩ := by
  have hf : ∀ x, f x * o x = if x.val / 64 = b then f x else 0 := fun x => by
    rw [ho]; split
    · rw [mul_one]
    · rw [mul_zero]
  rw [Finset.sum_congr rfl fun x _ => hf x, ← Finset.sum_filter]
  symm
  refine Finset.sum_bij (fun e _ => (⟨64 * b + e.val, by omega⟩ : Fin n)) (fun e _ => ?_) (fun e _ e' _ h => ?_) (fun x hx => ?_) (fun e _ => rfl)
  · rw [Finset.mem_filter]; exact ⟨Finset.mem_univ _, by show (64 * b + e.val) / 64 = b; omega⟩
  · have := congrArg Fin.val h; ext; simpa using this
  · rw [Finset.mem_filter] at hx
    have hx2 := hx.2
    exact ⟨⟨x.val - 64 * b, by omega⟩, Finset.mem_univ _, Fin.ext (by show 64 * b + (x.val - 64 * b) = x.val; omega)⟩

/-- The lane of a head. -/
abbrev lane (n b : ℕ) (hb : 64 * b + 64 ≤ n) (e : Fin 64) : Fin n := ⟨64 * b + e.val, by omega⟩

/-- THE NORM OF A HEAD, its sum of squares and the rounding that remains both taken by a product with zeros and ones. -/
theorem nrm_lane {n : ℕ} (p o : Fin n → EReal) (k : Fin n) (b : ℕ) (d : Fin 64) (hb : 64 * b + 64 ≤ n) (hk : k.val = 64 * b + d.val) (g : Fin 64 → EReal) (gk : EReal) (hg : gk = g d)
    (ho : ∀ x, o x = if x.val / 64 = b then 1 else 0) (hp : ∀ x, Real' (p x)) :
    p k * Ideal.rsqrt ((∑ x, p x * p x * o x + ∑ x, (p x * p x - p x * p x) * o x) * Ideal.ofBits .f32 1015021568#32 + Ideal.ofBits .f32 897988541#32) * gk
      = nrm (fun e => p (lane n b hb e)) g d := by
  have h0 : ∑ x, (p x * p x - p x * p x) * o x = 0 :=
    Finset.sum_eq_zero fun x _ => by rw [((hp x).mul (hp x)).sub_self, zero_mul]
  have hkk : k = lane n b hb d := Fin.ext hk
  rw [h0, add_zero, block_sum (fun x => p x * p x) o b hb ho, hg, hkk]
  unfold nrm
  rw [div_head]
  rfl

/-- THE ROTATION BY LANES: half a head away, to the right or the left by the half the lane is in. -/
theorem rope_lane (z c s : Fin 128 → EReal) (t : ℕ) (k : Fin 128) (b : ℕ) (d : Fin 64) (hb : 64 * b + 64 ≤ 128) (hk : k.val = 64 * b + d.val)
    (hc : c k = Ideal.cos (ang t (k.val % 32))) (hs : s k = if k.val % 64 < 32 then -Ideal.sin (ang t (k.val % 32)) else Ideal.sin (ang t (k.val % 32))) :
    z k * c k + Scalar.select (IntOp.cmpi CmpIPredicate.eq (IntOp.andi (BitVec.ofNat 32 k.val) 32#32) 0#32)
        (z ⟨(k.val + 128 - 96) % 128, Nat.mod_lt _ (by decide)⟩) (z ⟨(k.val + 128 - 32) % 128, Nat.mod_lt _ (by decide)⟩) * s k
      = rope t (fun e => z (lane 128 b hb e)) d := by
  have hd := d.isLt
  have hw : IntOp.cmpi CmpIPredicate.eq (IntOp.andi (BitVec.ofNat 32 k.val) 32#32) 0#32 = 1#1 ↔ k.val % 64 < 32 :=
    (by decide +kernel : ∀ n : Fin 128, IntOp.cmpi CmpIPredicate.eq (IntOp.andi (BitVec.ofNat 32 n.val) 32#32) 0#32 = 1#1 ↔ n.val % 64 < 32) k
  rw [Layer.select_dec _ _ hw, hc, hs]
  have hm : k.val % 64 = d.val := by omega
  have hkk : k = lane 128 b hb d := Fin.ext hk
  unfold rope
  by_cases h : d.val < 32
  · have e1 : k.val % 32 = d.val := by omega
    have e2 : (⟨(k.val + 128 - 96) % 128, Nat.mod_lt _ (by decide)⟩ : Fin 128) = lane 128 b hb ⟨d.val + 32, by omega⟩ := Fin.ext (by show (k.val + 128 - 96) % 128 = 64 * b + (d.val + 32); omega)
    rw [dif_pos h, if_pos (by omega), if_pos (by omega), e1, e2, mul_neg, ← sub_eq_add_neg]
    subst hkk; rfl
  · have e1 : k.val % 32 = d.val - 32 := by omega
    have e2 : (⟨(k.val + 128 - 32) % 128, Nat.mod_lt _ (by decide)⟩ : Fin 128) = lane 128 b hb ⟨d.val - 32, by omega⟩ := Fin.ext (by show (k.val + 128 - 32) % 128 = 64 * b + (d.val - 32); omega)
    rw [dif_neg h, if_neg (by omega), if_neg (by omega), e1, e2]
    subst hkk; rfl

theorem scale_val : Ideal.ofBits .f32 1040187392#32 = ((1 / 8 : ℝ) : EReal) := by
  simp [Ideal.ofBits, Ideal.ieee]; rw [← EReal.coe_mul]; norm_num

/-- The query's scale may be put on the gain. -/
theorem rope_scale (t : ℕ) (p g : Fin 64 → EReal) (d : Fin 64) :
    rope t (nrm p fun e => g e * Ideal.ofBits .f32 1040187392#32) d = rope t (nrm p g) d * Ideal.ofBits .f32 1040187392#32 := by
  have h0 : (0 : EReal) ≤ Ideal.ofBits .f32 1040187392#32 := by rw [scale_val]; exact_mod_cast (by norm_num : (0:ℝ) ≤ 1 / 8)
  have h1 : Ideal.ofBits .f32 1040187392#32 ≠ ⊤ := by rw [scale_val]; exact EReal.coe_ne_top _
  have hn : ∀ e, nrm p (fun e => g e * Ideal.ofBits .f32 1040187392#32) e = nrm p g e * Ideal.ofBits .f32 1040187392#32 := fun e => by
    unfold nrm; exact (mul_assoc _ _ _).symm
  unfold rope
  split
  · rw [hn, hn, sub_eq_add_neg, sub_eq_add_neg, EReal.right_distrib_of_nonneg_of_ne_top h0 h1, neg_mul,
      mul_right_comm (nrm p g d), mul_right_comm (nrm p g ⟨d.val + 32, _⟩)]
  · rw [hn, hn, EReal.right_distrib_of_nonneg_of_ne_top h0 h1,
      mul_right_comm (nrm p g d), mul_right_comm (nrm p g ⟨d.val - 32, _⟩)]

/-- The arrays the projection reads. -/
structure Ins where
  x : Fin 4 → Fin 8192 → Fin 1024 → EReal
  g : Fin 1024 → EReal
  w : Fin 1024 → Fin 3864 → EReal
  cw : Fin 3 → Fin 512 → EReal
  cb : Fin 512 → EReal
  qg : Fin 64 → EReal
  kg : Fin 3 → Fin 64 → EReal

namespace Ins

variable (A : Ins)

/-- Every entry of the input, its gain and the weights is a real number. -/
structure Real : Prop where
  x : ∀ b t k, Real' (A.x b t k)
  g : ∀ k, Real' (A.g k)
  w : ∀ k c, Real' (A.w k c)

/-- The projection, -/
def pr (b : Fin 4) (t : Fin 8192) (c : Fin 3864) : EReal := proj (A.x b t) A.g fun k => A.w k c

/-- a key: the normed, rotated head `j` of branch `i`, -/
def key (b : Fin 4) (t : Fin 8192) (i : Fin 3) (j : Fin 2) (d : Fin 64) : EReal :=
  rope t.val (nrm (fun e => A.pr b t ⟨2560 + 256 * i.val + 64 * j.val + e.val, by omega⟩) (A.kg i)) d

/-- a branch's row: its keys, then its values, -/
def rows (i : Fin 3) (b : Fin 4) (t : Fin 8192) (c : Fin 256) : EReal :=
  if h : c.val < 128 then A.key b t i ⟨c.val / 64, by omega⟩ ⟨c.val % 64, by omega⟩ else A.pr b t ⟨2560 + 256 * i.val + c.val, by omega⟩

/-- the convolution's input, -/
def u (b : Fin 4) (t : Fin 8192) (c : Fin 512) : EReal := A.pr b t ⟨512 + c.val, by omega⟩ * A.pr b t ⟨1024 + c.val, by omega⟩

/-- the branch gates, padded, -/
def gate (b : Fin 4) (t : Fin 8192) (l : Fin 128) : EReal := if h : l.val < 24 then sig (A.pr b t ⟨3328 + l.val, by omega⟩) else sig 0

/-- z_attn through its gate, -/
def zs (b : Fin 4) (t : Fin 8192) (c : Fin 512) : EReal := A.pr b t ⟨3352 + c.val, by omega⟩ * sig (A.pr b t ⟨3352 + c.val, by omega⟩)

/-- a query, -/
def q (b : Fin 4) (j : Fin 8) (t : Fin 8192) (d : Fin 64) : EReal :=
  rope t.val (nrm (fun e => A.pr b t ⟨2048 + 64 * j.val + e.val, by omega⟩) A.qg) d * Ideal.ofBits .f32 1040187392#32

/-- a branch's key by its lane, -/
def keyAt (i : Fin 3) (b : Fin 4) (l : Fin 128) (t : Fin 8192) : EReal := A.key b t i ⟨l.val / 64, by omega⟩ ⟨l.val % 64, by omega⟩

/-- a branch's value by its lane, -/
def valAt (i : Fin 3) (b : Fin 4) (t : Fin 8192) (l : Fin 128) : EReal := A.pr b t ⟨2688 + 256 * i.val + l.val, by omega⟩

/-- the convolution's input in the last rows, -/
def lastU (b : Fin 4) (r : Fin 8) (k : Fin 512) : EReal := A.u b ⟨8184 + r.val, by omega⟩ k

/-- the convolution's input some rows back, zero before the first, -/
def back (b : Fin 4) (t : Fin 8192) (n : ℕ) (c : Fin 512) : EReal := if n ≤ t.val then A.u b ⟨t.val - n, by omega⟩ c else 0

/-- and the convolution, gated. -/
def conv (b : Fin 4) (t : Fin 8192) (c : Fin 512) : EReal :=
  A.pr b t ⟨c.val, by omega⟩ * (A.cw 0 c * A.back b t 2 c + A.cw 1 c * A.back b t 1 c + A.cw 2 c * A.back b t 0 c + A.cb c)
    * (A.pr b t ⟨1536 + c.val, by omega⟩ * sig (A.pr b t ⟨1536 + c.val, by omega⟩))

/-- The weights as the kernel holds them: zeros put in after the gates' columns. -/
def wp (k : Fin 1024) (c : Fin 3968) : EReal :=
  if h : c.val < 3352 then A.w k ⟨c.val, by omega⟩ else if h' : c.val < 3456 then 0 else A.w k ⟨c.val - 104, by omega⟩

end Ins

end Cert.Proj

end
-- ==== Proof.QPay.lean ====
/-
  What the body leaves in each output's block, entry by entry, in the formulas of the projection: for blocks that hold the rows
  `T`, the weights with their padding, the tables of cosines and signed sines, the gains and the matrix of zeros and ones.
-/
module

public import proofs.«01_k».proof.Proof.QOut
public import proofs.«01_k».proof.Proof.QSpec
public import Idealize.ShloMosaic.Lib.Pointwise

@[expose] public section

set_option maxRecDepth 16384

noncomputable section

namespace Cert.Proj

open Idealize.ShloMosaic

/-- A lane of a pair of heads, normed as the kernel norms it. -/
def zl (p g : Fin 128 → EReal) (o : Fin 128 → Fin 128 → EReal) (l : Fin 128) : EReal :=
  p l * Ideal.rsqrt ((∑ x, p x * p x * o x l + ∑ x, (p x * p x - p x * p x) * o x l) * Ideal.ofBits .f32 1015021568#32 + Ideal.ofBits .f32 897988541#32) * g l

/-- A pair of heads, normed and rotated by lanes, is each head normed and rotated. -/
theorem key_lane (t : ℕ) (p g c s : Fin 128 → EReal) (o : Fin 128 → Fin 128 → EReal) (kg : Fin 64 → EReal) (k : Fin 128)
    (hp : ∀ x, Real' (p x)) (hg : ∀ l, g l = kg ⟨l.val % 64, by omega⟩) (ho : ∀ x l, o x l = if x.val / 64 = l.val / 64 then 1 else 0)
    (hc : ∀ l, c l = Ideal.cos (ang t (l.val % 32)))
    (hs : ∀ l, s l = if l.val % 64 < 32 then -Ideal.sin (ang t (l.val % 32)) else Ideal.sin (ang t (l.val % 32))) :
    zl p g o k * c k + Scalar.select (IntOp.cmpi CmpIPredicate.eq (IntOp.andi (BitVec.ofNat 32 k.val) 32#32) 0#32)
        (zl p g o ⟨(k.val + 128 - 96) % 128, Nat.mod_lt _ (by decide)⟩) (zl p g o ⟨(k.val + 128 - 32) % 128, Nat.mod_lt _ (by decide)⟩) * s k
      = rope t (nrm (fun e => p ⟨64 * (k.val / 64) + e.val, by omega⟩) kg) ⟨k.val % 64, by omega⟩ := by
  rw [rope_lane (zl p g o) c s t k (k.val / 64) ⟨k.val % 64, by omega⟩ (by omega) (by show k.val = 64 * (k.val / 64) + k.val % 64; omega) (hc k) (hs k)]
  refine congrArg (fun f => rope t f _) (funext fun e => ?_)
  unfold zl
  rw [nrm_lane p (fun x => o x (lane 128 (k.val / 64) (by omega) e)) _ (k.val / 64) e (by omega) rfl kg _
    ((hg _).trans (congrArg kg (Fin.ext (by show (64 * (k.val / 64) + e.val) % 64 = e.val; omega))))
    (fun x => (ho _ _).trans (by rw [show (lane 128 (k.val / 64) (by omega) e).val / 64 = k.val / 64 from by show (64 * (k.val / 64) + e.val) / 64 = _; omega])) hp]

end Cert.Proj

namespace Cert.Kernel2Ideal.Body

open Cert.Kernel2Ideal Cert.Kernel2Ideal.Gen Cert.Proj
open Idealize.ShloMosaic Idealize.ShloMosaic.TcCoe Idealize.ShloMosaic.Tactic

variable (x0 : Vec Ideal S1x512x1024 .f32) (x1 : Vec Ideal S1x1024 .f32) (x2 : Vec Ideal S1024x3968 .bf16) (x3 : Vec Ideal S512x128 .f32) (x4 : Vec Ideal S512x128 .f32) (x5 : Vec Ideal S1x512 .f32) (x6 : Vec Ideal S3x128 .f32) (x7 : Vec Ideal S512x512 .bf16) (x8 : Vec Ideal S3x512 .f32) (x9 : Vec Ideal S1x512 .f32)

/-- What the blocks hold at batch `b`, their rows being the rows `T` of the sequence. -/
structure Blocks (A : Ins) (b : Fin 4) (T : Fin 512 → Fin 8192) : Prop where
  real : A.Real
  x0 : ∀ r k, x0 (ix3 0 r k) = A.x b (T r) k
  x1 : ∀ k, x1 (ix2 0 k) = A.g k
  x2 : ∀ k c, x2 (ix2 k c) = A.wp k c
  x3 : ∀ r l, x3 (ix2 r l) = Ideal.cos (ang (T r).val (l.val % 32))
  x4 : ∀ r l, x4 (ix2 r l) = if l.val % 64 < 32 then -Ideal.sin (ang (T r).val (l.val % 32)) else Ideal.sin (ang (T r).val (l.val % 32))
  x5 : ∀ l, x5 (ix2 0 l) = A.qg ⟨l.val % 64, by omega⟩ * Ideal.ofBits .f32 1040187392#32
  x6 : ∀ i l, x6 (ix2 i l) = A.kg i ⟨l.val % 64, by omega⟩
  x7 : ∀ k l, x7 (ix2 k l) = if k.val / 64 = l.val / 64 then 1 else 0
  x8 : ∀ i k, x8 (ix2 i k) = A.cw i k
  x9 : ∀ k, x9 (ix2 0 k) = A.cb k

variable {x0 x1 x2 x3 x4 x5 x6 x7 x8 x9}
variable {A : Ins} {b : Fin 4} {T : Fin 512 → Fin 8192} (H : Blocks x0 x1 x2 x3 x4 x5 x6 x7 x8 x9 A b T)
include H

theorem hRow_at (r : Fin 512) (k : Fin 1024) : hRow x0 x1 (ix2 r k) = row (A.x b (T r)) A.g k := by
  unfold hRow
  pointwise [k0_pay6]
  rw [H.x1, H.x0, Finset.sum_congr rfl fun j _ => by rw [H.x0]]
  rfl

/-- A normed row's product with a column of the padded weights. -/
theorem col_at (r : Fin 512) (c : Fin 3968) (w : Fin 1024 → EReal) (hw : ∀ k, w k = x2 (ix2 k c)) :
    ∑ k, hRow x0 x1 (ix2 r k) * w k = proj (A.x b (T r)) A.g fun k => A.wp k c := by
  unfold proj
  exact Finset.sum_congr rfl fun k _ => by rw [hRow_at H, hw, H.x2]

omit H in
theorem wp_low (A : Ins) (c : Fin 3968) (h : c.val < 3352) (b : Fin 4) (t : Fin 8192) (c' : Fin 3864) (hc : c'.val = c.val) :
    (proj (A.x b t) A.g fun k => A.wp k c) = A.pr b t c' := by
  rw [show c' = ⟨c.val, by omega⟩ from Fin.ext hc]
  unfold Ins.pr Ins.wp
  exact congrArg (proj _ _) (funext fun k => dif_pos h)

omit H in
theorem wp_high (A : Ins) (c : Fin 3968) (h : ¬ c.val < 3456) (b : Fin 4) (t : Fin 8192) (c' : Fin 3864) (hc : c'.val = c.val - 104) :
    (proj (A.x b t) A.g fun k => A.wp k c) = A.pr b t c' := by
  rw [show c' = ⟨c.val - 104, by omega⟩ from Fin.ext hc]
  unfold Ins.pr Ins.wp
  exact congrArg (proj _ _) (funext fun k => by rw [dif_neg (by omega), dif_neg h])

omit H in
theorem wp_pad (A : Ins) (c : Fin 3968) (h : ¬ c.val < 3352) (h' : c.val < 3456) (b : Fin 4) (t : Fin 8192) :
    (proj (A.x b t) A.g fun k => A.wp k c) = 0 := by
  unfold proj Ins.wp
  exact Finset.sum_eq_zero fun k _ => by dsimp only; rw [dif_neg h, dif_pos h', mul_zero]

theorem kv_at (r : Fin 512) (j : Fin 768) : kvR x0 x1 x2 (ix2 r j) = A.pr b (T r) ⟨2560 + j.val, by omega⟩ := by
  unfold kvR
  pointwise [k0_pay23]
  refine (col_at H r ⟨2560 + j.val, by omega⟩ (fun k => wKv x2 (ix2 k j)) fun k => ?_).trans (wp_low A _ (by show 2560 + j.val < 3352; omega) b (T r) _ rfl)
  exact View.ld_unit_apply_of _ _ _ _ _ _ (by intro a; fin_cases a <;> simp)

theorem gz_at (r : Fin 512) (j : Fin 640) : ∑ k, hRow x0 x1 (ix2 r k) * wGz x2 (ix2 k j) = proj (A.x b (T r)) A.g fun k => A.wp k ⟨3328 + j.val, by omega⟩ :=
  col_at H r ⟨3328 + j.val, by omega⟩ (fun k => wGz x2 (ix2 k j)) fun k => View.ld_unit_apply_of _ _ _ _ _ _ (by intro a; fin_cases a <;> simp)

theorem cv_at (r : Fin 512) (j : Fin 2048) : ∑ k, hRow x0 x1 (ix2 r k) * wCv x2 (ix2 k j) = A.pr b (T r) ⟨j.val, by omega⟩ :=
  (col_at H r ⟨j.val, by omega⟩ (fun k => wCv x2 (ix2 k j)) fun k => View.ld_unit_apply_of _ _ _ _ _ _ (by intro a; fin_cases a <;> simp)).trans
    (wp_low A _ (by show j.val < 3352; omega) b (T r) _ rfl)

theorem pr_real (t : Fin 8192) (c : Fin 3864) : Real' (A.pr b t c) :=
  proj_real (H.real.x b t) H.real.g fun k => H.real.w k c

theorem on_at (x l : Fin 128) : onB x7 (ix2 x l) = (if x.val / 64 = l.val / 64 then 1 else 0 : EReal) := by
  refine Eq.trans ?_ (H.x7 ⟨x.val, by omega⟩ ⟨l.val, by omega⟩)
  exact View.ld_unit_apply_of _ _ _ _ _ _ (by intro a; fin_cases a <;> simp)

theorem cos_at (r : Fin 512) (l : Fin 128) : cosB x3 (ix2 r l) = Ideal.cos (ang (T r).val (l.val % 32)) := by
  rw [← H.x3]; unfold cosB; pointwise [k0_pay4]

theorem sin_at (r : Fin 512) (l : Fin 128) : sinB x4 (ix2 r l) = if l.val % 64 < 32 then -Ideal.sin (ang (T r).val (l.val % 32)) else Ideal.sin (ang (T r).val (l.val % 32)) := by
  rw [← H.x4]; unfold sinB; pointwise [k0_pay5]

/-- A branch's keys, lane by lane. -/
theorem keys_at (i : Fin 3) (r : Fin 512) (l : Fin 128) (g : Fin 128 → EReal) (hg : ∀ l, g l = x6 (ix2 i l)) (p : Fin 128 → EReal)
    (hp : ∀ e, p e = A.pr b (T r) ⟨2560 + 256 * i.val + e.val, by omega⟩) :
    zl p g (fun x l => onB x7 (ix2 x l)) l * cosB x3 (ix2 r l) + Scalar.select (IntOp.cmpi CmpIPredicate.eq (IntOp.andi (BitVec.ofNat 32 l.val) 32#32) 0#32)
        (zl p g (fun x l => onB x7 (ix2 x l)) ⟨(l.val + 128 - 96) % 128, Nat.mod_lt _ (by decide)⟩) (zl p g (fun x l => onB x7 (ix2 x l)) ⟨(l.val + 128 - 32) % 128, Nat.mod_lt _ (by decide)⟩) * sinB x4 (ix2 r l)
      = A.key b (T r) i ⟨l.val / 64, by omega⟩ ⟨l.val % 64, by omega⟩ := by
  rw [key_lane (T r).val p g (fun l => cosB x3 (ix2 r l)) (fun l => sinB x4 (ix2 r l)) (fun x l => onB x7 (ix2 x l)) (A.kg i) l
    (fun e => by rw [hp]; exact pr_real H _ _) (fun l => (hg l).trans (H.x6 i l)) (on_at H) (cos_at H r) (sin_at H r)]
  unfold Ins.key
  refine congrArg (fun f => rope _ (nrm f _) _) (funext fun e => ?_)
  rw [hp]
  exact congrArg (A.pr b (T r)) (Fin.ext (by show 2560 + 256 * i.val + (64 * (l.val / 64) + e.val) = 2560 + 256 * i.val + 64 * (l.val / 64) + e.val; omega))

theorem k1_at (r : Fin 512) (l : Fin 128) : kB1 x0 x1 x2 x3 x4 x6 x7 (ix2 r l) = A.key b (T r) 1 ⟨l.val / 64, by omega⟩ ⟨l.val % 64, by omega⟩ := by
  unfold kB1
  pointwise [k0_pay28]
  have h := keys_at H 1 r l (fun l => x6 (ix2 1 l)) (fun l => rfl)
    (fun e => kvR x0 x1 x2 (ix2 r ⟨256 + e.val, by omega⟩)) (fun e => (kv_at H r _).trans (congrArg (A.pr b (T r)) (Fin.ext (by show 2560 + (256 + e.val) = 2560 + 256 * 1 + e.val; omega))))
  unfold zl at h
  exact h

theorem k2_at (r : Fin 512) (l : Fin 128) : kB2 x0 x1 x2 x3 x4 x6 x7 (ix2 r l) = A.key b (T r) 2 ⟨l.val / 64, by omega⟩ ⟨l.val % 64, by omega⟩ := by
  unfold kB2
  pointwise [k0_pay31, k0_pay29]
  have h := keys_at H 2 r l (fun l => x6 (ix2 2 l)) (fun l => rfl)
    (fun e => kvR x0 x1 x2 (ix2 r ⟨512 + e.val, by omega⟩)) (fun e => (kv_at H r _).trans (congrArg (A.pr b (T r)) (Fin.ext (by show 2560 + (512 + e.val) = 2560 + 256 * 2 + e.val; omega))))
  unfold zl at h
  exact h

theorem k0_at (r : Fin 512) (l : Fin 128) : k0_pay26 (cosB x3) (sinB x4) (k0_pay25 (hRow x0 x1) (wKv x2) (onB x7) (View.ld x6 (Rect.unit ![0, 0] ![1, 128] inb_S3x128_S1x128_0_0))) (iota Kind.tc S512x128 32 [1] iota_S512x128_d1_w32) (ix2 r l)
    = A.key b (T r) 0 ⟨l.val / 64, by omega⟩ ⟨l.val % 64, by omega⟩ := by
  pointwise [k0_pay26, k0_pay25]
  have h := keys_at H 0 r l (fun l => x6 (ix2 0 l)) (fun l => rfl)
    (fun e => kvR x0 x1 x2 (ix2 r ⟨e.val, by omega⟩)) (fun e => (kv_at H r _).trans (congrArg (A.pr b (T r)) (Fin.ext (by show 2560 + e.val = 2560 + 256 * 0 + e.val; omega))))
  unfold zl at h
  exact h

/-- z_attn through its gate, -/
theorem out11_at (r : Fin 512) (k : Fin 512) : out11 x0 x1 x2 x3 x4 x5 x6 x7 x8 x9 (ix3 0 r k) = A.zs b (T r) k := by
  refine (congrFun (View.canon_unit_zero (S := S1x512x512) (by funext a; fin_cases a <;> rfl) _ _) _).trans ?_
  pointwise [k0_pay43, k0_pay35, k0_pay34, k0_pay32]
  rw [gz_at H r ⟨128 + k.val, by omega⟩, wp_high A _ (by show ¬ 3328 + (128 + k.val) < 3456; omega) b (T r) ⟨3352 + k.val, by omega⟩ (by show 3352 + k.val = 3328 + (128 + k.val) - 104; omega), zero_sub]
  rfl

/-- the branch gates, -/
theorem out13_at (r : Fin 512) (k : Fin 128) : out13 x0 x1 x2 x3 x4 x5 x6 x7 x8 x9 (ix3 0 r k) = A.gate b (T r) k := by
  refine (congrFun (View.canon_unit_zero (S := S1x512x128) (by funext a; fin_cases a <;> rfl) _ _) _).trans ?_
  pointwise [k0_pay44, k0_pay33, k0_pay32]
  rw [gz_at H r ⟨k.val, by omega⟩, zero_sub]
  unfold Ins.gate
  by_cases h : k.val < 24
  · rw [dif_pos h, wp_low A _ (by show 3328 + k.val < 3352; omega) b (T r) ⟨3328 + k.val, by omega⟩ rfl]
    rfl
  · rw [dif_neg h, wp_pad A _ (by show ¬ 3328 + k.val < 3352; omega) (by show 3328 + k.val < 3456; omega) b (T r)]
    rfl

/-- the selected keys, transposed, -/
theorem out17_at (k : Fin 128) (r : Fin 512) : out17 x0 x1 x2 x3 x4 x5 x6 x7 x8 x9 (ix3 0 k r) = A.key b (T r) 1 ⟨k.val / 64, by omega⟩ ⟨k.val % 64, by omega⟩ := by
  refine (congrFun (View.canon_unit_zero (S := S1x128x512) (by funext a; fin_cases a <;> rfl) _ _) _).trans ?_
  rw [← k1_at H]; pointwise [k0_pay61]

/-- the window keys, transposed, -/
theorem out18_at (k : Fin 128) (r : Fin 512) : out18 x0 x1 x2 x3 x4 x5 x6 x7 x8 x9 (ix3 0 k r) = A.key b (T r) 2 ⟨k.val / 64, by omega⟩ ⟨k.val % 64, by omega⟩ := by
  refine (congrFun (View.canon_unit_zero (S := S1x128x512) (by funext a; fin_cases a <;> rfl) _ _) _).trans ?_
  rw [← k2_at H]; pointwise [k0_pay2]

/-- the selected values, -/
theorem out19_at (r : Fin 512) (k : Fin 128) : out19 x0 x1 x2 x3 x4 x5 x6 x7 x8 x9 (ix3 0 r k) = A.pr b (T r) ⟨2944 + k.val, by omega⟩ := by
  refine (congrFun (View.canon_unit_zero (S := S1x512x128) (by funext a; fin_cases a <;> rfl) _ _) _).trans ?_
  pointwise [k0_pay1, k0_pay62, k0_pay27]
  exact (kv_at H r _).trans (congrArg (A.pr b (T r)) (Fin.ext (by show 2560 + (384 + k.val) = 2944 + k.val; omega)))

/-- the window values, -/
theorem out20_at (r : Fin 512) (k : Fin 128) : out20 x0 x1 x2 x3 x4 x5 x6 x7 x8 x9 (ix3 0 r k) = A.pr b (T r) ⟨3200 + k.val, by omega⟩ := by
  refine (congrFun (View.canon_unit_zero (S := S1x512x128) (by funext a; fin_cases a <;> rfl) _ _) _).trans ?_
  pointwise [k0_pay3, k0_pay30]
  exact (kv_at H r _).trans (congrArg (A.pr b (T r)) (Fin.ext (by show 2560 + (640 + k.val) = 3200 + k.val; omega)))

/-- and the last rows of the convolution's input. -/
theorem out21_at (r : Fin 8) (k : Fin 512) : out21 x0 x1 x2 x3 x4 x5 x6 x7 x8 x9 (ix3 0 r k) = A.u b (T ⟨504 + r.val, by omega⟩) k := by
  refine (congrFun (View.canon_unit_zero (S := S1x8x512) (by funext a; fin_cases a <;> rfl) _ _) _).trans ?_
  pointwise [k0_pay42, k0_pay9, k0_pay7]
  rw [cv_at H _ ⟨512 + k.val, by omega⟩, cv_at H _ ⟨1024 + k.val, by omega⟩]
  rfl

/-- A row of a branch from its two stores. -/
theorem rows_at (i : Fin 3) (kk vv : Vec Ideal S1x512x128 .f32) (r : Fin 512) (c : Fin 256)
    (hk : ∀ l : Fin 128, kk (ix3 0 r l) = A.key b (T r) i ⟨l.val / 64, by omega⟩ ⟨l.val % 64, by omega⟩)
    (hv : ∀ l : Fin 128, vv (ix3 0 r l) = A.pr b (T r) ⟨2560 + 256 * i.val + 128 + l.val, by omega⟩) :
    View.canon [(⟨Rect.unit ![0, 0, 128] ![1, 512, 128] inb_S1x512x256_S1x512x128_0_0_128, vv⟩ : View.Piece (Elt Ideal) S1x512x256 .f32),
      ⟨Rect.unit ![0, 0, 0] ![1, 512, 128] inb_S1x512x256_S1x512x128_0_0_0, kk⟩] (ix3 0 r c) = A.rows i b (T r) c := by
  refine View.canon_eq_of_allAt _ _ _ (View.cover_of_tiled_head _ _ _ (by sl_kernel_rfl) _)
    (View.allAt_cons_unit _ _ _ _ _ ?_ (View.allAt_cons_unit _ _ _ _ _ ?_ (View.allAt_nil _ _)))
  · intro x hx
    idx_vars x
    have h1 : r.val = 0 + x1.val := hx 1
    have h2 : c.val = 128 + x2.val := hx 2
    obtain rfl : x1 = r := Fin.ext (by omega)
    obtain rfl : x0 = 0 := Subsingleton.elim _ _
    refine (hv x2).trans ?_
    unfold Ins.rows
    rw [dif_neg (by omega)]
    exact congrArg (A.pr b (T x1)) (Fin.ext (by show 2560 + 256 * i.val + 128 + x2.val = 2560 + 256 * i.val + c.val; omega))
  · intro x hx
    idx_vars x
    have h1 : r.val = 0 + x1.val := hx 1
    have h2 : c.val = 0 + x2.val := hx 2
    obtain rfl : x1 = r := Fin.ext (by omega)
    obtain rfl : x0 = 0 := Subsingleton.elim _ _
    refine (hk x2).trans ?_
    have hlt : c.val < 128 := by omega
    unfold Ins.rows
    rw [dif_pos hlt]
    congr 1 <;> exact Fin.ext (by dsimp only; omega)

/-- The compressed branch's rows, -/
theorem out14_at (r : Fin 512) (c : Fin 256) : out14 x0 x1 x2 x3 x4 x5 x6 x7 x8 x9 (ix3 0 r c) = A.rows 0 b (T r) c := by
  refine rows_at H 0 _ _ r c (fun l => ?_) fun l => ?_
  · rw [← k0_at H]; pointwise [k0_pay55]
  · pointwise [k0_pay56, k0_pay24]
    exact (kv_at H r ⟨128 + l.val, by omega⟩).trans (congrArg (A.pr b (T r)) (Fin.ext (by show 2560 + (128 + l.val) = 2560 + 256 * 0 + 128 + l.val; omega)))

/-- the selected branch's -/
theorem out15_at (r : Fin 512) (c : Fin 256) : out15 x0 x1 x2 x3 x4 x5 x6 x7 x8 x9 (ix3 0 r c) = A.rows 1 b (T r) c := by
  refine rows_at H 1 _ _ r c (fun l => ?_) fun l => ?_
  · rw [← k1_at H]; pointwise [k0_pay57]
  · pointwise [k0_pay58, k0_pay27]
    exact (kv_at H r ⟨384 + l.val, by omega⟩).trans (congrArg (A.pr b (T r)) (Fin.ext (by show 2560 + (384 + l.val) = 2560 + 256 * 1 + 128 + l.val; omega)))

/-- and the window branch's. -/
theorem out16_at (r : Fin 512) (c : Fin 256) : out16 x0 x1 x2 x3 x4 x5 x6 x7 x8 x9 (ix3 0 r c) = A.rows 2 b (T r) c := by
  refine rows_at H 2 _ _ r c (fun l => ?_) fun l => ?_
  · rw [← k2_at H]; pointwise [k0_pay59]
  · pointwise [k0_pay60, k0_pay30]
    exact (kv_at H r ⟨640 + l.val, by omega⟩).trans (congrArg (A.pr b (T r)) (Fin.ext (by show 2560 + (640 + l.val) = 2560 + 256 * 2 + 128 + l.val; omega)))

end Cert.Kernel2Ideal.Body

end
-- ==== Proof.QLaunch.lean ====
/-
  The launch of the idealized projection kernel: what each grid point leaves in its blocks of the results is the body's function of the
  blocks it reads, the convolution's result and the carry buffer not named here.
-/
module

public import proofs.«01_k».proof.Proof.QOut
public import Idealize.ShloMosaic.Lib.Claim

@[expose] public section

set_option maxRecDepth 16384

noncomputable section

namespace Cert.Kernel2Ideal.Body

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The logic's resources, as the generated frame kit takes them. -/
local notation "𝕄" => MT nD τ sig Unit (Elt F) ℕ (UR sig nD τ) ℕ

/-- A buffer stored into is owned at what reading it back gives, -/
theorem owns_writes (c : Dev nD) {s : Shape} {e : EltTy} (a : Memref sig .tc .vmem s e) (L : List (View.Piece (Elt F) s e)) (x : Vec F s e)
    (h : ∀ f, a.view.read (Elt F) (a.view.writes (Elt F) f L) = x) :
    (iprop(∃ f, a.view.loc (c : Thread nD τ) ↦[a.view.set]{fullShare} a.view.writes (Elt F) f L) : sProp 𝕄)
      ⊢ (owns (c : Thread nD τ) a fullShare x : sProp 𝕄) := by
  unfold owns
  iintro ⟨%f, H⟩
  iexists _
  isplitr
  swap; · iexact H
  ipureintro; exact h f

/-- at some contents in any case. -/
theorem owns_some (c : Dev nD) {s : Shape} {e : EltTy} (a : Memref sig .tc .vmem s e) (L : List (View.Piece (Elt F) s e)) :
    (iprop(∃ f, a.view.loc (c : Thread nD τ) ↦[a.view.set]{fullShare} a.view.writes (Elt F) f L) : sProp 𝕄)
      ⊢ (iprop(∃ d, owns (c : Thread nD τ) a fullShare d) : sProp 𝕄) := by
  unfold owns
  iintro ⟨%f, H⟩
  iexists _
  iexists _
  isplitr
  swap; · iexact H
  ipureintro; rfl

variable (m : (ℓ : Loc nD τ sig) → Buf (Elt F) ℓ) (ρ : Dev nD → PrngReg)

/-- The windows whose contents are not named. -/
def unnamed (w : Fin 22) : Bool := w.val == 10

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
    | ⟨11, _⟩ => out11 (iblk m c 0 t) (iblk m c 1 t) (iblk m c 2 t) (iblk m c 3 t) (iblk m c 4 t) (iblk m c 5 t) (iblk m c 6 t) (iblk m c 7 t) (iblk m c 8 t) (iblk m c 9 t)
    | ⟨12, _⟩ => out12 (iblk m c 0 t) (iblk m c 1 t) (iblk m c 2 t) (iblk m c 3 t) (iblk m c 4 t) (iblk m c 5 t) (iblk m c 6 t) (iblk m c 7 t) (iblk m c 8 t) (iblk m c 9 t)
    | ⟨13, _⟩ => out13 (iblk m c 0 t) (iblk m c 1 t) (iblk m c 2 t) (iblk m c 3 t) (iblk m c 4 t) (iblk m c 5 t) (iblk m c 6 t) (iblk m c 7 t) (iblk m c 8 t) (iblk m c 9 t)
    | ⟨14, _⟩ => out14 (iblk m c 0 t) (iblk m c 1 t) (iblk m c 2 t) (iblk m c 3 t) (iblk m c 4 t) (iblk m c 5 t) (iblk m c 6 t) (iblk m c 7 t) (iblk m c 8 t) (iblk m c 9 t)
    | ⟨15, _⟩ => out15 (iblk m c 0 t) (iblk m c 1 t) (iblk m c 2 t) (iblk m c 3 t) (iblk m c 4 t) (iblk m c 5 t) (iblk m c 6 t) (iblk m c 7 t) (iblk m c 8 t) (iblk m c 9 t)
    | ⟨16, _⟩ => out16 (iblk m c 0 t) (iblk m c 1 t) (iblk m c 2 t) (iblk m c 3 t) (iblk m c 4 t) (iblk m c 5 t) (iblk m c 6 t) (iblk m c 7 t) (iblk m c 8 t) (iblk m c 9 t)
    | ⟨17, _⟩ => out17 (iblk m c 0 t) (iblk m c 1 t) (iblk m c 2 t) (iblk m c 3 t) (iblk m c 4 t) (iblk m c 5 t) (iblk m c 6 t) (iblk m c 7 t) (iblk m c 8 t) (iblk m c 9 t)
    | ⟨18, _⟩ => out18 (iblk m c 0 t) (iblk m c 1 t) (iblk m c 2 t) (iblk m c 3 t) (iblk m c 4 t) (iblk m c 5 t) (iblk m c 6 t) (iblk m c 7 t) (iblk m c 8 t) (iblk m c 9 t)
    | ⟨19, _⟩ => out19 (iblk m c 0 t) (iblk m c 1 t) (iblk m c 2 t) (iblk m c 3 t) (iblk m c 4 t) (iblk m c 5 t) (iblk m c 6 t) (iblk m c 7 t) (iblk m c 8 t) (iblk m c 9 t)
    | ⟨20, _⟩ => out20 (iblk m c 0 t) (iblk m c 1 t) (iblk m c 2 t) (iblk m c 3 t) (iblk m c 4 t) (iblk m c 5 t) (iblk m c 6 t) (iblk m c 7 t) (iblk m c 8 t) (iblk m c 9 t)
    | ⟨21, _⟩ => out21 (iblk m c 0 t) (iblk m c 1 t) (iblk m c 2 t) (iblk m c 3 t) (iblk m c 4 t) (iblk m c 5 t) (iblk m c 6 t) (iblk m c 7 t) (iblk m c 8 t) (iblk m c 9 t)
    | ⟨_ + 22, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after11 (c : Dev nD) (t : Fin cfg0.N) :
    (dats m 0 c).after 11 t = out11 (iblk m c 0 t) (iblk m c 1 t) (iblk m c 2 t) (iblk m c 3 t) (iblk m c 4 t) (iblk m c 5 t) (iblk m c 6 t) (iblk m c 7 t) (iblk m c 8 t) (iblk m c 9 t) := by
  dsimp only [dats]
theorem after12 (c : Dev nD) (t : Fin cfg0.N) :
    (dats m 0 c).after 12 t = out12 (iblk m c 0 t) (iblk m c 1 t) (iblk m c 2 t) (iblk m c 3 t) (iblk m c 4 t) (iblk m c 5 t) (iblk m c 6 t) (iblk m c 7 t) (iblk m c 8 t) (iblk m c 9 t) := by
  dsimp only [dats]
theorem after13 (c : Dev nD) (t : Fin cfg0.N) :
    (dats m 0 c).after 13 t = out13 (iblk m c 0 t) (iblk m c 1 t) (iblk m c 2 t) (iblk m c 3 t) (iblk m c 4 t) (iblk m c 5 t) (iblk m c 6 t) (iblk m c 7 t) (iblk m c 8 t) (iblk m c 9 t) := by
  dsimp only [dats]
theorem after14 (c : Dev nD) (t : Fin cfg0.N) :
    (dats m 0 c).after 14 t = out14 (iblk m c 0 t) (iblk m c 1 t) (iblk m c 2 t) (iblk m c 3 t) (iblk m c 4 t) (iblk m c 5 t) (iblk m c 6 t) (iblk m c 7 t) (iblk m c 8 t) (iblk m c 9 t) := by
  dsimp only [dats]
theorem after15 (c : Dev nD) (t : Fin cfg0.N) :
    (dats m 0 c).after 15 t = out15 (iblk m c 0 t) (iblk m c 1 t) (iblk m c 2 t) (iblk m c 3 t) (iblk m c 4 t) (iblk m c 5 t) (iblk m c 6 t) (iblk m c 7 t) (iblk m c 8 t) (iblk m c 9 t) := by
  dsimp only [dats]
theorem after16 (c : Dev nD) (t : Fin cfg0.N) :
    (dats m 0 c).after 16 t = out16 (iblk m c 0 t) (iblk m c 1 t) (iblk m c 2 t) (iblk m c 3 t) (iblk m c 4 t) (iblk m c 5 t) (iblk m c 6 t) (iblk m c 7 t) (iblk m c 8 t) (iblk m c 9 t) := by
  dsimp only [dats]
theorem after17 (c : Dev nD) (t : Fin cfg0.N) :
    (dats m 0 c).after 17 t = out17 (iblk m c 0 t) (iblk m c 1 t) (iblk m c 2 t) (iblk m c 3 t) (iblk m c 4 t) (iblk m c 5 t) (iblk m c 6 t) (iblk m c 7 t) (iblk m c 8 t) (iblk m c 9 t) := by
  dsimp only [dats]
theorem after18 (c : Dev nD) (t : Fin cfg0.N) :
    (dats m 0 c).after 18 t = out18 (iblk m c 0 t) (iblk m c 1 t) (iblk m c 2 t) (iblk m c 3 t) (iblk m c 4 t) (iblk m c 5 t) (iblk m c 6 t) (iblk m c 7 t) (iblk m c 8 t) (iblk m c 9 t) := by
  dsimp only [dats]
theorem after19 (c : Dev nD) (t : Fin cfg0.N) :
    (dats m 0 c).after 19 t = out19 (iblk m c 0 t) (iblk m c 1 t) (iblk m c 2 t) (iblk m c 3 t) (iblk m c 4 t) (iblk m c 5 t) (iblk m c 6 t) (iblk m c 7 t) (iblk m c 8 t) (iblk m c 9 t) := by
  dsimp only [dats]
theorem after20 (c : Dev nD) (t : Fin cfg0.N) :
    (dats m 0 c).after 20 t = out20 (iblk m c 0 t) (iblk m c 1 t) (iblk m c 2 t) (iblk m c 3 t) (iblk m c 4 t) (iblk m c 5 t) (iblk m c 6 t) (iblk m c 7 t) (iblk m c 8 t) (iblk m c 9 t) := by
  dsimp only [dats]
theorem after21 (c : Dev nD) (t : Fin cfg0.N) :
    (dats m 0 c).after 21 t = out21 (iblk m c 0 t) (iblk m c 1 t) (iblk m c 2 t) (iblk m c 3 t) (iblk m c 4 t) (iblk m c 5 t) (iblk m c 6 t) (iblk m c 7 t) (iblk m c 8 t) (iblk m c 9 t) := by
  dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare d)
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ (∃ d, owns (c : Thread nD τ) (st0_10 t) fullShare d)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t))

set_option maxHeartbeats 1600000 in
/-- The body at a batch's first tile. -/
theorem sound_A (c : Dev nD) (t : Fin cfg0.N) (h : cond0_0 (grid0.coords t)) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).owesAt () t.succ = (dats m 0 c).owesAt () t.castSucc from rfl,
    after0, after1, after2, after3, after4, after5, after6, after7, after8, after9, after11, after12, after13, after14, after15, after16, after17, after18, after19, after20, after21,
    show (dats m 0 c).Φ t.castSucc = Pipeline.ΦA spec0 c from rfl, show (dats m 0 c).Φ t.succ = Pipeline.ΦA spec0 c from rfl, PhiA0_eq]
  iintro ⟨⟨⟨%s, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply (runA c t h (iblk m c 0 t) (iblk m c 1 t) (iblk m c 2 t) (iblk m c 3 t) (iblk m c 4 t) (iblk m c 5 t) (iblk m c 6 t) (iblk m c 7 t) (iblk m c 8 t) (iblk m c 9 t)).2.2.2.2.2.2.2.2.2.2.2.2.2 Set.univ
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [HS]; · iexists _; iexact HS
  iintro ⟨H0, H1, H2, H3, H4, H5, H6, H7, H8, H9, H10, H11, H12, H13, H14, H15, H16, H17, H18, H19, H20, H21, HS⟩
  isplitl [HS Hg]
  · isplitl [HS]
    · iapply owns_some c _ _
      iexact HS
    iexact Hg
  isplitl [Ho]; · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iapply owns_some c _ _
    iexact H10
  isplitl [H11]
  · iapply owns_writes c (st0_11 t) (runA c t h (iblk m c 0 t) (iblk m c 1 t) (iblk m c 2 t) (iblk m c 3 t) (iblk m c 4 t) (iblk m c 5 t) (iblk m c 6 t) (iblk m c 7 t) (iblk m c 8 t) (iblk m c 9 t)).2.1 _ (fun f => (congrArg (fun L => (st0_11 t).view.read (Elt F) ((st0_11 t).view.writes (Elt F) f L)) (runA_11 (iblk m c 0 t) (iblk m c 1 t) (iblk m c 2 t) (iblk m c 3 t) (iblk m c 4 t) (iblk m c 5 t) (iblk m c 6 t) (iblk m c 7 t) (iblk m c 8 t) (iblk m c 9 t) c t h)).trans (read11 (iblk m c 0 t) (iblk m c 1 t) (iblk m c 2 t) (iblk m c 3 t) (iblk m c 4 t) (iblk m c 5 t) (iblk m c 6 t) (iblk m c 7 t) (iblk m c 8 t) (iblk m c 9 t) (st0_11 t).view f))
    iexact H11
  isplitl [H12]
  · iapply owns_writes c (st0_12 t) (runA c t h (iblk m c 0 t) (iblk m c 1 t) (iblk m c 2 t) (iblk m c 3 t) (iblk m c 4 t) (iblk m c 5 t) (iblk m c 6 t) (iblk m c 7 t) (iblk m c 8 t) (iblk m c 9 t)).2.2.1 _ (fun f => (congrArg (fun L => (st0_12 t).view.read (Elt F) ((st0_12 t).view.writes (Elt F) f L)) (runA_12 (iblk m c 0 t) (iblk m c 1 t) (iblk m c 2 t) (iblk m c 3 t) (iblk m c 4 t) (iblk m c 5 t) (iblk m c 6 t) (iblk m c 7 t) (iblk m c 8 t) (iblk m c 9 t) c t h)).trans (read12 (iblk m c 0 t) (iblk m c 1 t) (iblk m c 2 t) (iblk m c 3 t) (iblk m c 4 t) (iblk m c 5 t) (iblk m c 6 t) (iblk m c 7 t) (iblk m c 8 t) (iblk m c 9 t) (st0_12 t).view f))
    iexact H12
  isplitl [H13]
  · iapply owns_writes c (st0_13 t) (runA c t h (iblk m c 0 t) (iblk m c 1 t) (iblk m c 2 t) (iblk m c 3 t) (iblk m c 4 t) (iblk m c 5 t) (iblk m c 6 t) (iblk m c 7 t) (iblk m c 8 t) (iblk m c 9 t)).2.2.2.1 _ (fun f => (congrArg (fun L => (st0_13 t).view.read (Elt F) ((st0_13 t).view.writes (Elt F) f L)) (runA_13 (iblk m c 0 t) (iblk m c 1 t) (iblk m c 2 t) (iblk m c 3 t) (iblk m c 4 t) (iblk m c 5 t) (iblk m c 6 t) (iblk m c 7 t) (iblk m c 8 t) (iblk m c 9 t) c t h)).trans (read13 (iblk m c 0 t) (iblk m c 1 t) (iblk m c 2 t) (iblk m c 3 t) (iblk m c 4 t) (iblk m c 5 t) (iblk m c 6 t) (iblk m c 7 t) (iblk m c 8 t) (iblk m c 9 t) (st0_13 t).view f))
    iexact H13
  isplitl [H14]
  · iapply owns_writes c (st0_14 t) (runA c t h (iblk m c 0 t) (iblk m c 1 t) (iblk m c 2 t) (iblk m c 3 t) (iblk m c 4 t) (iblk m c 5 t) (iblk m c 6 t) (iblk m c 7 t) (iblk m c 8 t) (iblk m c 9 t)).2.2.2.2.1 _ (fun f => (congrArg (fun L => (st0_14 t).view.read (Elt F) ((st0_14 t).view.writes (Elt F) f L)) (runA_14 (iblk m c 0 t) (iblk m c 1 t) (iblk m c 2 t) (iblk m c 3 t) (iblk m c 4 t) (iblk m c 5 t) (iblk m c 6 t) (iblk m c 7 t) (iblk m c 8 t) (iblk m c 9 t) c t h)).trans (read14 (iblk m c 0 t) (iblk m c 1 t) (iblk m c 2 t) (iblk m c 3 t) (iblk m c 4 t) (iblk m c 5 t) (iblk m c 6 t) (iblk m c 7 t) (iblk m c 8 t) (iblk m c 9 t) (st0_14 t).view f))
    iexact H14
  isplitl [H15]
  · iapply owns_writes c (st0_15 t) (runA c t h (iblk m c 0 t) (iblk m c 1 t) (iblk m c 2 t) (iblk m c 3 t) (iblk m c 4 t) (iblk m c 5 t) (iblk m c 6 t) (iblk m c 7 t) (iblk m c 8 t) (iblk m c 9 t)).2.2.2.2.2.1 _ (fun f => (congrArg (fun L => (st0_15 t).view.read (Elt F) ((st0_15 t).view.writes (Elt F) f L)) (runA_15 (iblk m c 0 t) (iblk m c 1 t) (iblk m c 2 t) (iblk m c 3 t) (iblk m c 4 t) (iblk m c 5 t) (iblk m c 6 t) (iblk m c 7 t) (iblk m c 8 t) (iblk m c 9 t) c t h)).trans (read15 (iblk m c 0 t) (iblk m c 1 t) (iblk m c 2 t) (iblk m c 3 t) (iblk m c 4 t) (iblk m c 5 t) (iblk m c 6 t) (iblk m c 7 t) (iblk m c 8 t) (iblk m c 9 t) (st0_15 t).view f))
    iexact H15
  isplitl [H16]
  · iapply owns_writes c (st0_16 t) (runA c t h (iblk m c 0 t) (iblk m c 1 t) (iblk m c 2 t) (iblk m c 3 t) (iblk m c 4 t) (iblk m c 5 t) (iblk m c 6 t) (iblk m c 7 t) (iblk m c 8 t) (iblk m c 9 t)).2.2.2.2.2.2.1 _ (fun f => (congrArg (fun L => (st0_16 t).view.read (Elt F) ((st0_16 t).view.writes (Elt F) f L)) (runA_16 (iblk m c 0 t) (iblk m c 1 t) (iblk m c 2 t) (iblk m c 3 t) (iblk m c 4 t) (iblk m c 5 t) (iblk m c 6 t) (iblk m c 7 t) (iblk m c 8 t) (iblk m c 9 t) c t h)).trans (read16 (iblk m c 0 t) (iblk m c 1 t) (iblk m c 2 t) (iblk m c 3 t) (iblk m c 4 t) (iblk m c 5 t) (iblk m c 6 t) (iblk m c 7 t) (iblk m c 8 t) (iblk m c 9 t) (st0_16 t).view f))
    iexact H16
  isplitl [H17]
  · iapply owns_writes c (st0_17 t) (runA c t h (iblk m c 0 t) (iblk m c 1 t) (iblk m c 2 t) (iblk m c 3 t) (iblk m c 4 t) (iblk m c 5 t) (iblk m c 6 t) (iblk m c 7 t) (iblk m c 8 t) (iblk m c 9 t)).2.2.2.2.2.2.2.1 _ (fun f => (congrArg (fun L => (st0_17 t).view.read (Elt F) ((st0_17 t).view.writes (Elt F) f L)) (runA_17 (iblk m c 0 t) (iblk m c 1 t) (iblk m c 2 t) (iblk m c 3 t) (iblk m c 4 t) (iblk m c 5 t) (iblk m c 6 t) (iblk m c 7 t) (iblk m c 8 t) (iblk m c 9 t) c t h)).trans (read17 (iblk m c 0 t) (iblk m c 1 t) (iblk m c 2 t) (iblk m c 3 t) (iblk m c 4 t) (iblk m c 5 t) (iblk m c 6 t) (iblk m c 7 t) (iblk m c 8 t) (iblk m c 9 t) (st0_17 t).view f))
    iexact H17
  isplitl [H18]
  · iapply owns_writes c (st0_18 t) (runA c t h (iblk m c 0 t) (iblk m c 1 t) (iblk m c 2 t) (iblk m c 3 t) (iblk m c 4 t) (iblk m c 5 t) (iblk m c 6 t) (iblk m c 7 t) (iblk m c 8 t) (iblk m c 9 t)).2.2.2.2.2.2.2.2.1 _ (fun f => (congrArg (fun L => (st0_18 t).view.read (Elt F) ((st0_18 t).view.writes (Elt F) f L)) (runA_18 (iblk m c 0 t) (iblk m c 1 t) (iblk m c 2 t) (iblk m c 3 t) (iblk m c 4 t) (iblk m c 5 t) (iblk m c 6 t) (iblk m c 7 t) (iblk m c 8 t) (iblk m c 9 t) c t h)).trans (read18 (iblk m c 0 t) (iblk m c 1 t) (iblk m c 2 t) (iblk m c 3 t) (iblk m c 4 t) (iblk m c 5 t) (iblk m c 6 t) (iblk m c 7 t) (iblk m c 8 t) (iblk m c 9 t) (st0_18 t).view f))
    iexact H18
  isplitl [H19]
  · iapply owns_writes c (st0_19 t) (runA c t h (iblk m c 0 t) (iblk m c 1 t) (iblk m c 2 t) (iblk m c 3 t) (iblk m c 4 t) (iblk m c 5 t) (iblk m c 6 t) (iblk m c 7 t) (iblk m c 8 t) (iblk m c 9 t)).2.2.2.2.2.2.2.2.2.1 _ (fun f => (congrArg (fun L => (st0_19 t).view.read (Elt F) ((st0_19 t).view.writes (Elt F) f L)) (runA_19 (iblk m c 0 t) (iblk m c 1 t) (iblk m c 2 t) (iblk m c 3 t) (iblk m c 4 t) (iblk m c 5 t) (iblk m c 6 t) (iblk m c 7 t) (iblk m c 8 t) (iblk m c 9 t) c t h)).trans (read19 (iblk m c 0 t) (iblk m c 1 t) (iblk m c 2 t) (iblk m c 3 t) (iblk m c 4 t) (iblk m c 5 t) (iblk m c 6 t) (iblk m c 7 t) (iblk m c 8 t) (iblk m c 9 t) (st0_19 t).view f))
    iexact H19
  isplitl [H20]
  · iapply owns_writes c (st0_20 t) (runA c t h (iblk m c 0 t) (iblk m c 1 t) (iblk m c 2 t) (iblk m c 3 t) (iblk m c 4 t) (iblk m c 5 t) (iblk m c 6 t) (iblk m c 7 t) (iblk m c 8 t) (iblk m c 9 t)).2.2.2.2.2.2.2.2.2.2.1 _ (fun f => (congrArg (fun L => (st0_20 t).view.read (Elt F) ((st0_20 t).view.writes (Elt F) f L)) (runA_20 (iblk m c 0 t) (iblk m c 1 t) (iblk m c 2 t) (iblk m c 3 t) (iblk m c 4 t) (iblk m c 5 t) (iblk m c 6 t) (iblk m c 7 t) (iblk m c 8 t) (iblk m c 9 t) c t h)).trans (read20 (iblk m c 0 t) (iblk m c 1 t) (iblk m c 2 t) (iblk m c 3 t) (iblk m c 4 t) (iblk m c 5 t) (iblk m c 6 t) (iblk m c 7 t) (iblk m c 8 t) (iblk m c 9 t) (st0_20 t).view f))
    iexact H20
  iapply owns_writes c (st0_21 t) (runA c t h (iblk m c 0 t) (iblk m c 1 t) (iblk m c 2 t) (iblk m c 3 t) (iblk m c 4 t) (iblk m c 5 t) (iblk m c 6 t) (iblk m c 7 t) (iblk m c 8 t) (iblk m c 9 t)).2.2.2.2.2.2.2.2.2.2.2.1 _ (fun f => (congrArg (fun L => (st0_21 t).view.read (Elt F) ((st0_21 t).view.writes (Elt F) f L)) (runA_21 (iblk m c 0 t) (iblk m c 1 t) (iblk m c 2 t) (iblk m c 3 t) (iblk m c 4 t) (iblk m c 5 t) (iblk m c 6 t) (iblk m c 7 t) (iblk m c 8 t) (iblk m c 9 t) c t h)).trans (read21 (iblk m c 0 t) (iblk m c 1 t) (iblk m c 2 t) (iblk m c 3 t) (iblk m c 4 t) (iblk m c 5 t) (iblk m c 6 t) (iblk m c 7 t) (iblk m c 8 t) (iblk m c 9 t) (st0_21 t).view f))
  iexact H21

set_option maxHeartbeats 1600000 in
/-- The body at a later tile. -/
theorem sound_B (c : Dev nD) (t : Fin cfg0.N) (h : ¬ cond0_0 (grid0.coords t)) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).owesAt () t.succ = (dats m 0 c).owesAt () t.castSucc from rfl,
    after0, after1, after2, after3, after4, after5, after6, after7, after8, after9, after11, after12, after13, after14, after15, after16, after17, after18, after19, after20, after21,
    show (dats m 0 c).Φ t.castSucc = Pipeline.ΦA spec0 c from rfl, show (dats m 0 c).Φ t.succ = Pipeline.ΦA spec0 c from rfl, PhiA0_eq]
  iintro ⟨⟨⟨%s, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply (runB c t h (iblk m c 0 t) (iblk m c 1 t) (iblk m c 2 t) (iblk m c 3 t) (iblk m c 4 t) (iblk m c 5 t) (iblk m c 6 t) (iblk m c 7 t) (iblk m c 8 t) (iblk m c 9 t) s).2.2.2.2.2.2.2.2.2.2.2.2.2 Set.univ
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [HS]; · iexact HS
  iintro ⟨H0, H1, H2, H3, H4, H5, H6, H7, H8, H9, H10, H11, H12, H13, H14, H15, H16, H17, H18, H19, H20, H21, HS⟩
  isplitl [HS Hg]
  · isplitl [HS]
    · iapply owns_some c _ _
      iexact HS
    iexact Hg
  isplitl [Ho]; · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iapply owns_some c _ _
    iexact H10
  isplitl [H11]
  · iapply owns_writes c (st0_11 t) (runB c t h (iblk m c 0 t) (iblk m c 1 t) (iblk m c 2 t) (iblk m c 3 t) (iblk m c 4 t) (iblk m c 5 t) (iblk m c 6 t) (iblk m c 7 t) (iblk m c 8 t) (iblk m c 9 t) s).2.1 _ (fun f => (congrArg (fun L => (st0_11 t).view.read (Elt F) ((st0_11 t).view.writes (Elt F) f L)) (runB_11 (iblk m c 0 t) (iblk m c 1 t) (iblk m c 2 t) (iblk m c 3 t) (iblk m c 4 t) (iblk m c 5 t) (iblk m c 6 t) (iblk m c 7 t) (iblk m c 8 t) (iblk m c 9 t) c t h s)).trans (read11 (iblk m c 0 t) (iblk m c 1 t) (iblk m c 2 t) (iblk m c 3 t) (iblk m c 4 t) (iblk m c 5 t) (iblk m c 6 t) (iblk m c 7 t) (iblk m c 8 t) (iblk m c 9 t) (st0_11 t).view f))
    iexact H11
  isplitl [H12]
  · iapply owns_writes c (st0_12 t) (runB c t h (iblk m c 0 t) (iblk m c 1 t) (iblk m c 2 t) (iblk m c 3 t) (iblk m c 4 t) (iblk m c 5 t) (iblk m c 6 t) (iblk m c 7 t) (iblk m c 8 t) (iblk m c 9 t) s).2.2.1 _ (fun f => (congrArg (fun L => (st0_12 t).view.read (Elt F) ((st0_12 t).view.writes (Elt F) f L)) (runB_12 (iblk m c 0 t) (iblk m c 1 t) (iblk m c 2 t) (iblk m c 3 t) (iblk m c 4 t) (iblk m c 5 t) (iblk m c 6 t) (iblk m c 7 t) (iblk m c 8 t) (iblk m c 9 t) c t h s)).trans (read12 (iblk m c 0 t) (iblk m c 1 t) (iblk m c 2 t) (iblk m c 3 t) (iblk m c 4 t) (iblk m c 5 t) (iblk m c 6 t) (iblk m c 7 t) (iblk m c 8 t) (iblk m c 9 t) (st0_12 t).view f))
    iexact H12
  isplitl [H13]
  · iapply owns_writes c (st0_13 t) (runB c t h (iblk m c 0 t) (iblk m c 1 t) (iblk m c 2 t) (iblk m c 3 t) (iblk m c 4 t) (iblk m c 5 t) (iblk m c 6 t) (iblk m c 7 t) (iblk m c 8 t) (iblk m c 9 t) s).2.2.2.1 _ (fun f => (congrArg (fun L => (st0_13 t).view.read (Elt F) ((st0_13 t).view.writes (Elt F) f L)) (runB_13 (iblk m c 0 t) (iblk m c 1 t) (iblk m c 2 t) (iblk m c 3 t) (iblk m c 4 t) (iblk m c 5 t) (iblk m c 6 t) (iblk m c 7 t) (iblk m c 8 t) (iblk m c 9 t) c t h s)).trans (read13 (iblk m c 0 t) (iblk m c 1 t) (iblk m c 2 t) (iblk m c 3 t) (iblk m c 4 t) (iblk m c 5 t) (iblk m c 6 t) (iblk m c 7 t) (iblk m c 8 t) (iblk m c 9 t) (st0_13 t).view f))
    iexact H13
  isplitl [H14]
  · iapply owns_writes c (st0_14 t) (runB c t h (iblk m c 0 t) (iblk m c 1 t) (iblk m c 2 t) (iblk m c 3 t) (iblk m c 4 t) (iblk m c 5 t) (iblk m c 6 t) (iblk m c 7 t) (iblk m c 8 t) (iblk m c 9 t) s).2.2.2.2.1 _ (fun f => (congrArg (fun L => (st0_14 t).view.read (Elt F) ((st0_14 t).view.writes (Elt F) f L)) (runB_14 (iblk m c 0 t) (iblk m c 1 t) (iblk m c 2 t) (iblk m c 3 t) (iblk m c 4 t) (iblk m c 5 t) (iblk m c 6 t) (iblk m c 7 t) (iblk m c 8 t) (iblk m c 9 t) c t h s)).trans (read14 (iblk m c 0 t) (iblk m c 1 t) (iblk m c 2 t) (iblk m c 3 t) (iblk m c 4 t) (iblk m c 5 t) (iblk m c 6 t) (iblk m c 7 t) (iblk m c 8 t) (iblk m c 9 t) (st0_14 t).view f))
    iexact H14
  isplitl [H15]
  · iapply owns_writes c (st0_15 t) (runB c t h (iblk m c 0 t) (iblk m c 1 t) (iblk m c 2 t) (iblk m c 3 t) (iblk m c 4 t) (iblk m c 5 t) (iblk m c 6 t) (iblk m c 7 t) (iblk m c 8 t) (iblk m c 9 t) s).2.2.2.2.2.1 _ (fun f => (congrArg (fun L => (st0_15 t).view.read (Elt F) ((st0_15 t).view.writes (Elt F) f L)) (runB_15 (iblk m c 0 t) (iblk m c 1 t) (iblk m c 2 t) (iblk m c 3 t) (iblk m c 4 t) (iblk m c 5 t) (iblk m c 6 t) (iblk m c 7 t) (iblk m c 8 t) (iblk m c 9 t) c t h s)).trans (read15 (iblk m c 0 t) (iblk m c 1 t) (iblk m c 2 t) (iblk m c 3 t) (iblk m c 4 t) (iblk m c 5 t) (iblk m c 6 t) (iblk m c 7 t) (iblk m c 8 t) (iblk m c 9 t) (st0_15 t).view f))
    iexact H15
  isplitl [H16]
  · iapply owns_writes c (st0_16 t) (runB c t h (iblk m c 0 t) (iblk m c 1 t) (iblk m c 2 t) (iblk m c 3 t) (iblk m c 4 t) (iblk m c 5 t) (iblk m c 6 t) (iblk m c 7 t) (iblk m c 8 t) (iblk m c 9 t) s).2.2.2.2.2.2.1 _ (fun f => (congrArg (fun L => (st0_16 t).view.read (Elt F) ((st0_16 t).view.writes (Elt F) f L)) (runB_16 (iblk m c 0 t) (iblk m c 1 t) (iblk m c 2 t) (iblk m c 3 t) (iblk m c 4 t) (iblk m c 5 t) (iblk m c 6 t) (iblk m c 7 t) (iblk m c 8 t) (iblk m c 9 t) c t h s)).trans (read16 (iblk m c 0 t) (iblk m c 1 t) (iblk m c 2 t) (iblk m c 3 t) (iblk m c 4 t) (iblk m c 5 t) (iblk m c 6 t) (iblk m c 7 t) (iblk m c 8 t) (iblk m c 9 t) (st0_16 t).view f))
    iexact H16
  isplitl [H17]
  · iapply owns_writes c (st0_17 t) (runB c t h (iblk m c 0 t) (iblk m c 1 t) (iblk m c 2 t) (iblk m c 3 t) (iblk m c 4 t) (iblk m c 5 t) (iblk m c 6 t) (iblk m c 7 t) (iblk m c 8 t) (iblk m c 9 t) s).2.2.2.2.2.2.2.1 _ (fun f => (congrArg (fun L => (st0_17 t).view.read (Elt F) ((st0_17 t).view.writes (Elt F) f L)) (runB_17 (iblk m c 0 t) (iblk m c 1 t) (iblk m c 2 t) (iblk m c 3 t) (iblk m c 4 t) (iblk m c 5 t) (iblk m c 6 t) (iblk m c 7 t) (iblk m c 8 t) (iblk m c 9 t) c t h s)).trans (read17 (iblk m c 0 t) (iblk m c 1 t) (iblk m c 2 t) (iblk m c 3 t) (iblk m c 4 t) (iblk m c 5 t) (iblk m c 6 t) (iblk m c 7 t) (iblk m c 8 t) (iblk m c 9 t) (st0_17 t).view f))
    iexact H17
  isplitl [H18]
  · iapply owns_writes c (st0_18 t) (runB c t h (iblk m c 0 t) (iblk m c 1 t) (iblk m c 2 t) (iblk m c 3 t) (iblk m c 4 t) (iblk m c 5 t) (iblk m c 6 t) (iblk m c 7 t) (iblk m c 8 t) (iblk m c 9 t) s).2.2.2.2.2.2.2.2.1 _ (fun f => (congrArg (fun L => (st0_18 t).view.read (Elt F) ((st0_18 t).view.writes (Elt F) f L)) (runB_18 (iblk m c 0 t) (iblk m c 1 t) (iblk m c 2 t) (iblk m c 3 t) (iblk m c 4 t) (iblk m c 5 t) (iblk m c 6 t) (iblk m c 7 t) (iblk m c 8 t) (iblk m c 9 t) c t h s)).trans (read18 (iblk m c 0 t) (iblk m c 1 t) (iblk m c 2 t) (iblk m c 3 t) (iblk m c 4 t) (iblk m c 5 t) (iblk m c 6 t) (iblk m c 7 t) (iblk m c 8 t) (iblk m c 9 t) (st0_18 t).view f))
    iexact H18
  isplitl [H19]
  · iapply owns_writes c (st0_19 t) (runB c t h (iblk m c 0 t) (iblk m c 1 t) (iblk m c 2 t) (iblk m c 3 t) (iblk m c 4 t) (iblk m c 5 t) (iblk m c 6 t) (iblk m c 7 t) (iblk m c 8 t) (iblk m c 9 t) s).2.2.2.2.2.2.2.2.2.1 _ (fun f => (congrArg (fun L => (st0_19 t).view.read (Elt F) ((st0_19 t).view.writes (Elt F) f L)) (runB_19 (iblk m c 0 t) (iblk m c 1 t) (iblk m c 2 t) (iblk m c 3 t) (iblk m c 4 t) (iblk m c 5 t) (iblk m c 6 t) (iblk m c 7 t) (iblk m c 8 t) (iblk m c 9 t) c t h s)).trans (read19 (iblk m c 0 t) (iblk m c 1 t) (iblk m c 2 t) (iblk m c 3 t) (iblk m c 4 t) (iblk m c 5 t) (iblk m c 6 t) (iblk m c 7 t) (iblk m c 8 t) (iblk m c 9 t) (st0_19 t).view f))
    iexact H19
  isplitl [H20]
  · iapply owns_writes c (st0_20 t) (runB c t h (iblk m c 0 t) (iblk m c 1 t) (iblk m c 2 t) (iblk m c 3 t) (iblk m c 4 t) (iblk m c 5 t) (iblk m c 6 t) (iblk m c 7 t) (iblk m c 8 t) (iblk m c 9 t) s).2.2.2.2.2.2.2.2.2.2.1 _ (fun f => (congrArg (fun L => (st0_20 t).view.read (Elt F) ((st0_20 t).view.writes (Elt F) f L)) (runB_20 (iblk m c 0 t) (iblk m c 1 t) (iblk m c 2 t) (iblk m c 3 t) (iblk m c 4 t) (iblk m c 5 t) (iblk m c 6 t) (iblk m c 7 t) (iblk m c 8 t) (iblk m c 9 t) c t h s)).trans (read20 (iblk m c 0 t) (iblk m c 1 t) (iblk m c 2 t) (iblk m c 3 t) (iblk m c 4 t) (iblk m c 5 t) (iblk m c 6 t) (iblk m c 7 t) (iblk m c 8 t) (iblk m c 9 t) (st0_20 t).view f))
    iexact H20
  iapply owns_writes c (st0_21 t) (runB c t h (iblk m c 0 t) (iblk m c 1 t) (iblk m c 2 t) (iblk m c 3 t) (iblk m c 4 t) (iblk m c 5 t) (iblk m c 6 t) (iblk m c 7 t) (iblk m c 8 t) (iblk m c 9 t) s).2.2.2.2.2.2.2.2.2.2.2.1 _ (fun f => (congrArg (fun L => (st0_21 t).view.read (Elt F) ((st0_21 t).view.writes (Elt F) f L)) (runB_21 (iblk m c 0 t) (iblk m c 1 t) (iblk m c 2 t) (iblk m c 3 t) (iblk m c 4 t) (iblk m c 5 t) (iblk m c 6 t) (iblk m c 7 t) (iblk m c 8 t) (iblk m c 9 t) c t h s)).trans (read21 (iblk m c 0 t) (iblk m c 1 t) (iblk m c 2 t) (iblk m c 3 t) (iblk m c 4 t) (iblk m c 5 t) (iblk m c 6 t) (iblk m c 7 t) (iblk m c 8 t) (iblk m c 9 t) (st0_21 t).view f))
  iexact H21

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h : cond0_0 (grid0.coords t)
  · exact sound_A m c t h
  · exact sound_B m c t h

theorem defs₀_row (t : Fin cfg0.N) :
    defs₀ (F := F) .tc cfg0.body (cfg0.bodyArgs t (cfg0.slots t)) = bodyAt0 t := by
  unfold defs₀; rw [Defs.onTc_tc]

set_option maxHeartbeats 2000000 in
theorem body_obligation (c : Dev nD) : BodyObligation (dats (F := F) m 0 c) (defs₀ (F := F)) Variants.none () Set.univ unnamed := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = Pipeline.ΦA spec0 c from rfl]

-- the launch theorem's implicit arguments are found by unfolding plain definitions in a metavariable's type
set_option backward.isDefEq.respectTransparency.types false in
/-- THE RUN: every array of the pipeline ends at what the proof data say, every counter at zero. -/
theorem run_counters : θ_run defs (onTc (τ := τ) (main (F := F))) (s₀ m ρ) (fun r => (Pipeline.RDat.FramePost (cfgs 0) (fun c => (dats m 0 c).toRForget unnamed) (V m)) r ∧ r.2.sem = fun _ => 0) :=
  Pipeline.θ_run_frame_track_forget (Q' := _) cfgs (dats m) (0 : Fin 1) launch0 defs₀ Variants.none unnamed m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_post : θ_run defs (onTc (τ := τ) (main (F := F))) (s₀ m ρ) (Pipeline.RDat.FramePost (cfgs 0) (fun c => (dats m 0 c).toRForget unnamed) (V m)) :=
  (θ_run defs _ _).mono (fun _ h => h.1) (run_counters m ρ)

/-- An argument's array ends as the region found it. -/
theorem kept (c : Dev nD) (w : Fin cfg0.W) (hi : (cfg0.win w).isOut = false) {r : PUnit × MemSt nD τ sig (Elt F)}
    (h : Pipeline.RDat.FramePost (cfgs 0) (fun c => (dats m 0 c).toRForget unnamed) (V m) r) :
    r.2.mem ((cfg0.spec w).arr.view.loc (c.tc : Thread nD τ)) = V m c (Pipeline.arrRef spec0 w) :=
  (Pipeline.RDat.FramePost.arr_in h c w hi).trans (A_eq m c w)

/-- THE FRAME: the argument arrays end unchanged, every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and ((θ_run defs _ _).mono (fun _ h c => ⟨(kept m c 0 rfl h).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      (kept m c 8 rfl h).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) (run_post m ρ))
      ((θ_run defs _ _).mono (fun _ h => h.2) (run_counters m ρ))

end Cert.Kernel2Ideal.Body

end
-- ==== Proof.QBlk.lean ====
/-
  The arrays the host builds for the projection's launch, entry by entry, and what each grid point's blocks hold.
-/
module

public import proofs.«01_k».proof.Proof.QPay
public import proofs.«01_k».proof.Proof.QLaunch
public import proofs.«01_k».proof.Proof.Floor
public import Idealize.ShloMosaic.Lib.Pointwise

@[expose] public section

set_option maxRecDepth 16384

noncomputable section

namespace Cert.Kernel2Ideal.Body

open Cert.Kernel2Ideal Cert.Kernel2Ideal.Gen Cert.Proj Cert.Layer
open Idealize.ShloMosaic Idealize.ShloMosaic.TcCoe Idealize.ShloMosaic.Tactic

variable (m : (ℓ : Loc nD τ sig) → Buf (Elt Ideal) ℓ) (c : Dev nD)

/-- The arrays of the projection, as the program is given them. -/
def ins : Ins where
  x b t k := (m ((c : Thread nD τ).loc main_arg0) : Vec Ideal S4x8192x1024 .f32) (ix3 b t k)
  g k := (m ((c : Thread nD τ).loc main_arg1) : Vec Ideal S1024 .f32) (ix1 k)
  w k j := (m ((c : Thread nD τ).loc main_arg2) : Vec Ideal S1024x3864 .f32) (ix2 k j)
  cw i k := (m ((c : Thread nD τ).loc main_arg3) : Vec Ideal S3x512 .f32) (ix2 i k)
  cb k := (m ((c : Thread nD τ).loc main_arg4) : Vec Ideal S512 .f32) (ix1 k)
  qg d := (m ((c : Thread nD τ).loc main_arg5) : Vec Ideal S64 .f32) (ix1 d)
  kg i d := (m ((c : Thread nD τ).loc main_arg6) : Vec Ideal S3x64 .f32) (ix2 i d)

/-- Two lanes' heads, as the host computes them, compared. -/
theorem ones_word (a x : Fin 512) :
    (FloatOps.uitofp (F := Ideal) .bf16 (IntOp.cmpi .eq (floorWord (BitVec.ofNat 32 a.val)) (floorWord (BitVec.ofNat 32 x.val))) : EReal)
      = if a.val / 64 = x.val / 64 then 1 else 0 := by
  have ha := a.isLt
  have hx := x.isLt
  rw [floorWord_all ⟨a.val, by omega⟩, floorWord_all ⟨x.val, by omega⟩]
  dsimp only
  have key : IntOp.cmpi .eq (BitVec.ofNat 32 (a.val / 64)) (BitVec.ofNat 32 (x.val / 64)) = 1#1 ↔ a.val / 64 = x.val / 64 := eq_word (by omega) (by omega)
  generalize IntOp.cmpi .eq (BitVec.ofNat 32 (a.val / 64)) (BitVec.ofNat 32 (x.val / 64)) = w at key ⊢
  have two : w = 0#1 ∨ w = 1#1 := (by decide : ∀ w : BitVec 1, w = 0#1 ∨ w = 1#1) w
  by_cases h : a.val / 64 = x.val / 64
  · rw [if_pos h, key.2 h]
    show ((((1#1 : BitVec 1).toNat : ℝ)) : EReal) = 1
    simp
  · rw [if_neg h, two.resolve_right (fun e => h (key.1 e))]
    show ((((0#1 : BitVec 1).toNat : ℝ)) : EReal) = 0
    simp

/-- The matrix of zeros and ones, -/
theorem V8 (a x : Fin 512) : (V m c main_v8 : Vec Ideal S512x512 .bf16) (ix2 a x) = (if a.val / 64 = x.val / 64 then 1 else 0 : EReal) := by
  unfold V
  simp only [hostOps0, hostOps0_1, hostOps0_2, List.flatten_cons, List.flatten_nil, List.cons_append, List.nil_append]
  after_results_simp
  simp only [StableHlo.TRef.ofBuf_toBuf, StableHlo.TRef.toBuf, StableHlo.TRef.ofBuf, cast_cast, cast_eq, id]
  exact ones_word a x

/-- the gain of the rows, -/
theorem V9 (k : Fin 1024) : (V m c main_v9 : Vec Ideal S1x1024 .f32) (ix2 0 k) = (ins m c).g k := by
  unfold V
  simp only [hostOps0, hostOps0_1, hostOps0_2, List.flatten_cons, List.flatten_nil, List.cons_append, List.nil_append]
  after_results_simp
  pointwise []
  rfl

/-- the weights, padded, -/
theorem V10 (k : Fin 1024) (j : Fin 3968) : (V m c main_v10 : Vec Ideal S1024x3968 .bf16) (ix2 k j) = (ins m c).wp k j := by
  unfold V
  simp only [hostOps0, hostOps0_1, hostOps0_2, List.flatten_cons, List.flatten_nil, List.cons_append, List.nil_append]
  after_results_simp
  dsimp only [Matrix.cons_val]
  pointwise []
  after_results_simp
  pointwise []
  unfold Ins.wp
  by_cases h : j.val < 3352
  · rw [dif_pos h, dif_pos h]
    rfl
  · rw [dif_neg h, dif_neg h]
    by_cases h' : j.val < 3456
    · rw [dif_pos (by omega), dif_pos h']
    · rw [dif_neg (by omega), dif_neg h']
      exact congrArg (fun q => (ins m c).w k q) (Fin.ext (by show 3352 + (j.val - 3352 - 104) = j.val - 104; omega))

/-- the convolution's bias, -/
theorem V11 (k : Fin 512) : (V m c main_v11 : Vec Ideal S1x512 .f32) (ix2 0 k) = (ins m c).cb k := by
  unfold V
  simp only [hostOps0, hostOps0_1, hostOps0_2, List.flatten_cons, List.flatten_nil, List.cons_append, List.nil_append]
  after_results_simp
  pointwise []
  rfl

/-- the queries' gain with the scale, -/
theorem V17 (k : Fin 512) : (V m c main_v17 : Vec Ideal S1x512 .f32) (ix2 0 k) = (ins m c).qg ⟨k.val % 64, by omega⟩ * Ideal.ofBits .f32 1040187392#32 := by
  unfold V
  simp only [hostOps0, hostOps0_1, hostOps0_2, List.flatten_cons, List.flatten_nil, List.cons_append, List.nil_append]
  after_results_simp
  pointwise []
  rfl

/-- the keys' gains, -/
theorem V20 (i : Fin 3) (k : Fin 128) : (V m c main_v20 : Vec Ideal S3x128 .f32) (ix2 i k) = (ins m c).kg i ⟨k.val % 64, by omega⟩ := by
  unfold V
  simp only [hostOps0, hostOps0_1, hostOps0_2, List.flatten_cons, List.flatten_nil, List.cons_append, List.nil_append]
  after_results_simp
  pointwise []
  rfl

/-- the cosines, -/
theorem V38 (t : Fin 8192) (l : Fin 128) : (V m c main_v38 : Vec Ideal S8192x128 .f32) (ix2 t l) = Ideal.cos (ang t.val (l.val % 32)) := by
  unfold V
  simp only [hostOps0, hostOps0_1, hostOps0_2, List.flatten_cons, List.flatten_nil, List.cons_append, List.nil_append]
  after_results_simp
  pointwise []
  rfl

/-- and the sines, signed. -/
theorem V43 (t : Fin 8192) (l : Fin 128) : (V m c main_v43 : Vec Ideal S8192x128 .f32) (ix2 t l)
    = if l.val % 64 < 32 then -Ideal.sin (ang t.val (l.val % 32)) else Ideal.sin (ang t.val (l.val % 32)) := by
  unfold V
  simp only [hostOps0, hostOps0_1, hostOps0_2, List.flatten_cons, List.flatten_nil, List.cons_append, List.nil_append]
  after_results_simp
  pointwise []
  after_results_simp
  pointwise []
  by_cases h : l.val % 64 < 32
  · rw [dif_pos h, if_pos h, show l.val % 64 = l.val % 32 from by omega]
    rfl
  · rw [dif_neg h, if_neg h, show l.val % 64 - 32 = l.val % 32 from by omega]
    rfl

/-- The batch of a grid point, -/
abbrev bt (t : Fin cfg0.N) : Fin 4 := ⟨t.val / 16, by have : t.val < 64 := lt_of_lt_of_eq t.isLt (show cfg0.N = 64 from N_0); omega⟩
/-- and the row of the sequence its block's row `r` is. -/
abbrev rw0 (t : Fin cfg0.N) (r : Fin 512) : Fin 8192 := ⟨t.val % 16 * 512 + r.val, by omega⟩

theorem idx0 : ∀ t : Fin cfg0.N, win0_0.index t = ![t.val / 16, t.val % 16, 0] :=
  (by decide +kernel : ∀ t : Fin grid0.N, _)
theorem idx1 : ∀ t : Fin cfg0.N, win0_1.index t = ![0, 0] :=
  (by decide +kernel : ∀ t : Fin grid0.N, _)
theorem idx2 : ∀ t : Fin cfg0.N, win0_2.index t = ![0, 0] :=
  (by decide +kernel : ∀ t : Fin grid0.N, _)
theorem idx3 : ∀ t : Fin cfg0.N, win0_3.index t = ![t.val % 16, 0] :=
  (by decide +kernel : ∀ t : Fin grid0.N, _)
theorem idx4 : ∀ t : Fin cfg0.N, win0_4.index t = ![t.val % 16, 0] :=
  (by decide +kernel : ∀ t : Fin grid0.N, _)
theorem idx5 : ∀ t : Fin cfg0.N, win0_5.index t = ![0, 0] :=
  (by decide +kernel : ∀ t : Fin grid0.N, _)
theorem idx6 : ∀ t : Fin cfg0.N, win0_6.index t = ![0, 0] :=
  (by decide +kernel : ∀ t : Fin grid0.N, _)
theorem idx7 : ∀ t : Fin cfg0.N, win0_7.index t = ![0, 0] :=
  (by decide +kernel : ∀ t : Fin grid0.N, _)
theorem idx8 : ∀ t : Fin cfg0.N, win0_8.index t = ![0, 0] :=
  (by decide +kernel : ∀ t : Fin grid0.N, _)
theorem idx9 : ∀ t : Fin cfg0.N, win0_9.index t = ![0, 0] :=
  (by decide +kernel : ∀ t : Fin grid0.N, _)
theorem idx11 : ∀ t : Fin cfg0.N, win0_11.index t = ![t.val / 16, t.val % 16, 0] :=
  (by decide +kernel : ∀ t : Fin grid0.N, _)
theorem idx12 : ∀ t : Fin cfg0.N, win0_12.index t = ![t.val / 16, 0, t.val % 16, 0] :=
  (by decide +kernel : ∀ t : Fin grid0.N, _)
theorem idx13 : ∀ t : Fin cfg0.N, win0_13.index t = ![t.val / 16, t.val % 16, 0] :=
  (by decide +kernel : ∀ t : Fin grid0.N, _)
theorem idx14 : ∀ t : Fin cfg0.N, win0_14.index t = ![t.val / 16, t.val % 16, 0] :=
  (by decide +kernel : ∀ t : Fin grid0.N, _)
theorem idx15 : ∀ t : Fin cfg0.N, win0_15.index t = ![t.val / 16, t.val % 16, 0] :=
  (by decide +kernel : ∀ t : Fin grid0.N, _)
theorem idx16 : ∀ t : Fin cfg0.N, win0_16.index t = ![t.val / 16, t.val % 16, 0] :=
  (by decide +kernel : ∀ t : Fin grid0.N, _)
theorem idx17 : ∀ t : Fin cfg0.N, win0_17.index t = ![t.val / 16, 0, t.val % 16] :=
  (by decide +kernel : ∀ t : Fin grid0.N, _)
theorem idx18 : ∀ t : Fin cfg0.N, win0_18.index t = ![t.val / 16, 0, t.val % 16] :=
  (by decide +kernel : ∀ t : Fin grid0.N, _)
theorem idx19 : ∀ t : Fin cfg0.N, win0_19.index t = ![t.val / 16, t.val % 16, 0] :=
  (by decide +kernel : ∀ t : Fin grid0.N, _)
theorem idx20 : ∀ t : Fin cfg0.N, win0_20.index t = ![t.val / 16, t.val % 16, 0] :=
  (by decide +kernel : ∀ t : Fin grid0.N, _)
theorem idx21 : ∀ t : Fin cfg0.N, win0_21.index t = ![t.val / 16, 0, 0] :=
  (by decide +kernel : ∀ t : Fin grid0.N, _)

theorem iblk0 (t : Fin cfg0.N) (r : Fin 512) (k : Fin 1024) : (iblk m c 0 t : Vec Ideal S1x512x1024 .f32) (ix3 0 r k) = V m c main_arg0 (ix3 (bt t) (rw0 t r) k) := by
  blk_ext! [iblk, idx0 t]
theorem iblk1 (t : Fin cfg0.N) (k : Fin 1024) : (iblk m c 1 t : Vec Ideal S1x1024 .f32) (ix2 0 k) = V m c main_v9 (ix2 0 k) := by
  blk_ext! [iblk, idx1 t]
theorem iblk2 (t : Fin cfg0.N) (k : Fin 1024) (j : Fin 3968) : (iblk m c 2 t : Vec Ideal S1024x3968 .bf16) (ix2 k j) = V m c main_v10 (ix2 k j) := by
  blk_ext! [iblk, idx2 t]
theorem iblk3 (t : Fin cfg0.N) (r : Fin 512) (l : Fin 128) : (iblk m c 3 t : Vec Ideal S512x128 .f32) (ix2 r l) = V m c main_v38 (ix2 (rw0 t r) l) := by
  blk_ext! [iblk, idx3 t]
theorem iblk4 (t : Fin cfg0.N) (r : Fin 512) (l : Fin 128) : (iblk m c 4 t : Vec Ideal S512x128 .f32) (ix2 r l) = V m c main_v43 (ix2 (rw0 t r) l) := by
  blk_ext! [iblk, idx4 t]
theorem iblk5 (t : Fin cfg0.N) (l : Fin 512) : (iblk m c 5 t : Vec Ideal S1x512 .f32) (ix2 0 l) = V m c main_v17 (ix2 0 l) := by
  blk_ext! [iblk, idx5 t]
theorem iblk6 (t : Fin cfg0.N) (i : Fin 3) (l : Fin 128) : (iblk m c 6 t : Vec Ideal S3x128 .f32) (ix2 i l) = V m c main_v20 (ix2 i l) := by
  blk_ext! [iblk, idx6 t]
theorem iblk7 (t : Fin cfg0.N) (k l : Fin 512) : (iblk m c 7 t : Vec Ideal S512x512 .bf16) (ix2 k l) = V m c main_v8 (ix2 k l) := by
  blk_ext! [iblk, idx7 t]
theorem iblk8 (t : Fin cfg0.N) (i : Fin 3) (k : Fin 512) : (iblk m c 8 t : Vec Ideal S3x512 .f32) (ix2 i k) = V m c main_arg3 (ix2 i k) := by
  blk_ext! [iblk, idx8 t]
theorem iblk9 (t : Fin cfg0.N) (k : Fin 512) : (iblk m c 9 t : Vec Ideal S1x512 .f32) (ix2 0 k) = V m c main_v11 (ix2 0 k) := by
  blk_ext! [iblk, idx9 t]

/-- What a grid point's blocks hold. -/
theorem blocks (hA : (ins m c).Real) (t : Fin cfg0.N) :
    Blocks (iblk m c 0 t) (iblk m c 1 t) (iblk m c 2 t) (iblk m c 3 t) (iblk m c 4 t) (iblk m c 5 t) (iblk m c 6 t) (iblk m c 7 t) (iblk m c 8 t) (iblk m c 9 t) (ins m c) (bt t) (rw0 t) where
  real := hA
  x0 r k := (iblk0 m c t r k).trans (congrFun (V_main_arg0 m c) _)
  x1 k := (iblk1 m c t k).trans (V9 m c k)
  x2 k j := (iblk2 m c t k j).trans (V10 m c k j)
  x3 r l := (iblk3 m c t r l).trans (V38 m c _ l)
  x4 r l := (iblk4 m c t r l).trans (V43 m c _ l)
  x5 l := (iblk5 m c t l).trans (V17 m c l)
  x6 i l := (iblk6 m c t i l).trans (V20 m c i l)
  x7 k l := (iblk7 m c t k l).trans (V8 m c k l)
  x8 i k := (iblk8 m c t i k).trans (congrFun (V_main_arg3 m c) _)
  x9 k := (iblk9 m c t k).trans (V11 m c k)

end Cert.Kernel2Ideal.Body

end
-- ==== Proof.QHeads.lean ====
/-
  What the body leaves in the queries' block: each head normed, rotated by its position and scaled.
-/
module

public import proofs.«01_k».proof.Proof.QPay

@[expose] public section

set_option maxRecDepth 16384

noncomputable section

namespace Cert.Kernel2Ideal.Body

open Cert.Kernel2Ideal Cert.Kernel2Ideal.Gen Cert.Proj
open Idealize.ShloMosaic Idealize.ShloMosaic.TcCoe Idealize.ShloMosaic.Tactic

variable {x0 : Vec Ideal S1x512x1024 .f32} {x1 : Vec Ideal S1x1024 .f32} {x2 : Vec Ideal S1024x3968 .bf16} {x3 : Vec Ideal S512x128 .f32} {x4 : Vec Ideal S512x128 .f32} {x5 : Vec Ideal S1x512 .f32} {x6 : Vec Ideal S3x128 .f32} {x7 : Vec Ideal S512x512 .bf16} {x8 : Vec Ideal S3x512 .f32} {x9 : Vec Ideal S1x512 .f32}
variable {A : Ins} {b : Fin 4} {T : Fin 512 → Fin 8192} (H : Blocks x0 x1 x2 x3 x4 x5 x6 x7 x8 x9 A b T)
include H

theorem qcol_at (r : Fin 512) (j : Fin 512) : ∑ k, hRow x0 x1 (ix2 r k) * wQ x2 (ix2 k j) = A.pr b (T r) ⟨2048 + j.val, by omega⟩ :=
  (col_at H r ⟨2048 + j.val, by omega⟩ (fun k => wQ x2 (ix2 k j)) fun k => View.ld_unit_apply_of _ _ _ _ _ _ (by intro a; fin_cases a <;> simp)).trans
    (wp_low A _ (by show 2048 + j.val < 3352; omega) b (T r) _ rfl)

theorem qP_at (r : Fin 512) (j : Fin 512) : qP x0 x1 x2 (ix2 r j) = A.pr b (T r) ⟨2048 + j.val, by omega⟩ := by
  rw [← qcol_at H]
  unfold qP
  pointwise [k0_pay11]

/-- The queries normed, the scale on the gain. -/
theorem qN_at (r : Fin 512) (c : Fin 512) : qN x0 x1 x2 x5 x7 (ix2 r c)
    = nrm (fun e => A.pr b (T r) ⟨2048 + 64 * (c.val / 64) + e.val, by omega⟩) (fun e => A.qg e * Ideal.ofBits .f32 1040187392#32) ⟨c.val % 64, by omega⟩ := by
  have h := nrm_lane (fun x => qP x0 x1 x2 (ix2 r x)) (fun x => x7 (ix2 x c)) c (c.val / 64) ⟨c.val % 64, by omega⟩ (by omega) (by show c.val = 64 * (c.val / 64) + c.val % 64; omega)
    (fun e => A.qg e * Ideal.ofBits .f32 1040187392#32) (x5 (ix2 0 c)) (H.x5 c) (fun x => H.x7 x c) (fun x => by rw [qP_at H]; exact pr_real H _ _)
  refine Eq.trans ?_ (h.trans (congrArg (fun f => nrm f _ _) (funext fun e => ?_)))
  · unfold qN
    pointwise [k0_pay16, k0_pay15, k0_pay14, k0_pay13, k0_pay12, k0_pay11]
    rw [show qG x5 (ix2 0 c) = x5 (ix2 0 c) from View.ld_unit_apply_of _ _ _ _ _ _ (by intro a; fin_cases a <;> simp)]
  · rw [qP_at H]
    exact congrArg (A.pr b (T r)) (Fin.ext (by show 2048 + (64 * (c.val / 64) + e.val) = 2048 + 64 * (c.val / 64) + e.val; omega))

/-- A head of a slab of two. -/
theorem slab_at (s : Fin 4) (h : Fin 2) (r : Fin 512) (d : Fin 64) (k : Fin 128) (hk : k.val = 64 * h.val + d.val) (z : Fin 128 → EReal)
    (hz : ∀ l, z l = qN x0 x1 x2 x5 x7 (ix2 r ⟨128 * s.val + l.val, by omega⟩)) :
    z k * cosB x3 (ix2 r k) + Scalar.select (IntOp.cmpi CmpIPredicate.eq (IntOp.andi (BitVec.ofNat 32 k.val) 32#32) 0#32)
        (z ⟨(k.val + 128 - 96) % 128, Nat.mod_lt _ (by decide)⟩) (z ⟨(k.val + 128 - 32) % 128, Nat.mod_lt _ (by decide)⟩) * sinB x4 (ix2 r k)
      = A.q b ⟨2 * s.val + h.val, by omega⟩ (T r) d := by
  rw [rope_lane z (fun l => cosB x3 (ix2 r l)) (fun l => sinB x4 (ix2 r l)) (T r).val k h.val d (by omega) hk (cos_at H r k) (sin_at H r k)]
  unfold Ins.q
  rw [← rope_scale]
  refine congrArg (fun f => rope _ f _) (funext fun e => ?_)
  rw [hz, qN_at H]
  have hq : (128 * s.val + (64 * h.val + e.val)) / 64 = 2 * s.val + h.val := by omega
  have hr : (128 * s.val + (64 * h.val + e.val)) % 64 = e.val := by omega
  refine congr (congrArg (fun f => nrm f _) (funext fun e' => congrArg (A.pr b (T r)) (Fin.ext ?_))) (Fin.ext hr)
  show 2048 + 64 * ((128 * s.val + (64 * h.val + e.val)) / 64) + e'.val = 2048 + 64 * (2 * s.val + h.val) + e'.val
  rw [hq]

/-- The queries, head by head. -/
theorem out12_at (j : Fin 8) (r : Fin 512) (d : Fin 64) : out12 x0 x1 x2 x3 x4 x5 x6 x7 x8 x9 (ix4 0 j r d) = A.q b j (T r) d := by
  have key : ∀ (n : Fin 8) (w : Vec Ideal S1x1x512x64 .bf16), (w (ix4 0 0 r d) = A.q b n (T r) d) →
      View.TileAt (S := S1x8x512x64) (e := .bf16) (Val := Elt Ideal) (ix4 0 j r d) ![0, n.val, 0, 0] ![1, 1, 512, 64] w (A.q b j (T r) d) := by
    intro n w hw x hx
    idx_vars x
    have h1 : j.val = n.val + x1.val := hx 1
    have h2 : r.val = 0 + x2.val := hx 2
    have h3 : d.val = 0 + x3.val := hx 3
    obtain rfl : x2 = r := Fin.ext (by omega)
    obtain rfl : x3 = d := Fin.ext (by omega)
    obtain rfl : x0 = 0 := Subsingleton.elim _ _
    obtain rfl : x1 = 0 := Subsingleton.elim _ _
    obtain rfl : j = n := Fin.ext h1
    exact hw
  refine View.canon_eq_of_allAt _ _ _ (View.cover_of_tiled_head _ _ _ (by sl_kernel_rfl) _)
    (View.allAt_cons_unit _ _ _ _ _ (key 7 _ ?_) (View.allAt_cons_unit _ _ _ _ _ (key 6 _ ?_) (View.allAt_cons_unit _ _ _ _ _ (key 5 _ ?_) (View.allAt_cons_unit _ _ _ _ _ (key 4 _ ?_)
    (View.allAt_cons_unit _ _ _ _ _ (key 3 _ ?_) (View.allAt_cons_unit _ _ _ _ _ (key 2 _ ?_) (View.allAt_cons_unit _ _ _ _ _ (key 1 _ ?_) (View.allAt_cons_unit _ _ _ _ _ (key 0 _ ?_) (View.allAt_nil _ _)))))))))
  · refine Eq.trans ?_ (slab_at H 3 1 r d ⟨64 + d.val, by omega⟩ rfl (fun l => qN x0 x1 x2 x5 x7 (ix2 r ⟨384 + l.val, by omega⟩)) fun l => rfl)
    pointwise [k0_pay54, k0_pay53, k0_pay22]
  · refine Eq.trans ?_ (slab_at H 3 0 r d ⟨d.val, by omega⟩ (by show d.val = 64 * 0 + d.val; omega) (fun l => qN x0 x1 x2 x5 x7 (ix2 r ⟨384 + l.val, by omega⟩)) fun l => rfl)
    pointwise [k0_pay52, k0_pay22]
  · refine Eq.trans ?_ (slab_at H 2 1 r d ⟨64 + d.val, by omega⟩ rfl (fun l => qN x0 x1 x2 x5 x7 (ix2 r ⟨256 + l.val, by omega⟩)) fun l => rfl)
    pointwise [k0_pay51, k0_pay21, k0_pay20, k0_pay19]
  · refine Eq.trans ?_ (slab_at H 2 0 r d ⟨d.val, by omega⟩ (by show d.val = 64 * 0 + d.val; omega) (fun l => qN x0 x1 x2 x5 x7 (ix2 r ⟨256 + l.val, by omega⟩)) fun l => rfl)
    pointwise [k0_pay50, k0_pay21, k0_pay20, k0_pay19]
  · refine Eq.trans ?_ (slab_at H 1 1 r d ⟨64 + d.val, by omega⟩ rfl (fun l => qN x0 x1 x2 x5 x7 (ix2 r ⟨128 + l.val, by omega⟩)) fun l => rfl)
    pointwise [k0_pay49, k0_pay18]
  · refine Eq.trans ?_ (slab_at H 1 0 r d ⟨d.val, by omega⟩ (by show d.val = 64 * 0 + d.val; omega) (fun l => qN x0 x1 x2 x5 x7 (ix2 r ⟨128 + l.val, by omega⟩)) fun l => rfl)
    pointwise [k0_pay48, k0_pay18]
  · refine Eq.trans ?_ (slab_at H 0 1 r d ⟨64 + d.val, by omega⟩ rfl (fun l => qN x0 x1 x2 x5 x7 (ix2 r ⟨l.val, by omega⟩)) fun l => congrArg (fun i => qN x0 x1 x2 x5 x7 (ix2 r i)) (Fin.ext (by show l.val = 128 * 0 + l.val; omega)))
    pointwise [k0_pay47, k0_pay46, k0_pay17]
  · refine Eq.trans ?_ (slab_at H 0 0 r d ⟨d.val, by omega⟩ (by show d.val = 64 * 0 + d.val; omega) (fun l => qN x0 x1 x2 x5 x7 (ix2 r ⟨l.val, by omega⟩)) fun l => congrArg (fun i => qN x0 x1 x2 x5 x7 (ix2 r i)) (Fin.ext (by show l.val = 128 * 0 + l.val; omega)))
    pointwise [k0_pay45, k0_pay17]

end Cert.Kernel2Ideal.Body

end
-- ==== Proof.QFinal.lean ====
/-
  What the projection's launch leaves in its result arrays, at every position, over the arrays the program was given.
-/
module

public import proofs.«01_k».proof.Proof.QBlk
public import proofs.«01_k».proof.Proof.QHeads

@[expose] public section

set_option maxRecDepth 16384

noncomputable section

namespace Cert.Kernel2Ideal.Body

open Cert.Kernel2Ideal Cert.Kernel2Ideal.Gen Cert.Proj
open Idealize.ShloMosaic Idealize.ShloMosaic.TcCoe Idealize.ShloMosaic.Tactic

variable (m : (ℓ : Loc nD τ sig) → Buf (Elt Ideal) ℓ) (c : Dev nD)

/-- The last rows' block is written back after the last tile of a batch. -/
theorem flush21 : ∀ t : Fin cfg0.N, (cfg0.win 21).flush t = true → t.val % 16 = 15 :=
  (by decide +kernel : ∀ t : Fin grid0.N, _)

/-- z_attn through its gate. -/
theorem final11 (hA : (ins m c).Real) :
    ((dats m 0 c).arrAt 11 cfg0.N : Vec Ideal S4x8192x512 .f32) = fun y => (ins m c).zs (y 0) (y 1) (y 2) := by
  refine (dats m 0 c).arrAt_eq_of_covers 11 _ (by decide +kernel) fun t hf y => ?_
  blk_simp
  rw [after11]
  idx_vars y
  have h0 : y0 = 0 := Subsingleton.elim _ _
  subst h0
  refine (out11_at (blocks m c hA t) y1 y2).trans ?_
  have e : ((win0_11.blk t).view.emb (ix3 0 y1 y2) : S4x8192x512.Idx) = ix3 (bt t) (rw0 t y1) y2 := by
    blk_ext [idx11 t]
  exact (congrArg (fun z : S4x8192x512.Idx => (ins m c).zs (z 0) (z 1) (z 2)) e).symm

/-- The branch gates. -/
theorem final13 (hA : (ins m c).Real) :
    ((dats m 0 c).arrAt 13 cfg0.N : Vec Ideal S4x8192x128 .f32) = fun y => (ins m c).gate (y 0) (y 1) (y 2) := by
  refine (dats m 0 c).arrAt_eq_of_covers 13 _ (by decide +kernel) fun t hf y => ?_
  blk_simp
  rw [after13]
  idx_vars y
  have h0 : y0 = 0 := Subsingleton.elim _ _
  subst h0
  refine (out13_at (blocks m c hA t) y1 y2).trans ?_
  have e : ((win0_13.blk t).view.emb (ix3 0 y1 y2) : S4x8192x128.Idx) = ix3 (bt t) (rw0 t y1) y2 := by
    blk_ext [idx13 t]
  exact (congrArg (fun z : S4x8192x128.Idx => (ins m c).gate (z 0) (z 1) (z 2)) e).symm

/-- The compressed branch's rows. -/
theorem final14 (hA : (ins m c).Real) :
    ((dats m 0 c).arrAt 14 cfg0.N : Vec Ideal S4x8192x256 .f32) = fun y => (ins m c).rows 0 (y 0) (y 1) (y 2) := by
  refine (dats m 0 c).arrAt_eq_of_covers 14 _ (by decide +kernel) fun t hf y => ?_
  blk_simp
  rw [after14]
  idx_vars y
  have h0 : y0 = 0 := Subsingleton.elim _ _
  subst h0
  refine (out14_at (blocks m c hA t) y1 y2).trans ?_
  have e : ((win0_14.blk t).view.emb (ix3 0 y1 y2) : S4x8192x256.Idx) = ix3 (bt t) (rw0 t y1) y2 := by
    blk_ext [idx14 t]
  exact (congrArg (fun z : S4x8192x256.Idx => (ins m c).rows 0 (z 0) (z 1) (z 2)) e).symm

/-- The selected branch's rows. -/
theorem final15 (hA : (ins m c).Real) :
    ((dats m 0 c).arrAt 15 cfg0.N : Vec Ideal S4x8192x256 .f32) = fun y => (ins m c).rows 1 (y 0) (y 1) (y 2) := by
  refine (dats m 0 c).arrAt_eq_of_covers 15 _ (by decide +kernel) fun t hf y => ?_
  blk_simp
  rw [after15]
  idx_vars y
  have h0 : y0 = 0 := Subsingleton.elim _ _
  subst h0
  refine (out15_at (blocks m c hA t) y1 y2).trans ?_
  have e : ((win0_15.blk t).view.emb (ix3 0 y1 y2) : S4x8192x256.Idx) = ix3 (bt t) (rw0 t y1) y2 := by
    blk_ext [idx15 t]
  exact (congrArg (fun z : S4x8192x256.Idx => (ins m c).rows 1 (z 0) (z 1) (z 2)) e).symm

/-- The window branch's rows. -/
theorem final16 (hA : (ins m c).Real) :
    ((dats m 0 c).arrAt 16 cfg0.N : Vec Ideal S4x8192x256 .f32) = fun y => (ins m c).rows 2 (y 0) (y 1) (y 2) := by
  refine (dats m 0 c).arrAt_eq_of_covers 16 _ (by decide +kernel) fun t hf y => ?_
  blk_simp
  rw [after16]
  idx_vars y
  have h0 : y0 = 0 := Subsingleton.elim _ _
  subst h0
  refine (out16_at (blocks m c hA t) y1 y2).trans ?_
  have e : ((win0_16.blk t).view.emb (ix3 0 y1 y2) : S4x8192x256.Idx) = ix3 (bt t) (rw0 t y1) y2 := by
    blk_ext [idx16 t]
  exact (congrArg (fun z : S4x8192x256.Idx => (ins m c).rows 2 (z 0) (z 1) (z 2)) e).symm

/-- The selected keys, transposed. -/
theorem final17 (hA : (ins m c).Real) :
    ((dats m 0 c).arrAt 17 cfg0.N : Vec Ideal S4x128x8192 .bf16) = fun y => (ins m c).keyAt 1 (y 0) (y 1) (y 2) := by
  refine (dats m 0 c).arrAt_eq_of_covers 17 _ (by decide +kernel) fun t hf y => ?_
  blk_simp
  rw [after17]
  idx_vars y
  have h0 : y0 = 0 := Subsingleton.elim _ _
  subst h0
  refine (out17_at (blocks m c hA t) y1 y2).trans ?_
  have e : ((win0_17.blk t).view.emb (ix3 0 y1 y2) : S4x128x8192.Idx) = ix3 (bt t) y1 (rw0 t y2) := by
    blk_ext [idx17 t]
  exact (congrArg (fun z : S4x128x8192.Idx => (ins m c).keyAt 1 (z 0) (z 1) (z 2)) e).symm

/-- The window keys, transposed. -/
theorem final18 (hA : (ins m c).Real) :
    ((dats m 0 c).arrAt 18 cfg0.N : Vec Ideal S4x128x8192 .bf16) = fun y => (ins m c).keyAt 2 (y 0) (y 1) (y 2) := by
  refine (dats m 0 c).arrAt_eq_of_covers 18 _ (by decide +kernel) fun t hf y => ?_
  blk_simp
  rw [after18]
  idx_vars y
  have h0 : y0 = 0 := Subsingleton.elim _ _
  subst h0
  refine (out18_at (blocks m c hA t) y1 y2).trans ?_
  have e : ((win0_18.blk t).view.emb (ix3 0 y1 y2) : S4x128x8192.Idx) = ix3 (bt t) y1 (rw0 t y2) := by
    blk_ext [idx18 t]
  exact (congrArg (fun z : S4x128x8192.Idx => (ins m c).keyAt 2 (z 0) (z 1) (z 2)) e).symm

/-- The selected values. -/
theorem final19 (hA : (ins m c).Real) :
    ((dats m 0 c).arrAt 19 cfg0.N : Vec Ideal S4x8192x128 .bf16) = fun y => (ins m c).valAt 1 (y 0) (y 1) (y 2) := by
  refine (dats m 0 c).arrAt_eq_of_covers 19 _ (by decide +kernel) fun t hf y => ?_
  blk_simp
  rw [after19]
  idx_vars y
  have h0 : y0 = 0 := Subsingleton.elim _ _
  subst h0
  refine (out19_at (blocks m c hA t) y1 y2).trans ?_
  have e : ((win0_19.blk t).view.emb (ix3 0 y1 y2) : S4x8192x128.Idx) = ix3 (bt t) (rw0 t y1) y2 := by
    blk_ext [idx19 t]
  exact (congrArg (fun z : S4x8192x128.Idx => (ins m c).valAt 1 (z 0) (z 1) (z 2)) e).symm

/-- The window values. -/
theorem final20 (hA : (ins m c).Real) :
    ((dats m 0 c).arrAt 20 cfg0.N : Vec Ideal S4x8192x128 .bf16) = fun y => (ins m c).valAt 2 (y 0) (y 1) (y 2) := by
  refine (dats m 0 c).arrAt_eq_of_covers 20 _ (by decide +kernel) fun t hf y => ?_
  blk_simp
  rw [after20]
  idx_vars y
  have h0 : y0 = 0 := Subsingleton.elim _ _
  subst h0
  refine (out20_at (blocks m c hA t) y1 y2).trans ?_
  have e : ((win0_20.blk t).view.emb (ix3 0 y1 y2) : S4x8192x128.Idx) = ix3 (bt t) (rw0 t y1) y2 := by
    blk_ext [idx20 t]
  exact (congrArg (fun z : S4x8192x128.Idx => (ins m c).valAt 2 (z 0) (z 1) (z 2)) e).symm

/-- The last rows of the convolution's input. -/
theorem final21 (hA : (ins m c).Real) :
    ((dats m 0 c).arrAt 21 cfg0.N : Vec Ideal S4x8x512 .f32) = fun y => (ins m c).lastU (y 0) (y 1) (y 2) := by
  refine (dats m 0 c).arrAt_eq_of_covers 21 _ (by decide +kernel) fun t hf y => ?_
  blk_simp
  rw [after21]
  idx_vars y
  have h0 : y0 = 0 := Subsingleton.elim _ _
  subst h0
  refine (out21_at (blocks m c hA t) y1 y2).trans ?_
  have e : ((win0_21.blk t).view.emb (ix3 0 y1 y2) : S4x8x512.Idx) = ix3 (bt t) y1 y2 := by
    blk_ext [idx21 t]
  refine Eq.trans ?_ (congrArg (fun z : S4x8x512.Idx => (ins m c).lastU (z 0) (z 1) (z 2)) e).symm
  have h15 := flush21 t hf
  exact congrArg (fun r => (ins m c).u (bt t) r y2) (Fin.ext (by show t.val % 16 * 512 + (504 + y1.val) = 8184 + y1.val; omega))

/-- The queries. -/
theorem final12 (hA : (ins m c).Real) :
    ((dats m 0 c).arrAt 12 cfg0.N : Vec Ideal S4x8x8192x64 .bf16) = fun y => (ins m c).q (y 0) (y 1) (y 2) (y 3) := by
  refine (dats m 0 c).arrAt_eq_of_covers 12 _ (by decide +kernel) fun t hf y => ?_
  blk_simp
  rw [after12]
  idx_vars y
  have h0 : y0 = 0 := Subsingleton.elim _ _
  subst h0
  refine (out12_at (blocks m c hA t) y1 y2 y3).trans ?_
  have e : ((win0_12.blk t).view.emb (ix4 0 y1 y2 y3) : S4x8x8192x64.Idx) = ix4 (bt t) y1 (rw0 t y2) y3 := by
    blk_ext [idx12 t]
  exact (congrArg (fun z : S4x8x8192x64.Idx => (ins m c).q (z 0) (z 1) (z 2) (z 3)) e).symm

end Cert.Kernel2Ideal.Body

end
-- ==== Proof.QValue.lean ====
/-
  What the projection's run leaves in its results: each of them one formula of the arguments.
-/
module

public import proofs.«01_k».proof.Proof.QFinal

@[expose] public section

set_option maxRecDepth 16384

noncomputable section

namespace Cert.Kernel2Ideal.Body

open Cert.Kernel2Ideal Cert.Kernel2Ideal.Gen Cert.Proj
open Idealize.ShloMosaic Idealize.ShloMosaic.TcCoe Idealize.SL.Sem

variable (m : (ℓ : Loc nD τ sig) → Buf (Elt Ideal) ℓ) (ρ : Dev nD → PrngReg)

/-- A result's array ends as the proof data say. -/
theorem win {r : PUnit × MemSt nD τ sig (Elt Ideal)} (h : Pipeline.RDat.FramePost (cfgs 0) (fun c => (dats m 0 c).toRForget unnamed) (V m) r) (c : Dev nD) (w : Fin cfg0.W)
    (hw : unnamed w = false) : r.2.mem ((cfg0.spec w).arr.view.loc (c.tc : Thread nD τ)) = (dats m 0 c).arrAt w cfg0.N :=
  ((dats m 0 c).toRForget_arrAt_iff hw _ _).mp ((h c).1 w)

theorem res14 {r : PUnit × MemSt nD τ sig (Elt Ideal)} (h : Pipeline.RDat.FramePost (cfgs 0) (fun c => (dats m 0 c).toRForget unnamed) (V m) r) (c : Dev nD) (hA : (ins m c).Real) :
    r.2.mem ((c.tc : Thread nD τ).loc main_v44_4) = (fun y => (ins m c).rows 0 (y 0) (y 1) (y 2) : Vec Ideal S4x8192x256 .f32) :=
  Eq.trans (win m h c 14 (by rfl)) (final14 m c hA)

theorem res15 {r : PUnit × MemSt nD τ sig (Elt Ideal)} (h : Pipeline.RDat.FramePost (cfgs 0) (fun c => (dats m 0 c).toRForget unnamed) (V m) r) (c : Dev nD) (hA : (ins m c).Real) :
    r.2.mem ((c.tc : Thread nD τ).loc main_v44_5) = (fun y => (ins m c).rows 1 (y 0) (y 1) (y 2) : Vec Ideal S4x8192x256 .f32) :=
  Eq.trans (win m h c 15 (by rfl)) (final15 m c hA)

theorem res16 {r : PUnit × MemSt nD τ sig (Elt Ideal)} (h : Pipeline.RDat.FramePost (cfgs 0) (fun c => (dats m 0 c).toRForget unnamed) (V m) r) (c : Dev nD) (hA : (ins m c).Real) :
    r.2.mem ((c.tc : Thread nD τ).loc main_v44_6) = (fun y => (ins m c).rows 2 (y 0) (y 1) (y 2) : Vec Ideal S4x8192x256 .f32) :=
  Eq.trans (win m h c 16 (by rfl)) (final16 m c hA)

theorem res21 {r : PUnit × MemSt nD τ sig (Elt Ideal)} (h : Pipeline.RDat.FramePost (cfgs 0) (fun c => (dats m 0 c).toRForget unnamed) (V m) r) (c : Dev nD) (hA : (ins m c).Real) :
    r.2.mem ((c.tc : Thread nD τ).loc main_v44_11) = (fun y => (ins m c).lastU (y 0) (y 1) (y 2) : Vec Ideal S4x8x512 .f32) :=
  Eq.trans (win m h c 21 (by rfl)) (final21 m c hA)

theorem res17 {r : PUnit × MemSt nD τ sig (Elt Ideal)} (h : Pipeline.RDat.FramePost (cfgs 0) (fun c => (dats m 0 c).toRForget unnamed) (V m) r) (c : Dev nD) (hA : (ins m c).Real) :
    r.2.mem ((c.tc : Thread nD τ).loc main_v44_7) = (fun y => (ins m c).keyAt 1 (y 0) (y 1) (y 2) : Vec Ideal S4x128x8192 .bf16) :=
  Eq.trans (win m h c 17 (by rfl)) (final17 m c hA)

theorem res18 {r : PUnit × MemSt nD τ sig (Elt Ideal)} (h : Pipeline.RDat.FramePost (cfgs 0) (fun c => (dats m 0 c).toRForget unnamed) (V m) r) (c : Dev nD) (hA : (ins m c).Real) :
    r.2.mem ((c.tc : Thread nD τ).loc main_v44_8) = (fun y => (ins m c).keyAt 2 (y 0) (y 1) (y 2) : Vec Ideal S4x128x8192 .bf16) :=
  Eq.trans (win m h c 18 (by rfl)) (final18 m c hA)

theorem res19 {r : PUnit × MemSt nD τ sig (Elt Ideal)} (h : Pipeline.RDat.FramePost (cfgs 0) (fun c => (dats m 0 c).toRForget unnamed) (V m) r) (c : Dev nD) (hA : (ins m c).Real) :
    r.2.mem ((c.tc : Thread nD τ).loc main_v44_9) = (fun y => (ins m c).valAt 1 (y 0) (y 1) (y 2) : Vec Ideal S4x8192x128 .bf16) :=
  Eq.trans (win m h c 19 (by rfl)) (final19 m c hA)

theorem res20 {r : PUnit × MemSt nD τ sig (Elt Ideal)} (h : Pipeline.RDat.FramePost (cfgs 0) (fun c => (dats m 0 c).toRForget unnamed) (V m) r) (c : Dev nD) (hA : (ins m c).Real) :
    r.2.mem ((c.tc : Thread nD τ).loc main_v44_10) = (fun y => (ins m c).valAt 2 (y 0) (y 1) (y 2) : Vec Ideal S4x8192x128 .bf16) :=
  Eq.trans (win m h c 20 (by rfl)) (final20 m c hA)

theorem res13 {r : PUnit × MemSt nD τ sig (Elt Ideal)} (h : Pipeline.RDat.FramePost (cfgs 0) (fun c => (dats m 0 c).toRForget unnamed) (V m) r) (c : Dev nD) (hA : (ins m c).Real) :
    r.2.mem ((c.tc : Thread nD τ).loc main_v44_3) = (fun y => (ins m c).gate (y 0) (y 1) (y 2) : Vec Ideal S4x8192x128 .f32) :=
  Eq.trans (win m h c 13 (by rfl)) (final13 m c hA)

theorem res11 {r : PUnit × MemSt nD τ sig (Elt Ideal)} (h : Pipeline.RDat.FramePost (cfgs 0) (fun c => (dats m 0 c).toRForget unnamed) (V m) r) (c : Dev nD) (hA : (ins m c).Real) :
    r.2.mem ((c.tc : Thread nD τ).loc main_v44_1) = (fun y => (ins m c).zs (y 0) (y 1) (y 2) : Vec Ideal S4x8192x512 .f32) :=
  Eq.trans (win m h c 11 (by rfl)) (final11 m c hA)

theorem res12 {r : PUnit × MemSt nD τ sig (Elt Ideal)} (h : Pipeline.RDat.FramePost (cfgs 0) (fun c => (dats m 0 c).toRForget unnamed) (V m) r) (c : Dev nD) (hA : (ins m c).Real) :
    r.2.mem ((c.tc : Thread nD τ).loc main_v44_2) = (fun y => (ins m c).q (y 0) (y 1) (y 2) (y 3) : Vec Ideal S4x8x8192x64 .bf16) :=
  Eq.trans (win m h c 12 (by rfl)) (final12 m c hA)

set_option maxHeartbeats 1600000 in
theorem run_value (hA : ∀ c, (ins m c).Real) : θ_run defs (onTc (τ := τ) (main (F := Ideal))) ⟨m, fun _ => 0, ρ⟩ (fun r => ∀ c : Dev nD,
      r.2.mem ((c.tc : Thread nD τ).loc main_v44_4) = (fun y => (ins m c).rows 0 (y 0) (y 1) (y 2) : Vec Ideal S4x8192x256 .f32)
      ∧ r.2.mem ((c.tc : Thread nD τ).loc main_v44_5) = (fun y => (ins m c).rows 1 (y 0) (y 1) (y 2) : Vec Ideal S4x8192x256 .f32)
      ∧ r.2.mem ((c.tc : Thread nD τ).loc main_v44_6) = (fun y => (ins m c).rows 2 (y 0) (y 1) (y 2) : Vec Ideal S4x8192x256 .f32)
      ∧ r.2.mem ((c.tc : Thread nD τ).loc main_v44_11) = (fun y => (ins m c).lastU (y 0) (y 1) (y 2) : Vec Ideal S4x8x512 .f32)
      ∧ r.2.mem ((c.tc : Thread nD τ).loc main_v44_7) = (fun y => (ins m c).keyAt 1 (y 0) (y 1) (y 2) : Vec Ideal S4x128x8192 .bf16)
      ∧ r.2.mem ((c.tc : Thread nD τ).loc main_v44_8) = (fun y => (ins m c).keyAt 2 (y 0) (y 1) (y 2) : Vec Ideal S4x128x8192 .bf16)
      ∧ r.2.mem ((c.tc : Thread nD τ).loc main_v44_9) = (fun y => (ins m c).valAt 1 (y 0) (y 1) (y 2) : Vec Ideal S4x8192x128 .bf16)
      ∧ r.2.mem ((c.tc : Thread nD τ).loc main_v44_10) = (fun y => (ins m c).valAt 2 (y 0) (y 1) (y 2) : Vec Ideal S4x8192x128 .bf16)
      ∧ r.2.mem ((c.tc : Thread nD τ).loc main_v44_3) = (fun y => (ins m c).gate (y 0) (y 1) (y 2) : Vec Ideal S4x8192x128 .f32)
      ∧ r.2.mem ((c.tc : Thread nD τ).loc main_v44_1) = (fun y => (ins m c).zs (y 0) (y 1) (y 2) : Vec Ideal S4x8192x512 .f32)
      ∧ r.2.mem ((c.tc : Thread nD τ).loc main_v44_2) = (fun y => (ins m c).q (y 0) (y 1) (y 2) (y 3) : Vec Ideal S4x8x8192x64 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  have h := θ_run_and (run_post m ρ) (frame_all m ρ)
  exact (θ_run defs _ _).mono (fun r h c => ⟨res14 m h.1 c (hA c), res15 m h.1 c (hA c), res16 m h.1 c (hA c), res21 m h.1 c (hA c), res17 m h.1 c (hA c), res18 m h.1 c (hA c), res19 m h.1 c (hA c), res20 m h.1 c (hA c), res13 m h.1 c (hA c), res11 m h.1 c (hA c), res12 m h.1 c (hA c),
    h.2.1 c⟩) h

end Cert.Kernel2Ideal.Body

end
-- ==== Proof.QRef.lean ====
/-
  The reference's projection at coordinates: the normed rows, their product with the weights, the angles' cosines and sines.
-/
module

public import proofs.«01_k».proof.Proof.QSpec
public import proofs.«01_k».proof.Proof.Gen.Reference2Ideal.Read
public import Idealize.ShloMosaic.Lib.Pipeline.ValueKit

@[expose] public section

set_option maxRecDepth 16384

noncomputable section

namespace Cert.Reference2Ideal.Read

open Cert.Reference2Ideal Cert.Reference2Ideal.Gen Cert.Proj
open Idealize.ShloMosaic Idealize.ShloMosaic.Tactic

/-- The reference's arguments hold the arrays' entries. -/
structure Reads (x0 : Vec Ideal S4x8192x1024 .f32) (x1 : Vec Ideal S1024 .f32) (x2 : Vec Ideal S1024x3864 .f32) (x5 : Vec Ideal S64 .f32) (x6 : Vec Ideal S3x64 .f32) (A : Ins) : Prop where
  x : ∀ b t k, x0 (ix3 b t k) = A.x b t k
  g : ∀ k, x1 (ix1 k) = A.g k
  w : ∀ k c, x2 (ix2 k c) = A.w k c
  qg : ∀ d, x5 (ix1 d) = A.qg d
  kg : ∀ i d, x6 (ix2 i d) = A.kg i d

variable {x0 : Vec Ideal S4x8192x1024 .f32} {x1 : Vec Ideal S1024 .f32} {x2 : Vec Ideal S1024x3864 .f32} {x5 : Vec Ideal S64 .f32} {x6 : Vec Ideal S3x64 .f32}
variable {A : Ins} (H : Reads x0 x1 x2 x5 x6 A) (b : Fin 4) (t : Fin 8192)

theorem zero_word : Ideal.ofBits .f32 0x00000000#32 = 0 := by simp [Ideal.ofBits, Ideal.ieee]

theorem one_word : Ideal.ofBits .f32 0x3F800000#32 = 1 := by
  simp [Ideal.ofBits, Ideal.ieee]; rw [← EReal.coe_mul]; norm_num

include H

theorem row_ref (k : Fin 1024) : val_main_v12 (F := Ideal) x0 x1 (ix3 b t k) = row (A.x b t) A.g k := by
  have e8 : idx_main_v8 (ix3 b t k) = ix3 b t 0 := by blk_ext
  have e2 : idx_main_v2 (ix3 b t 0) = ix2 b t := by blk_ext
  have e1 : ∀ j, idx_main_v1 (ix2 b t) j = ix3 b t j := fun j => by blk_ext
  have e11 : idx_main_v10 (idx_main_v11 (ix3 b t k)) = ix1 k := by blk_ext
  rw [val_main_v12_apply, val_main_v9_apply, val_main_v8_apply, e8, val_main_v7_apply, val_main_v6_apply, val_main_v4_apply, val_main_v2_apply, e2, val_main_v1_apply,
    val_main_v3_apply, val_main_v5_apply, val_main_cst_apply, val_main_cst_0_apply, val_main_cst_1_apply, val_main_v11_apply, val_main_v10_apply, e11, H.x, H.g]
  have hs : (FloatOps.ofBits .f32 0x00000000#32 : Ideal .f32) + ∑ j : Fin 1024, (val_main_v0 (F := Ideal) x0) (idx_main_v1 (ix2 b t) j) = ∑ j, A.x b t j * A.x b t j := by
    show Ideal.ofBits .f32 0x00000000#32 + _ = _
    rw [zero_word, zero_add]
    refine Finset.sum_congr rfl fun j _ => ?_
    rw [e1, val_main_v0_apply, H.x]
    rfl
  rw [hs]
  rfl

theorem pr_ref (c : Fin 3864) : val_main_v13 (F := Ideal) x0 x1 x2 (ix3 b t c) = A.pr b t c := by
  rw [val_main_v13_apply]
  unfold Ins.pr proj
  refine Finset.sum_congr rfl fun k _ => ?_
  have el : lidx_main_v13 (ix3 b t c) k = ix3 b t k := by blk_ext
  have er : ridx_main_v13 (ix3 b t c) k = ix2 k c := by blk_ext
  rw [el, er, row_ref H, H.w]

omit H

theorem ang_ref (f : Fin 32) : val_main_v49 (F := Ideal) (ix2 t f) = ang t.val f.val := by
  have e1 : idx_main_v45 (idx_main_v47 (ix2 t f)) = ix1 t := by blk_ext
  have e2 : idx_main_v46 (idx_main_v48 (ix2 t f)) = ix1 f := by blk_ext
  rw [val_main_v49_apply, val_main_v47_apply, val_main_v45_apply, e1, val_main_v44_apply, val_main_v22_apply, val_main_v48_apply, val_main_v46_apply, e2, val_main_v43_apply,
    val_main_v42_apply, val_main_cst_6_apply, val_main_v41_apply, val_main_v40_apply, val_main_cst_5_apply, val_main_v39_apply]
  rfl

theorem angq_ref (f : Fin 32) : val_main_v120 (F := Ideal) (ix2 t f) = ang t.val f.val := by
  have e1 : idx_main_v116 (idx_main_v118 (ix2 t f)) = ix1 t := by blk_ext
  have e2 : idx_main_v117 (idx_main_v119 (ix2 t f)) = ix1 f := by blk_ext
  rw [val_main_v120_apply, val_main_v118_apply, val_main_v116_apply, e1, val_main_v115_apply, val_main_v22_apply, val_main_v119_apply, val_main_v117_apply, e2, val_main_v114_apply,
    val_main_v113_apply, val_main_cst_15_apply, val_main_v112_apply, val_main_v111_apply, val_main_cst_14_apply, val_main_v110_apply]
  rfl

end Cert.Reference2Ideal.Read

end
-- ==== Proof.QRefU.lean ====
/-
  The reference's results that take no head's norm: the convolution's input in the last rows, the padded gates, z_attn through its gate.
-/
module

public import proofs.«01_k».proof.Proof.QRef
public import Idealize.ShloMosaic.Lib.KernelVsHost

@[expose] public section

set_option maxRecDepth 16384

noncomputable section

namespace Cert.Reference2Ideal.Read

open Cert.Reference2Ideal Cert.Reference2Ideal.Gen Cert.Proj
open Idealize.ShloMosaic Idealize.ShloMosaic.Tactic

variable {x0 : Vec Ideal S4x8192x1024 .f32} {x1 : Vec Ideal S1024 .f32} {x2 : Vec Ideal S1024x3864 .f32} {x5 : Vec Ideal S64 .f32} {x6 : Vec Ideal S3x64 .f32}
variable {A : Ins} (H : Reads x0 x1 x2 x5 x6 A) (b : Fin 4) (t : Fin 8192)
include H

theorem lastU_ref (r : Fin 8) (k : Fin 512) : val_main_v78 (F := Ideal) x0 x1 x2 (ix3 b r k) = A.lastU b r k := by
  have e : idx_main_v78 (ix3 b r k) = ix3 b ⟨8184 + r.val, by omega⟩ k := by blk_ext
  have e14 : idx_main_v14 (ix3 b ⟨8184 + r.val, by omega⟩ k) = ix3 b ⟨8184 + r.val, by omega⟩ ⟨512 + k.val, by omega⟩ := by blk_ext
  have e15 : idx_main_v15 (ix3 b ⟨8184 + r.val, by omega⟩ k) = ix3 b ⟨8184 + r.val, by omega⟩ ⟨1024 + k.val, by omega⟩ := by blk_ext
  rw [val_main_v78_apply, e, val_main_v77_apply, val_main_v14_apply, val_main_v15_apply, e14, e15, pr_ref H, pr_ref H]
  rfl

theorem zs_ref (k : Fin 512) : val_main_v95 (F := Ideal) x0 x1 x2 (ix3 b t k) = A.zs b t k := by
  have e : idx_main_v21 (ix3 b t k) = ix3 b t ⟨3352 + k.val, by omega⟩ := by blk_ext
  rw [val_main_v95_apply, val_main_v94_apply, val_main_v93_apply, val_main_v92_apply, val_main_v91_apply, val_main_v90_apply, val_main_v89_apply, val_main_v21_apply, e, pr_ref H,
    val_main_cst_9_apply, val_main_cst_10_apply]
  show _ * Ideal.div (Ideal.ofBits .f32 0x3F800000#32) (Ideal.ofBits .f32 0x3F800000#32 + Ideal.exp (-_)) = _
  rw [one_word]
  rfl

theorem pad_ref (l : Fin 128) : val_main_v82 (F := Ideal) x0 x1 x2 (ix3 b t l) = if h : l.val < 24 then A.pr b t ⟨3328 + l.val, by omega⟩ else 0 := by
  unfold val_main_v82
  split
  · rename_i h
    rw [pad_apply_of_inside _ _ _ _ _ _ _ _ (ix3 b t ⟨l.val, h⟩) (by intro a; fin_cases a <;> simp)]
    have e : idx_main_v20 (ix3 b t ⟨l.val, h⟩) = ix3 b t ⟨3328 + l.val, by omega⟩ := by blk_ext
    rw [val_main_v20_apply, e, pr_ref H]
  · rename_i h
    rw [pad_apply_of_not_inside _ _ _ _ _ _ _ _ 2 (by
      intro hh
      have := hh.2.2
      simp at this
      omega)]
    show (((0#32 : BitVec 32).toInt : ℝ) : EReal) = 0
    simp

theorem gate_ref (l : Fin 128) : val_main_v88 (F := Ideal) x0 x1 x2 (ix3 b t l) = A.gate b t l := by
  rw [val_main_v88_apply, val_main_v87_apply, val_main_v86_apply, val_main_v85_apply, val_main_v84_apply, val_main_v83_apply, pad_ref H, val_main_cst_7_apply, val_main_cst_8_apply]
  show Ideal.div (Ideal.ofBits .f32 0x3F800000#32) (Ideal.ofBits .f32 0x3F800000#32 + Ideal.exp (-_)) = _
  rw [one_word]
  unfold Ins.gate
  split <;> rfl

end Cert.Reference2Ideal.Read

end
-- ==== Proof.QRefK.lean ====
/-
  The reference's keys and values: a head normed and rotated, the rows of the branches, the keys by lane, the values by lane.
-/
module

public import proofs.«01_k».proof.Proof.QRef

@[expose] public section

set_option maxRecDepth 16384

noncomputable section

namespace Cert.Reference2Ideal.Read

open Cert.Reference2Ideal Cert.Reference2Ideal.Gen Cert.Proj
open Idealize.ShloMosaic Idealize.ShloMosaic.Tactic

variable {x0 : Vec Ideal S4x8192x1024 .f32} {x1 : Vec Ideal S1024 .f32} {x2 : Vec Ideal S1024x3864 .f32} {x5 : Vec Ideal S64 .f32} {x6 : Vec Ideal S3x64 .f32}
variable {A : Ins} (H : Reads x0 x1 x2 x5 x6 A) (b : Fin 4) (t : Fin 8192)
include H

/-- A head of a branch's keys or values. -/
theorem kv_ref (i : Fin 3) (n : Fin 4) (d : Fin 64) : val_main_v19 (F := Ideal) x0 x1 x2 (ix5 b t i n d) = A.pr b t ⟨2560 + 256 * i.val + 64 * n.val + d.val, by omega⟩ := by
  have e : idx_main_v18 (idx_main_v19 (ix5 b t i n d)) = ix3 b t ⟨2560 + 256 * i.val + 64 * n.val + d.val, by omega⟩ := by blk_ext
  rw [val_main_v19_apply, val_main_v18_apply, e, pr_ref H]

theorem k23_ref (i : Fin 3) (j : Fin 2) (d : Fin 64) : val_main_v23 (F := Ideal) x0 x1 x2 (ix5 b t i j d) = A.pr b t ⟨2560 + 256 * i.val + 64 * j.val + d.val, by omega⟩ := by
  have e : idx_main_v23 (ix5 b t i j d) = ix5 b t i ⟨j.val, by omega⟩ d := by blk_ext
  rw [val_main_v23_apply, e, kv_ref H]

theorem kn_ref (i : Fin 3) (j : Fin 2) (d : Fin 64) : val_main_v37 (F := Ideal) x0 x1 x2 x6 (ix5 b t i j d)
    = nrm (fun e => A.pr b t ⟨2560 + 256 * i.val + 64 * j.val + e.val, by omega⟩) (A.kg i) d := by
  have e33 : idx_main_v33 (ix5 b t i j d) = ix5 b t i j 0 := by blk_ext
  have e27 : idx_main_v27 (ix5 b t i j 0) = ix4 b t i j := by blk_ext
  have e26 : ∀ e, idx_main_v26 (ix4 b t i j) e = ix5 b t i j e := fun e => by blk_ext
  have e24 : idx_main_v24 (idx_main_v35 (idx_main_v36 (ix5 b t i j d))) = ix2 i d := by blk_ext
  rw [val_main_v37_apply, val_main_v34_apply, k23_ref H, val_main_v33_apply, e33, val_main_v32_apply, val_main_v31_apply, val_main_v29_apply, val_main_v27_apply, e27, val_main_v26_apply,
    val_main_v28_apply, val_main_v30_apply, val_main_cst_2_apply, val_main_cst_3_apply, val_main_cst_4_apply, val_main_v36_apply, val_main_v35_apply, val_main_v24_apply, e24, H.kg]
  have hs : (FloatOps.ofBits .f32 0x00000000#32 : Ideal .f32) + ∑ e : Fin 64, (val_main_v25 (F := Ideal) x0 x1 x2) (idx_main_v26 (ix4 b t i j) e)
      = ∑ e : Fin 64, A.pr b t ⟨2560 + 256 * i.val + 64 * j.val + e.val, by omega⟩ * A.pr b t ⟨2560 + 256 * i.val + 64 * j.val + e.val, by omega⟩ := by
    show Ideal.ofBits .f32 0x00000000#32 + _ = _
    rw [zero_word, zero_add]
    refine Finset.sum_congr rfl fun e _ => ?_
    rw [e26, val_main_v25_apply, k23_ref H]
    rfl
  rw [hs]
  rfl

theorem lo_ref (i : Fin 3) (j : Fin 2) (f : Fin 32) : val_main_v60 (F := Ideal) x0 x1 x2 x6 (ix5 b t i j f)
    = rope t.val (nrm (fun e => A.pr b t ⟨2560 + 256 * i.val + 64 * j.val + e.val, by omega⟩) (A.kg i)) ⟨f.val, by omega⟩ := by
  have e54 : idx_main_v54 (ix5 b t i j f) = ix5 b t i j ⟨f.val, by omega⟩ := by blk_ext
  have e55 : idx_main_v55 (ix5 b t i j f) = ix5 b t i j ⟨f.val + 32, by omega⟩ := by blk_ext
  have e56 : idx_main_v51 (idx_main_v56 (ix5 b t i j f)) = ix2 t f := by blk_ext
  have e58 : idx_main_v53 (idx_main_v58 (ix5 b t i j f)) = ix2 t f := by blk_ext
  rw [val_main_v60_apply, val_main_v57_apply, val_main_v59_apply, val_main_v54_apply, e54, val_main_v55_apply, e55, kn_ref H, kn_ref H, val_main_v56_apply, val_main_v51_apply, e56,
    val_main_v50_apply, val_main_v58_apply, val_main_v53_apply, e58, val_main_v52_apply, ang_ref]
  unfold rope
  rw [dif_pos f.isLt]
  rfl

theorem hi_ref (i : Fin 3) (j : Fin 2) (f : Fin 32) : val_main_v65 (F := Ideal) x0 x1 x2 x6 (ix5 b t i j f)
    = rope t.val (nrm (fun e => A.pr b t ⟨2560 + 256 * i.val + 64 * j.val + e.val, by omega⟩) (A.kg i)) ⟨f.val + 32, by omega⟩ := by
  have e54 : idx_main_v54 (ix5 b t i j f) = ix5 b t i j ⟨f.val, by omega⟩ := by blk_ext
  have e55 : idx_main_v55 (ix5 b t i j f) = ix5 b t i j ⟨f.val + 32, by omega⟩ := by blk_ext
  have e56 : idx_main_v51 (idx_main_v61 (ix5 b t i j f)) = ix2 t f := by blk_ext
  have e58 : idx_main_v53 (idx_main_v63 (ix5 b t i j f)) = ix2 t f := by blk_ext
  rw [val_main_v65_apply, val_main_v62_apply, val_main_v64_apply, val_main_v54_apply, e54, val_main_v55_apply, e55, kn_ref H, kn_ref H, val_main_v61_apply, val_main_v51_apply, e56,
    val_main_v50_apply, val_main_v63_apply, val_main_v53_apply, e58, val_main_v52_apply, ang_ref]
  unfold rope
  rw [dif_neg (by simp)]
  rfl

/-- The rotated keys. -/
theorem key_ref (i : Fin 3) (j : Fin 2) (d : Fin 64) : val_main_v66 (F := Ideal) x0 x1 x2 x6 (ix5 b t i j d) = A.key b t i j d := by
  unfold val_main_v66 Ins.key
  by_cases h : d.val < 32
  · have e1 := concatenate_pair_apply_left (t := S4x8192x3x2x64) 4 (val_main_v60 (F := Ideal) x0 x1 x2 x6) (val_main_v65 (F := Ideal) x0 x1 x2 x6) concatenates_S4x8192x3x2x32_S4x8192x3x2x32_S4x8192x3x2x64_d4
      (ix5 b t i j d) rfl (ix5 b t i j (⟨d.val, h⟩ : Fin 32)) (by intro a; fin_cases a <;> rfl)
    rw [lo_ref H] at e1
    exact e1
  · have hd := d.isLt
    have e1 := concatenate_pair_apply_right (t := S4x8192x3x2x64) 4 (val_main_v60 (F := Ideal) x0 x1 x2 x6) (val_main_v65 (F := Ideal) x0 x1 x2 x6) concatenates_S4x8192x3x2x32_S4x8192x3x2x32_S4x8192x3x2x64_d4
      (ix5 b t i j d) rfl rfl (ix5 b t i j (⟨d.val - 32, by omega⟩ : Fin 32)) (by intro a ha; fin_cases a <;> first | rfl | exact absurd rfl ha) (Nat.sub_add_cancel (by omega))
    rw [hi_ref H] at e1
    exact e1.trans (congrArg (rope _ _) (Fin.ext (Nat.sub_add_cancel (by omega))))

theorem keyl_ref (i : Fin 3) (l : Fin 128) : val_main_v67 (F := Ideal) x0 x1 x2 x6 (ix4 b t i l) = A.key b t i ⟨l.val / 64, by omega⟩ ⟨l.val % 64, by omega⟩ := by
  have e : idx_main_v67 (ix4 b t i l) = ix5 b t i ⟨l.val / 64, by omega⟩ ⟨l.val % 64, by omega⟩ := by blk_ext
  rw [val_main_v67_apply, e, key_ref H]

theorem vall_ref (i : Fin 3) (l : Fin 128) : val_main_v69 (F := Ideal) x0 x1 x2 (ix4 b t i l) = A.pr b t ⟨2688 + 256 * i.val + l.val, by omega⟩ := by
  have e : idx_main_v68 (idx_main_v69 (ix4 b t i l)) = ix5 b t i ⟨2 + l.val / 64, by omega⟩ ⟨l.val % 64, by omega⟩ := by blk_ext
  rw [val_main_v69_apply, val_main_v68_apply, e, kv_ref H]
  exact congrArg (A.pr b t) (Fin.ext (by show 2560 + 256 * i.val + 64 * (2 + l.val / 64) + l.val % 64 = 2688 + 256 * i.val + l.val; omega))

/-- The branches' rows. -/
theorem rows_ref (i : Fin 3) (k : Fin 256) : val_main_v70 (F := Ideal) x0 x1 x2 x6 (ix4 b t i k) = A.rows i b t k := by
  unfold val_main_v70 Ins.rows
  by_cases h : k.val < 128
  · rw [dif_pos h]
    have e1 := concatenate_pair_apply_left (t := S4x8192x3x256) 3 (val_main_v67 (F := Ideal) x0 x1 x2 x6) (val_main_v69 (F := Ideal) x0 x1 x2) concatenates_S4x8192x3x128_S4x8192x3x128_S4x8192x3x256_d3
      (ix4 b t i k) rfl (ix4 b t i (⟨k.val, h⟩ : Fin 128)) (by intro a; fin_cases a <;> rfl)
    rw [keyl_ref H] at e1
    exact e1
  · rw [dif_neg h]
    have hk := k.isLt
    have e1 := concatenate_pair_apply_right (t := S4x8192x3x256) 3 (val_main_v67 (F := Ideal) x0 x1 x2 x6) (val_main_v69 (F := Ideal) x0 x1 x2) concatenates_S4x8192x3x128_S4x8192x3x128_S4x8192x3x256_d3
      (ix4 b t i k) rfl rfl (ix4 b t i (⟨k.val - 128, by omega⟩ : Fin 128)) (by intro a ha; fin_cases a <;> first | rfl | exact absurd rfl ha) (Nat.sub_add_cancel (by omega))
    rw [vall_ref H] at e1
    refine e1.trans (congrArg (A.pr b t) (Fin.ext ?_))
    show 2688 + 256 * i.val + (k.val - 128) = 2560 + 256 * i.val + k.val
    omega

theorem rows0_ref (k : Fin 256) : val_main_v72 (F := Ideal) x0 x1 x2 x6 (ix3 b t k) = A.rows 0 b t k := by
  have e : idx_main_v71 (idx_main_v72 (ix3 b t k)) = ix4 b t 0 k := by blk_ext
  rw [val_main_v72_apply, val_main_v71_apply, e, rows_ref H]

theorem rows1_ref (k : Fin 256) : val_main_v74 (F := Ideal) x0 x1 x2 x6 (ix3 b t k) = A.rows 1 b t k := by
  have e : idx_main_v73 (idx_main_v74 (ix3 b t k)) = ix4 b t 1 k := by blk_ext
  rw [val_main_v74_apply, val_main_v73_apply, e, rows_ref H]

theorem rows2_ref (k : Fin 256) : val_main_v76 (F := Ideal) x0 x1 x2 x6 (ix3 b t k) = A.rows 2 b t k := by
  have e : idx_main_v75 (idx_main_v76 (ix3 b t k)) = ix4 b t 2 k := by blk_ext
  rw [val_main_v76_apply, val_main_v75_apply, e, rows_ref H]

/-- The keys by lane. -/
theorem kt_ref (i : Fin 3) (l : Fin 128) : val_main_v80 (F := Ideal) x0 x1 x2 x6 (ix4 b i l t) = A.keyAt i b l t := by
  have e : idx_main_v79 (ix4 b i l t) = ix4 b t i l := by blk_ext
  rw [val_main_v80_apply, val_main_v79_apply, e, keyl_ref H]
  rfl

theorem kt1_ref (l : Fin 128) : val_main_v143 (F := Ideal) x0 x1 x2 x6 (ix3 b l t) = A.keyAt 1 b l t := by
  have e : idx_main_v142 (idx_main_v143 (ix3 b l t)) = ix4 b 1 l t := by blk_ext
  rw [val_main_v143_apply, val_main_v142_apply, e, kt_ref H]

theorem kt2_ref (l : Fin 128) : val_main_v145 (F := Ideal) x0 x1 x2 x6 (ix3 b l t) = A.keyAt 2 b l t := by
  have e : idx_main_v144 (idx_main_v145 (ix3 b l t)) = ix4 b 2 l t := by blk_ext
  rw [val_main_v145_apply, val_main_v144_apply, e, kt_ref H]

theorem vs_ref (l : Fin 128) : val_main_v147 (F := Ideal) x0 x1 x2 (ix3 b t l) = A.valAt 1 b t l := by
  have e : idx_main_v146 (idx_main_v147 (ix3 b t l)) = ix4 b t 1 l := by blk_ext
  rw [val_main_v147_apply, val_main_v146_apply, e, val_main_v81_apply, vall_ref H]
  rfl

theorem vw_ref (l : Fin 128) : val_main_v149 (F := Ideal) x0 x1 x2 (ix3 b t l) = A.valAt 2 b t l := by
  have e : idx_main_v148 (idx_main_v149 (ix3 b t l)) = ix4 b t 2 l := by blk_ext
  rw [val_main_v149_apply, val_main_v148_apply, e, val_main_v81_apply, vall_ref H]
  rfl

end Cert.Reference2Ideal.Read

end
-- ==== Proof.QRefQ.lean ====
/-
  The reference's queries: a head normed, rotated by its position and scaled.
-/
module

public import proofs.«01_k».proof.Proof.QRef

@[expose] public section

set_option maxRecDepth 16384

noncomputable section

namespace Cert.Reference2Ideal.Read

open Cert.Reference2Ideal Cert.Reference2Ideal.Gen Cert.Proj
open Idealize.ShloMosaic Idealize.ShloMosaic.Tactic

variable {x0 : Vec Ideal S4x8192x1024 .f32} {x1 : Vec Ideal S1024 .f32} {x2 : Vec Ideal S1024x3864 .f32} {x5 : Vec Ideal S64 .f32} {x6 : Vec Ideal S3x64 .f32}
variable {A : Ins} (H : Reads x0 x1 x2 x5 x6 A) (b : Fin 4) (t : Fin 8192)
include H

theorem qh_ref (j : Fin 8) (d : Fin 64) : val_main_v17 (F := Ideal) x0 x1 x2 (ix4 b t j d) = A.pr b t ⟨2048 + 64 * j.val + d.val, by omega⟩ := by
  have e : idx_main_v16 (idx_main_v17 (ix4 b t j d)) = ix3 b t ⟨2048 + 64 * j.val + d.val, by omega⟩ := by blk_ext
  rw [val_main_v17_apply, val_main_v16_apply, e, pr_ref H]

theorem qn_ref (j : Fin 8) (d : Fin 64) : val_main_v108 (F := Ideal) x0 x1 x2 x5 (ix4 b t j d)
    = nrm (fun e => A.pr b t ⟨2048 + 64 * j.val + e.val, by omega⟩) A.qg d := by
  have e33 : idx_main_v104 (ix4 b t j d) = ix4 b t j 0 := by blk_ext
  have e27 : idx_main_v98 (ix4 b t j 0) = ix3 b t j := by blk_ext
  have e26 : ∀ e, idx_main_v97 (ix3 b t j) e = ix4 b t j e := fun e => by blk_ext
  have e24 : idx_main_v106 (idx_main_v107 (ix4 b t j d)) = ix1 d := by blk_ext
  rw [val_main_v108_apply, val_main_v105_apply, qh_ref H, val_main_v104_apply, e33, val_main_v103_apply, val_main_v102_apply, val_main_v100_apply, val_main_v98_apply, e27, val_main_v97_apply,
    val_main_v99_apply, val_main_v101_apply, val_main_cst_11_apply, val_main_cst_12_apply, val_main_cst_13_apply, val_main_v107_apply, val_main_v106_apply, e24, H.qg]
  have hs : (FloatOps.ofBits .f32 0x00000000#32 : Ideal .f32) + ∑ e : Fin 64, (val_main_v96 (F := Ideal) x0 x1 x2) (idx_main_v97 (ix3 b t j) e)
      = ∑ e : Fin 64, A.pr b t ⟨2048 + 64 * j.val + e.val, by omega⟩ * A.pr b t ⟨2048 + 64 * j.val + e.val, by omega⟩ := by
    show Ideal.ofBits .f32 0x00000000#32 + _ = _
    rw [zero_word, zero_add]
    refine Finset.sum_congr rfl fun e _ => ?_
    rw [e26, val_main_v96_apply, qh_ref H]
    rfl
  rw [hs]
  rfl

theorem qlo_ref (j : Fin 8) (f : Fin 32) : val_main_v131 (F := Ideal) x0 x1 x2 x5 (ix4 b t j f)
    = rope t.val (nrm (fun e => A.pr b t ⟨2048 + 64 * j.val + e.val, by omega⟩) A.qg) ⟨f.val, by omega⟩ := by
  have e54 : idx_main_v125 (ix4 b t j f) = ix4 b t j ⟨f.val, by omega⟩ := by blk_ext
  have e55 : idx_main_v126 (ix4 b t j f) = ix4 b t j ⟨f.val + 32, by omega⟩ := by blk_ext
  have e56 : idx_main_v122 (idx_main_v127 (ix4 b t j f)) = ix2 t f := by blk_ext
  have e58 : idx_main_v124 (idx_main_v129 (ix4 b t j f)) = ix2 t f := by blk_ext
  rw [val_main_v131_apply, val_main_v128_apply, val_main_v130_apply, val_main_v125_apply, e54, val_main_v126_apply, e55, qn_ref H, qn_ref H, val_main_v127_apply, val_main_v122_apply, e56,
    val_main_v121_apply, val_main_v129_apply, val_main_v124_apply, e58, val_main_v123_apply, angq_ref]
  unfold rope
  rw [dif_pos f.isLt]
  rfl

theorem qhi_ref (j : Fin 8) (f : Fin 32) : val_main_v136 (F := Ideal) x0 x1 x2 x5 (ix4 b t j f)
    = rope t.val (nrm (fun e => A.pr b t ⟨2048 + 64 * j.val + e.val, by omega⟩) A.qg) ⟨f.val + 32, by omega⟩ := by
  have e54 : idx_main_v125 (ix4 b t j f) = ix4 b t j ⟨f.val, by omega⟩ := by blk_ext
  have e55 : idx_main_v126 (ix4 b t j f) = ix4 b t j ⟨f.val + 32, by omega⟩ := by blk_ext
  have e56 : idx_main_v122 (idx_main_v132 (ix4 b t j f)) = ix2 t f := by blk_ext
  have e58 : idx_main_v124 (idx_main_v134 (ix4 b t j f)) = ix2 t f := by blk_ext
  rw [val_main_v136_apply, val_main_v133_apply, val_main_v135_apply, val_main_v125_apply, e54, val_main_v126_apply, e55, qn_ref H, qn_ref H, val_main_v132_apply, val_main_v122_apply, e56,
    val_main_v121_apply, val_main_v134_apply, val_main_v124_apply, e58, val_main_v123_apply, angq_ref]
  unfold rope
  rw [dif_neg (by simp)]
  rfl

theorem qrot_ref (j : Fin 8) (d : Fin 64) : val_main_v137 (F := Ideal) x0 x1 x2 x5 (ix4 b t j d)
    = rope t.val (nrm (fun e => A.pr b t ⟨2048 + 64 * j.val + e.val, by omega⟩) A.qg) d := by
  unfold val_main_v137
  by_cases h : d.val < 32
  · have e1 := concatenate_pair_apply_left (t := S4x8192x8x64) 3 (val_main_v131 (F := Ideal) x0 x1 x2 x5) (val_main_v136 (F := Ideal) x0 x1 x2 x5) concatenates_S4x8192x8x32_S4x8192x8x32_S4x8192x8x64_d3
      (ix4 b t j d) rfl (ix4 b t j (⟨d.val, h⟩ : Fin 32)) (by intro a; fin_cases a <;> rfl)
    rw [qlo_ref H] at e1
    exact e1
  · have hd := d.isLt
    have e1 := concatenate_pair_apply_right (t := S4x8192x8x64) 3 (val_main_v131 (F := Ideal) x0 x1 x2 x5) (val_main_v136 (F := Ideal) x0 x1 x2 x5) concatenates_S4x8192x8x32_S4x8192x8x32_S4x8192x8x64_d3
      (ix4 b t j d) rfl rfl (ix4 b t j (⟨d.val - 32, by omega⟩ : Fin 32)) (by intro a ha; fin_cases a <;> first | rfl | exact absurd rfl ha) (Nat.sub_add_cancel (by omega))
    rw [qhi_ref H] at e1
    exact e1.trans (congrArg (rope _ _) (Fin.ext (Nat.sub_add_cancel (by omega))))

/-- The queries. -/
theorem q_ref (j : Fin 8) (d : Fin 64) : val_main_v141 (F := Ideal) x0 x1 x2 x5 (ix4 b j t d) = A.q b j t d := by
  have e : idx_main_v140 (ix4 b j t d) = ix4 b t j d := by blk_ext
  rw [val_main_v141_apply, val_main_v140_apply, e, val_main_v139_apply, qrot_ref H, val_main_v138_apply, val_main_cst_16_apply]
  rfl

end Cert.Reference2Ideal.Read

end
-- ==== Proof.QRefRun.lean ====
/-
  What the reference of the projection leaves in its results: each of them one formula of the arguments.
-/
module

public import proofs.«01_k».proof.Proof.QRefU
public import proofs.«01_k».proof.Proof.QRefK
public import proofs.«01_k».proof.Proof.QRefQ
public import proofs.«01_k».proof.Proof.Gen.Reference2Ideal.Run

@[expose] public section

set_option maxRecDepth 16384

noncomputable section

namespace Cert.Reference2Ideal.Read

open Cert.Reference2Ideal Cert.Reference2Ideal.Gen Cert.Proj
open Idealize.ShloMosaic Idealize.ShloMosaic.Tactic Idealize.SL.Sem

section
variable {x0 : Vec Ideal S4x8192x1024 .f32} {x1 : Vec Ideal S1024 .f32} {x2 : Vec Ideal S1024x3864 .f32} {x5 : Vec Ideal S64 .f32} {x6 : Vec Ideal S3x64 .f32}
variable {A : Ins} (H : Reads x0 x1 x2 x5 x6 A)
include H

theorem eq72 : val_main_v72 (F := Ideal) x0 x1 x2 x6 = (fun y => A.rows 0 (y 0) (y 1) (y 2) : Vec Ideal S4x8192x256 .f32) := by
  funext y
  idx_vars y
  exact rows0_ref H y0 y1 y2

theorem eq74 : val_main_v74 (F := Ideal) x0 x1 x2 x6 = (fun y => A.rows 1 (y 0) (y 1) (y 2) : Vec Ideal S4x8192x256 .f32) := by
  funext y
  idx_vars y
  exact rows1_ref H y0 y1 y2

theorem eq76 : val_main_v76 (F := Ideal) x0 x1 x2 x6 = (fun y => A.rows 2 (y 0) (y 1) (y 2) : Vec Ideal S4x8192x256 .f32) := by
  funext y
  idx_vars y
  exact rows2_ref H y0 y1 y2

theorem eq78 : val_main_v78 (F := Ideal) x0 x1 x2 = (fun y => A.lastU (y 0) (y 1) (y 2) : Vec Ideal S4x8x512 .f32) := by
  funext y
  idx_vars y
  exact lastU_ref H y0 y1 y2

theorem eq143 : val_main_v143 (F := Ideal) x0 x1 x2 x6 = (fun y => A.keyAt 1 (y 0) (y 1) (y 2) : Vec Ideal S4x128x8192 .bf16) := by
  funext y
  idx_vars y
  exact kt1_ref H y0 y2 y1

theorem eq145 : val_main_v145 (F := Ideal) x0 x1 x2 x6 = (fun y => A.keyAt 2 (y 0) (y 1) (y 2) : Vec Ideal S4x128x8192 .bf16) := by
  funext y
  idx_vars y
  exact kt2_ref H y0 y2 y1

theorem eq147 : val_main_v147 (F := Ideal) x0 x1 x2 = (fun y => A.valAt 1 (y 0) (y 1) (y 2) : Vec Ideal S4x8192x128 .bf16) := by
  funext y
  idx_vars y
  exact vs_ref H y0 y1 y2

theorem eq149 : val_main_v149 (F := Ideal) x0 x1 x2 = (fun y => A.valAt 2 (y 0) (y 1) (y 2) : Vec Ideal S4x8192x128 .bf16) := by
  funext y
  idx_vars y
  exact vw_ref H y0 y1 y2

theorem eq88 : val_main_v88 (F := Ideal) x0 x1 x2 = (fun y => A.gate (y 0) (y 1) (y 2) : Vec Ideal S4x8192x128 .f32) := by
  funext y
  idx_vars y
  exact gate_ref H y0 y1 y2

theorem eq95 : val_main_v95 (F := Ideal) x0 x1 x2 = (fun y => A.zs (y 0) (y 1) (y 2) : Vec Ideal S4x8192x512 .f32) := by
  funext y
  idx_vars y
  exact zs_ref H y0 y1 y2

theorem eq141 : val_main_v141 (F := Ideal) x0 x1 x2 x5 = (fun y => A.q (y 0) (y 1) (y 2) (y 3) : Vec Ideal S4x8x8192x64 .bf16) := by
  funext y
  idx_vars y
  exact q_ref H y0 y2 y1 y3

end

set_option maxHeartbeats 1600000 in
theorem run_value (m : (ℓ : Loc nD τ sig) → Buf (Elt Ideal) ℓ) (ρ : Dev nD → PrngReg) (A : Dev nD → Ins)
    (H : ∀ c : Dev nD, Reads (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (A c)) :
    θ_run defs (onTc (τ := τ) (main (F := Ideal))) ⟨m, fun _ => 0, ρ⟩ (fun r => ∀ c : Dev nD,
      r.2.mem ((c.tc : Thread nD τ).loc main_v72) = (fun y => (A c).rows 0 (y 0) (y 1) (y 2) : Vec Ideal S4x8192x256 .f32)
      ∧ r.2.mem ((c.tc : Thread nD τ).loc main_v74) = (fun y => (A c).rows 1 (y 0) (y 1) (y 2) : Vec Ideal S4x8192x256 .f32)
      ∧ r.2.mem ((c.tc : Thread nD τ).loc main_v76) = (fun y => (A c).rows 2 (y 0) (y 1) (y 2) : Vec Ideal S4x8192x256 .f32)
      ∧ r.2.mem ((c.tc : Thread nD τ).loc main_v78) = (fun y => (A c).lastU (y 0) (y 1) (y 2) : Vec Ideal S4x8x512 .f32)
      ∧ r.2.mem ((c.tc : Thread nD τ).loc main_v143) = (fun y => (A c).keyAt 1 (y 0) (y 1) (y 2) : Vec Ideal S4x128x8192 .bf16)
      ∧ r.2.mem ((c.tc : Thread nD τ).loc main_v145) = (fun y => (A c).keyAt 2 (y 0) (y 1) (y 2) : Vec Ideal S4x128x8192 .bf16)
      ∧ r.2.mem ((c.tc : Thread nD τ).loc main_v147) = (fun y => (A c).valAt 1 (y 0) (y 1) (y 2) : Vec Ideal S4x8192x128 .bf16)
      ∧ r.2.mem ((c.tc : Thread nD τ).loc main_v149) = (fun y => (A c).valAt 2 (y 0) (y 1) (y 2) : Vec Ideal S4x8192x128 .bf16)
      ∧ r.2.mem ((c.tc : Thread nD τ).loc main_v88) = (fun y => (A c).gate (y 0) (y 1) (y 2) : Vec Ideal S4x8192x128 .f32)
      ∧ r.2.mem ((c.tc : Thread nD τ).loc main_v95) = (fun y => (A c).zs (y 0) (y 1) (y 2) : Vec Ideal S4x8192x512 .f32)
      ∧ r.2.mem ((c.tc : Thread nD τ).loc main_v141) = (fun y => (A c).q (y 0) (y 1) (y 2) (y 3) : Vec Ideal S4x8x8192x64 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ?_) (Value.run m ρ)
  obtain ⟨h72, h74, h76, h78, h143, h145, h147, h149, h88, h95, h141, hargs⟩ := h c
  exact ⟨h72.trans ((val_main_v72_eq m c).trans (eq72 (H c))),
    h74.trans ((val_main_v74_eq m c).trans (eq74 (H c))),
    h76.trans ((val_main_v76_eq m c).trans (eq76 (H c))),
    h78.trans ((val_main_v78_eq _ _ _).trans (eq78 (H c))),
    h143.trans ((val_main_v143_eq m c).trans (eq143 (H c))),
    h145.trans ((val_main_v145_eq m c).trans (eq145 (H c))),
    h147.trans ((val_main_v147_eq _ _ _).trans (eq147 (H c))),
    h149.trans ((val_main_v149_eq _ _ _).trans (eq149 (H c))),
    h88.trans ((val_main_v88_eq _ _ _).trans (eq88 (H c))),
    h95.trans ((val_main_v95_eq _ _ _).trans (eq95 (H c))),
    h141.trans ((val_main_v141_eq m c).trans (eq141 (H c))), hargs⟩

end Cert.Reference2Ideal.Read

end
-- ==== Proof.QFinite.lean ====
/-
  What the second precondition says of the arrays: every entry of the input, of its gain and of the weights is a real number.
-/
module

public import proofs.«01_k».proof.Defs
public import proofs.«01_k».proof.Proof.Finite
public import proofs.«01_k».proof.Proof.QSpec

@[expose] public section

set_option maxRecDepth 16384

noncomputable section

namespace Cert.Proj

open Idealize.ShloMosaic

section
variable [Cert.Pre_finite2.Facts]
open Cert.Pre_finite2 Cert.Pre_finite2.Facts

theorem finite_ins (x : FVec Ideal S4x8192x1024 .f32) (g : FVec Ideal S1024 .f32) (w : FVec Ideal S1024x3864 .f32) (cw : FVec Ideal S3x512 .f32) (cb : FVec Ideal S512 .f32)
    (qg : FVec Ideal S64 .f32) (kg : FVec Ideal S3x64 .f32) (h : fn (F := Ideal) x g w cw cb qg kg = fun _ => 1#1) :
    (∀ i, Real' (x i)) ∧ (∀ i, Real' (g i)) ∧ (∀ i, Real' (w i)) := by
  have h0 := congrFun h (fun a => a.elim0)
  dsimp only [fn] at h0
  obtain ⟨h1, hw⟩ := Layer.and_one h0
  obtain ⟨hx, hg⟩ := Layer.and_one h1
  haveI : Subsingleton S_.Idx := ⟨fun a b => funext fun x => x.elim0⟩
  exact ⟨fun i => real_of (Layer.real_of_abs _ (Host.reduce_andi_all _ _ _ _ _ hx i)), fun i => real_of (Layer.real_of_abs _ (Host.reduce_andi_all _ _ _ _ _ hg i)),
    fun i => real_of (Layer.real_of_abs _ (Host.reduce_andi_all _ _ _ _ _ hw i))⟩
end

end Cert.Proj

end
-- ==== Proof.QAgree.lean ====
/-
  The projection's claims: the frames of its printed program, of its idealization and of its reference, and their agreement where
  the input, its gain and the weights are finite.
-/
module

public import proofs.«01_k».proof.Defs
public import proofs.«01_k».proof.Proof.PQLaunch
public import proofs.«01_k».proof.Proof.QValue
public import proofs.«01_k».proof.Proof.QRefRun
public import proofs.«01_k».proof.Proof.QFinite

@[expose] public section

set_option maxRecDepth 16384

noncomputable section

namespace Cert.Proj

open Idealize.ShloMosaic Idealize.SL.Sem

/-- The projection as printed runs and changes none of its arguments. -/
theorem printed_frame : Cert.quiescent_Kernel2 (hKernel2 := Cert.Kernel2.Gen.facts) :=
  fun m g _ => Cert.Kernel2.Body.frame_all m g

/-- So does its idealization, -/
theorem ideal_frame : Cert.quiescent_Kernel2Ideal (hKernel2Ideal := Cert.Kernel2Ideal.Gen.facts) :=
  fun m g _ => Cert.Kernel2Ideal.Body.frame_all m g

/-- and its reference, which declares no counter. -/
theorem reference_frame : Cert.quiescent_Reference2Ideal (hReference2Ideal := Cert.Reference2Ideal.Gen.facts) :=
  fun m g _ => (θ_run Cert.Reference2Ideal.defs _ _).mono
    (fun r h => ⟨fun c => (h c).2.2.2.2.2.2.2.2.2.2.2, sem_eq_zero_of_no_sems (by decide) r.2⟩) (Cert.Reference2Ideal.Value.run m g)

section
variable [Cert.Pre_finite2.Facts]

theorem real_of_pre (m : (ℓ : Loc Cert.Kernel2Ideal.nD Cert.Kernel2Ideal.τ Cert.Kernel2Ideal.sig) → Buf (Elt Ideal) ℓ)
    (h : Cert.Pre_Kernel2Ideal_finite2 m) (c : Dev Cert.Kernel2Ideal.nD) : (Cert.Kernel2Ideal.Body.ins m c).Real := by
  obtain ⟨hx, hg, hw⟩ := finite_ins _ _ _ _ _ _ _ (h c)
  exact ⟨fun b t k => hx _, fun k => hg _, fun k c => hw _⟩

/-- The projection and its reference agree where the input, its gain and the weights are finite. -/
theorem agree : Cert.algebraic_Kernel2Ideal_Reference2Ideal_pre_finite2 (hKernel2Ideal := Cert.Kernel2Ideal.Gen.facts)
    (hReference2Ideal := Cert.Reference2Ideal.Gen.facts) := by
  intro m g m' g' hpre hagree
  refine ⟨fun c => (fun y => (Cert.Kernel2Ideal.Body.ins m c).rows 0 (y 0) (y 1) (y 2) : Vec Ideal Cert.Kernel2Ideal.S4x8192x256 .f32),
    fun c => (fun y => (Cert.Kernel2Ideal.Body.ins m c).rows 1 (y 0) (y 1) (y 2) : Vec Ideal Cert.Kernel2Ideal.S4x8192x256 .f32),
    fun c => (fun y => (Cert.Kernel2Ideal.Body.ins m c).rows 2 (y 0) (y 1) (y 2) : Vec Ideal Cert.Kernel2Ideal.S4x8192x256 .f32),
    fun c => (fun y => (Cert.Kernel2Ideal.Body.ins m c).lastU (y 0) (y 1) (y 2) : Vec Ideal Cert.Kernel2Ideal.S4x8x512 .f32),
    fun c => (fun y => (Cert.Kernel2Ideal.Body.ins m c).keyAt 1 (y 0) (y 1) (y 2) : Vec Ideal Cert.Kernel2Ideal.S4x128x8192 .bf16),
    fun c => (fun y => (Cert.Kernel2Ideal.Body.ins m c).keyAt 2 (y 0) (y 1) (y 2) : Vec Ideal Cert.Kernel2Ideal.S4x128x8192 .bf16),
    fun c => (fun y => (Cert.Kernel2Ideal.Body.ins m c).valAt 1 (y 0) (y 1) (y 2) : Vec Ideal Cert.Kernel2Ideal.S4x8192x128 .bf16),
    fun c => (fun y => (Cert.Kernel2Ideal.Body.ins m c).valAt 2 (y 0) (y 1) (y 2) : Vec Ideal Cert.Kernel2Ideal.S4x8192x128 .bf16),
    fun c => (fun y => (Cert.Kernel2Ideal.Body.ins m c).gate (y 0) (y 1) (y 2) : Vec Ideal Cert.Kernel2Ideal.S4x8192x128 .f32),
    fun c => (fun y => (Cert.Kernel2Ideal.Body.ins m c).zs (y 0) (y 1) (y 2) : Vec Ideal Cert.Kernel2Ideal.S4x8192x512 .f32),
    fun c => (fun y => (Cert.Kernel2Ideal.Body.ins m c).q (y 0) (y 1) (y 2) (y 3) : Vec Ideal Cert.Kernel2Ideal.S4x8x8192x64 .bf16),
    Cert.Kernel2Ideal.Body.run_value m g (real_of_pre m hpre), Cert.Reference2Ideal.Read.run_value m' g' (Cert.Kernel2Ideal.Body.ins m) fun c => ?_⟩
  obtain ⟨h0, h1, h2, -, -, h5, h6⟩ := hagree c
  exact ⟨fun b t k => congrFun h0 _, fun k => congrFun h1 _, fun k c => congrFun h2 _, fun d => congrFun h5 _, fun i d => congrFun h6 _⟩
end

end Cert.Proj

end
-- ==== Proof.OValue.lean ====
/-
  What the output projection leaves in its result: the input, and the products of the convolution's and of the attention's branch
  with the upper and the lower half of the weights' rows.
-/
module

public import proofs.«01_k».proof.Proof.Gen.Kernel3Ideal.Value
public import Idealize.ShloMosaic.Lib.Pipeline.ValueKit
public import Idealize.ShloMosaic.Lib.WholeRead
public import Idealize.ShloMosaic.Lib.Pointwise

@[expose] public section

set_option maxRecDepth 16384

noncomputable section

namespace Cert.OutProj

open Idealize.ShloMosaic

/-- The output at a row and a column, over the arrays. -/
def y (x : Fin 32768 → Fin 1024 → EReal) (cv at' : Fin 32768 → Fin 512 → EReal) (w : Fin 1024 → Fin 1024 → EReal) (r : Fin 32768) (j : Fin 1024) : EReal :=
  x r j + ∑ k : Fin 512, cv r k * w ⟨k.val, by omega⟩ j + ∑ k : Fin 512, at' r k * w ⟨512 + k.val, by omega⟩ j

end Cert.OutProj

namespace Cert.Kernel3Ideal.Body

open Cert.Kernel3Ideal Cert.Kernel3Ideal.Gen Cert.OutProj
open Idealize.ShloMosaic Idealize.ShloMosaic.TcCoe Idealize.ShloMosaic.Tactic Idealize.SL.Sem

/-- What the body leaves in its block. -/
theorem out_at (x0 : Vec Ideal S512x1024 .f32) (x1 : Vec Ideal S512x512 .bf16) (x2 : Vec Ideal S512x512 .bf16) (x3 : Vec Ideal S1024x1024 .bf16) (r : Fin 512) (j : Fin 1024) :
    out0_4 x0 x1 x2 x3 (ix2 r j) = (x0 (ix2 r j) + ∑ k : Fin 512, x1 (ix2 r k) * x3 (ix2 (⟨k.val, by omega⟩ : Fin 1024) j)
      + ∑ k : Fin 512, x2 (ix2 r k) * x3 (ix2 (⟨512 + k.val, by omega⟩ : Fin 1024) j) : EReal) := by
  refine (congrFun (View.canon_unit_zero (S := S512x1024) (by funext a; fin_cases a <;> rfl) _ _) _).trans ?_
  have e0 : ∀ r j, View.ld x0 r0_0 (ix2 r j) = x0 (ix2 r j) := fun r j => View.ld_unit_apply_of _ _ _ _ _ _ (by intro a; fin_cases a <;> simp)
  have e1 : ∀ r k, View.ld x1 r0_1 (ix2 r k) = x1 (ix2 r k) := fun r j => View.ld_unit_apply_of _ _ _ _ _ _ (by intro a; fin_cases a <;> simp)
  have e2 : ∀ r k, View.ld x2 r0_1 (ix2 r k) = x2 (ix2 r k) := fun r j => View.ld_unit_apply_of _ _ _ _ _ _ (by intro a; fin_cases a <;> simp)
  have e3 : ∀ (k : Fin 512) (j : Fin 1024), View.ld x3 r0_2 (ix2 k j) = x3 (ix2 (⟨k.val, by omega⟩ : Fin 1024) j) := fun k j => View.ld_unit_apply_of _ _ _ _ _ _ (by intro a; fin_cases a <;> simp)
  have e4 : ∀ (k : Fin 512) (j : Fin 1024), View.ld x3 r0_3 (ix2 k j) = x3 (ix2 (⟨512 + k.val, by omega⟩ : Fin 1024) j) := fun k j => View.ld_unit_apply_of _ _ _ _ _ _ (by intro a; fin_cases a <;> simp)
  generalize View.ld x0 r0_0 = l0 at e0 ⊢
  generalize View.ld x1 r0_1 = l1 at e1 ⊢
  generalize View.ld x2 r0_1 = l2 at e2 ⊢
  generalize View.ld x3 r0_2 = l3 at e3 ⊢
  generalize View.ld x3 r0_3 = l4 at e4 ⊢
  pointwise [k0_pay1]
  simp only [e0, e1, e2, e3, e4]

variable (m : (ℓ : Loc nD τ sig) → Buf (Elt Ideal) ℓ) (ρ : Dev nD → PrngReg) (c : Dev nD)

/-- The output over the arrays the program is given. -/
def res : Vec Ideal S32768x1024 .f32 := fun i =>
  y (fun r j => (m ((c : Thread nD τ).loc main_arg0) : Vec Ideal S32768x1024 .f32) (ix2 r j)) (fun r j => (m ((c : Thread nD τ).loc main_arg1) : Vec Ideal S32768x512 .bf16) (ix2 r j))
    (fun r j => (m ((c : Thread nD τ).loc main_arg2) : Vec Ideal S32768x512 .bf16) (ix2 r j)) (fun r j => (m ((c : Thread nD τ).loc main_arg3) : Vec Ideal S1024x1024 .f32) (ix2 r j)) (i 0) (i 1)

/-- The weights as the host hands them on. -/
theorem V0 (k j : Fin 1024) : (V m c main_v0 : Vec Ideal S1024x1024 .bf16) (ix2 k j) = (m ((c : Thread nD τ).loc main_arg3) : Vec Ideal S1024x1024 .f32) (ix2 k j) := by
  unfold V
  simp only [hostOps0, List.flatten_cons, List.flatten_nil, List.cons_append, List.nil_append]
  after_results_simp
  pointwise []

/-- The row that a block's row is. -/
abbrev rw0 (t : Fin cfg0.N) (r : Fin 512) : Fin 32768 := ⟨t.val * 512 + r.val, by have : t.val < 64 := lt_of_lt_of_eq t.isLt (show cfg0.N = 64 from N_0); omega⟩

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)

theorem iblk0 (t : Fin cfg0.N) (r : Fin 512) (k : Fin 1024) : (iblk m c 0 t : Vec Ideal S512x1024 .f32) (ix2 r k) = V m c main_arg0 (ix2 (rw0 t r) k) := by
  blk_ext! [iblk, idx0 t]
theorem iblk1 (t : Fin cfg0.N) (r : Fin 512) (k : Fin 512) : (iblk m c 1 t : Vec Ideal S512x512 .bf16) (ix2 r k) = V m c main_arg1 (ix2 (rw0 t r) k) := by
  blk_ext! [iblk, idx1 t]
theorem iblk2 (t : Fin cfg0.N) (r : Fin 512) (k : Fin 512) : (iblk m c 2 t : Vec Ideal S512x512 .bf16) (ix2 r k) = V m c main_arg2 (ix2 (rw0 t r) k) := by
  blk_ext! [iblk, idx2 t]
theorem iblk3 (t : Fin cfg0.N) (k j : Fin 1024) : (iblk m c 3 t : Vec Ideal S1024x1024 .bf16) (ix2 k j) = V m c main_v0 (ix2 k j) := by
  blk_ext! [iblk, idx3 t]

/-- The finished array. -/
theorem final4 : ((dats m 0 c).arrAt 4 cfg0.N : Vec Ideal S32768x1024 .f32) = res m c := by
  refine (dats m 0 c).arrAt_eq_of_covers 4 _ (by decide +kernel) fun t hf y => ?_
  blk_simp
  rw [after0_4]
  idx_vars y
  refine (out_at _ _ _ _ y0 y1).trans ?_
  have e : ((win0_4.blk t).view.emb (ix2 y0 y1) : S32768x1024.Idx) = ix2 (rw0 t y0) y1 := by
    blk_ext [idx4 t]
  refine Eq.trans ?_ (congrArg (res m c) e).symm
  simp only [iblk0, iblk1, iblk2, iblk3, V0, V_main_arg0, V_main_arg1, V_main_arg2]
  rfl

/-- What the run leaves. -/
theorem run_value : θ_run defs (onTc (τ := τ) (main (F := Ideal))) ⟨m, fun _ => 0, ρ⟩ fun r => ∀ c : Dev nD,
      r.2.mem ((c : Thread nD τ).loc main_v1) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2⟩) (Cert.Kernel3Ideal.Value.run_blocks m ρ)

end Cert.Kernel3Ideal.Body

end
-- ==== Proof.ORef.lean ====
/-
  The output projection's reference: one product over the joined branches is the two products over the halves.
-/
module

public import proofs.«01_k».proof.Proof.OValue
public import proofs.«01_k».proof.Proof.Gen.Reference3Ideal.Read
public import Idealize.ShloMosaic.Lib.Pointwise

@[expose] public section

set_option maxRecDepth 16384

noncomputable section

namespace Cert.Reference3Ideal.Read

open Cert.Reference3Ideal Cert.Reference3Ideal.Gen Cert.OutProj
open Idealize.ShloMosaic Idealize.ShloMosaic.TcCoe Idealize.ShloMosaic.Tactic Idealize.SL.Sem Idealize.ShloMosaic.StableHlo

variable (x0 : Vec Ideal S32768x1024 .f32) (x1 x2 : Vec Ideal S32768x512 .bf16) (x3 : Vec Ideal S1024x1024 .f32)

/-- The joined branches: the convolution's columns first, -/
theorem join_low (r : Fin 32768) (k : Fin 512) : val_main_v2 (F := Ideal) x1 x2 (ix2 r (⟨k.val, by omega⟩ : Fin 1024)) = x1 (ix2 r k) := by
  have e1 := concatenate_pair_apply_left (t := S32768x1024) 1 (val_main_v0 (F := Ideal) x1) (val_main_v1 (F := Ideal) x2) concatenates_S32768x512_S32768x512_S32768x1024_d1
    (ix2 r (⟨k.val, by omega⟩ : Fin 1024)) rfl (ix2 r k) (by intro a; fin_cases a <;> rfl)
  exact e1

/-- the attention's after them. -/
theorem join_high (r : Fin 32768) (k : Fin 512) : val_main_v2 (F := Ideal) x1 x2 (ix2 r (⟨512 + k.val, by omega⟩ : Fin 1024)) = x2 (ix2 r k) := by
  have e1 := concatenate_pair_apply_right (t := S32768x1024) 1 (val_main_v0 (F := Ideal) x1) (val_main_v1 (F := Ideal) x2) concatenates_S32768x512_S32768x512_S32768x1024_d1
    (ix2 r (⟨512 + k.val, by omega⟩ : Fin 1024)) rfl rfl (ix2 r k) (by intro a ha; fin_cases a <;> first | rfl | exact absurd rfl ha) (Nat.add_comm _ _)
  exact e1

theorem y_ref (r : Fin 32768) (j : Fin 1024) : val_main_v4 (F := Ideal) x0 x1 x2 x3 (ix2 r j)
    = y (fun r j => x0 (ix2 r j)) (fun r j => x1 (ix2 r j)) (fun r j => x2 (ix2 r j)) (fun r j => x3 (ix2 r j)) r j := by
  rw [val_main_v4_apply, val_main_v3_apply]
  have el : ∀ k, lidx_main_v3 (ix2 r j) k = ix2 r k := fun k => by blk_ext
  have er : ∀ k, ridx_main_v3 (ix2 r j) k = ix2 k j := fun k => by blk_ext
  simp only [el, er]
  have e := Fin.sum_univ_add (M := EReal) (a := 512) (b := 512) fun k => val_main_v2 (F := Ideal) x1 x2 (ix2 r k) * x3 (ix2 k j)
  have h1 : ∀ k : Fin 512, val_main_v2 (F := Ideal) x1 x2 (ix2 r (Fin.castAdd 512 k)) = x1 (ix2 r k) := join_low x1 x2 r
  have h2 : ∀ k : Fin 512, val_main_v2 (F := Ideal) x1 x2 (ix2 r (Fin.natAdd 512 k)) = x2 (ix2 r k) := join_high x1 x2 r
  simp only [h1, h2] at e
  refine (congrArg (fun s : EReal => (x0 (ix2 r j) : EReal) + s) e).trans ?_
  unfold y
  exact (add_assoc _ _ _).symm

end Cert.Reference3Ideal.Read

end
-- ==== Proof.OAgree.lean ====
/-
  The output projection's claims: the frames of its printed program, of its idealization and of its reference, and their agreement.
-/
module

public import proofs.«01_k».proof.Defs
public import proofs.«01_k».proof.Proof.Gen.Kernel3.Frame
public import proofs.«01_k».proof.Proof.OValue
public import proofs.«01_k».proof.Proof.ORef
public import Idealize.ShloMosaic.Lib.Claim

@[expose] public section

set_option maxRecDepth 16384

noncomputable section

namespace Cert.OutProj

open Idealize.ShloMosaic Idealize.ShloMosaic.Tactic Idealize.SL.Sem

/-- The output projection as printed runs and changes none of its arguments. -/
theorem printed_frame : Cert.quiescent_Kernel3 (hKernel3 := Cert.Kernel3.Gen.facts) :=
  fun m g _ => Cert.Kernel3.Gen.frame m g

/-- So does its idealization, -/
theorem ideal_frame : Cert.quiescent_Kernel3Ideal (hKernel3Ideal := Cert.Kernel3Ideal.Gen.facts) :=
  fun m g _ => Cert.Kernel3Ideal.Gen.frame m g

/-- and its reference, which declares no counter. -/
theorem reference_frame : Cert.quiescent_Reference3Ideal (hReference3Ideal := Cert.Reference3Ideal.Gen.facts) :=
  fun m g _ => (θ_run Cert.Reference3Ideal.defs _ _).mono
    (fun r h => ⟨fun c => (h c).2, sem_eq_zero_of_no_sems (by decide) r.2⟩) (Cert.Reference3Ideal.Value.run m g)

/-- The output projection and its reference agree. -/
theorem agree : Cert.algebraic_Kernel3Ideal_Reference3Ideal (hKernel3Ideal := Cert.Kernel3Ideal.Gen.facts)
    (hReference3Ideal := Cert.Reference3Ideal.Gen.facts) := by
  intro m g m' g' _ hagree
  refine ⟨fun c => Cert.Kernel3Ideal.Body.res m c, Cert.Kernel3Ideal.Body.run_value m g,
    (θ_run Cert.Reference3Ideal.defs _ _).mono (fun r h c => ⟨(h c).1.trans ?_, (h c).2⟩) (Cert.Reference3Ideal.Value.run m' g')⟩
  obtain ⟨h0, h1, h2, h3⟩ := hagree c
  rw [h0, h1, h2, h3]
  refine (Cert.Reference3Ideal.Read.val_main_v4_eq _ _ _ _).trans ?_
  funext i
  idx_vars i
  exact Cert.Reference3Ideal.Read.y_ref _ _ _ _ i0 i1

end Cert.OutProj

end
-- ==== Proof.SSpec.lean ====
/-
  The projection of a decoding step in plain formulas: one row of each of 32 samples at the position after the past, the
  convolution over the two rows kept from before and this one.
-/
module

public import proofs.«01_k».proof.Proof.QSpec

@[expose] public section

noncomputable section

namespace Cert.Proj

open Idealize.ShloMosaic

/-- The arrays a step's projection reads. -/
structure SIns where
  x : Fin 32 → Fin 1024 → EReal
  g : Fin 1024 → EReal
  w : Fin 1024 → Fin 3864 → EReal
  cw : Fin 3 → Fin 512 → EReal
  cb : Fin 512 → EReal
  kg : Fin 3 → Fin 64 → EReal
  s : Fin 32 → Fin 2 → Fin 512 → EReal

namespace SIns

variable (A : SIns)

/-- Every entry of the input, its gain and the weights is a real number. -/
structure Real : Prop where
  x : ∀ r k, Real' (A.x r k)
  g : ∀ k, Real' (A.g k)
  w : ∀ k c, Real' (A.w k c)

/-- The projection, -/
def pr (r : Fin 32) (c : Fin 3864) : EReal := proj (A.x r) A.g fun k => A.w k c

/-- a key: the normed head `j` of branch `i`, rotated by the position 16384, -/
def key (r : Fin 32) (i : Fin 3) (j : Fin 2) (d : Fin 64) : EReal :=
  rope 16384 (nrm (fun e => A.pr r ⟨2560 + 256 * i.val + 64 * j.val + e.val, by omega⟩) (A.kg i)) d

/-- a branch's row: its keys, then its values, -/
def rows (i : Fin 3) (r : Fin 32) (c : Fin 256) : EReal :=
  if h : c.val < 128 then A.key r i ⟨c.val / 64, by omega⟩ ⟨c.val % 64, by omega⟩ else A.pr r ⟨2560 + 256 * i.val + c.val, by omega⟩

/-- the convolution's input, -/
def u (r : Fin 32) (c : Fin 512) : EReal := A.pr r ⟨512 + c.val, by omega⟩ * A.pr r ⟨1024 + c.val, by omega⟩

/-- the branch gates, padded, -/
def gate (r : Fin 32) (l : Fin 128) : EReal := if h : l.val < 24 then sig (A.pr r ⟨3328 + l.val, by omega⟩) else sig 0

/-- z_attn through its gate, -/
def zs (r : Fin 32) (c : Fin 512) : EReal := A.pr r ⟨3352 + c.val, by omega⟩ * sig (A.pr r ⟨3352 + c.val, by omega⟩)

/-- and the convolution, gated. -/
def conv (r : Fin 32) (c : Fin 512) : EReal :=
  A.pr r ⟨c.val, by omega⟩ * (A.cw 0 c * A.s r 0 c + A.cw 1 c * A.s r 1 c + A.cw 2 c * A.u r c + A.cb c)
    * (A.pr r ⟨1536 + c.val, by omega⟩ * sig (A.pr r ⟨1536 + c.val, by omega⟩))

/-- The weights as the kernel holds them: zeros put in after the gates' columns. -/
def wp (k : Fin 1024) (c : Fin 3968) : EReal :=
  if h : c.val < 3352 then A.w k ⟨c.val, by omega⟩ else if h' : c.val < 3456 then 0 else A.w k ⟨c.val - 104, by omega⟩

end SIns

end Cert.Proj

end
-- ==== Proof.SPay.lean ====
/-
  What the step's body leaves in each output's block, entry by entry, in the formulas of the projection: for blocks that hold
  the rows, the weights with their padding, the one row of cosines and of signed sines, the gains, the matrix of zeros and ones
  and the two rows kept from before.
-/
module

public import proofs.«01_k».proof.Proof.SSpec
public import proofs.«01_k».proof.Proof.QPay
public import proofs.«01_k».proof.Proof.Gen.Kernel4Ideal.Frame
public import Idealize.ShloMosaic.Lib.Pointwise

@[expose] public section

set_option maxRecDepth 16384

noncomputable section

namespace Cert.Kernel4Ideal.Body

open Cert.Kernel4Ideal Cert.Kernel4Ideal.Gen Cert.Proj
open Idealize.ShloMosaic Idealize.ShloMosaic.TcCoe Idealize.ShloMosaic.Tactic

variable (x0 : Vec Ideal S32x1024 .f32) (x1 : Vec Ideal S1x1024 .f32) (x2 : Vec Ideal S1024x3968 .bf16) (x3 : Vec Ideal S1x128 .f32) (x4 : Vec Ideal S1x128 .f32) (x5 : Vec Ideal S1x512 .f32) (x6 : Vec Ideal S3x128 .f32) (x7 : Vec Ideal S512x512 .bf16) (x8 : Vec Ideal S3x512 .f32) (x9 : Vec Ideal S1x512 .f32) (x10 x11 : Vec Ideal S32x512 .f32)

/-- The normed rows, -/
def hS : FVec Ideal S32x1024 .bf16 := k0_pay3 (View.ld x0 r0_0) (View.ld x1 r0_2)
/-- the columns of the weights the body reads, -/
def wCv : Vec Ideal S1024x2048 .bf16 := View.ld x2 r0_3
def wKv : Vec Ideal S1024x768 .bf16 := View.ld x2 r0_7
def wGz : Vec Ideal S1024x640 .bf16 := View.ld x2 r0_12
/-- the products with the keys' and values' columns, -/
def kvS : FVec Ideal S32x768 .f32 := k0_pay22 (hS x0 x1) (wKv x2)
/-- the matrix of zeros and ones for two heads, -/
def onS : Vec Ideal S128x128 .bf16 := View.ld x7 r0_8
/-- the cosines and the signed sines. -/
def cosS : FVec Ideal S1x128 .f32 := k0_pay1 (View.ld x3 r0_1)
def sinS : FVec Ideal S1x128 .f32 := k0_pay2 (View.ld x4 r0_1)

/-- What the blocks hold. -/
structure Blocks (A : SIns) : Prop where
  real : A.Real
  x0 : ∀ r k, x0 (ix2 r k) = A.x r k
  x1 : ∀ k, x1 (ix2 0 k) = A.g k
  x2 : ∀ k c, x2 (ix2 k c) = A.wp k c
  x3 : ∀ l, x3 (ix2 0 l) = Ideal.cos (ang 16384 (l.val % 32))
  x4 : ∀ l, x4 (ix2 0 l) = if l.val % 64 < 32 then -Ideal.sin (ang 16384 (l.val % 32)) else Ideal.sin (ang 16384 (l.val % 32))
  x6 : ∀ i l, x6 (ix2 i l) = A.kg i ⟨l.val % 64, by omega⟩
  x7 : ∀ k l, x7 (ix2 k l) = if k.val / 64 = l.val / 64 then 1 else 0
  x8 : ∀ i k, x8 (ix2 i k) = A.cw i k
  x9 : ∀ k, x9 (ix2 0 k) = A.cb k
  x10 : ∀ r k, x10 (ix2 r k) = A.s r 0 k
  x11 : ∀ r k, x11 (ix2 r k) = A.s r 1 k

variable {x0 x1 x2 x3 x4 x5 x6 x7 x8 x9 x10 x11}
variable {A : SIns} (H : Blocks x0 x1 x2 x3 x4 x6 x7 x8 x9 x10 x11 A)
include H

theorem hRow_at (r : Fin 32) (k : Fin 1024) : hS x0 x1 (ix2 r k) = row (A.x r) A.g k := by
  unfold hS
  pointwise [k0_pay3]
  rw [H.x1, H.x0, Finset.sum_congr rfl fun j _ => by rw [H.x0]]
  rfl

/-- A normed row's product with a column of the padded weights. -/
theorem col_at (r : Fin 32) (c : Fin 3968) (w : Fin 1024 → EReal) (hw : ∀ k, w k = x2 (ix2 k c)) :
    ∑ k, hS x0 x1 (ix2 r k) * w k = proj (A.x r) A.g fun k => A.wp k c := by
  unfold proj
  exact Finset.sum_congr rfl fun k _ => by rw [hRow_at H, hw, H.x2]

omit H in
theorem wp_low (A : SIns) (c : Fin 3968) (h : c.val < 3352) (r : Fin 32) (c' : Fin 3864) (hc : c'.val = c.val) :
    (proj (A.x r) A.g fun k => A.wp k c) = A.pr r c' := by
  rw [show c' = ⟨c.val, by omega⟩ from Fin.ext hc]
  unfold SIns.pr SIns.wp
  exact congrArg (proj _ _) (funext fun k => dif_pos h)

omit H in
theorem wp_high (A : SIns) (c : Fin 3968) (h : ¬ c.val < 3456) (r : Fin 32) (c' : Fin 3864) (hc : c'.val = c.val - 104) :
    (proj (A.x r) A.g fun k => A.wp k c) = A.pr r c' := by
  rw [show c' = ⟨c.val - 104, by omega⟩ from Fin.ext hc]
  unfold SIns.pr SIns.wp
  exact congrArg (proj _ _) (funext fun k => by rw [dif_neg (by omega), dif_neg h])

omit H in
theorem wp_pad (A : SIns) (c : Fin 3968) (h : ¬ c.val < 3352) (h' : c.val < 3456) (r : Fin 32) :
    (proj (A.x r) A.g fun k => A.wp k c) = 0 := by
  unfold proj SIns.wp
  exact Finset.sum_eq_zero fun k _ => by dsimp only; rw [dif_neg h, dif_pos h', mul_zero]

theorem kv_at (r : Fin 32) (j : Fin 768) : kvS x0 x1 x2 (ix2 r j) = A.pr r ⟨2560 + j.val, by omega⟩ := by
  unfold kvS
  pointwise [k0_pay22]
  refine (col_at H r ⟨2560 + j.val, by omega⟩ (fun k => wKv x2 (ix2 k j)) fun k => ?_).trans (wp_low A _ (by show 2560 + j.val < 3352; omega) r _ rfl)
  exact View.ld_unit_apply_of _ _ _ _ _ _ (by intro a; fin_cases a <;> simp)

theorem gz_at (r : Fin 32) (j : Fin 640) : ∑ k, hS x0 x1 (ix2 r k) * wGz x2 (ix2 k j) = proj (A.x r) A.g fun k => A.wp k ⟨3328 + j.val, by omega⟩ :=
  col_at H r ⟨3328 + j.val, by omega⟩ (fun k => wGz x2 (ix2 k j)) fun k => View.ld_unit_apply_of _ _ _ _ _ _ (by intro a; fin_cases a <;> simp)

theorem cv_at (r : Fin 32) (j : Fin 2048) : k0_pay4 (View.ld x0 r0_0) (View.ld x1 r0_2) (wCv x2) (ix2 r j) = A.pr r ⟨j.val, by omega⟩ := by
  refine Eq.trans ?_ ((col_at H r ⟨j.val, by omega⟩ (fun k => wCv x2 (ix2 k j)) fun k => View.ld_unit_apply_of _ _ _ _ _ _ (by intro a; fin_cases a <;> simp)).trans
    (wp_low A _ (by show j.val < 3352; omega) r _ rfl))
  unfold k0_pay4
  rw [show k0_pay3 (View.ld x0 r0_0) (View.ld x1 r0_2) = hS x0 x1 from rfl]
  pointwise []

theorem pr_real (r : Fin 32) (c : Fin 3864) : Real' (A.pr r c) :=
  proj_real (H.real.x r) H.real.g fun k => H.real.w k c

theorem on_at (x l : Fin 128) : onS x7 (ix2 x l) = (if x.val / 64 = l.val / 64 then 1 else 0 : EReal) := by
  refine Eq.trans ?_ (H.x7 ⟨x.val, by omega⟩ ⟨l.val, by omega⟩)
  exact View.ld_unit_apply_of _ _ _ _ _ _ (by intro a; fin_cases a <;> simp)

theorem cos_at (l : Fin 128) : cosS x3 (ix2 0 l) = Ideal.cos (ang 16384 (l.val % 32)) := by
  rw [← H.x3]; unfold cosS; pointwise [k0_pay1]

theorem sin_at (l : Fin 128) : sinS x4 (ix2 0 l) = if l.val % 64 < 32 then -Ideal.sin (ang 16384 (l.val % 32)) else Ideal.sin (ang 16384 (l.val % 32)) := by
  rw [← H.x4]; unfold sinS; pointwise [k0_pay2]

/-- A branch's keys, lane by lane. -/
theorem keys_at (i : Fin 3) (r : Fin 32) (l : Fin 128) (g : Fin 128 → EReal) (hg : ∀ l, g l = x6 (ix2 i l)) (p : Fin 128 → EReal)
    (hp : ∀ e, p e = A.pr r ⟨2560 + 256 * i.val + e.val, by omega⟩) :
    zl p g (fun x l => onS x7 (ix2 x l)) l * cosS x3 (ix2 0 l) + Scalar.select (IntOp.cmpi CmpIPredicate.eq (IntOp.andi (BitVec.ofNat 32 l.val) 32#32) 0#32)
        (zl p g (fun x l => onS x7 (ix2 x l)) ⟨(l.val + 128 - 96) % 128, Nat.mod_lt _ (by decide)⟩) (zl p g (fun x l => onS x7 (ix2 x l)) ⟨(l.val + 128 - 32) % 128, Nat.mod_lt _ (by decide)⟩) * sinS x4 (ix2 0 l)
      = A.key r i ⟨l.val / 64, by omega⟩ ⟨l.val % 64, by omega⟩ := by
  rw [key_lane 16384 p g (fun l => cosS x3 (ix2 0 l)) (fun l => sinS x4 (ix2 0 l)) (fun x l => onS x7 (ix2 x l)) (A.kg i) l
    (fun e => by rw [hp]; exact pr_real H _ _) (fun l => (hg l).trans (H.x6 i l)) (on_at H) (cos_at H) (sin_at H)]
  unfold SIns.key
  refine congrArg (fun f => rope _ (nrm f _) _) (funext fun e => ?_)
  rw [hp]
  exact congrArg (A.pr r) (Fin.ext (by show 2560 + 256 * i.val + (64 * (l.val / 64) + e.val) = 2560 + 256 * i.val + 64 * (l.val / 64) + e.val; omega))

theorem k0_at (r : Fin 32) (l : Fin 128) : k0_pay25 (cosS x3) (sinS x4) (k0_pay24 (hS x0 x1) (wKv x2) (onS x7)) (View.ld x6 r0_9) (ix2 r l)
    = A.key r 0 ⟨l.val / 64, by omega⟩ ⟨l.val % 64, by omega⟩ := by
  have h := keys_at H 0 r l (fun l => x6 (ix2 0 l)) (fun l => rfl)
    (fun e => kvS x0 x1 x2 (ix2 r ⟨e.val, by omega⟩)) (fun e => (kv_at H r _).trans (congrArg (A.pr r) (Fin.ext (by show 2560 + e.val = 2560 + 256 * 0 + e.val; omega))))
  unfold zl kvS at h
  rw [← h]
  pointwise [k0_pay25, k0_pay24]

theorem k1_at (r : Fin 32) (l : Fin 128) : k0_pay30 (cosS x3) (sinS x4) (k0_pay27 (kvS x0 x1 x2) (onS x7) (View.ld x6 r0_10)) k0_pay28 (k0_pay29 (kvS x0 x1 x2) (onS x7) (View.ld x6 r0_10)) 32#32 (ix2 r l)
    = A.key r 1 ⟨l.val / 64, by omega⟩ ⟨l.val % 64, by omega⟩ := by
  have h := keys_at H 1 r l (fun l => x6 (ix2 1 l)) (fun l => rfl)
    (fun e => kvS x0 x1 x2 (ix2 r ⟨256 + e.val, by omega⟩)) (fun e => (kv_at H r _).trans (congrArg (A.pr r) (Fin.ext (by show 2560 + (256 + e.val) = 2560 + 256 * 1 + e.val; omega))))
  unfold zl at h
  rw [← h]
  pointwise [k0_pay30, k0_pay27, k0_pay28, k0_pay29]

theorem k2_at (r : Fin 32) (l : Fin 128) : k0_pay32 (cosS x3) (sinS x4) (kvS x0 x1 x2) (onS x7) (View.ld x6 r0_11) (ix2 r l)
    = A.key r 2 ⟨l.val / 64, by omega⟩ ⟨l.val % 64, by omega⟩ := by
  have h := keys_at H 2 r l (fun l => x6 (ix2 2 l)) (fun l => rfl)
    (fun e => kvS x0 x1 x2 (ix2 r ⟨512 + e.val, by omega⟩)) (fun e => (kv_at H r _).trans (congrArg (A.pr r) (Fin.ext (by show 2560 + (512 + e.val) = 2560 + 256 * 2 + e.val; omega))))
  unfold zl at h
  rw [← h]
  pointwise [k0_pay32]

/-- z_attn through its gate, -/
theorem out13_at (r : Fin 32) (k : Fin 512) : out0_13 x0 x1 x2 x3 x4 x5 x6 x7 x8 x9 x10 x11 (ix2 r k) = A.zs r k := by
  refine (congrFun (View.canon_unit_zero (S := S32x512) (by funext a; fin_cases a <;> rfl) _ _) _).trans ?_
  show k0_pay36 (k0_pay33 (hS x0 x1) (wGz x2)) (ix2 r k) = _
  pointwise [k0_pay36, k0_pay33]
  rw [gz_at H r ⟨128 + k.val, by omega⟩, wp_high A _ (by show ¬ 3328 + (128 + k.val) < 3456; omega) r ⟨3352 + k.val, by omega⟩ (by show 3352 + k.val = 3328 + (128 + k.val) - 104; omega), zero_sub]
  rfl

/-- the branch gates, -/
theorem out15_at (r : Fin 32) (k : Fin 128) : out0_15 x0 x1 x2 x3 x4 x5 x6 x7 x8 x9 x10 x11 (ix2 r k) = A.gate r k := by
  refine (congrFun (View.canon_unit_zero (S := S32x128) (by funext a; fin_cases a <;> rfl) _ _) _).trans ?_
  show k0_pay35 (k0_pay34 (hS x0 x1) (wGz x2)) (ix2 r k) = _
  pointwise [k0_pay35, k0_pay34, k0_pay33]
  rw [gz_at H r ⟨k.val, by omega⟩, zero_sub]
  unfold SIns.gate
  by_cases h : k.val < 24
  · rw [dif_pos h, wp_low A _ (by show 3328 + k.val < 3352; omega) r ⟨3328 + k.val, by omega⟩ rfl]
    rfl
  · rw [dif_neg h, wp_pad A _ (by show ¬ 3328 + k.val < 3352; omega) (by show 3328 + k.val < 3456; omega) r]
    rfl

/-- the convolution's input, -/
theorem u_at (r : Fin 32) (k : Fin 512) : k0_pay6 (View.ld x0 r0_0) (View.ld x1 r0_2) (wCv x2) (ix2 r k) = A.u r k := by
  pointwise [k0_pay6]
  rw [cv_at H _ ⟨512 + k.val, by omega⟩, cv_at H _ ⟨1024 + k.val, by omega⟩]
  rfl

theorem out19_at (r : Fin 32) (k : Fin 512) : out0_19 x0 x1 x2 x3 x4 x5 x6 x7 x8 x9 x10 x11 (ix2 r k) = A.u r k :=
  (congrFun (View.canon_unit_zero (S := S32x512) (by funext a; fin_cases a <;> rfl) _ _) _).trans (u_at H r k)

theorem bg_at (r : Fin 32) (k : Fin 512) : k0_pay5 (View.ld x0 r0_0) (View.ld x1 r0_2) (wCv x2) (ix2 r k) = A.pr r ⟨k.val, by omega⟩ := by
  pointwise [k0_pay5]
  exact cv_at H _ ⟨k.val, by omega⟩

theorem zc_at (r : Fin 32) (k : Fin 512) : k0_pay7 (View.ld x0 r0_0) (View.ld x1 r0_2) (wCv x2) (ix2 r k) = A.pr r ⟨1536 + k.val, by omega⟩ := by
  pointwise [k0_pay7]
  exact cv_at H _ ⟨1536 + k.val, by omega⟩

/-- the gated convolution. -/
theorem out12_at (r : Fin 32) (k : Fin 512) : out0_12 x0 x1 x2 x3 x4 x5 x6 x7 x8 x9 x10 x11 (ix2 r k) = A.conv r k := by
  refine (congrFun (View.canon_unit_zero (S := S32x512) (by funext a; fin_cases a <;> rfl) _ _) _).trans ?_
  have ez := zc_at H r k
  have eb := bg_at H r k
  have eu := u_at H r k
  show k0_pay40 (k0_pay7 (View.ld x0 r0_0) (View.ld x1 r0_2) (wCv x2)) (k0_pay37 (k0_pay5 (View.ld x0 r0_0) (View.ld x1 r0_2) (wCv x2)) (k0_pay6 (View.ld x0 r0_0) (View.ld x1 r0_2) (wCv x2)) (View.ld x8 r0_13) (View.ld x10 r0_14) (View.ld x8 r0_15) (View.ld x11 r0_14) (View.ld x8 r0_16) (View.ld x9 r0_6)) (k0_pay38 (k0_pay7 (View.ld x0 r0_0) (View.ld x1 r0_2) (wCv x2))) k0_pay39 (ix2 r k) = _
  generalize k0_pay7 (View.ld x0 r0_0) (View.ld x1 r0_2) (wCv x2) = zc at *
  generalize k0_pay5 (View.ld x0 r0_0) (View.ld x1 r0_2) (wCv x2) = bg at *
  generalize k0_pay6 (View.ld x0 r0_0) (View.ld x1 r0_2) (wCv x2) = uu at *
  pointwise [k0_pay40, k0_pay37, k0_pay38, k0_pay39]
  rw [ez, eb, eu, H.x8, H.x8, H.x8, H.x9, H.x10, H.x11, zero_sub]
  rfl

/-- A row of a branch from its two stores. -/
theorem rows_at (i : Fin 3) (kk vv : Vec Ideal S32x128 .f32) (r : Fin 32) (c : Fin 256)
    (hk : ∀ l : Fin 128, kk (ix2 r l) = A.key r i ⟨l.val / 64, by omega⟩ ⟨l.val % 64, by omega⟩)
    (hv : ∀ l : Fin 128, vv (ix2 r l) = A.pr r ⟨2560 + 256 * i.val + 128 + l.val, by omega⟩) :
    View.canon [(⟨r0_23, vv⟩ : View.Piece (Elt Ideal) S32x256 .f32), ⟨r0_22, kk⟩] (ix2 r c) = A.rows i r c := by
  refine View.canon_eq_of_allAt _ _ _ (View.cover_of_tiled_head _ _ _ (by sl_kernel_rfl) _)
    (View.allAt_cons_unit _ _ _ _ _ ?_ (View.allAt_cons_unit _ _ _ _ _ ?_ (View.allAt_nil _ _)))
  · intro x hx
    idx_vars x
    have h1 : r.val = 0 + x0.val := hx 0
    have h2 : c.val = 128 + x1.val := hx 1
    obtain rfl : x0 = r := Fin.ext (by omega)
    refine (hv x1).trans ?_
    unfold SIns.rows
    rw [dif_neg (by omega)]
    exact congrArg (A.pr x0) (Fin.ext (by show 2560 + 256 * i.val + 128 + x1.val = 2560 + 256 * i.val + c.val; omega))
  · intro x hx
    idx_vars x
    have h1 : r.val = 0 + x0.val := hx 0
    have h2 : c.val = 0 + x1.val := hx 1
    obtain rfl : x0 = r := Fin.ext (by omega)
    refine (hk x1).trans ?_
    have hlt : c.val < 128 := by omega
    unfold SIns.rows
    rw [dif_pos hlt]
    congr 1 <;> exact Fin.ext (by dsimp only; omega)

/-- The compressed branch's rows, -/
theorem out16_at (r : Fin 32) (c : Fin 256) : out0_16 x0 x1 x2 x3 x4 x5 x6 x7 x8 x9 x10 x11 (ix2 r c) = A.rows 0 r c := by
  refine rows_at H 0 _ _ r c (fun l => k0_at H r l) fun l => ?_
  show k0_pay23 (hS x0 x1) (wKv x2) (ix2 r l) = _
  refine Eq.trans ?_ ((kv_at H r ⟨128 + l.val, by omega⟩).trans (congrArg (A.pr r) (Fin.ext (by show 2560 + (128 + l.val) = 2560 + 256 * 0 + 128 + l.val; omega))))
  unfold kvS
  pointwise [k0_pay23]

/-- the selected branch's -/
theorem out17_at (r : Fin 32) (c : Fin 256) : out0_17 x0 x1 x2 x3 x4 x5 x6 x7 x8 x9 x10 x11 (ix2 r c) = A.rows 1 r c := by
  refine rows_at H 1 _ _ r c (fun l => k1_at H r l) fun l => ?_
  show k0_pay26 (kvS x0 x1 x2) (ix2 r l) = _
  pointwise [k0_pay26]
  exact (kv_at H r ⟨384 + l.val, by omega⟩).trans (congrArg (A.pr r) (Fin.ext (by show 2560 + (384 + l.val) = 2560 + 256 * 1 + 128 + l.val; omega)))

/-- and the window branch's. -/
theorem out18_at (r : Fin 32) (c : Fin 256) : out0_18 x0 x1 x2 x3 x4 x5 x6 x7 x8 x9 x10 x11 (ix2 r c) = A.rows 2 r c := by
  refine rows_at H 2 _ _ r c (fun l => k2_at H r l) fun l => ?_
  show k0_pay31 (kvS x0 x1 x2) (ix2 r l) = _
  pointwise [k0_pay31]
  exact (kv_at H r ⟨640 + l.val, by omega⟩).trans (congrArg (A.pr r) (Fin.ext (by show 2560 + (640 + l.val) = 2560 + 256 * 2 + 128 + l.val; omega)))

end Cert.Kernel4Ideal.Body

end
-- ==== Proof.SBlk.lean ====
/-
  The arrays the host builds for the step's projection, entry by entry, and what the launch's blocks hold.
-/
module

public import proofs.«01_k».proof.Proof.SPay
public import proofs.«01_k».proof.Proof.QBlk
public import proofs.«01_k».proof.Proof.Gen.Kernel4Ideal.Value
public import Idealize.ShloMosaic.Lib.Pointwise

@[expose] public section

set_option maxRecDepth 16384

noncomputable section

namespace Cert.Kernel4Ideal.Body

open Cert.Kernel4Ideal Cert.Kernel4Ideal.Gen Cert.Proj Cert.Layer
open Idealize.ShloMosaic Idealize.ShloMosaic.TcCoe Idealize.ShloMosaic.Tactic
open Cert.Kernel2Ideal.Body (ones_word)

variable (m : (ℓ : Loc nD τ sig) → Buf (Elt Ideal) ℓ) (c : Dev nD)

/-- The arrays of the projection, as the program is given them. -/
def ins : SIns where
  x r k := (m ((c : Thread nD τ).loc main_arg0) : Vec Ideal S32x1x1024 .f32) (ix3 r 0 k)
  g k := (m ((c : Thread nD τ).loc main_arg1) : Vec Ideal S1024 .f32) (ix1 k)
  w k j := (m ((c : Thread nD τ).loc main_arg2) : Vec Ideal S1024x3864 .f32) (ix2 k j)
  cw i k := (m ((c : Thread nD τ).loc main_arg3) : Vec Ideal S3x512 .f32) (ix2 i k)
  cb k := (m ((c : Thread nD τ).loc main_arg4) : Vec Ideal S512 .f32) (ix1 k)
  kg i d := (m ((c : Thread nD τ).loc main_arg6) : Vec Ideal S3x64 .f32) (ix2 i d)
  s r i k := (m ((c : Thread nD τ).loc main_arg7) : Vec Ideal S32x2x512 .f32) (ix3 r i k)

/-- The matrix of zeros and ones, -/
theorem V8 (a x : Fin 512) : (V m c main_v8 : Vec Ideal S512x512 .bf16) (ix2 a x) = (if a.val / 64 = x.val / 64 then 1 else 0 : EReal) := by
  unfold V
  simp only [hostOps0, hostOps0_1, hostOps0_2, List.flatten_cons, List.flatten_nil, List.cons_append, List.nil_append]
  after_results_simp
  simp only [StableHlo.TRef.ofBuf_toBuf, StableHlo.TRef.toBuf, StableHlo.TRef.ofBuf, cast_cast, cast_eq, id]
  exact ones_word a x

/-- the gain of the rows, -/
theorem V9 (k : Fin 1024) : (V m c main_v9 : Vec Ideal S1x1024 .f32) (ix2 0 k) = (ins m c).g k := by
  unfold V
  simp only [hostOps0, hostOps0_1, hostOps0_2, List.flatten_cons, List.flatten_nil, List.cons_append, List.nil_append]
  after_results_simp
  pointwise []
  rfl

/-- the weights, padded, -/
theorem V10 (k : Fin 1024) (j : Fin 3968) : (V m c main_v10 : Vec Ideal S1024x3968 .bf16) (ix2 k j) = (ins m c).wp k j := by
  unfold V
  simp only [hostOps0, hostOps0_1, hostOps0_2, List.flatten_cons, List.flatten_nil, List.cons_append, List.nil_append]
  after_results_simp
  dsimp only [Matrix.cons_val]
  pointwise []
  after_results_simp
  pointwise []
  unfold SIns.wp
  by_cases h : j.val < 3352
  · rw [dif_pos h, dif_pos h]
    rfl
  · rw [dif_neg h, dif_neg h]
    by_cases h' : j.val < 3456
    · rw [dif_pos (by omega), dif_pos h']
    · rw [dif_neg (by omega), dif_neg h']
      exact congrArg (fun q => (ins m c).w k q) (Fin.ext (by show 3352 + (j.val - 3352 - 104) = j.val - 104; omega))

/-- the convolution's bias, -/
theorem V11 (k : Fin 512) : (V m c main_v11 : Vec Ideal S1x512 .f32) (ix2 0 k) = (ins m c).cb k := by
  unfold V
  simp only [hostOps0, hostOps0_1, hostOps0_2, List.flatten_cons, List.flatten_nil, List.cons_append, List.nil_append]
  after_results_simp
  pointwise []
  rfl

/-- the keys' gains, -/
theorem V20 (i : Fin 3) (k : Fin 128) : (V m c main_v20 : Vec Ideal S3x128 .f32) (ix2 i k) = (ins m c).kg i ⟨k.val % 64, by omega⟩ := by
  unfold V
  simp only [hostOps0, hostOps0_1, hostOps0_2, List.flatten_cons, List.flatten_nil, List.cons_append, List.nil_append]
  after_results_simp
  pointwise []
  rfl

/-- the row of cosines, -/
theorem V37 (l : Fin 128) : (V m c main_v37 : Vec Ideal S1x128 .f32) (ix2 0 l) = Ideal.cos (ang 16384 (l.val % 32)) := by
  unfold V
  simp only [hostOps0, hostOps0_1, hostOps0_2, List.flatten_cons, List.flatten_nil, List.cons_append, List.nil_append]
  after_results_simp
  pointwise []
  rfl

/-- the row of sines, signed, -/
theorem V42 (l : Fin 128) : (V m c main_v42 : Vec Ideal S1x128 .f32) (ix2 0 l)
    = if l.val % 64 < 32 then -Ideal.sin (ang 16384 (l.val % 32)) else Ideal.sin (ang 16384 (l.val % 32)) := by
  unfold V
  simp only [hostOps0, hostOps0_1, hostOps0_2, List.flatten_cons, List.flatten_nil, List.cons_append, List.nil_append]
  after_results_simp
  pointwise []
  after_results_simp
  pointwise []
  by_cases h : l.val % 64 < 32
  · rw [dif_pos h, if_pos h, show l.val % 64 = l.val % 32 from by omega]
    rfl
  · rw [dif_neg h, if_neg h, show l.val % 64 - 32 = l.val % 32 from by omega]
    rfl

/-- the samples' rows, -/
theorem V43 (r : Fin 32) (k : Fin 1024) : (V m c main_v43 : Vec Ideal S32x1024 .f32) (ix2 r k) = (ins m c).x r k := by
  unfold V
  simp only [hostOps0, hostOps0_1, hostOps0_2, List.flatten_cons, List.flatten_nil, List.cons_append, List.nil_append]
  after_results_simp
  pointwise []
  rfl

/-- and the two rows kept from before. -/
theorem V45 (r : Fin 32) (k : Fin 512) : (V m c main_v45 : Vec Ideal S32x512 .f32) (ix2 r k) = (ins m c).s r 0 k := by
  unfold V
  simp only [hostOps0, hostOps0_1, hostOps0_2, List.flatten_cons, List.flatten_nil, List.cons_append, List.nil_append]
  after_results_simp
  pointwise []
  rfl

theorem V47 (r : Fin 32) (k : Fin 512) : (V m c main_v47 : Vec Ideal S32x512 .f32) (ix2 r k) = (ins m c).s r 1 k := by
  unfold V
  simp only [hostOps0, hostOps0_1, hostOps0_2, List.flatten_cons, List.flatten_nil, List.cons_append, List.nil_append]
  after_results_simp
  pointwise []
  rfl

theorem idx0 : ∀ t : Fin cfg0.N, win0_0.index t = ![0, 0] :=
  (by decide +kernel : ∀ t : Fin grid0.N, _)
theorem idx1 : ∀ t : Fin cfg0.N, win0_1.index t = ![0, 0] :=
  (by decide +kernel : ∀ t : Fin grid0.N, _)
theorem idx2 : ∀ t : Fin cfg0.N, win0_2.index t = ![0, 0] :=
  (by decide +kernel : ∀ t : Fin grid0.N, _)
theorem idx3 : ∀ t : Fin cfg0.N, win0_3.index t = ![0, 0] :=
  (by decide +kernel : ∀ t : Fin grid0.N, _)
theorem idx4 : ∀ t : Fin cfg0.N, win0_4.index t = ![0, 0] :=
  (by decide +kernel : ∀ t : Fin grid0.N, _)
theorem idx6 : ∀ t : Fin cfg0.N, win0_6.index t = ![0, 0] :=
  (by decide +kernel : ∀ t : Fin grid0.N, _)
theorem idx7 : ∀ t : Fin cfg0.N, win0_7.index t = ![0, 0] :=
  (by decide +kernel : ∀ t : Fin grid0.N, _)
theorem idx8 : ∀ t : Fin cfg0.N, win0_8.index t = ![0, 0] :=
  (by decide +kernel : ∀ t : Fin grid0.N, _)
theorem idx9 : ∀ t : Fin cfg0.N, win0_9.index t = ![0, 0] :=
  (by decide +kernel : ∀ t : Fin grid0.N, _)
theorem idx10 : ∀ t : Fin cfg0.N, win0_10.index t = ![0, 0] :=
  (by decide +kernel : ∀ t : Fin grid0.N, _)
theorem idx11 : ∀ t : Fin cfg0.N, win0_11.index t = ![0, 0] :=
  (by decide +kernel : ∀ t : Fin grid0.N, _)
theorem idx12 : ∀ t : Fin cfg0.N, win0_12.index t = ![0, 0] :=
  (by decide +kernel : ∀ t : Fin grid0.N, _)
theorem idx13 : ∀ t : Fin cfg0.N, win0_13.index t = ![0, 0] :=
  (by decide +kernel : ∀ t : Fin grid0.N, _)
theorem idx15 : ∀ t : Fin cfg0.N, win0_15.index t = ![0, 0] :=
  (by decide +kernel : ∀ t : Fin grid0.N, _)
theorem idx16 : ∀ t : Fin cfg0.N, win0_16.index t = ![0, 0] :=
  (by decide +kernel : ∀ t : Fin grid0.N, _)
theorem idx17 : ∀ t : Fin cfg0.N, win0_17.index t = ![0, 0] :=
  (by decide +kernel : ∀ t : Fin grid0.N, _)
theorem idx18 : ∀ t : Fin cfg0.N, win0_18.index t = ![0, 0] :=
  (by decide +kernel : ∀ t : Fin grid0.N, _)
theorem idx19 : ∀ t : Fin cfg0.N, win0_19.index t = ![0, 0] :=
  (by decide +kernel : ∀ t : Fin grid0.N, _)

theorem iblk0 (t : Fin cfg0.N) (r : Fin 32) (k : Fin 1024) : (iblk m c 0 t : Vec Ideal S32x1024 .f32) (ix2 r k) = V m c main_v43 (ix2 r k) := by
  blk_ext! [iblk, idx0 t]
theorem iblk1 (t : Fin cfg0.N) (k : Fin 1024) : (iblk m c 1 t : Vec Ideal S1x1024 .f32) (ix2 0 k) = V m c main_v9 (ix2 0 k) := by
  blk_ext! [iblk, idx1 t]
theorem iblk2 (t : Fin cfg0.N) (k : Fin 1024) (j : Fin 3968) : (iblk m c 2 t : Vec Ideal S1024x3968 .bf16) (ix2 k j) = V m c main_v10 (ix2 k j) := by
  blk_ext! [iblk, idx2 t]
theorem iblk3 (t : Fin cfg0.N) (l : Fin 128) : (iblk m c 3 t : Vec Ideal S1x128 .f32) (ix2 0 l) = V m c main_v37 (ix2 0 l) := by
  blk_ext! [iblk, idx3 t]
theorem iblk4 (t : Fin cfg0.N) (l : Fin 128) : (iblk m c 4 t : Vec Ideal S1x128 .f32) (ix2 0 l) = V m c main_v42 (ix2 0 l) := by
  blk_ext! [iblk, idx4 t]
theorem iblk6 (t : Fin cfg0.N) (i : Fin 3) (l : Fin 128) : (iblk m c 6 t : Vec Ideal S3x128 .f32) (ix2 i l) = V m c main_v20 (ix2 i l) := by
  blk_ext! [iblk, idx6 t]
theorem iblk7 (t : Fin cfg0.N) (k l : Fin 512) : (iblk m c 7 t : Vec Ideal S512x512 .bf16) (ix2 k l) = V m c main_v8 (ix2 k l) := by
  blk_ext! [iblk, idx7 t]
theorem iblk8 (t : Fin cfg0.N) (i : Fin 3) (k : Fin 512) : (iblk m c 8 t : Vec Ideal S3x512 .f32) (ix2 i k) = V m c main_arg3 (ix2 i k) := by
  blk_ext! [iblk, idx8 t]
theorem iblk9 (t : Fin cfg0.N) (k : Fin 512) : (iblk m c 9 t : Vec Ideal S1x512 .f32) (ix2 0 k) = V m c main_v11 (ix2 0 k) := by
  blk_ext! [iblk, idx9 t]
theorem iblk10 (t : Fin cfg0.N) (r : Fin 32) (k : Fin 512) : (iblk m c 10 t : Vec Ideal S32x512 .f32) (ix2 r k) = V m c main_v45 (ix2 r k) := by
  blk_ext! [iblk, idx10 t]
theorem iblk11 (t : Fin cfg0.N) (r : Fin 32) (k : Fin 512) : (iblk m c 11 t : Vec Ideal S32x512 .f32) (ix2 r k) = V m c main_v47 (ix2 r k) := by
  blk_ext! [iblk, idx11 t]

/-- What the launch's blocks hold. -/
theorem blocks (hA : (ins m c).Real) (t : Fin cfg0.N) :
    Blocks (iblk m c 0 t) (iblk m c 1 t) (iblk m c 2 t) (iblk m c 3 t) (iblk m c 4 t) (iblk m c 6 t) (iblk m c 7 t) (iblk m c 8 t) (iblk m c 9 t) (iblk m c 10 t) (iblk m c 11 t) (ins m c) where
  real := hA
  x0 r k := (iblk0 m c t r k).trans (V43 m c r k)
  x1 k := (iblk1 m c t k).trans (V9 m c k)
  x2 k j := (iblk2 m c t k j).trans (V10 m c k j)
  x3 l := (iblk3 m c t l).trans (V37 m c l)
  x4 l := (iblk4 m c t l).trans (V42 m c l)
  x6 i l := (iblk6 m c t i l).trans (V20 m c i l)
  x7 k l := (iblk7 m c t k l).trans (V8 m c k l)
  x8 i k := (iblk8 m c t i k).trans (congrFun (V_main_arg3 m c) _)
  x9 k := (iblk9 m c t k).trans (V11 m c k)
  x10 r k := (iblk10 m c t r k).trans (V45 m c r k)
  x11 r k := (iblk11 m c t r k).trans (V47 m c r k)

end Cert.Kernel4Ideal.Body

end
-- ==== Proof.SFinal.lean ====
/-
  What the step's projection leaves in its result arrays, at every position, over the arrays the program was given.
-/
module

public import proofs.«01_k».proof.Proof.SBlk

@[expose] public section

set_option maxRecDepth 16384

noncomputable section

namespace Cert.Kernel4Ideal.Body

open Cert.Kernel4Ideal Cert.Kernel4Ideal.Gen Cert.Proj
open Idealize.ShloMosaic Idealize.ShloMosaic.TcCoe Idealize.ShloMosaic.Tactic Idealize.SL.Sem

variable (m : (ℓ : Loc nD τ sig) → Buf (Elt Ideal) ℓ) (c : Dev nD)

/-- The gated convolution. -/
theorem final12 (hA : (ins m c).Real) :
    ((dats m 0 c).arrAt 12 cfg0.N : Vec Ideal S32x512 .bf16) = fun y => (ins m c).conv (y 0) (y 1) := by
  refine (dats m 0 c).arrAt_eq_of_covers 12 _ (by decide +kernel) fun t hf y => ?_
  blk_simp
  rw [after0_12]
  idx_vars y
  refine (out12_at (blocks m c hA t) y0 y1).trans ?_
  have e : ((win0_12.blk t).view.emb (ix2 y0 y1) : S32x512.Idx) = ix2 y0 y1 := by
    blk_ext [idx12 t]
  exact (congrArg (fun z : S32x512.Idx => (ins m c).conv (z 0) (z 1)) e).symm

/-- z_attn through its gate. -/
theorem final13 (hA : (ins m c).Real) :
    ((dats m 0 c).arrAt 13 cfg0.N : Vec Ideal S32x512 .f32) = fun y => (ins m c).zs (y 0) (y 1) := by
  refine (dats m 0 c).arrAt_eq_of_covers 13 _ (by decide +kernel) fun t hf y => ?_
  blk_simp
  rw [after0_13]
  idx_vars y
  refine (out13_at (blocks m c hA t) y0 y1).trans ?_
  have e : ((win0_13.blk t).view.emb (ix2 y0 y1) : S32x512.Idx) = ix2 y0 y1 := by
    blk_ext [idx13 t]
  exact (congrArg (fun z : S32x512.Idx => (ins m c).zs (z 0) (z 1)) e).symm

/-- The branch gates. -/
theorem final15 (hA : (ins m c).Real) :
    ((dats m 0 c).arrAt 15 cfg0.N : Vec Ideal S32x128 .f32) = fun y => (ins m c).gate (y 0) (y 1) := by
  refine (dats m 0 c).arrAt_eq_of_covers 15 _ (by decide +kernel) fun t hf y => ?_
  blk_simp
  rw [after0_15]
  idx_vars y
  refine (out15_at (blocks m c hA t) y0 y1).trans ?_
  have e : ((win0_15.blk t).view.emb (ix2 y0 y1) : S32x128.Idx) = ix2 y0 y1 := by
    blk_ext [idx15 t]
  exact (congrArg (fun z : S32x128.Idx => (ins m c).gate (z 0) (z 1)) e).symm

/-- The compressed branch's rows. -/
theorem final16 (hA : (ins m c).Real) :
    ((dats m 0 c).arrAt 16 cfg0.N : Vec Ideal S32x256 .f32) = fun y => (ins m c).rows 0 (y 0) (y 1) := by
  refine (dats m 0 c).arrAt_eq_of_covers 16 _ (by decide +kernel) fun t hf y => ?_
  blk_simp
  rw [after0_16]
  idx_vars y
  refine (out16_at (blocks m c hA t) y0 y1).trans ?_
  have e : ((win0_16.blk t).view.emb (ix2 y0 y1) : S32x256.Idx) = ix2 y0 y1 := by
    blk_ext [idx16 t]
  exact (congrArg (fun z : S32x256.Idx => (ins m c).rows 0 (z 0) (z 1)) e).symm

/-- The selected branch's rows. -/
theorem final17 (hA : (ins m c).Real) :
    ((dats m 0 c).arrAt 17 cfg0.N : Vec Ideal S32x256 .f32) = fun y => (ins m c).rows 1 (y 0) (y 1) := by
  refine (dats m 0 c).arrAt_eq_of_covers 17 _ (by decide +kernel) fun t hf y => ?_
  blk_simp
  rw [after0_17]
  idx_vars y
  refine (out17_at (blocks m c hA t) y0 y1).trans ?_
  have e : ((win0_17.blk t).view.emb (ix2 y0 y1) : S32x256.Idx) = ix2 y0 y1 := by
    blk_ext [idx17 t]
  exact (congrArg (fun z : S32x256.Idx => (ins m c).rows 1 (z 0) (z 1)) e).symm

/-- The window branch's rows. -/
theorem final18 (hA : (ins m c).Real) :
    ((dats m 0 c).arrAt 18 cfg0.N : Vec Ideal S32x256 .f32) = fun y => (ins m c).rows 2 (y 0) (y 1) := by
  refine (dats m 0 c).arrAt_eq_of_covers 18 _ (by decide +kernel) fun t hf y => ?_
  blk_simp
  rw [after0_18]
  idx_vars y
  refine (out18_at (blocks m c hA t) y0 y1).trans ?_
  have e : ((win0_18.blk t).view.emb (ix2 y0 y1) : S32x256.Idx) = ix2 y0 y1 := by
    blk_ext [idx18 t]
  exact (congrArg (fun z : S32x256.Idx => (ins m c).rows 2 (z 0) (z 1)) e).symm

/-- The convolution's input. -/
theorem final19 (hA : (ins m c).Real) :
    ((dats m 0 c).arrAt 19 cfg0.N : Vec Ideal S32x512 .f32) = fun y => (ins m c).u (y 0) (y 1) := by
  refine (dats m 0 c).arrAt_eq_of_covers 19 _ (by decide +kernel) fun t hf y => ?_
  blk_simp
  rw [after0_19]
  idx_vars y
  refine (out19_at (blocks m c hA t) y0 y1).trans ?_
  have e : ((win0_19.blk t).view.emb (ix2 y0 y1) : S32x512.Idx) = ix2 y0 y1 := by
    blk_ext [idx19 t]
  exact (congrArg (fun z : S32x512.Idx => (ins m c).u (z 0) (z 1)) e).symm

set_option maxHeartbeats 1600000 in
theorem run_value (ρ : Dev nD → PrngReg) (hA : ∀ c, (ins m c).Real) : θ_run defs (onTc (τ := τ) (main (F := Ideal))) ⟨m, fun _ => 0, ρ⟩ (fun r => ∀ c : Dev nD,
      r.2.mem ((c.tc : Thread nD τ).loc main_v48_4) = (fun y => (ins m c).rows 0 (y 0) (y 1) : Vec Ideal S32x256 .f32)
      ∧ r.2.mem ((c.tc : Thread nD τ).loc main_v48_5) = (fun y => (ins m c).rows 1 (y 0) (y 1) : Vec Ideal S32x256 .f32)
      ∧ r.2.mem ((c.tc : Thread nD τ).loc main_v48_6) = (fun y => (ins m c).rows 2 (y 0) (y 1) : Vec Ideal S32x256 .f32)
      ∧ r.2.mem ((c.tc : Thread nD τ).loc main_v48_7) = (fun y => (ins m c).u (y 0) (y 1) : Vec Ideal S32x512 .f32)
      ∧ r.2.mem ((c.tc : Thread nD τ).loc main_v48_0) = (fun y => (ins m c).conv (y 0) (y 1) : Vec Ideal S32x512 .bf16)
      ∧ r.2.mem ((c.tc : Thread nD τ).loc main_v48_1) = (fun y => (ins m c).zs (y 0) (y 1) : Vec Ideal S32x512 .f32)
      ∧ r.2.mem ((c.tc : Thread nD τ).loc main_v48_3) = (fun y => (ins m c).gate (y 0) (y 1) : Vec Ideal S32x128 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun r h c => ?_) (Cert.Kernel4Ideal.Value.run_blocks m ρ)
  obtain ⟨h12, h13, -, h15, h16, h17, h18, h19, hargs⟩ := h c
  exact ⟨h16.trans (final16 m c (hA c)), h17.trans (final17 m c (hA c)), h18.trans (final18 m c (hA c)), h19.trans (final19 m c (hA c)),
    h12.trans (final12 m c (hA c)), h13.trans (final13 m c (hA c)), h15.trans (final15 m c (hA c)), hargs⟩

end Cert.Kernel4Ideal.Body

end
-- ==== Proof.SRef.lean ====
/-
  The reference's projection at coordinates: the normed rows, their product with the weights, the angles' cosines and sines.
-/
module

public import proofs.«01_k».proof.Proof.SSpec
public import proofs.«01_k».proof.Proof.QRef
public import proofs.«01_k».proof.Proof.Gen.Reference4Ideal.Read
public import Idealize.ShloMosaic.Lib.Pipeline.ValueKit

@[expose] public section

set_option maxRecDepth 16384

noncomputable section

namespace Cert.Reference4Ideal.Read

open Cert.Reference4Ideal Cert.Reference4Ideal.Gen Cert.Proj
open Cert.Reference2Ideal.Read (zero_word one_word)
open Idealize.ShloMosaic Idealize.ShloMosaic.Tactic

/-- The reference's arguments hold the arrays' entries. -/
structure Reads (x0 : Vec Ideal S32x1x1024 .f32) (x1 : Vec Ideal S1024 .f32) (x2 : Vec Ideal S1024x3864 .f32) (x6 : Vec Ideal S3x64 .f32) (A : SIns) : Prop where
  x : ∀ b k, x0 (ix3 b 0 k) = A.x b k
  g : ∀ k, x1 (ix1 k) = A.g k
  w : ∀ k c, x2 (ix2 k c) = A.w k c
  kg : ∀ i d, x6 (ix2 i d) = A.kg i d

variable {x0 : Vec Ideal S32x1x1024 .f32} {x1 : Vec Ideal S1024 .f32} {x2 : Vec Ideal S1024x3864 .f32} {x6 : Vec Ideal S3x64 .f32}
variable {A : SIns} (H : Reads x0 x1 x2 x6 A) (b : Fin 32)

include H

theorem row_ref (k : Fin 1024) : val_main_v12 (F := Ideal) x0 x1 (ix3 b 0 k) = row (A.x b) A.g k := by
  have e8 : idx_main_v8 (ix3 b 0 k) = ix3 b 0 0 := by blk_ext
  have e2 : idx_main_v2 (ix3 b 0 0) = ix2 b 0 := by blk_ext
  have e1 : ∀ j, idx_main_v1 (ix2 b 0) j = ix3 b 0 j := fun j => by blk_ext
  have e11 : idx_main_v10 (idx_main_v11 (ix3 b 0 k)) = ix1 k := by blk_ext
  rw [val_main_v12_apply, val_main_v9_apply, val_main_v8_apply, e8, val_main_v7_apply, val_main_v6_apply, val_main_v4_apply, val_main_v2_apply, e2, val_main_v1_apply,
    val_main_v3_apply, val_main_v5_apply, val_main_cst_apply, val_main_cst_0_apply, val_main_cst_1_apply, val_main_v11_apply, val_main_v10_apply, e11, H.x, H.g]
  have hs : (FloatOps.ofBits .f32 0x00000000#32 : Ideal .f32) + ∑ j : Fin 1024, (val_main_v0 (F := Ideal) x0) (idx_main_v1 (ix2 b 0) j) = ∑ j, A.x b j * A.x b j := by
    show Ideal.ofBits .f32 0x00000000#32 + _ = _
    rw [zero_word, zero_add]
    refine Finset.sum_congr rfl fun j _ => ?_
    rw [e1, val_main_v0_apply, H.x]
    rfl
  rw [hs]
  rfl

theorem pr_ref (c : Fin 3864) : val_main_v13 (F := Ideal) x0 x1 x2 (ix3 b 0 c) = A.pr b c := by
  rw [val_main_v13_apply]
  unfold SIns.pr proj
  refine Finset.sum_congr rfl fun k _ => ?_
  have el : lidx_main_v13 (ix3 b 0 c) k = ix3 b 0 k := by blk_ext
  have er : ridx_main_v13 (ix3 b 0 c) k = ix2 k c := by blk_ext
  rw [el, er, row_ref H, H.w]

omit H

theorem pos_word : (IntOp.addi 16384#32 (BitVec.ofNat 32 0) : BitVec 32) = BitVec.ofNat 32 16384 := by decide

theorem ang_ref (f : Fin 32) : val_main_v50 (F := Ideal) (ix2 0 f) = ang 16384 f.val := by
  have e1 : idx_main_v47 (idx_main_v49 (ix2 0 f)) = ix1 0 := by blk_ext
  have e2 : idx_main_v48 (ix2 0 f) = ix1 f := by blk_ext
  rw [val_main_v50_apply, val_main_v49_apply, val_main_v47_apply, e1, val_main_v46_apply, val_main_v24_apply, val_main_v23_apply, val_main_v22_apply, val_main_v48_apply, e2, val_main_v45_apply,
    val_main_v44_apply, val_main_cst_6_apply, val_main_v43_apply, val_main_v42_apply, val_main_cst_5_apply, val_main_v41_apply]
  rfl

end Cert.Reference4Ideal.Read

end
-- ==== Proof.SRefU.lean ====
/-
  The reference's results that take no head's norm: the convolution's input, the gated convolution, the padded gates, z_attn through its gate.
-/
module

public import proofs.«01_k».proof.Proof.SRef
public import Idealize.ShloMosaic.Lib.KernelVsHost

@[expose] public section

set_option maxRecDepth 16384

noncomputable section

namespace Cert.Reference4Ideal.Read

open Cert.Reference4Ideal Cert.Reference4Ideal.Gen Cert.Proj
open Cert.Reference2Ideal.Read (zero_word one_word)
open Idealize.ShloMosaic Idealize.ShloMosaic.Tactic

variable {x0 : Vec Ideal S32x1x1024 .f32} {x1 : Vec Ideal S1024 .f32} {x2 : Vec Ideal S1024x3864 .f32} {x6 : Vec Ideal S3x64 .f32}
variable {A : SIns} (H : Reads x0 x1 x2 x6 A) (b : Fin 32)
include H

theorem u1_ref (k : Fin 512) : val_main_v78 (F := Ideal) x0 x1 x2 (ix3 b 0 k) = A.u b k := by
  have e15 : idx_main_v15 (ix3 b 0 k) = ix3 b 0 ⟨512 + k.val, by omega⟩ := by blk_ext
  have e16 : idx_main_v16 (ix3 b 0 k) = ix3 b 0 ⟨1024 + k.val, by omega⟩ := by blk_ext
  rw [val_main_v78_apply, val_main_v15_apply, val_main_v16_apply, e15, e16, pr_ref H, pr_ref H]
  rfl

theorem u_ref (k : Fin 512) : val_main_v127 (F := Ideal) x0 x1 x2 (ix2 b k) = A.u b k := by
  have e : idx_main_v127 (ix2 b k) = ix3 b 0 k := by blk_ext
  rw [val_main_v127_apply, e, u1_ref H]

theorem zs_ref (k : Fin 512) : val_main_v129 (F := Ideal) x0 x1 x2 (ix2 b k) = A.zs b k := by
  have e' : idx_main_v129 (ix2 b k) = ix3 b 0 k := by blk_ext
  have e : idx_main_v21 (ix3 b 0 k) = ix3 b 0 ⟨3352 + k.val, by omega⟩ := by blk_ext
  rw [val_main_v129_apply, e', val_main_v126_apply, val_main_v125_apply, val_main_v124_apply, val_main_v123_apply, val_main_v122_apply, val_main_v121_apply, val_main_v120_apply, val_main_v21_apply, e, pr_ref H,
    val_main_cst_12_apply, val_main_cst_13_apply]
  show _ * Ideal.div (Ideal.ofBits .f32 0x3F800000#32) (Ideal.ofBits .f32 0x3F800000#32 + Ideal.exp (-_)) = _
  rw [one_word]
  rfl

theorem pad_ref (l : Fin 128) : val_main_v113 (F := Ideal) x0 x1 x2 (ix3 b 0 l) = if h : l.val < 24 then A.pr b ⟨3328 + l.val, by omega⟩ else 0 := by
  unfold val_main_v113
  split
  · rename_i h
    rw [pad_apply_of_inside _ _ _ _ _ _ _ _ (ix3 b 0 ⟨l.val, h⟩) (by intro a; fin_cases a <;> simp)]
    have e : idx_main_v20 (ix3 b 0 ⟨l.val, h⟩) = ix3 b 0 ⟨3328 + l.val, by omega⟩ := by blk_ext
    rw [val_main_v20_apply, e, pr_ref H]
  · rename_i h
    rw [pad_apply_of_not_inside _ _ _ _ _ _ _ _ 2 (by
      intro hh
      have := hh.2.2
      simp at this
      omega)]
    show (((0#32 : BitVec 32).toInt : ℝ) : EReal) = 0
    simp

theorem gate_ref (l : Fin 128) : val_main_v130 (F := Ideal) x0 x1 x2 (ix2 b l) = A.gate b l := by
  have e : idx_main_v130 (ix2 b l) = ix3 b 0 l := by blk_ext
  rw [val_main_v130_apply, e, val_main_v119_apply, val_main_v118_apply, val_main_v117_apply, val_main_v116_apply, val_main_v115_apply, val_main_v114_apply, pad_ref H, val_main_cst_10_apply, val_main_cst_11_apply]
  show Ideal.div (Ideal.ofBits .f32 0x3F800000#32) (Ideal.ofBits .f32 0x3F800000#32 + Ideal.exp (-_)) = _
  rw [one_word]
  unfold SIns.gate
  split <;> rfl

/-- The rows kept from before, then this one. -/
theorem ext_ref (x7 : Vec Ideal S32x2x512 .f32) (hs : ∀ r i k, x7 (ix3 r i k) = A.s r i k) (k : Fin 512) :
    val_main_v79 (F := Ideal) x0 x1 x2 x7 (ix3 b 0 k) = A.s b 0 k ∧ val_main_v79 (F := Ideal) x0 x1 x2 x7 (ix3 b 1 k) = A.s b 1 k
      ∧ val_main_v79 (F := Ideal) x0 x1 x2 x7 (ix3 b 2 k) = A.u b k := by
  unfold val_main_v79
  refine ⟨?_, ?_, ?_⟩
  · have e1 := concatenate_pair_apply_left (t := S32x3x512) 1 x7 (val_main_v78 (F := Ideal) x0 x1 x2) concatenates_S32x2x512_S32x1x512_S32x3x512_d1
      (ix3 b 0 k) rfl (ix3 b (0 : Fin 2) k) (by intro a; fin_cases a <;> rfl)
    exact e1.trans (hs _ _ _)
  · have e1 := concatenate_pair_apply_left (t := S32x3x512) 1 x7 (val_main_v78 (F := Ideal) x0 x1 x2) concatenates_S32x2x512_S32x1x512_S32x3x512_d1
      (ix3 b 1 k) rfl (ix3 b (1 : Fin 2) k) (by intro a; fin_cases a <;> rfl)
    exact e1.trans (hs _ _ _)
  · have e1 := concatenate_pair_apply_right (t := S32x3x512) 1 x7 (val_main_v78 (F := Ideal) x0 x1 x2) concatenates_S32x2x512_S32x1x512_S32x3x512_d1
      (ix3 b 2 k) rfl rfl (ix3 b (0 : Fin 1) k) (by intro a ha; fin_cases a <;> first | rfl | exact absurd rfl ha) rfl
    exact e1.trans (u1_ref H b k)

theorem conv_ref (x3 : Vec Ideal S3x512 .f32) (x4 : Vec Ideal S512 .f32) (x7 : Vec Ideal S32x2x512 .f32) (hw : ∀ i k, x3 (ix2 i k) = A.cw i k) (hb : ∀ k, x4 (ix1 k) = A.cb k)
    (hs : ∀ r i k, x7 (ix3 r i k) = A.s r i k) (k : Fin 512) : val_main_v128 (F := Ideal) x0 x1 x2 x3 x4 x7 (ix2 b k) = A.conv b k := by
  obtain ⟨s0, s1, s2⟩ := ext_ref H b x7 hs k
  have e : idx_main_v128 (ix2 b k) = ix3 b 0 k := by blk_ext
  have e14 : idx_main_v14 (ix3 b 0 k) = ix3 b 0 ⟨k.val, by omega⟩ := by blk_ext
  have e17 : idx_main_v17 (ix3 b 0 k) = ix3 b 0 ⟨1536 + k.val, by omega⟩ := by blk_ext
  have e82 : idx_main_v82 (ix3 b 0 k) = ix3 b 0 k := by blk_ext
  have e88 : idx_main_v88 (ix3 b 0 k) = ix3 b 1 k := by blk_ext
  have e95 : idx_main_v95 (ix3 b 0 k) = ix3 b 2 k := by blk_ext
  have e80 : idx_main_v80 (idx_main_v81 (idx_main_v83 (idx_main_v84 (ix3 b 0 k)))) = ix2 0 k := by blk_ext
  have e86 : idx_main_v86 (idx_main_v87 (idx_main_v89 (idx_main_v90 (ix3 b 0 k)))) = ix2 1 k := by blk_ext
  have e93 : idx_main_v93 (idx_main_v94 (idx_main_v96 (idx_main_v97 (ix3 b 0 k)))) = ix2 2 k := by blk_ext
  have e100 : idx_main_v100 (idx_main_v101 (ix3 b 0 k)) = ix1 k := by blk_ext
  rw [val_main_v128_apply, e, val_main_v112_apply, val_main_v111_apply, val_main_v103_apply, val_main_v14_apply, e14, pr_ref H, val_main_v102_apply, val_main_v99_apply, val_main_v92_apply,
    val_main_v85_apply, val_main_v84_apply, val_main_v83_apply, val_main_v81_apply, val_main_v80_apply, e80, hw, val_main_v82_apply, e82, s0,
    val_main_v91_apply, val_main_v90_apply, val_main_v89_apply, val_main_v87_apply, val_main_v86_apply, e86, hw, val_main_v88_apply, e88, s1,
    val_main_v98_apply, val_main_v97_apply, val_main_v96_apply, val_main_v94_apply, val_main_v93_apply, e93, hw, val_main_v95_apply, e95, s2,
    val_main_v101_apply, val_main_v100_apply, e100, hb, val_main_v110_apply, val_main_v109_apply, val_main_v108_apply, val_main_v107_apply, val_main_v106_apply, val_main_v105_apply, val_main_v104_apply,
    val_main_v17_apply, e17, pr_ref H, val_main_cst_7_apply, val_main_cst_8_apply]
  show _ * (_ * Ideal.div (Ideal.ofBits .f32 0x3F800000#32) (Ideal.ofBits .f32 0x3F800000#32 + Ideal.exp (-_))) = _
  rw [one_word]
  rfl

end Cert.Reference4Ideal.Read

end
-- ==== Proof.SRefK.lean ====
/-
  The reference's keys and values: a head normed and rotated, the rows of the branches, the keys by lane, the values by lane.
-/
module

public import proofs.«01_k».proof.Proof.SRef

@[expose] public section

set_option maxRecDepth 16384

noncomputable section

namespace Cert.Reference4Ideal.Read

open Cert.Reference4Ideal Cert.Reference4Ideal.Gen Cert.Proj
open Cert.Reference2Ideal.Read (zero_word one_word)
open Idealize.ShloMosaic Idealize.ShloMosaic.Tactic

variable {x0 : Vec Ideal S32x1x1024 .f32} {x1 : Vec Ideal S1024 .f32} {x2 : Vec Ideal S1024x3864 .f32} {x6 : Vec Ideal S3x64 .f32}
variable {A : SIns} (H : Reads x0 x1 x2 x6 A) (b : Fin 32)
include H

/-- A head of a branch's keys or values. -/
theorem kv_ref (i : Fin 3) (n : Fin 4) (d : Fin 64) : val_main_v19 (F := Ideal) x0 x1 x2 (ix5 b 0 i n d) = A.pr b ⟨2560 + 256 * i.val + 64 * n.val + d.val, by omega⟩ := by
  have e : idx_main_v18 (idx_main_v19 (ix5 b 0 i n d)) = ix3 b 0 ⟨2560 + 256 * i.val + 64 * n.val + d.val, by omega⟩ := by blk_ext
  rw [val_main_v19_apply, val_main_v18_apply, e, pr_ref H]

theorem k23_ref (i : Fin 3) (j : Fin 2) (d : Fin 64) : val_main_v25 (F := Ideal) x0 x1 x2 (ix5 b 0 i j d) = A.pr b ⟨2560 + 256 * i.val + 64 * j.val + d.val, by omega⟩ := by
  have e : idx_main_v25 (ix5 b 0 i j d) = ix5 b 0 i ⟨j.val, by omega⟩ d := by blk_ext
  rw [val_main_v25_apply, e, kv_ref H]

theorem kn_ref (i : Fin 3) (j : Fin 2) (d : Fin 64) : val_main_v39 (F := Ideal) x0 x1 x2 x6 (ix5 b 0 i j d)
    = nrm (fun e => A.pr b ⟨2560 + 256 * i.val + 64 * j.val + e.val, by omega⟩) (A.kg i) d := by
  have e33 : idx_main_v35 (ix5 b 0 i j d) = ix5 b 0 i j 0 := by blk_ext
  have e27 : idx_main_v29 (ix5 b 0 i j 0) = ix4 b 0 i j := by blk_ext
  have e26 : ∀ e, idx_main_v28 (ix4 b 0 i j) e = ix5 b 0 i j e := fun e => by blk_ext
  have e24 : idx_main_v26 (idx_main_v37 (idx_main_v38 (ix5 b 0 i j d))) = ix2 i d := by blk_ext
  rw [val_main_v39_apply, val_main_v36_apply, k23_ref H, val_main_v35_apply, e33, val_main_v34_apply, val_main_v33_apply, val_main_v31_apply, val_main_v29_apply, e27, val_main_v28_apply,
    val_main_v30_apply, val_main_v32_apply, val_main_cst_2_apply, val_main_cst_3_apply, val_main_cst_4_apply, val_main_v38_apply, val_main_v37_apply, val_main_v26_apply, e24, H.kg]
  have hs : (FloatOps.ofBits .f32 0x00000000#32 : Ideal .f32) + ∑ e : Fin 64, (val_main_v27 (F := Ideal) x0 x1 x2) (idx_main_v28 (ix4 b 0 i j) e)
      = ∑ e : Fin 64, A.pr b ⟨2560 + 256 * i.val + 64 * j.val + e.val, by omega⟩ * A.pr b ⟨2560 + 256 * i.val + 64 * j.val + e.val, by omega⟩ := by
    show Ideal.ofBits .f32 0x00000000#32 + _ = _
    rw [zero_word, zero_add]
    refine Finset.sum_congr rfl fun e _ => ?_
    rw [e26, val_main_v27_apply, k23_ref H]
    rfl
  rw [hs]
  rfl

theorem lo_ref (i : Fin 3) (j : Fin 2) (f : Fin 32) : val_main_v61 (F := Ideal) x0 x1 x2 x6 (ix5 b 0 i j f)
    = rope 16384 (nrm (fun e => A.pr b ⟨2560 + 256 * i.val + 64 * j.val + e.val, by omega⟩) (A.kg i)) ⟨f.val, by omega⟩ := by
  have e54 : idx_main_v55 (ix5 b 0 i j f) = ix5 b 0 i j ⟨f.val, by omega⟩ := by blk_ext
  have e55 : idx_main_v56 (ix5 b 0 i j f) = ix5 b 0 i j ⟨f.val + 32, by omega⟩ := by blk_ext
  have e56 : idx_main_v52 (idx_main_v57 (ix5 b 0 i j f)) = ix2 0 f := by blk_ext
  have e58 : idx_main_v54 (idx_main_v59 (ix5 b 0 i j f)) = ix2 0 f := by blk_ext
  rw [val_main_v61_apply, val_main_v58_apply, val_main_v60_apply, val_main_v55_apply, e54, val_main_v56_apply, e55, kn_ref H, kn_ref H, val_main_v57_apply, val_main_v52_apply, e56,
    val_main_v51_apply, val_main_v59_apply, val_main_v54_apply, e58, val_main_v53_apply, ang_ref]
  unfold rope
  rw [dif_pos f.isLt]
  rfl

theorem hi_ref (i : Fin 3) (j : Fin 2) (f : Fin 32) : val_main_v66 (F := Ideal) x0 x1 x2 x6 (ix5 b 0 i j f)
    = rope 16384 (nrm (fun e => A.pr b ⟨2560 + 256 * i.val + 64 * j.val + e.val, by omega⟩) (A.kg i)) ⟨f.val + 32, by omega⟩ := by
  have e54 : idx_main_v55 (ix5 b 0 i j f) = ix5 b 0 i j ⟨f.val, by omega⟩ := by blk_ext
  have e55 : idx_main_v56 (ix5 b 0 i j f) = ix5 b 0 i j ⟨f.val + 32, by omega⟩ := by blk_ext
  have e56 : idx_main_v52 (idx_main_v62 (ix5 b 0 i j f)) = ix2 0 f := by blk_ext
  have e58 : idx_main_v54 (idx_main_v64 (ix5 b 0 i j f)) = ix2 0 f := by blk_ext
  rw [val_main_v66_apply, val_main_v63_apply, val_main_v65_apply, val_main_v55_apply, e54, val_main_v56_apply, e55, kn_ref H, kn_ref H, val_main_v62_apply, val_main_v52_apply, e56,
    val_main_v51_apply, val_main_v64_apply, val_main_v54_apply, e58, val_main_v53_apply, ang_ref]
  unfold rope
  rw [dif_neg (by simp)]
  rfl

/-- The rotated keys. -/
theorem key_ref (i : Fin 3) (j : Fin 2) (d : Fin 64) : val_main_v67 (F := Ideal) x0 x1 x2 x6 (ix5 b 0 i j d) = A.key b i j d := by
  unfold val_main_v67 SIns.key
  by_cases h : d.val < 32
  · have e1 := concatenate_pair_apply_left (t := S32x1x3x2x64) 4 (val_main_v61 (F := Ideal) x0 x1 x2 x6) (val_main_v66 (F := Ideal) x0 x1 x2 x6) concatenates_S32x1x3x2x32_S32x1x3x2x32_S32x1x3x2x64_d4
      (ix5 b 0 i j d) rfl (ix5 b 0 i j (⟨d.val, h⟩ : Fin 32)) (by intro a; fin_cases a <;> rfl)
    rw [lo_ref H] at e1
    exact e1
  · have hd := d.isLt
    have e1 := concatenate_pair_apply_right (t := S32x1x3x2x64) 4 (val_main_v61 (F := Ideal) x0 x1 x2 x6) (val_main_v66 (F := Ideal) x0 x1 x2 x6) concatenates_S32x1x3x2x32_S32x1x3x2x32_S32x1x3x2x64_d4
      (ix5 b 0 i j d) rfl rfl (ix5 b 0 i j (⟨d.val - 32, by omega⟩ : Fin 32)) (by intro a ha; fin_cases a <;> first | rfl | exact absurd rfl ha) (Nat.sub_add_cancel (by omega))
    rw [hi_ref H] at e1
    exact e1.trans (congrArg (rope _ _) (Fin.ext (Nat.sub_add_cancel (by omega))))

theorem keyl_ref (i : Fin 3) (l : Fin 128) : val_main_v68 (F := Ideal) x0 x1 x2 x6 (ix4 b 0 i l) = A.key b i ⟨l.val / 64, by omega⟩ ⟨l.val % 64, by omega⟩ := by
  have e : idx_main_v68 (ix4 b 0 i l) = ix5 b 0 i ⟨l.val / 64, by omega⟩ ⟨l.val % 64, by omega⟩ := by blk_ext
  rw [val_main_v68_apply, e, key_ref H]

theorem vall_ref (i : Fin 3) (l : Fin 128) : val_main_v70 (F := Ideal) x0 x1 x2 (ix4 b 0 i l) = A.pr b ⟨2688 + 256 * i.val + l.val, by omega⟩ := by
  have e : idx_main_v69 (idx_main_v70 (ix4 b 0 i l)) = ix5 b 0 i ⟨2 + l.val / 64, by omega⟩ ⟨l.val % 64, by omega⟩ := by blk_ext
  rw [val_main_v70_apply, val_main_v69_apply, e, kv_ref H]
  exact congrArg (A.pr b) (Fin.ext (by show 2560 + 256 * i.val + 64 * (2 + l.val / 64) + l.val % 64 = 2688 + 256 * i.val + l.val; omega))

/-- The branches' rows. -/
theorem rows_ref (i : Fin 3) (k : Fin 256) : val_main_v71 (F := Ideal) x0 x1 x2 x6 (ix4 b 0 i k) = A.rows i b k := by
  unfold val_main_v71 SIns.rows
  by_cases h : k.val < 128
  · rw [dif_pos h]
    have e1 := concatenate_pair_apply_left (t := S32x1x3x256) 3 (val_main_v68 (F := Ideal) x0 x1 x2 x6) (val_main_v70 (F := Ideal) x0 x1 x2) concatenates_S32x1x3x128_S32x1x3x128_S32x1x3x256_d3
      (ix4 b 0 i k) rfl (ix4 b 0 i (⟨k.val, h⟩ : Fin 128)) (by intro a; fin_cases a <;> rfl)
    rw [keyl_ref H] at e1
    exact e1
  · rw [dif_neg h]
    have hk := k.isLt
    have e1 := concatenate_pair_apply_right (t := S32x1x3x256) 3 (val_main_v68 (F := Ideal) x0 x1 x2 x6) (val_main_v70 (F := Ideal) x0 x1 x2) concatenates_S32x1x3x128_S32x1x3x128_S32x1x3x256_d3
      (ix4 b 0 i k) rfl rfl (ix4 b 0 i (⟨k.val - 128, by omega⟩ : Fin 128)) (by intro a ha; fin_cases a <;> first | rfl | exact absurd rfl ha) (Nat.sub_add_cancel (by omega))
    rw [vall_ref H] at e1
    refine e1.trans (congrArg (A.pr b) (Fin.ext ?_))
    show 2688 + 256 * i.val + (k.val - 128) = 2560 + 256 * i.val + k.val
    omega

theorem rows0_ref (k : Fin 256) : val_main_v73 (F := Ideal) x0 x1 x2 x6 (ix2 b k) = A.rows 0 b k := by
  have e : idx_main_v72 (idx_main_v73 (ix2 b k)) = ix4 b 0 0 k := by blk_ext
  rw [val_main_v73_apply, val_main_v72_apply, e, rows_ref H]

theorem rows1_ref (k : Fin 256) : val_main_v75 (F := Ideal) x0 x1 x2 x6 (ix2 b k) = A.rows 1 b k := by
  have e : idx_main_v74 (idx_main_v75 (ix2 b k)) = ix4 b 0 1 k := by blk_ext
  rw [val_main_v75_apply, val_main_v74_apply, e, rows_ref H]

theorem rows2_ref (k : Fin 256) : val_main_v77 (F := Ideal) x0 x1 x2 x6 (ix2 b k) = A.rows 2 b k := by
  have e : idx_main_v76 (idx_main_v77 (ix2 b k)) = ix4 b 0 2 k := by blk_ext
  rw [val_main_v77_apply, val_main_v76_apply, e, rows_ref H]

end Cert.Reference4Ideal.Read

end
-- ==== Proof.SRefRun.lean ====
/-
  What the reference of the step's projection leaves in its results: each of them one formula of the arguments.
-/
module

public import proofs.«01_k».proof.Proof.SRefU
public import proofs.«01_k».proof.Proof.SRefK
public import proofs.«01_k».proof.Proof.Gen.Reference4Ideal.Run

@[expose] public section

set_option maxRecDepth 16384

noncomputable section

namespace Cert.Reference4Ideal.Read

open Cert.Reference4Ideal Cert.Reference4Ideal.Gen Cert.Proj
open Idealize.ShloMosaic Idealize.ShloMosaic.Tactic Idealize.SL.Sem

section
variable {x0 : Vec Ideal S32x1x1024 .f32} {x1 : Vec Ideal S1024 .f32} {x2 : Vec Ideal S1024x3864 .f32} {x6 : Vec Ideal S3x64 .f32}
variable {A : SIns} (H : Reads x0 x1 x2 x6 A)
include H

theorem eq73 : val_main_v73 (F := Ideal) x0 x1 x2 x6 = (fun y => A.rows 0 (y 0) (y 1) : Vec Ideal S32x256 .f32) := by
  funext y
  idx_vars y
  exact rows0_ref H y0 y1

theorem eq75 : val_main_v75 (F := Ideal) x0 x1 x2 x6 = (fun y => A.rows 1 (y 0) (y 1) : Vec Ideal S32x256 .f32) := by
  funext y
  idx_vars y
  exact rows1_ref H y0 y1

theorem eq77 : val_main_v77 (F := Ideal) x0 x1 x2 x6 = (fun y => A.rows 2 (y 0) (y 1) : Vec Ideal S32x256 .f32) := by
  funext y
  idx_vars y
  exact rows2_ref H y0 y1

theorem eq127 : val_main_v127 (F := Ideal) x0 x1 x2 = (fun y => A.u (y 0) (y 1) : Vec Ideal S32x512 .f32) := by
  funext y
  idx_vars y
  exact u_ref H y0 y1

theorem eq128 (x3 : Vec Ideal S3x512 .f32) (x4 : Vec Ideal S512 .f32) (x7 : Vec Ideal S32x2x512 .f32) (hw : ∀ i k, x3 (ix2 i k) = A.cw i k) (hb : ∀ k, x4 (ix1 k) = A.cb k)
    (hs : ∀ r i k, x7 (ix3 r i k) = A.s r i k) : val_main_v128 (F := Ideal) x0 x1 x2 x3 x4 x7 = (fun y => A.conv (y 0) (y 1) : Vec Ideal S32x512 .bf16) := by
  funext y
  idx_vars y
  exact conv_ref H y0 x3 x4 x7 hw hb hs y1

theorem eq129 : val_main_v129 (F := Ideal) x0 x1 x2 = (fun y => A.zs (y 0) (y 1) : Vec Ideal S32x512 .f32) := by
  funext y
  idx_vars y
  exact zs_ref H y0 y1

theorem eq130 : val_main_v130 (F := Ideal) x0 x1 x2 = (fun y => A.gate (y 0) (y 1) : Vec Ideal S32x128 .f32) := by
  funext y
  idx_vars y
  exact gate_ref H y0 y1

end

set_option maxHeartbeats 1600000 in
theorem run_value (m : (ℓ : Loc nD τ sig) → Buf (Elt Ideal) ℓ) (ρ : Dev nD → PrngReg) (A : Dev nD → SIns)
    (H : ∀ c : Dev nD, Reads (m ((c.tc : Thread nD τ).loc main_arg0)) (m ((c.tc : Thread nD τ).loc main_arg1)) (m ((c.tc : Thread nD τ).loc main_arg2)) (m ((c.tc : Thread nD τ).loc main_arg6)) (A c))
    (hw : ∀ (c : Dev nD) i k, ((m ((c.tc : Thread nD τ).loc main_arg3)) : Vec Ideal S3x512 .f32) (ix2 i k) = (A c).cw i k) (hb : ∀ (c : Dev nD) k, ((m ((c.tc : Thread nD τ).loc main_arg4)) : Vec Ideal S512 .f32) (ix1 k) = (A c).cb k)
    (hs : ∀ (c : Dev nD) r i k, ((m ((c.tc : Thread nD τ).loc main_arg7)) : Vec Ideal S32x2x512 .f32) (ix3 r i k) = (A c).s r i k) :
    θ_run defs (onTc (τ := τ) (main (F := Ideal))) ⟨m, fun _ => 0, ρ⟩ (fun r => ∀ c : Dev nD,
      r.2.mem ((c.tc : Thread nD τ).loc main_v73) = (fun y => (A c).rows 0 (y 0) (y 1) : Vec Ideal S32x256 .f32)
      ∧ r.2.mem ((c.tc : Thread nD τ).loc main_v75) = (fun y => (A c).rows 1 (y 0) (y 1) : Vec Ideal S32x256 .f32)
      ∧ r.2.mem ((c.tc : Thread nD τ).loc main_v77) = (fun y => (A c).rows 2 (y 0) (y 1) : Vec Ideal S32x256 .f32)
      ∧ r.2.mem ((c.tc : Thread nD τ).loc main_v127) = (fun y => (A c).u (y 0) (y 1) : Vec Ideal S32x512 .f32)
      ∧ r.2.mem ((c.tc : Thread nD τ).loc main_v128) = (fun y => (A c).conv (y 0) (y 1) : Vec Ideal S32x512 .bf16)
      ∧ r.2.mem ((c.tc : Thread nD τ).loc main_v129) = (fun y => (A c).zs (y 0) (y 1) : Vec Ideal S32x512 .f32)
      ∧ r.2.mem ((c.tc : Thread nD τ).loc main_v130) = (fun y => (A c).gate (y 0) (y 1) : Vec Ideal S32x128 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun r h c => ?_) (Value.run m ρ)
  obtain ⟨h73, h75, h77, h127, h128, h129, h130, hargs⟩ := h c
  exact ⟨h73.trans ((val_main_v73_eq m c).trans (eq73 (H c))),
    h75.trans ((val_main_v75_eq m c).trans (eq75 (H c))),
    h77.trans ((val_main_v77_eq m c).trans (eq77 (H c))),
    h127.trans ((val_main_v127_eq _ _ _).trans (eq127 (H c))),
    h128.trans ((val_main_v128_eq m c).trans (eq128 (H c) _ _ _ (hw c) (hb c) (hs c))),
    h129.trans ((val_main_v129_eq _ _ _).trans (eq129 (H c))),
    h130.trans ((val_main_v130_eq _ _ _).trans (eq130 (H c))), hargs⟩

end Cert.Reference4Ideal.Read

end
-- ==== Proof.SFinite.lean ====
/-
  What the precondition of the step says of the arrays: every entry of the input, of its gain and of the weights is a real number.
-/
module

public import proofs.«01_k».proof.Defs
public import proofs.«01_k».proof.Proof.Finite
public import proofs.«01_k».proof.Proof.SSpec

@[expose] public section

set_option maxRecDepth 16384

noncomputable section

namespace Cert.SampleProj

open Idealize.ShloMosaic Cert.Proj

section
variable [Cert.Pre_finite4.Facts]
open Cert.Pre_finite4 Cert.Pre_finite4.Facts

theorem finite_ins (x : FVec Ideal S32x1x1024 .f32) (g : FVec Ideal S1024 .f32) (w : FVec Ideal S1024x3864 .f32) (cw : FVec Ideal S3x512 .f32) (cb : FVec Ideal S512 .f32)
    (qg : FVec Ideal S64 .f32) (kg : FVec Ideal S3x64 .f32) (s : FVec Ideal S32x2x512 .f32) (h : fn (F := Ideal) x g w cw cb qg kg s = fun _ => 1#1) :
    (∀ i, Real' (x i)) ∧ (∀ i, Real' (g i)) ∧ (∀ i, Real' (w i)) := by
  have h0 := congrFun h (fun a => a.elim0)
  dsimp only [fn] at h0
  obtain ⟨h1, hw⟩ := Layer.and_one h0
  obtain ⟨hx, hg⟩ := Layer.and_one h1
  haveI : Subsingleton S_.Idx := ⟨fun a b => funext fun x => x.elim0⟩
  exact ⟨fun i => real_of (Layer.real_of_abs _ (Host.reduce_andi_all _ _ _ _ _ hx i)), fun i => real_of (Layer.real_of_abs _ (Host.reduce_andi_all _ _ _ _ _ hg i)),
    fun i => real_of (Layer.real_of_abs _ (Host.reduce_andi_all _ _ _ _ _ hw i))⟩
end

end Cert.SampleProj

end
-- ==== Proof.SAgree.lean ====
/-
  The claims of a step's projection: the frames of its printed program, of its idealization and of its reference, and their
  agreement where the input, its gain and the weights are finite.
-/
module

public import proofs.«01_k».proof.Defs
public import proofs.«01_k».proof.Proof.Gen.Kernel4.Frame
public import proofs.«01_k».proof.Proof.SFinal
public import proofs.«01_k».proof.Proof.SRefRun
public import proofs.«01_k».proof.Proof.SFinite

@[expose] public section

set_option maxRecDepth 16384

noncomputable section

namespace Cert.SampleProj

open Idealize.ShloMosaic Idealize.SL.Sem

/-- The step's projection as printed runs and changes none of its arguments. -/
theorem printed_frame : Cert.quiescent_Kernel4 (hKernel4 := Cert.Kernel4.Gen.facts) :=
  fun m g _ => Cert.Kernel4.Gen.frame m g

/-- So does its idealization, -/
theorem ideal_frame : Cert.quiescent_Kernel4Ideal (hKernel4Ideal := Cert.Kernel4Ideal.Gen.facts) :=
  fun m g _ => Cert.Kernel4Ideal.Gen.frame m g

/-- and its reference, which declares no counter. -/
theorem reference_frame : Cert.quiescent_Reference4Ideal (hReference4Ideal := Cert.Reference4Ideal.Gen.facts) :=
  fun m g _ => (θ_run Cert.Reference4Ideal.defs _ _).mono
    (fun r h => ⟨fun c => (h c).2.2.2.2.2.2.2, sem_eq_zero_of_no_sems (by decide) r.2⟩) (Cert.Reference4Ideal.Value.run m g)

section
variable [Cert.Pre_finite4.Facts]

theorem real_of_pre (m : (ℓ : Loc Cert.Kernel4Ideal.nD Cert.Kernel4Ideal.τ Cert.Kernel4Ideal.sig) → Buf (Elt Ideal) ℓ)
    (h : Cert.Pre_Kernel4Ideal_finite4 m) (c : Dev Cert.Kernel4Ideal.nD) : (Cert.Kernel4Ideal.Body.ins m c).Real := by
  obtain ⟨hx, hg, hw⟩ := finite_ins _ _ _ _ _ _ _ _ (h c)
  exact ⟨fun r k => hx _, fun k => hg _, fun k c => hw _⟩

/-- The step's projection and its reference agree where the input, its gain and the weights are finite. -/
theorem agree : Cert.algebraic_Kernel4Ideal_Reference4Ideal_pre_finite4 (hKernel4Ideal := Cert.Kernel4Ideal.Gen.facts)
    (hReference4Ideal := Cert.Reference4Ideal.Gen.facts) := by
  intro m g m' g' hpre hagree
  refine ⟨fun c => (fun y => (Cert.Kernel4Ideal.Body.ins m c).rows 0 (y 0) (y 1) : Vec Ideal Cert.Kernel4Ideal.S32x256 .f32),
    fun c => (fun y => (Cert.Kernel4Ideal.Body.ins m c).rows 1 (y 0) (y 1) : Vec Ideal Cert.Kernel4Ideal.S32x256 .f32),
    fun c => (fun y => (Cert.Kernel4Ideal.Body.ins m c).rows 2 (y 0) (y 1) : Vec Ideal Cert.Kernel4Ideal.S32x256 .f32),
    fun c => (fun y => (Cert.Kernel4Ideal.Body.ins m c).u (y 0) (y 1) : Vec Ideal Cert.Kernel4Ideal.S32x512 .f32),
    fun c => (fun y => (Cert.Kernel4Ideal.Body.ins m c).conv (y 0) (y 1) : Vec Ideal Cert.Kernel4Ideal.S32x512 .bf16),
    fun c => (fun y => (Cert.Kernel4Ideal.Body.ins m c).zs (y 0) (y 1) : Vec Ideal Cert.Kernel4Ideal.S32x512 .f32),
    fun c => (fun y => (Cert.Kernel4Ideal.Body.ins m c).gate (y 0) (y 1) : Vec Ideal Cert.Kernel4Ideal.S32x128 .f32),
    Cert.Kernel4Ideal.Body.run_value m g (real_of_pre m hpre), Cert.Reference4Ideal.Read.run_value m' g' (Cert.Kernel4Ideal.Body.ins m) (fun c => ?_)
      (fun c i k => congrFun (hagree c).2.2.2.1 _) (fun c k => congrFun (hagree c).2.2.2.2.1 _) (fun c r i k => congrFun (hagree c).2.2.2.2.2.2.2 _)⟩
  obtain ⟨h0, h1, h2, -, -, -, h6, -⟩ := hagree c
  refine ⟨fun r k => ?_, fun k => congrFun h1 _, fun k c => congrFun h2 _, fun i d => congrFun h6 _⟩
  exact congrFun h0 _
end

end Cert.SampleProj

end
-- ==== Proof.lean ====
/-
  The assembly: the generated facts of each program, then the claims one by one.
-/
module

public import proofs.«01_k».proof.Proof.Gen.Pre_finite2
public import proofs.«01_k».proof.Proof.Gen.Pre_finite4
public import proofs.«01_k».proof.Defs
public import proofs.«01_k».proof.Proof.Claims
public import proofs.«01_k».proof.Proof.Gen.Pre_finite
public import proofs.«01_k».proof.Proof.Agree
public import proofs.«01_k».proof.Proof.QAgree
public import proofs.«01_k».proof.Proof.OAgree
public import proofs.«01_k».proof.Proof.SAgree
public import Idealize.ShloMosaic.Adequacy
public import Idealize.ShloMosaic.Init

@[expose] public section

noncomputable section

namespace Cert.Proof

theorem claim : Cert.Claim := by
  refine ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts,
    Cert.Kernel4Ideal.Gen.facts, Cert.Reference4Ideal.Gen.facts, Cert.Pre_finite.Gen.facts, Cert.Pre_finite2.Gen.facts, Cert.Pre_finite4.Gen.facts, ?_⟩
  letI := Cert.Pre_finite.Gen.facts
  letI := Cert.Pre_finite2.Gen.facts
  letI := Cert.Pre_finite4.Gen.facts
  exact ⟨Cert.Layer.printed_frame, Cert.Layer.ideal_frame, fun m g _ => Cert.Layer.ideal_frame m g trivial, Cert.Layer.reference_frame,
    fun m g _ => Cert.Layer.reference_frame m g trivial, Cert.Proj.printed_frame, Cert.Proj.ideal_frame, fun m g _ => Cert.Proj.ideal_frame m g trivial,
    Cert.Proj.reference_frame, fun m g _ => Cert.Proj.reference_frame m g trivial, Cert.OutProj.printed_frame, Cert.OutProj.ideal_frame,
    Cert.OutProj.reference_frame, Cert.SampleProj.printed_frame, Cert.SampleProj.ideal_frame, fun m g _ => Cert.SampleProj.ideal_frame m g trivial,
    Cert.SampleProj.reference_frame, fun m g _ => Cert.SampleProj.reference_frame m g trivial, Cert.Layer.mask_named, Cert.Layer.agree, trivial,
    Cert.Proj.agree, trivial, Cert.OutProj.agree, trivial, Cert.SampleProj.agree⟩

end Cert.Proof

end
